-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstRefIdeal (m : (ℓ : Loc Cert.FirstRefIdeal.nD Cert.FirstRefIdeal.τ Cert.FirstRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_InprojLast (m : (ℓ : Loc Cert.InprojLast.nD Cert.InprojLast.τ Cert.InprojLast.sig) → Buf (Elt Bits) ℓ) : Prop :=
  True

def Pre_InprojLastIdeal (m : (ℓ : Loc Cert.InprojLastIdeal.nD Cert.InprojLastIdeal.τ Cert.InprojLastIdeal.sig) → Buf (Elt Ideal) ℓ) : Prop :=
  True

def Pre_InprojLastRefIdeal (m : (ℓ : Loc Cert.InprojLastRefIdeal.nD Cert.InprojLastRefIdeal.τ Cert.InprojLastRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14)
      ∧ r.2.mem ((c.tc : Thread Cert.Merge.nD Cert.Merge.τ).loc Cert.Merge.main_arg15) = m ((c.tc : Thread Cert.Merge.nD Cert.Merge.τ).loc Cert.Merge.main_arg15)
      ∧ r.2.mem ((c.tc : Thread Cert.Merge.nD Cert.Merge.τ).loc Cert.Merge.main_arg16) = m ((c.tc : Thread Cert.Merge.nD Cert.Merge.τ).loc Cert.Merge.main_arg16))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
      ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
      ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14)
      ∧ r.2.mem ((c.tc : Thread Cert.MergeRefIdeal.nD Cert.MergeRefIdeal.τ).loc Cert.MergeRefIdeal.main_arg15) = m ((c.tc : Thread Cert.MergeRefIdeal.nD Cert.MergeRefIdeal.τ).loc Cert.MergeRefIdeal.main_arg15)
      ∧ r.2.mem ((c.tc : Thread Cert.MergeRefIdeal.nD Cert.MergeRefIdeal.τ).loc Cert.MergeRefIdeal.main_arg16) = m ((c.tc : Thread Cert.MergeRefIdeal.nD Cert.MergeRefIdeal.τ).loc Cert.MergeRefIdeal.main_arg16))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4)
      ∧ r.2.mem ((c.tc : Thread Cert.First.nD Cert.First.τ).loc Cert.First.main_arg5) = m ((c.tc : Thread Cert.First.nD Cert.First.τ).loc Cert.First.main_arg5)
      ∧ r.2.mem ((c.tc : Thread Cert.First.nD Cert.First.τ).loc Cert.First.main_arg6) = m ((c.tc : Thread Cert.First.nD Cert.First.τ).loc Cert.First.main_arg6)
      ∧ r.2.mem ((c.tc : Thread Cert.First.nD Cert.First.τ).loc Cert.First.main_arg7) = m ((c.tc : Thread Cert.First.nD Cert.First.τ).loc Cert.First.main_arg7)
      ∧ r.2.mem ((c.tc : Thread Cert.First.nD Cert.First.τ).loc Cert.First.main_arg8) = m ((c.tc : Thread Cert.First.nD Cert.First.τ).loc Cert.First.main_arg8)
      ∧ r.2.mem ((c.tc : Thread Cert.First.nD Cert.First.τ).loc Cert.First.main_arg9) = m ((c.tc : Thread Cert.First.nD Cert.First.τ).loc Cert.First.main_arg9)
      ∧ r.2.mem ((c.tc : Thread Cert.First.nD Cert.First.τ).loc Cert.First.main_arg10) = m ((c.tc : Thread Cert.First.nD Cert.First.τ).loc Cert.First.main_arg10)
      ∧ r.2.mem ((c.tc : Thread Cert.First.nD Cert.First.τ).loc Cert.First.main_arg11) = m ((c.tc : Thread Cert.First.nD Cert.First.τ).loc Cert.First.main_arg11)
      ∧ r.2.mem ((c.tc : Thread Cert.First.nD Cert.First.τ).loc Cert.First.main_arg12) = m ((c.tc : Thread Cert.First.nD Cert.First.τ).loc Cert.First.main_arg12)
      ∧ r.2.mem ((c.tc : Thread Cert.First.nD Cert.First.τ).loc Cert.First.main_arg13) = m ((c.tc : Thread Cert.First.nD Cert.First.τ).loc Cert.First.main_arg13)
      ∧ r.2.mem ((c.tc : Thread Cert.First.nD Cert.First.τ).loc Cert.First.main_arg14) = m ((c.tc : Thread Cert.First.nD Cert.First.τ).loc Cert.First.main_arg14)
      ∧ r.2.mem ((c.tc : Thread Cert.First.nD Cert.First.τ).loc Cert.First.main_arg15) = m ((c.tc : Thread Cert.First.nD Cert.First.τ).loc Cert.First.main_arg15)
      ∧ r.2.mem ((c.tc : Thread Cert.First.nD Cert.First.τ).loc Cert.First.main_arg16) = m ((c.tc : Thread Cert.First.nD Cert.First.τ).loc Cert.First.main_arg16)
      ∧ r.2.mem ((c.tc : Thread Cert.First.nD Cert.First.τ).loc Cert.First.main_arg17) = m ((c.tc : Thread Cert.First.nD Cert.First.τ).loc Cert.First.main_arg17)
      ∧ r.2.mem ((c.tc : Thread Cert.First.nD Cert.First.τ).loc Cert.First.main_arg18) = m ((c.tc : Thread Cert.First.nD Cert.First.τ).loc Cert.First.main_arg18)
      ∧ r.2.mem ((c.tc : Thread Cert.First.nD Cert.First.τ).loc Cert.First.main_arg19) = m ((c.tc : Thread Cert.First.nD Cert.First.τ).loc Cert.First.main_arg19)
      ∧ r.2.mem ((c.tc : Thread Cert.First.nD Cert.First.τ).loc Cert.First.main_arg20) = m ((c.tc : Thread Cert.First.nD Cert.First.τ).loc Cert.First.main_arg20)
      ∧ r.2.mem ((c.tc : Thread Cert.First.nD Cert.First.τ).loc Cert.First.main_arg21) = m ((c.tc : Thread Cert.First.nD Cert.First.τ).loc Cert.First.main_arg21)
      ∧ r.2.mem ((c.tc : Thread Cert.First.nD Cert.First.τ).loc Cert.First.main_arg22) = m ((c.tc : Thread Cert.First.nD Cert.First.τ).loc Cert.First.main_arg22)
      ∧ r.2.mem ((c.tc : Thread Cert.First.nD Cert.First.τ).loc Cert.First.main_arg23) = m ((c.tc : Thread Cert.First.nD Cert.First.τ).loc Cert.First.main_arg23)
      ∧ r.2.mem ((c.tc : Thread Cert.First.nD Cert.First.τ).loc Cert.First.main_arg24) = m ((c.tc : Thread Cert.First.nD Cert.First.τ).loc Cert.First.main_arg24))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
      ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
      ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7)
      ∧ r.2.mem ((c.tc : Thread Cert.FirstIdeal.nD Cert.FirstIdeal.τ).loc Cert.FirstIdeal.main_arg8) = m ((c.tc : Thread Cert.FirstIdeal.nD Cert.FirstIdeal.τ).loc Cert.FirstIdeal.main_arg8)
      ∧ r.2.mem ((c.tc : Thread Cert.FirstIdeal.nD Cert.FirstIdeal.τ).loc Cert.FirstIdeal.main_arg9) = m ((c.tc : Thread Cert.FirstIdeal.nD Cert.FirstIdeal.τ).loc Cert.FirstIdeal.main_arg9)
      ∧ r.2.mem ((c.tc : Thread Cert.FirstIdeal.nD Cert.FirstIdeal.τ).loc Cert.FirstIdeal.main_arg10) = m ((c.tc : Thread Cert.FirstIdeal.nD Cert.FirstIdeal.τ).loc Cert.FirstIdeal.main_arg10)
      ∧ r.2.mem ((c.tc : Thread Cert.FirstIdeal.nD Cert.FirstIdeal.τ).loc Cert.FirstIdeal.main_arg11) = m ((c.tc : Thread Cert.FirstIdeal.nD Cert.FirstIdeal.τ).loc Cert.FirstIdeal.main_arg11)
      ∧ r.2.mem ((c.tc : Thread Cert.FirstIdeal.nD Cert.FirstIdeal.τ).loc Cert.FirstIdeal.main_arg12) = m ((c.tc : Thread Cert.FirstIdeal.nD Cert.FirstIdeal.τ).loc Cert.FirstIdeal.main_arg12)
      ∧ r.2.mem ((c.tc : Thread Cert.FirstIdeal.nD Cert.FirstIdeal.τ).loc Cert.FirstIdeal.main_arg13) = m ((c.tc : Thread Cert.FirstIdeal.nD Cert.FirstIdeal.τ).loc Cert.FirstIdeal.main_arg13)
      ∧ r.2.mem ((c.tc : Thread Cert.FirstIdeal.nD Cert.FirstIdeal.τ).loc Cert.FirstIdeal.main_arg14) = m ((c.tc : Thread Cert.FirstIdeal.nD Cert.FirstIdeal.τ).loc Cert.FirstIdeal.main_arg14)
      ∧ r.2.mem ((c.tc : Thread Cert.FirstIdeal.nD Cert.FirstIdeal.τ).loc Cert.FirstIdeal.main_arg15) = m ((c.tc : Thread Cert.FirstIdeal.nD Cert.FirstIdeal.τ).loc Cert.FirstIdeal.main_arg15)
      ∧ r.2.mem ((c.tc : Thread Cert.FirstIdeal.nD Cert.FirstIdeal.τ).loc Cert.FirstIdeal.main_arg16) = m ((c.tc : Thread Cert.FirstIdeal.nD Cert.FirstIdeal.τ).loc Cert.FirstIdeal.main_arg16)
      ∧ r.2.mem ((c.tc : Thread Cert.FirstIdeal.nD Cert.FirstIdeal.τ).loc Cert.FirstIdeal.main_arg17) = m ((c.tc : Thread Cert.FirstIdeal.nD Cert.FirstIdeal.τ).loc Cert.FirstIdeal.main_arg17)
      ∧ r.2.mem ((c.tc : Thread Cert.FirstIdeal.nD Cert.FirstIdeal.τ).loc Cert.FirstIdeal.main_arg18) = m ((c.tc : Thread Cert.FirstIdeal.nD Cert.FirstIdeal.τ).loc Cert.FirstIdeal.main_arg18)
      ∧ r.2.mem ((c.tc : Thread Cert.FirstIdeal.nD Cert.FirstIdeal.τ).loc Cert.FirstIdeal.main_arg19) = m ((c.tc : Thread Cert.FirstIdeal.nD Cert.FirstIdeal.τ).loc Cert.FirstIdeal.main_arg19)
      ∧ r.2.mem ((c.tc : Thread Cert.FirstIdeal.nD Cert.FirstIdeal.τ).loc Cert.FirstIdeal.main_arg20) = m ((c.tc : Thread Cert.FirstIdeal.nD Cert.FirstIdeal.τ).loc Cert.FirstIdeal.main_arg20)
      ∧ r.2.mem ((c.tc : Thread Cert.FirstIdeal.nD Cert.FirstIdeal.τ).loc Cert.FirstIdeal.main_arg21) = m ((c.tc : Thread Cert.FirstIdeal.nD Cert.FirstIdeal.τ).loc Cert.FirstIdeal.main_arg21)
      ∧ r.2.mem ((c.tc : Thread Cert.FirstIdeal.nD Cert.FirstIdeal.τ).loc Cert.FirstIdeal.main_arg22) = m ((c.tc : Thread Cert.FirstIdeal.nD Cert.FirstIdeal.τ).loc Cert.FirstIdeal.main_arg22)
      ∧ r.2.mem ((c.tc : Thread Cert.FirstIdeal.nD Cert.FirstIdeal.τ).loc Cert.FirstIdeal.main_arg23) = m ((c.tc : Thread Cert.FirstIdeal.nD Cert.FirstIdeal.τ).loc Cert.FirstIdeal.main_arg23)
      ∧ r.2.mem ((c.tc : Thread Cert.FirstIdeal.nD Cert.FirstIdeal.τ).loc Cert.FirstIdeal.main_arg24) = m ((c.tc : Thread Cert.FirstIdeal.nD Cert.FirstIdeal.τ).loc Cert.FirstIdeal.main_arg24))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2)
      ∧ r.2.mem ((c.tc : Thread Cert.FirstRefIdeal.nD Cert.FirstRefIdeal.τ).loc Cert.FirstRefIdeal.main_arg3) = m ((c.tc : Thread Cert.FirstRefIdeal.nD Cert.FirstRefIdeal.τ).loc Cert.FirstRefIdeal.main_arg3)
      ∧ r.2.mem ((c.tc : Thread Cert.FirstRefIdeal.nD Cert.FirstRefIdeal.τ).loc Cert.FirstRefIdeal.main_arg4) = m ((c.tc : Thread Cert.FirstRefIdeal.nD Cert.FirstRefIdeal.τ).loc Cert.FirstRefIdeal.main_arg4)
      ∧ r.2.mem ((c.tc : Thread Cert.FirstRefIdeal.nD Cert.FirstRefIdeal.τ).loc Cert.FirstRefIdeal.main_arg5) = m ((c.tc : Thread Cert.FirstRefIdeal.nD Cert.FirstRefIdeal.τ).loc Cert.FirstRefIdeal.main_arg5)
      ∧ r.2.mem ((c.tc : Thread Cert.FirstRefIdeal.nD Cert.FirstRefIdeal.τ).loc Cert.FirstRefIdeal.main_arg6) = m ((c.tc : Thread Cert.FirstRefIdeal.nD Cert.FirstRefIdeal.τ).loc Cert.FirstRefIdeal.main_arg6)
      ∧ r.2.mem ((c.tc : Thread Cert.FirstRefIdeal.nD Cert.FirstRefIdeal.τ).loc Cert.FirstRefIdeal.main_arg7) = m ((c.tc : Thread Cert.FirstRefIdeal.nD Cert.FirstRefIdeal.τ).loc Cert.FirstRefIdeal.main_arg7)
      ∧ r.2.mem ((c.tc : Thread Cert.FirstRefIdeal.nD Cert.FirstRefIdeal.τ).loc Cert.FirstRefIdeal.main_arg8) = m ((c.tc : Thread Cert.FirstRefIdeal.nD Cert.FirstRefIdeal.τ).loc Cert.FirstRefIdeal.main_arg8)
      ∧ r.2.mem ((c.tc : Thread Cert.FirstRefIdeal.nD Cert.FirstRefIdeal.τ).loc Cert.FirstRefIdeal.main_arg9) = m ((c.tc : Thread Cert.FirstRefIdeal.nD Cert.FirstRefIdeal.τ).loc Cert.FirstRefIdeal.main_arg9)
      ∧ r.2.mem ((c.tc : Thread Cert.FirstRefIdeal.nD Cert.FirstRefIdeal.τ).loc Cert.FirstRefIdeal.main_arg10) = m ((c.tc : Thread Cert.FirstRefIdeal.nD Cert.FirstRefIdeal.τ).loc Cert.FirstRefIdeal.main_arg10)
      ∧ r.2.mem ((c.tc : Thread Cert.FirstRefIdeal.nD Cert.FirstRefIdeal.τ).loc Cert.FirstRefIdeal.main_arg11) = m ((c.tc : Thread Cert.FirstRefIdeal.nD Cert.FirstRefIdeal.τ).loc Cert.FirstRefIdeal.main_arg11)
      ∧ r.2.mem ((c.tc : Thread Cert.FirstRefIdeal.nD Cert.FirstRefIdeal.τ).loc Cert.FirstRefIdeal.main_arg12) = m ((c.tc : Thread Cert.FirstRefIdeal.nD Cert.FirstRefIdeal.τ).loc Cert.FirstRefIdeal.main_arg12)
      ∧ r.2.mem ((c.tc : Thread Cert.FirstRefIdeal.nD Cert.FirstRefIdeal.τ).loc Cert.FirstRefIdeal.main_arg13) = m ((c.tc : Thread Cert.FirstRefIdeal.nD Cert.FirstRefIdeal.τ).loc Cert.FirstRefIdeal.main_arg13)
      ∧ r.2.mem ((c.tc : Thread Cert.FirstRefIdeal.nD Cert.FirstRefIdeal.τ).loc Cert.FirstRefIdeal.main_arg14) = m ((c.tc : Thread Cert.FirstRefIdeal.nD Cert.FirstRefIdeal.τ).loc Cert.FirstRefIdeal.main_arg14)
      ∧ r.2.mem ((c.tc : Thread Cert.FirstRefIdeal.nD Cert.FirstRefIdeal.τ).loc Cert.FirstRefIdeal.main_arg15) = m ((c.tc : Thread Cert.FirstRefIdeal.nD Cert.FirstRefIdeal.τ).loc Cert.FirstRefIdeal.main_arg15)
      ∧ r.2.mem ((c.tc : Thread Cert.FirstRefIdeal.nD Cert.FirstRefIdeal.τ).loc Cert.FirstRefIdeal.main_arg16) = m ((c.tc : Thread Cert.FirstRefIdeal.nD Cert.FirstRefIdeal.τ).loc Cert.FirstRefIdeal.main_arg16)
      ∧ r.2.mem ((c.tc : Thread Cert.FirstRefIdeal.nD Cert.FirstRefIdeal.τ).loc Cert.FirstRefIdeal.main_arg17) = m ((c.tc : Thread Cert.FirstRefIdeal.nD Cert.FirstRefIdeal.τ).loc Cert.FirstRefIdeal.main_arg17)
      ∧ r.2.mem ((c.tc : Thread Cert.FirstRefIdeal.nD Cert.FirstRefIdeal.τ).loc Cert.FirstRefIdeal.main_arg18) = m ((c.tc : Thread Cert.FirstRefIdeal.nD Cert.FirstRefIdeal.τ).loc Cert.FirstRefIdeal.main_arg18)
      ∧ r.2.mem ((c.tc : Thread Cert.FirstRefIdeal.nD Cert.FirstRefIdeal.τ).loc Cert.FirstRefIdeal.main_arg19) = m ((c.tc : Thread Cert.FirstRefIdeal.nD Cert.FirstRefIdeal.τ).loc Cert.FirstRefIdeal.main_arg19)
      ∧ r.2.mem ((c.tc : Thread Cert.FirstRefIdeal.nD Cert.FirstRefIdeal.τ).loc Cert.FirstRefIdeal.main_arg20) = m ((c.tc : Thread Cert.FirstRefIdeal.nD Cert.FirstRefIdeal.τ).loc Cert.FirstRefIdeal.main_arg20)
      ∧ r.2.mem ((c.tc : Thread Cert.FirstRefIdeal.nD Cert.FirstRefIdeal.τ).loc Cert.FirstRefIdeal.main_arg21) = m ((c.tc : Thread Cert.FirstRefIdeal.nD Cert.FirstRefIdeal.τ).loc Cert.FirstRefIdeal.main_arg21)
      ∧ r.2.mem ((c.tc : Thread Cert.FirstRefIdeal.nD Cert.FirstRefIdeal.τ).loc Cert.FirstRefIdeal.main_arg22) = m ((c.tc : Thread Cert.FirstRefIdeal.nD Cert.FirstRefIdeal.τ).loc Cert.FirstRefIdeal.main_arg22)
      ∧ r.2.mem ((c.tc : Thread Cert.FirstRefIdeal.nD Cert.FirstRefIdeal.τ).loc Cert.FirstRefIdeal.main_arg23) = m ((c.tc : Thread Cert.FirstRefIdeal.nD Cert.FirstRefIdeal.τ).loc Cert.FirstRefIdeal.main_arg23)
      ∧ r.2.mem ((c.tc : Thread Cert.FirstRefIdeal.nD Cert.FirstRefIdeal.τ).loc Cert.FirstRefIdeal.main_arg24) = m ((c.tc : Thread Cert.FirstRefIdeal.nD Cert.FirstRefIdeal.τ).loc Cert.FirstRefIdeal.main_arg24))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6)
      ∧ r.2.mem ((c.tc : Thread Cert.Inproj.nD Cert.Inproj.τ).loc Cert.Inproj.main_arg7) = m ((c.tc : Thread Cert.Inproj.nD Cert.Inproj.τ).loc Cert.Inproj.main_arg7)
      ∧ r.2.mem ((c.tc : Thread Cert.Inproj.nD Cert.Inproj.τ).loc Cert.Inproj.main_arg8) = m ((c.tc : Thread Cert.Inproj.nD Cert.Inproj.τ).loc Cert.Inproj.main_arg8)
      ∧ r.2.mem ((c.tc : Thread Cert.Inproj.nD Cert.Inproj.τ).loc Cert.Inproj.main_arg9) = m ((c.tc : Thread Cert.Inproj.nD Cert.Inproj.τ).loc Cert.Inproj.main_arg9)
      ∧ r.2.mem ((c.tc : Thread Cert.Inproj.nD Cert.Inproj.τ).loc Cert.Inproj.main_arg10) = m ((c.tc : Thread Cert.Inproj.nD Cert.Inproj.τ).loc Cert.Inproj.main_arg10)
      ∧ r.2.mem ((c.tc : Thread Cert.Inproj.nD Cert.Inproj.τ).loc Cert.Inproj.main_arg11) = m ((c.tc : Thread Cert.Inproj.nD Cert.Inproj.τ).loc Cert.Inproj.main_arg11)
      ∧ r.2.mem ((c.tc : Thread Cert.Inproj.nD Cert.Inproj.τ).loc Cert.Inproj.main_arg12) = m ((c.tc : Thread Cert.Inproj.nD Cert.Inproj.τ).loc Cert.Inproj.main_arg12)
      ∧ r.2.mem ((c.tc : Thread Cert.Inproj.nD Cert.Inproj.τ).loc Cert.Inproj.main_arg13) = m ((c.tc : Thread Cert.Inproj.nD Cert.Inproj.τ).loc Cert.Inproj.main_arg13))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
      ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
      ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
      ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
      ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
      ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11)
      ∧ r.2.mem ((c.tc : Thread Cert.InprojIdeal.nD Cert.InprojIdeal.τ).loc Cert.InprojIdeal.main_arg12) = m ((c.tc : Thread Cert.InprojIdeal.nD Cert.InprojIdeal.τ).loc Cert.InprojIdeal.main_arg12)
      ∧ r.2.mem ((c.tc : Thread Cert.InprojIdeal.nD Cert.InprojIdeal.τ).loc Cert.InprojIdeal.main_arg13) = m ((c.tc : Thread Cert.InprojIdeal.nD Cert.InprojIdeal.τ).loc Cert.InprojIdeal.main_arg13))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6)
      ∧ r.2.mem ((c.tc : Thread Cert.InprojRefIdeal.nD Cert.InprojRefIdeal.τ).loc Cert.InprojRefIdeal.main_arg7) = m ((c.tc : Thread Cert.InprojRefIdeal.nD Cert.InprojRefIdeal.τ).loc Cert.InprojRefIdeal.main_arg7)
      ∧ r.2.mem ((c.tc : Thread Cert.InprojRefIdeal.nD Cert.InprojRefIdeal.τ).loc Cert.InprojRefIdeal.main_arg8) = m ((c.tc : Thread Cert.InprojRefIdeal.nD Cert.InprojRefIdeal.τ).loc Cert.InprojRefIdeal.main_arg8)
      ∧ r.2.mem ((c.tc : Thread Cert.InprojRefIdeal.nD Cert.InprojRefIdeal.τ).loc Cert.InprojRefIdeal.main_arg9) = m ((c.tc : Thread Cert.InprojRefIdeal.nD Cert.InprojRefIdeal.τ).loc Cert.InprojRefIdeal.main_arg9)
      ∧ r.2.mem ((c.tc : Thread Cert.InprojRefIdeal.nD Cert.InprojRefIdeal.τ).loc Cert.InprojRefIdeal.main_arg10) = m ((c.tc : Thread Cert.InprojRefIdeal.nD Cert.InprojRefIdeal.τ).loc Cert.InprojRefIdeal.main_arg10)
      ∧ r.2.mem ((c.tc : Thread Cert.InprojRefIdeal.nD Cert.InprojRefIdeal.τ).loc Cert.InprojRefIdeal.main_arg11) = m ((c.tc : Thread Cert.InprojRefIdeal.nD Cert.InprojRefIdeal.τ).loc Cert.InprojRefIdeal.main_arg11)
      ∧ r.2.mem ((c.tc : Thread Cert.InprojRefIdeal.nD Cert.InprojRefIdeal.τ).loc Cert.InprojRefIdeal.main_arg12) = m ((c.tc : Thread Cert.InprojRefIdeal.nD Cert.InprojRefIdeal.τ).loc Cert.InprojRefIdeal.main_arg12)
      ∧ r.2.mem ((c.tc : Thread Cert.InprojRefIdeal.nD Cert.InprojRefIdeal.τ).loc Cert.InprojRefIdeal.main_arg13) = m ((c.tc : Thread Cert.InprojRefIdeal.nD Cert.InprojRefIdeal.τ).loc Cert.InprojRefIdeal.main_arg13))
      ∧ r.2.sem = fun _ => 0)

def quiescent_InprojLast [hInprojLast : Cert.InprojLast.Facts] : Prop :=
  ∀ (m : (ℓ : Loc Cert.InprojLast.nD Cert.InprojLast.τ Cert.InprojLast.sig) → Buf (Elt Bits) ℓ) (g : Dev Cert.InprojLast.nD → PrngReg), Pre_InprojLast m →
    θ_run (Cert.InprojLast.defs (F := Bits)) (onTc (τ := Cert.InprojLast.τ) (Cert.InprojLast.main (F := Bits))) ⟨m, fun _ => 0, g⟩ (fun r => (∀ c : Dev Cert.InprojLast.nD,
      r.2.mem ((c.tc : Thread Cert.InprojLast.nD Cert.InprojLast.τ).loc Cert.InprojLast.main_arg0) = m ((c.tc : Thread Cert.InprojLast.nD Cert.InprojLast.τ).loc Cert.InprojLast.main_arg0)
      ∧ r.2.mem ((c.tc : Thread Cert.InprojLast.nD Cert.InprojLast.τ).loc Cert.InprojLast.main_arg1) = m ((c.tc : Thread Cert.InprojLast.nD Cert.InprojLast.τ).loc Cert.InprojLast.main_arg1)
      ∧ r.2.mem ((c.tc : Thread Cert.InprojLast.nD Cert.InprojLast.τ).loc Cert.InprojLast.main_arg2) = m ((c.tc : Thread Cert.InprojLast.nD Cert.InprojLast.τ).loc Cert.InprojLast.main_arg2)
      ∧ r.2.mem ((c.tc : Thread Cert.InprojLast.nD Cert.InprojLast.τ).loc Cert.InprojLast.main_arg3) = m ((c.tc : Thread Cert.InprojLast.nD Cert.InprojLast.τ).loc Cert.InprojLast.main_arg3)
      ∧ r.2.mem ((c.tc : Thread Cert.InprojLast.nD Cert.InprojLast.τ).loc Cert.InprojLast.main_arg4) = m ((c.tc : Thread Cert.InprojLast.nD Cert.InprojLast.τ).loc Cert.InprojLast.main_arg4)
      ∧ r.2.mem ((c.tc : Thread Cert.InprojLast.nD Cert.InprojLast.τ).loc Cert.InprojLast.main_arg5) = m ((c.tc : Thread Cert.InprojLast.nD Cert.InprojLast.τ).loc Cert.InprojLast.main_arg5)
      ∧ r.2.mem ((c.tc : Thread Cert.InprojLast.nD Cert.InprojLast.τ).loc Cert.InprojLast.main_arg6) = m ((c.tc : Thread Cert.InprojLast.nD Cert.InprojLast.τ).loc Cert.InprojLast.main_arg6)
      ∧ r.2.mem ((c.tc : Thread Cert.InprojLast.nD Cert.InprojLast.τ).loc Cert.InprojLast.main_arg7) = m ((c.tc : Thread Cert.InprojLast.nD Cert.InprojLast.τ).loc Cert.InprojLast.main_arg7)
      ∧ r.2.mem ((c.tc : Thread Cert.InprojLast.nD Cert.InprojLast.τ).loc Cert.InprojLast.main_arg8) = m ((c.tc : Thread Cert.InprojLast.nD Cert.InprojLast.τ).loc Cert.InprojLast.main_arg8)
      ∧ r.2.mem ((c.tc : Thread Cert.InprojLast.nD Cert.InprojLast.τ).loc Cert.InprojLast.main_arg9) = m ((c.tc : Thread Cert.InprojLast.nD Cert.InprojLast.τ).loc Cert.InprojLast.main_arg9)
      ∧ r.2.mem ((c.tc : Thread Cert.InprojLast.nD Cert.InprojLast.τ).loc Cert.InprojLast.main_arg10) = m ((c.tc : Thread Cert.InprojLast.nD Cert.InprojLast.τ).loc Cert.InprojLast.main_arg10)
      ∧ r.2.mem ((c.tc : Thread Cert.InprojLast.nD Cert.InprojLast.τ).loc Cert.InprojLast.main_arg11) = m ((c.tc : Thread Cert.InprojLast.nD Cert.InprojLast.τ).loc Cert.InprojLast.main_arg11)
      ∧ r.2.mem ((c.tc : Thread Cert.InprojLast.nD Cert.InprojLast.τ).loc Cert.InprojLast.main_arg12) = m ((c.tc : Thread Cert.InprojLast.nD Cert.InprojLast.τ).loc Cert.InprojLast.main_arg12)
      ∧ r.2.mem ((c.tc : Thread Cert.InprojLast.nD Cert.InprojLast.τ).loc Cert.InprojLast.main_arg13) = m ((c.tc : Thread Cert.InprojLast.nD Cert.InprojLast.τ).loc Cert.InprojLast.main_arg13))
      ∧ r.2.sem = fun _ => 0)

def quiescent_InprojLastIdeal [hInprojLastIdeal : Cert.InprojLastIdeal.Facts] : Prop :=
  ∀ (m : (ℓ : Loc Cert.InprojLastIdeal.nD Cert.InprojLastIdeal.τ Cert.InprojLastIdeal.sig) → Buf (Elt Ideal) ℓ) (g : Dev Cert.InprojLastIdeal.nD → PrngReg), Pre_InprojLastIdeal m →
    θ_run (Cert.InprojLastIdeal.defs (F := Ideal)) (onTc (τ := Cert.InprojLastIdeal.τ) (Cert.InprojLastIdeal.main (F := Ideal))) ⟨m, fun _ => 0, g⟩ (fun r => (∀ c : Dev Cert.InprojLastIdeal.nD,
      r.2.mem ((c.tc : Thread Cert.InprojLastIdeal.nD Cert.InprojLastIdeal.τ).loc Cert.InprojLastIdeal.main_arg0) = m ((c.tc : Thread Cert.InprojLastIdeal.nD Cert.InprojLastIdeal.τ).loc Cert.InprojLastIdeal.main_arg0)
      ∧ r.2.mem ((c.tc : Thread Cert.InprojLastIdeal.nD Cert.InprojLastIdeal.τ).loc Cert.InprojLastIdeal.main_arg1) = m ((c.tc : Thread Cert.InprojLastIdeal.nD Cert.InprojLastIdeal.τ).loc Cert.InprojLastIdeal.main_arg1)
      ∧ r.2.mem ((c.tc : Thread Cert.InprojLastIdeal.nD Cert.InprojLastIdeal.τ).loc Cert.InprojLastIdeal.main_arg2) = m ((c.tc : Thread Cert.InprojLastIdeal.nD Cert.InprojLastIdeal.τ).loc Cert.InprojLastIdeal.main_arg2)
      ∧ r.2.mem ((c.tc : Thread Cert.InprojLastIdeal.nD Cert.InprojLastIdeal.τ).loc Cert.InprojLastIdeal.main_arg3) = m ((c.tc : Thread Cert.InprojLastIdeal.nD Cert.InprojLastIdeal.τ).loc Cert.InprojLastIdeal.main_arg3)
      ∧ r.2.mem ((c.tc : Thread Cert.InprojLastIdeal.nD Cert.InprojLastIdeal.τ).loc Cert.InprojLastIdeal.main_arg4) = m ((c.tc : Thread Cert.InprojLastIdeal.nD Cert.InprojLastIdeal.τ).loc Cert.InprojLastIdeal.main_arg4)
      ∧ r.2.mem ((c.tc : Thread Cert.InprojLastIdeal.nD Cert.InprojLastIdeal.τ).loc Cert.InprojLastIdeal.main_arg5) = m ((c.tc : Thread Cert.InprojLastIdeal.nD Cert.InprojLastIdeal.τ).loc Cert.InprojLastIdeal.main_arg5)
      ∧ r.2.mem ((c.tc : Thread Cert.InprojLastIdeal.nD Cert.InprojLastIdeal.τ).loc Cert.InprojLastIdeal.main_arg6) = m ((c.tc : Thread Cert.InprojLastIdeal.nD Cert.InprojLastIdeal.τ).loc Cert.InprojLastIdeal.main_arg6)
      ∧ r.2.mem ((c.tc : Thread Cert.InprojLastIdeal.nD Cert.InprojLastIdeal.τ).loc Cert.InprojLastIdeal.main_arg7) = m ((c.tc : Thread Cert.InprojLastIdeal.nD Cert.InprojLastIdeal.τ).loc Cert.InprojLastIdeal.main_arg7)
      ∧ r.2.mem ((c.tc : Thread Cert.InprojLastIdeal.nD Cert.InprojLastIdeal.τ).loc Cert.InprojLastIdeal.main_arg8) = m ((c.tc : Thread Cert.InprojLastIdeal.nD Cert.InprojLastIdeal.τ).loc Cert.InprojLastIdeal.main_arg8)
      ∧ r.2.mem ((c.tc : Thread Cert.InprojLastIdeal.nD Cert.InprojLastIdeal.τ).loc Cert.InprojLastIdeal.main_arg9) = m ((c.tc : Thread Cert.InprojLastIdeal.nD Cert.InprojLastIdeal.τ).loc Cert.InprojLastIdeal.main_arg9)
      ∧ r.2.mem ((c.tc : Thread Cert.InprojLastIdeal.nD Cert.InprojLastIdeal.τ).loc Cert.InprojLastIdeal.main_arg10) = m ((c.tc : Thread Cert.InprojLastIdeal.nD Cert.InprojLastIdeal.τ).loc Cert.InprojLastIdeal.main_arg10)
      ∧ r.2.mem ((c.tc : Thread Cert.InprojLastIdeal.nD Cert.InprojLastIdeal.τ).loc Cert.InprojLastIdeal.main_arg11) = m ((c.tc : Thread Cert.InprojLastIdeal.nD Cert.InprojLastIdeal.τ).loc Cert.InprojLastIdeal.main_arg11)
      ∧ r.2.mem ((c.tc : Thread Cert.InprojLastIdeal.nD Cert.InprojLastIdeal.τ).loc Cert.InprojLastIdeal.main_arg12) = m ((c.tc : Thread Cert.InprojLastIdeal.nD Cert.InprojLastIdeal.τ).loc Cert.InprojLastIdeal.main_arg12)
      ∧ r.2.mem ((c.tc : Thread Cert.InprojLastIdeal.nD Cert.InprojLastIdeal.τ).loc Cert.InprojLastIdeal.main_arg13) = m ((c.tc : Thread Cert.InprojLastIdeal.nD Cert.InprojLastIdeal.τ).loc Cert.InprojLastIdeal.main_arg13))
      ∧ r.2.sem = fun _ => 0)

def quiescent_InprojLastRefIdeal [hInprojLastRefIdeal : Cert.InprojLastRefIdeal.Facts] : Prop :=
  ∀ (m : (ℓ : Loc Cert.InprojLastRefIdeal.nD Cert.InprojLastRefIdeal.τ Cert.InprojLastRefIdeal.sig) → Buf (Elt Ideal) ℓ) (g : Dev Cert.InprojLastRefIdeal.nD → PrngReg), Pre_InprojLastRefIdeal m →
    θ_run (Cert.InprojLastRefIdeal.defs (F := Ideal)) (onTc (τ := Cert.InprojLastRefIdeal.τ) (Cert.InprojLastRefIdeal.main (F := Ideal))) ⟨m, fun _ => 0, g⟩ (fun r => (∀ c : Dev Cert.InprojLastRefIdeal.nD,
      r.2.mem ((c.tc : Thread Cert.InprojLastRefIdeal.nD Cert.InprojLastRefIdeal.τ).loc Cert.InprojLastRefIdeal.main_arg0) = m ((c.tc : Thread Cert.InprojLastRefIdeal.nD Cert.InprojLastRefIdeal.τ).loc Cert.InprojLastRefIdeal.main_arg0)
      ∧ r.2.mem ((c.tc : Thread Cert.InprojLastRefIdeal.nD Cert.InprojLastRefIdeal.τ).loc Cert.InprojLastRefIdeal.main_arg1) = m ((c.tc : Thread Cert.InprojLastRefIdeal.nD Cert.InprojLastRefIdeal.τ).loc Cert.InprojLastRefIdeal.main_arg1)
      ∧ r.2.mem ((c.tc : Thread Cert.InprojLastRefIdeal.nD Cert.InprojLastRefIdeal.τ).loc Cert.InprojLastRefIdeal.main_arg2) = m ((c.tc : Thread Cert.InprojLastRefIdeal.nD Cert.InprojLastRefIdeal.τ).loc Cert.InprojLastRefIdeal.main_arg2)
      ∧ r.2.mem ((c.tc : Thread Cert.InprojLastRefIdeal.nD Cert.InprojLastRefIdeal.τ).loc Cert.InprojLastRefIdeal.main_arg3) = m ((c.tc : Thread Cert.InprojLastRefIdeal.nD Cert.InprojLastRefIdeal.τ).loc Cert.InprojLastRefIdeal.main_arg3)
      ∧ r.2.mem ((c.tc : Thread Cert.InprojLastRefIdeal.nD Cert.InprojLastRefIdeal.τ).loc Cert.InprojLastRefIdeal.main_arg4) = m ((c.tc : Thread Cert.InprojLastRefIdeal.nD Cert.InprojLastRefIdeal.τ).loc Cert.InprojLastRefIdeal.main_arg4)
      ∧ r.2.mem ((c.tc : Thread Cert.InprojLastRefIdeal.nD Cert.InprojLastRefIdeal.τ).loc Cert.InprojLastRefIdeal.main_arg5) = m ((c.tc : Thread Cert.InprojLastRefIdeal.nD Cert.InprojLastRefIdeal.τ).loc Cert.InprojLastRefIdeal.main_arg5)
      ∧ r.2.mem ((c.tc : Thread Cert.InprojLastRefIdeal.nD Cert.InprojLastRefIdeal.τ).loc Cert.InprojLastRefIdeal.main_arg6) = m ((c.tc : Thread Cert.InprojLastRefIdeal.nD Cert.InprojLastRefIdeal.τ).loc Cert.InprojLastRefIdeal.main_arg6)
      ∧ r.2.mem ((c.tc : Thread Cert.InprojLastRefIdeal.nD Cert.InprojLastRefIdeal.τ).loc Cert.InprojLastRefIdeal.main_arg7) = m ((c.tc : Thread Cert.InprojLastRefIdeal.nD Cert.InprojLastRefIdeal.τ).loc Cert.InprojLastRefIdeal.main_arg7)
      ∧ r.2.mem ((c.tc : Thread Cert.InprojLastRefIdeal.nD Cert.InprojLastRefIdeal.τ).loc Cert.InprojLastRefIdeal.main_arg8) = m ((c.tc : Thread Cert.InprojLastRefIdeal.nD Cert.InprojLastRefIdeal.τ).loc Cert.InprojLastRefIdeal.main_arg8)
      ∧ r.2.mem ((c.tc : Thread Cert.InprojLastRefIdeal.nD Cert.InprojLastRefIdeal.τ).loc Cert.InprojLastRefIdeal.main_arg9) = m ((c.tc : Thread Cert.InprojLastRefIdeal.nD Cert.InprojLastRefIdeal.τ).loc Cert.InprojLastRefIdeal.main_arg9)
      ∧ r.2.mem ((c.tc : Thread Cert.InprojLastRefIdeal.nD Cert.InprojLastRefIdeal.τ).loc Cert.InprojLastRefIdeal.main_arg10) = m ((c.tc : Thread Cert.InprojLastRefIdeal.nD Cert.InprojLastRefIdeal.τ).loc Cert.InprojLastRefIdeal.main_arg10)
      ∧ r.2.mem ((c.tc : Thread Cert.InprojLastRefIdeal.nD Cert.InprojLastRefIdeal.τ).loc Cert.InprojLastRefIdeal.main_arg11) = m ((c.tc : Thread Cert.InprojLastRefIdeal.nD Cert.InprojLastRefIdeal.τ).loc Cert.InprojLastRefIdeal.main_arg11)
      ∧ r.2.mem ((c.tc : Thread Cert.InprojLastRefIdeal.nD Cert.InprojLastRefIdeal.τ).loc Cert.InprojLastRefIdeal.main_arg12) = m ((c.tc : Thread Cert.InprojLastRefIdeal.nD Cert.InprojLastRefIdeal.τ).loc Cert.InprojLastRefIdeal.main_arg12)
      ∧ r.2.mem ((c.tc : Thread Cert.InprojLastRefIdeal.nD Cert.InprojLastRefIdeal.τ).loc Cert.InprojLastRefIdeal.main_arg13) = m ((c.tc : Thread Cert.InprojLastRefIdeal.nD Cert.InprojLastRefIdeal.τ).loc Cert.InprojLastRefIdeal.main_arg13))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)
      ∧ m' ((c.tc : Thread Cert.MergeRefIdeal.nD Cert.MergeRefIdeal.τ).loc Cert.MergeRefIdeal.main_arg15) = m ((c.tc : Thread Cert.MergeIdeal.nD Cert.MergeIdeal.τ).loc Cert.MergeIdeal.main_arg15)
      ∧ m' ((c.tc : Thread Cert.MergeRefIdeal.nD Cert.MergeRefIdeal.τ).loc Cert.MergeRefIdeal.main_arg16) = m ((c.tc : Thread Cert.MergeIdeal.nD Cert.MergeIdeal.τ).loc Cert.MergeIdeal.main_arg16)) →
    ∃ (v0 : (c : Dev Cert.MergeIdeal.nD) → Buf (Elt Ideal) ((c.tc : Thread Cert.MergeIdeal.nD Cert.MergeIdeal.τ).loc Cert.MergeIdeal.main_v63)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v63) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14)
          ∧ r.2.mem ((c.tc : Thread Cert.MergeIdeal.nD Cert.MergeIdeal.τ).loc Cert.MergeIdeal.main_arg15) = m ((c.tc : Thread Cert.MergeIdeal.nD Cert.MergeIdeal.τ).loc Cert.MergeIdeal.main_arg15)
          ∧ r.2.mem ((c.tc : Thread Cert.MergeIdeal.nD Cert.MergeIdeal.τ).loc Cert.MergeIdeal.main_arg16) = m ((c.tc : Thread Cert.MergeIdeal.nD Cert.MergeIdeal.τ).loc Cert.MergeIdeal.main_arg16))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v103) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14)
          ∧ r.2.mem ((c.tc : Thread Cert.MergeRefIdeal.nD Cert.MergeRefIdeal.τ).loc Cert.MergeRefIdeal.main_arg15) = m' ((c.tc : Thread Cert.MergeRefIdeal.nD Cert.MergeRefIdeal.τ).loc Cert.MergeRefIdeal.main_arg15)
          ∧ r.2.mem ((c.tc : Thread Cert.MergeRefIdeal.nD Cert.MergeRefIdeal.τ).loc Cert.MergeRefIdeal.main_arg16) = m' ((c.tc : Thread Cert.MergeRefIdeal.nD Cert.MergeRefIdeal.τ).loc Cert.MergeRefIdeal.main_arg16))

def preserves_First_FirstIdeal : Prop :=
  True

def algebraic_FirstIdeal_FirstRefIdeal [hFirstIdeal : Cert.FirstIdeal.Facts] [hFirstRefIdeal : Cert.FirstRefIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)
      ∧ m' ((c.tc : Thread Cert.FirstRefIdeal.nD Cert.FirstRefIdeal.τ).loc Cert.FirstRefIdeal.main_arg2) = m ((c.tc : Thread Cert.FirstIdeal.nD Cert.FirstIdeal.τ).loc Cert.FirstIdeal.main_arg2)
      ∧ m' ((c.tc : Thread Cert.FirstRefIdeal.nD Cert.FirstRefIdeal.τ).loc Cert.FirstRefIdeal.main_arg3) = m ((c.tc : Thread Cert.FirstIdeal.nD Cert.FirstIdeal.τ).loc Cert.FirstIdeal.main_arg3)
      ∧ m' ((c.tc : Thread Cert.FirstRefIdeal.nD Cert.FirstRefIdeal.τ).loc Cert.FirstRefIdeal.main_arg4) = m ((c.tc : Thread Cert.FirstIdeal.nD Cert.FirstIdeal.τ).loc Cert.FirstIdeal.main_arg4)
      ∧ m' ((c.tc : Thread Cert.FirstRefIdeal.nD Cert.FirstRefIdeal.τ).loc Cert.FirstRefIdeal.main_arg5) = m ((c.tc : Thread Cert.FirstIdeal.nD Cert.FirstIdeal.τ).loc Cert.FirstIdeal.main_arg5)
      ∧ m' ((c.tc : Thread Cert.FirstRefIdeal.nD Cert.FirstRefIdeal.τ).loc Cert.FirstRefIdeal.main_arg6) = m ((c.tc : Thread Cert.FirstIdeal.nD Cert.FirstIdeal.τ).loc Cert.FirstIdeal.main_arg6)
      ∧ m' ((c.tc : Thread Cert.FirstRefIdeal.nD Cert.FirstRefIdeal.τ).loc Cert.FirstRefIdeal.main_arg7) = m ((c.tc : Thread Cert.FirstIdeal.nD Cert.FirstIdeal.τ).loc Cert.FirstIdeal.main_arg7)
      ∧ m' ((c.tc : Thread Cert.FirstRefIdeal.nD Cert.FirstRefIdeal.τ).loc Cert.FirstRefIdeal.main_arg8) = m ((c.tc : Thread Cert.FirstIdeal.nD Cert.FirstIdeal.τ).loc Cert.FirstIdeal.main_arg8)
      ∧ m' ((c.tc : Thread Cert.FirstRefIdeal.nD Cert.FirstRefIdeal.τ).loc Cert.FirstRefIdeal.main_arg9) = m ((c.tc : Thread Cert.FirstIdeal.nD Cert.FirstIdeal.τ).loc Cert.FirstIdeal.main_arg9)
      ∧ m' ((c.tc : Thread Cert.FirstRefIdeal.nD Cert.FirstRefIdeal.τ).loc Cert.FirstRefIdeal.main_arg10) = m ((c.tc : Thread Cert.FirstIdeal.nD Cert.FirstIdeal.τ).loc Cert.FirstIdeal.main_arg10)
      ∧ m' ((c.tc : Thread Cert.FirstRefIdeal.nD Cert.FirstRefIdeal.τ).loc Cert.FirstRefIdeal.main_arg11) = m ((c.tc : Thread Cert.FirstIdeal.nD Cert.FirstIdeal.τ).loc Cert.FirstIdeal.main_arg11)
      ∧ m' ((c.tc : Thread Cert.FirstRefIdeal.nD Cert.FirstRefIdeal.τ).loc Cert.FirstRefIdeal.main_arg12) = m ((c.tc : Thread Cert.FirstIdeal.nD Cert.FirstIdeal.τ).loc Cert.FirstIdeal.main_arg12)
      ∧ m' ((c.tc : Thread Cert.FirstRefIdeal.nD Cert.FirstRefIdeal.τ).loc Cert.FirstRefIdeal.main_arg13) = m ((c.tc : Thread Cert.FirstIdeal.nD Cert.FirstIdeal.τ).loc Cert.FirstIdeal.main_arg13)
      ∧ m' ((c.tc : Thread Cert.FirstRefIdeal.nD Cert.FirstRefIdeal.τ).loc Cert.FirstRefIdeal.main_arg14) = m ((c.tc : Thread Cert.FirstIdeal.nD Cert.FirstIdeal.τ).loc Cert.FirstIdeal.main_arg14)
      ∧ m' ((c.tc : Thread Cert.FirstRefIdeal.nD Cert.FirstRefIdeal.τ).loc Cert.FirstRefIdeal.main_arg15) = m ((c.tc : Thread Cert.FirstIdeal.nD Cert.FirstIdeal.τ).loc Cert.FirstIdeal.main_arg15)
      ∧ m' ((c.tc : Thread Cert.FirstRefIdeal.nD Cert.FirstRefIdeal.τ).loc Cert.FirstRefIdeal.main_arg16) = m ((c.tc : Thread Cert.FirstIdeal.nD Cert.FirstIdeal.τ).loc Cert.FirstIdeal.main_arg16)
      ∧ m' ((c.tc : Thread Cert.FirstRefIdeal.nD Cert.FirstRefIdeal.τ).loc Cert.FirstRefIdeal.main_arg17) = m ((c.tc : Thread Cert.FirstIdeal.nD Cert.FirstIdeal.τ).loc Cert.FirstIdeal.main_arg17)
      ∧ m' ((c.tc : Thread Cert.FirstRefIdeal.nD Cert.FirstRefIdeal.τ).loc Cert.FirstRefIdeal.main_arg18) = m ((c.tc : Thread Cert.FirstIdeal.nD Cert.FirstIdeal.τ).loc Cert.FirstIdeal.main_arg18)
      ∧ m' ((c.tc : Thread Cert.FirstRefIdeal.nD Cert.FirstRefIdeal.τ).loc Cert.FirstRefIdeal.main_arg19) = m ((c.tc : Thread Cert.FirstIdeal.nD Cert.FirstIdeal.τ).loc Cert.FirstIdeal.main_arg19)
      ∧ m' ((c.tc : Thread Cert.FirstRefIdeal.nD Cert.FirstRefIdeal.τ).loc Cert.FirstRefIdeal.main_arg20) = m ((c.tc : Thread Cert.FirstIdeal.nD Cert.FirstIdeal.τ).loc Cert.FirstIdeal.main_arg20)
      ∧ m' ((c.tc : Thread Cert.FirstRefIdeal.nD Cert.FirstRefIdeal.τ).loc Cert.FirstRefIdeal.main_arg21) = m ((c.tc : Thread Cert.FirstIdeal.nD Cert.FirstIdeal.τ).loc Cert.FirstIdeal.main_arg21)
      ∧ m' ((c.tc : Thread Cert.FirstRefIdeal.nD Cert.FirstRefIdeal.τ).loc Cert.FirstRefIdeal.main_arg22) = m ((c.tc : Thread Cert.FirstIdeal.nD Cert.FirstIdeal.τ).loc Cert.FirstIdeal.main_arg22)
      ∧ m' ((c.tc : Thread Cert.FirstRefIdeal.nD Cert.FirstRefIdeal.τ).loc Cert.FirstRefIdeal.main_arg23) = m ((c.tc : Thread Cert.FirstIdeal.nD Cert.FirstIdeal.τ).loc Cert.FirstIdeal.main_arg23)
      ∧ m' ((c.tc : Thread Cert.FirstRefIdeal.nD Cert.FirstRefIdeal.τ).loc Cert.FirstRefIdeal.main_arg24) = m ((c.tc : Thread Cert.FirstIdeal.nD Cert.FirstIdeal.τ).loc Cert.FirstIdeal.main_arg24)) →
    ∃ (v0 : (c : Dev Cert.FirstIdeal.nD) → Buf (Elt Ideal) ((c.tc : Thread Cert.FirstIdeal.nD Cert.FirstIdeal.τ).loc Cert.FirstIdeal.main_v66)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v66) = v0 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
          ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5)
          ∧ r.2.mem ((c.tc : Thread Cert.FirstIdeal.nD Cert.FirstIdeal.τ).loc Cert.FirstIdeal.main_arg6) = m ((c.tc : Thread Cert.FirstIdeal.nD Cert.FirstIdeal.τ).loc Cert.FirstIdeal.main_arg6)
          ∧ r.2.mem ((c.tc : Thread Cert.FirstIdeal.nD Cert.FirstIdeal.τ).loc Cert.FirstIdeal.main_arg7) = m ((c.tc : Thread Cert.FirstIdeal.nD Cert.FirstIdeal.τ).loc Cert.FirstIdeal.main_arg7)
          ∧ r.2.mem ((c.tc : Thread Cert.FirstIdeal.nD Cert.FirstIdeal.τ).loc Cert.FirstIdeal.main_arg8) = m ((c.tc : Thread Cert.FirstIdeal.nD Cert.FirstIdeal.τ).loc Cert.FirstIdeal.main_arg8)
          ∧ r.2.mem ((c.tc : Thread Cert.FirstIdeal.nD Cert.FirstIdeal.τ).loc Cert.FirstIdeal.main_arg9) = m ((c.tc : Thread Cert.FirstIdeal.nD Cert.FirstIdeal.τ).loc Cert.FirstIdeal.main_arg9)
          ∧ r.2.mem ((c.tc : Thread Cert.FirstIdeal.nD Cert.FirstIdeal.τ).loc Cert.FirstIdeal.main_arg10) = m ((c.tc : Thread Cert.FirstIdeal.nD Cert.FirstIdeal.τ).loc Cert.FirstIdeal.main_arg10)
          ∧ r.2.mem ((c.tc : Thread Cert.FirstIdeal.nD Cert.FirstIdeal.τ).loc Cert.FirstIdeal.main_arg11) = m ((c.tc : Thread Cert.FirstIdeal.nD Cert.FirstIdeal.τ).loc Cert.FirstIdeal.main_arg11)
          ∧ r.2.mem ((c.tc : Thread Cert.FirstIdeal.nD Cert.FirstIdeal.τ).loc Cert.FirstIdeal.main_arg12) = m ((c.tc : Thread Cert.FirstIdeal.nD Cert.FirstIdeal.τ).loc Cert.FirstIdeal.main_arg12)
          ∧ r.2.mem ((c.tc : Thread Cert.FirstIdeal.nD Cert.FirstIdeal.τ).loc Cert.FirstIdeal.main_arg13) = m ((c.tc : Thread Cert.FirstIdeal.nD Cert.FirstIdeal.τ).loc Cert.FirstIdeal.main_arg13)
          ∧ r.2.mem ((c.tc : Thread Cert.FirstIdeal.nD Cert.FirstIdeal.τ).loc Cert.FirstIdeal.main_arg14) = m ((c.tc : Thread Cert.FirstIdeal.nD Cert.FirstIdeal.τ).loc Cert.FirstIdeal.main_arg14)
          ∧ r.2.mem ((c.tc : Thread Cert.FirstIdeal.nD Cert.FirstIdeal.τ).loc Cert.FirstIdeal.main_arg15) = m ((c.tc : Thread Cert.FirstIdeal.nD Cert.FirstIdeal.τ).loc Cert.FirstIdeal.main_arg15)
          ∧ r.2.mem ((c.tc : Thread Cert.FirstIdeal.nD Cert.FirstIdeal.τ).loc Cert.FirstIdeal.main_arg16) = m ((c.tc : Thread Cert.FirstIdeal.nD Cert.FirstIdeal.τ).loc Cert.FirstIdeal.main_arg16)
          ∧ r.2.mem ((c.tc : Thread Cert.FirstIdeal.nD Cert.FirstIdeal.τ).loc Cert.FirstIdeal.main_arg17) = m ((c.tc : Thread Cert.FirstIdeal.nD Cert.FirstIdeal.τ).loc Cert.FirstIdeal.main_arg17)
          ∧ r.2.mem ((c.tc : Thread Cert.FirstIdeal.nD Cert.FirstIdeal.τ).loc Cert.FirstIdeal.main_arg18) = m ((c.tc : Thread Cert.FirstIdeal.nD Cert.FirstIdeal.τ).loc Cert.FirstIdeal.main_arg18)
          ∧ r.2.mem ((c.tc : Thread Cert.FirstIdeal.nD Cert.FirstIdeal.τ).loc Cert.FirstIdeal.main_arg19) = m ((c.tc : Thread Cert.FirstIdeal.nD Cert.FirstIdeal.τ).loc Cert.FirstIdeal.main_arg19)
          ∧ r.2.mem ((c.tc : Thread Cert.FirstIdeal.nD Cert.FirstIdeal.τ).loc Cert.FirstIdeal.main_arg20) = m ((c.tc : Thread Cert.FirstIdeal.nD Cert.FirstIdeal.τ).loc Cert.FirstIdeal.main_arg20)
          ∧ r.2.mem ((c.tc : Thread Cert.FirstIdeal.nD Cert.FirstIdeal.τ).loc Cert.FirstIdeal.main_arg21) = m ((c.tc : Thread Cert.FirstIdeal.nD Cert.FirstIdeal.τ).loc Cert.FirstIdeal.main_arg21)
          ∧ r.2.mem ((c.tc : Thread Cert.FirstIdeal.nD Cert.FirstIdeal.τ).loc Cert.FirstIdeal.main_arg22) = m ((c.tc : Thread Cert.FirstIdeal.nD Cert.FirstIdeal.τ).loc Cert.FirstIdeal.main_arg22)
          ∧ r.2.mem ((c.tc : Thread Cert.FirstIdeal.nD Cert.FirstIdeal.τ).loc Cert.FirstIdeal.main_arg23) = m ((c.tc : Thread Cert.FirstIdeal.nD Cert.FirstIdeal.τ).loc Cert.FirstIdeal.main_arg23)
          ∧ r.2.mem ((c.tc : Thread Cert.FirstIdeal.nD Cert.FirstIdeal.τ).loc Cert.FirstIdeal.main_arg24) = m ((c.tc : Thread Cert.FirstIdeal.nD Cert.FirstIdeal.τ).loc Cert.FirstIdeal.main_arg24))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v185) = v0 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1)
          ∧ r.2.mem ((c.tc : Thread Cert.FirstRefIdeal.nD Cert.FirstRefIdeal.τ).loc Cert.FirstRefIdeal.main_arg2) = m' ((c.tc : Thread Cert.FirstRefIdeal.nD Cert.FirstRefIdeal.τ).loc Cert.FirstRefIdeal.main_arg2)
          ∧ r.2.mem ((c.tc : Thread Cert.FirstRefIdeal.nD Cert.FirstRefIdeal.τ).loc Cert.FirstRefIdeal.main_arg3) = m' ((c.tc : Thread Cert.FirstRefIdeal.nD Cert.FirstRefIdeal.τ).loc Cert.FirstRefIdeal.main_arg3)
          ∧ r.2.mem ((c.tc : Thread Cert.FirstRefIdeal.nD Cert.FirstRefIdeal.τ).loc Cert.FirstRefIdeal.main_arg4) = m' ((c.tc : Thread Cert.FirstRefIdeal.nD Cert.FirstRefIdeal.τ).loc Cert.FirstRefIdeal.main_arg4)
          ∧ r.2.mem ((c.tc : Thread Cert.FirstRefIdeal.nD Cert.FirstRefIdeal.τ).loc Cert.FirstRefIdeal.main_arg5) = m' ((c.tc : Thread Cert.FirstRefIdeal.nD Cert.FirstRefIdeal.τ).loc Cert.FirstRefIdeal.main_arg5)
          ∧ r.2.mem ((c.tc : Thread Cert.FirstRefIdeal.nD Cert.FirstRefIdeal.τ).loc Cert.FirstRefIdeal.main_arg6) = m' ((c.tc : Thread Cert.FirstRefIdeal.nD Cert.FirstRefIdeal.τ).loc Cert.FirstRefIdeal.main_arg6)
          ∧ r.2.mem ((c.tc : Thread Cert.FirstRefIdeal.nD Cert.FirstRefIdeal.τ).loc Cert.FirstRefIdeal.main_arg7) = m' ((c.tc : Thread Cert.FirstRefIdeal.nD Cert.FirstRefIdeal.τ).loc Cert.FirstRefIdeal.main_arg7)
          ∧ r.2.mem ((c.tc : Thread Cert.FirstRefIdeal.nD Cert.FirstRefIdeal.τ).loc Cert.FirstRefIdeal.main_arg8) = m' ((c.tc : Thread Cert.FirstRefIdeal.nD Cert.FirstRefIdeal.τ).loc Cert.FirstRefIdeal.main_arg8)
          ∧ r.2.mem ((c.tc : Thread Cert.FirstRefIdeal.nD Cert.FirstRefIdeal.τ).loc Cert.FirstRefIdeal.main_arg9) = m' ((c.tc : Thread Cert.FirstRefIdeal.nD Cert.FirstRefIdeal.τ).loc Cert.FirstRefIdeal.main_arg9)
          ∧ r.2.mem ((c.tc : Thread Cert.FirstRefIdeal.nD Cert.FirstRefIdeal.τ).loc Cert.FirstRefIdeal.main_arg10) = m' ((c.tc : Thread Cert.FirstRefIdeal.nD Cert.FirstRefIdeal.τ).loc Cert.FirstRefIdeal.main_arg10)
          ∧ r.2.mem ((c.tc : Thread Cert.FirstRefIdeal.nD Cert.FirstRefIdeal.τ).loc Cert.FirstRefIdeal.main_arg11) = m' ((c.tc : Thread Cert.FirstRefIdeal.nD Cert.FirstRefIdeal.τ).loc Cert.FirstRefIdeal.main_arg11)
          ∧ r.2.mem ((c.tc : Thread Cert.FirstRefIdeal.nD Cert.FirstRefIdeal.τ).loc Cert.FirstRefIdeal.main_arg12) = m' ((c.tc : Thread Cert.FirstRefIdeal.nD Cert.FirstRefIdeal.τ).loc Cert.FirstRefIdeal.main_arg12)
          ∧ r.2.mem ((c.tc : Thread Cert.FirstRefIdeal.nD Cert.FirstRefIdeal.τ).loc Cert.FirstRefIdeal.main_arg13) = m' ((c.tc : Thread Cert.FirstRefIdeal.nD Cert.FirstRefIdeal.τ).loc Cert.FirstRefIdeal.main_arg13)
          ∧ r.2.mem ((c.tc : Thread Cert.FirstRefIdeal.nD Cert.FirstRefIdeal.τ).loc Cert.FirstRefIdeal.main_arg14) = m' ((c.tc : Thread Cert.FirstRefIdeal.nD Cert.FirstRefIdeal.τ).loc Cert.FirstRefIdeal.main_arg14)
          ∧ r.2.mem ((c.tc : Thread Cert.FirstRefIdeal.nD Cert.FirstRefIdeal.τ).loc Cert.FirstRefIdeal.main_arg15) = m' ((c.tc : Thread Cert.FirstRefIdeal.nD Cert.FirstRefIdeal.τ).loc Cert.FirstRefIdeal.main_arg15)
          ∧ r.2.mem ((c.tc : Thread Cert.FirstRefIdeal.nD Cert.FirstRefIdeal.τ).loc Cert.FirstRefIdeal.main_arg16) = m' ((c.tc : Thread Cert.FirstRefIdeal.nD Cert.FirstRefIdeal.τ).loc Cert.FirstRefIdeal.main_arg16)
          ∧ r.2.mem ((c.tc : Thread Cert.FirstRefIdeal.nD Cert.FirstRefIdeal.τ).loc Cert.FirstRefIdeal.main_arg17) = m' ((c.tc : Thread Cert.FirstRefIdeal.nD Cert.FirstRefIdeal.τ).loc Cert.FirstRefIdeal.main_arg17)
          ∧ r.2.mem ((c.tc : Thread Cert.FirstRefIdeal.nD Cert.FirstRefIdeal.τ).loc Cert.FirstRefIdeal.main_arg18) = m' ((c.tc : Thread Cert.FirstRefIdeal.nD Cert.FirstRefIdeal.τ).loc Cert.FirstRefIdeal.main_arg18)
          ∧ r.2.mem ((c.tc : Thread Cert.FirstRefIdeal.nD Cert.FirstRefIdeal.τ).loc Cert.FirstRefIdeal.main_arg19) = m' ((c.tc : Thread Cert.FirstRefIdeal.nD Cert.FirstRefIdeal.τ).loc Cert.FirstRefIdeal.main_arg19)
          ∧ r.2.mem ((c.tc : Thread Cert.FirstRefIdeal.nD Cert.FirstRefIdeal.τ).loc Cert.FirstRefIdeal.main_arg20) = m' ((c.tc : Thread Cert.FirstRefIdeal.nD Cert.FirstRefIdeal.τ).loc Cert.FirstRefIdeal.main_arg20)
          ∧ r.2.mem ((c.tc : Thread Cert.FirstRefIdeal.nD Cert.FirstRefIdeal.τ).loc Cert.FirstRefIdeal.main_arg21) = m' ((c.tc : Thread Cert.FirstRefIdeal.nD Cert.FirstRefIdeal.τ).loc Cert.FirstRefIdeal.main_arg21)
          ∧ r.2.mem ((c.tc : Thread Cert.FirstRefIdeal.nD Cert.FirstRefIdeal.τ).loc Cert.FirstRefIdeal.main_arg22) = m' ((c.tc : Thread Cert.FirstRefIdeal.nD Cert.FirstRefIdeal.τ).loc Cert.FirstRefIdeal.main_arg22)
          ∧ r.2.mem ((c.tc : Thread Cert.FirstRefIdeal.nD Cert.FirstRefIdeal.τ).loc Cert.FirstRefIdeal.main_arg23) = m' ((c.tc : Thread Cert.FirstRefIdeal.nD Cert.FirstRefIdeal.τ).loc Cert.FirstRefIdeal.main_arg23)
          ∧ r.2.mem ((c.tc : Thread Cert.FirstRefIdeal.nD Cert.FirstRefIdeal.τ).loc Cert.FirstRefIdeal.main_arg24) = m' ((c.tc : Thread Cert.FirstRefIdeal.nD Cert.FirstRefIdeal.τ).loc Cert.FirstRefIdeal.main_arg24))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)
      ∧ m' ((c.tc : Thread Cert.InprojRefIdeal.nD Cert.InprojRefIdeal.τ).loc Cert.InprojRefIdeal.main_arg7) = m ((c.tc : Thread Cert.InprojIdeal.nD Cert.InprojIdeal.τ).loc Cert.InprojIdeal.main_arg7)
      ∧ m' ((c.tc : Thread Cert.InprojRefIdeal.nD Cert.InprojRefIdeal.τ).loc Cert.InprojRefIdeal.main_arg8) = m ((c.tc : Thread Cert.InprojIdeal.nD Cert.InprojIdeal.τ).loc Cert.InprojIdeal.main_arg8)
      ∧ m' ((c.tc : Thread Cert.InprojRefIdeal.nD Cert.InprojRefIdeal.τ).loc Cert.InprojRefIdeal.main_arg9) = m ((c.tc : Thread Cert.InprojIdeal.nD Cert.InprojIdeal.τ).loc Cert.InprojIdeal.main_arg9)
      ∧ m' ((c.tc : Thread Cert.InprojRefIdeal.nD Cert.InprojRefIdeal.τ).loc Cert.InprojRefIdeal.main_arg10) = m ((c.tc : Thread Cert.InprojIdeal.nD Cert.InprojIdeal.τ).loc Cert.InprojIdeal.main_arg10)
      ∧ m' ((c.tc : Thread Cert.InprojRefIdeal.nD Cert.InprojRefIdeal.τ).loc Cert.InprojRefIdeal.main_arg11) = m ((c.tc : Thread Cert.InprojIdeal.nD Cert.InprojIdeal.τ).loc Cert.InprojIdeal.main_arg11)
      ∧ m' ((c.tc : Thread Cert.InprojRefIdeal.nD Cert.InprojRefIdeal.τ).loc Cert.InprojRefIdeal.main_arg12) = m ((c.tc : Thread Cert.InprojIdeal.nD Cert.InprojIdeal.τ).loc Cert.InprojIdeal.main_arg12)
      ∧ m' ((c.tc : Thread Cert.InprojRefIdeal.nD Cert.InprojRefIdeal.τ).loc Cert.InprojRefIdeal.main_arg13) = m ((c.tc : Thread Cert.InprojIdeal.nD Cert.InprojIdeal.τ).loc Cert.InprojIdeal.main_arg13)) →
    ∃ (v0 : (c : Dev Cert.InprojIdeal.nD) → Buf (Elt Ideal) ((c.tc : Thread Cert.InprojIdeal.nD Cert.InprojIdeal.τ).loc Cert.InprojIdeal.main_v263_3)) (v1 : (c : Dev Cert.InprojIdeal.nD) → Buf (Elt Ideal) ((c.tc : Thread Cert.InprojIdeal.nD Cert.InprojIdeal.τ).loc Cert.InprojIdeal.main_v263_4)) (v2 : (c : Dev Cert.InprojIdeal.nD) → Buf (Elt Ideal) ((c.tc : Thread Cert.InprojIdeal.nD Cert.InprojIdeal.τ).loc Cert.InprojIdeal.main_v263_5)) (v3 : (c : Dev Cert.InprojIdeal.nD) → Buf (Elt Ideal) ((c.tc : Thread Cert.InprojIdeal.nD Cert.InprojIdeal.τ).loc Cert.InprojIdeal.main_v263_6)) (v4 : (c : Dev Cert.InprojIdeal.nD) → Buf (Elt Ideal) ((c.tc : Thread Cert.InprojIdeal.nD Cert.InprojIdeal.τ).loc Cert.InprojIdeal.main_v263_7)) (v5 : (c : Dev Cert.InprojIdeal.nD) → Buf (Elt Ideal) ((c.tc : Thread Cert.InprojIdeal.nD Cert.InprojIdeal.τ).loc Cert.InprojIdeal.main_v263_8)) (v6 : (c : Dev Cert.InprojIdeal.nD) → Buf (Elt Ideal) ((c.tc : Thread Cert.InprojIdeal.nD Cert.InprojIdeal.τ).loc Cert.InprojIdeal.main_v263_9)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v263_3) = v0 c
          ∧ r.2.mem ((c.tc : Thread Cert.InprojIdeal.nD Cert.InprojIdeal.τ).loc Cert.InprojIdeal.main_v263_4) = v1 c
          ∧ r.2.mem ((c.tc : Thread Cert.InprojIdeal.nD Cert.InprojIdeal.τ).loc Cert.InprojIdeal.main_v263_5) = v2 c
          ∧ r.2.mem ((c.tc : Thread Cert.InprojIdeal.nD Cert.InprojIdeal.τ).loc Cert.InprojIdeal.main_v263_6) = v3 c
          ∧ r.2.mem ((c.tc : Thread Cert.InprojIdeal.nD Cert.InprojIdeal.τ).loc Cert.InprojIdeal.main_v263_7) = v4 c
          ∧ r.2.mem ((c.tc : Thread Cert.InprojIdeal.nD Cert.InprojIdeal.τ).loc Cert.InprojIdeal.main_v263_8) = v5 c
          ∧ r.2.mem ((c.tc : Thread Cert.InprojIdeal.nD Cert.InprojIdeal.τ).loc Cert.InprojIdeal.main_v263_9) = v6 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6)
          ∧ r.2.mem ((c.tc : Thread Cert.InprojIdeal.nD Cert.InprojIdeal.τ).loc Cert.InprojIdeal.main_arg7) = m ((c.tc : Thread Cert.InprojIdeal.nD Cert.InprojIdeal.τ).loc Cert.InprojIdeal.main_arg7)
          ∧ r.2.mem ((c.tc : Thread Cert.InprojIdeal.nD Cert.InprojIdeal.τ).loc Cert.InprojIdeal.main_arg8) = m ((c.tc : Thread Cert.InprojIdeal.nD Cert.InprojIdeal.τ).loc Cert.InprojIdeal.main_arg8)
          ∧ r.2.mem ((c.tc : Thread Cert.InprojIdeal.nD Cert.InprojIdeal.τ).loc Cert.InprojIdeal.main_arg9) = m ((c.tc : Thread Cert.InprojIdeal.nD Cert.InprojIdeal.τ).loc Cert.InprojIdeal.main_arg9)
          ∧ r.2.mem ((c.tc : Thread Cert.InprojIdeal.nD Cert.InprojIdeal.τ).loc Cert.InprojIdeal.main_arg10) = m ((c.tc : Thread Cert.InprojIdeal.nD Cert.InprojIdeal.τ).loc Cert.InprojIdeal.main_arg10)
          ∧ r.2.mem ((c.tc : Thread Cert.InprojIdeal.nD Cert.InprojIdeal.τ).loc Cert.InprojIdeal.main_arg11) = m ((c.tc : Thread Cert.InprojIdeal.nD Cert.InprojIdeal.τ).loc Cert.InprojIdeal.main_arg11)
          ∧ r.2.mem ((c.tc : Thread Cert.InprojIdeal.nD Cert.InprojIdeal.τ).loc Cert.InprojIdeal.main_arg12) = m ((c.tc : Thread Cert.InprojIdeal.nD Cert.InprojIdeal.τ).loc Cert.InprojIdeal.main_arg12)
          ∧ r.2.mem ((c.tc : Thread Cert.InprojIdeal.nD Cert.InprojIdeal.τ).loc Cert.InprojIdeal.main_arg13) = m ((c.tc : Thread Cert.InprojIdeal.nD Cert.InprojIdeal.τ).loc Cert.InprojIdeal.main_arg13))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v163) = v0 c
          ∧ r.2.mem ((c.tc : Thread Cert.InprojRefIdeal.nD Cert.InprojRefIdeal.τ).loc Cert.InprojRefIdeal.main_v164) = v1 c
          ∧ r.2.mem ((c.tc : Thread Cert.InprojRefIdeal.nD Cert.InprojRefIdeal.τ).loc Cert.InprojRefIdeal.main_v165) = v2 c
          ∧ r.2.mem ((c.tc : Thread Cert.InprojRefIdeal.nD Cert.InprojRefIdeal.τ).loc Cert.InprojRefIdeal.main_v166) = v3 c
          ∧ r.2.mem ((c.tc : Thread Cert.InprojRefIdeal.nD Cert.InprojRefIdeal.τ).loc Cert.InprojRefIdeal.main_v167) = v4 c
          ∧ r.2.mem ((c.tc : Thread Cert.InprojRefIdeal.nD Cert.InprojRefIdeal.τ).loc Cert.InprojRefIdeal.main_v168) = v5 c
          ∧ r.2.mem ((c.tc : Thread Cert.InprojRefIdeal.nD Cert.InprojRefIdeal.τ).loc Cert.InprojRefIdeal.main_v169) = v6 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6)
          ∧ r.2.mem ((c.tc : Thread Cert.InprojRefIdeal.nD Cert.InprojRefIdeal.τ).loc Cert.InprojRefIdeal.main_arg7) = m' ((c.tc : Thread Cert.InprojRefIdeal.nD Cert.InprojRefIdeal.τ).loc Cert.InprojRefIdeal.main_arg7)
          ∧ r.2.mem ((c.tc : Thread Cert.InprojRefIdeal.nD Cert.InprojRefIdeal.τ).loc Cert.InprojRefIdeal.main_arg8) = m' ((c.tc : Thread Cert.InprojRefIdeal.nD Cert.InprojRefIdeal.τ).loc Cert.InprojRefIdeal.main_arg8)
          ∧ r.2.mem ((c.tc : Thread Cert.InprojRefIdeal.nD Cert.InprojRefIdeal.τ).loc Cert.InprojRefIdeal.main_arg9) = m' ((c.tc : Thread Cert.InprojRefIdeal.nD Cert.InprojRefIdeal.τ).loc Cert.InprojRefIdeal.main_arg9)
          ∧ r.2.mem ((c.tc : Thread Cert.InprojRefIdeal.nD Cert.InprojRefIdeal.τ).loc Cert.InprojRefIdeal.main_arg10) = m' ((c.tc : Thread Cert.InprojRefIdeal.nD Cert.InprojRefIdeal.τ).loc Cert.InprojRefIdeal.main_arg10)
          ∧ r.2.mem ((c.tc : Thread Cert.InprojRefIdeal.nD Cert.InprojRefIdeal.τ).loc Cert.InprojRefIdeal.main_arg11) = m' ((c.tc : Thread Cert.InprojRefIdeal.nD Cert.InprojRefIdeal.τ).loc Cert.InprojRefIdeal.main_arg11)
          ∧ r.2.mem ((c.tc : Thread Cert.InprojRefIdeal.nD Cert.InprojRefIdeal.τ).loc Cert.InprojRefIdeal.main_arg12) = m' ((c.tc : Thread Cert.InprojRefIdeal.nD Cert.InprojRefIdeal.τ).loc Cert.InprojRefIdeal.main_arg12)
          ∧ r.2.mem ((c.tc : Thread Cert.InprojRefIdeal.nD Cert.InprojRefIdeal.τ).loc Cert.InprojRefIdeal.main_arg13) = m' ((c.tc : Thread Cert.InprojRefIdeal.nD Cert.InprojRefIdeal.τ).loc Cert.InprojRefIdeal.main_arg13))

def preserves_InprojLast_InprojLastIdeal : Prop :=
  True

def algebraic_InprojLastIdeal_InprojLastRefIdeal [hInprojLastIdeal : Cert.InprojLastIdeal.Facts] [hInprojLastRefIdeal : Cert.InprojLastRefIdeal.Facts] : Prop :=
  ∀ (m : (ℓ : Loc Cert.InprojLastIdeal.nD Cert.InprojLastIdeal.τ Cert.InprojLastIdeal.sig) → Buf (Elt Ideal) ℓ) (g : Dev Cert.InprojLastIdeal.nD → PrngReg)
    (m' : (ℓ : Loc Cert.InprojLastRefIdeal.nD Cert.InprojLastRefIdeal.τ Cert.InprojLastRefIdeal.sig) → Buf (Elt Ideal) ℓ) (g' : Dev Cert.InprojLastRefIdeal.nD → PrngReg), Pre_InprojLastIdeal m →
    (∀ c : Dev Cert.InprojLastIdeal.nD,
      m' ((c.tc : Thread Cert.InprojLastRefIdeal.nD Cert.InprojLastRefIdeal.τ).loc Cert.InprojLastRefIdeal.main_arg0) = m ((c.tc : Thread Cert.InprojLastIdeal.nD Cert.InprojLastIdeal.τ).loc Cert.InprojLastIdeal.main_arg0)
      ∧ m' ((c.tc : Thread Cert.InprojLastRefIdeal.nD Cert.InprojLastRefIdeal.τ).loc Cert.InprojLastRefIdeal.main_arg1) = m ((c.tc : Thread Cert.InprojLastIdeal.nD Cert.InprojLastIdeal.τ).loc Cert.InprojLastIdeal.main_arg1)
      ∧ m' ((c.tc : Thread Cert.InprojLastRefIdeal.nD Cert.InprojLastRefIdeal.τ).loc Cert.InprojLastRefIdeal.main_arg2) = m ((c.tc : Thread Cert.InprojLastIdeal.nD Cert.InprojLastIdeal.τ).loc Cert.InprojLastIdeal.main_arg2)
      ∧ m' ((c.tc : Thread Cert.InprojLastRefIdeal.nD Cert.InprojLastRefIdeal.τ).loc Cert.InprojLastRefIdeal.main_arg3) = m ((c.tc : Thread Cert.InprojLastIdeal.nD Cert.InprojLastIdeal.τ).loc Cert.InprojLastIdeal.main_arg3)
      ∧ m' ((c.tc : Thread Cert.InprojLastRefIdeal.nD Cert.InprojLastRefIdeal.τ).loc Cert.InprojLastRefIdeal.main_arg4) = m ((c.tc : Thread Cert.InprojLastIdeal.nD Cert.InprojLastIdeal.τ).loc Cert.InprojLastIdeal.main_arg4)
      ∧ m' ((c.tc : Thread Cert.InprojLastRefIdeal.nD Cert.InprojLastRefIdeal.τ).loc Cert.InprojLastRefIdeal.main_arg5) = m ((c.tc : Thread Cert.InprojLastIdeal.nD Cert.InprojLastIdeal.τ).loc Cert.InprojLastIdeal.main_arg5)
      ∧ m' ((c.tc : Thread Cert.InprojLastRefIdeal.nD Cert.InprojLastRefIdeal.τ).loc Cert.InprojLastRefIdeal.main_arg6) = m ((c.tc : Thread Cert.InprojLastIdeal.nD Cert.InprojLastIdeal.τ).loc Cert.InprojLastIdeal.main_arg6)
      ∧ m' ((c.tc : Thread Cert.InprojLastRefIdeal.nD Cert.InprojLastRefIdeal.τ).loc Cert.InprojLastRefIdeal.main_arg7) = m ((c.tc : Thread Cert.InprojLastIdeal.nD Cert.InprojLastIdeal.τ).loc Cert.InprojLastIdeal.main_arg7)
      ∧ m' ((c.tc : Thread Cert.InprojLastRefIdeal.nD Cert.InprojLastRefIdeal.τ).loc Cert.InprojLastRefIdeal.main_arg8) = m ((c.tc : Thread Cert.InprojLastIdeal.nD Cert.InprojLastIdeal.τ).loc Cert.InprojLastIdeal.main_arg8)
      ∧ m' ((c.tc : Thread Cert.InprojLastRefIdeal.nD Cert.InprojLastRefIdeal.τ).loc Cert.InprojLastRefIdeal.main_arg9) = m ((c.tc : Thread Cert.InprojLastIdeal.nD Cert.InprojLastIdeal.τ).loc Cert.InprojLastIdeal.main_arg9)
      ∧ m' ((c.tc : Thread Cert.InprojLastRefIdeal.nD Cert.InprojLastRefIdeal.τ).loc Cert.InprojLastRefIdeal.main_arg10) = m ((c.tc : Thread Cert.InprojLastIdeal.nD Cert.InprojLastIdeal.τ).loc Cert.InprojLastIdeal.main_arg10)
      ∧ m' ((c.tc : Thread Cert.InprojLastRefIdeal.nD Cert.InprojLastRefIdeal.τ).loc Cert.InprojLastRefIdeal.main_arg11) = m ((c.tc : Thread Cert.InprojLastIdeal.nD Cert.InprojLastIdeal.τ).loc Cert.InprojLastIdeal.main_arg11)
      ∧ m' ((c.tc : Thread Cert.InprojLastRefIdeal.nD Cert.InprojLastRefIdeal.τ).loc Cert.InprojLastRefIdeal.main_arg12) = m ((c.tc : Thread Cert.InprojLastIdeal.nD Cert.InprojLastIdeal.τ).loc Cert.InprojLastIdeal.main_arg12)
      ∧ m' ((c.tc : Thread Cert.InprojLastRefIdeal.nD Cert.InprojLastRefIdeal.τ).loc Cert.InprojLastRefIdeal.main_arg13) = m ((c.tc : Thread Cert.InprojLastIdeal.nD Cert.InprojLastIdeal.τ).loc Cert.InprojLastIdeal.main_arg13)) →
    ∃ (v0 : (c : Dev Cert.InprojLastIdeal.nD) → Buf (Elt Ideal) ((c.tc : Thread Cert.InprojLastIdeal.nD Cert.InprojLastIdeal.τ).loc Cert.InprojLastIdeal.main_v264_3)) (v1 : (c : Dev Cert.InprojLastIdeal.nD) → Buf (Elt Ideal) ((c.tc : Thread Cert.InprojLastIdeal.nD Cert.InprojLastIdeal.τ).loc Cert.InprojLastIdeal.main_v264_4)) (v2 : (c : Dev Cert.InprojLastIdeal.nD) → Buf (Elt Ideal) ((c.tc : Thread Cert.InprojLastIdeal.nD Cert.InprojLastIdeal.τ).loc Cert.InprojLastIdeal.main_v264_5)) (v3 : (c : Dev Cert.InprojLastIdeal.nD) → Buf (Elt Ideal) ((c.tc : Thread Cert.InprojLastIdeal.nD Cert.InprojLastIdeal.τ).loc Cert.InprojLastIdeal.main_v264_6)) (v4 : (c : Dev Cert.InprojLastIdeal.nD) → Buf (Elt Ideal) ((c.tc : Thread Cert.InprojLastIdeal.nD Cert.InprojLastIdeal.τ).loc Cert.InprojLastIdeal.main_v264_7)) (v5 : (c : Dev Cert.InprojLastIdeal.nD) → Buf (Elt Ideal) ((c.tc : Thread Cert.InprojLastIdeal.nD Cert.InprojLastIdeal.τ).loc Cert.InprojLastIdeal.main_v264_8)) (v6 : (c : Dev Cert.InprojLastIdeal.nD) → Buf (Elt Ideal) ((c.tc : Thread Cert.InprojLastIdeal.nD Cert.InprojLastIdeal.τ).loc Cert.InprojLastIdeal.main_v264_9)),
      θ_run (Cert.InprojLastIdeal.defs (F := Ideal)) (onTc (τ := Cert.InprojLastIdeal.τ) (Cert.InprojLastIdeal.main (F := Ideal))) ⟨m, fun _ => 0, g⟩ (fun r => ∀ c : Dev Cert.InprojLastIdeal.nD,
          r.2.mem ((c.tc : Thread Cert.InprojLastIdeal.nD Cert.InprojLastIdeal.τ).loc Cert.InprojLastIdeal.main_v264_3) = v0 c
          ∧ r.2.mem ((c.tc : Thread Cert.InprojLastIdeal.nD Cert.InprojLastIdeal.τ).loc Cert.InprojLastIdeal.main_v264_4) = v1 c
          ∧ r.2.mem ((c.tc : Thread Cert.InprojLastIdeal.nD Cert.InprojLastIdeal.τ).loc Cert.InprojLastIdeal.main_v264_5) = v2 c
          ∧ r.2.mem ((c.tc : Thread Cert.InprojLastIdeal.nD Cert.InprojLastIdeal.τ).loc Cert.InprojLastIdeal.main_v264_6) = v3 c
          ∧ r.2.mem ((c.tc : Thread Cert.InprojLastIdeal.nD Cert.InprojLastIdeal.τ).loc Cert.InprojLastIdeal.main_v264_7) = v4 c
          ∧ r.2.mem ((c.tc : Thread Cert.InprojLastIdeal.nD Cert.InprojLastIdeal.τ).loc Cert.InprojLastIdeal.main_v264_8) = v5 c
          ∧ r.2.mem ((c.tc : Thread Cert.InprojLastIdeal.nD Cert.InprojLastIdeal.τ).loc Cert.InprojLastIdeal.main_v264_9) = v6 c
          ∧ r.2.mem ((c.tc : Thread Cert.InprojLastIdeal.nD Cert.InprojLastIdeal.τ).loc Cert.InprojLastIdeal.main_arg0) = m ((c.tc : Thread Cert.InprojLastIdeal.nD Cert.InprojLastIdeal.τ).loc Cert.InprojLastIdeal.main_arg0)
          ∧ r.2.mem ((c.tc : Thread Cert.InprojLastIdeal.nD Cert.InprojLastIdeal.τ).loc Cert.InprojLastIdeal.main_arg1) = m ((c.tc : Thread Cert.InprojLastIdeal.nD Cert.InprojLastIdeal.τ).loc Cert.InprojLastIdeal.main_arg1)
          ∧ r.2.mem ((c.tc : Thread Cert.InprojLastIdeal.nD Cert.InprojLastIdeal.τ).loc Cert.InprojLastIdeal.main_arg2) = m ((c.tc : Thread Cert.InprojLastIdeal.nD Cert.InprojLastIdeal.τ).loc Cert.InprojLastIdeal.main_arg2)
          ∧ r.2.mem ((c.tc : Thread Cert.InprojLastIdeal.nD Cert.InprojLastIdeal.τ).loc Cert.InprojLastIdeal.main_arg3) = m ((c.tc : Thread Cert.InprojLastIdeal.nD Cert.InprojLastIdeal.τ).loc Cert.InprojLastIdeal.main_arg3)
          ∧ r.2.mem ((c.tc : Thread Cert.InprojLastIdeal.nD Cert.InprojLastIdeal.τ).loc Cert.InprojLastIdeal.main_arg4) = m ((c.tc : Thread Cert.InprojLastIdeal.nD Cert.InprojLastIdeal.τ).loc Cert.InprojLastIdeal.main_arg4)
          ∧ r.2.mem ((c.tc : Thread Cert.InprojLastIdeal.nD Cert.InprojLastIdeal.τ).loc Cert.InprojLastIdeal.main_arg5) = m ((c.tc : Thread Cert.InprojLastIdeal.nD Cert.InprojLastIdeal.τ).loc Cert.InprojLastIdeal.main_arg5)
          ∧ r.2.mem ((c.tc : Thread Cert.InprojLastIdeal.nD Cert.InprojLastIdeal.τ).loc Cert.InprojLastIdeal.main_arg6) = m ((c.tc : Thread Cert.InprojLastIdeal.nD Cert.InprojLastIdeal.τ).loc Cert.InprojLastIdeal.main_arg6)
          ∧ r.2.mem ((c.tc : Thread Cert.InprojLastIdeal.nD Cert.InprojLastIdeal.τ).loc Cert.InprojLastIdeal.main_arg7) = m ((c.tc : Thread Cert.InprojLastIdeal.nD Cert.InprojLastIdeal.τ).loc Cert.InprojLastIdeal.main_arg7)
          ∧ r.2.mem ((c.tc : Thread Cert.InprojLastIdeal.nD Cert.InprojLastIdeal.τ).loc Cert.InprojLastIdeal.main_arg8) = m ((c.tc : Thread Cert.InprojLastIdeal.nD Cert.InprojLastIdeal.τ).loc Cert.InprojLastIdeal.main_arg8)
          ∧ r.2.mem ((c.tc : Thread Cert.InprojLastIdeal.nD Cert.InprojLastIdeal.τ).loc Cert.InprojLastIdeal.main_arg9) = m ((c.tc : Thread Cert.InprojLastIdeal.nD Cert.InprojLastIdeal.τ).loc Cert.InprojLastIdeal.main_arg9)
          ∧ r.2.mem ((c.tc : Thread Cert.InprojLastIdeal.nD Cert.InprojLastIdeal.τ).loc Cert.InprojLastIdeal.main_arg10) = m ((c.tc : Thread Cert.InprojLastIdeal.nD Cert.InprojLastIdeal.τ).loc Cert.InprojLastIdeal.main_arg10)
          ∧ r.2.mem ((c.tc : Thread Cert.InprojLastIdeal.nD Cert.InprojLastIdeal.τ).loc Cert.InprojLastIdeal.main_arg11) = m ((c.tc : Thread Cert.InprojLastIdeal.nD Cert.InprojLastIdeal.τ).loc Cert.InprojLastIdeal.main_arg11)
          ∧ r.2.mem ((c.tc : Thread Cert.InprojLastIdeal.nD Cert.InprojLastIdeal.τ).loc Cert.InprojLastIdeal.main_arg12) = m ((c.tc : Thread Cert.InprojLastIdeal.nD Cert.InprojLastIdeal.τ).loc Cert.InprojLastIdeal.main_arg12)
          ∧ r.2.mem ((c.tc : Thread Cert.InprojLastIdeal.nD Cert.InprojLastIdeal.τ).loc Cert.InprojLastIdeal.main_arg13) = m ((c.tc : Thread Cert.InprojLastIdeal.nD Cert.InprojLastIdeal.τ).loc Cert.InprojLastIdeal.main_arg13))
      ∧ θ_run (Cert.InprojLastRefIdeal.defs (F := Ideal)) (onTc (τ := Cert.InprojLastRefIdeal.τ) (Cert.InprojLastRefIdeal.main (F := Ideal))) ⟨m', fun _ => 0, g'⟩ (fun r => ∀ c : Dev Cert.InprojLastRefIdeal.nD,
          r.2.mem ((c.tc : Thread Cert.InprojLastRefIdeal.nD Cert.InprojLastRefIdeal.τ).loc Cert.InprojLastRefIdeal.main_v163) = v0 c
          ∧ r.2.mem ((c.tc : Thread Cert.InprojLastRefIdeal.nD Cert.InprojLastRefIdeal.τ).loc Cert.InprojLastRefIdeal.main_v164) = v1 c
          ∧ r.2.mem ((c.tc : Thread Cert.InprojLastRefIdeal.nD Cert.InprojLastRefIdeal.τ).loc Cert.InprojLastRefIdeal.main_v165) = v2 c
          ∧ r.2.mem ((c.tc : Thread Cert.InprojLastRefIdeal.nD Cert.InprojLastRefIdeal.τ).loc Cert.InprojLastRefIdeal.main_v166) = v3 c
          ∧ r.2.mem ((c.tc : Thread Cert.InprojLastRefIdeal.nD Cert.InprojLastRefIdeal.τ).loc Cert.InprojLastRefIdeal.main_v167) = v4 c
          ∧ r.2.mem ((c.tc : Thread Cert.InprojLastRefIdeal.nD Cert.InprojLastRefIdeal.τ).loc Cert.InprojLastRefIdeal.main_v168) = v5 c
          ∧ r.2.mem ((c.tc : Thread Cert.InprojLastRefIdeal.nD Cert.InprojLastRefIdeal.τ).loc Cert.InprojLastRefIdeal.main_v169) = v6 c
          ∧ r.2.mem ((c.tc : Thread Cert.InprojLastRefIdeal.nD Cert.InprojLastRefIdeal.τ).loc Cert.InprojLastRefIdeal.main_arg0) = m' ((c.tc : Thread Cert.InprojLastRefIdeal.nD Cert.InprojLastRefIdeal.τ).loc Cert.InprojLastRefIdeal.main_arg0)
          ∧ r.2.mem ((c.tc : Thread Cert.InprojLastRefIdeal.nD Cert.InprojLastRefIdeal.τ).loc Cert.InprojLastRefIdeal.main_arg1) = m' ((c.tc : Thread Cert.InprojLastRefIdeal.nD Cert.InprojLastRefIdeal.τ).loc Cert.InprojLastRefIdeal.main_arg1)
          ∧ r.2.mem ((c.tc : Thread Cert.InprojLastRefIdeal.nD Cert.InprojLastRefIdeal.τ).loc Cert.InprojLastRefIdeal.main_arg2) = m' ((c.tc : Thread Cert.InprojLastRefIdeal.nD Cert.InprojLastRefIdeal.τ).loc Cert.InprojLastRefIdeal.main_arg2)
          ∧ r.2.mem ((c.tc : Thread Cert.InprojLastRefIdeal.nD Cert.InprojLastRefIdeal.τ).loc Cert.InprojLastRefIdeal.main_arg3) = m' ((c.tc : Thread Cert.InprojLastRefIdeal.nD Cert.InprojLastRefIdeal.τ).loc Cert.InprojLastRefIdeal.main_arg3)
          ∧ r.2.mem ((c.tc : Thread Cert.InprojLastRefIdeal.nD Cert.InprojLastRefIdeal.τ).loc Cert.InprojLastRefIdeal.main_arg4) = m' ((c.tc : Thread Cert.InprojLastRefIdeal.nD Cert.InprojLastRefIdeal.τ).loc Cert.InprojLastRefIdeal.main_arg4)
          ∧ r.2.mem ((c.tc : Thread Cert.InprojLastRefIdeal.nD Cert.InprojLastRefIdeal.τ).loc Cert.InprojLastRefIdeal.main_arg5) = m' ((c.tc : Thread Cert.InprojLastRefIdeal.nD Cert.InprojLastRefIdeal.τ).loc Cert.InprojLastRefIdeal.main_arg5)
          ∧ r.2.mem ((c.tc : Thread Cert.InprojLastRefIdeal.nD Cert.InprojLastRefIdeal.τ).loc Cert.InprojLastRefIdeal.main_arg6) = m' ((c.tc : Thread Cert.InprojLastRefIdeal.nD Cert.InprojLastRefIdeal.τ).loc Cert.InprojLastRefIdeal.main_arg6)
          ∧ r.2.mem ((c.tc : Thread Cert.InprojLastRefIdeal.nD Cert.InprojLastRefIdeal.τ).loc Cert.InprojLastRefIdeal.main_arg7) = m' ((c.tc : Thread Cert.InprojLastRefIdeal.nD Cert.InprojLastRefIdeal.τ).loc Cert.InprojLastRefIdeal.main_arg7)
          ∧ r.2.mem ((c.tc : Thread Cert.InprojLastRefIdeal.nD Cert.InprojLastRefIdeal.τ).loc Cert.InprojLastRefIdeal.main_arg8) = m' ((c.tc : Thread Cert.InprojLastRefIdeal.nD Cert.InprojLastRefIdeal.τ).loc Cert.InprojLastRefIdeal.main_arg8)
          ∧ r.2.mem ((c.tc : Thread Cert.InprojLastRefIdeal.nD Cert.InprojLastRefIdeal.τ).loc Cert.InprojLastRefIdeal.main_arg9) = m' ((c.tc : Thread Cert.InprojLastRefIdeal.nD Cert.InprojLastRefIdeal.τ).loc Cert.InprojLastRefIdeal.main_arg9)
          ∧ r.2.mem ((c.tc : Thread Cert.InprojLastRefIdeal.nD Cert.InprojLastRefIdeal.τ).loc Cert.InprojLastRefIdeal.main_arg10) = m' ((c.tc : Thread Cert.InprojLastRefIdeal.nD Cert.InprojLastRefIdeal.τ).loc Cert.InprojLastRefIdeal.main_arg10)
          ∧ r.2.mem ((c.tc : Thread Cert.InprojLastRefIdeal.nD Cert.InprojLastRefIdeal.τ).loc Cert.InprojLastRefIdeal.main_arg11) = m' ((c.tc : Thread Cert.InprojLastRefIdeal.nD Cert.InprojLastRefIdeal.τ).loc Cert.InprojLastRefIdeal.main_arg11)
          ∧ r.2.mem ((c.tc : Thread Cert.InprojLastRefIdeal.nD Cert.InprojLastRefIdeal.τ).loc Cert.InprojLastRefIdeal.main_arg12) = m' ((c.tc : Thread Cert.InprojLastRefIdeal.nD Cert.InprojLastRefIdeal.τ).loc Cert.InprojLastRefIdeal.main_arg12)
          ∧ r.2.mem ((c.tc : Thread Cert.InprojLastRefIdeal.nD Cert.InprojLastRefIdeal.τ).loc Cert.InprojLastRefIdeal.main_arg13) = m' ((c.tc : Thread Cert.InprojLastRefIdeal.nD Cert.InprojLastRefIdeal.τ).loc Cert.InprojLastRefIdeal.main_arg13))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeRefIdeal : Cert.MergeRefIdeal.Facts) (hFirst : Cert.First.Facts) (hFirstIdeal : Cert.FirstIdeal.Facts) (hFirstRefIdeal : Cert.FirstRefIdeal.Facts) (hInproj : Cert.Inproj.Facts) (hInprojIdeal : Cert.InprojIdeal.Facts) (hInprojRefIdeal : Cert.InprojRefIdeal.Facts) (hInprojLast : Cert.InprojLast.Facts) (hInprojLastIdeal : Cert.InprojLastIdeal.Facts) (hInprojLastRefIdeal : Cert.InprojLastRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Merge (hMerge := hMerge)
    ∧ quiescent_MergeIdeal (hMergeIdeal := hMergeIdeal)
    ∧ quiescent_MergeRefIdeal (hMergeRefIdeal := hMergeRefIdeal)
    ∧ quiescent_First (hFirst := hFirst)
    ∧ quiescent_FirstIdeal (hFirstIdeal := hFirstIdeal)
    ∧ quiescent_FirstRefIdeal (hFirstRefIdeal := hFirstRefIdeal)
    ∧ quiescent_Inproj (hInproj := hInproj)
    ∧ quiescent_InprojIdeal (hInprojIdeal := hInprojIdeal)
    ∧ quiescent_InprojRefIdeal (hInprojRefIdeal := hInprojRefIdeal)
    ∧ quiescent_InprojLast (hInprojLast := hInprojLast)
    ∧ quiescent_InprojLastIdeal (hInprojLastIdeal := hInprojLastIdeal)
    ∧ quiescent_InprojLastRefIdeal (hInprojLastRefIdeal := hInprojLastRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Merge_MergeIdeal
    ∧ algebraic_MergeIdeal_MergeRefIdeal (hMergeIdeal := hMergeIdeal) (hMergeRefIdeal := hMergeRefIdeal)
    ∧ preserves_First_FirstIdeal
    ∧ algebraic_FirstIdeal_FirstRefIdeal (hFirstIdeal := hFirstIdeal) (hFirstRefIdeal := hFirstRefIdeal)
    ∧ preserves_Inproj_InprojIdeal
    ∧ algebraic_InprojIdeal_InprojRefIdeal (hInprojIdeal := hInprojIdeal) (hInprojRefIdeal := hInprojRefIdeal)
    ∧ preserves_InprojLast_InprojLastIdeal
    ∧ algebraic_InprojLastIdeal_InprojLastRefIdeal (hInprojLastIdeal := hInprojLastIdeal) (hInprojLastRefIdeal := hInprojLastRefIdeal)
-- ==== Pre_finite.lean ====
abbrev S8x4096x8x64 : Shape := ⟨4, ![8, 4096, 8, 64]⟩
abbrev S8x4096x8x32 : Shape := ⟨4, ![8, 4096, 8, 32]⟩
abbrev S8x256x8x64 : Shape := ⟨4, ![8, 256, 8, 64]⟩
abbrev S8x256x8x32 : Shape := ⟨4, ![8, 256, 8, 32]⟩
abbrev S8x4096x32 : Shape := ⟨3, ![8, 4096, 32]⟩
abbrev S8x256x32 : Shape := ⟨3, ![8, 256, 32]⟩
abbrev S_ : Shape := ⟨0, ![]⟩

class Facts : Prop where
  bcast_S_S8x4096x8x64 : S_.BroadcastsInDim S8x4096x8x64 (![] : Fin 0 → Fin S8x4096x8x64.rank)
  reducesTo_S8x4096x8x64_S_d0_1_2_3 : S8x4096x8x64.ReducesTo [0, 1, 2, 3] S_
  h_S_ : 0 < S_.numel
  bcast_S_S8x4096x8x32 : S_.BroadcastsInDim S8x4096x8x32 (![] : Fin 0 → Fin S8x4096x8x32.rank)
  reducesTo_S8x4096x8x32_S_d0_1_2_3 : S8x4096x8x32.ReducesTo [0, 1, 2, 3] S_
  bcast_S_S8x4096x32 : S_.BroadcastsInDim S8x4096x32 (![] : Fin 0 → Fin S8x4096x32.rank)
  reducesTo_S8x4096x32_S_d0_1_2 : S8x4096x32.ReducesTo [0, 1, 2] S_
  bcast_S_S8x256x8x64 : S_.BroadcastsInDim S8x256x8x64 (![] : Fin 0 → Fin S8x256x8x64.rank)
  reducesTo_S8x256x8x64_S_d0_1_2_3 : S8x256x8x64.ReducesTo [0, 1, 2, 3] S_
  bcast_S_S8x256x32 : S_.BroadcastsInDim S8x256x32 (![] : Fin 0 → Fin S8x256x32.rank)
  reducesTo_S8x256x32_S_d0_1_2 : S8x256x32.ReducesTo [0, 1, 2] S_

variable [Facts]

def fn_part1 {F : FTy → Type} [FloatOps F] (main_arg7 : FVec F S8x256x8x64 .f32) (main_arg8 : FVec F S8x256x32 .f32) (main_v13 : IVec S_ 1) (main_v16 : IVec S8x4096x32 1) : IVec S_ 1 :=
  let main_c_5 : IVec S_ 1 := constantI S_ 1 1#1
  let main_v17 : IVec S_ 1 := (fun x v => Host.reduce IntOp.andi x v reducesTo_S8x4096x32_S_d0_1_2 h_S_) main_v16 main_c_5
  let main_v18 : IVec S_ 1 := andi main_v13 main_v17
  let main_v19 : FVec F S8x256x8x64 .f32 := Host.absf main_arg7
  let main_cst_6 : FVec F S_ .f32 := constant S_ .f32 0x7F800000#32
  let main_v20 : FVec F S8x256x8x64 .f32 := broadcastInDim S8x256x8x64 ![] bcast_S_S8x256x8x64 main_cst_6
  let main_v21 : IVec S8x256x8x64 1 := cmpf .olt main_v19 main_v20
  let main_c_7 : IVec S_ 1 := constantI S_ 1 1#1
  let main_v22 : IVec S_ 1 := (fun x v => Host.reduce IntOp.andi x v reducesTo_S8x256x8x64_S_d0_1_2_3 h_S_) main_v21 main_c_7
  let main_v23 : IVec S_ 1 := andi main_v18 main_v22
  let main_v24 : FVec F S8x256x32 .f32 := Host.absf main_arg8
  let main_cst_8 : FVec F S_ .f32 := constant S_ .f32 0x7F800000#32
  let main_v25 : FVec F S8x256x32 .f32 := broadcastInDim S8x256x32 ![] bcast_S_S8x256x32 main_cst_8
  let main_v26 : IVec S8x256x32 1 := cmpf .olt main_v24 main_v25
  let main_c_9 : IVec S_ 1 := constantI S_ 1 1#1
  let main_v27 : IVec S_ 1 := (fun x v => Host.reduce IntOp.andi x v reducesTo_S8x256x32_S_d0_1_2 h_S_) main_v26 main_c_9
  let main_v28 : IVec S_ 1 := andi main_v23 main_v27
  main_v28

def fn {F : FTy → Type} [FloatOps F] (main_arg0 : FVec F S8x4096x8x64 .f32) (main_arg1 : FVec F S8x4096x8x32 .f32) (main_arg2 : FVec F S8x256x8x64 .f32) (main_arg3 : FVec F S8x256x8x32 .f32) (main_arg4 : FVec F S8x4096x8x64 .f32) (main_arg5 : FVec F S8x4096x32 .f32) (main_arg6 : FVec F S8x4096x8x64 .f32) (main_arg7 : FVec F S8x256x8x64 .f32) (main_arg8 : FVec F S8x256x32 .f32) (main_arg9 : FVec F S8x256x8x64 .f32) : IVec S_ 1 :=
  let main_v0 : FVec F S8x4096x8x64 .f32 := Host.absf main_arg0
  let main_cst : FVec F S_ .f32 := constant S_ .f32 0x7F800000#32
  let main_v1 : FVec F S8x4096x8x64 .f32 := broadcastInDim S8x4096x8x64 ![] bcast_S_S8x4096x8x64 main_cst
  let main_v2 : IVec S8x4096x8x64 1 := cmpf .olt main_v0 main_v1
  let main_c : IVec S_ 1 := constantI S_ 1 1#1
  let main_v3 : IVec S_ 1 := (fun x v => Host.reduce IntOp.andi x v reducesTo_S8x4096x8x64_S_d0_1_2_3 h_S_) main_v2 main_c
  let main_v4 : FVec F S8x4096x8x32 .f32 := Host.absf main_arg1
  let main_cst_0 : FVec F S_ .f32 := constant S_ .f32 0x7F800000#32
  let main_v5 : FVec F S8x4096x8x32 .f32 := broadcastInDim S8x4096x8x32 ![] bcast_S_S8x4096x8x32 main_cst_0
  let main_v6 : IVec S8x4096x8x32 1 := cmpf .olt main_v4 main_v5
  let main_c_1 : IVec S_ 1 := constantI S_ 1 1#1
  let main_v7 : IVec S_ 1 := (fun x v => Host.reduce IntOp.andi x v reducesTo_S8x4096x8x32_S_d0_1_2_3 h_S_) main_v6 main_c_1
  let main_v8 : IVec S_ 1 := andi main_v3 main_v7
  let main_v9 : FVec F S8x4096x8x64 .f32 := Host.absf main_arg4
  let main_cst_2 : FVec F S_ .f32 := constant S_ .f32 0x7F800000#32
  let main_v10 : FVec F S8x4096x8x64 .f32 := broadcastInDim S8x4096x8x64 ![] bcast_S_S8x4096x8x64 main_cst_2
  let main_v11 : IVec S8x4096x8x64 1 := cmpf .olt main_v9 main_v10
  let main_c_3 : IVec S_ 1 := constantI S_ 1 1#1
  let main_v12 : IVec S_ 1 := (fun x v => Host.reduce IntOp.andi x v reducesTo_S8x4096x8x64_S_d0_1_2_3 h_S_) main_v11 main_c_3
  let main_v13 : IVec S_ 1 := andi main_v8 main_v12
  let main_v14 : FVec F S8x4096x32 .f32 := Host.absf main_arg5
  let main_cst_4 : FVec F S_ .f32 := constant S_ .f32 0x7F800000#32
  let main_v15 : FVec F S8x4096x32 .f32 := broadcastInDim S8x4096x32 ![] bcast_S_S8x4096x32 main_cst_4
  let main_v16 : IVec S8x4096x32 1 := cmpf .olt main_v14 main_v15
  fn_part1 (F := F) main_arg7 main_arg8 main_v13 main_v16
-- ==== Kernel.lean ====
abbrev S8x4096x8x64 : Shape := ⟨4, ![8, 4096, 8, 64]⟩
abbrev S8x4096x8x32 : Shape := ⟨4, ![8, 4096, 8, 32]⟩
abbrev S8x256x8x64 : Shape := ⟨4, ![8, 256, 8, 64]⟩
abbrev S8x256x8x32 : Shape := ⟨4, ![8, 256, 8, 32]⟩
abbrev S8x4096x32 : Shape := ⟨3, ![8, 4096, 32]⟩
abbrev S8x256x32 : Shape := ⟨3, ![8, 256, 32]⟩
abbrev S_ : Shape := ⟨0, ![]⟩
abbrev S8x4096x8x128 : Shape := ⟨4, ![8, 4096, 8, 128]⟩
abbrev S8x4096x1024 : Shape := ⟨3, ![8, 4096, 1024]⟩
abbrev S8x256x8x128 : Shape := ⟨4, ![8, 256, 8, 128]⟩
abbrev S8x256x1024 : Shape := ⟨3, ![8, 256, 1024]⟩
abbrev S8x4352x1024 : Shape := ⟨3, ![8, 4352, 1024]⟩
abbrev S8x4096x1x32 : Shape := ⟨4, ![8, 4096, 1, 32]⟩
abbrev S8x256x1x32 : Shape := ⟨4, ![8, 256, 1, 32]⟩
abbrev S8x4096x512 : Shape := ⟨3, ![8, 4096, 512]⟩
abbrev S1x2048x256 : Shape := ⟨3, ![1, 2048, 256]⟩
abbrev S1x4352x256 : Shape := ⟨3, ![1, 4352, 256]⟩
abbrev S1x2048x128 : Shape := ⟨3, ![1, 2048, 128]⟩
abbrev S2x2048x128 : Shape := ⟨3, ![2, 2048, 128]⟩
abbrev S1x1024x256 : Shape := ⟨3, ![1, 1024, 256]⟩
abbrev S1024x256 : Shape := ⟨2, ![1024, 256]⟩
abbrev S2048x128 : Shape := ⟨2, ![2048, 128]⟩
abbrev S1024x128 : Shape := ⟨2, ![1024, 128]⟩
abbrev S2048x1024 : Shape := ⟨2, ![2048, 1024]⟩
abbrev S2048 : Shape := ⟨1, ![2048]⟩
abbrev S2048x1 : Shape := ⟨2, ![2048, 1]⟩
abbrev S1x1280x256 : Shape := ⟨3, ![1, 1280, 256]⟩
abbrev S1280x256 : Shape := ⟨2, ![1280, 256]⟩
abbrev S1280x128 : Shape := ⟨2, ![1280, 128]⟩
abbrev S2048x1280 : Shape := ⟨2, ![2048, 1280]⟩

abbrev nBuf : Space → Nat
  | .hbm => 52
  | .vmem => 10
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x8x32, .f32⟩
  | .hbm, ⟨2, _⟩ => ⟨S8x256x8x64, .f32⟩
  | .hbm, ⟨3, _⟩ => ⟨S8x256x8x32, .f32⟩
  | .hbm, ⟨4, _⟩ => ⟨S8x4096x8x64, .f32⟩
  | .hbm, ⟨5, _⟩ => ⟨S8x4096x32, .f32⟩
  | .hbm, ⟨6, _⟩ => ⟨S8x4096x8x64, .f32⟩
  | .hbm, ⟨7, _⟩ => ⟨S8x256x8x64, .f32⟩
  | .hbm, ⟨8, _⟩ => ⟨S8x256x32, .f32⟩
  | .hbm, ⟨9, _⟩ => ⟨S8x256x8x64, .f32⟩
  | .hbm, ⟨10, _⟩ => ⟨S_, .f32⟩
  | .hbm, ⟨11, _⟩ => ⟨S8x4096x8x32, .f32⟩
  | .hbm, ⟨12, _⟩ => ⟨S8x4096x8x128, .f32⟩
  | .hbm, ⟨13, _⟩ => ⟨S8x4096x1024, .f32⟩
  | .hbm, ⟨14, _⟩ => ⟨S_, .f32⟩
  | .hbm, ⟨15, _⟩ => ⟨S8x256x8x32, .f32⟩
  | .hbm, ⟨16, _⟩ => ⟨S8x256x8x128, .f32⟩
  | .hbm, ⟨17, _⟩ => ⟨S8x256x1024, .f32⟩
  | .hbm, ⟨18, _⟩ => ⟨S8x4352x1024, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S8x4352x1024, .f32⟩
  | .hbm, ⟨25, _⟩ => ⟨S8x4352x1024, .f32⟩
  | .hbm, ⟨26, _⟩ => ⟨S8x4352x1024, .bf16⟩
  | .hbm, ⟨27, _⟩ => ⟨S8x4096x1x32, .f32⟩
  | .hbm, ⟨28, _⟩ => ⟨S8x4096x8x32, .f32⟩
  | .hbm, ⟨29, _⟩ => ⟨S_, .f32⟩
  | .hbm, ⟨30, _⟩ => ⟨S8x4096x8x32, .f32⟩
  | .hbm, ⟨31, _⟩ => ⟨S8x4096x8x128, .f32⟩
  | .hbm, ⟨32, _⟩ => ⟨S8x4096x1024, .f32⟩
  | .hbm, ⟨33, _⟩ => ⟨S8x256x1x32, .f32⟩
  | .hbm, ⟨34, _⟩ => ⟨S8x256x8x32, .f32⟩
  | .hbm, ⟨35, _⟩ => ⟨S_, .f32⟩
  | .hbm, ⟨36, _⟩ => ⟨S8x256x8x32, .f32⟩
  | .hbm, ⟨37, _⟩ => ⟨S8x256x8x128, .f32⟩
  | .hbm, ⟨38, _⟩ => ⟨S8x256x1024, .f32⟩
  | .hbm, ⟨39, _⟩ => ⟨S8x4352x1024, .f32⟩
  | .hbm, ⟨40, _⟩ => ⟨S8x4352x1024, .bf16⟩
  | .hbm, ⟨41, _⟩ => ⟨S_, .f32⟩
  | .hbm, ⟨42, _⟩ => ⟨S8x4096x8x64, .f32⟩
  | .hbm, ⟨43, _⟩ => ⟨S8x4096x8x128, .f32⟩
  | .hbm, ⟨44, _⟩ => ⟨S8x4096x1024, .f32⟩
  | .hbm, ⟨45, _⟩ => ⟨S_, .f32⟩
  | .hbm, ⟨46, _⟩ => ⟨S8x256x8x64, .f32⟩
  | .hbm, ⟨47, _⟩ => ⟨S8x256x8x128, .f32⟩
  | .hbm, ⟨48, _⟩ => ⟨S8x256x1024, .f32⟩
  | .hbm, ⟨49, _⟩ => ⟨S8x4352x1024, .f32⟩
  | .hbm, ⟨50, _⟩ => ⟨S8x4352x1024, .bf16⟩
  | .hbm, ⟨51, _⟩ => ⟨S8x4096x512, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x4352x256, .bf16⟩
  | .local _ .vmem, ⟨3, _⟩ => ⟨S1x4352x256, .bf16⟩
  | .local _ .vmem, ⟨4, _⟩ => ⟨S1x4352x256, .bf16⟩
  | .local _ .vmem, ⟨5, _⟩ => ⟨S1x4352x256, .bf16⟩
  | .local _ .vmem, ⟨6, _⟩ => ⟨S1x2048x128, .bf16⟩
  | .local _ .vmem, ⟨7, _⟩ => ⟨S1x2048x128, .bf16⟩
  | .local _ .vmem, ⟨8, _⟩ => ⟨S2x2048x128, .f32⟩
  | .local _ .vmem, ⟨9, _⟩ => ⟨S2x2048x128, .f32⟩
  | _, _ => ⟨S8x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_cst_2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4352x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8x4096x8x64 : Shape := ⟨4, ![8, 4096, 8, 64]⟩
abbrev S8x4096x8x32 : Shape := ⟨4, ![8, 4096, 8, 32]⟩
abbrev S8x256x8x64 : Shape := ⟨4, ![8, 256, 8, 64]⟩
abbrev S8x256x8x32 : Shape := ⟨4, ![8, 256, 8, 32]⟩
abbrev S8x4096x32 : Shape := ⟨3, ![8, 4096, 32]⟩
abbrev S8x256x32 : Shape := ⟨3, ![8, 256, 32]⟩
abbrev S8x4352x8x64 : Shape := ⟨4, ![8, 4352, 8, 64]⟩
abbrev S8x4352x32 : Shape := ⟨3, ![8, 4352, 32]⟩
abbrev S8x8x4096x4352 : Shape := ⟨4, ![8, 8, 4096, 4352]⟩
abbrev S8x4352x4096x8 : Shape := ⟨4, ![8, 4352, 4096, 8]⟩
abbrev S_ : Shape := ⟨0, ![]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩
abbrev S8x4096x512 : Shape := ⟨3, ![8, 4096, 512]⟩

abbrev nBuf : Space → Nat
  | .hbm => 39
  | .vmem => 0
  | .smem => 0
  | _ => 0

abbrev bufTy : (tb : Table) → Fin (tcTables nBuf tb) → BufTy
  | .hbm, ⟨0, _⟩ => ⟨S8x4096x8x64, .f32⟩
  | .hbm, ⟨1, _⟩ => ⟨S8x4096x8x32, .f32⟩
  | .hbm, ⟨2, _⟩ => ⟨S8x256x8x64, .f32⟩
  | .hbm, ⟨3, _⟩ => ⟨S8x256x8x32, .f32⟩
  | .hbm, ⟨4, _⟩ => ⟨S8x4096x8x64, .f32⟩
  | .hbm, ⟨5, _⟩ => ⟨S8x4096x32, .f32⟩
  | .hbm, ⟨6, _⟩ => ⟨S8x4096x8x64, .f32⟩
  | .hbm, ⟨7, _⟩ => ⟨S8x256x8x64, .f32⟩
  | .hbm, ⟨8, _⟩ => ⟨S8x256x32, .f32⟩
  | .hbm, ⟨9, _⟩ => ⟨S8x256x8x64, .f32⟩
  | .hbm, ⟨10, _⟩ => ⟨S8x4352x8x64, .f32⟩
  | .hbm, ⟨11, _⟩ => ⟨S8x4352x32, .f32⟩
  | .hbm, ⟨12, _⟩ => ⟨S8x4352x8x64, .f32⟩
  | .hbm, ⟨13, _⟩ => ⟨S8x8x4096x4352, .f32⟩
  | .hbm, ⟨14, _⟩ => ⟨S8x4352x4096x8, .f32⟩
  | .hbm, ⟨15, _⟩ => ⟨S8x8x4096x4352, .f32⟩
  | .hbm, ⟨16, _⟩ => ⟨S8x8x4096x4352, .f32⟩
  | .hbm, ⟨17, _⟩ => ⟨S_, .f32⟩
  | .hbm, ⟨18, _⟩ => ⟨S_, .f32⟩
  | .hbm, ⟨19, _⟩ => ⟨S8x8x4096x4352, .f32⟩
  | .hbm, ⟨20, _⟩ => ⟨S8x8x4096x4352, .f32⟩
  | .hbm, ⟨21, _⟩ => ⟨S_, .f32⟩
  | .hbm, ⟨22, _⟩ => ⟨S8x8x4096, .f32⟩
  | .hbm, ⟨23, _⟩ => ⟨S_, .f32⟩
  | .hbm, ⟨24, _⟩ => ⟨S8x8x4096, .f32⟩
  | .hbm, ⟨25, _⟩ => ⟨S8x8x4096, .f32⟩
  | .hbm, ⟨26, _⟩ => ⟨S8x8x4096x1, .f32⟩
  | .hbm, ⟨27, _⟩ => ⟨S8x8x4096x4352, .f32⟩
  | .hbm, ⟨28, _⟩ => ⟨S8x8x4096x4352, .f32⟩
  | .hbm, ⟨29, _⟩ => ⟨S8x8x4096x4352, .f32⟩
  | .hbm, ⟨30, _⟩ => ⟨S_, .f32⟩
  | .hbm, ⟨31, _⟩ => ⟨S8x8x4096, .f32⟩
  | .hbm, ⟨32, _⟩ => ⟨S8x8x4096x1, .f32⟩
  | .hbm, ⟨33, _⟩ => ⟨S8x8x4096x4352, .f32⟩
  | .hbm, ⟨34, _⟩ => ⟨S8x8x4096x4352, .f32⟩
  | .hbm, ⟨35, _⟩ => ⟨S8x8x64x4096, .f32⟩
  | .hbm, ⟨36, _⟩ => ⟨S8x4096x8x64, .f32⟩
  | .hbm, ⟨37, _⟩ => ⟨S8x4096x512, .f32⟩
  | .hbm, ⟨38, _⟩ => ⟨S8x4096x512, .bf16⟩
  | _, _ => ⟨S8x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Merge.lean ====
abbrev S8x4096x1024 : Shape := ⟨3, ![8, 4096, 1024]⟩
abbrev S2x8x6144 : Shape := ⟨3, ![2, 8, 6144]⟩
abbrev S8x4096x512 : Shape := ⟨3, ![8, 4096, 512]⟩
abbrev S8x4x4096x128 : Shape := ⟨4, ![8, 4, 4096, 128]⟩
abbrev S8x4096x3072 : Shape := ⟨3, ![8, 4096, 3072]⟩
abbrev S2x128 : Shape := ⟨2, ![2, 128]⟩
abbrev S2x512x1024 : Shape := ⟨3, ![2, 512, 1024]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S_ : Shape := ⟨0, ![]⟩
abbrev S8x256x1024 : Shape := ⟨3, ![8, 256, 1024]⟩
abbrev S8x4352x1024 : Shape := ⟨3, ![8, 4352, 1024]⟩
abbrev S1x8x6144 : Shape := ⟨3, ![1, 8, 6144]⟩
abbrev S8x6144 : Shape := ⟨2, ![8, 6144]⟩
abbrev S16x6144 : Shape := ⟨2, ![16, 6144]⟩
abbrev S16x6x1024 : Shape := ⟨3, ![16, 6, 1024]⟩
abbrev S8x4096x4x128 : Shape := ⟨4, ![8, 4096, 4, 128]⟩
abbrev S8x256x512 : Shape := ⟨3, ![8, 256, 512]⟩
abbrev S8x4352x512 : Shape := ⟨3, ![8, 4352, 512]⟩
abbrev S8x256x3072 : Shape := ⟨3, ![8, 256, 3072]⟩
abbrev S8x4352x3072 : Shape := ⟨3, ![8, 4352, 3072]⟩
abbrev S1x128 : Shape := ⟨2, ![1, 128]⟩
abbrev S128 : Shape := ⟨1, ![128]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1024 : Shape := ⟨2, ![1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S1x256x1024 : Shape := ⟨3, ![1, 256, 1024]⟩
abbrev S1x6x1024 : Shape := ⟨3, ![1, 6, 1024]⟩
abbrev S1x256x512 : Shape := ⟨3, ![1, 256, 512]⟩
abbrev S1x256x3072 : Shape := ⟨3, ![1, 256, 3072]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S256x3072 : Shape := ⟨2, ![256, 3072]⟩
abbrev S256x1024 : Shape := ⟨2, ![256, 1024]⟩
abbrev S1x1x1024 : Shape := ⟨3, ![1, 1, 1024]⟩

abbrev nBuf : Space → Nat
  | .hbm => 91
  | .vmem => 33
  | .smem => 0
  | _ => 0

abbrev bufTy : (tb : Table) → Fin (tcTables nBuf tb) → BufTy
  | .hbm, ⟨0, _⟩ => ⟨S8x4096x1024, .f32⟩
  | .hbm, ⟨1, _⟩ => ⟨S2x8x6144, .f32⟩
  | .hbm, ⟨2, _⟩ => ⟨S8x4096x512, .f32⟩
  | .hbm, ⟨3, _⟩ => ⟨S8x4x4096x128, .f32⟩
  | .hbm, ⟨4, _⟩ => ⟨S8x4x4096x128, .f32⟩
  | .hbm, ⟨5, _⟩ => ⟨S8x4096x512, .f32⟩
  | .hbm, ⟨6, _⟩ => ⟨S8x4096x512, .f32⟩
  | .hbm, ⟨7, _⟩ => ⟨S8x4096x3072, .f32⟩
  | .hbm, ⟨8, _⟩ => ⟨S2x128, .f32⟩
  | .hbm, ⟨9, _⟩ => ⟨S2x512x1024, .f32⟩
  | .hbm, ⟨10, _⟩ => ⟨S2x512x1024, .f32⟩
  | .hbm, ⟨11, _⟩ => ⟨S2x512x1024, .f32⟩
  | .hbm, ⟨12, _⟩ => ⟨S2x1024x1024, .f32⟩
  | .hbm, ⟨13, _⟩ => ⟨S2x1024, .f32⟩
  | .hbm, ⟨14, _⟩ => ⟨S2x1024x4096, .f32⟩
  | .hbm, ⟨15, _⟩ => ⟨S2x4096x1024, .f32⟩
  | .hbm, ⟨16, _⟩ => ⟨S1024, .f32⟩
  | .hbm, ⟨17, _⟩ => ⟨S_, .f32⟩
  | .hbm, ⟨18, _⟩ => ⟨S8x256x1024, .f32⟩
  | .hbm, ⟨19, _⟩ => ⟨S8x4352x1024, .f32⟩
  | .hbm, ⟨20, _⟩ => ⟨S1x8x6144, .f32⟩
  | .hbm, ⟨21, _⟩ => ⟨S8x6144, .f32⟩
  | .hbm, ⟨22, _⟩ => ⟨S_, .f32⟩
  | .hbm, ⟨23, _⟩ => ⟨S8x6144, .f32⟩
  | .hbm, ⟨24, _⟩ => ⟨S16x6144, .f32⟩
  | .hbm, ⟨25, _⟩ => ⟨S16x6x1024, .f32⟩
  | .hbm, ⟨26, _⟩ => ⟨S8x4096x4x128, .f32⟩
  | .hbm, ⟨27, _⟩ => ⟨S8x4096x512, .f32⟩
  | .hbm, ⟨28, _⟩ => ⟨S_, .f32⟩
  | .hbm, ⟨29, _⟩ => ⟨S8x256x512, .f32⟩
  | .hbm, ⟨30, _⟩ => ⟨S8x4352x512, .f32⟩
  | .hbm, ⟨31, _⟩ => ⟨S8x4352x512, .bf16⟩
  | .hbm, ⟨32, _⟩ => ⟨S8x4x4096x128, .f32⟩
  | .hbm, ⟨33, _⟩ => ⟨S8x4096x4x128, .f32⟩
  | .hbm, ⟨34, _⟩ => ⟨S8x4096x512, .f32⟩
  | .hbm, ⟨35, _⟩ => ⟨S_, .f32⟩
  | .hbm, ⟨36, _⟩ => ⟨S8x256x512, .f32⟩
  | .hbm, ⟨37, _⟩ => ⟨S8x4352x512, .f32⟩
  | .hbm, ⟨38, _⟩ => ⟨S8x4352x512, .bf16⟩
  | .hbm, ⟨39, _⟩ => ⟨S8x4096x512, .bf16⟩
  | .hbm, ⟨40, _⟩ => ⟨S8x4096x512, .f32⟩
  | .hbm, ⟨41, _⟩ => ⟨S8x4096x512, .f32⟩
  | .hbm, ⟨42, _⟩ => ⟨S_, .f32⟩
  | .hbm, ⟨43, _⟩ => ⟨S8x4096x512, .f32⟩
  | .hbm, ⟨44, _⟩ => ⟨S8x4096x512, .f32⟩
  | .hbm, ⟨45, _⟩ => ⟨S_, .f32⟩
  | .hbm, ⟨46, _⟩ => ⟨S8x4096x512, .f32⟩
  | .hbm, ⟨47, _⟩ => ⟨S8x4096x512, .f32⟩
  | .hbm, ⟨48, _⟩ => ⟨S8x4096x512, .f32⟩
  | .hbm, ⟨49, _⟩ => ⟨S_, .f32⟩
  | .hbm, ⟨50, _⟩ => ⟨S8x256x512, .f32⟩
  | .hbm, ⟨51, _⟩ => ⟨S8x4352x512, .f32⟩
  | .hbm, ⟨52, _⟩ => ⟨S8x4352x512, .bf16⟩
  | .hbm, ⟨53, _⟩ => ⟨S8x4096x3072, .f32⟩
  | .hbm, ⟨54, _⟩ => ⟨S8x4096x3072, .f32⟩
  | .hbm, ⟨55, _⟩ => ⟨S_, .f32⟩
  | .hbm, ⟨56, _⟩ => ⟨S8x4096x3072, .f32⟩
  | .hbm, ⟨57, _⟩ => ⟨S8x4096x3072, .f32⟩
  | .hbm, ⟨58, _⟩ => ⟨S_, .f32⟩
  | .hbm, ⟨59, _⟩ => ⟨S8x4096x3072, .f32⟩
  | .hbm, ⟨60, _⟩ => ⟨S8x4096x3072, .f32⟩
  | .hbm, ⟨61, _⟩ => ⟨S_, .f32⟩
  | .hbm, ⟨62, _⟩ => ⟨S8x256x3072, .f32⟩
  | .hbm, ⟨63, _⟩ => ⟨S8x4352x3072, .f32⟩
  | .hbm, ⟨64, _⟩ => ⟨S8x4352x3072, .bf16⟩
  | .hbm, ⟨65, _⟩ => ⟨S1x128, .f32⟩
  | .hbm, ⟨66, _⟩ => ⟨S128, .f32⟩
  | .hbm, ⟨67, _⟩ => ⟨S1x512x1024, .f32⟩
  | .hbm, ⟨68, _⟩ => ⟨S512x1024, .f32⟩
  | .hbm, ⟨69, _⟩ => ⟨S1x512x1024, .f32⟩
  | .hbm, ⟨70, _⟩ => ⟨S512x1024, .f32⟩
  | .hbm, ⟨71, _⟩ => ⟨S1x512x1024, .f32⟩
  | .hbm, ⟨72, _⟩ => ⟨S512x1024, .f32⟩
  | .hbm, ⟨73, _⟩ => ⟨S1x1024x1024, .f32⟩
  | .hbm, ⟨74, _⟩ => ⟨S1024x1024, .f32⟩
  | .hbm, ⟨75, _⟩ => ⟨S1x1024, .f32⟩
  | .hbm, ⟨76, _⟩ => ⟨S1024, .f32⟩
  | .hbm, ⟨77, _⟩ => ⟨S1x1024x4096, .f32⟩
  | .hbm, ⟨78, _⟩ => ⟨S1024x4096, .f32⟩
  | .hbm, ⟨79, _⟩ => ⟨S1x4096x1024, .f32⟩
  | .hbm, ⟨80, _⟩ => ⟨S4096x1024, .f32⟩
  | .hbm, ⟨81, _⟩ => ⟨S1x128, .f32⟩
  | .hbm, ⟨82, _⟩ => ⟨S512x1024, .bf16⟩
  | .hbm, ⟨83, _⟩ => ⟨S512x1024, .bf16⟩
  | .hbm, ⟨84, _⟩ => ⟨S512x1024, .bf16⟩
  | .hbm, ⟨85, _⟩ => ⟨S1024x1024, .bf16⟩
  | .hbm, ⟨86, _⟩ => ⟨S1x1024, .f32⟩
  | .hbm, ⟨87, _⟩ => ⟨S1024x4096, .bf16⟩
  | .hbm, ⟨88, _⟩ => ⟨S4096x1024, .bf16⟩
  | .hbm, ⟨89, _⟩ => ⟨S1x1024, .f32⟩
  | .hbm, ⟨90, _⟩ => ⟨S8x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x6x1024, .f32⟩
  | .local _ .vmem, ⟨5, _⟩ => ⟨S1x6x1024, .f32⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S1x256x512, .f32⟩
  | .local _ .vmem, ⟨20, _⟩ => ⟨S1x256x3072, .bf16⟩
  | .local _ .vmem, ⟨21, _⟩ => ⟨S1x256x3072, .bf16⟩
  | .local _ .vmem, ⟨22, _⟩ => ⟨S1x128, .f32⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S1024x1024, .bf16⟩
  | .local _ .vmem, ⟨27, _⟩ => ⟨S1x1024, .f32⟩
  | .local _ .vmem, ⟨28, _⟩ => ⟨S1024x4096, .bf16⟩
  | .local _ .vmem, ⟨29, _⟩ => ⟨S4096x1024, .bf16⟩
  | .local _ .vmem, ⟨30, _⟩ => ⟨S1x1024, .f32⟩
  | .local _ .vmem, ⟨31, _⟩ => ⟨S1x256x1024, .f32⟩
  | .local _ .vmem, ⟨32, _⟩ => ⟨S1x256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_1 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_3 : Ref sig .tc := ⟨.hbm, 42, rfl⟩
abbrev main_v21 : Ref sig .tc := ⟨.hbm, 43, rfl⟩
abbrev main_v22 : Ref sig .tc := ⟨.hbm, 44, rfl⟩
abbrev main_cst_4 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_5 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_6 : Ref sig .tc := ⟨.hbm, 55, rfl⟩
abbrev main_v31 : Ref sig .tc := ⟨.hbm, 56, rfl⟩
abbrev main_v32 : Ref sig .tc := ⟨.hbm, 57, rfl⟩
abbrev main_cst_7 : Ref sig .tc := ⟨.hbm, 58, rfl⟩
abbrev main_v33 : Ref sig .tc := ⟨.hbm, 59, rfl⟩
abbrev main_v34 : Ref sig .tc := ⟨.hbm, 60, rfl⟩
abbrev main_cst_8 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg20_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem20_0 : DmaSem sig := 31
abbrev cc0_sem20_1 : DmaSem sig := 32

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  ![arg0.toNat, c16_i32.toNat, c0_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg1 c16_i32
  let c8_i32 : BitVec 32 := 8#32
  let v1 : BitVec 32 := Scalar.select v0 arg0 c8_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1024x4096 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S4096x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S1x256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== MergeRefIdeal.lean ====
abbrev S8x4096x1024 : Shape := ⟨3, ![8, 4096, 1024]⟩
abbrev S2x8x6144 : Shape := ⟨3, ![2, 8, 6144]⟩
abbrev S8x4096x512 : Shape := ⟨3, ![8, 4096, 512]⟩
abbrev S8x4x4096x128 : Shape := ⟨4, ![8, 4, 4096, 128]⟩
abbrev S8x4096x3072 : Shape := ⟨3, ![8, 4096, 3072]⟩
abbrev S2x128 : Shape := ⟨2, ![2, 128]⟩
abbrev S2x512x1024 : Shape := ⟨3, ![2, 512, 1024]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1x8x6144 : Shape := ⟨3, ![1, 8, 6144]⟩
abbrev S8x6144 : Shape := ⟨2, ![8, 6144]⟩
abbrev S8x1x6144 : Shape := ⟨3, ![8, 1, 6144]⟩
abbrev S8x1x1024 : Shape := ⟨3, ![8, 1, 1024]⟩
abbrev S1x128 : Shape := ⟨2, ![1, 128]⟩
abbrev S128 : Shape := ⟨1, ![128]⟩
abbrev S_ : Shape := ⟨0, ![]⟩
abbrev S8x4x4096 : Shape := ⟨3, ![8, 4, 4096]⟩
abbrev S8x4x4096x1 : Shape := ⟨4, ![8, 4, 4096, 1]⟩
abbrev S1x1x1x128 : Shape := ⟨4, ![1, 1, 1, 128]⟩
abbrev S8x4096x4x128 : Shape := ⟨4, ![8, 4096, 4, 128]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1024 : Shape := ⟨2, ![1, 1024]⟩
abbrev S8x4096 : Shape := ⟨2, ![8, 4096]⟩
abbrev S8x4096x1 : Shape := ⟨3, ![8, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S8x4096x4096 : Shape := ⟨3, ![8, 4096, 4096]⟩
abbrev S1x4096x1024 : Shape := ⟨3, ![1, 4096, 1024]⟩
abbrev S4096x1024 : Shape := ⟨2, ![4096, 1024]⟩

abbrev nBuf : Space → Nat
  | .hbm => 143
  | .vmem => 0
  | .smem => 0
  | _ => 0

abbrev hbmTy0_0 (i : Nat) : BufTy := match i % 128 with
  | 0 => ⟨S8x4096x1024, .f32⟩
  | 1 => ⟨S2x8x6144, .f32⟩
  | 2 => ⟨S8x4096x512, .f32⟩
  | 3 => ⟨S8x4x4096x128, .f32⟩
  | 4 => ⟨S8x4x4096x128, .f32⟩
  | 5 => ⟨S8x4096x512, .f32⟩
  | 6 => ⟨S8x4096x512, .f32⟩
  | 7 => ⟨S8x4096x3072, .f32⟩
  | 8 => ⟨S2x128, .f32⟩
  | 9 => ⟨S2x512x1024, .f32⟩
  | 10 => ⟨S2x512x1024, .f32⟩
  | 11 => ⟨S2x512x1024, .f32⟩
  | 12 => ⟨S2x1024x1024, .f32⟩
  | 13 => ⟨S2x1024, .f32⟩
  | 14 => ⟨S2x1024x4096, .f32⟩
  | 15 => ⟨S2x4096x1024, .f32⟩
  | 16 => ⟨S1024, .f32⟩
  | 17 => ⟨S1x8x6144, .f32⟩
  | 18 => ⟨S8x6144, .f32⟩
  | 19 => ⟨S8x1x6144, .f32⟩
  | 20 => ⟨S8x1x1024, .f32⟩
  | 21 => ⟨S8x1x1024, .f32⟩
  | 22 => ⟨S8x1x1024, .f32⟩
  | 23 => ⟨S8x1x1024, .f32⟩
  | 24 => ⟨S8x1x1024, .f32⟩
  | 25 => ⟨S8x1x1024, .f32⟩
  | 26 => ⟨S8x4x4096x128, .f32⟩
  | 27 => ⟨S8x4x4096x128, .f32⟩
  | 28 => ⟨S1x128, .f32⟩
  | 29 => ⟨S128, .f32⟩
  | 30 => ⟨S8x4x4096x128, .f32⟩
  | 31 => ⟨S_, .f32⟩
  | 32 => ⟨S8x4x4096, .f32⟩
  | 33 => ⟨S8x4x4096x1, .f32⟩
  | 34 => ⟨S_, .f32⟩
  | 35 => ⟨S8x4x4096x1, .f32⟩
  | 36 => ⟨S8x4x4096x1, .f32⟩
  | 37 => ⟨S_, .f32⟩
  | 38 => ⟨S8x4x4096x1, .f32⟩
  | 39 => ⟨S8x4x4096x1, .f32⟩
  | 40 => ⟨S8x4x4096x1, .f32⟩
  | 41 => ⟨S8x4x4096x128, .f32⟩
  | 42 => ⟨S8x4x4096x128, .f32⟩
  | 43 => ⟨S1x1x1x128, .f32⟩
  | 44 => ⟨S8x4x4096x128, .f32⟩
  | 45 => ⟨S8x4x4096x128, .f32⟩
  | 46 => ⟨S8x4096x4x128, .f32⟩
  | 47 => ⟨S8x4096x512, .f32⟩
  | 48 => ⟨S8x4096x512, .f32⟩
  | 49 => ⟨S8x4096x512, .f32⟩
  | 50 => ⟨S_, .f32⟩
  | 51 => ⟨S8x4096x512, .f32⟩
  | 52 => ⟨S8x4096x512, .f32⟩
  | 53 => ⟨S_, .f32⟩
  | 54 => ⟨S8x4096x512, .f32⟩
  | 55 => ⟨S8x4096x512, .f32⟩
  | 56 => ⟨S8x4096x512, .f32⟩
  | 57 => ⟨S8x4096x512, .f32⟩
  | 58 => ⟨S8x4096x3072, .f32⟩
  | 59 => ⟨S8x4096x3072, .f32⟩
  | 60 => ⟨S_, .f32⟩
  | 61 => ⟨S8x4096x3072, .f32⟩
  | 62 => ⟨S8x4096x3072, .f32⟩
  | 63 => ⟨S_, .f32⟩
  | 64 => ⟨S8x4096x3072, .f32⟩
  | 65 => ⟨S8x4096x3072, .f32⟩
  | 66 => ⟨S8x4096x1024, .f32⟩
  | 67 => ⟨S8x4096x1024, .f32⟩
  | 68 => ⟨S8x4096x1024, .f32⟩
  | 69 => ⟨S1x512x1024, .f32⟩
  | 70 => ⟨S512x1024, .f32⟩
  | 71 => ⟨S8x4096x1024, .f32⟩
  | 72 => ⟨S8x4096x1024, .f32⟩
  | 73 => ⟨S1x512x1024, .f32⟩
  | 74 => ⟨S512x1024, .f32⟩
  | 75 => ⟨S8x4096x1024, .f32⟩
  | 76 => ⟨S8x4096x1024, .f32⟩
  | 77 => ⟨S8x4096x1024, .f32⟩
  | 78 => ⟨S1x512x1024, .f32⟩
  | 79 => ⟨S512x1024, .f32⟩
  | 80 => ⟨S8x4096x1024, .f32⟩
  | 81 => ⟨S8x4096x1024, .f32⟩
  | 82 => ⟨S8x4096x1024, .f32⟩
  | 83 => ⟨S1x1024x1024, .f32⟩
  | 84 => ⟨S1024x1024, .f32⟩
  | 85 => ⟨S8x4096x1024, .f32⟩
  | 86 => ⟨S8x4096x1024, .f32⟩
  | 87 => ⟨S8x4096x1024, .f32⟩
  | 88 => ⟨S8x4096x1024, .f32⟩
  | 89 => ⟨S1x1024, .f32⟩
  | 90 => ⟨S1024, .f32⟩
  | 91 => ⟨S8x4096x1024, .f32⟩
  | 92 => ⟨S_, .f32⟩
  | 93 => ⟨S8x4096, .f32⟩
  | 94 => ⟨S8x4096x1, .f32⟩
  | 95 => ⟨S_, .f32⟩
  | 96 => ⟨S8x4096x1, .f32⟩
  | 97 => ⟨S8x4096x1, .f32⟩
  | 98 => ⟨S_, .f32⟩
  | 99 => ⟨S8x4096x1, .f32⟩
  | 100 => ⟨S8x4096x1, .f32⟩
  | 101 => ⟨S8x4096x1, .f32⟩
  | 102 => ⟨S8x4096x1024, .f32⟩
  | 103 => ⟨S8x4096x1024, .f32⟩
  | 104 => ⟨S1x1x1024, .f32⟩
  | 105 => ⟨S8x4096x1024, .f32⟩
  | 106 => ⟨S8x4096x1024, .f32⟩
  | 107 => ⟨S_, .f32⟩
  | 108 => ⟨S8x1x1024, .f32⟩
  | 109 => ⟨S8x1x1024, .f32⟩
  | 110 => ⟨S8x4096x1024, .f32⟩
  | 111 => ⟨S8x4096x1024, .f32⟩
  | 112 => ⟨S8x4096x1024, .f32⟩
  | 113 => ⟨S8x4096x1024, .f32⟩
  | 114 => ⟨S1x1024x4096, .f32⟩
  | 115 => ⟨S1024x4096, .f32⟩
  | 116 => ⟨S8x4096x4096, .f32⟩
  | 117 => ⟨S_, .f32⟩
  | 118 => ⟨S8x4096x4096, .f32⟩
  | 119 => ⟨S8x4096x4096, .f32⟩
  | 120 => ⟨S8x4096x4096, .f32⟩
  | 121 => ⟨S1x4096x1024, .f32⟩
  | 122 => ⟨S4096x1024, .f32⟩
  | 123 => ⟨S8x4096x1024, .f32⟩
  | 124 => ⟨S8x4096x1024, .f32⟩
  | 125 => ⟨S8x4096x1024, .f32⟩
  | 126 => ⟨S8x4096x1024, .f32⟩
  | 127 => ⟨S8x4096x1024, .f32⟩
  | _ => ⟨S8x4096x1024, .f32⟩

abbrev hbmTy0_1 (i : Nat) : BufTy := match i % 128 with
  | 0 => ⟨S_, .f32⟩
  | 1 => ⟨S8x4096, .f32⟩
  | 2 => ⟨S8x4096x1, .f32⟩
  | 3 => ⟨S_, .f32⟩
  | 4 => ⟨S8x4096x1, .f32⟩
  | 5 => ⟨S8x4096x1, .f32⟩
  | 6 => ⟨S_, .f32⟩
  | 7 => ⟨S8x4096x1, .f32⟩
  | 8 => ⟨S8x4096x1, .f32⟩
  | 9 => ⟨S8x4096x1, .f32⟩
  | 10 => ⟨S8x4096x1024, .f32⟩
  | 11 => ⟨S8x4096x1024, .f32⟩
  | 12 => ⟨S1x1x1024, .f32⟩
  | 13 => ⟨S8x4096x1024, .f32⟩
  | 14 => ⟨S8x4096x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_v15 : Ref sig .tc := ⟨.hbm, 33, rfl⟩
abbrev main_cst_0 : Ref sig .tc := ⟨.hbm, 34, rfl⟩
abbrev main_v16 : Ref sig .tc := ⟨.hbm, 35, rfl⟩
abbrev main_v17 : Ref sig .tc := ⟨.hbm, 36, rfl⟩
abbrev main_cst_1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_call1_v0 : Ref sig .tc := ⟨.hbm, 48, rfl⟩
abbrev main_call1_v1 : Ref sig .tc := ⟨.hbm, 49, rfl⟩
abbrev main_call1_cst : Ref sig .tc := ⟨.hbm, 50, rfl⟩
abbrev main_call1_v2 : Ref sig .tc := ⟨.hbm, 51, rfl⟩
abbrev main_call1_v3 : Ref sig .tc := ⟨.hbm, 52, rfl⟩
abbrev main_call1_cst_0 : Ref sig .tc := ⟨.hbm, 53, rfl⟩
abbrev main_call1_v4 : Ref sig .tc := ⟨.hbm, 54, rfl⟩
abbrev main_call1_v5 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_2 : Ref sig .tc := ⟨.hbm, 60, rfl⟩
abbrev main_v32 : Ref sig .tc := ⟨.hbm, 61, rfl⟩
abbrev main_v33 : Ref sig .tc := ⟨.hbm, 62, rfl⟩
abbrev main_cst_3 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_4 : Ref sig .tc := ⟨.hbm, 92, rfl⟩
abbrev main_v62 : Ref sig .tc := ⟨.hbm, 93, rfl⟩
abbrev main_v63 : Ref sig .tc := ⟨.hbm, 94, rfl⟩
abbrev main_cst_5 : Ref sig .tc := ⟨.hbm, 95, rfl⟩
abbrev main_v64 : Ref sig .tc := ⟨.hbm, 96, rfl⟩
abbrev main_v65 : Ref sig .tc := ⟨.hbm, 97, rfl⟩
abbrev main_cst_6 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_7 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_call2_cst : Ref sig .tc := ⟨.hbm, 117, rfl⟩
abbrev main_call2_v0 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_8 : Ref sig .tc := ⟨.hbm, 128, rfl⟩
abbrev main_v92 : Ref sig .tc := ⟨.hbm, 129, rfl⟩
abbrev main_v93 : Ref sig .tc := ⟨.hbm, 130, rfl⟩
abbrev main_cst_9 : Ref sig .tc := ⟨.hbm, 131, rfl⟩
abbrev main_v94 : Ref sig .tc := ⟨.hbm, 132, rfl⟩
abbrev main_v95 : Ref sig .tc := ⟨.hbm, 133, rfl⟩
abbrev main_cst_10 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩

abbrev nD : Nat := 1
abbrev τ : Topo := Topo.v7x

variable {F : FTy → Type} [FloatOps F]
-- ==== First.lean ====
abbrev S8x4096x1024 : Shape := ⟨3, ![8, 4096, 1024]⟩
abbrev S8x256x1024 : Shape := ⟨3, ![8, 256, 1024]⟩
abbrev S2x8x6144 : Shape := ⟨3, ![2, 8, 6144]⟩
abbrev S2x6144 : Shape := ⟨2, ![2, 6144]⟩
abbrev S8x4096x512 : Shape := ⟨3, ![8, 4096, 512]⟩
abbrev S8x256x512 : Shape := ⟨3, ![8, 256, 512]⟩
abbrev S8x4x4096x128 : Shape := ⟨4, ![8, 4, 4096, 128]⟩
abbrev S8x4x256x128 : Shape := ⟨4, ![8, 4, 256, 128]⟩
abbrev S8x4096x3072 : Shape := ⟨3, ![8, 4096, 3072]⟩
abbrev S8x256x3072 : Shape := ⟨3, ![8, 256, 3072]⟩
abbrev S2x128 : Shape := ⟨2, ![2, 128]⟩
abbrev S2x512x1024 : Shape := ⟨3, ![2, 512, 1024]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1x8x6144 : Shape := ⟨3, ![1, 8, 6144]⟩
abbrev S8x6144 : Shape := ⟨2, ![8, 6144]⟩
abbrev S1x6144 : Shape := ⟨2, ![1, 6144]⟩
abbrev S6144 : Shape := ⟨1, ![6144]⟩
abbrev S_ : Shape := ⟨0, ![]⟩
abbrev S7x6144 : Shape := ⟨2, ![7, 6144]⟩
abbrev S16x6144 : Shape := ⟨2, ![16, 6144]⟩
abbrev S16x6x1024 : Shape := ⟨3, ![16, 6, 1024]⟩
abbrev S8x4096x4x128 : Shape := ⟨4, ![8, 4096, 4, 128]⟩
abbrev S8x256x4x128 : Shape := ⟨4, ![8, 256, 4, 128]⟩
abbrev S8x4352x512 : Shape := ⟨3, ![8, 4352, 512]⟩
abbrev S8x4352x3072 : Shape := ⟨3, ![8, 4352, 3072]⟩
abbrev S1x128 : Shape := ⟨2, ![1, 128]⟩
abbrev S128 : Shape := ⟨1, ![128]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1024 : Shape := ⟨2, ![1, 1024]⟩
abbrev S1x1024x4096 : Shape := ⟨3, ![1, 1024, 4096]⟩
abbrev S1024x4096 : Shape := ⟨2, ![1024, 4096]⟩
abbrev S1x4096x1024 : Shape := ⟨3, ![1, 4096, 1024]⟩
abbrev S4096x1024 : Shape := ⟨2, ![4096, 1024]⟩
abbrev S8x4352x1024 : Shape := ⟨3, ![8, 4352, 1024]⟩
abbrev S1x256x1024 : Shape := ⟨3, ![1, 256, 1024]⟩
abbrev S1x6x1024 : Shape := ⟨3, ![1, 6, 1024]⟩
abbrev S1x256x512 : Shape := ⟨3, ![1, 256, 512]⟩
abbrev S1x256x3072 : Shape := ⟨3, ![1, 256, 3072]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S256x3072 : Shape := ⟨2, ![256, 3072]⟩
abbrev S256x1024 : Shape := ⟨2, ![256, 1024]⟩
abbrev S1x1x1024 : Shape := ⟨3, ![1, 1, 1024]⟩

abbrev nBuf : Space → Nat
  | .hbm => 97
  | .vmem => 33
  | .smem => 0
  | _ => 0

abbrev bufTy : (tb : Table) → Fin (tcTables nBuf tb) → BufTy
  | .hbm, ⟨0, _⟩ => ⟨S8x4096x1024, .f32⟩
  | .hbm, ⟨1, _⟩ => ⟨S8x256x1024, .f32⟩
  | .hbm, ⟨2, _⟩ => ⟨S2x8x6144, .f32⟩
  | .hbm, ⟨3, _⟩ => ⟨S2x6144, .f32⟩
  | .hbm, ⟨4, _⟩ => ⟨S8x4096x512, .f32⟩
  | .hbm, ⟨5, _⟩ => ⟨S8x256x512, .f32⟩
  | .hbm, ⟨6, _⟩ => ⟨S8x4x4096x128, .f32⟩
  | .hbm, ⟨7, _⟩ => ⟨S8x4x4096x128, .f32⟩
  | .hbm, ⟨8, _⟩ => ⟨S8x4x256x128, .f32⟩
  | .hbm, ⟨9, _⟩ => ⟨S8x4x256x128, .f32⟩
  | .hbm, ⟨10, _⟩ => ⟨S8x4096x512, .f32⟩
  | .hbm, ⟨11, _⟩ => ⟨S8x256x512, .f32⟩
  | .hbm, ⟨12, _⟩ => ⟨S8x4096x512, .f32⟩
  | .hbm, ⟨13, _⟩ => ⟨S8x256x512, .f32⟩
  | .hbm, ⟨14, _⟩ => ⟨S8x4096x3072, .f32⟩
  | .hbm, ⟨15, _⟩ => ⟨S8x256x3072, .f32⟩
  | .hbm, ⟨16, _⟩ => ⟨S2x128, .f32⟩
  | .hbm, ⟨17, _⟩ => ⟨S2x512x1024, .f32⟩
  | .hbm, ⟨18, _⟩ => ⟨S2x512x1024, .f32⟩
  | .hbm, ⟨19, _⟩ => ⟨S2x512x1024, .f32⟩
  | .hbm, ⟨20, _⟩ => ⟨S2x1024x1024, .f32⟩
  | .hbm, ⟨21, _⟩ => ⟨S2x1024, .f32⟩
  | .hbm, ⟨22, _⟩ => ⟨S2x1024x4096, .f32⟩
  | .hbm, ⟨23, _⟩ => ⟨S2x4096x1024, .f32⟩
  | .hbm, ⟨24, _⟩ => ⟨S1024, .f32⟩
  | .hbm, ⟨25, _⟩ => ⟨S1x8x6144, .f32⟩
  | .hbm, ⟨26, _⟩ => ⟨S8x6144, .f32⟩
  | .hbm, ⟨27, _⟩ => ⟨S1x6144, .f32⟩
  | .hbm, ⟨28, _⟩ => ⟨S6144, .f32⟩
  | .hbm, ⟨29, _⟩ => ⟨S1x6144, .f32⟩
  | .hbm, ⟨30, _⟩ => ⟨S_, .f32⟩
  | .hbm, ⟨31, _⟩ => ⟨S7x6144, .f32⟩
  | .hbm, ⟨32, _⟩ => ⟨S16x6144, .f32⟩
  | .hbm, ⟨33, _⟩ => ⟨S16x6x1024, .f32⟩
  | .hbm, ⟨34, _⟩ => ⟨S8x4096x4x128, .f32⟩
  | .hbm, ⟨35, _⟩ => ⟨S8x4096x512, .f32⟩
  | .hbm, ⟨36, _⟩ => ⟨S8x256x4x128, .f32⟩
  | .hbm, ⟨37, _⟩ => ⟨S8x256x512, .f32⟩
  | .hbm, ⟨38, _⟩ => ⟨S8x4352x512, .f32⟩
  | .hbm, ⟨39, _⟩ => ⟨S8x4352x512, .bf16⟩
  | .hbm, ⟨40, _⟩ => ⟨S8x4x4096x128, .f32⟩
  | .hbm, ⟨41, _⟩ => ⟨S8x4096x4x128, .f32⟩
  | .hbm, ⟨42, _⟩ => ⟨S8x4096x512, .f32⟩
  | .hbm, ⟨43, _⟩ => ⟨S8x4x256x128, .f32⟩
  | .hbm, ⟨44, _⟩ => ⟨S8x256x4x128, .f32⟩
  | .hbm, ⟨45, _⟩ => ⟨S8x256x512, .f32⟩
  | .hbm, ⟨46, _⟩ => ⟨S8x4352x512, .f32⟩
  | .hbm, ⟨47, _⟩ => ⟨S8x4352x512, .bf16⟩
  | .hbm, ⟨48, _⟩ => ⟨S8x4352x512, .f32⟩
  | .hbm, ⟨49, _⟩ => ⟨S8x4352x3072, .f32⟩
  | .hbm, ⟨50, _⟩ => ⟨S8x4096x512, .bf16⟩
  | .hbm, ⟨51, _⟩ => ⟨S8x256x512, .bf16⟩
  | .hbm, ⟨52, _⟩ => ⟨S8x4352x512, .f32⟩
  | .hbm, ⟨53, _⟩ => ⟨S8x4352x512, .f32⟩
  | .hbm, ⟨54, _⟩ => ⟨S_, .f32⟩
  | .hbm, ⟨55, _⟩ => ⟨S8x4352x512, .f32⟩
  | .hbm, ⟨56, _⟩ => ⟨S8x4352x512, .f32⟩
  | .hbm, ⟨57, _⟩ => ⟨S_, .f32⟩
  | .hbm, ⟨58, _⟩ => ⟨S8x4352x512, .f32⟩
  | .hbm, ⟨59, _⟩ => ⟨S8x4352x512, .f32⟩
  | .hbm, ⟨60, _⟩ => ⟨S8x4352x512, .f32⟩
  | .hbm, ⟨61, _⟩ => ⟨S8x4352x512, .bf16⟩
  | .hbm, ⟨62, _⟩ => ⟨S8x4352x3072, .f32⟩
  | .hbm, ⟨63, _⟩ => ⟨S8x4352x3072, .f32⟩
  | .hbm, ⟨64, _⟩ => ⟨S_, .f32⟩
  | .hbm, ⟨65, _⟩ => ⟨S8x4352x3072, .f32⟩
  | .hbm, ⟨66, _⟩ => ⟨S8x4352x3072, .f32⟩
  | .hbm, ⟨67, _⟩ => ⟨S_, .f32⟩
  | .hbm, ⟨68, _⟩ => ⟨S8x4352x3072, .f32⟩
  | .hbm, ⟨69, _⟩ => ⟨S8x4352x3072, .f32⟩
  | .hbm, ⟨70, _⟩ => ⟨S8x4352x3072, .bf16⟩
  | .hbm, ⟨71, _⟩ => ⟨S1x128, .f32⟩
  | .hbm, ⟨72, _⟩ => ⟨S128, .f32⟩
  | .hbm, ⟨73, _⟩ => ⟨S1x512x1024, .f32⟩
  | .hbm, ⟨74, _⟩ => ⟨S512x1024, .f32⟩
  | .hbm, ⟨75, _⟩ => ⟨S1x512x1024, .f32⟩
  | .hbm, ⟨76, _⟩ => ⟨S512x1024, .f32⟩
  | .hbm, ⟨77, _⟩ => ⟨S1x512x1024, .f32⟩
  | .hbm, ⟨78, _⟩ => ⟨S512x1024, .f32⟩
  | .hbm, ⟨79, _⟩ => ⟨S1x1024x1024, .f32⟩
  | .hbm, ⟨80, _⟩ => ⟨S1024x1024, .f32⟩
  | .hbm, ⟨81, _⟩ => ⟨S1x1024, .f32⟩
  | .hbm, ⟨82, _⟩ => ⟨S1024, .f32⟩
  | .hbm, ⟨83, _⟩ => ⟨S1x1024x4096, .f32⟩
  | .hbm, ⟨84, _⟩ => ⟨S1024x4096, .f32⟩
  | .hbm, ⟨85, _⟩ => ⟨S1x4096x1024, .f32⟩
  | .hbm, ⟨86, _⟩ => ⟨S4096x1024, .f32⟩
  | .hbm, ⟨87, _⟩ => ⟨S1x128, .f32⟩
  | .hbm, ⟨88, _⟩ => ⟨S512x1024, .bf16⟩
  | .hbm, ⟨89, _⟩ => ⟨S512x1024, .bf16⟩
  | .hbm, ⟨90, _⟩ => ⟨S512x1024, .bf16⟩
  | .hbm, ⟨91, _⟩ => ⟨S1024x1024, .bf16⟩
  | .hbm, ⟨92, _⟩ => ⟨S1x1024, .f32⟩
  | .hbm, ⟨93, _⟩ => ⟨S1024x4096, .bf16⟩
  | .hbm, ⟨94, _⟩ => ⟨S4096x1024, .bf16⟩
  | .hbm, ⟨95, _⟩ => ⟨S1x1024, .f32⟩
  | .hbm, ⟨96, _⟩ => ⟨S8x4352x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x6x1024, .f32⟩
  | .local _ .vmem, ⟨5, _⟩ => ⟨S1x6x1024, .f32⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S1x256x512, .f32⟩
  | .local _ .vmem, ⟨20, _⟩ => ⟨S1x256x3072, .bf16⟩
  | .local _ .vmem, ⟨21, _⟩ => ⟨S1x256x3072, .bf16⟩
  | .local _ .vmem, ⟨22, _⟩ => ⟨S1x128, .f32⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S1024x1024, .bf16⟩
  | .local _ .vmem, ⟨27, _⟩ => ⟨S1x1024, .f32⟩
  | .local _ .vmem, ⟨28, _⟩ => ⟨S1024x4096, .bf16⟩
  | .local _ .vmem, ⟨29, _⟩ => ⟨S4096x1024, .bf16⟩
  | .local _ .vmem, ⟨30, _⟩ => ⟨S1x1024, .f32⟩
  | .local _ .vmem, ⟨31, _⟩ => ⟨S1x256x1024, .f32⟩
  | .local _ .vmem, ⟨32, _⟩ => ⟨S1x256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_cst : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst_0 : Ref sig .tc := ⟨.hbm, 54, rfl⟩
abbrev main_v28 : Ref sig .tc := ⟨.hbm, 55, rfl⟩
abbrev main_v29 : Ref sig .tc := ⟨.hbm, 56, rfl⟩
abbrev main_cst_1 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_2 : Ref sig .tc := ⟨.hbm, 64, rfl⟩
abbrev main_v36 : Ref sig .tc := ⟨.hbm, 65, rfl⟩
abbrev main_v37 : Ref sig .tc := ⟨.hbm, 66, rfl⟩
abbrev main_cst_3 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg20_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem20_0 : DmaSem sig := 31
abbrev cc0_sem20_1 : DmaSem sig := 32

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg1 c16_i32
  let c8_i32 : BitVec 32 := 8#32
  let v1 : BitVec 32 := Scalar.select v0 arg0 c8_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1024x4096 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S4096x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S1x256x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== FirstRefIdeal.lean ====
abbrev S8x4096x1024 : Shape := ⟨3, ![8, 4096, 1024]⟩
abbrev S8x256x1024 : Shape := ⟨3, ![8, 256, 1024]⟩
abbrev S2x8x6144 : Shape := ⟨3, ![2, 8, 6144]⟩
abbrev S2x6144 : Shape := ⟨2, ![2, 6144]⟩
abbrev S8x4096x512 : Shape := ⟨3, ![8, 4096, 512]⟩
abbrev S8x256x512 : Shape := ⟨3, ![8, 256, 512]⟩
abbrev S8x4x4096x128 : Shape := ⟨4, ![8, 4, 4096, 128]⟩
abbrev S8x4x256x128 : Shape := ⟨4, ![8, 4, 256, 128]⟩
abbrev S8x4096x3072 : Shape := ⟨3, ![8, 4096, 3072]⟩
abbrev S8x256x3072 : Shape := ⟨3, ![8, 256, 3072]⟩
abbrev S2x128 : Shape := ⟨2, ![2, 128]⟩
abbrev S2x512x1024 : Shape := ⟨3, ![2, 512, 1024]⟩
abbrev S2x1024x1024 : Shape := ⟨3, ![2, 1024, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1024 : Shape := ⟨1, ![1024]⟩
abbrev S1x8x6144 : Shape := ⟨3, ![1, 8, 6144]⟩
abbrev S8x6144 : Shape := ⟨2, ![8, 6144]⟩
abbrev S8x1x6144 : Shape := ⟨3, ![8, 1, 6144]⟩
abbrev S8x1x1024 : Shape := ⟨3, ![8, 1, 1024]⟩
abbrev S1x128 : Shape := ⟨2, ![1, 128]⟩
abbrev S128 : Shape := ⟨1, ![128]⟩
abbrev S_ : Shape := ⟨0, ![]⟩
abbrev S8x4x4096 : Shape := ⟨3, ![8, 4, 4096]⟩
abbrev S8x4x4096x1 : Shape := ⟨4, ![8, 4, 4096, 1]⟩
abbrev S1x1x1x128 : Shape := ⟨4, ![1, 1, 1, 128]⟩
abbrev S8x4096x4x128 : Shape := ⟨4, ![8, 4096, 4, 128]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S1x1024 : Shape := ⟨2, ![1, 1024]⟩
abbrev S8x4096 : Shape := ⟨2, ![8, 4096]⟩
abbrev S8x4096x1 : Shape := ⟨3, ![8, 4096, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S8x4096x4096 : Shape := ⟨3, ![8, 4096, 4096]⟩
abbrev S1x4096x1024 : Shape := ⟨3, ![1, 4096, 1024]⟩
abbrev S4096x1024 : Shape := ⟨2, ![4096, 1024]⟩
abbrev S1x6144 : Shape := ⟨2, ![1, 6144]⟩
abbrev S6144 : Shape := ⟨1, ![6144]⟩
abbrev S8x4x256 : Shape := ⟨3, ![8, 4, 256]⟩
abbrev S8x4x256x1 : Shape := ⟨4, ![8, 4, 256, 1]⟩
abbrev S8x256x4x128 : Shape := ⟨4, ![8, 256, 4, 128]⟩
abbrev S8x256 : Shape := ⟨2, ![8, 256]⟩
abbrev S8x256x1 : Shape := ⟨3, ![8, 256, 1]⟩
abbrev S8x256x4096 : Shape := ⟨3, ![8, 256, 4096]⟩
abbrev S8x4352x1024 : Shape := ⟨3, ![8, 4352, 1024]⟩

abbrev nBuf : Space → Nat
  | .hbm => 249
  | .vmem => 0
  | .smem => 0
  | _ => 0

abbrev hbmTy0_0 (i : Nat) : BufTy := match i % 128 with
  | 0 => ⟨S8x4096x1024, .f32⟩
  | 1 => ⟨S8x256x1024, .f32⟩
  | 2 => ⟨S2x8x6144, .f32⟩
  | 3 => ⟨S2x6144, .f32⟩
  | 4 => ⟨S8x4096x512, .f32⟩
  | 5 => ⟨S8x256x512, .f32⟩
  | 6 => ⟨S8x4x4096x128, .f32⟩
  | 7 => ⟨S8x4x4096x128, .f32⟩
  | 8 => ⟨S8x4x256x128, .f32⟩
  | 9 => ⟨S8x4x256x128, .f32⟩
  | 10 => ⟨S8x4096x512, .f32⟩
  | 11 => ⟨S8x256x512, .f32⟩
  | 12 => ⟨S8x4096x512, .f32⟩
  | 13 => ⟨S8x256x512, .f32⟩
  | 14 => ⟨S8x4096x3072, .f32⟩
  | 15 => ⟨S8x256x3072, .f32⟩
  | 16 => ⟨S2x128, .f32⟩
  | 17 => ⟨S2x512x1024, .f32⟩
  | 18 => ⟨S2x512x1024, .f32⟩
  | 19 => ⟨S2x512x1024, .f32⟩
  | 20 => ⟨S2x1024x1024, .f32⟩
  | 21 => ⟨S2x1024, .f32⟩
  | 22 => ⟨S2x1024x4096, .f32⟩
  | 23 => ⟨S2x4096x1024, .f32⟩
  | 24 => ⟨S1024, .f32⟩
  | 25 => ⟨S1x8x6144, .f32⟩
  | 26 => ⟨S8x6144, .f32⟩
  | 27 => ⟨S8x1x6144, .f32⟩
  | 28 => ⟨S8x4x4096x128, .f32⟩
  | 29 => ⟨S8x4x4096x128, .f32⟩
  | 30 => ⟨S8x1x1024, .f32⟩
  | 31 => ⟨S8x1x1024, .f32⟩
  | 32 => ⟨S8x1x1024, .f32⟩
  | 33 => ⟨S8x1x1024, .f32⟩
  | 34 => ⟨S8x1x1024, .f32⟩
  | 35 => ⟨S8x1x1024, .f32⟩
  | 36 => ⟨S1x128, .f32⟩
  | 37 => ⟨S128, .f32⟩
  | 38 => ⟨S8x4x4096x128, .f32⟩
  | 39 => ⟨S_, .f32⟩
  | 40 => ⟨S8x4x4096, .f32⟩
  | 41 => ⟨S8x4x4096x1, .f32⟩
  | 42 => ⟨S_, .f32⟩
  | 43 => ⟨S8x4x4096x1, .f32⟩
  | 44 => ⟨S8x4x4096x1, .f32⟩
  | 45 => ⟨S_, .f32⟩
  | 46 => ⟨S8x4x4096x1, .f32⟩
  | 47 => ⟨S8x4x4096x1, .f32⟩
  | 48 => ⟨S8x4x4096x1, .f32⟩
  | 49 => ⟨S8x4x4096x128, .f32⟩
  | 50 => ⟨S8x4x4096x128, .f32⟩
  | 51 => ⟨S1x1x1x128, .f32⟩
  | 52 => ⟨S8x4x4096x128, .f32⟩
  | 53 => ⟨S8x4x4096x128, .f32⟩
  | 54 => ⟨S8x4096x4x128, .f32⟩
  | 55 => ⟨S8x4096x512, .f32⟩
  | 56 => ⟨S8x4096x512, .f32⟩
  | 57 => ⟨S8x4096x512, .f32⟩
  | 58 => ⟨S_, .f32⟩
  | 59 => ⟨S8x4096x512, .f32⟩
  | 60 => ⟨S8x4096x512, .f32⟩
  | 61 => ⟨S_, .f32⟩
  | 62 => ⟨S8x4096x512, .f32⟩
  | 63 => ⟨S8x4096x512, .f32⟩
  | 64 => ⟨S8x4096x512, .f32⟩
  | 65 => ⟨S8x4096x512, .f32⟩
  | 66 => ⟨S8x4096x3072, .f32⟩
  | 67 => ⟨S8x4096x3072, .f32⟩
  | 68 => ⟨S_, .f32⟩
  | 69 => ⟨S8x4096x3072, .f32⟩
  | 70 => ⟨S8x4096x3072, .f32⟩
  | 71 => ⟨S_, .f32⟩
  | 72 => ⟨S8x4096x3072, .f32⟩
  | 73 => ⟨S8x4096x3072, .f32⟩
  | 74 => ⟨S8x4096x1024, .f32⟩
  | 75 => ⟨S8x4096x1024, .f32⟩
  | 76 => ⟨S8x4096x1024, .f32⟩
  | 77 => ⟨S1x512x1024, .f32⟩
  | 78 => ⟨S512x1024, .f32⟩
  | 79 => ⟨S8x4096x1024, .f32⟩
  | 80 => ⟨S8x4096x1024, .f32⟩
  | 81 => ⟨S1x512x1024, .f32⟩
  | 82 => ⟨S512x1024, .f32⟩
  | 83 => ⟨S8x4096x1024, .f32⟩
  | 84 => ⟨S8x4096x1024, .f32⟩
  | 85 => ⟨S8x4096x1024, .f32⟩
  | 86 => ⟨S1x512x1024, .f32⟩
  | 87 => ⟨S512x1024, .f32⟩
  | 88 => ⟨S8x4096x1024, .f32⟩
  | 89 => ⟨S8x4096x1024, .f32⟩
  | 90 => ⟨S8x4096x1024, .f32⟩
  | 91 => ⟨S1x1024x1024, .f32⟩
  | 92 => ⟨S1024x1024, .f32⟩
  | 93 => ⟨S8x4096x1024, .f32⟩
  | 94 => ⟨S8x4096x1024, .f32⟩
  | 95 => ⟨S8x4096x1024, .f32⟩
  | 96 => ⟨S8x4096x1024, .f32⟩
  | 97 => ⟨S1x1024, .f32⟩
  | 98 => ⟨S1024, .f32⟩
  | 99 => ⟨S8x4096x1024, .f32⟩
  | 100 => ⟨S_, .f32⟩
  | 101 => ⟨S8x4096, .f32⟩
  | 102 => ⟨S8x4096x1, .f32⟩
  | 103 => ⟨S_, .f32⟩
  | 104 => ⟨S8x4096x1, .f32⟩
  | 105 => ⟨S8x4096x1, .f32⟩
  | 106 => ⟨S_, .f32⟩
  | 107 => ⟨S8x4096x1, .f32⟩
  | 108 => ⟨S8x4096x1, .f32⟩
  | 109 => ⟨S8x4096x1, .f32⟩
  | 110 => ⟨S8x4096x1024, .f32⟩
  | 111 => ⟨S8x4096x1024, .f32⟩
  | 112 => ⟨S1x1x1024, .f32⟩
  | 113 => ⟨S8x4096x1024, .f32⟩
  | 114 => ⟨S8x4096x1024, .f32⟩
  | 115 => ⟨S_, .f32⟩
  | 116 => ⟨S8x1x1024, .f32⟩
  | 117 => ⟨S8x1x1024, .f32⟩
  | 118 => ⟨S8x4096x1024, .f32⟩
  | 119 => ⟨S8x4096x1024, .f32⟩
  | 120 => ⟨S8x4096x1024, .f32⟩
  | 121 => ⟨S8x4096x1024, .f32⟩
  | 122 => ⟨S1x1024x4096, .f32⟩
  | 123 => ⟨S1024x4096, .f32⟩
  | 124 => ⟨S8x4096x4096, .f32⟩
  | 125 => ⟨S_, .f32⟩
  | 126 => ⟨S8x4096x4096, .f32⟩
  | 127 => ⟨S8x4096x4096, .f32⟩
  | _ => ⟨S8x4096x1024, .f32⟩

abbrev hbmTy0_1 (i : Nat) : BufTy := match i % 128 with
  | 0 => ⟨S8x4096x4096, .f32⟩
  | 1 => ⟨S1x4096x1024, .f32⟩
  | 2 => ⟨S4096x1024, .f32⟩
  | 3 => ⟨S8x4096x1024, .f32⟩
  | 4 => ⟨S8x4096x1024, .f32⟩
  | 5 => ⟨S8x4096x1024, .f32⟩
  | 6 => ⟨S8x4096x1024, .f32⟩
  | 7 => ⟨S1x6144, .f32⟩
  | 8 => ⟨S6144, .f32⟩
  | 9 => ⟨S8x4x256x128, .f32⟩
  | 10 => ⟨S8x4x256x128, .f32⟩
  | 11 => ⟨S1024, .f32⟩
  | 12 => ⟨S1024, .f32⟩
  | 13 => ⟨S1024, .f32⟩
  | 14 => ⟨S1024, .f32⟩
  | 15 => ⟨S1024, .f32⟩
  | 16 => ⟨S1024, .f32⟩
  | 17 => ⟨S1x128, .f32⟩
  | 18 => ⟨S128, .f32⟩
  | 19 => ⟨S8x4x256x128, .f32⟩
  | 20 => ⟨S_, .f32⟩
  | 21 => ⟨S8x4x256, .f32⟩
  | 22 => ⟨S8x4x256x1, .f32⟩
  | 23 => ⟨S_, .f32⟩
  | 24 => ⟨S8x4x256x1, .f32⟩
  | 25 => ⟨S8x4x256x1, .f32⟩
  | 26 => ⟨S_, .f32⟩
  | 27 => ⟨S8x4x256x1, .f32⟩
  | 28 => ⟨S8x4x256x1, .f32⟩
  | 29 => ⟨S8x4x256x1, .f32⟩
  | 30 => ⟨S8x4x256x128, .f32⟩
  | 31 => ⟨S8x4x256x128, .f32⟩
  | 32 => ⟨S1x1x1x128, .f32⟩
  | 33 => ⟨S8x4x256x128, .f32⟩
  | 34 => ⟨S8x4x256x128, .f32⟩
  | 35 => ⟨S8x256x4x128, .f32⟩
  | 36 => ⟨S8x256x512, .f32⟩
  | 37 => ⟨S8x256x512, .f32⟩
  | 38 => ⟨S8x256x512, .f32⟩
  | 39 => ⟨S_, .f32⟩
  | 40 => ⟨S8x256x512, .f32⟩
  | 41 => ⟨S8x256x512, .f32⟩
  | 42 => ⟨S_, .f32⟩
  | 43 => ⟨S8x256x512, .f32⟩
  | 44 => ⟨S8x256x512, .f32⟩
  | 45 => ⟨S8x256x512, .f32⟩
  | 46 => ⟨S8x256x512, .f32⟩
  | 47 => ⟨S8x256x3072, .f32⟩
  | 48 => ⟨S8x256x3072, .f32⟩
  | 49 => ⟨S_, .f32⟩
  | 50 => ⟨S8x256x3072, .f32⟩
  | 51 => ⟨S8x256x3072, .f32⟩
  | 52 => ⟨S_, .f32⟩
  | 53 => ⟨S8x256x3072, .f32⟩
  | 54 => ⟨S8x256x3072, .f32⟩
  | 55 => ⟨S8x256x1024, .f32⟩
  | 56 => ⟨S8x256x1024, .f32⟩
  | 57 => ⟨S8x256x1024, .f32⟩
  | 58 => ⟨S1x512x1024, .f32⟩
  | 59 => ⟨S512x1024, .f32⟩
  | 60 => ⟨S8x256x1024, .f32⟩
  | 61 => ⟨S8x256x1024, .f32⟩
  | 62 => ⟨S1x512x1024, .f32⟩
  | 63 => ⟨S512x1024, .f32⟩
  | 64 => ⟨S8x256x1024, .f32⟩
  | 65 => ⟨S8x256x1024, .f32⟩
  | 66 => ⟨S8x256x1024, .f32⟩
  | 67 => ⟨S1x512x1024, .f32⟩
  | 68 => ⟨S512x1024, .f32⟩
  | 69 => ⟨S8x256x1024, .f32⟩
  | 70 => ⟨S8x256x1024, .f32⟩
  | 71 => ⟨S8x256x1024, .f32⟩
  | 72 => ⟨S1x1024x1024, .f32⟩
  | 73 => ⟨S1024x1024, .f32⟩
  | 74 => ⟨S8x256x1024, .f32⟩
  | 75 => ⟨S1x1x1024, .f32⟩
  | 76 => ⟨S8x256x1024, .f32⟩
  | 77 => ⟨S8x256x1024, .f32⟩
  | 78 => ⟨S8x256x1024, .f32⟩
  | 79 => ⟨S1x1024, .f32⟩
  | 80 => ⟨S1024, .f32⟩
  | 81 => ⟨S8x256x1024, .f32⟩
  | 82 => ⟨S_, .f32⟩
  | 83 => ⟨S8x256, .f32⟩
  | 84 => ⟨S8x256x1, .f32⟩
  | 85 => ⟨S_, .f32⟩
  | 86 => ⟨S8x256x1, .f32⟩
  | 87 => ⟨S8x256x1, .f32⟩
  | 88 => ⟨S_, .f32⟩
  | 89 => ⟨S8x256x1, .f32⟩
  | 90 => ⟨S8x256x1, .f32⟩
  | 91 => ⟨S8x256x1, .f32⟩
  | 92 => ⟨S8x256x1024, .f32⟩
  | 93 => ⟨S8x256x1024, .f32⟩
  | 94 => ⟨S1x1x1024, .f32⟩
  | 95 => ⟨S8x256x1024, .f32⟩
  | 96 => ⟨S8x256x1024, .f32⟩
  | 97 => ⟨S_, .f32⟩
  | 98 => ⟨S1024, .f32⟩
  | 99 => ⟨S1024, .f32⟩
  | 100 => ⟨S1x1x1024, .f32⟩
  | 101 => ⟨S8x256x1024, .f32⟩
  | 102 => ⟨S8x256x1024, .f32⟩
  | 103 => ⟨S1x1x1024, .f32⟩
  | 104 => ⟨S8x256x1024, .f32⟩
  | 105 => ⟨S8x256x1024, .f32⟩
  | 106 => ⟨S1x1024x4096, .f32⟩
  | 107 => ⟨S1024x4096, .f32⟩
  | 108 => ⟨S8x256x4096, .f32⟩
  | 109 => ⟨S_, .f32⟩
  | 110 => ⟨S8x256x4096, .f32⟩
  | 111 => ⟨S8x256x4096, .f32⟩
  | 112 => ⟨S8x256x4096, .f32⟩
  | 113 => ⟨S1x4096x1024, .f32⟩
  | 114 => ⟨S4096x1024, .f32⟩
  | 115 => ⟨S8x256x1024, .f32⟩
  | 116 => ⟨S1x1x1024, .f32⟩
  | 117 => ⟨S8x256x1024, .f32⟩
  | 118 => ⟨S8x256x1024, .f32⟩
  | 119 => ⟨S8x256x1024, .f32⟩
  | 120 => ⟨S8x4352x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst : Ref sig .tc := ⟨.hbm, 39, rfl⟩
abbrev main_v14 : Ref sig .tc := ⟨.hbm, 40, rfl⟩
abbrev main_v15 : Ref sig .tc := ⟨.hbm, 41, rfl⟩
abbrev main_cst_0 : Ref sig .tc := ⟨.hbm, 42, rfl⟩
abbrev main_v16 : Ref sig .tc := ⟨.hbm, 43, rfl⟩
abbrev main_v17 : Ref sig .tc := ⟨.hbm, 44, rfl⟩
abbrev main_cst_1 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_2 : Ref sig .tc := ⟨.hbm, 68, rfl⟩
abbrev main_v32 : Ref sig .tc := ⟨.hbm, 69, rfl⟩
abbrev main_v33 : Ref sig .tc := ⟨.hbm, 70, rfl⟩
abbrev main_cst_3 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_4 : Ref sig .tc := ⟨.hbm, 100, rfl⟩
abbrev main_v62 : Ref sig .tc := ⟨.hbm, 101, rfl⟩
abbrev main_v63 : Ref sig .tc := ⟨.hbm, 102, rfl⟩
abbrev main_cst_5 : Ref sig .tc := ⟨.hbm, 103, rfl⟩
abbrev main_v64 : Ref sig .tc := ⟨.hbm, 104, rfl⟩
abbrev main_v65 : Ref sig .tc := ⟨.hbm, 105, rfl⟩
abbrev main_cst_6 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_cst_7 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_call2_cst : Ref sig .tc := ⟨.hbm, 125, rfl⟩
abbrev main_call2_v0 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_cst_8 : Ref sig .tc := ⟨.hbm, 148, rfl⟩
abbrev main_v104 : Ref sig .tc := ⟨.hbm, 149, rfl⟩
abbrev main_v105 : Ref sig .tc := ⟨.hbm, 150, rfl⟩
abbrev main_cst_9 : Ref sig .tc := ⟨.hbm, 151, rfl⟩
abbrev main_v106 : Ref sig .tc := ⟨.hbm, 152, rfl⟩
abbrev main_v107 : Ref sig .tc := ⟨.hbm, 153, rfl⟩
abbrev main_cst_10 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_call4_v0 : Ref sig .tc := ⟨.hbm, 165, rfl⟩
abbrev main_call4_v1 : Ref sig .tc := ⟨.hbm, 166, rfl⟩
abbrev main_call4_cst : Ref sig .tc := ⟨.hbm, 167, rfl⟩
abbrev main_call4_v2 : Ref sig .tc := ⟨.hbm, 168, rfl⟩
abbrev main_call4_v3 : Ref sig .tc := ⟨.hbm, 169, rfl⟩
abbrev main_call4_cst_0 : Ref sig .tc := ⟨.hbm, 170, rfl⟩
abbrev main_call4_v4 : Ref sig .tc := ⟨.hbm, 171, rfl⟩
abbrev main_call4_v5 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_cst_11 : Ref sig .tc := ⟨.hbm, 177, rfl⟩
abbrev main_v122 : Ref sig .tc := ⟨.hbm, 178, rfl⟩
abbrev main_v123 : Ref sig .tc := ⟨.hbm, 179, rfl⟩
abbrev main_cst_12 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_cst_13 : Ref sig .tc := ⟨.hbm, 210, rfl⟩
abbrev main_v153 : Ref sig .tc := ⟨.hbm, 211, rfl⟩
abbrev main_v154 : Ref sig .tc := ⟨.hbm, 212, rfl⟩
abbrev main_cst_14 : Ref sig .tc := ⟨.hbm, 213, rfl⟩
abbrev main_v155 : Ref sig .tc := ⟨.hbm, 214, rfl⟩
abbrev main_v156 : Ref sig .tc := ⟨.hbm, 215, rfl⟩
abbrev main_cst_15 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_cst_16 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_call5_cst : Ref sig .tc := ⟨.hbm, 237, rfl⟩
abbrev main_call5_v0 : Ref sig .tc := ⟨.hbm, 238, rfl⟩
abbrev main_v176 : Ref sig .tc := ⟨.hbm, 239, rfl⟩
abbrev main_v177 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩

abbrev nD : Nat := 1
abbrev τ : Topo := Topo.v7x

variable {F : FTy → Type} [FloatOps F]
-- ==== Inproj.lean ====
abbrev S8x4096x1024 : Shape := ⟨3, ![8, 4096, 1024]⟩
abbrev S8x256x1024 : Shape := ⟨3, ![8, 256, 1024]⟩
abbrev S2x8x6144 : Shape := ⟨3, ![2, 8, 6144]⟩
abbrev S2x6144 : Shape := ⟨2, ![2, 6144]⟩
abbrev S2x1024 : Shape := ⟨2, ![2, 1024]⟩
abbrev S2x1024x6592 : Shape := ⟨3, ![2, 1024, 6592]⟩
abbrev S2x256 : Shape := ⟨2, ![2, 256]⟩
abbrev S2x256x768 : Shape := ⟨3, ![2, 256, 768]⟩
abbrev S2x128 : Shape := ⟨2, ![2, 128]⟩
abbrev S2x128x1024 : Shape := ⟨3, ![2, 128, 1024]⟩
abbrev S2x2x16x256 : Shape := ⟨4, ![2, 2, 16, 256]⟩
abbrev S2x2x256 : Shape := ⟨3, ![2, 2, 256]⟩
abbrev S4352x128 : Shape := ⟨2, ![4352, 128]⟩
abbrev S32 : Shape := ⟨1, ![32]⟩
abbrev S1x8x6144 : Shape := ⟨3, ![1, 8, 6144]⟩
abbrev S8x6144 : Shape := ⟨2, ![8, 6144]⟩
abbrev S1x6144 : Shape := ⟨2, ![1, 6144]⟩
abbrev S6144 : Shape := ⟨1, ![6144]⟩
abbrev S_ : Shape := ⟨0, ![]⟩
abbrev S7x6144 : Shape := ⟨2, ![7, 6144]⟩
abbrev S16x6144 : Shape := ⟨2, ![16, 6144]⟩
abbrev S16x6x1024 : Shape := ⟨3, ![16, 6, 1024]⟩
abbrev S1x1024x6592 : Shape := ⟨3, ![1, 1024, 6592]⟩
abbrev S1024x6592 : Shape := ⟨2, ![1024, 6592]⟩
abbrev S1x256x768 : Shape := ⟨3, ![1, 256, 768]⟩
abbrev S256x768 : Shape := ⟨2, ![256, 768]⟩
abbrev S1x128x1024 : Shape := ⟨3, ![1, 128, 1024]⟩
abbrev S128x1024 : Shape := ⟨2, ![128, 1024]⟩
abbrev S1x2x16x256 : Shape := ⟨4, ![1, 2, 16, 256]⟩
abbrev S2x16x256 : Shape := ⟨3, ![2, 16, 256]⟩
abbrev S1x2x256 : Shape := ⟨3, ![1, 2, 256]⟩
abbrev S1024x256 : Shape := ⟨2, ![1024, 256]⟩
abbrev S1024x128 : Shape := ⟨2, ![1024, 128]⟩
abbrev S1024x32 : Shape := ⟨2, ![1024, 32]⟩
abbrev S1024x512 : Shape := ⟨2, ![1024, 512]⟩
abbrev S1024x16 : Shape := ⟨2, ![1024, 16]⟩
abbrev S1024x1536 : Shape := ⟨2, ![1024, 1536]⟩
abbrev S1024x3072 : Shape := ⟨2, ![1024, 3072]⟩
abbrev S1024x64 : Shape := ⟨2, ![1024, 64]⟩
abbrev S32x1 : Shape := ⟨2, ![32, 1]⟩
abbrev S1x32 : Shape := ⟨2, ![1, 32]⟩
abbrev S1024x96 : Shape := ⟨2, ![1024, 96]⟩
abbrev S1024x768 : Shape := ⟨2, ![1024, 768]⟩
abbrev S256x96 : Shape := ⟨2, ![256, 96]⟩
abbrev S256x32 : Shape := ⟨2, ![256, 32]⟩
abbrev S256x64 : Shape := ⟨2, ![256, 64]⟩
abbrev S256x1024 : Shape := ⟨2, ![256, 1024]⟩
abbrev S256x704 : Shape := ⟨2, ![256, 704]⟩
abbrev S256x320 : Shape := ⟨2, ![256, 320]⟩
abbrev S256x2048 : Shape := ⟨2, ![256, 2048]⟩
abbrev S128x64 : Shape := ⟨2, ![128, 64]⟩
abbrev S128x128 : Shape := ⟨2, ![128, 128]⟩
abbrev S128x2048 : Shape := ⟨2, ![128, 2048]⟩
abbrev S128x512 : Shape := ⟨2, ![128, 512]⟩
abbrev S1x16x256 : Shape := ⟨3, ![1, 16, 256]⟩
abbrev S16x256 : Shape := ⟨2, ![16, 256]⟩
abbrev S1 : Shape := ⟨1, ![1]⟩
abbrev S2 : Shape := ⟨1, ![2]⟩
abbrev S1x256 : Shape := ⟨2, ![1, 256]⟩
abbrev S256 : Shape := ⟨1, ![256]⟩
abbrev S512 : Shape := ⟨1, ![512]⟩
abbrev S1x512 : Shape := ⟨2, ![1, 512]⟩
abbrev S1x1024 : Shape := ⟨2, ![1, 1024]⟩
abbrev S1024 : Shape := ⟨1, ![1024]⟩
abbrev S1x128 : Shape := ⟨2, ![1, 128]⟩
abbrev S128 : Shape := ⟨1, ![128]⟩
abbrev S8x4352x1024 : Shape := ⟨3, ![8, 4352, 1024]⟩
abbrev S8x4352x256 : Shape := ⟨3, ![8, 4352, 256]⟩
abbrev S8x4352x512 : Shape := ⟨3, ![8, 4352, 512]⟩
abbrev S8x4352x1536 : Shape := ⟨3, ![8, 4352, 1536]⟩
abbrev S8x4352x3072 : Shape := ⟨3, ![8, 4352, 3072]⟩
abbrev S1x256x1024 : Shape := ⟨3, ![1, 256, 1024]⟩
abbrev S1x6x1024 : Shape := ⟨3, ![1, 6, 1024]⟩
abbrev S256x128 : Shape := ⟨2, ![256, 128]⟩
abbrev S1x256x256 : Shape := ⟨3, ![1, 256, 256]⟩
abbrev S1x256x512 : Shape := ⟨3, ![1, 256, 512]⟩
abbrev S1x256x1536 : Shape := ⟨3, ![1, 256, 1536]⟩
abbrev S1x256x3072 : Shape := ⟨3, ![1, 256, 3072]⟩
abbrev S1x1x1024 : Shape := ⟨3, ![1, 1, 1024]⟩
abbrev S256x1 : Shape := ⟨2, ![256, 1]⟩
abbrev S256x256 : Shape := ⟨2, ![256, 256]⟩
abbrev S1x256x128 : Shape := ⟨3, ![1, 256, 128]⟩
abbrev S256x512 : Shape := ⟨2, ![256, 512]⟩
abbrev S256x1536 : Shape := ⟨2, ![256, 1536]⟩
abbrev S256x3072 : Shape := ⟨2, ![256, 3072]⟩

abbrev nBuf : Space → Nat
  | .hbm => 359
  | .vmem => 41
  | .smem => 0
  | _ => 0

abbrev hbmTy0_0 (i : Nat) : BufTy := match i % 128 with
  | 0 => ⟨S8x4096x1024, .f32⟩
  | 1 => ⟨S8x256x1024, .f32⟩
  | 2 => ⟨S2x8x6144, .f32⟩
  | 3 => ⟨S2x6144, .f32⟩
  | 4 => ⟨S2x1024, .f32⟩
  | 5 => ⟨S2x1024x6592, .f32⟩
  | 6 => ⟨S2x256, .f32⟩
  | 7 => ⟨S2x256x768, .f32⟩
  | 8 => ⟨S2x128, .f32⟩
  | 9 => ⟨S2x128x1024, .f32⟩
  | 10 => ⟨S2x2x16x256, .f32⟩
  | 11 => ⟨S2x2x256, .f32⟩
  | 12 => ⟨S4352x128, .f32⟩
  | 13 => ⟨S4352x128, .f32⟩
  | 14 => ⟨S32, .i32⟩
  | 15 => ⟨S32, .i1⟩
  | 16 => ⟨S32, .f32⟩
  | 17 => ⟨S32, .i32⟩
  | 18 => ⟨S32, .i1⟩
  | 19 => ⟨S32, .f32⟩
  | 20 => ⟨S32, .i32⟩
  | 21 => ⟨S32, .i1⟩
  | 22 => ⟨S32, .f32⟩
  | 23 => ⟨S32, .i32⟩
  | 24 => ⟨S32, .i1⟩
  | 25 => ⟨S32, .f32⟩
  | 26 => ⟨S32, .i32⟩
  | 27 => ⟨S32, .i1⟩
  | 28 => ⟨S32, .f32⟩
  | 29 => ⟨S32, .i32⟩
  | 30 => ⟨S32, .i1⟩
  | 31 => ⟨S32, .f32⟩
  | 32 => ⟨S32, .i32⟩
  | 33 => ⟨S32, .i1⟩
  | 34 => ⟨S32, .f32⟩
  | 35 => ⟨S32, .i32⟩
  | 36 => ⟨S32, .i1⟩
  | 37 => ⟨S32, .f32⟩
  | 38 => ⟨S32, .i32⟩
  | 39 => ⟨S32, .i1⟩
  | 40 => ⟨S32, .f32⟩
  | 41 => ⟨S1x8x6144, .f32⟩
  | 42 => ⟨S8x6144, .f32⟩
  | 43 => ⟨S1x6144, .f32⟩
  | 44 => ⟨S6144, .f32⟩
  | 45 => ⟨S1x6144, .f32⟩
  | 46 => ⟨S_, .f32⟩
  | 47 => ⟨S7x6144, .f32⟩
  | 48 => ⟨S16x6144, .f32⟩
  | 49 => ⟨S16x6x1024, .f32⟩
  | 50 => ⟨S1x1024x6592, .f32⟩
  | 51 => ⟨S1024x6592, .f32⟩
  | 52 => ⟨S1x256x768, .f32⟩
  | 53 => ⟨S256x768, .f32⟩
  | 54 => ⟨S1x128x1024, .f32⟩
  | 55 => ⟨S128x1024, .f32⟩
  | 56 => ⟨S1x2x16x256, .f32⟩
  | 57 => ⟨S2x16x256, .f32⟩
  | 58 => ⟨S1x2x256, .f32⟩
  | 59 => ⟨S2x256, .f32⟩
  | 60 => ⟨S1024x6592, .bf16⟩
  | 61 => ⟨S1024x256, .bf16⟩
  | 62 => ⟨S1024x128, .bf16⟩
  | 63 => ⟨S1024x32, .bf16⟩
  | 64 => ⟨S1024x256, .bf16⟩
  | 65 => ⟨S1024x256, .bf16⟩
  | 66 => ⟨S1024x512, .bf16⟩
  | 67 => ⟨S1024x512, .bf16⟩
  | 68 => ⟨S1024x16, .bf16⟩
  | 69 => ⟨S1024x16, .bf16⟩
  | 70 => ⟨S1024x1536, .bf16⟩
  | 71 => ⟨S1024x3072, .bf16⟩
  | 72 => ⟨S_, .bf16⟩
  | 73 => ⟨S1024x64, .bf16⟩
  | 74 => ⟨S_, .bf16⟩
  | 75 => ⟨S1024x32, .bf16⟩
  | 76 => ⟨S1024x128, .bf16⟩
  | 77 => ⟨S_, .bf16⟩
  | 78 => ⟨S1024x64, .bf16⟩
  | 79 => ⟨S_, .i32⟩
  | 80 => ⟨S32, .i32⟩
  | 81 => ⟨S32, .i32⟩
  | 82 => ⟨S32, .i32⟩
  | 83 => ⟨S32x1, .i32⟩
  | 84 => ⟨S1024x32, .bf16⟩
  | 85 => ⟨S1024x32, .f32⟩
  | 86 => ⟨S1x32, .f32⟩
  | 87 => ⟨S1024x32, .f32⟩
  | 88 => ⟨S1024x32, .f32⟩
  | 89 => ⟨S_, .bf16⟩
  | 90 => ⟨S1024x32, .bf16⟩
  | 91 => ⟨S1024x64, .f32⟩
  | 92 => ⟨S1024x32, .f32⟩
  | 93 => ⟨S1024x128, .f32⟩
  | 94 => ⟨S_, .bf16⟩
  | 95 => ⟨S1024x96, .bf16⟩
  | 96 => ⟨S1024x128, .bf16⟩
  | 97 => ⟨S1024x256, .f32⟩
  | 98 => ⟨S1024x128, .f32⟩
  | 99 => ⟨S1024x128, .f32⟩
  | 100 => ⟨S1024x128, .f32⟩
  | 101 => ⟨S1024x768, .f32⟩
  | 102 => ⟨S1024x1536, .bf16⟩
  | 103 => ⟨S256x96, .f32⟩
  | 104 => ⟨S_, .bf16⟩
  | 105 => ⟨S256x32, .bf16⟩
  | 106 => ⟨S_, .bf16⟩
  | 107 => ⟨S256x64, .bf16⟩
  | 108 => ⟨S256x32, .f32⟩
  | 109 => ⟨S_, .i32⟩
  | 110 => ⟨S32, .i32⟩
  | 111 => ⟨S32, .i32⟩
  | 112 => ⟨S32, .i32⟩
  | 113 => ⟨S32x1, .i32⟩
  | 114 => ⟨S256x32, .f32⟩
  | 115 => ⟨S1x32, .f32⟩
  | 116 => ⟨S256x32, .f32⟩
  | 117 => ⟨S256x32, .f32⟩
  | 118 => ⟨S_, .bf16⟩
  | 119 => ⟨S256x32, .bf16⟩
  | 120 => ⟨S256x96, .f32⟩
  | 121 => ⟨S_, .bf16⟩
  | 122 => ⟨S256x32, .bf16⟩
  | 123 => ⟨S_, .bf16⟩
  | 124 => ⟨S256x64, .bf16⟩
  | 125 => ⟨S256x32, .f32⟩
  | 126 => ⟨S_, .i32⟩
  | 127 => ⟨S32, .i32⟩
  | _ => ⟨S8x4096x1024, .f32⟩

abbrev hbmTy0_1 (i : Nat) : BufTy := match i % 128 with
  | 0 => ⟨S32, .i32⟩
  | 1 => ⟨S32, .i32⟩
  | 2 => ⟨S32x1, .i32⟩
  | 3 => ⟨S256x32, .f32⟩
  | 4 => ⟨S1x32, .f32⟩
  | 5 => ⟨S256x32, .f32⟩
  | 6 => ⟨S256x32, .f32⟩
  | 7 => ⟨S_, .bf16⟩
  | 8 => ⟨S256x32, .bf16⟩
  | 9 => ⟨S256x96, .f32⟩
  | 10 => ⟨S_, .bf16⟩
  | 11 => ⟨S256x32, .bf16⟩
  | 12 => ⟨S_, .bf16⟩
  | 13 => ⟨S256x64, .bf16⟩
  | 14 => ⟨S256x32, .f32⟩
  | 15 => ⟨S_, .i32⟩
  | 16 => ⟨S32, .i32⟩
  | 17 => ⟨S32, .i32⟩
  | 18 => ⟨S32, .i32⟩
  | 19 => ⟨S32x1, .i32⟩
  | 20 => ⟨S256x32, .f32⟩
  | 21 => ⟨S1x32, .f32⟩
  | 22 => ⟨S256x32, .f32⟩
  | 23 => ⟨S256x32, .f32⟩
  | 24 => ⟨S_, .bf16⟩
  | 25 => ⟨S256x32, .bf16⟩
  | 26 => ⟨S256x96, .f32⟩
  | 27 => ⟨S_, .bf16⟩
  | 28 => ⟨S256x32, .bf16⟩
  | 29 => ⟨S_, .bf16⟩
  | 30 => ⟨S256x64, .bf16⟩
  | 31 => ⟨S256x32, .f32⟩
  | 32 => ⟨S_, .i32⟩
  | 33 => ⟨S32, .i32⟩
  | 34 => ⟨S32, .i32⟩
  | 35 => ⟨S32, .i32⟩
  | 36 => ⟨S32x1, .i32⟩
  | 37 => ⟨S256x32, .f32⟩
  | 38 => ⟨S1x32, .f32⟩
  | 39 => ⟨S256x32, .f32⟩
  | 40 => ⟨S256x32, .f32⟩
  | 41 => ⟨S_, .bf16⟩
  | 42 => ⟨S256x32, .bf16⟩
  | 43 => ⟨S256x96, .f32⟩
  | 44 => ⟨S_, .bf16⟩
  | 45 => ⟨S256x32, .bf16⟩
  | 46 => ⟨S_, .bf16⟩
  | 47 => ⟨S256x64, .bf16⟩
  | 48 => ⟨S256x32, .f32⟩
  | 49 => ⟨S_, .i32⟩
  | 50 => ⟨S32, .i32⟩
  | 51 => ⟨S32, .i32⟩
  | 52 => ⟨S32, .i32⟩
  | 53 => ⟨S32x1, .i32⟩
  | 54 => ⟨S256x32, .f32⟩
  | 55 => ⟨S1x32, .f32⟩
  | 56 => ⟨S256x32, .f32⟩
  | 57 => ⟨S256x32, .f32⟩
  | 58 => ⟨S_, .bf16⟩
  | 59 => ⟨S256x32, .bf16⟩
  | 60 => ⟨S256x96, .f32⟩
  | 61 => ⟨S_, .bf16⟩
  | 62 => ⟨S256x32, .bf16⟩
  | 63 => ⟨S_, .bf16⟩
  | 64 => ⟨S256x64, .bf16⟩
  | 65 => ⟨S256x32, .f32⟩
  | 66 => ⟨S_, .i32⟩
  | 67 => ⟨S32, .i32⟩
  | 68 => ⟨S32, .i32⟩
  | 69 => ⟨S32, .i32⟩
  | 70 => ⟨S32x1, .i32⟩
  | 71 => ⟨S256x32, .f32⟩
  | 72 => ⟨S1x32, .f32⟩
  | 73 => ⟨S256x32, .f32⟩
  | 74 => ⟨S256x32, .f32⟩
  | 75 => ⟨S_, .bf16⟩
  | 76 => ⟨S256x32, .bf16⟩
  | 77 => ⟨S256x96, .f32⟩
  | 78 => ⟨S_, .bf16⟩
  | 79 => ⟨S256x32, .bf16⟩
  | 80 => ⟨S_, .bf16⟩
  | 81 => ⟨S256x64, .bf16⟩
  | 82 => ⟨S256x32, .f32⟩
  | 83 => ⟨S_, .i32⟩
  | 84 => ⟨S32, .i32⟩
  | 85 => ⟨S32, .i32⟩
  | 86 => ⟨S32, .i32⟩
  | 87 => ⟨S32x1, .i32⟩
  | 88 => ⟨S256x32, .f32⟩
  | 89 => ⟨S1x32, .f32⟩
  | 90 => ⟨S256x32, .f32⟩
  | 91 => ⟨S256x32, .f32⟩
  | 92 => ⟨S_, .bf16⟩
  | 93 => ⟨S256x32, .bf16⟩
  | 94 => ⟨S256x96, .f32⟩
  | 95 => ⟨S_, .bf16⟩
  | 96 => ⟨S256x32, .bf16⟩
  | 97 => ⟨S_, .bf16⟩
  | 98 => ⟨S256x64, .bf16⟩
  | 99 => ⟨S256x32, .f32⟩
  | 100 => ⟨S_, .i32⟩
  | 101 => ⟨S32, .i32⟩
  | 102 => ⟨S32, .i32⟩
  | 103 => ⟨S32, .i32⟩
  | 104 => ⟨S32x1, .i32⟩
  | 105 => ⟨S256x32, .f32⟩
  | 106 => ⟨S1x32, .f32⟩
  | 107 => ⟨S256x32, .f32⟩
  | 108 => ⟨S256x32, .f32⟩
  | 109 => ⟨S_, .bf16⟩
  | 110 => ⟨S256x32, .bf16⟩
  | 111 => ⟨S256x32, .f32⟩
  | 112 => ⟨S256x32, .f32⟩
  | 113 => ⟨S256x32, .f32⟩
  | 114 => ⟨S256x32, .f32⟩
  | 115 => ⟨S256x32, .f32⟩
  | 116 => ⟨S256x32, .f32⟩
  | 117 => ⟨S256x32, .f32⟩
  | 118 => ⟨S256x32, .f32⟩
  | 119 => ⟨S256x64, .f32⟩
  | 120 => ⟨S256x32, .f32⟩
  | 121 => ⟨S256x64, .f32⟩
  | 122 => ⟨S256x32, .f32⟩
  | 123 => ⟨S256x64, .f32⟩
  | 124 => ⟨S256x32, .f32⟩
  | 125 => ⟨S256x64, .f32⟩
  | 126 => ⟨S256x32, .f32⟩
  | 127 => ⟨S256x64, .f32⟩
  | _ => ⟨S8x4096x1024, .f32⟩

abbrev hbmTy0_2 (i : Nat) : BufTy := match i % 128 with
  | 0 => ⟨S256x32, .f32⟩
  | 1 => ⟨S256x64, .f32⟩
  | 2 => ⟨S256x32, .f32⟩
  | 3 => ⟨S256x64, .f32⟩
  | 4 => ⟨S256x32, .f32⟩
  | 5 => ⟨S256x64, .f32⟩
  | 6 => ⟨S256x32, .f32⟩
  | 7 => ⟨S256x1024, .f32⟩
  | 8 => ⟨S256x704, .f32⟩
  | 9 => ⟨S256x320, .f32⟩
  | 10 => ⟨S256x2048, .f32⟩
  | 11 => ⟨S_, .bf16⟩
  | 12 => ⟨S128x64, .bf16⟩
  | 13 => ⟨S128x128, .f32⟩
  | 14 => ⟨S128x64, .f32⟩
  | 15 => ⟨S128x64, .f32⟩
  | 16 => ⟨S128x128, .f32⟩
  | 17 => ⟨S128x64, .f32⟩
  | 18 => ⟨S128x64, .f32⟩
  | 19 => ⟨S128x128, .f32⟩
  | 20 => ⟨S128x64, .f32⟩
  | 21 => ⟨S128x64, .f32⟩
  | 22 => ⟨S128x128, .f32⟩
  | 23 => ⟨S128x64, .f32⟩
  | 24 => ⟨S128x64, .f32⟩
  | 25 => ⟨S128x128, .f32⟩
  | 26 => ⟨S128x64, .f32⟩
  | 27 => ⟨S128x64, .f32⟩
  | 28 => ⟨S128x128, .f32⟩
  | 29 => ⟨S128x64, .f32⟩
  | 30 => ⟨S128x64, .f32⟩
  | 31 => ⟨S128x128, .f32⟩
  | 32 => ⟨S128x64, .f32⟩
  | 33 => ⟨S128x64, .f32⟩
  | 34 => ⟨S128x128, .f32⟩
  | 35 => ⟨S128x64, .f32⟩
  | 36 => ⟨S128x64, .f32⟩
  | 37 => ⟨S128x64, .f32⟩
  | 38 => ⟨S128x64, .f32⟩
  | 39 => ⟨S128x64, .f32⟩
  | 40 => ⟨S128x64, .f32⟩
  | 41 => ⟨S128x64, .f32⟩
  | 42 => ⟨S128x64, .f32⟩
  | 43 => ⟨S128x64, .f32⟩
  | 44 => ⟨S128x64, .f32⟩
  | 45 => ⟨S128x64, .f32⟩
  | 46 => ⟨S128x64, .f32⟩
  | 47 => ⟨S128x64, .f32⟩
  | 48 => ⟨S128x64, .f32⟩
  | 49 => ⟨S128x64, .f32⟩
  | 50 => ⟨S128x64, .f32⟩
  | 51 => ⟨S128x64, .f32⟩
  | 52 => ⟨S128x64, .f32⟩
  | 53 => ⟨S128x1024, .f32⟩
  | 54 => ⟨S128x1024, .f32⟩
  | 55 => ⟨S128x2048, .f32⟩
  | 56 => ⟨S_, .f32⟩
  | 57 => ⟨S128x512, .f32⟩
  | 58 => ⟨S1x16x256, .f32⟩
  | 59 => ⟨S16x256, .f32⟩
  | 60 => ⟨S_, .i32⟩
  | 61 => ⟨S1, .i32⟩
  | 62 => ⟨S_, .i32⟩
  | 63 => ⟨S1, .i32⟩
  | 64 => ⟨S2, .i32⟩
  | 65 => ⟨S128x512, .f32⟩
  | 66 => ⟨S1x16x256, .f32⟩
  | 67 => ⟨S16x256, .f32⟩
  | 68 => ⟨S_, .i32⟩
  | 69 => ⟨S1, .i32⟩
  | 70 => ⟨S_, .i32⟩
  | 71 => ⟨S1, .i32⟩
  | 72 => ⟨S2, .i32⟩
  | 73 => ⟨S128x512, .f32⟩
  | 74 => ⟨S1x256, .f32⟩
  | 75 => ⟨S256, .f32⟩
  | 76 => ⟨S1x256, .f32⟩
  | 77 => ⟨S256, .f32⟩
  | 78 => ⟨S512, .f32⟩
  | 79 => ⟨S1x512, .f32⟩
  | 80 => ⟨S1024x768, .bf16⟩
  | 81 => ⟨S256x2048, .bf16⟩
  | 82 => ⟨S128x2048, .bf16⟩
  | 83 => ⟨S128x512, .bf16⟩
  | 84 => ⟨S1x1024, .f32⟩
  | 85 => ⟨S1024, .f32⟩
  | 86 => ⟨S1x256, .f32⟩
  | 87 => ⟨S256, .f32⟩
  | 88 => ⟨S1x128, .f32⟩
  | 89 => ⟨S128, .f32⟩
  | 90 => ⟨S1x1024, .f32⟩
  | 91 => ⟨S1x256, .f32⟩
  | 92 => ⟨S1x128, .f32⟩
  | 93 => ⟨S8x4352x1024, .bf16⟩
  | 94 => ⟨S8x4352x1024, .bf16⟩
  | 95 => ⟨S8x4352x1024, .bf16⟩
  | 96 => ⟨S8x4352x256, .bf16⟩
  | 97 => ⟨S8x4352x256, .bf16⟩
  | 98 => ⟨S8x4352x512, .bf16⟩
  | 99 => ⟨S8x4352x512, .bf16⟩
  | 100 => ⟨S8x4352x512, .f32⟩
  | 101 => ⟨S8x4352x1536, .f32⟩
  | 102 => ⟨S8x4352x3072, .bf16⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x6x1024, .f32⟩
  | .local _ .vmem, ⟨5, _⟩ => ⟨S1x6x1024, .f32⟩
  | .local _ .vmem, ⟨6, _⟩ => ⟨S1x1024, .f32⟩
  | .local _ .vmem, ⟨7, _⟩ => ⟨S1024x768, .bf16⟩
  | .local _ .vmem, ⟨8, _⟩ => ⟨S1024x1536, .bf16⟩
  | .local _ .vmem, ⟨9, _⟩ => ⟨S1024x1536, .bf16⟩
  | .local _ .vmem, ⟨10, _⟩ => ⟨S1024x3072, .bf16⟩
  | .local _ .vmem, ⟨11, _⟩ => ⟨S1x256, .f32⟩
  | .local _ .vmem, ⟨12, _⟩ => ⟨S1x128, .f32⟩
  | .local _ .vmem, ⟨13, _⟩ => ⟨S256x2048, .bf16⟩
  | .local _ .vmem, ⟨14, _⟩ => ⟨S128x2048, .bf16⟩
  | .local _ .vmem, ⟨15, _⟩ => ⟨S128x512, .bf16⟩
  | .local _ .vmem, ⟨16, _⟩ => ⟨S1x512, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S1x256x1024, .bf16⟩
  | .local _ .vmem, ⟨22, _⟩ => ⟨S1x256x1024, .bf16⟩
  | .local _ .vmem, ⟨23, _⟩ => ⟨S1x256x1024, .bf16⟩
  | .local _ .vmem, ⟨24, _⟩ => ⟨S1x256x1024, .bf16⟩
  | .local _ .vmem, ⟨25, _⟩ => ⟨S1x256x1024, .bf16⟩
  | .local _ .vmem, ⟨26, _⟩ => ⟨S1x256x1024, .bf16⟩
  | .local _ .vmem, ⟨27, _⟩ => ⟨S1x256x256, .bf16⟩
  | .local _ .vmem, ⟨28, _⟩ => ⟨S1x256x256, .bf16⟩
  | .local _ .vmem, ⟨29, _⟩ => ⟨S1x256x256, .bf16⟩
  | .local _ .vmem, ⟨30, _⟩ => ⟨S1x256x256, .bf16⟩
  | .local _ .vmem, ⟨31, _⟩ => ⟨S1x256x512, .bf16⟩
  | .local _ .vmem, ⟨32, _⟩ => ⟨S1x256x512, .bf16⟩
  | .local _ .vmem, ⟨33, _⟩ => ⟨S1x256x512, .bf16⟩
  | .local _ .vmem, ⟨34, _⟩ => ⟨S1x256x512, .bf16⟩
  | .local _ .vmem, ⟨35, _⟩ => ⟨S1x256x512, .f32⟩
  | .local _ .vmem, ⟨36, _⟩ => ⟨S1x256x512, .f32⟩
  | .local _ .vmem, ⟨37, _⟩ => ⟨S1x256x1536, .f32⟩
  | .local _ .vmem, ⟨38, _⟩ => ⟨S1x256x1536, .f32⟩
  | .local _ .vmem, ⟨39, _⟩ => ⟨S1x256x3072, .bf16⟩
  | .local _ .vmem, ⟨40, _⟩ => ⟨S1x256x3072, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_c_0 : Ref sig .tc := ⟨.hbm, 15, rfl⟩
abbrev main_cst : Ref sig .tc := ⟨.hbm, 16, rfl⟩
abbrev main_c_1 : Ref sig .tc := ⟨.hbm, 17, rfl⟩
abbrev main_c_2 : Ref sig .tc := ⟨.hbm, 18, rfl⟩
abbrev main_cst_3 : Ref sig .tc := ⟨.hbm, 19, rfl⟩
abbrev main_c_4 : Ref sig .tc := ⟨.hbm, 20, rfl⟩
abbrev main_c_5 : Ref sig .tc := ⟨.hbm, 21, rfl⟩
abbrev main_cst_6 : Ref sig .tc := ⟨.hbm, 22, rfl⟩
abbrev main_c_7 : Ref sig .tc := ⟨.hbm, 23, rfl⟩
abbrev main_c_8 : Ref sig .tc := ⟨.hbm, 24, rfl⟩
abbrev main_cst_9 : Ref sig .tc := ⟨.hbm, 25, rfl⟩
abbrev main_c_10 : Ref sig .tc := ⟨.hbm, 26, rfl⟩
abbrev main_c_11 : Ref sig .tc := ⟨.hbm, 27, rfl⟩
abbrev main_cst_12 : Ref sig .tc := ⟨.hbm, 28, rfl⟩
abbrev main_c_13 : Ref sig .tc := ⟨.hbm, 29, rfl⟩
abbrev main_c_14 : Ref sig .tc := ⟨.hbm, 30, rfl⟩
abbrev main_cst_15 : Ref sig .tc := ⟨.hbm, 31, rfl⟩
abbrev main_c_16 : Ref sig .tc := ⟨.hbm, 32, rfl⟩
abbrev main_c_17 : Ref sig .tc := ⟨.hbm, 33, rfl⟩
abbrev main_cst_18 : Ref sig .tc := ⟨.hbm, 34, rfl⟩
abbrev main_c_19 : Ref sig .tc := ⟨.hbm, 35, rfl⟩
abbrev main_c_20 : Ref sig .tc := ⟨.hbm, 36, rfl⟩
abbrev main_cst_21 : Ref sig .tc := ⟨.hbm, 37, rfl⟩
abbrev main_c_22 : Ref sig .tc := ⟨.hbm, 38, rfl⟩
abbrev main_c_23 : Ref sig .tc := ⟨.hbm, 39, rfl⟩
abbrev main_cst_24 : Ref sig .tc := ⟨.hbm, 40, rfl⟩
abbrev main_v0 : Ref sig .tc := ⟨.hbm, 41, rfl⟩
abbrev main_v1 : Ref sig .tc := ⟨.hbm, 42, rfl⟩
abbrev main_v2 : Ref sig .tc := ⟨.hbm, 43, rfl⟩
abbrev main_v3 : Ref sig .tc := ⟨.hbm, 44, rfl⟩
abbrev main_v4 : Ref sig .tc := ⟨.hbm, 45, rfl⟩
abbrev main_cst_25 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_cst_26 : Ref sig .tc := ⟨.hbm, 72, rfl⟩
abbrev main_v30 : Ref sig .tc := ⟨.hbm, 73, rfl⟩
abbrev main_cst_27 : Ref sig .tc := ⟨.hbm, 74, rfl⟩
abbrev main_v31 : Ref sig .tc := ⟨.hbm, 75, rfl⟩
abbrev main_v32 : Ref sig .tc := ⟨.hbm, 76, rfl⟩
abbrev main_cst_28 : Ref sig .tc := ⟨.hbm, 77, rfl⟩
abbrev main_v33 : Ref sig .tc := ⟨.hbm, 78, rfl⟩
abbrev main_c_29 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_cst_30 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_cst_31 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_cst_32 : Ref sig .tc := ⟨.hbm, 104, rfl⟩
abbrev main_v56 : Ref sig .tc := ⟨.hbm, 105, rfl⟩
abbrev main_cst_33 : Ref sig .tc := ⟨.hbm, 106, rfl⟩
abbrev main_v57 : Ref sig .tc := ⟨.hbm, 107, rfl⟩
abbrev main_v58 : Ref sig .tc := ⟨.hbm, 108, rfl⟩
abbrev main_c_34 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_cst_35 : Ref sig .tc := ⟨.hbm, 118, rfl⟩
abbrev main_v67 : Ref sig .tc := ⟨.hbm, 119, rfl⟩
abbrev main_v68 : Ref sig .tc := ⟨.hbm, 120, rfl⟩
abbrev main_cst_36 : Ref sig .tc := ⟨.hbm, 121, rfl⟩
abbrev main_v69 : Ref sig .tc := ⟨.hbm, 122, rfl⟩
abbrev main_cst_37 : Ref sig .tc := ⟨.hbm, 123, rfl⟩
abbrev main_v70 : Ref sig .tc := ⟨.hbm, 124, rfl⟩
abbrev main_v71 : Ref sig .tc := ⟨.hbm, 125, rfl⟩
abbrev main_c_38 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_cst_39 : Ref sig .tc := ⟨.hbm, 135, rfl⟩
abbrev main_v80 : Ref sig .tc := ⟨.hbm, 136, rfl⟩
abbrev main_v81 : Ref sig .tc := ⟨.hbm, 137, rfl⟩
abbrev main_cst_40 : Ref sig .tc := ⟨.hbm, 138, rfl⟩
abbrev main_v82 : Ref sig .tc := ⟨.hbm, 139, rfl⟩
abbrev main_cst_41 : Ref sig .tc := ⟨.hbm, 140, rfl⟩
abbrev main_v83 : Ref sig .tc := ⟨.hbm, 141, rfl⟩
abbrev main_v84 : Ref sig .tc := ⟨.hbm, 142, rfl⟩
abbrev main_c_42 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_cst_43 : Ref sig .tc := ⟨.hbm, 152, rfl⟩
abbrev main_v93 : Ref sig .tc := ⟨.hbm, 153, rfl⟩
abbrev main_v94 : Ref sig .tc := ⟨.hbm, 154, rfl⟩
abbrev main_cst_44 : Ref sig .tc := ⟨.hbm, 155, rfl⟩
abbrev main_v95 : Ref sig .tc := ⟨.hbm, 156, rfl⟩
abbrev main_cst_45 : Ref sig .tc := ⟨.hbm, 157, rfl⟩
abbrev main_v96 : Ref sig .tc := ⟨.hbm, 158, rfl⟩
abbrev main_v97 : Ref sig .tc := ⟨.hbm, 159, rfl⟩
abbrev main_c_46 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_cst_47 : Ref sig .tc := ⟨.hbm, 169, rfl⟩
abbrev main_v106 : Ref sig .tc := ⟨.hbm, 170, rfl⟩
abbrev main_v107 : Ref sig .tc := ⟨.hbm, 171, rfl⟩
abbrev main_cst_48 : Ref sig .tc := ⟨.hbm, 172, rfl⟩
abbrev main_v108 : Ref sig .tc := ⟨.hbm, 173, rfl⟩
abbrev main_cst_49 : Ref sig .tc := ⟨.hbm, 174, rfl⟩
abbrev main_v109 : Ref sig .tc := ⟨.hbm, 175, rfl⟩
abbrev main_v110 : Ref sig .tc := ⟨.hbm, 176, rfl⟩
abbrev main_c_50 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_cst_51 : Ref sig .tc := ⟨.hbm, 186, rfl⟩
abbrev main_v119 : Ref sig .tc := ⟨.hbm, 187, rfl⟩
abbrev main_v120 : Ref sig .tc := ⟨.hbm, 188, rfl⟩
abbrev main_cst_52 : Ref sig .tc := ⟨.hbm, 189, rfl⟩
abbrev main_v121 : Ref sig .tc := ⟨.hbm, 190, rfl⟩
abbrev main_cst_53 : Ref sig .tc := ⟨.hbm, 191, rfl⟩
abbrev main_v122 : Ref sig .tc := ⟨.hbm, 192, rfl⟩
abbrev main_v123 : Ref sig .tc := ⟨.hbm, 193, rfl⟩
abbrev main_c_54 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_cst_55 : Ref sig .tc := ⟨.hbm, 203, rfl⟩
abbrev main_v132 : Ref sig .tc := ⟨.hbm, 204, rfl⟩
abbrev main_v133 : Ref sig .tc := ⟨.hbm, 205, rfl⟩
abbrev main_cst_56 : Ref sig .tc := ⟨.hbm, 206, rfl⟩
abbrev main_v134 : Ref sig .tc := ⟨.hbm, 207, rfl⟩
abbrev main_cst_57 : Ref sig .tc := ⟨.hbm, 208, rfl⟩
abbrev main_v135 : Ref sig .tc := ⟨.hbm, 209, rfl⟩
abbrev main_v136 : Ref sig .tc := ⟨.hbm, 210, rfl⟩
abbrev main_c_58 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_cst_59 : Ref sig .tc := ⟨.hbm, 220, rfl⟩
abbrev main_v145 : Ref sig .tc := ⟨.hbm, 221, rfl⟩
abbrev main_v146 : Ref sig .tc := ⟨.hbm, 222, rfl⟩
abbrev main_cst_60 : Ref sig .tc := ⟨.hbm, 223, rfl⟩
abbrev main_v147 : Ref sig .tc := ⟨.hbm, 224, rfl⟩
abbrev main_cst_61 : Ref sig .tc := ⟨.hbm, 225, rfl⟩
abbrev main_v148 : Ref sig .tc := ⟨.hbm, 226, rfl⟩
abbrev main_v149 : Ref sig .tc := ⟨.hbm, 227, rfl⟩
abbrev main_c_62 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_cst_63 : Ref sig .tc := ⟨.hbm, 237, rfl⟩
abbrev main_v158 : Ref sig .tc := ⟨.hbm, 238, rfl⟩
abbrev main_v159 : Ref sig .tc := ⟨.hbm, 239, rfl⟩
abbrev main_v160 : Ref sig .tc := ⟨.hbm, 240, rfl⟩
abbrev main_v161 : Ref sig .tc := ⟨.hbm, 241, rfl⟩
abbrev main_v162 : Ref sig .tc := ⟨.hbm, 242, rfl⟩
abbrev main_v163 : Ref sig .tc := ⟨.hbm, 243, rfl⟩
abbrev main_v164 : Ref sig .tc := ⟨.hbm, 244, rfl⟩
abbrev main_v165 : Ref sig .tc := ⟨.hbm, 245, rfl⟩
abbrev main_v166 : Ref sig .tc := ⟨.hbm, 246, rfl⟩
abbrev main_v167 : Ref sig .tc := ⟨.hbm, 247, rfl⟩
abbrev main_v168 : Ref sig .tc := ⟨.hbm, 248, rfl⟩
abbrev main_v169 : Ref sig .tc := ⟨.hbm, 249, rfl⟩
abbrev main_v170 : Ref sig .tc := ⟨.hbm, 250, rfl⟩
abbrev main_v171 : Ref sig .tc := ⟨.hbm, 251, rfl⟩
abbrev main_v172 : Ref sig .tc := ⟨.hbm, 252, rfl⟩
abbrev main_v173 : Ref sig .tc := ⟨.hbm, 253, rfl⟩
abbrev main_v174 : Ref sig .tc := ⟨.hbm, 254, rfl⟩
abbrev main_v175 : Ref sig .tc := ⟨.hbm, 255, rfl⟩
abbrev main_v176 : Ref sig .tc := ⟨.hbm, 256, rfl⟩
abbrev main_v177 : Ref sig .tc := ⟨.hbm, 257, rfl⟩
abbrev main_v178 : Ref sig .tc := ⟨.hbm, 258, rfl⟩
abbrev main_v179 : Ref sig .tc := ⟨.hbm, 259, rfl⟩
abbrev main_v180 : Ref sig .tc := ⟨.hbm, 260, rfl⟩
abbrev main_v181 : Ref sig .tc := ⟨.hbm, 261, rfl⟩
abbrev main_v182 : Ref sig .tc := ⟨.hbm, 262, rfl⟩
abbrev main_v183 : Ref sig .tc := ⟨.hbm, 263, rfl⟩
abbrev main_v184 : Ref sig .tc := ⟨.hbm, 264, rfl⟩
abbrev main_v185 : Ref sig .tc := ⟨.hbm, 265, rfl⟩
abbrev main_v186 : Ref sig .tc := ⟨.hbm, 266, rfl⟩
abbrev main_cst_64 : Ref sig .tc := ⟨.hbm, 267, rfl⟩
abbrev main_v187 : Ref sig .tc := ⟨.hbm, 268, rfl⟩
abbrev main_v188 : Ref sig .tc := ⟨.hbm, 269, rfl⟩
abbrev main_v189 : Ref sig .tc := ⟨.hbm, 270, rfl⟩
abbrev main_v190 : Ref sig .tc := ⟨.hbm, 271, rfl⟩
abbrev main_v191 : Ref sig .tc := ⟨.hbm, 272, rfl⟩
abbrev main_v192 : Ref sig .tc := ⟨.hbm, 273, rfl⟩
abbrev main_v193 : Ref sig .tc := ⟨.hbm, 274, rfl⟩
abbrev main_v194 : Ref sig .tc := ⟨.hbm, 275, rfl⟩
abbrev main_v195 : Ref sig .tc := ⟨.hbm, 276, rfl⟩
abbrev main_v196 : Ref sig .tc := ⟨.hbm, 277, rfl⟩
abbrev main_v197 : Ref sig .tc := ⟨.hbm, 278, rfl⟩
abbrev main_v198 : Ref sig .tc := ⟨.hbm, 279, rfl⟩
abbrev main_v199 : Ref sig .tc := ⟨.hbm, 280, rfl⟩
abbrev main_v200 : Ref sig .tc := ⟨.hbm, 281, rfl⟩
abbrev main_v201 : Ref sig .tc := ⟨.hbm, 282, rfl⟩
abbrev main_v202 : Ref sig .tc := ⟨.hbm, 283, rfl⟩
abbrev main_v203 : Ref sig .tc := ⟨.hbm, 284, rfl⟩
abbrev main_v204 : Ref sig .tc := ⟨.hbm, 285, rfl⟩
abbrev main_v205 : Ref sig .tc := ⟨.hbm, 286, rfl⟩
abbrev main_v206 : Ref sig .tc := ⟨.hbm, 287, rfl⟩
abbrev main_v207 : Ref sig .tc := ⟨.hbm, 288, rfl⟩
abbrev main_v208 : Ref sig .tc := ⟨.hbm, 289, rfl⟩
abbrev main_v209 : Ref sig .tc := ⟨.hbm, 290, rfl⟩
abbrev main_v210 : Ref sig .tc := ⟨.hbm, 291, rfl⟩
abbrev main_v211 : Ref sig .tc := ⟨.hbm, 292, rfl⟩
abbrev main_v212 : Ref sig .tc := ⟨.hbm, 293, rfl⟩
abbrev main_v213 : Ref sig .tc := ⟨.hbm, 294, rfl⟩
abbrev main_v214 : Ref sig .tc := ⟨.hbm, 295, rfl⟩
abbrev main_v215 : Ref sig .tc := ⟨.hbm, 296, rfl⟩
abbrev main_v216 : Ref sig .tc := ⟨.hbm, 297, rfl⟩
abbrev main_v217 : Ref sig .tc := ⟨.hbm, 298, rfl⟩
abbrev main_v218 : Ref sig .tc := ⟨.hbm, 299, rfl⟩
abbrev main_v219 : Ref sig .tc := ⟨.hbm, 300, rfl⟩
abbrev main_v220 : Ref sig .tc := ⟨.hbm, 301, rfl⟩
abbrev main_v221 : Ref sig .tc := ⟨.hbm, 302, rfl⟩
abbrev main_v222 : Ref sig .tc := ⟨.hbm, 303, rfl⟩
abbrev main_v223 : Ref sig .tc := ⟨.hbm, 304, rfl⟩
abbrev main_v224 : Ref sig .tc := ⟨.hbm, 305, rfl⟩
abbrev main_v225 : Ref sig .tc := ⟨.hbm, 306, rfl⟩
abbrev main_v226 : Ref sig .tc := ⟨.hbm, 307, rfl⟩
abbrev main_v227 : Ref sig .tc := ⟨.hbm, 308, rfl⟩
abbrev main_v228 : Ref sig .tc := ⟨.hbm, 309, rfl⟩
abbrev main_v229 : Ref sig .tc := ⟨.hbm, 310, rfl⟩
abbrev main_v230 : Ref sig .tc := ⟨.hbm, 311, rfl⟩
abbrev main_cst_65 : Ref sig .tc := ⟨.hbm, 312, rfl⟩
abbrev main_v231 : Ref sig .tc := ⟨.hbm, 313, rfl⟩
abbrev main_v232 : Ref sig .tc := ⟨.hbm, 314, rfl⟩
abbrev main_v233 : Ref sig .tc := ⟨.hbm, 315, rfl⟩
abbrev main_c_66 : Ref sig .tc := ⟨.hbm, 316, rfl⟩
abbrev main_v234 : Ref sig .tc := ⟨.hbm, 317, rfl⟩
abbrev main_c_67 : Ref sig .tc := ⟨.hbm, 318, rfl⟩
abbrev main_v235 : Ref sig .tc := ⟨.hbm, 319, rfl⟩
abbrev main_v236 : Ref sig .tc := ⟨.hbm, 320, rfl⟩
abbrev main_v237 : Ref sig .tc := ⟨.hbm, 321, rfl⟩
abbrev main_v238 : Ref sig .tc := ⟨.hbm, 322, rfl⟩
abbrev main_v239 : Ref sig .tc := ⟨.hbm, 323, rfl⟩
abbrev main_c_68 : Ref sig .tc := ⟨.hbm, 324, rfl⟩
abbrev main_v240 : Ref sig .tc := ⟨.hbm, 325, rfl⟩
abbrev main_c_69 : Ref sig .tc := ⟨.hbm, 326, rfl⟩
abbrev main_v241 : Ref sig .tc := ⟨.hbm, 327, rfl⟩
abbrev main_v242 : Ref sig .tc := ⟨.hbm, 328, rfl⟩
abbrev main_v243 : Ref sig .tc := ⟨.hbm, 329, rfl⟩
abbrev main_v244 : Ref sig .tc := ⟨.hbm, 330, rfl⟩
abbrev main_v245 : Ref sig .tc := ⟨.hbm, 331, rfl⟩
abbrev main_v246 : Ref sig .tc := ⟨.hbm, 332, rfl⟩
abbrev main_v247 : Ref sig .tc := ⟨.hbm, 333, rfl⟩
abbrev main_v248 : Ref sig .tc := ⟨.hbm, 334, rfl⟩
abbrev main_v249 : Ref sig .tc := ⟨.hbm, 335, rfl⟩
abbrev main_v250 : Ref sig .tc := ⟨.hbm, 336, rfl⟩
abbrev main_v251 : Ref sig .tc := ⟨.hbm, 337, rfl⟩
abbrev main_v252 : Ref sig .tc := ⟨.hbm, 338, rfl⟩
abbrev main_v253 : Ref sig .tc := ⟨.hbm, 339, rfl⟩
abbrev main_v254 : Ref sig .tc := ⟨.hbm, 340, rfl⟩
abbrev main_v255 : Ref sig .tc := ⟨.hbm, 341, rfl⟩
abbrev main_v256 : Ref sig .tc := ⟨.hbm, 342, rfl⟩
abbrev main_v257 : Ref sig .tc := ⟨.hbm, 343, rfl⟩
abbrev main_v258 : Ref sig .tc := ⟨.hbm, 344, rfl⟩
abbrev main_v259 : Ref sig .tc := ⟨.hbm, 345, rfl⟩
abbrev main_v260 : Ref sig .tc := ⟨.hbm, 346, rfl⟩
abbrev main_v261 : Ref sig .tc := ⟨.hbm, 347, rfl⟩
abbrev main_v262 : Ref sig .tc := ⟨.hbm, 348, rfl⟩
abbrev main_v263_0 : Ref sig .tc := ⟨.hbm, 349, rfl⟩
abbrev main_v263_1 : Ref sig .tc := ⟨.hbm, 350, rfl⟩
abbrev main_v263_2 : Ref sig .tc := ⟨.hbm, 351, rfl⟩
abbrev main_v263_3 : Ref sig .tc := ⟨.hbm, 352, rfl⟩
abbrev main_v263_4 : Ref sig .tc := ⟨.hbm, 353, rfl⟩
abbrev main_v263_5 : Ref sig .tc := ⟨.hbm, 354, rfl⟩
abbrev main_v263_6 : Ref sig .tc := ⟨.hbm, 355, rfl⟩
abbrev main_v263_7 : Ref sig .tc := ⟨.hbm, 356, rfl⟩
abbrev main_v263_8 : Ref sig .tc := ⟨.hbm, 357, rfl⟩
abbrev main_v263_9 : Ref sig .tc := ⟨.hbm, 358, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_stg23_0 : Ref sig .tc := ⟨.vmem, 35, rfl⟩
abbrev cc0_stg23_1 : Ref sig .tc := ⟨.vmem, 36, rfl⟩
abbrev cc0_stg24_0 : Ref sig .tc := ⟨.vmem, 37, rfl⟩
abbrev cc0_stg24_1 : Ref sig .tc := ⟨.vmem, 38, rfl⟩
abbrev cc0_stg25_0 : Ref sig .tc := ⟨.vmem, 39, rfl⟩
abbrev cc0_stg25_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34
abbrev cc0_sem23_0 : DmaSem sig := 35
abbrev cc0_sem23_1 : DmaSem sig := 36
abbrev cc0_sem24_0 : DmaSem sig := 37
abbrev cc0_sem24_1 : DmaSem sig := 38
abbrev cc0_sem25_0 : DmaSem sig := 39
abbrev cc0_sem25_1 : DmaSem sig := 40

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg1 c16_i32
  let c8_i32 : BitVec 32 := 8#32
  let v1 : BitVec 32 := Scalar.select v0 arg0 c8_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S1x256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x256x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x256x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x256x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x256x1536 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x256x3072 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]
-- ==== InprojRefIdeal.lean ====
abbrev S8x4096x1024 : Shape := ⟨3, ![8, 4096, 1024]⟩
abbrev S8x256x1024 : Shape := ⟨3, ![8, 256, 1024]⟩
abbrev S2x8x6144 : Shape := ⟨3, ![2, 8, 6144]⟩
abbrev S2x6144 : Shape := ⟨2, ![2, 6144]⟩
abbrev S2x1024 : Shape := ⟨2, ![2, 1024]⟩
abbrev S2x1024x6592 : Shape := ⟨3, ![2, 1024, 6592]⟩
abbrev S2x256 : Shape := ⟨2, ![2, 256]⟩
abbrev S2x256x768 : Shape := ⟨3, ![2, 256, 768]⟩
abbrev S2x128 : Shape := ⟨2, ![2, 128]⟩
abbrev S2x128x1024 : Shape := ⟨3, ![2, 128, 1024]⟩
abbrev S2x2x16x256 : Shape := ⟨4, ![2, 2, 16, 256]⟩
abbrev S2x2x256 : Shape := ⟨3, ![2, 2, 256]⟩
abbrev S4352x128 : Shape := ⟨2, ![4352, 128]⟩
abbrev S1x8x6144 : Shape := ⟨3, ![1, 8, 6144]⟩
abbrev S8x6144 : Shape := ⟨2, ![8, 6144]⟩
abbrev S8x1x6144 : Shape := ⟨3, ![8, 1, 6144]⟩
abbrev S8x1x1024 : Shape := ⟨3, ![8, 1, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x6592 : Shape := ⟨3, ![1, 1024, 6592]⟩
abbrev S1024x6592 : Shape := ⟨2, ![1024, 6592]⟩
abbrev S8x4096x6592 : Shape := ⟨3, ![8, 4096, 6592]⟩
abbrev S8x4096x256 : Shape := ⟨3, ![8, 4096, 256]⟩
abbrev S8x4096x128 : Shape := ⟨3, ![8, 4096, 128]⟩
abbrev S8x4096x32 : Shape := ⟨3, ![8, 4096, 32]⟩
abbrev S8x4096x512 : Shape := ⟨3, ![8, 4096, 512]⟩
abbrev S8x4096x16 : Shape := ⟨3, ![8, 4096, 16]⟩
abbrev S8x4096x1536 : Shape := ⟨3, ![8, 4096, 1536]⟩
abbrev S8x4096x3072 : Shape := ⟨3, ![8, 4096, 3072]⟩
abbrev S1x1x16x256 : Shape := ⟨4, ![1, 1, 16, 256]⟩
abbrev S16x256 : Shape := ⟨2, ![16, 256]⟩
abbrev S1x1x256 : Shape := ⟨3, ![1, 1, 256]⟩
abbrev S256 : Shape := ⟨1, ![256]⟩
abbrev S1x6144 : Shape := ⟨2, ![1, 6144]⟩
abbrev S6144 : Shape := ⟨1, ![6144]⟩
abbrev S8x256 : Shape := ⟨2, ![8, 256]⟩
abbrev S8x256x1 : Shape := ⟨3, ![8, 256, 1]⟩
abbrev S8x256x6592 : Shape := ⟨3, ![8, 256, 6592]⟩
abbrev S8x256x256 : Shape := ⟨3, ![8, 256, 256]⟩
abbrev S8x256x128 : Shape := ⟨3, ![8, 256, 128]⟩
abbrev S8x256x32 : Shape := ⟨3, ![8, 256, 32]⟩
abbrev S8x256x512 : Shape := ⟨3, ![8, 256, 512]⟩
abbrev S8x256x16 : Shape := ⟨3, ![8, 256, 16]⟩
abbrev S8x256x1536 : Shape := ⟨3, ![8, 256, 1536]⟩
abbrev S8x256x3072 : Shape := ⟨3, ![8, 256, 3072]⟩
abbrev S8x4352x256 : Shape := ⟨3, ![8, 4352, 256]⟩
abbrev S8x4352x512 : Shape := ⟨3, ![8, 4352, 512]⟩
abbrev S8x4352x1536 : Shape := ⟨3, ![8, 4352, 1536]⟩
abbrev S8x4352x3072 : Shape := ⟨3, ![8, 4352, 3072]⟩

abbrev nBuf : Space → Nat
  | .hbm => 278
  | .vmem => 0
  | .smem => 0
  | _ => 0

abbrev hbmTy0_0 (i : Nat) : BufTy := match i % 128 with
  | 0 => ⟨S8x4096x1024, .f32⟩
  | 1 => ⟨S8x256x1024, .f32⟩
  | 2 => ⟨S2x8x6144, .f32⟩
  | 3 => ⟨S2x6144, .f32⟩
  | 4 => ⟨S2x1024, .f32⟩
  | 5 => ⟨S2x1024x6592, .f32⟩
  | 6 => ⟨S2x256, .f32⟩
  | 7 => ⟨S2x256x768, .f32⟩
  | 8 => ⟨S2x128, .f32⟩
  | 9 => ⟨S2x128x1024, .f32⟩
  | 10 => ⟨S2x2x16x256, .f32⟩
  | 11 => ⟨S2x2x256, .f32⟩
  | 12 => ⟨S4352x128, .f32⟩
  | 13 => ⟨S4352x128, .f32⟩
  | 14 => ⟨S1x8x6144, .f32⟩
  | 15 => ⟨S8x6144, .f32⟩
  | 16 => ⟨S8x1x6144, .f32⟩
  | 17 => ⟨S8x1x1024, .f32⟩
  | 18 => ⟨S8x1x1024, .f32⟩
  | 19 => ⟨S8x1x1024, .f32⟩
  | 20 => ⟨S8x1x1024, .f32⟩
  | 21 => ⟨S8x1x1024, .f32⟩
  | 22 => ⟨S8x1x1024, .f32⟩
  | 23 => ⟨S1x1024, .f32⟩
  | 24 => ⟨S1024, .f32⟩
  | 25 => ⟨S8x4096x1024, .f32⟩
  | 26 => ⟨S_, .f32⟩
  | 27 => ⟨S8x4096, .f32⟩
  | 28 => ⟨S8x4096x1, .f32⟩
  | 29 => ⟨S_, .f32⟩
  | 30 => ⟨S8x4096x1, .f32⟩
  | 31 => ⟨S8x4096x1, .f32⟩
  | 32 => ⟨S_, .f32⟩
  | 33 => ⟨S8x4096x1, .f32⟩
  | 34 => ⟨S8x4096x1, .f32⟩
  | 35 => ⟨S8x4096x1, .f32⟩
  | 36 => ⟨S8x4096x1024, .f32⟩
  | 37 => ⟨S8x4096x1024, .f32⟩
  | 38 => ⟨S1x1x1024, .f32⟩
  | 39 => ⟨S8x4096x1024, .f32⟩
  | 40 => ⟨S8x4096x1024, .f32⟩
  | 41 => ⟨S_, .f32⟩
  | 42 => ⟨S8x1x1024, .f32⟩
  | 43 => ⟨S8x1x1024, .f32⟩
  | 44 => ⟨S8x4096x1024, .f32⟩
  | 45 => ⟨S8x4096x1024, .f32⟩
  | 46 => ⟨S8x4096x1024, .f32⟩
  | 47 => ⟨S8x4096x1024, .f32⟩
  | 48 => ⟨S1x1024x6592, .f32⟩
  | 49 => ⟨S1024x6592, .f32⟩
  | 50 => ⟨S8x4096x6592, .f32⟩
  | 51 => ⟨S8x4096x256, .f32⟩
  | 52 => ⟨S8x4096x128, .f32⟩
  | 53 => ⟨S8x4096x32, .f32⟩
  | 54 => ⟨S8x4096x256, .f32⟩
  | 55 => ⟨S8x4096x256, .f32⟩
  | 56 => ⟨S8x4096x512, .f32⟩
  | 57 => ⟨S8x4096x512, .f32⟩
  | 58 => ⟨S8x4096x16, .f32⟩
  | 59 => ⟨S8x4096x16, .f32⟩
  | 60 => ⟨S8x4096x1536, .f32⟩
  | 61 => ⟨S8x4096x3072, .f32⟩
  | 62 => ⟨S1x1x16x256, .f32⟩
  | 63 => ⟨S16x256, .f32⟩
  | 64 => ⟨S8x4096x256, .f32⟩
  | 65 => ⟨S1x1x256, .f32⟩
  | 66 => ⟨S256, .f32⟩
  | 67 => ⟨S1x1x256, .f32⟩
  | 68 => ⟨S8x4096x256, .f32⟩
  | 69 => ⟨S8x4096x256, .f32⟩
  | 70 => ⟨S8x4096x256, .f32⟩
  | 71 => ⟨S_, .f32⟩
  | 72 => ⟨S8x4096x256, .f32⟩
  | 73 => ⟨S8x4096x256, .f32⟩
  | 74 => ⟨S8x4096x256, .f32⟩
  | 75 => ⟨S8x4096x256, .f32⟩
  | 76 => ⟨S8x4096x256, .i1⟩
  | 77 => ⟨S8x4096x256, .f32⟩
  | 78 => ⟨S8x4096x256, .f32⟩
  | 79 => ⟨S8x4096x256, .f32⟩
  | 80 => ⟨S8x4096x256, .f32⟩
  | 81 => ⟨S8x4096x256, .f32⟩
  | 82 => ⟨S8x4096x256, .f32⟩
  | 83 => ⟨S8x4096x256, .f32⟩
  | 84 => ⟨S8x4096x256, .f32⟩
  | 85 => ⟨S8x4096x256, .f32⟩
  | 86 => ⟨S_, .f32⟩
  | 87 => ⟨S8x4096x256, .f32⟩
  | 88 => ⟨S8x4096x256, .f32⟩
  | 89 => ⟨S1x1x16x256, .f32⟩
  | 90 => ⟨S16x256, .f32⟩
  | 91 => ⟨S8x4096x256, .f32⟩
  | 92 => ⟨S1x1x256, .f32⟩
  | 93 => ⟨S256, .f32⟩
  | 94 => ⟨S1x1x256, .f32⟩
  | 95 => ⟨S8x4096x256, .f32⟩
  | 96 => ⟨S8x4096x256, .f32⟩
  | 97 => ⟨S8x4096x256, .f32⟩
  | 98 => ⟨S_, .f32⟩
  | 99 => ⟨S8x4096x256, .f32⟩
  | 100 => ⟨S8x4096x256, .f32⟩
  | 101 => ⟨S8x4096x256, .f32⟩
  | 102 => ⟨S8x4096x256, .f32⟩
  | 103 => ⟨S8x4096x256, .i1⟩
  | 104 => ⟨S8x4096x256, .f32⟩
  | 105 => ⟨S8x4096x256, .f32⟩
  | 106 => ⟨S8x4096x256, .f32⟩
  | 107 => ⟨S8x4096x256, .f32⟩
  | 108 => ⟨S8x4096x256, .f32⟩
  | 109 => ⟨S8x4096x256, .f32⟩
  | 110 => ⟨S8x4096x256, .f32⟩
  | 111 => ⟨S8x4096x256, .f32⟩
  | 112 => ⟨S8x4096x256, .f32⟩
  | 113 => ⟨S_, .f32⟩
  | 114 => ⟨S8x4096x256, .f32⟩
  | 115 => ⟨S8x4096x256, .f32⟩
  | 116 => ⟨S8x4096x512, .f32⟩
  | 117 => ⟨S_, .f32⟩
  | 118 => ⟨S8x4096x256, .f32⟩
  | 119 => ⟨S8x4096x256, .f32⟩
  | 120 => ⟨S8x4096x256, .bf16⟩
  | 121 => ⟨S8x4096x256, .bf16⟩
  | 122 => ⟨S8x4096x512, .bf16⟩
  | 123 => ⟨S8x4096x512, .f32⟩
  | 124 => ⟨S8x4096x512, .f32⟩
  | 125 => ⟨S_, .f32⟩
  | 126 => ⟨S8x4096x512, .f32⟩
  | 127 => ⟨S8x4096x512, .f32⟩
  | _ => ⟨S8x4096x1024, .f32⟩

abbrev hbmTy0_1 (i : Nat) : BufTy := match i % 128 with
  | 0 => ⟨S_, .f32⟩
  | 1 => ⟨S8x4096x512, .f32⟩
  | 2 => ⟨S8x4096x512, .f32⟩
  | 3 => ⟨S8x4096x512, .f32⟩
  | 4 => ⟨S8x4096x512, .bf16⟩
  | 5 => ⟨S8x4096x3072, .f32⟩
  | 6 => ⟨S8x4096x3072, .f32⟩
  | 7 => ⟨S_, .f32⟩
  | 8 => ⟨S8x4096x3072, .f32⟩
  | 9 => ⟨S8x4096x3072, .f32⟩
  | 10 => ⟨S_, .f32⟩
  | 11 => ⟨S8x4096x3072, .f32⟩
  | 12 => ⟨S8x4096x3072, .f32⟩
  | 13 => ⟨S8x4096x3072, .bf16⟩
  | 14 => ⟨S1x6144, .f32⟩
  | 15 => ⟨S6144, .f32⟩
  | 16 => ⟨S1024, .f32⟩
  | 17 => ⟨S1024, .f32⟩
  | 18 => ⟨S1024, .f32⟩
  | 19 => ⟨S1024, .f32⟩
  | 20 => ⟨S1024, .f32⟩
  | 21 => ⟨S1024, .f32⟩
  | 22 => ⟨S1x1024, .f32⟩
  | 23 => ⟨S1024, .f32⟩
  | 24 => ⟨S8x256x1024, .f32⟩
  | 25 => ⟨S_, .f32⟩
  | 26 => ⟨S8x256, .f32⟩
  | 27 => ⟨S8x256x1, .f32⟩
  | 28 => ⟨S_, .f32⟩
  | 29 => ⟨S8x256x1, .f32⟩
  | 30 => ⟨S8x256x1, .f32⟩
  | 31 => ⟨S_, .f32⟩
  | 32 => ⟨S8x256x1, .f32⟩
  | 33 => ⟨S8x256x1, .f32⟩
  | 34 => ⟨S8x256x1, .f32⟩
  | 35 => ⟨S8x256x1024, .f32⟩
  | 36 => ⟨S8x256x1024, .f32⟩
  | 37 => ⟨S1x1x1024, .f32⟩
  | 38 => ⟨S8x256x1024, .f32⟩
  | 39 => ⟨S8x256x1024, .f32⟩
  | 40 => ⟨S_, .f32⟩
  | 41 => ⟨S1024, .f32⟩
  | 42 => ⟨S1024, .f32⟩
  | 43 => ⟨S1x1x1024, .f32⟩
  | 44 => ⟨S8x256x1024, .f32⟩
  | 45 => ⟨S8x256x1024, .f32⟩
  | 46 => ⟨S1x1x1024, .f32⟩
  | 47 => ⟨S8x256x1024, .f32⟩
  | 48 => ⟨S8x256x1024, .f32⟩
  | 49 => ⟨S1x1024x6592, .f32⟩
  | 50 => ⟨S1024x6592, .f32⟩
  | 51 => ⟨S8x256x6592, .f32⟩
  | 52 => ⟨S8x256x256, .f32⟩
  | 53 => ⟨S8x256x128, .f32⟩
  | 54 => ⟨S8x256x32, .f32⟩
  | 55 => ⟨S8x256x256, .f32⟩
  | 56 => ⟨S8x256x256, .f32⟩
  | 57 => ⟨S8x256x512, .f32⟩
  | 58 => ⟨S8x256x512, .f32⟩
  | 59 => ⟨S8x256x16, .f32⟩
  | 60 => ⟨S8x256x16, .f32⟩
  | 61 => ⟨S8x256x1536, .f32⟩
  | 62 => ⟨S8x256x3072, .f32⟩
  | 63 => ⟨S1x1x16x256, .f32⟩
  | 64 => ⟨S16x256, .f32⟩
  | 65 => ⟨S8x256x256, .f32⟩
  | 66 => ⟨S1x1x256, .f32⟩
  | 67 => ⟨S256, .f32⟩
  | 68 => ⟨S1x1x256, .f32⟩
  | 69 => ⟨S8x256x256, .f32⟩
  | 70 => ⟨S8x256x256, .f32⟩
  | 71 => ⟨S8x256x256, .f32⟩
  | 72 => ⟨S_, .f32⟩
  | 73 => ⟨S8x256x256, .f32⟩
  | 74 => ⟨S8x256x256, .f32⟩
  | 75 => ⟨S8x256x256, .f32⟩
  | 76 => ⟨S8x256x256, .f32⟩
  | 77 => ⟨S8x256x256, .i1⟩
  | 78 => ⟨S8x256x256, .f32⟩
  | 79 => ⟨S8x256x256, .f32⟩
  | 80 => ⟨S8x256x256, .f32⟩
  | 81 => ⟨S8x256x256, .f32⟩
  | 82 => ⟨S8x256x256, .f32⟩
  | 83 => ⟨S8x256x256, .f32⟩
  | 84 => ⟨S8x256x256, .f32⟩
  | 85 => ⟨S8x256x256, .f32⟩
  | 86 => ⟨S8x256x256, .f32⟩
  | 87 => ⟨S_, .f32⟩
  | 88 => ⟨S8x256x256, .f32⟩
  | 89 => ⟨S8x256x256, .f32⟩
  | 90 => ⟨S1x1x16x256, .f32⟩
  | 91 => ⟨S16x256, .f32⟩
  | 92 => ⟨S8x256x256, .f32⟩
  | 93 => ⟨S1x1x256, .f32⟩
  | 94 => ⟨S256, .f32⟩
  | 95 => ⟨S1x1x256, .f32⟩
  | 96 => ⟨S8x256x256, .f32⟩
  | 97 => ⟨S8x256x256, .f32⟩
  | 98 => ⟨S8x256x256, .f32⟩
  | 99 => ⟨S_, .f32⟩
  | 100 => ⟨S8x256x256, .f32⟩
  | 101 => ⟨S8x256x256, .f32⟩
  | 102 => ⟨S8x256x256, .f32⟩
  | 103 => ⟨S8x256x256, .f32⟩
  | 104 => ⟨S8x256x256, .i1⟩
  | 105 => ⟨S8x256x256, .f32⟩
  | 106 => ⟨S8x256x256, .f32⟩
  | 107 => ⟨S8x256x256, .f32⟩
  | 108 => ⟨S8x256x256, .f32⟩
  | 109 => ⟨S8x256x256, .f32⟩
  | 110 => ⟨S8x256x256, .f32⟩
  | 111 => ⟨S8x256x256, .f32⟩
  | 112 => ⟨S8x256x256, .f32⟩
  | 113 => ⟨S8x256x256, .f32⟩
  | 114 => ⟨S_, .f32⟩
  | 115 => ⟨S8x256x256, .f32⟩
  | 116 => ⟨S8x256x256, .f32⟩
  | 117 => ⟨S8x256x512, .f32⟩
  | 118 => ⟨S_, .f32⟩
  | 119 => ⟨S8x256x256, .f32⟩
  | 120 => ⟨S8x256x256, .f32⟩
  | 121 => ⟨S8x256x256, .bf16⟩
  | 122 => ⟨S8x256x256, .bf16⟩
  | 123 => ⟨S8x256x512, .bf16⟩
  | 124 => ⟨S8x256x512, .f32⟩
  | 125 => ⟨S8x256x512, .f32⟩
  | 126 => ⟨S_, .f32⟩
  | 127 => ⟨S8x256x512, .f32⟩
  | _ => ⟨S8x4096x1024, .f32⟩

abbrev hbmTy0_2 (i : Nat) : BufTy := match i % 128 with
  | 0 => ⟨S8x256x512, .f32⟩
  | 1 => ⟨S_, .f32⟩
  | 2 => ⟨S8x256x512, .f32⟩
  | 3 => ⟨S8x256x512, .f32⟩
  | 4 => ⟨S8x256x512, .f32⟩
  | 5 => ⟨S8x256x512, .bf16⟩
  | 6 => ⟨S8x256x3072, .f32⟩
  | 7 => ⟨S8x256x3072, .f32⟩
  | 8 => ⟨S_, .f32⟩
  | 9 => ⟨S8x256x3072, .f32⟩
  | 10 => ⟨S8x256x3072, .f32⟩
  | 11 => ⟨S_, .f32⟩
  | 12 => ⟨S8x256x3072, .f32⟩
  | 13 => ⟨S8x256x3072, .f32⟩
  | 14 => ⟨S8x256x3072, .bf16⟩
  | 15 => ⟨S8x4352x256, .bf16⟩
  | 16 => ⟨S8x4352x256, .bf16⟩
  | 17 => ⟨S8x4352x512, .bf16⟩
  | 18 => ⟨S8x4352x512, .bf16⟩
  | 19 => ⟨S8x4352x512, .f32⟩
  | 20 => ⟨S8x4352x1536, .f32⟩
  | 21 => ⟨S8x4352x3072, .bf16⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_call0_v0 : Ref sig .tc := ⟨.hbm, 70, rfl⟩
abbrev main_call0_call0_cst : Ref sig .tc := ⟨.hbm, 71, rfl⟩
abbrev main_call0_call0_v0 : Ref sig .tc := ⟨.hbm, 72, rfl⟩
abbrev main_call0_call0_v1 : Ref sig .tc := ⟨.hbm, 73, rfl⟩
abbrev main_call0_call0_v2 : Ref sig .tc := ⟨.hbm, 74, rfl⟩
abbrev main_call0_call0_v3 : Ref sig .tc := ⟨.hbm, 75, rfl⟩
abbrev main_call0_call0_v4 : Ref sig .tc := ⟨.hbm, 76, rfl⟩
abbrev main_call0_call0_v5 : Ref sig .tc := ⟨.hbm, 77, rfl⟩
abbrev main_call0_call0_v6 : Ref sig .tc := ⟨.hbm, 78, rfl⟩
abbrev main_call0_call0_v7 : Ref sig .tc := ⟨.hbm, 79, rfl⟩
abbrev main_call0_call0_v8 : Ref sig .tc := ⟨.hbm, 80, rfl⟩
abbrev main_call0_call0_v9 : Ref sig .tc := ⟨.hbm, 81, rfl⟩
abbrev main_call0_call0_v10 : Ref sig .tc := ⟨.hbm, 82, rfl⟩
abbrev main_call0_call0_v11 : Ref sig .tc := ⟨.hbm, 83, rfl⟩
abbrev main_call0_v1 : Ref sig .tc := ⟨.hbm, 84, rfl⟩
abbrev main_v52 : Ref sig .tc := ⟨.hbm, 85, rfl⟩
abbrev main_cst_3 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_call1_v0 : Ref sig .tc := ⟨.hbm, 97, rfl⟩
abbrev main_call1_call0_cst : Ref sig .tc := ⟨.hbm, 98, rfl⟩
abbrev main_call1_call0_v0 : Ref sig .tc := ⟨.hbm, 99, rfl⟩
abbrev main_call1_call0_v1 : Ref sig .tc := ⟨.hbm, 100, rfl⟩
abbrev main_call1_call0_v2 : Ref sig .tc := ⟨.hbm, 101, rfl⟩
abbrev main_call1_call0_v3 : Ref sig .tc := ⟨.hbm, 102, rfl⟩
abbrev main_call1_call0_v4 : Ref sig .tc := ⟨.hbm, 103, rfl⟩
abbrev main_call1_call0_v5 : Ref sig .tc := ⟨.hbm, 104, rfl⟩
abbrev main_call1_call0_v6 : Ref sig .tc := ⟨.hbm, 105, rfl⟩
abbrev main_call1_call0_v7 : Ref sig .tc := ⟨.hbm, 106, rfl⟩
abbrev main_call1_call0_v8 : Ref sig .tc := ⟨.hbm, 107, rfl⟩
abbrev main_call1_call0_v9 : Ref sig .tc := ⟨.hbm, 108, rfl⟩
abbrev main_call1_call0_v10 : Ref sig .tc := ⟨.hbm, 109, rfl⟩
abbrev main_call1_call0_v11 : Ref sig .tc := ⟨.hbm, 110, rfl⟩
abbrev main_call1_v1 : Ref sig .tc := ⟨.hbm, 111, rfl⟩
abbrev main_v63 : Ref sig .tc := ⟨.hbm, 112, rfl⟩
abbrev main_cst_4 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_cst_5 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_call2_v0 : Ref sig .tc := ⟨.hbm, 123, rfl⟩
abbrev main_call2_v1 : Ref sig .tc := ⟨.hbm, 124, rfl⟩
abbrev main_call2_cst : Ref sig .tc := ⟨.hbm, 125, rfl⟩
abbrev main_call2_v2 : Ref sig .tc := ⟨.hbm, 126, rfl⟩
abbrev main_call2_v3 : Ref sig .tc := ⟨.hbm, 127, rfl⟩
abbrev main_call2_cst_0 : Ref sig .tc := ⟨.hbm, 128, rfl⟩
abbrev main_call2_v4 : Ref sig .tc := ⟨.hbm, 129, rfl⟩
abbrev main_call2_v5 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_cst_6 : Ref sig .tc := ⟨.hbm, 135, rfl⟩
abbrev main_v76 : Ref sig .tc := ⟨.hbm, 136, rfl⟩
abbrev main_v77 : Ref sig .tc := ⟨.hbm, 137, rfl⟩
abbrev main_cst_7 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_cst_8 : Ref sig .tc := ⟨.hbm, 153, rfl⟩
abbrev main_v92 : Ref sig .tc := ⟨.hbm, 154, rfl⟩
abbrev main_v93 : Ref sig .tc := ⟨.hbm, 155, rfl⟩
abbrev main_cst_9 : Ref sig .tc := ⟨.hbm, 156, rfl⟩
abbrev main_v94 : Ref sig .tc := ⟨.hbm, 157, rfl⟩
abbrev main_v95 : Ref sig .tc := ⟨.hbm, 158, rfl⟩
abbrev main_cst_10 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_cst_11 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_call3_v0 : Ref sig .tc := ⟨.hbm, 199, rfl⟩
abbrev main_call3_call0_cst : Ref sig .tc := ⟨.hbm, 200, rfl⟩
abbrev main_call3_call0_v0 : Ref sig .tc := ⟨.hbm, 201, rfl⟩
abbrev main_call3_call0_v1 : Ref sig .tc := ⟨.hbm, 202, rfl⟩
abbrev main_call3_call0_v2 : Ref sig .tc := ⟨.hbm, 203, rfl⟩
abbrev main_call3_call0_v3 : Ref sig .tc := ⟨.hbm, 204, rfl⟩
abbrev main_call3_call0_v4 : Ref sig .tc := ⟨.hbm, 205, rfl⟩
abbrev main_call3_call0_v5 : Ref sig .tc := ⟨.hbm, 206, rfl⟩
abbrev main_call3_call0_v6 : Ref sig .tc := ⟨.hbm, 207, rfl⟩
abbrev main_call3_call0_v7 : Ref sig .tc := ⟨.hbm, 208, rfl⟩
abbrev main_call3_call0_v8 : Ref sig .tc := ⟨.hbm, 209, rfl⟩
abbrev main_call3_call0_v9 : Ref sig .tc := ⟨.hbm, 210, rfl⟩
abbrev main_call3_call0_v10 : Ref sig .tc := ⟨.hbm, 211, rfl⟩
abbrev main_call3_call0_v11 : Ref sig .tc := ⟨.hbm, 212, rfl⟩
abbrev main_call3_v1 : Ref sig .tc := ⟨.hbm, 213, rfl⟩
abbrev main_v134 : Ref sig .tc := ⟨.hbm, 214, rfl⟩
abbrev main_cst_12 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_v144 : Ref sig .tc := ⟨.hbm, 225, rfl⟩
abbrev main_call4_v0 : Ref sig .tc := ⟨.hbm, 226, rfl⟩
abbrev main_call4_call0_cst : Ref sig .tc := ⟨.hbm, 227, rfl⟩
abbrev main_call4_call0_v0 : Ref sig .tc := ⟨.hbm, 228, rfl⟩
abbrev main_call4_call0_v1 : Ref sig .tc := ⟨.hbm, 229, rfl⟩
abbrev main_call4_call0_v2 : Ref sig .tc := ⟨.hbm, 230, rfl⟩
abbrev main_call4_call0_v3 : Ref sig .tc := ⟨.hbm, 231, rfl⟩
abbrev main_call4_call0_v4 : Ref sig .tc := ⟨.hbm, 232, rfl⟩
abbrev main_call4_call0_v5 : Ref sig .tc := ⟨.hbm, 233, rfl⟩
abbrev main_call4_call0_v6 : Ref sig .tc := ⟨.hbm, 234, rfl⟩
abbrev main_call4_call0_v7 : Ref sig .tc := ⟨.hbm, 235, rfl⟩
abbrev main_call4_call0_v8 : Ref sig .tc := ⟨.hbm, 236, rfl⟩
abbrev main_call4_call0_v9 : Ref sig .tc := ⟨.hbm, 237, rfl⟩
abbrev main_call4_call0_v10 : Ref sig .tc := ⟨.hbm, 238, rfl⟩
abbrev main_call4_call0_v11 : Ref sig .tc := ⟨.hbm, 239, rfl⟩
abbrev main_call4_v1 : Ref sig .tc := ⟨.hbm, 240, rfl⟩
abbrev main_v145 : Ref sig .tc := ⟨.hbm, 241, rfl⟩
abbrev main_cst_13 : Ref sig .tc := ⟨.hbm, 242, rfl⟩
abbrev main_v146 : Ref sig .tc := ⟨.hbm, 243, rfl⟩
abbrev main_v147 : Ref sig .tc := ⟨.hbm, 244, rfl⟩
abbrev main_v148 : Ref sig .tc := ⟨.hbm, 245, rfl⟩
abbrev main_cst_14 : Ref sig .tc := ⟨.hbm, 246, rfl⟩
abbrev main_v149 : Ref sig .tc := ⟨.hbm, 247, rfl⟩
abbrev main_v150 : Ref sig .tc := ⟨.hbm, 248, rfl⟩
abbrev main_v151 : Ref sig .tc := ⟨.hbm, 249, rfl⟩
abbrev main_v152 : Ref sig .tc := ⟨.hbm, 250, rfl⟩
abbrev main_v153 : Ref sig .tc := ⟨.hbm, 251, rfl⟩
abbrev main_call5_v0 : Ref sig .tc := ⟨.hbm, 252, rfl⟩
abbrev main_call5_v1 : Ref sig .tc := ⟨.hbm, 253, rfl⟩
abbrev main_call5_cst : Ref sig .tc := ⟨.hbm, 254, rfl⟩
abbrev main_call5_v2 : Ref sig .tc := ⟨.hbm, 255, rfl⟩
abbrev main_call5_v3 : Ref sig .tc := ⟨.hbm, 256, rfl⟩
abbrev main_call5_cst_0 : Ref sig .tc := ⟨.hbm, 257, rfl⟩
abbrev main_call5_v4 : Ref sig .tc := ⟨.hbm, 258, rfl⟩
abbrev main_call5_v5 : Ref sig .tc := ⟨.hbm, 259, rfl⟩
abbrev main_v154 : Ref sig .tc := ⟨.hbm, 260, rfl⟩
abbrev main_v155 : Ref sig .tc := ⟨.hbm, 261, rfl⟩
abbrev main_v156 : Ref sig .tc := ⟨.hbm, 262, rfl⟩
abbrev main_v157 : Ref sig .tc := ⟨.hbm, 263, rfl⟩
abbrev main_cst_15 : Ref sig .tc := ⟨.hbm, 264, rfl⟩
abbrev main_v158 : Ref sig .tc := ⟨.hbm, 265, rfl⟩
abbrev main_v159 : Ref sig .tc := ⟨.hbm, 266, rfl⟩
abbrev main_cst_16 : Ref sig .tc := ⟨.hbm, 267, rfl⟩
abbrev main_v160 : Ref sig .tc := ⟨.hbm, 268, rfl⟩
abbrev main_v161 : Ref sig .tc := ⟨.hbm, 269, rfl⟩
abbrev main_v162 : Ref sig .tc := ⟨.hbm, 270, rfl⟩
abbrev main_v163 : Ref sig .tc := ⟨.hbm, 271, rfl⟩
abbrev main_v164 : Ref sig .tc := ⟨.hbm, 272, rfl⟩
abbrev main_v165 : Ref sig .tc := ⟨.hbm, 273, rfl⟩
abbrev main_v166 : Ref sig .tc := ⟨.hbm, 274, rfl⟩
abbrev main_v167 : Ref sig .tc := ⟨.hbm, 275, rfl⟩
abbrev main_v168 : Ref sig .tc := ⟨.hbm, 276, rfl⟩
abbrev main_v169 : Ref sig .tc := ⟨.hbm, 277, rfl⟩

abbrev nD : Nat := 1
abbrev τ : Topo := Topo.v7x

variable {F : FTy → Type} [FloatOps F]
-- ==== InprojLast.lean ====
abbrev S8x4096x1024 : Shape := ⟨3, ![8, 4096, 1024]⟩
abbrev S8x256x1024 : Shape := ⟨3, ![8, 256, 1024]⟩
abbrev S2x8x6144 : Shape := ⟨3, ![2, 8, 6144]⟩
abbrev S2x6144 : Shape := ⟨2, ![2, 6144]⟩
abbrev S2x1024 : Shape := ⟨2, ![2, 1024]⟩
abbrev S2x1024x6592 : Shape := ⟨3, ![2, 1024, 6592]⟩
abbrev S2x256 : Shape := ⟨2, ![2, 256]⟩
abbrev S2x256x768 : Shape := ⟨3, ![2, 256, 768]⟩
abbrev S2x128 : Shape := ⟨2, ![2, 128]⟩
abbrev S2x128x1024 : Shape := ⟨3, ![2, 128, 1024]⟩
abbrev S2x2x16x256 : Shape := ⟨4, ![2, 2, 16, 256]⟩
abbrev S2x2x256 : Shape := ⟨3, ![2, 2, 256]⟩
abbrev S4352x128 : Shape := ⟨2, ![4352, 128]⟩
abbrev S32 : Shape := ⟨1, ![32]⟩
abbrev S1x8x6144 : Shape := ⟨3, ![1, 8, 6144]⟩
abbrev S8x6144 : Shape := ⟨2, ![8, 6144]⟩
abbrev S1x6144 : Shape := ⟨2, ![1, 6144]⟩
abbrev S6144 : Shape := ⟨1, ![6144]⟩
abbrev S_ : Shape := ⟨0, ![]⟩
abbrev S7x6144 : Shape := ⟨2, ![7, 6144]⟩
abbrev S16x6144 : Shape := ⟨2, ![16, 6144]⟩
abbrev S16x6x1024 : Shape := ⟨3, ![16, 6, 1024]⟩
abbrev S1x1024x6592 : Shape := ⟨3, ![1, 1024, 6592]⟩
abbrev S1024x6592 : Shape := ⟨2, ![1024, 6592]⟩
abbrev S1x256x768 : Shape := ⟨3, ![1, 256, 768]⟩
abbrev S256x768 : Shape := ⟨2, ![256, 768]⟩
abbrev S1x128x1024 : Shape := ⟨3, ![1, 128, 1024]⟩
abbrev S128x1024 : Shape := ⟨2, ![128, 1024]⟩
abbrev S1x2x16x256 : Shape := ⟨4, ![1, 2, 16, 256]⟩
abbrev S2x16x256 : Shape := ⟨3, ![2, 16, 256]⟩
abbrev S1x2x256 : Shape := ⟨3, ![1, 2, 256]⟩
abbrev S1024x256 : Shape := ⟨2, ![1024, 256]⟩
abbrev S1024x128 : Shape := ⟨2, ![1024, 128]⟩
abbrev S1024x32 : Shape := ⟨2, ![1024, 32]⟩
abbrev S1024x512 : Shape := ⟨2, ![1024, 512]⟩
abbrev S1024x16 : Shape := ⟨2, ![1024, 16]⟩
abbrev S1024x1536 : Shape := ⟨2, ![1024, 1536]⟩
abbrev S1024x3072 : Shape := ⟨2, ![1024, 3072]⟩
abbrev S1024x64 : Shape := ⟨2, ![1024, 64]⟩
abbrev S32x1 : Shape := ⟨2, ![32, 1]⟩
abbrev S1x32 : Shape := ⟨2, ![1, 32]⟩
abbrev S1024x96 : Shape := ⟨2, ![1024, 96]⟩
abbrev S1024x768 : Shape := ⟨2, ![1024, 768]⟩
abbrev S256x96 : Shape := ⟨2, ![256, 96]⟩
abbrev S256x32 : Shape := ⟨2, ![256, 32]⟩
abbrev S256x64 : Shape := ⟨2, ![256, 64]⟩
abbrev S256x1024 : Shape := ⟨2, ![256, 1024]⟩
abbrev S256x704 : Shape := ⟨2, ![256, 704]⟩
abbrev S256x320 : Shape := ⟨2, ![256, 320]⟩
abbrev S256x2048 : Shape := ⟨2, ![256, 2048]⟩
abbrev S128x64 : Shape := ⟨2, ![128, 64]⟩
abbrev S128x128 : Shape := ⟨2, ![128, 128]⟩
abbrev S128x2048 : Shape := ⟨2, ![128, 2048]⟩
abbrev S128x512 : Shape := ⟨2, ![128, 512]⟩
abbrev S1x16x256 : Shape := ⟨3, ![1, 16, 256]⟩
abbrev S16x256 : Shape := ⟨2, ![16, 256]⟩
abbrev S1 : Shape := ⟨1, ![1]⟩
abbrev S2 : Shape := ⟨1, ![2]⟩
abbrev S1x256 : Shape := ⟨2, ![1, 256]⟩
abbrev S256 : Shape := ⟨1, ![256]⟩
abbrev S512 : Shape := ⟨1, ![512]⟩
abbrev S1x512 : Shape := ⟨2, ![1, 512]⟩
abbrev S8x4352x1024 : Shape := ⟨3, ![8, 4352, 1024]⟩
abbrev S1x1024 : Shape := ⟨2, ![1, 1024]⟩
abbrev S1024 : Shape := ⟨1, ![1024]⟩
abbrev S1x128 : Shape := ⟨2, ![1, 128]⟩
abbrev S128 : Shape := ⟨1, ![128]⟩
abbrev S8x4352x256 : Shape := ⟨3, ![8, 4352, 256]⟩
abbrev S8x4352x512 : Shape := ⟨3, ![8, 4352, 512]⟩
abbrev S8x4352x1536 : Shape := ⟨3, ![8, 4352, 1536]⟩
abbrev S8x4352x3072 : Shape := ⟨3, ![8, 4352, 3072]⟩
abbrev S1x256x1024 : Shape := ⟨3, ![1, 256, 1024]⟩
abbrev S1x6x1024 : Shape := ⟨3, ![1, 6, 1024]⟩
abbrev S256x128 : Shape := ⟨2, ![256, 128]⟩
abbrev S1x256x256 : Shape := ⟨3, ![1, 256, 256]⟩
abbrev S1x256x512 : Shape := ⟨3, ![1, 256, 512]⟩
abbrev S1x256x1536 : Shape := ⟨3, ![1, 256, 1536]⟩
abbrev S1x256x3072 : Shape := ⟨3, ![1, 256, 3072]⟩
abbrev S1x1x1024 : Shape := ⟨3, ![1, 1, 1024]⟩
abbrev S256x1 : Shape := ⟨2, ![256, 1]⟩
abbrev S256x256 : Shape := ⟨2, ![256, 256]⟩
abbrev S1x256x128 : Shape := ⟨3, ![1, 256, 128]⟩
abbrev S256x512 : Shape := ⟨2, ![256, 512]⟩
abbrev S256x1536 : Shape := ⟨2, ![256, 1536]⟩
abbrev S256x3072 : Shape := ⟨2, ![256, 3072]⟩

abbrev nBuf : Space → Nat
  | .hbm => 360
  | .vmem => 41
  | .smem => 0
  | _ => 0

abbrev hbmTy0_0 (i : Nat) : BufTy := match i % 128 with
  | 0 => ⟨S8x4096x1024, .f32⟩
  | 1 => ⟨S8x256x1024, .f32⟩
  | 2 => ⟨S2x8x6144, .f32⟩
  | 3 => ⟨S2x6144, .f32⟩
  | 4 => ⟨S2x1024, .f32⟩
  | 5 => ⟨S2x1024x6592, .f32⟩
  | 6 => ⟨S2x256, .f32⟩
  | 7 => ⟨S2x256x768, .f32⟩
  | 8 => ⟨S2x128, .f32⟩
  | 9 => ⟨S2x128x1024, .f32⟩
  | 10 => ⟨S2x2x16x256, .f32⟩
  | 11 => ⟨S2x2x256, .f32⟩
  | 12 => ⟨S4352x128, .f32⟩
  | 13 => ⟨S4352x128, .f32⟩
  | 14 => ⟨S32, .i32⟩
  | 15 => ⟨S32, .i1⟩
  | 16 => ⟨S32, .f32⟩
  | 17 => ⟨S32, .i32⟩
  | 18 => ⟨S32, .i1⟩
  | 19 => ⟨S32, .f32⟩
  | 20 => ⟨S32, .i32⟩
  | 21 => ⟨S32, .i1⟩
  | 22 => ⟨S32, .f32⟩
  | 23 => ⟨S32, .i32⟩
  | 24 => ⟨S32, .i1⟩
  | 25 => ⟨S32, .f32⟩
  | 26 => ⟨S32, .i32⟩
  | 27 => ⟨S32, .i1⟩
  | 28 => ⟨S32, .f32⟩
  | 29 => ⟨S32, .i32⟩
  | 30 => ⟨S32, .i1⟩
  | 31 => ⟨S32, .f32⟩
  | 32 => ⟨S32, .i32⟩
  | 33 => ⟨S32, .i1⟩
  | 34 => ⟨S32, .f32⟩
  | 35 => ⟨S32, .i32⟩
  | 36 => ⟨S32, .i1⟩
  | 37 => ⟨S32, .f32⟩
  | 38 => ⟨S32, .i32⟩
  | 39 => ⟨S32, .i1⟩
  | 40 => ⟨S32, .f32⟩
  | 41 => ⟨S1x8x6144, .f32⟩
  | 42 => ⟨S8x6144, .f32⟩
  | 43 => ⟨S1x6144, .f32⟩
  | 44 => ⟨S6144, .f32⟩
  | 45 => ⟨S1x6144, .f32⟩
  | 46 => ⟨S_, .f32⟩
  | 47 => ⟨S7x6144, .f32⟩
  | 48 => ⟨S16x6144, .f32⟩
  | 49 => ⟨S16x6x1024, .f32⟩
  | 50 => ⟨S1x1024x6592, .f32⟩
  | 51 => ⟨S1024x6592, .f32⟩
  | 52 => ⟨S1x256x768, .f32⟩
  | 53 => ⟨S256x768, .f32⟩
  | 54 => ⟨S1x128x1024, .f32⟩
  | 55 => ⟨S128x1024, .f32⟩
  | 56 => ⟨S1x2x16x256, .f32⟩
  | 57 => ⟨S2x16x256, .f32⟩
  | 58 => ⟨S1x2x256, .f32⟩
  | 59 => ⟨S2x256, .f32⟩
  | 60 => ⟨S1024x6592, .bf16⟩
  | 61 => ⟨S1024x256, .bf16⟩
  | 62 => ⟨S1024x128, .bf16⟩
  | 63 => ⟨S1024x32, .bf16⟩
  | 64 => ⟨S1024x256, .bf16⟩
  | 65 => ⟨S1024x256, .bf16⟩
  | 66 => ⟨S1024x512, .bf16⟩
  | 67 => ⟨S1024x512, .bf16⟩
  | 68 => ⟨S1024x16, .bf16⟩
  | 69 => ⟨S1024x16, .bf16⟩
  | 70 => ⟨S1024x1536, .bf16⟩
  | 71 => ⟨S1024x3072, .bf16⟩
  | 72 => ⟨S_, .bf16⟩
  | 73 => ⟨S1024x64, .bf16⟩
  | 74 => ⟨S_, .bf16⟩
  | 75 => ⟨S1024x32, .bf16⟩
  | 76 => ⟨S1024x128, .bf16⟩
  | 77 => ⟨S_, .bf16⟩
  | 78 => ⟨S1024x64, .bf16⟩
  | 79 => ⟨S_, .i32⟩
  | 80 => ⟨S32, .i32⟩
  | 81 => ⟨S32, .i32⟩
  | 82 => ⟨S32, .i32⟩
  | 83 => ⟨S32x1, .i32⟩
  | 84 => ⟨S1024x32, .bf16⟩
  | 85 => ⟨S1024x32, .f32⟩
  | 86 => ⟨S1x32, .f32⟩
  | 87 => ⟨S1024x32, .f32⟩
  | 88 => ⟨S1024x32, .f32⟩
  | 89 => ⟨S_, .bf16⟩
  | 90 => ⟨S1024x32, .bf16⟩
  | 91 => ⟨S1024x64, .f32⟩
  | 92 => ⟨S1024x32, .f32⟩
  | 93 => ⟨S1024x128, .f32⟩
  | 94 => ⟨S_, .bf16⟩
  | 95 => ⟨S1024x96, .bf16⟩
  | 96 => ⟨S1024x128, .bf16⟩
  | 97 => ⟨S1024x256, .f32⟩
  | 98 => ⟨S1024x128, .f32⟩
  | 99 => ⟨S1024x128, .f32⟩
  | 100 => ⟨S1024x128, .f32⟩
  | 101 => ⟨S1024x768, .f32⟩
  | 102 => ⟨S1024x1536, .bf16⟩
  | 103 => ⟨S256x96, .f32⟩
  | 104 => ⟨S_, .bf16⟩
  | 105 => ⟨S256x32, .bf16⟩
  | 106 => ⟨S_, .bf16⟩
  | 107 => ⟨S256x64, .bf16⟩
  | 108 => ⟨S256x32, .f32⟩
  | 109 => ⟨S_, .i32⟩
  | 110 => ⟨S32, .i32⟩
  | 111 => ⟨S32, .i32⟩
  | 112 => ⟨S32, .i32⟩
  | 113 => ⟨S32x1, .i32⟩
  | 114 => ⟨S256x32, .f32⟩
  | 115 => ⟨S1x32, .f32⟩
  | 116 => ⟨S256x32, .f32⟩
  | 117 => ⟨S256x32, .f32⟩
  | 118 => ⟨S_, .bf16⟩
  | 119 => ⟨S256x32, .bf16⟩
  | 120 => ⟨S256x96, .f32⟩
  | 121 => ⟨S_, .bf16⟩
  | 122 => ⟨S256x32, .bf16⟩
  | 123 => ⟨S_, .bf16⟩
  | 124 => ⟨S256x64, .bf16⟩
  | 125 => ⟨S256x32, .f32⟩
  | 126 => ⟨S_, .i32⟩
  | 127 => ⟨S32, .i32⟩
  | _ => ⟨S8x4096x1024, .f32⟩

abbrev hbmTy0_1 (i : Nat) : BufTy := match i % 128 with
  | 0 => ⟨S32, .i32⟩
  | 1 => ⟨S32, .i32⟩
  | 2 => ⟨S32x1, .i32⟩
  | 3 => ⟨S256x32, .f32⟩
  | 4 => ⟨S1x32, .f32⟩
  | 5 => ⟨S256x32, .f32⟩
  | 6 => ⟨S256x32, .f32⟩
  | 7 => ⟨S_, .bf16⟩
  | 8 => ⟨S256x32, .bf16⟩
  | 9 => ⟨S256x96, .f32⟩
  | 10 => ⟨S_, .bf16⟩
  | 11 => ⟨S256x32, .bf16⟩
  | 12 => ⟨S_, .bf16⟩
  | 13 => ⟨S256x64, .bf16⟩
  | 14 => ⟨S256x32, .f32⟩
  | 15 => ⟨S_, .i32⟩
  | 16 => ⟨S32, .i32⟩
  | 17 => ⟨S32, .i32⟩
  | 18 => ⟨S32, .i32⟩
  | 19 => ⟨S32x1, .i32⟩
  | 20 => ⟨S256x32, .f32⟩
  | 21 => ⟨S1x32, .f32⟩
  | 22 => ⟨S256x32, .f32⟩
  | 23 => ⟨S256x32, .f32⟩
  | 24 => ⟨S_, .bf16⟩
  | 25 => ⟨S256x32, .bf16⟩
  | 26 => ⟨S256x96, .f32⟩
  | 27 => ⟨S_, .bf16⟩
  | 28 => ⟨S256x32, .bf16⟩
  | 29 => ⟨S_, .bf16⟩
  | 30 => ⟨S256x64, .bf16⟩
  | 31 => ⟨S256x32, .f32⟩
  | 32 => ⟨S_, .i32⟩
  | 33 => ⟨S32, .i32⟩
  | 34 => ⟨S32, .i32⟩
  | 35 => ⟨S32, .i32⟩
  | 36 => ⟨S32x1, .i32⟩
  | 37 => ⟨S256x32, .f32⟩
  | 38 => ⟨S1x32, .f32⟩
  | 39 => ⟨S256x32, .f32⟩
  | 40 => ⟨S256x32, .f32⟩
  | 41 => ⟨S_, .bf16⟩
  | 42 => ⟨S256x32, .bf16⟩
  | 43 => ⟨S256x96, .f32⟩
  | 44 => ⟨S_, .bf16⟩
  | 45 => ⟨S256x32, .bf16⟩
  | 46 => ⟨S_, .bf16⟩
  | 47 => ⟨S256x64, .bf16⟩
  | 48 => ⟨S256x32, .f32⟩
  | 49 => ⟨S_, .i32⟩
  | 50 => ⟨S32, .i32⟩
  | 51 => ⟨S32, .i32⟩
  | 52 => ⟨S32, .i32⟩
  | 53 => ⟨S32x1, .i32⟩
  | 54 => ⟨S256x32, .f32⟩
  | 55 => ⟨S1x32, .f32⟩
  | 56 => ⟨S256x32, .f32⟩
  | 57 => ⟨S256x32, .f32⟩
  | 58 => ⟨S_, .bf16⟩
  | 59 => ⟨S256x32, .bf16⟩
  | 60 => ⟨S256x96, .f32⟩
  | 61 => ⟨S_, .bf16⟩
  | 62 => ⟨S256x32, .bf16⟩
  | 63 => ⟨S_, .bf16⟩
  | 64 => ⟨S256x64, .bf16⟩
  | 65 => ⟨S256x32, .f32⟩
  | 66 => ⟨S_, .i32⟩
  | 67 => ⟨S32, .i32⟩
  | 68 => ⟨S32, .i32⟩
  | 69 => ⟨S32, .i32⟩
  | 70 => ⟨S32x1, .i32⟩
  | 71 => ⟨S256x32, .f32⟩
  | 72 => ⟨S1x32, .f32⟩
  | 73 => ⟨S256x32, .f32⟩
  | 74 => ⟨S256x32, .f32⟩
  | 75 => ⟨S_, .bf16⟩
  | 76 => ⟨S256x32, .bf16⟩
  | 77 => ⟨S256x96, .f32⟩
  | 78 => ⟨S_, .bf16⟩
  | 79 => ⟨S256x32, .bf16⟩
  | 80 => ⟨S_, .bf16⟩
  | 81 => ⟨S256x64, .bf16⟩
  | 82 => ⟨S256x32, .f32⟩
  | 83 => ⟨S_, .i32⟩
  | 84 => ⟨S32, .i32⟩
  | 85 => ⟨S32, .i32⟩
  | 86 => ⟨S32, .i32⟩
  | 87 => ⟨S32x1, .i32⟩
  | 88 => ⟨S256x32, .f32⟩
  | 89 => ⟨S1x32, .f32⟩
  | 90 => ⟨S256x32, .f32⟩
  | 91 => ⟨S256x32, .f32⟩
  | 92 => ⟨S_, .bf16⟩
  | 93 => ⟨S256x32, .bf16⟩
  | 94 => ⟨S256x96, .f32⟩
  | 95 => ⟨S_, .bf16⟩
  | 96 => ⟨S256x32, .bf16⟩
  | 97 => ⟨S_, .bf16⟩
  | 98 => ⟨S256x64, .bf16⟩
  | 99 => ⟨S256x32, .f32⟩
  | 100 => ⟨S_, .i32⟩
  | 101 => ⟨S32, .i32⟩
  | 102 => ⟨S32, .i32⟩
  | 103 => ⟨S32, .i32⟩
  | 104 => ⟨S32x1, .i32⟩
  | 105 => ⟨S256x32, .f32⟩
  | 106 => ⟨S1x32, .f32⟩
  | 107 => ⟨S256x32, .f32⟩
  | 108 => ⟨S256x32, .f32⟩
  | 109 => ⟨S_, .bf16⟩
  | 110 => ⟨S256x32, .bf16⟩
  | 111 => ⟨S256x32, .f32⟩
  | 112 => ⟨S256x32, .f32⟩
  | 113 => ⟨S256x32, .f32⟩
  | 114 => ⟨S256x32, .f32⟩
  | 115 => ⟨S256x32, .f32⟩
  | 116 => ⟨S256x32, .f32⟩
  | 117 => ⟨S256x32, .f32⟩
  | 118 => ⟨S256x32, .f32⟩
  | 119 => ⟨S256x64, .f32⟩
  | 120 => ⟨S256x32, .f32⟩
  | 121 => ⟨S256x64, .f32⟩
  | 122 => ⟨S256x32, .f32⟩
  | 123 => ⟨S256x64, .f32⟩
  | 124 => ⟨S256x32, .f32⟩
  | 125 => ⟨S256x64, .f32⟩
  | 126 => ⟨S256x32, .f32⟩
  | 127 => ⟨S256x64, .f32⟩
  | _ => ⟨S8x4096x1024, .f32⟩

abbrev hbmTy0_2 (i : Nat) : BufTy := match i % 128 with
  | 0 => ⟨S256x32, .f32⟩
  | 1 => ⟨S256x64, .f32⟩
  | 2 => ⟨S256x32, .f32⟩
  | 3 => ⟨S256x64, .f32⟩
  | 4 => ⟨S256x32, .f32⟩
  | 5 => ⟨S256x64, .f32⟩
  | 6 => ⟨S256x32, .f32⟩
  | 7 => ⟨S256x1024, .f32⟩
  | 8 => ⟨S256x704, .f32⟩
  | 9 => ⟨S256x320, .f32⟩
  | 10 => ⟨S256x2048, .f32⟩
  | 11 => ⟨S_, .bf16⟩
  | 12 => ⟨S128x64, .bf16⟩
  | 13 => ⟨S128x128, .f32⟩
  | 14 => ⟨S128x64, .f32⟩
  | 15 => ⟨S128x64, .f32⟩
  | 16 => ⟨S128x128, .f32⟩
  | 17 => ⟨S128x64, .f32⟩
  | 18 => ⟨S128x64, .f32⟩
  | 19 => ⟨S128x128, .f32⟩
  | 20 => ⟨S128x64, .f32⟩
  | 21 => ⟨S128x64, .f32⟩
  | 22 => ⟨S128x128, .f32⟩
  | 23 => ⟨S128x64, .f32⟩
  | 24 => ⟨S128x64, .f32⟩
  | 25 => ⟨S128x128, .f32⟩
  | 26 => ⟨S128x64, .f32⟩
  | 27 => ⟨S128x64, .f32⟩
  | 28 => ⟨S128x128, .f32⟩
  | 29 => ⟨S128x64, .f32⟩
  | 30 => ⟨S128x64, .f32⟩
  | 31 => ⟨S128x128, .f32⟩
  | 32 => ⟨S128x64, .f32⟩
  | 33 => ⟨S128x64, .f32⟩
  | 34 => ⟨S128x128, .f32⟩
  | 35 => ⟨S128x64, .f32⟩
  | 36 => ⟨S128x64, .f32⟩
  | 37 => ⟨S128x64, .f32⟩
  | 38 => ⟨S128x64, .f32⟩
  | 39 => ⟨S128x64, .f32⟩
  | 40 => ⟨S128x64, .f32⟩
  | 41 => ⟨S128x64, .f32⟩
  | 42 => ⟨S128x64, .f32⟩
  | 43 => ⟨S128x64, .f32⟩
  | 44 => ⟨S128x64, .f32⟩
  | 45 => ⟨S128x64, .f32⟩
  | 46 => ⟨S128x64, .f32⟩
  | 47 => ⟨S128x64, .f32⟩
  | 48 => ⟨S128x64, .f32⟩
  | 49 => ⟨S128x64, .f32⟩
  | 50 => ⟨S128x64, .f32⟩
  | 51 => ⟨S128x64, .f32⟩
  | 52 => ⟨S128x64, .f32⟩
  | 53 => ⟨S128x1024, .f32⟩
  | 54 => ⟨S128x1024, .f32⟩
  | 55 => ⟨S128x2048, .f32⟩
  | 56 => ⟨S_, .f32⟩
  | 57 => ⟨S128x512, .f32⟩
  | 58 => ⟨S1x16x256, .f32⟩
  | 59 => ⟨S16x256, .f32⟩
  | 60 => ⟨S_, .i32⟩
  | 61 => ⟨S1, .i32⟩
  | 62 => ⟨S_, .i32⟩
  | 63 => ⟨S1, .i32⟩
  | 64 => ⟨S2, .i32⟩
  | 65 => ⟨S128x512, .f32⟩
  | 66 => ⟨S1x16x256, .f32⟩
  | 67 => ⟨S16x256, .f32⟩
  | 68 => ⟨S_, .i32⟩
  | 69 => ⟨S1, .i32⟩
  | 70 => ⟨S_, .i32⟩
  | 71 => ⟨S1, .i32⟩
  | 72 => ⟨S2, .i32⟩
  | 73 => ⟨S128x512, .f32⟩
  | 74 => ⟨S1x256, .f32⟩
  | 75 => ⟨S256, .f32⟩
  | 76 => ⟨S1x256, .f32⟩
  | 77 => ⟨S256, .f32⟩
  | 78 => ⟨S512, .f32⟩
  | 79 => ⟨S1x512, .f32⟩
  | 80 => ⟨S1024x768, .bf16⟩
  | 81 => ⟨S256x2048, .bf16⟩
  | 82 => ⟨S128x2048, .bf16⟩
  | 83 => ⟨S128x512, .bf16⟩
  | 84 => ⟨S8x4352x1024, .f32⟩
  | 85 => ⟨S1x1024, .f32⟩
  | 86 => ⟨S1024, .f32⟩
  | 87 => ⟨S1x256, .f32⟩
  | 88 => ⟨S256, .f32⟩
  | 89 => ⟨S1x128, .f32⟩
  | 90 => ⟨S128, .f32⟩
  | 91 => ⟨S1x1024, .f32⟩
  | 92 => ⟨S1x256, .f32⟩
  | 93 => ⟨S1x128, .f32⟩
  | 94 => ⟨S8x4352x1024, .bf16⟩
  | 95 => ⟨S8x4352x1024, .bf16⟩
  | 96 => ⟨S8x4352x1024, .bf16⟩
  | 97 => ⟨S8x4352x256, .bf16⟩
  | 98 => ⟨S8x4352x256, .bf16⟩
  | 99 => ⟨S8x4352x512, .bf16⟩
  | 100 => ⟨S8x4352x512, .bf16⟩
  | 101 => ⟨S8x4352x512, .f32⟩
  | 102 => ⟨S8x4352x1536, .f32⟩
  | 103 => ⟨S8x4352x3072, .bf16⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x6x1024, .f32⟩
  | .local _ .vmem, ⟨5, _⟩ => ⟨S1x6x1024, .f32⟩
  | .local _ .vmem, ⟨6, _⟩ => ⟨S1x1024, .f32⟩
  | .local _ .vmem, ⟨7, _⟩ => ⟨S1024x768, .bf16⟩
  | .local _ .vmem, ⟨8, _⟩ => ⟨S1024x1536, .bf16⟩
  | .local _ .vmem, ⟨9, _⟩ => ⟨S1024x1536, .bf16⟩
  | .local _ .vmem, ⟨10, _⟩ => ⟨S1024x3072, .bf16⟩
  | .local _ .vmem, ⟨11, _⟩ => ⟨S1x256, .f32⟩
  | .local _ .vmem, ⟨12, _⟩ => ⟨S1x128, .f32⟩
  | .local _ .vmem, ⟨13, _⟩ => ⟨S256x2048, .bf16⟩
  | .local _ .vmem, ⟨14, _⟩ => ⟨S128x2048, .bf16⟩
  | .local _ .vmem, ⟨15, _⟩ => ⟨S128x512, .bf16⟩
  | .local _ .vmem, ⟨16, _⟩ => ⟨S1x512, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | .local _ .vmem, ⟨20, _⟩ => ⟨S256x128, .f32⟩
  | .local _ .vmem, ⟨21, _⟩ => ⟨S1x256x1024, .bf16⟩
  | .local _ .vmem, ⟨22, _⟩ => ⟨S1x256x1024, .bf16⟩
  | .local _ .vmem, ⟨23, _⟩ => ⟨S1x256x1024, .bf16⟩
  | .local _ .vmem, ⟨24, _⟩ => ⟨S1x256x1024, .bf16⟩
  | .local _ .vmem, ⟨25, _⟩ => ⟨S1x256x1024, .bf16⟩
  | .local _ .vmem, ⟨26, _⟩ => ⟨S1x256x1024, .bf16⟩
  | .local _ .vmem, ⟨27, _⟩ => ⟨S1x256x256, .bf16⟩
  | .local _ .vmem, ⟨28, _⟩ => ⟨S1x256x256, .bf16⟩
  | .local _ .vmem, ⟨29, _⟩ => ⟨S1x256x256, .bf16⟩
  | .local _ .vmem, ⟨30, _⟩ => ⟨S1x256x256, .bf16⟩
  | .local _ .vmem, ⟨31, _⟩ => ⟨S1x256x512, .bf16⟩
  | .local _ .vmem, ⟨32, _⟩ => ⟨S1x256x512, .bf16⟩
  | .local _ .vmem, ⟨33, _⟩ => ⟨S1x256x512, .bf16⟩
  | .local _ .vmem, ⟨34, _⟩ => ⟨S1x256x512, .bf16⟩
  | .local _ .vmem, ⟨35, _⟩ => ⟨S1x256x512, .f32⟩
  | .local _ .vmem, ⟨36, _⟩ => ⟨S1x256x512, .f32⟩
  | .local _ .vmem, ⟨37, _⟩ => ⟨S1x256x1536, .f32⟩
  | .local _ .vmem, ⟨38, _⟩ => ⟨S1x256x1536, .f32⟩
  | .local _ .vmem, ⟨39, _⟩ => ⟨S1x256x3072, .bf16⟩
  | .local _ .vmem, ⟨40, _⟩ => ⟨S1x256x3072, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_c_0 : Ref sig .tc := ⟨.hbm, 15, rfl⟩
abbrev main_cst : Ref sig .tc := ⟨.hbm, 16, rfl⟩
abbrev main_c_1 : Ref sig .tc := ⟨.hbm, 17, rfl⟩
abbrev main_c_2 : Ref sig .tc := ⟨.hbm, 18, rfl⟩
abbrev main_cst_3 : Ref sig .tc := ⟨.hbm, 19, rfl⟩
abbrev main_c_4 : Ref sig .tc := ⟨.hbm, 20, rfl⟩
abbrev main_c_5 : Ref sig .tc := ⟨.hbm, 21, rfl⟩
abbrev main_cst_6 : Ref sig .tc := ⟨.hbm, 22, rfl⟩
abbrev main_c_7 : Ref sig .tc := ⟨.hbm, 23, rfl⟩
abbrev main_c_8 : Ref sig .tc := ⟨.hbm, 24, rfl⟩
abbrev main_cst_9 : Ref sig .tc := ⟨.hbm, 25, rfl⟩
abbrev main_c_10 : Ref sig .tc := ⟨.hbm, 26, rfl⟩
abbrev main_c_11 : Ref sig .tc := ⟨.hbm, 27, rfl⟩
abbrev main_cst_12 : Ref sig .tc := ⟨.hbm, 28, rfl⟩
abbrev main_c_13 : Ref sig .tc := ⟨.hbm, 29, rfl⟩
abbrev main_c_14 : Ref sig .tc := ⟨.hbm, 30, rfl⟩
abbrev main_cst_15 : Ref sig .tc := ⟨.hbm, 31, rfl⟩
abbrev main_c_16 : Ref sig .tc := ⟨.hbm, 32, rfl⟩
abbrev main_c_17 : Ref sig .tc := ⟨.hbm, 33, rfl⟩
abbrev main_cst_18 : Ref sig .tc := ⟨.hbm, 34, rfl⟩
abbrev main_c_19 : Ref sig .tc := ⟨.hbm, 35, rfl⟩
abbrev main_c_20 : Ref sig .tc := ⟨.hbm, 36, rfl⟩
abbrev main_cst_21 : Ref sig .tc := ⟨.hbm, 37, rfl⟩
abbrev main_c_22 : Ref sig .tc := ⟨.hbm, 38, rfl⟩
abbrev main_c_23 : Ref sig .tc := ⟨.hbm, 39, rfl⟩
abbrev main_cst_24 : Ref sig .tc := ⟨.hbm, 40, rfl⟩
abbrev main_v0 : Ref sig .tc := ⟨.hbm, 41, rfl⟩
abbrev main_v1 : Ref sig .tc := ⟨.hbm, 42, rfl⟩
abbrev main_v2 : Ref sig .tc := ⟨.hbm, 43, rfl⟩
abbrev main_v3 : Ref sig .tc := ⟨.hbm, 44, rfl⟩
abbrev main_v4 : Ref sig .tc := ⟨.hbm, 45, rfl⟩
abbrev main_cst_25 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_cst_26 : Ref sig .tc := ⟨.hbm, 72, rfl⟩
abbrev main_v30 : Ref sig .tc := ⟨.hbm, 73, rfl⟩
abbrev main_cst_27 : Ref sig .tc := ⟨.hbm, 74, rfl⟩
abbrev main_v31 : Ref sig .tc := ⟨.hbm, 75, rfl⟩
abbrev main_v32 : Ref sig .tc := ⟨.hbm, 76, rfl⟩
abbrev main_cst_28 : Ref sig .tc := ⟨.hbm, 77, rfl⟩
abbrev main_v33 : Ref sig .tc := ⟨.hbm, 78, rfl⟩
abbrev main_c_29 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_cst_30 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_cst_31 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_cst_32 : Ref sig .tc := ⟨.hbm, 104, rfl⟩
abbrev main_v56 : Ref sig .tc := ⟨.hbm, 105, rfl⟩
abbrev main_cst_33 : Ref sig .tc := ⟨.hbm, 106, rfl⟩
abbrev main_v57 : Ref sig .tc := ⟨.hbm, 107, rfl⟩
abbrev main_v58 : Ref sig .tc := ⟨.hbm, 108, rfl⟩
abbrev main_c_34 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_cst_35 : Ref sig .tc := ⟨.hbm, 118, rfl⟩
abbrev main_v67 : Ref sig .tc := ⟨.hbm, 119, rfl⟩
abbrev main_v68 : Ref sig .tc := ⟨.hbm, 120, rfl⟩
abbrev main_cst_36 : Ref sig .tc := ⟨.hbm, 121, rfl⟩
abbrev main_v69 : Ref sig .tc := ⟨.hbm, 122, rfl⟩
abbrev main_cst_37 : Ref sig .tc := ⟨.hbm, 123, rfl⟩
abbrev main_v70 : Ref sig .tc := ⟨.hbm, 124, rfl⟩
abbrev main_v71 : Ref sig .tc := ⟨.hbm, 125, rfl⟩
abbrev main_c_38 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_cst_39 : Ref sig .tc := ⟨.hbm, 135, rfl⟩
abbrev main_v80 : Ref sig .tc := ⟨.hbm, 136, rfl⟩
abbrev main_v81 : Ref sig .tc := ⟨.hbm, 137, rfl⟩
abbrev main_cst_40 : Ref sig .tc := ⟨.hbm, 138, rfl⟩
abbrev main_v82 : Ref sig .tc := ⟨.hbm, 139, rfl⟩
abbrev main_cst_41 : Ref sig .tc := ⟨.hbm, 140, rfl⟩
abbrev main_v83 : Ref sig .tc := ⟨.hbm, 141, rfl⟩
abbrev main_v84 : Ref sig .tc := ⟨.hbm, 142, rfl⟩
abbrev main_c_42 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_cst_43 : Ref sig .tc := ⟨.hbm, 152, rfl⟩
abbrev main_v93 : Ref sig .tc := ⟨.hbm, 153, rfl⟩
abbrev main_v94 : Ref sig .tc := ⟨.hbm, 154, rfl⟩
abbrev main_cst_44 : Ref sig .tc := ⟨.hbm, 155, rfl⟩
abbrev main_v95 : Ref sig .tc := ⟨.hbm, 156, rfl⟩
abbrev main_cst_45 : Ref sig .tc := ⟨.hbm, 157, rfl⟩
abbrev main_v96 : Ref sig .tc := ⟨.hbm, 158, rfl⟩
abbrev main_v97 : Ref sig .tc := ⟨.hbm, 159, rfl⟩
abbrev main_c_46 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_cst_47 : Ref sig .tc := ⟨.hbm, 169, rfl⟩
abbrev main_v106 : Ref sig .tc := ⟨.hbm, 170, rfl⟩
abbrev main_v107 : Ref sig .tc := ⟨.hbm, 171, rfl⟩
abbrev main_cst_48 : Ref sig .tc := ⟨.hbm, 172, rfl⟩
abbrev main_v108 : Ref sig .tc := ⟨.hbm, 173, rfl⟩
abbrev main_cst_49 : Ref sig .tc := ⟨.hbm, 174, rfl⟩
abbrev main_v109 : Ref sig .tc := ⟨.hbm, 175, rfl⟩
abbrev main_v110 : Ref sig .tc := ⟨.hbm, 176, rfl⟩
abbrev main_c_50 : Ref sig .tc := ⟨.hbm, 177, rfl⟩
abbrev main_v111 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_v115 : Ref sig .tc := ⟨.hbm, 182, rfl⟩
abbrev main_v116 : Ref sig .tc := ⟨.hbm, 183, rfl⟩
abbrev main_v117 : Ref sig .tc := ⟨.hbm, 184, rfl⟩
abbrev main_v118 : Ref sig .tc := ⟨.hbm, 185, rfl⟩
abbrev main_cst_51 : Ref sig .tc := ⟨.hbm, 186, rfl⟩
abbrev main_v119 : Ref sig .tc := ⟨.hbm, 187, rfl⟩
abbrev main_v120 : Ref sig .tc := ⟨.hbm, 188, rfl⟩
abbrev main_cst_52 : Ref sig .tc := ⟨.hbm, 189, rfl⟩
abbrev main_v121 : Ref sig .tc := ⟨.hbm, 190, rfl⟩
abbrev main_cst_53 : Ref sig .tc := ⟨.hbm, 191, rfl⟩
abbrev main_v122 : Ref sig .tc := ⟨.hbm, 192, rfl⟩
abbrev main_v123 : Ref sig .tc := ⟨.hbm, 193, rfl⟩
abbrev main_c_54 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_cst_55 : Ref sig .tc := ⟨.hbm, 203, rfl⟩
abbrev main_v132 : Ref sig .tc := ⟨.hbm, 204, rfl⟩
abbrev main_v133 : Ref sig .tc := ⟨.hbm, 205, rfl⟩
abbrev main_cst_56 : Ref sig .tc := ⟨.hbm, 206, rfl⟩
abbrev main_v134 : Ref sig .tc := ⟨.hbm, 207, rfl⟩
abbrev main_cst_57 : Ref sig .tc := ⟨.hbm, 208, rfl⟩
abbrev main_v135 : Ref sig .tc := ⟨.hbm, 209, rfl⟩
abbrev main_v136 : Ref sig .tc := ⟨.hbm, 210, rfl⟩
abbrev main_c_58 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_cst_59 : Ref sig .tc := ⟨.hbm, 220, rfl⟩
abbrev main_v145 : Ref sig .tc := ⟨.hbm, 221, rfl⟩
abbrev main_v146 : Ref sig .tc := ⟨.hbm, 222, rfl⟩
abbrev main_cst_60 : Ref sig .tc := ⟨.hbm, 223, rfl⟩
abbrev main_v147 : Ref sig .tc := ⟨.hbm, 224, rfl⟩
abbrev main_cst_61 : Ref sig .tc := ⟨.hbm, 225, rfl⟩
abbrev main_v148 : Ref sig .tc := ⟨.hbm, 226, rfl⟩
abbrev main_v149 : Ref sig .tc := ⟨.hbm, 227, rfl⟩
abbrev main_c_62 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_cst_63 : Ref sig .tc := ⟨.hbm, 237, rfl⟩
abbrev main_v158 : Ref sig .tc := ⟨.hbm, 238, rfl⟩
abbrev main_v159 : Ref sig .tc := ⟨.hbm, 239, rfl⟩
abbrev main_v160 : Ref sig .tc := ⟨.hbm, 240, rfl⟩
abbrev main_v161 : Ref sig .tc := ⟨.hbm, 241, rfl⟩
abbrev main_v162 : Ref sig .tc := ⟨.hbm, 242, rfl⟩
abbrev main_v163 : Ref sig .tc := ⟨.hbm, 243, rfl⟩
abbrev main_v164 : Ref sig .tc := ⟨.hbm, 244, rfl⟩
abbrev main_v165 : Ref sig .tc := ⟨.hbm, 245, rfl⟩
abbrev main_v166 : Ref sig .tc := ⟨.hbm, 246, rfl⟩
abbrev main_v167 : Ref sig .tc := ⟨.hbm, 247, rfl⟩
abbrev main_v168 : Ref sig .tc := ⟨.hbm, 248, rfl⟩
abbrev main_v169 : Ref sig .tc := ⟨.hbm, 249, rfl⟩
abbrev main_v170 : Ref sig .tc := ⟨.hbm, 250, rfl⟩
abbrev main_v171 : Ref sig .tc := ⟨.hbm, 251, rfl⟩
abbrev main_v172 : Ref sig .tc := ⟨.hbm, 252, rfl⟩
abbrev main_v173 : Ref sig .tc := ⟨.hbm, 253, rfl⟩
abbrev main_v174 : Ref sig .tc := ⟨.hbm, 254, rfl⟩
abbrev main_v175 : Ref sig .tc := ⟨.hbm, 255, rfl⟩
abbrev main_v176 : Ref sig .tc := ⟨.hbm, 256, rfl⟩
abbrev main_v177 : Ref sig .tc := ⟨.hbm, 257, rfl⟩
abbrev main_v178 : Ref sig .tc := ⟨.hbm, 258, rfl⟩
abbrev main_v179 : Ref sig .tc := ⟨.hbm, 259, rfl⟩
abbrev main_v180 : Ref sig .tc := ⟨.hbm, 260, rfl⟩
abbrev main_v181 : Ref sig .tc := ⟨.hbm, 261, rfl⟩
abbrev main_v182 : Ref sig .tc := ⟨.hbm, 262, rfl⟩
abbrev main_v183 : Ref sig .tc := ⟨.hbm, 263, rfl⟩
abbrev main_v184 : Ref sig .tc := ⟨.hbm, 264, rfl⟩
abbrev main_v185 : Ref sig .tc := ⟨.hbm, 265, rfl⟩
abbrev main_v186 : Ref sig .tc := ⟨.hbm, 266, rfl⟩
abbrev main_cst_64 : Ref sig .tc := ⟨.hbm, 267, rfl⟩
abbrev main_v187 : Ref sig .tc := ⟨.hbm, 268, rfl⟩
abbrev main_v188 : Ref sig .tc := ⟨.hbm, 269, rfl⟩
abbrev main_v189 : Ref sig .tc := ⟨.hbm, 270, rfl⟩
abbrev main_v190 : Ref sig .tc := ⟨.hbm, 271, rfl⟩
abbrev main_v191 : Ref sig .tc := ⟨.hbm, 272, rfl⟩
abbrev main_v192 : Ref sig .tc := ⟨.hbm, 273, rfl⟩
abbrev main_v193 : Ref sig .tc := ⟨.hbm, 274, rfl⟩
abbrev main_v194 : Ref sig .tc := ⟨.hbm, 275, rfl⟩
abbrev main_v195 : Ref sig .tc := ⟨.hbm, 276, rfl⟩
abbrev main_v196 : Ref sig .tc := ⟨.hbm, 277, rfl⟩
abbrev main_v197 : Ref sig .tc := ⟨.hbm, 278, rfl⟩
abbrev main_v198 : Ref sig .tc := ⟨.hbm, 279, rfl⟩
abbrev main_v199 : Ref sig .tc := ⟨.hbm, 280, rfl⟩
abbrev main_v200 : Ref sig .tc := ⟨.hbm, 281, rfl⟩
abbrev main_v201 : Ref sig .tc := ⟨.hbm, 282, rfl⟩
abbrev main_v202 : Ref sig .tc := ⟨.hbm, 283, rfl⟩
abbrev main_v203 : Ref sig .tc := ⟨.hbm, 284, rfl⟩
abbrev main_v204 : Ref sig .tc := ⟨.hbm, 285, rfl⟩
abbrev main_v205 : Ref sig .tc := ⟨.hbm, 286, rfl⟩
abbrev main_v206 : Ref sig .tc := ⟨.hbm, 287, rfl⟩
abbrev main_v207 : Ref sig .tc := ⟨.hbm, 288, rfl⟩
abbrev main_v208 : Ref sig .tc := ⟨.hbm, 289, rfl⟩
abbrev main_v209 : Ref sig .tc := ⟨.hbm, 290, rfl⟩
abbrev main_v210 : Ref sig .tc := ⟨.hbm, 291, rfl⟩
abbrev main_v211 : Ref sig .tc := ⟨.hbm, 292, rfl⟩
abbrev main_v212 : Ref sig .tc := ⟨.hbm, 293, rfl⟩
abbrev main_v213 : Ref sig .tc := ⟨.hbm, 294, rfl⟩
abbrev main_v214 : Ref sig .tc := ⟨.hbm, 295, rfl⟩
abbrev main_v215 : Ref sig .tc := ⟨.hbm, 296, rfl⟩
abbrev main_v216 : Ref sig .tc := ⟨.hbm, 297, rfl⟩
abbrev main_v217 : Ref sig .tc := ⟨.hbm, 298, rfl⟩
abbrev main_v218 : Ref sig .tc := ⟨.hbm, 299, rfl⟩
abbrev main_v219 : Ref sig .tc := ⟨.hbm, 300, rfl⟩
abbrev main_v220 : Ref sig .tc := ⟨.hbm, 301, rfl⟩
abbrev main_v221 : Ref sig .tc := ⟨.hbm, 302, rfl⟩
abbrev main_v222 : Ref sig .tc := ⟨.hbm, 303, rfl⟩
abbrev main_v223 : Ref sig .tc := ⟨.hbm, 304, rfl⟩
abbrev main_v224 : Ref sig .tc := ⟨.hbm, 305, rfl⟩
abbrev main_v225 : Ref sig .tc := ⟨.hbm, 306, rfl⟩
abbrev main_v226 : Ref sig .tc := ⟨.hbm, 307, rfl⟩
abbrev main_v227 : Ref sig .tc := ⟨.hbm, 308, rfl⟩
abbrev main_v228 : Ref sig .tc := ⟨.hbm, 309, rfl⟩
abbrev main_v229 : Ref sig .tc := ⟨.hbm, 310, rfl⟩
abbrev main_v230 : Ref sig .tc := ⟨.hbm, 311, rfl⟩
abbrev main_cst_65 : Ref sig .tc := ⟨.hbm, 312, rfl⟩
abbrev main_v231 : Ref sig .tc := ⟨.hbm, 313, rfl⟩
abbrev main_v232 : Ref sig .tc := ⟨.hbm, 314, rfl⟩
abbrev main_v233 : Ref sig .tc := ⟨.hbm, 315, rfl⟩
abbrev main_c_66 : Ref sig .tc := ⟨.hbm, 316, rfl⟩
abbrev main_v234 : Ref sig .tc := ⟨.hbm, 317, rfl⟩
abbrev main_c_67 : Ref sig .tc := ⟨.hbm, 318, rfl⟩
abbrev main_v235 : Ref sig .tc := ⟨.hbm, 319, rfl⟩
abbrev main_v236 : Ref sig .tc := ⟨.hbm, 320, rfl⟩
abbrev main_v237 : Ref sig .tc := ⟨.hbm, 321, rfl⟩
abbrev main_v238 : Ref sig .tc := ⟨.hbm, 322, rfl⟩
abbrev main_v239 : Ref sig .tc := ⟨.hbm, 323, rfl⟩
abbrev main_c_68 : Ref sig .tc := ⟨.hbm, 324, rfl⟩
abbrev main_v240 : Ref sig .tc := ⟨.hbm, 325, rfl⟩
abbrev main_c_69 : Ref sig .tc := ⟨.hbm, 326, rfl⟩
abbrev main_v241 : Ref sig .tc := ⟨.hbm, 327, rfl⟩
abbrev main_v242 : Ref sig .tc := ⟨.hbm, 328, rfl⟩
abbrev main_v243 : Ref sig .tc := ⟨.hbm, 329, rfl⟩
abbrev main_v244 : Ref sig .tc := ⟨.hbm, 330, rfl⟩
abbrev main_v245 : Ref sig .tc := ⟨.hbm, 331, rfl⟩
abbrev main_v246 : Ref sig .tc := ⟨.hbm, 332, rfl⟩
abbrev main_v247 : Ref sig .tc := ⟨.hbm, 333, rfl⟩
abbrev main_v248 : Ref sig .tc := ⟨.hbm, 334, rfl⟩
abbrev main_v249 : Ref sig .tc := ⟨.hbm, 335, rfl⟩
abbrev main_v250 : Ref sig .tc := ⟨.hbm, 336, rfl⟩
abbrev main_v251 : Ref sig .tc := ⟨.hbm, 337, rfl⟩
abbrev main_v252 : Ref sig .tc := ⟨.hbm, 338, rfl⟩
abbrev main_v253 : Ref sig .tc := ⟨.hbm, 339, rfl⟩
abbrev main_v254 : Ref sig .tc := ⟨.hbm, 340, rfl⟩
abbrev main_v255 : Ref sig .tc := ⟨.hbm, 341, rfl⟩
abbrev main_v256 : Ref sig .tc := ⟨.hbm, 342, rfl⟩
abbrev main_v257 : Ref sig .tc := ⟨.hbm, 343, rfl⟩
abbrev main_v258 : Ref sig .tc := ⟨.hbm, 344, rfl⟩
abbrev main_v259 : Ref sig .tc := ⟨.hbm, 345, rfl⟩
abbrev main_v260 : Ref sig .tc := ⟨.hbm, 346, rfl⟩
abbrev main_v261 : Ref sig .tc := ⟨.hbm, 347, rfl⟩
abbrev main_v262 : Ref sig .tc := ⟨.hbm, 348, rfl⟩
abbrev main_v263 : Ref sig .tc := ⟨.hbm, 349, rfl⟩
abbrev main_v264_0 : Ref sig .tc := ⟨.hbm, 350, rfl⟩
abbrev main_v264_1 : Ref sig .tc := ⟨.hbm, 351, rfl⟩
abbrev main_v264_2 : Ref sig .tc := ⟨.hbm, 352, rfl⟩
abbrev main_v264_3 : Ref sig .tc := ⟨.hbm, 353, rfl⟩
abbrev main_v264_4 : Ref sig .tc := ⟨.hbm, 354, rfl⟩
abbrev main_v264_5 : Ref sig .tc := ⟨.hbm, 355, rfl⟩
abbrev main_v264_6 : Ref sig .tc := ⟨.hbm, 356, rfl⟩
abbrev main_v264_7 : Ref sig .tc := ⟨.hbm, 357, rfl⟩
abbrev main_v264_8 : Ref sig .tc := ⟨.hbm, 358, rfl⟩
abbrev main_v264_9 : Ref sig .tc := ⟨.hbm, 359, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_stg23_0 : Ref sig .tc := ⟨.vmem, 35, rfl⟩
abbrev cc0_stg23_1 : Ref sig .tc := ⟨.vmem, 36, rfl⟩
abbrev cc0_stg24_0 : Ref sig .tc := ⟨.vmem, 37, rfl⟩
abbrev cc0_stg24_1 : Ref sig .tc := ⟨.vmem, 38, rfl⟩
abbrev cc0_stg25_0 : Ref sig .tc := ⟨.vmem, 39, rfl⟩
abbrev cc0_stg25_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34
abbrev cc0_sem23_0 : DmaSem sig := 35
abbrev cc0_sem23_1 : DmaSem sig := 36
abbrev cc0_sem24_0 : DmaSem sig := 37
abbrev cc0_sem24_1 : DmaSem sig := 38
abbrev cc0_sem25_0 : DmaSem sig := 39
abbrev cc0_sem25_1 : DmaSem sig := 40

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  let c0_i32_0 : BitVec 32 := 0#32
  ![arg0.toNat, c16_i32.toNat, c0_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 1 := Scalar.cmpi .slt arg1 c16_i32
  let c8_i32 : BitVec 32 := 8#32
  let v1 : BitVec 32 := Scalar.select v0 arg0 c8_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1536 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x3072 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S1x256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x256x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x256x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x256x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x256x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x256x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x256x1536 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x256x3072 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]
-- ==== InprojLastRefIdeal.lean ====
abbrev S8x4096x1024 : Shape := ⟨3, ![8, 4096, 1024]⟩
abbrev S8x256x1024 : Shape := ⟨3, ![8, 256, 1024]⟩
abbrev S2x8x6144 : Shape := ⟨3, ![2, 8, 6144]⟩
abbrev S2x6144 : Shape := ⟨2, ![2, 6144]⟩
abbrev S2x1024 : Shape := ⟨2, ![2, 1024]⟩
abbrev S2x1024x6592 : Shape := ⟨3, ![2, 1024, 6592]⟩
abbrev S2x256 : Shape := ⟨2, ![2, 256]⟩
abbrev S2x256x768 : Shape := ⟨3, ![2, 256, 768]⟩
abbrev S2x128 : Shape := ⟨2, ![2, 128]⟩
abbrev S2x128x1024 : Shape := ⟨3, ![2, 128, 1024]⟩
abbrev S2x2x16x256 : Shape := ⟨4, ![2, 2, 16, 256]⟩
abbrev S2x2x256 : Shape := ⟨3, ![2, 2, 256]⟩
abbrev S4352x128 : Shape := ⟨2, ![4352, 128]⟩
abbrev S1x8x6144 : Shape := ⟨3, ![1, 8, 6144]⟩
abbrev S8x6144 : Shape := ⟨2, ![8, 6144]⟩
abbrev S8x1x6144 : Shape := ⟨3, ![8, 1, 6144]⟩
abbrev S8x1x1024 : Shape := ⟨3, ![8, 1, 1024]⟩
abbrev S1x1024 : Shape := ⟨2, ![1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1x1024x6592 : Shape := ⟨3, ![1, 1024, 6592]⟩
abbrev S1024x6592 : Shape := ⟨2, ![1024, 6592]⟩
abbrev S8x4096x6592 : Shape := ⟨3, ![8, 4096, 6592]⟩
abbrev S8x4096x256 : Shape := ⟨3, ![8, 4096, 256]⟩
abbrev S8x4096x128 : Shape := ⟨3, ![8, 4096, 128]⟩
abbrev S8x4096x32 : Shape := ⟨3, ![8, 4096, 32]⟩
abbrev S8x4096x512 : Shape := ⟨3, ![8, 4096, 512]⟩
abbrev S8x4096x16 : Shape := ⟨3, ![8, 4096, 16]⟩
abbrev S8x4096x1536 : Shape := ⟨3, ![8, 4096, 1536]⟩
abbrev S8x4096x3072 : Shape := ⟨3, ![8, 4096, 3072]⟩
abbrev S1x1x16x256 : Shape := ⟨4, ![1, 1, 16, 256]⟩
abbrev S16x256 : Shape := ⟨2, ![16, 256]⟩
abbrev S1x1x256 : Shape := ⟨3, ![1, 1, 256]⟩
abbrev S256 : Shape := ⟨1, ![256]⟩
abbrev S1x6144 : Shape := ⟨2, ![1, 6144]⟩
abbrev S6144 : Shape := ⟨1, ![6144]⟩
abbrev S8x256 : Shape := ⟨2, ![8, 256]⟩
abbrev S8x256x1 : Shape := ⟨3, ![8, 256, 1]⟩
abbrev S8x256x6592 : Shape := ⟨3, ![8, 256, 6592]⟩
abbrev S8x256x256 : Shape := ⟨3, ![8, 256, 256]⟩
abbrev S8x256x128 : Shape := ⟨3, ![8, 256, 128]⟩
abbrev S8x256x32 : Shape := ⟨3, ![8, 256, 32]⟩
abbrev S8x256x512 : Shape := ⟨3, ![8, 256, 512]⟩
abbrev S8x256x16 : Shape := ⟨3, ![8, 256, 16]⟩
abbrev S8x256x1536 : Shape := ⟨3, ![8, 256, 1536]⟩
abbrev S8x256x3072 : Shape := ⟨3, ![8, 256, 3072]⟩
abbrev S8x4352x256 : Shape := ⟨3, ![8, 4352, 256]⟩
abbrev S8x4352x512 : Shape := ⟨3, ![8, 4352, 512]⟩
abbrev S8x4352x1536 : Shape := ⟨3, ![8, 4352, 1536]⟩
abbrev S8x4352x3072 : Shape := ⟨3, ![8, 4352, 3072]⟩

abbrev nBuf : Space → Nat
  | .hbm => 278
  | .vmem => 0
  | .smem => 0
  | _ => 0

abbrev hbmTy0_0 (i : Nat) : BufTy := match i % 128 with
  | 0 => ⟨S8x4096x1024, .f32⟩
  | 1 => ⟨S8x256x1024, .f32⟩
  | 2 => ⟨S2x8x6144, .f32⟩
  | 3 => ⟨S2x6144, .f32⟩
  | 4 => ⟨S2x1024, .f32⟩
  | 5 => ⟨S2x1024x6592, .f32⟩
  | 6 => ⟨S2x256, .f32⟩
  | 7 => ⟨S2x256x768, .f32⟩
  | 8 => ⟨S2x128, .f32⟩
  | 9 => ⟨S2x128x1024, .f32⟩
  | 10 => ⟨S2x2x16x256, .f32⟩
  | 11 => ⟨S2x2x256, .f32⟩
  | 12 => ⟨S4352x128, .f32⟩
  | 13 => ⟨S4352x128, .f32⟩
  | 14 => ⟨S1x8x6144, .f32⟩
  | 15 => ⟨S8x6144, .f32⟩
  | 16 => ⟨S8x1x6144, .f32⟩
  | 17 => ⟨S8x1x1024, .f32⟩
  | 18 => ⟨S8x1x1024, .f32⟩
  | 19 => ⟨S8x1x1024, .f32⟩
  | 20 => ⟨S8x1x1024, .f32⟩
  | 21 => ⟨S8x1x1024, .f32⟩
  | 22 => ⟨S8x1x1024, .f32⟩
  | 23 => ⟨S1x1024, .f32⟩
  | 24 => ⟨S1024, .f32⟩
  | 25 => ⟨S8x4096x1024, .f32⟩
  | 26 => ⟨S_, .f32⟩
  | 27 => ⟨S8x4096, .f32⟩
  | 28 => ⟨S8x4096x1, .f32⟩
  | 29 => ⟨S_, .f32⟩
  | 30 => ⟨S8x4096x1, .f32⟩
  | 31 => ⟨S8x4096x1, .f32⟩
  | 32 => ⟨S_, .f32⟩
  | 33 => ⟨S8x4096x1, .f32⟩
  | 34 => ⟨S8x4096x1, .f32⟩
  | 35 => ⟨S8x4096x1, .f32⟩
  | 36 => ⟨S8x4096x1024, .f32⟩
  | 37 => ⟨S8x4096x1024, .f32⟩
  | 38 => ⟨S1x1x1024, .f32⟩
  | 39 => ⟨S8x4096x1024, .f32⟩
  | 40 => ⟨S8x4096x1024, .f32⟩
  | 41 => ⟨S_, .f32⟩
  | 42 => ⟨S8x1x1024, .f32⟩
  | 43 => ⟨S8x1x1024, .f32⟩
  | 44 => ⟨S8x4096x1024, .f32⟩
  | 45 => ⟨S8x4096x1024, .f32⟩
  | 46 => ⟨S8x4096x1024, .f32⟩
  | 47 => ⟨S8x4096x1024, .f32⟩
  | 48 => ⟨S1x1024x6592, .f32⟩
  | 49 => ⟨S1024x6592, .f32⟩
  | 50 => ⟨S8x4096x6592, .f32⟩
  | 51 => ⟨S8x4096x256, .f32⟩
  | 52 => ⟨S8x4096x128, .f32⟩
  | 53 => ⟨S8x4096x32, .f32⟩
  | 54 => ⟨S8x4096x256, .f32⟩
  | 55 => ⟨S8x4096x256, .f32⟩
  | 56 => ⟨S8x4096x512, .f32⟩
  | 57 => ⟨S8x4096x512, .f32⟩
  | 58 => ⟨S8x4096x16, .f32⟩
  | 59 => ⟨S8x4096x16, .f32⟩
  | 60 => ⟨S8x4096x1536, .f32⟩
  | 61 => ⟨S8x4096x3072, .f32⟩
  | 62 => ⟨S1x1x16x256, .f32⟩
  | 63 => ⟨S16x256, .f32⟩
  | 64 => ⟨S8x4096x256, .f32⟩
  | 65 => ⟨S1x1x256, .f32⟩
  | 66 => ⟨S256, .f32⟩
  | 67 => ⟨S1x1x256, .f32⟩
  | 68 => ⟨S8x4096x256, .f32⟩
  | 69 => ⟨S8x4096x256, .f32⟩
  | 70 => ⟨S8x4096x256, .f32⟩
  | 71 => ⟨S_, .f32⟩
  | 72 => ⟨S8x4096x256, .f32⟩
  | 73 => ⟨S8x4096x256, .f32⟩
  | 74 => ⟨S8x4096x256, .f32⟩
  | 75 => ⟨S8x4096x256, .f32⟩
  | 76 => ⟨S8x4096x256, .i1⟩
  | 77 => ⟨S8x4096x256, .f32⟩
  | 78 => ⟨S8x4096x256, .f32⟩
  | 79 => ⟨S8x4096x256, .f32⟩
  | 80 => ⟨S8x4096x256, .f32⟩
  | 81 => ⟨S8x4096x256, .f32⟩
  | 82 => ⟨S8x4096x256, .f32⟩
  | 83 => ⟨S8x4096x256, .f32⟩
  | 84 => ⟨S8x4096x256, .f32⟩
  | 85 => ⟨S8x4096x256, .f32⟩
  | 86 => ⟨S_, .f32⟩
  | 87 => ⟨S8x4096x256, .f32⟩
  | 88 => ⟨S8x4096x256, .f32⟩
  | 89 => ⟨S1x1x16x256, .f32⟩
  | 90 => ⟨S16x256, .f32⟩
  | 91 => ⟨S8x4096x256, .f32⟩
  | 92 => ⟨S1x1x256, .f32⟩
  | 93 => ⟨S256, .f32⟩
  | 94 => ⟨S1x1x256, .f32⟩
  | 95 => ⟨S8x4096x256, .f32⟩
  | 96 => ⟨S8x4096x256, .f32⟩
  | 97 => ⟨S8x4096x256, .f32⟩
  | 98 => ⟨S_, .f32⟩
  | 99 => ⟨S8x4096x256, .f32⟩
  | 100 => ⟨S8x4096x256, .f32⟩
  | 101 => ⟨S8x4096x256, .f32⟩
  | 102 => ⟨S8x4096x256, .f32⟩
  | 103 => ⟨S8x4096x256, .i1⟩
  | 104 => ⟨S8x4096x256, .f32⟩
  | 105 => ⟨S8x4096x256, .f32⟩
  | 106 => ⟨S8x4096x256, .f32⟩
  | 107 => ⟨S8x4096x256, .f32⟩
  | 108 => ⟨S8x4096x256, .f32⟩
  | 109 => ⟨S8x4096x256, .f32⟩
  | 110 => ⟨S8x4096x256, .f32⟩
  | 111 => ⟨S8x4096x256, .f32⟩
  | 112 => ⟨S8x4096x256, .f32⟩
  | 113 => ⟨S_, .f32⟩
  | 114 => ⟨S8x4096x256, .f32⟩
  | 115 => ⟨S8x4096x256, .f32⟩
  | 116 => ⟨S8x4096x512, .f32⟩
  | 117 => ⟨S_, .f32⟩
  | 118 => ⟨S8x4096x256, .f32⟩
  | 119 => ⟨S8x4096x256, .f32⟩
  | 120 => ⟨S8x4096x256, .bf16⟩
  | 121 => ⟨S8x4096x256, .bf16⟩
  | 122 => ⟨S8x4096x512, .bf16⟩
  | 123 => ⟨S8x4096x512, .f32⟩
  | 124 => ⟨S8x4096x512, .f32⟩
  | 125 => ⟨S_, .f32⟩
  | 126 => ⟨S8x4096x512, .f32⟩
  | 127 => ⟨S8x4096x512, .f32⟩
  | _ => ⟨S8x4096x1024, .f32⟩

abbrev hbmTy0_1 (i : Nat) : BufTy := match i % 128 with
  | 0 => ⟨S_, .f32⟩
  | 1 => ⟨S8x4096x512, .f32⟩
  | 2 => ⟨S8x4096x512, .f32⟩
  | 3 => ⟨S8x4096x512, .f32⟩
  | 4 => ⟨S8x4096x512, .bf16⟩
  | 5 => ⟨S8x4096x3072, .f32⟩
  | 6 => ⟨S8x4096x3072, .f32⟩
  | 7 => ⟨S_, .f32⟩
  | 8 => ⟨S8x4096x3072, .f32⟩
  | 9 => ⟨S8x4096x3072, .f32⟩
  | 10 => ⟨S_, .f32⟩
  | 11 => ⟨S8x4096x3072, .f32⟩
  | 12 => ⟨S8x4096x3072, .f32⟩
  | 13 => ⟨S8x4096x3072, .bf16⟩
  | 14 => ⟨S1x6144, .f32⟩
  | 15 => ⟨S6144, .f32⟩
  | 16 => ⟨S1024, .f32⟩
  | 17 => ⟨S1024, .f32⟩
  | 18 => ⟨S1024, .f32⟩
  | 19 => ⟨S1024, .f32⟩
  | 20 => ⟨S1024, .f32⟩
  | 21 => ⟨S1024, .f32⟩
  | 22 => ⟨S1x1024, .f32⟩
  | 23 => ⟨S1024, .f32⟩
  | 24 => ⟨S8x256x1024, .f32⟩
  | 25 => ⟨S_, .f32⟩
  | 26 => ⟨S8x256, .f32⟩
  | 27 => ⟨S8x256x1, .f32⟩
  | 28 => ⟨S_, .f32⟩
  | 29 => ⟨S8x256x1, .f32⟩
  | 30 => ⟨S8x256x1, .f32⟩
  | 31 => ⟨S_, .f32⟩
  | 32 => ⟨S8x256x1, .f32⟩
  | 33 => ⟨S8x256x1, .f32⟩
  | 34 => ⟨S8x256x1, .f32⟩
  | 35 => ⟨S8x256x1024, .f32⟩
  | 36 => ⟨S8x256x1024, .f32⟩
  | 37 => ⟨S1x1x1024, .f32⟩
  | 38 => ⟨S8x256x1024, .f32⟩
  | 39 => ⟨S8x256x1024, .f32⟩
  | 40 => ⟨S_, .f32⟩
  | 41 => ⟨S1024, .f32⟩
  | 42 => ⟨S1024, .f32⟩
  | 43 => ⟨S1x1x1024, .f32⟩
  | 44 => ⟨S8x256x1024, .f32⟩
  | 45 => ⟨S8x256x1024, .f32⟩
  | 46 => ⟨S1x1x1024, .f32⟩
  | 47 => ⟨S8x256x1024, .f32⟩
  | 48 => ⟨S8x256x1024, .f32⟩
  | 49 => ⟨S1x1024x6592, .f32⟩
  | 50 => ⟨S1024x6592, .f32⟩
  | 51 => ⟨S8x256x6592, .f32⟩
  | 52 => ⟨S8x256x256, .f32⟩
  | 53 => ⟨S8x256x128, .f32⟩
  | 54 => ⟨S8x256x32, .f32⟩
  | 55 => ⟨S8x256x256, .f32⟩
  | 56 => ⟨S8x256x256, .f32⟩
  | 57 => ⟨S8x256x512, .f32⟩
  | 58 => ⟨S8x256x512, .f32⟩
  | 59 => ⟨S8x256x16, .f32⟩
  | 60 => ⟨S8x256x16, .f32⟩
  | 61 => ⟨S8x256x1536, .f32⟩
  | 62 => ⟨S8x256x3072, .f32⟩
  | 63 => ⟨S1x1x16x256, .f32⟩
  | 64 => ⟨S16x256, .f32⟩
  | 65 => ⟨S8x256x256, .f32⟩
  | 66 => ⟨S1x1x256, .f32⟩
  | 67 => ⟨S256, .f32⟩
  | 68 => ⟨S1x1x256, .f32⟩
  | 69 => ⟨S8x256x256, .f32⟩
  | 70 => ⟨S8x256x256, .f32⟩
  | 71 => ⟨S8x256x256, .f32⟩
  | 72 => ⟨S_, .f32⟩
  | 73 => ⟨S8x256x256, .f32⟩
  | 74 => ⟨S8x256x256, .f32⟩
  | 75 => ⟨S8x256x256, .f32⟩
  | 76 => ⟨S8x256x256, .f32⟩
  | 77 => ⟨S8x256x256, .i1⟩
  | 78 => ⟨S8x256x256, .f32⟩
  | 79 => ⟨S8x256x256, .f32⟩
  | 80 => ⟨S8x256x256, .f32⟩
  | 81 => ⟨S8x256x256, .f32⟩
  | 82 => ⟨S8x256x256, .f32⟩
  | 83 => ⟨S8x256x256, .f32⟩
  | 84 => ⟨S8x256x256, .f32⟩
  | 85 => ⟨S8x256x256, .f32⟩
  | 86 => ⟨S8x256x256, .f32⟩
  | 87 => ⟨S_, .f32⟩
  | 88 => ⟨S8x256x256, .f32⟩
  | 89 => ⟨S8x256x256, .f32⟩
  | 90 => ⟨S1x1x16x256, .f32⟩
  | 91 => ⟨S16x256, .f32⟩
  | 92 => ⟨S8x256x256, .f32⟩
  | 93 => ⟨S1x1x256, .f32⟩
  | 94 => ⟨S256, .f32⟩
  | 95 => ⟨S1x1x256, .f32⟩
  | 96 => ⟨S8x256x256, .f32⟩
  | 97 => ⟨S8x256x256, .f32⟩
  | 98 => ⟨S8x256x256, .f32⟩
  | 99 => ⟨S_, .f32⟩
  | 100 => ⟨S8x256x256, .f32⟩
  | 101 => ⟨S8x256x256, .f32⟩
  | 102 => ⟨S8x256x256, .f32⟩
  | 103 => ⟨S8x256x256, .f32⟩
  | 104 => ⟨S8x256x256, .i1⟩
  | 105 => ⟨S8x256x256, .f32⟩
  | 106 => ⟨S8x256x256, .f32⟩
  | 107 => ⟨S8x256x256, .f32⟩
  | 108 => ⟨S8x256x256, .f32⟩
  | 109 => ⟨S8x256x256, .f32⟩
  | 110 => ⟨S8x256x256, .f32⟩
  | 111 => ⟨S8x256x256, .f32⟩
  | 112 => ⟨S8x256x256, .f32⟩
  | 113 => ⟨S8x256x256, .f32⟩
  | 114 => ⟨S_, .f32⟩
  | 115 => ⟨S8x256x256, .f32⟩
  | 116 => ⟨S8x256x256, .f32⟩
  | 117 => ⟨S8x256x512, .f32⟩
  | 118 => ⟨S_, .f32⟩
  | 119 => ⟨S8x256x256, .f32⟩
  | 120 => ⟨S8x256x256, .f32⟩
  | 121 => ⟨S8x256x256, .bf16⟩
  | 122 => ⟨S8x256x256, .bf16⟩
  | 123 => ⟨S8x256x512, .bf16⟩
  | 124 => ⟨S8x256x512, .f32⟩
  | 125 => ⟨S8x256x512, .f32⟩
  | 126 => ⟨S_, .f32⟩
  | 127 => ⟨S8x256x512, .f32⟩
  | _ => ⟨S8x4096x1024, .f32⟩

abbrev hbmTy0_2 (i : Nat) : BufTy := match i % 128 with
  | 0 => ⟨S8x256x512, .f32⟩
  | 1 => ⟨S_, .f32⟩
  | 2 => ⟨S8x256x512, .f32⟩
  | 3 => ⟨S8x256x512, .f32⟩
  | 4 => ⟨S8x256x512, .f32⟩
  | 5 => ⟨S8x256x512, .bf16⟩
  | 6 => ⟨S8x256x3072, .f32⟩
  | 7 => ⟨S8x256x3072, .f32⟩
  | 8 => ⟨S_, .f32⟩
  | 9 => ⟨S8x256x3072, .f32⟩
  | 10 => ⟨S8x256x3072, .f32⟩
  | 11 => ⟨S_, .f32⟩
  | 12 => ⟨S8x256x3072, .f32⟩
  | 13 => ⟨S8x256x3072, .f32⟩
  | 14 => ⟨S8x256x3072, .bf16⟩
  | 15 => ⟨S8x4352x256, .bf16⟩
  | 16 => ⟨S8x4352x256, .bf16⟩
  | 17 => ⟨S8x4352x512, .bf16⟩
  | 18 => ⟨S8x4352x512, .bf16⟩
  | 19 => ⟨S8x4352x512, .f32⟩
  | 20 => ⟨S8x4352x1536, .f32⟩
  | 21 => ⟨S8x4352x3072, .bf16⟩
  | _ => ⟨S8x4096x1024, .f32⟩

abbrev hbmTy (i : Nat) : BufTy := match i / 128 with
  | 0 => hbmTy0_0 i
  | 1 => hbmTy0_1 i
  | 2 => hbmTy0_2 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst : Ref sig .tc := ⟨.hbm, 26, rfl⟩
abbrev main_v12 : Ref sig .tc := ⟨.hbm, 27, rfl⟩
abbrev main_v13 : Ref sig .tc := ⟨.hbm, 28, rfl⟩
abbrev main_cst_0 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_call0_v0 : Ref sig .tc := ⟨.hbm, 70, rfl⟩
abbrev main_call0_call0_cst : Ref sig .tc := ⟨.hbm, 71, rfl⟩
abbrev main_call0_call0_v0 : Ref sig .tc := ⟨.hbm, 72, rfl⟩
abbrev main_call0_call0_v1 : Ref sig .tc := ⟨.hbm, 73, rfl⟩
abbrev main_call0_call0_v2 : Ref sig .tc := ⟨.hbm, 74, rfl⟩
abbrev main_call0_call0_v3 : Ref sig .tc := ⟨.hbm, 75, rfl⟩
abbrev main_call0_call0_v4 : Ref sig .tc := ⟨.hbm, 76, rfl⟩
abbrev main_call0_call0_v5 : Ref sig .tc := ⟨.hbm, 77, rfl⟩
abbrev main_call0_call0_v6 : Ref sig .tc := ⟨.hbm, 78, rfl⟩
abbrev main_call0_call0_v7 : Ref sig .tc := ⟨.hbm, 79, rfl⟩
abbrev main_call0_call0_v8 : Ref sig .tc := ⟨.hbm, 80, rfl⟩
abbrev main_call0_call0_v9 : Ref sig .tc := ⟨.hbm, 81, rfl⟩
abbrev main_call0_call0_v10 : Ref sig .tc := ⟨.hbm, 82, rfl⟩
abbrev main_call0_call0_v11 : Ref sig .tc := ⟨.hbm, 83, rfl⟩
abbrev main_call0_v1 : Ref sig .tc := ⟨.hbm, 84, rfl⟩
abbrev main_v52 : Ref sig .tc := ⟨.hbm, 85, rfl⟩
abbrev main_cst_3 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_call1_v0 : Ref sig .tc := ⟨.hbm, 97, rfl⟩
abbrev main_call1_call0_cst : Ref sig .tc := ⟨.hbm, 98, rfl⟩
abbrev main_call1_call0_v0 : Ref sig .tc := ⟨.hbm, 99, rfl⟩
abbrev main_call1_call0_v1 : Ref sig .tc := ⟨.hbm, 100, rfl⟩
abbrev main_call1_call0_v2 : Ref sig .tc := ⟨.hbm, 101, rfl⟩
abbrev main_call1_call0_v3 : Ref sig .tc := ⟨.hbm, 102, rfl⟩
abbrev main_call1_call0_v4 : Ref sig .tc := ⟨.hbm, 103, rfl⟩
abbrev main_call1_call0_v5 : Ref sig .tc := ⟨.hbm, 104, rfl⟩
abbrev main_call1_call0_v6 : Ref sig .tc := ⟨.hbm, 105, rfl⟩
abbrev main_call1_call0_v7 : Ref sig .tc := ⟨.hbm, 106, rfl⟩
abbrev main_call1_call0_v8 : Ref sig .tc := ⟨.hbm, 107, rfl⟩
abbrev main_call1_call0_v9 : Ref sig .tc := ⟨.hbm, 108, rfl⟩
abbrev main_call1_call0_v10 : Ref sig .tc := ⟨.hbm, 109, rfl⟩
abbrev main_call1_call0_v11 : Ref sig .tc := ⟨.hbm, 110, rfl⟩
abbrev main_call1_v1 : Ref sig .tc := ⟨.hbm, 111, rfl⟩
abbrev main_v63 : Ref sig .tc := ⟨.hbm, 112, rfl⟩
abbrev main_cst_4 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_cst_5 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_call2_v0 : Ref sig .tc := ⟨.hbm, 123, rfl⟩
abbrev main_call2_v1 : Ref sig .tc := ⟨.hbm, 124, rfl⟩
abbrev main_call2_cst : Ref sig .tc := ⟨.hbm, 125, rfl⟩
abbrev main_call2_v2 : Ref sig .tc := ⟨.hbm, 126, rfl⟩
abbrev main_call2_v3 : Ref sig .tc := ⟨.hbm, 127, rfl⟩
abbrev main_call2_cst_0 : Ref sig .tc := ⟨.hbm, 128, rfl⟩
abbrev main_call2_v4 : Ref sig .tc := ⟨.hbm, 129, rfl⟩
abbrev main_call2_v5 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_cst_6 : Ref sig .tc := ⟨.hbm, 135, rfl⟩
abbrev main_v76 : Ref sig .tc := ⟨.hbm, 136, rfl⟩
abbrev main_v77 : Ref sig .tc := ⟨.hbm, 137, rfl⟩
abbrev main_cst_7 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_v83 : Ref sig .tc := ⟨.hbm, 144, rfl⟩
abbrev main_v84 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_cst_8 : Ref sig .tc := ⟨.hbm, 153, rfl⟩
abbrev main_v92 : Ref sig .tc := ⟨.hbm, 154, rfl⟩
abbrev main_v93 : Ref sig .tc := ⟨.hbm, 155, rfl⟩
abbrev main_cst_9 : Ref sig .tc := ⟨.hbm, 156, rfl⟩
abbrev main_v94 : Ref sig .tc := ⟨.hbm, 157, rfl⟩
abbrev main_v95 : Ref sig .tc := ⟨.hbm, 158, rfl⟩
abbrev main_cst_10 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_cst_11 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_v109 : Ref sig .tc := ⟨.hbm, 174, rfl⟩
abbrev main_v110 : Ref sig .tc := ⟨.hbm, 175, rfl⟩
abbrev main_v111 : Ref sig .tc := ⟨.hbm, 176, rfl⟩
abbrev main_v112 : Ref sig .tc := ⟨.hbm, 177, rfl⟩
abbrev main_v113 : Ref sig .tc := ⟨.hbm, 178, rfl⟩
abbrev main_v114 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_call3_v0 : Ref sig .tc := ⟨.hbm, 199, rfl⟩
abbrev main_call3_call0_cst : Ref sig .tc := ⟨.hbm, 200, rfl⟩
abbrev main_call3_call0_v0 : Ref sig .tc := ⟨.hbm, 201, rfl⟩
abbrev main_call3_call0_v1 : Ref sig .tc := ⟨.hbm, 202, rfl⟩
abbrev main_call3_call0_v2 : Ref sig .tc := ⟨.hbm, 203, rfl⟩
abbrev main_call3_call0_v3 : Ref sig .tc := ⟨.hbm, 204, rfl⟩
abbrev main_call3_call0_v4 : Ref sig .tc := ⟨.hbm, 205, rfl⟩
abbrev main_call3_call0_v5 : Ref sig .tc := ⟨.hbm, 206, rfl⟩
abbrev main_call3_call0_v6 : Ref sig .tc := ⟨.hbm, 207, rfl⟩
abbrev main_call3_call0_v7 : Ref sig .tc := ⟨.hbm, 208, rfl⟩
abbrev main_call3_call0_v8 : Ref sig .tc := ⟨.hbm, 209, rfl⟩
abbrev main_call3_call0_v9 : Ref sig .tc := ⟨.hbm, 210, rfl⟩
abbrev main_call3_call0_v10 : Ref sig .tc := ⟨.hbm, 211, rfl⟩
abbrev main_call3_call0_v11 : Ref sig .tc := ⟨.hbm, 212, rfl⟩
abbrev main_call3_v1 : Ref sig .tc := ⟨.hbm, 213, rfl⟩
abbrev main_v134 : Ref sig .tc := ⟨.hbm, 214, rfl⟩
abbrev main_cst_12 : Ref sig .tc := ⟨.hbm, 215, rfl⟩
abbrev main_v135 : Ref sig .tc := ⟨.hbm, 216, rfl⟩
abbrev main_v136 : Ref sig .tc := ⟨.hbm, 217, rfl⟩
abbrev main_v137 : Ref sig .tc := ⟨.hbm, 218, rfl⟩
abbrev main_v138 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_v144 : Ref sig .tc := ⟨.hbm, 225, rfl⟩
abbrev main_call4_v0 : Ref sig .tc := ⟨.hbm, 226, rfl⟩
abbrev main_call4_call0_cst : Ref sig .tc := ⟨.hbm, 227, rfl⟩
abbrev main_call4_call0_v0 : Ref sig .tc := ⟨.hbm, 228, rfl⟩
abbrev main_call4_call0_v1 : Ref sig .tc := ⟨.hbm, 229, rfl⟩
abbrev main_call4_call0_v2 : Ref sig .tc := ⟨.hbm, 230, rfl⟩
abbrev main_call4_call0_v3 : Ref sig .tc := ⟨.hbm, 231, rfl⟩
abbrev main_call4_call0_v4 : Ref sig .tc := ⟨.hbm, 232, rfl⟩
abbrev main_call4_call0_v5 : Ref sig .tc := ⟨.hbm, 233, rfl⟩
abbrev main_call4_call0_v6 : Ref sig .tc := ⟨.hbm, 234, rfl⟩
abbrev main_call4_call0_v7 : Ref sig .tc := ⟨.hbm, 235, rfl⟩
abbrev main_call4_call0_v8 : Ref sig .tc := ⟨.hbm, 236, rfl⟩
abbrev main_call4_call0_v9 : Ref sig .tc := ⟨.hbm, 237, rfl⟩
abbrev main_call4_call0_v10 : Ref sig .tc := ⟨.hbm, 238, rfl⟩
abbrev main_call4_call0_v11 : Ref sig .tc := ⟨.hbm, 239, rfl⟩
abbrev main_call4_v1 : Ref sig .tc := ⟨.hbm, 240, rfl⟩
abbrev main_v145 : Ref sig .tc := ⟨.hbm, 241, rfl⟩
abbrev main_cst_13 : Ref sig .tc := ⟨.hbm, 242, rfl⟩
abbrev main_v146 : Ref sig .tc := ⟨.hbm, 243, rfl⟩
abbrev main_v147 : Ref sig .tc := ⟨.hbm, 244, rfl⟩
abbrev main_v148 : Ref sig .tc := ⟨.hbm, 245, rfl⟩
abbrev main_cst_14 : Ref sig .tc := ⟨.hbm, 246, rfl⟩
abbrev main_v149 : Ref sig .tc := ⟨.hbm, 247, rfl⟩
abbrev main_v150 : Ref sig .tc := ⟨.hbm, 248, rfl⟩
abbrev main_v151 : Ref sig .tc := ⟨.hbm, 249, rfl⟩
abbrev main_v152 : Ref sig .tc := ⟨.hbm, 250, rfl⟩
abbrev main_v153 : Ref sig .tc := ⟨.hbm, 251, rfl⟩
abbrev main_call5_v0 : Ref sig .tc := ⟨.hbm, 252, rfl⟩
abbrev main_call5_v1 : Ref sig .tc := ⟨.hbm, 253, rfl⟩
abbrev main_call5_cst : Ref sig .tc := ⟨.hbm, 254, rfl⟩
abbrev main_call5_v2 : Ref sig .tc := ⟨.hbm, 255, rfl⟩
abbrev main_call5_v3 : Ref sig .tc := ⟨.hbm, 256, rfl⟩
abbrev main_call5_cst_0 : Ref sig .tc := ⟨.hbm, 257, rfl⟩
abbrev main_call5_v4 : Ref sig .tc := ⟨.hbm, 258, rfl⟩
abbrev main_call5_v5 : Ref sig .tc := ⟨.hbm, 259, rfl⟩
abbrev main_v154 : Ref sig .tc := ⟨.hbm, 260, rfl⟩
abbrev main_v155 : Ref sig .tc := ⟨.hbm, 261, rfl⟩
abbrev main_v156 : Ref sig .tc := ⟨.hbm, 262, rfl⟩
abbrev main_v157 : Ref sig .tc := ⟨.hbm, 263, rfl⟩
abbrev main_cst_15 : Ref sig .tc := ⟨.hbm, 264, rfl⟩
abbrev main_v158 : Ref sig .tc := ⟨.hbm, 265, rfl⟩
abbrev main_v159 : Ref sig .tc := ⟨.hbm, 266, rfl⟩
abbrev main_cst_16 : Ref sig .tc := ⟨.hbm, 267, rfl⟩
abbrev main_v160 : Ref sig .tc := ⟨.hbm, 268, rfl⟩
abbrev main_v161 : Ref sig .tc := ⟨.hbm, 269, rfl⟩
abbrev main_v162 : Ref sig .tc := ⟨.hbm, 270, rfl⟩
abbrev main_v163 : Ref sig .tc := ⟨.hbm, 271, rfl⟩
abbrev main_v164 : Ref sig .tc := ⟨.hbm, 272, rfl⟩
abbrev main_v165 : Ref sig .tc := ⟨.hbm, 273, rfl⟩
abbrev main_v166 : Ref sig .tc := ⟨.hbm, 274, rfl⟩
abbrev main_v167 : Ref sig .tc := ⟨.hbm, 275, rfl⟩
abbrev main_v168 : Ref sig .tc := ⟨.hbm, 276, rfl⟩
abbrev main_v169 : Ref sig .tc := ⟨.hbm, 277, rfl⟩

abbrev nD : Nat := 1
abbrev τ : Topo := Topo.v7x

variable {F : FTy → Type} [FloatOps F]
-- ==== Proof.AttnBody.lean ====
/- The attention kernel's body, read as eight softmax updates.

   One grid point holds 2048 query rows of one batch and two heads, and all 4352 keys and values of those two heads. The
   body keeps, per head, a running maximum and a running accumulator in scratch memory, and updates both once per chunk
   of keys: three chunks of 1024 keys, then one of 1280. This file names one update (`stepM0`/`stepA0` for the first
   head, `stepM1`/`stepA1` for the second, `last…` for the longer chunk), and shows that what the body stores is the
   output formula applied to the two accumulators after four updates each (`out_eq`). -/
module

public import proofs.«01_k».proof.Proof.Gen.KernelIdeal.Value
public import Idealize.ShloMosaic.Lib.Tactic
public import Idealize.ShloMosaic.Lib.Pipeline.ReadBack

@[expose] public section

set_option maxRecDepth 16384

noncomputable section

namespace Cert.KernelIdeal.Attn

open Cert.KernelIdeal Cert.KernelIdeal.Gen Idealize.ShloMosaic Idealize.ShloMosaic.TcCoe Idealize.SL.Sem

variable {F : FTy → Type} [FloatOps F]

/-! ## One update -/

/-- The running maximum of the first head after a chunk of 1024 keys. -/
def stepM0 (k : Vec F S1x1024x256 .bf16) (q : Vec F S1x2048x128 .bf16) (m : Vec F S1x2048x128 .f32) : Vec F S1x2048x128 .f32 :=
  k0_pay12 (k0_pay7 k q m)
/-- The accumulator of the first head after a chunk of 1024 keys. -/
def stepA0 (k v : Vec F S1x1024x256 .bf16) (q : Vec F S1x2048x128 .bf16) (m a : Vec F S1x2048x128 .f32) : Vec F S1x2048x128 .f32 :=
  k0_pay11 (k0_pay4 v) (k0_pay8 k q m) (k0_pay9 k q m) (k0_pay10 a)
/-- The running maximum of the second head after a chunk of 1024 keys. -/
def stepM1 (k : Vec F S1x1024x256 .bf16) (q : Vec F S1x2048x128 .bf16) (m : Vec F S1x2048x128 .f32) : Vec F S1x2048x128 .f32 :=
  k0_pay17 (k0_pay15 (k0_pay3 k) q m)
/-- The accumulator of the second head after a chunk of 1024 keys. -/
def stepA1 (k v : Vec F S1x1024x256 .bf16) (q : Vec F S1x2048x128 .bf16) (m a : Vec F S1x2048x128 .f32) : Vec F S1x2048x128 .f32 :=
  k0_pay16 (k0_pay3 k) (k0_pay4 v) q m a
/-- The accumulator of the first head after the last chunk, of 1280 keys. -/
def lastA0 (k v : Vec F S1x1280x256 .bf16) (q : Vec F S1x2048x128 .bf16) (m a : Vec F S1x2048x128 .f32) : Vec F S1x2048x128 .f32 :=
  k0_pay47 (k0_pay43 v) (k0_pay44 k q) m a
/-- The accumulator of the second head after the last chunk, of 1280 keys. -/
def lastA1 (k v : Vec F S1x1280x256 .bf16) (q : Vec F S1x2048x128 .bf16) (m a : Vec F S1x2048x128 .f32) : Vec F S1x2048x128 .f32 :=
  k0_pay54 (k0_pay43 v) (k0_pay52 (k0_pay42 k) q m) (k0_pay53 (k0_pay42 k) q m) a

/-! ## The chunks a point reads -/

/-- The first head's slot of the point's queries. -/
def q0 (x : Vec F S1x2048x256 .bf16) : Vec F S1x2048x128 .bf16 :=
  View.ld x (Rect.unit (s := S1x2048x256) ![0, 0, 0] S1x2048x128.size inb_S1x2048x256_S1x2048x128_0_0_0)
/-- The second head's slot of the point's queries. -/
def q1 (x : Vec F S1x2048x256 .bf16) : Vec F S1x2048x128 .bf16 :=
  View.ld x (Rect.unit (s := S1x2048x256) ![0, 0, 128] S1x2048x128.size inb_S1x2048x256_S1x2048x128_0_0_128)
/-- Keys (or values) 0 to 1023. -/
def c0 (x : Vec F S1x4352x256 .bf16) : Vec F S1x1024x256 .bf16 :=
  View.ld x (Rect.unit (s := S1x4352x256) ![0, 0, 0] S1x1024x256.size inb_S1x4352x256_S1x1024x256_0_0_0)
/-- Keys (or values) 1024 to 2047. -/
def c1 (x : Vec F S1x4352x256 .bf16) : Vec F S1x1024x256 .bf16 :=
  View.ld x (Rect.unit (s := S1x4352x256) ![0, 1024, 0] S1x1024x256.size inb_S1x4352x256_S1x1024x256_0_1024_0)
/-- Keys (or values) 2048 to 3071. -/
def c2 (x : Vec F S1x4352x256 .bf16) : Vec F S1x1024x256 .bf16 :=
  View.ld x (Rect.unit (s := S1x4352x256) ![0, 2048, 0] S1x1024x256.size inb_S1x4352x256_S1x1024x256_0_2048_0)
/-- Keys (or values) 3072 to 4351. -/
def c3 (x : Vec F S1x4352x256 .bf16) : Vec F S1x1280x256 .bf16 :=
  View.ld x (Rect.unit (s := S1x4352x256) ![0, 3072, 0] S1x1280x256.size inb_S1x4352x256_S1x1280x256_0_3072_0)

/-- A head's running maximum before any key. -/
def mInit0 : Vec F S1x2048x128 .f32 := View.ld (S := S2x2048x128) (k0_pay1 (F := F)) (Rect.unit (s := S2x2048x128) ![0, 0, 0] S1x2048x128.size inb_S2x2048x128_S1x2048x128_0_0_0)
@[inherit_doc mInit0]
def mInit1 : Vec F S1x2048x128 .f32 := View.ld (S := S2x2048x128) (k0_pay1 (F := F)) (Rect.unit (s := S2x2048x128) ![1, 0, 0] S1x2048x128.size inb_S2x2048x128_S1x2048x128_1_0_0)
/-- A head's accumulator before any key. -/
def aInit0 : Vec F S1x2048x128 .f32 := View.ld (S := S2x2048x128) (k0_pay2 (F := F)) (Rect.unit (s := S2x2048x128) ![0, 0, 0] S1x2048x128.size inb_S2x2048x128_S1x2048x128_0_0_0)
@[inherit_doc aInit0]
def aInit1 : Vec F S1x2048x128 .f32 := View.ld (S := S2x2048x128) (k0_pay2 (F := F)) (Rect.unit (s := S2x2048x128) ![1, 0, 0] S1x2048x128.size inb_S2x2048x128_S1x2048x128_1_0_0)

/-- The first head's accumulator after all four chunks. -/
def acc0 (x0 : Vec F S1x2048x256 .bf16) (x1 x2 : Vec F S1x4352x256 .bf16) : Vec F S1x2048x128 .f32 :=
  let m1 := stepM0 (c0 x1) (q0 x0) mInit0
  let a1 := stepA0 (c0 x1) (c0 x2) (q0 x0) mInit0 aInit0
  let m2 := stepM0 (c1 x1) (q0 x0) m1
  let a2 := stepA0 (c1 x1) (c1 x2) (q0 x0) m1 a1
  let m3 := stepM0 (c2 x1) (q0 x0) m2
  let a3 := stepA0 (c2 x1) (c2 x2) (q0 x0) m2 a2
  lastA0 (c3 x1) (c3 x2) (q0 x0) m3 a3
/-- The second head's accumulator after all four chunks. -/
def acc1 (x0 : Vec F S1x2048x256 .bf16) (x1 x2 : Vec F S1x4352x256 .bf16) : Vec F S1x2048x128 .f32 :=
  let m1 := stepM1 (c0 x1) (q1 x0) mInit1
  let a1 := stepA1 (c0 x1) (c0 x2) (q1 x0) mInit1 aInit1
  let m2 := stepM1 (c1 x1) (q1 x0) m1
  let a2 := stepA1 (c1 x1) (c1 x2) (q1 x0) m1 a1
  let m3 := stepM1 (c2 x1) (q1 x0) m2
  let a3 := stepA1 (c2 x1) (c2 x2) (q1 x0) m2 a2
  lastA1 (c3 x1) (c3 x2) (q1 x0) m3 a3

/-! ## The later chunks' updates are the first chunk's -/

theorem pay24_eq (k : Vec F S1x1024x256 .bf16) (q : Vec F S1x2048x128 .bf16) (m : Vec F S1x2048x128 .f32) :
    k0_pay24 (k0_pay22 k q m) = stepM0 k q m := rfl
theorem pay23_eq (k v : Vec F S1x1024x256 .bf16) (q : Vec F S1x2048x128 .bf16) (m a : Vec F S1x2048x128 .f32) :
    k0_pay23 k v q m a = stepA0 k v q m a := rfl
theorem pay36_eq (k : Vec F S1x1024x256 .bf16) (q : Vec F S1x2048x128 .bf16) (m : Vec F S1x2048x128 .f32) :
    k0_pay36 (k0_pay30 k) q m = stepM0 k q m := rfl
theorem pay35_eq (k v : Vec F S1x1024x256 .bf16) (q : Vec F S1x2048x128 .bf16) (m a : Vec F S1x2048x128 .f32) :
    k0_pay35 (k0_pay30 k) v q m a = stepA0 k v q m a := rfl
theorem pay29_eq (k : Vec F S1x1024x256 .bf16) (q : Vec F S1x2048x128 .bf16) (m : Vec F S1x2048x128 .f32) :
    k0_pay29 (k0_pay18 k) q m = stepM1 k q m := rfl
theorem pay28_eq (k v : Vec F S1x1024x256 .bf16) (q : Vec F S1x2048x128 .bf16) (m a : Vec F S1x2048x128 .f32) :
    k0_pay28 (k0_pay18 k) (k0_pay19 v) q m a = stepA1 k v q m a := rfl
theorem pay41_eq (k : Vec F S1x1024x256 .bf16) (q : Vec F S1x2048x128 .bf16) (m : Vec F S1x2048x128 .f32) :
    k0_pay41 (k0_pay37 (k0_pay30 k) q) m = stepM1 k q m := rfl
theorem pay40_eq (k v : Vec F S1x1024x256 .bf16) (q : Vec F S1x2048x128 .bf16) (m a : Vec F S1x2048x128 .f32) :
    k0_pay40 (k0_pay31 v) (k0_pay37 (k0_pay30 k) q) m a = stepA1 k v q m a := rfl
theorem pay12_eq (k : Vec F S1x1024x256 .bf16) (q : Vec F S1x2048x128 .bf16) (m : Vec F S1x2048x128 .f32) :
    k0_pay12 (k0_pay7 k q m) = stepM0 k q m := rfl
theorem pay11_eq (k v : Vec F S1x1024x256 .bf16) (q : Vec F S1x2048x128 .bf16) (m a : Vec F S1x2048x128 .f32) :
    k0_pay11 (k0_pay4 v) (k0_pay8 k q m) (k0_pay9 k q m) (k0_pay10 a) = stepA0 k v q m a := rfl
theorem pay17_eq (k : Vec F S1x1024x256 .bf16) (q : Vec F S1x2048x128 .bf16) (m : Vec F S1x2048x128 .f32) :
    k0_pay17 (k0_pay15 (k0_pay3 k) q m) = stepM1 k q m := rfl
theorem pay16_eq (k v : Vec F S1x1024x256 .bf16) (q : Vec F S1x2048x128 .bf16) (m a : Vec F S1x2048x128 .f32) :
    k0_pay16 (k0_pay3 k) (k0_pay4 v) q m a = stepA1 k v q m a := rfl

/-! ## What the body stores -/

theorem hz3 : ∀ a : Fin 3, (![0, 0, 0] : Fin 3 → Nat) a = 0 := fun a => by fin_cases a <;> rfl

theorem out_eq (c : Dev nD) (i : grid0.Coords) (a3 : Memref sig .tc .vmem S1x2048x256 .bf16) (h3 : a3.IsWhole)
    (a4 : Memref sig .tc .vmem S1x4352x256 .bf16) (h4 : a4.IsWhole) (a5 : Memref sig .tc .vmem S1x4352x256 .bf16) (h5 : a5.IsWhole)
    (a6 : Memref sig .tc .vmem S1x2048x128 .bf16) (h6 : a6.IsWhole) (a7 : Memref sig .tc .vmem S2x2048x128 .f32) (h7 : a7.IsWhole)
    (a8 : Memref sig .tc .vmem S2x2048x128 .f32) (h8 : a8.IsWhole) (x0 : Vec F S1x2048x256 .bf16) (x1 x2 : Vec F S1x4352x256 .bf16) :
    out0_A_3 c i a3 h3 a4 h4 a5 h5 a6 h6 a7 h7 a8 h8 x0 x1 x2 = k0_pay56 (acc0 x0 x1 x2) (acc1 x0 x1 x2) := by
  unfold out0_A_3
  rw [View.read_writes_eq_canon _ _ _ (cover0_A_3 c i a3 h3 a4 h4 a5 h5 a6 h6 a7 h7 a8 h8 x0 x1 x2)]
  unfold kernelRun0_A
  dsimp only
  sl_unfold_words
  rw [View.canon_unit_zero (funext hz3)]
  simp only [View.readAt_eq_ld, h3.read_unread, h4.read_unread, h5.read_unread]
  simp (disch := decide +kernel) only [View.readCov_cons_toLoadRect, View.readCov_skip]
  simp (disch := exact hz3) only [View.readCov_fill]
  simp only [pay12_eq, pay11_eq, pay17_eq, pay16_eq, pay24_eq, pay23_eq, pay36_eq, pay35_eq, pay29_eq, pay28_eq, pay41_eq, pay40_eq]
  rfl

end Cert.KernelIdeal.Attn

end
-- ==== Proof.Softmax.lean ====
/- Softmax in pieces, over the extended reals.

   A softmax-weighted sum of values that may be infinite, with real scores, is `(∑ 2^s · v) · (∑ 2^s)⁻¹`. Whichever real
   number is subtracted from the scores first, the factor it leaves above and below cancels. This file holds the facts
   about the extended reals that this takes: a positive real factor distributes over sums, the running maximum of real
   scores is a real number, and one update of a running sum moves it from one subtracted number to the next. -/
module

public import Idealize.ShloMosaic.Lib.Pointwise

@[expose] public section

noncomputable section

namespace Softmax

open Idealize.ShloMosaic

/-- Two to a real power. -/
def p2 (x : ℝ) : ℝ := Real.rpow 2 x

theorem p2_pos (x : ℝ) : 0 < p2 x := Real.rpow_pos_of_pos (by norm_num) x
theorem p2_add (x y : ℝ) : p2 (x + y) = p2 x * p2 y := Real.rpow_add (by norm_num) x y
theorem p2_zero : p2 0 = 1 := Real.rpow_zero 2

theorem p2_mul_neg (x : ℝ) : p2 x * p2 (-x) = 1 := by rw [← p2_add, add_neg_cancel, p2_zero]

/-- Two to the power `x / log 2` is the exponential of `x`. -/
theorem p2_div_log (x : ℝ) : p2 (x / Real.log 2) = Real.exp x := by
  have h : Real.log 2 ≠ 0 := (Real.log_pos (by norm_num)).ne'
  show (2 : ℝ) ^ (x / Real.log 2) = _
  rw [Real.rpow_def_of_pos (by norm_num)]
  congr 1
  field_simp

theorem exp2_sub (x y : ℝ) : Ideal.exp2 ((x : EReal) - (y : EReal)) = ((p2 x * p2 (-y) : ℝ) : EReal) := by
  rw [← EReal.coe_sub, Ideal.exp2_coe, ← p2_add, ← sub_eq_add_neg]
  rfl

theorem exp_sub (x y : ℝ) : Ideal.exp ((x : EReal) - (y : EReal)) = ((Real.exp x * Real.exp (-y) : ℝ) : EReal) := by
  rw [← EReal.coe_sub, Ideal.exp_coe, ← Real.exp_add, ← sub_eq_add_neg]

/-! ## Real sums and positive real factors -/

theorem coe_sum {ι : Type*} (s : Finset ι) (f : ι → ℝ) : ((∑ k ∈ s, f k : ℝ) : EReal) = ∑ k ∈ s, (f k : EReal) := by
  classical
  induction s using Finset.induction_on with
  | empty => simp
  | insert a s h ih => rw [Finset.sum_insert h, Finset.sum_insert h, EReal.coe_add, ih]

theorem pos_mul_add {c : ℝ} (hc : 0 < c) (x y : EReal) : (c : EReal) * (x + y) = c * x + c * y :=
  EReal.left_distrib_of_nonneg_of_ne_top (by exact_mod_cast hc.le) (EReal.coe_ne_top c) x y

theorem pos_mul_sum {ι : Type*} (s : Finset ι) {c : ℝ} (hc : 0 < c) (f : ι → EReal) :
    (c : EReal) * ∑ k ∈ s, f k = ∑ k ∈ s, (c : EReal) * f k := by
  classical
  induction s using Finset.induction_on with
  | empty => simp
  | insert a s h ih => rw [Finset.sum_insert h, Finset.sum_insert h, pos_mul_add hc, ih]

/-- A real factor common to a numerator and a nonzero real denominator cancels. -/
theorem div_cancel {c l : ℝ} (hc : 0 < c) (hl : 0 < l) (x : EReal) :
    Ideal.div ((c : EReal) * x) ((c : EReal) * (l : EReal)) = x * ((l⁻¹ : ℝ) : EReal) := by
  rw [← EReal.coe_mul, Ideal.div_coe (mul_pos hc hl).ne', mul_comm (c : EReal) x, mul_assoc, ← EReal.coe_mul]
  congr 2
  field_simp

/-! ## The maximum of real scores -/

theorem fold_max_real {n : ℕ} (f : Fin (n + 1) → ℝ) :
    ∃ x : ℝ, Finset.univ.fold max (⊥ : EReal) (fun k => (f k : EReal)) = (x : EReal) := by
  have h1 : Finset.univ.fold max (⊥ : EReal) (fun k => (f k : EReal)) ≠ ⊤ := by
    have := (Finset.fold_max_lt (s := Finset.univ) (b := (⊥ : EReal)) (f := fun k => (f k : EReal)) ⊤).2
      ⟨bot_lt_top, fun x _ => EReal.coe_lt_top _⟩
    exact this.ne
  have h2 : Finset.univ.fold max (⊥ : EReal) (fun k => (f k : EReal)) ≠ ⊥ := by
    have := (Finset.lt_fold_max (s := Finset.univ) (b := (⊥ : EReal)) (f := fun k => (f k : EReal)) ⊥).2
      (Or.inr ⟨0, Finset.mem_univ _, EReal.bot_lt_coe _⟩)
    exact this.ne'
  exact ⟨_, (EReal.coe_toReal h1 h2).symm⟩

/-- A running maximum, minus infinity or real, with the maximum of more real scores is real. -/
theorem max_fold_real {n : ℕ} (μ : EReal) (hμ : μ ≠ ⊤) (f : Fin (n + 1) → ℝ) :
    ∃ x : ℝ, max μ (Finset.univ.fold max (⊥ : EReal) (fun k => (f k : EReal))) = (x : EReal) := by
  obtain ⟨x, hx⟩ := fold_max_real f
  rw [hx]
  have h1 : max μ (x : EReal) ≠ ⊤ := by
    rcases max_choice μ (x : EReal) with h | h <;> rw [h]
    · exact hμ
    · exact EReal.coe_ne_top x
  have h2 : max μ (x : EReal) ≠ ⊥ := ne_of_gt (lt_of_lt_of_le (EReal.bot_lt_coe x) (le_max_right _ _))
  exact ⟨_, (EReal.coe_toReal h1 h2).symm⟩

/-! ## One update -/

/-- The accumulator after a chunk of scores `s` with values `v`, once the number subtracted is `x`: the accumulator before,
    worth `E` at any number subtracted, is worth `E` plus the chunk's weighted values after. -/
theorem step {n : ℕ} (s : Fin n → ℝ) (v : Fin n → EReal) (μ a E : EReal) (x : ℝ)
    (h : Ideal.exp2 (μ - x) * a = ((p2 (-x) : ℝ) : EReal) * E) :
    Ideal.exp2 (μ - x) * a + ∑ k, Ideal.exp2 ((s k : EReal) - x) * v k
      = ((p2 (-x) : ℝ) : EReal) * (E + ∑ k, ((p2 (s k) : ℝ) : EReal) * v k) := by
  rw [h, pos_mul_add (p2_pos _), pos_mul_sum _ (p2_pos _)]
  congr 1
  refine Finset.sum_congr rfl fun k _ => ?_
  rw [exp2_sub, mul_comm (p2 (s k)), EReal.coe_mul, mul_assoc]

/-- An accumulator worth `E` at the number `x` is worth `E` at every number. -/
theorem rescale (x y : ℝ) (a E : EReal) (h : a = ((p2 (-x) : ℝ) : EReal) * E) :
    Ideal.exp2 ((x : EReal) - y) * a = ((p2 (-y) : ℝ) : EReal) * E := by
  rw [h, exp2_sub, ← mul_assoc, ← EReal.coe_mul, mul_right_comm, p2_mul_neg, one_mul]

/-- Before any key the accumulator is worth nothing. -/
theorem start (y : ℝ) : Ideal.exp2 ((⊥ : EReal) - y) * 0 = ((p2 (-y) : ℝ) : EReal) * 0 := by
  rw [mul_zero, mul_zero]

/-- The softmax written with its maximum subtracted first, each weight divided by the total before it meets its value. -/
theorem softmax_sum {n : ℕ} (s : Fin (n + 1) → ℝ) (v : Fin (n + 1) → EReal) (x : ℝ) :
    ∑ k, Ideal.div (Ideal.exp ((s k : EReal) - x)) (∑ j, Ideal.exp ((s j : EReal) - x)) * v k
      = (∑ k, ((Real.exp (s k) : ℝ) : EReal) * v k) * (((∑ k, Real.exp (s k))⁻¹ : ℝ) : EReal) := by
  have hL : (0 : ℝ) < ∑ k, Real.exp (s k) := Finset.sum_pos (fun k _ => Real.exp_pos _) ⟨0, Finset.mem_univ _⟩
  have hd : (∑ j, Ideal.exp ((s j : EReal) - x)) = ((Real.exp (-x) : ℝ) : EReal) * ((∑ j, Real.exp (s j) : ℝ) : EReal) := by
    rw [← EReal.coe_mul, Finset.mul_sum, coe_sum]
    refine Finset.sum_congr rfl fun k _ => ?_
    rw [exp_sub, mul_comm]
  rw [hd, mul_comm (∑ k, ((Real.exp (s k) : ℝ) : EReal) * v k), pos_mul_sum _ (inv_pos.2 hL)]
  refine Finset.sum_congr rfl fun k _ => ?_
  rw [exp_sub, mul_comm (Real.exp (s k)), EReal.coe_mul, div_cancel (Real.exp_pos _) hL, mul_comm (((Real.exp (s k) : ℝ)) : EReal), mul_assoc]

end Softmax

end
-- ==== Proof.AttnStep.lean ====
/- What the body's updates compute at an element.

   A row's scores against a chunk of keys are products over the 128 lanes of the head's slot. With real queries and keys,
   one update keeps the invariant `Worth`: the running maximum is the same in every lane, and the accumulator at lane `l`
   is worth a sum `E r l` of `2^score · value` over the keys seen, whatever number is subtracted from the scores. -/
module

public import proofs.«01_k».proof.Proof.AttnBody
public import proofs.«01_k».proof.Proof.Softmax
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.SL.Sem Softmax

theorem ofBits_negInf : Ideal.ofBits FTy.f32 0xFF800000#32 = ⊥ := by
  simp [Ideal.ofBits, Ideal.ieee]

/-- The running maximum `m` and the accumulator `a` after some keys: `m` is lane-independent, and the accumulator is worth
    `E r l` at every number subtracted. -/
def Worth (m a : Vec Ideal S1x2048x128 .f32) (E : Fin 2048 → Fin 128 → EReal) : Prop :=
  ∃ μ : Fin 2048 → EReal, (∀ r, μ r ≠ ⊤) ∧ (∀ r l, m (ix3 0 r l) = μ r)
    ∧ ∀ r l (x : ℝ), Ideal.exp2 (μ r - x) * a (ix3 0 r l) = ((p2 (-x) : ℝ) : EReal) * E r l

/-- The accumulator at the end: a positive real factor, one per row, times what it is worth. -/
def Ended (a : Vec Ideal S1x2048x128 .f32) (E : Fin 2048 → Fin 128 → EReal) : Prop :=
  ∃ x : Fin 2048 → ℝ, ∀ r l, a (ix3 0 r l) = ((p2 (-x r) : ℝ) : EReal) * E r l

theorem worth_init0 : Worth mInit0 aInit0 (fun _ _ => 0) := by
  refine ⟨fun _ => ⊥, fun _ => bot_ne_top, fun r l => ?_, fun r l x => ?_⟩
  · unfold mInit0; unfold_payloads; pointwise; exact ofBits_negInf
  · have h : (aInit0 : Vec Ideal S1x2048x128 .f32) (ix3 0 r l) = 0 := by unfold aInit0; unfold_payloads; pointwise
    rw [h, start]

theorem worth_init1 : Worth mInit1 aInit1 (fun _ _ => 0) := by
  refine ⟨fun _ => ⊥, fun _ => bot_ne_top, fun r l => ?_, fun r l x => ?_⟩
  · unfold mInit1; unfold_payloads; pointwise; exact ofBits_negInf
  · have h : (aInit1 : Vec Ideal S1x2048x128 .f32) (ix3 0 r l) = 0 := by unfold aInit1; unfold_payloads; pointwise
    rw [h, start]

/-- A product over real lanes is real. -/
theorem dot_real {n : ℕ} (a b : Fin n → EReal) (A B : Fin n → ℝ) (ha : ∀ d, a d = (A d : EReal)) (hb : ∀ d, b d = (B d : EReal)) :
    ∑ d, a d * b d = ((∑ d, A d * B d : ℝ) : EReal) := by
  rw [coe_sum]
  exact Finset.sum_congr rfl fun d _ => by rw [ha, hb, EReal.coe_mul]

section Steps

variable (q : Vec Ideal S1x2048x128 .bf16) (Q : Fin 2048 → Fin 128 → ℝ) (hq : ∀ r d, q (ix3 0 r d) = (Q r d : EReal))
include hq

theorem stepM0_apply (k : Vec Ideal S1x1024x256 .bf16) (K : Fin 1024 → Fin 256 → ℝ) (hk : ∀ r d, k (ix3 0 r d) = (K r d : EReal))
    (m : Vec Ideal S1x2048x128 .f32) (r : Fin 2048) (l : Fin 128) :
    stepM0 k q m (ix3 0 r l) = max (m (ix3 0 r l)) (Finset.univ.fold max (⊥ : EReal) fun k' : Fin 1024 =>
      ((∑ d : Fin 128, Q r d * K k' ⟨d, by omega⟩ : ℝ) : EReal)) := by
  unfold stepM0
  unfold_payloads
  pointwise
  simp only [ofBits_negInf, dot_real _ _ _ _ (hq r) (fun d => hk _ _)]

theorem stepA0_apply (k v : Vec Ideal S1x1024x256 .bf16) (K : Fin 1024 → Fin 256 → ℝ) (hk : ∀ r d, k (ix3 0 r d) = (K r d : EReal))
    (m a : Vec Ideal S1x2048x128 .f32) (μ : Fin 2048 → EReal) (hm : ∀ r l, m (ix3 0 r l) = μ r) (r : Fin 2048) (l : Fin 128) :
    stepA0 k v q m a (ix3 0 r l) =
      Ideal.exp2 (μ r - stepM0 k q m (ix3 0 r l)) * a (ix3 0 r l)
        + ∑ k' : Fin 1024, Ideal.exp2 (((∑ d : Fin 128, Q r d * K k' ⟨d, by omega⟩ : ℝ) : EReal) - stepM0 k q m (ix3 0 r l))
            * v (ix3 0 k' ⟨l, by omega⟩) := by
  rw [stepM0_apply q Q hq k K hk]
  unfold stepA0
  unfold_payloads
  pointwise
  simp only [hm, ofBits_negInf, dot_real _ _ _ _ (hq r) (fun d => hk _ _), dite_eq_ite, ite_self]
  rfl

theorem stepM1_apply (k : Vec Ideal S1x1024x256 .bf16) (K : Fin 1024 → Fin 256 → ℝ) (hk : ∀ r d, k (ix3 0 r d) = (K r d : EReal))
    (m : Vec Ideal S1x2048x128 .f32) (r : Fin 2048) (l : Fin 128) :
    stepM1 k q m (ix3 0 r l) = max (m (ix3 0 r l)) (Finset.univ.fold max (⊥ : EReal) fun k' : Fin 1024 =>
      ((∑ d : Fin 128, Q r d * K k' ⟨128 + d, by omega⟩ : ℝ) : EReal)) := by
  unfold stepM1
  unfold_payloads
  pointwise
  simp only [ofBits_negInf, dot_real _ _ _ _ (hq r) (fun d => hk _ _)]

theorem stepA1_apply (k v : Vec Ideal S1x1024x256 .bf16) (K : Fin 1024 → Fin 256 → ℝ) (hk : ∀ r d, k (ix3 0 r d) = (K r d : EReal))
    (m a : Vec Ideal S1x2048x128 .f32) (μ : Fin 2048 → EReal) (hm : ∀ r l, m (ix3 0 r l) = μ r) (r : Fin 2048) (l : Fin 128) :
    stepA1 k v q m a (ix3 0 r l) =
      Ideal.exp2 (μ r - stepM1 k q m (ix3 0 r l)) * a (ix3 0 r l)
        + ∑ k' : Fin 1024, Ideal.exp2 (((∑ d : Fin 128, Q r d * K k' ⟨128 + d, by omega⟩ : ℝ) : EReal) - stepM1 k q m (ix3 0 r l))
            * v (ix3 0 k' ⟨128 + l, by omega⟩) := by
  rw [stepM1_apply q Q hq k K hk]
  unfold stepA1
  unfold_payloads
  pointwise
  simp only [hm, ofBits_negInf, dot_real _ _ _ _ (hq r) (fun d => hk _ _), dite_eq_ite, ite_self]
  rfl

theorem lastA0_apply (k v : Vec Ideal S1x1280x256 .bf16) (K : Fin 1280 → Fin 256 → ℝ) (hk : ∀ r d, k (ix3 0 r d) = (K r d : EReal))
    (m a : Vec Ideal S1x2048x128 .f32) (μ : Fin 2048 → EReal) (hm : ∀ r l, m (ix3 0 r l) = μ r) (r : Fin 2048) (l : Fin 128) :
    lastA0 k v q m a (ix3 0 r l) =
      let M := max (μ r) (Finset.univ.fold max (⊥ : EReal) fun k' : Fin 1280 =>
        ((∑ d : Fin 128, Q r d * K k' ⟨d, by omega⟩ : ℝ) : EReal))
      Ideal.exp2 (μ r - M) * a (ix3 0 r l)
        + ∑ k' : Fin 1280, Ideal.exp2 (((∑ d : Fin 128, Q r d * K k' ⟨d, by omega⟩ : ℝ) : EReal) - M)
            * v (ix3 0 k' ⟨l, by omega⟩) := by
  unfold lastA0
  unfold_payloads
  pointwise
  simp only [hm, ofBits_negInf, dot_real _ _ _ _ (hq r) (fun d => hk _ _), dite_eq_ite, ite_self]
  rfl

theorem lastA1_apply (k v : Vec Ideal S1x1280x256 .bf16) (K : Fin 1280 → Fin 256 → ℝ) (hk : ∀ r d, k (ix3 0 r d) = (K r d : EReal))
    (m a : Vec Ideal S1x2048x128 .f32) (μ : Fin 2048 → EReal) (hm : ∀ r l, m (ix3 0 r l) = μ r) (r : Fin 2048) (l : Fin 128) :
    lastA1 k v q m a (ix3 0 r l) =
      let M := max (μ r) (Finset.univ.fold max (⊥ : EReal) fun k' : Fin 1280 =>
        ((∑ d : Fin 128, Q r d * K k' ⟨128 + d, by omega⟩ : ℝ) : EReal))
      Ideal.exp2 (μ r - M) * a (ix3 0 r l)
        + ∑ k' : Fin 1280, Ideal.exp2 (((∑ d : Fin 128, Q r d * K k' ⟨128 + d, by omega⟩ : ℝ) : EReal) - M)
            * v (ix3 0 k' ⟨128 + l, by omega⟩) := by
  unfold lastA1
  unfold_payloads
  pointwise
  simp only [hm, ofBits_negInf, dot_real _ _ _ _ (hq r) (fun d => hk _ _), dite_eq_ite, ite_self]
  rfl

/-! ## The invariant, update by update -/

theorem worth_step0 (k v : Vec Ideal S1x1024x256 .bf16) (K : Fin 1024 → Fin 256 → ℝ) (hk : ∀ r d, k (ix3 0 r d) = (K r d : EReal))
    (m a : Vec Ideal S1x2048x128 .f32) (E : Fin 2048 → Fin 128 → EReal) (h : Worth m a E) :
    Worth (stepM0 k q m) (stepA0 k v q m a) (fun r l => E r l
      + ∑ k' : Fin 1024, ((p2 (∑ d : Fin 128, Q r d * K k' ⟨d, by omega⟩) : ℝ) : EReal) * v (ix3 0 k' ⟨l, by omega⟩)) := by
  obtain ⟨μ, hμ, hm, ha⟩ := h
  choose x hx using fun r : Fin 2048 => max_fold_real (n := 1023) (μ r) (hμ r) fun k' => ∑ d : Fin 128, Q r d * K k' ⟨d, by omega⟩
  have e : ∀ r l, stepM0 k q m (ix3 0 r l) = (x r : EReal) := fun r l => by rw [stepM0_apply q Q hq k K hk, hm, ← hx r]
  refine ⟨fun r => x r, fun r => EReal.coe_ne_top _, e, fun r l y => rescale _ _ _ _ ?_⟩
  rw [stepA0_apply q Q hq k v K hk m a μ hm, e, step _ _ _ _ _ _ (ha r l (x r))]

theorem worth_step1 (k v : Vec Ideal S1x1024x256 .bf16) (K : Fin 1024 → Fin 256 → ℝ) (hk : ∀ r d, k (ix3 0 r d) = (K r d : EReal))
    (m a : Vec Ideal S1x2048x128 .f32) (E : Fin 2048 → Fin 128 → EReal) (h : Worth m a E) :
    Worth (stepM1 k q m) (stepA1 k v q m a) (fun r l => E r l
      + ∑ k' : Fin 1024, ((p2 (∑ d : Fin 128, Q r d * K k' ⟨128 + d, by omega⟩) : ℝ) : EReal) * v (ix3 0 k' ⟨128 + l, by omega⟩)) := by
  obtain ⟨μ, hμ, hm, ha⟩ := h
  choose x hx using fun r : Fin 2048 => max_fold_real (n := 1023) (μ r) (hμ r) fun k' => ∑ d : Fin 128, Q r d * K k' ⟨128 + d, by omega⟩
  have e : ∀ r l, stepM1 k q m (ix3 0 r l) = (x r : EReal) := fun r l => by rw [stepM1_apply q Q hq k K hk, hm, ← hx r]
  refine ⟨fun r => x r, fun r => EReal.coe_ne_top _, e, fun r l y => rescale _ _ _ _ ?_⟩
  rw [stepA1_apply q Q hq k v K hk m a μ hm, e, step _ _ _ _ _ _ (ha r l (x r))]

theorem ended_last0 (k v : Vec Ideal S1x1280x256 .bf16) (K : Fin 1280 → Fin 256 → ℝ) (hk : ∀ r d, k (ix3 0 r d) = (K r d : EReal))
    (m a : Vec Ideal S1x2048x128 .f32) (E : Fin 2048 → Fin 128 → EReal) (h : Worth m a E) :
    Ended (lastA0 k v q m a) (fun r l => E r l
      + ∑ k' : Fin 1280, ((p2 (∑ d : Fin 128, Q r d * K k' ⟨d, by omega⟩) : ℝ) : EReal) * v (ix3 0 k' ⟨l, by omega⟩)) := by
  obtain ⟨μ, hμ, hm, ha⟩ := h
  choose x hx using fun r : Fin 2048 => max_fold_real (n := 1279) (μ r) (hμ r) fun k' => ∑ d : Fin 128, Q r d * K k' ⟨d, by omega⟩
  refine ⟨x, fun r l => ?_⟩
  rw [lastA0_apply q Q hq k v K hk m a μ hm]
  dsimp only
  rw [hx r, step _ _ _ _ _ _ (ha r l (x r))]

theorem ended_last1 (k v : Vec Ideal S1x1280x256 .bf16) (K : Fin 1280 → Fin 256 → ℝ) (hk : ∀ r d, k (ix3 0 r d) = (K r d : EReal))
    (m a : Vec Ideal S1x2048x128 .f32) (E : Fin 2048 → Fin 128 → EReal) (h : Worth m a E) :
    Ended (lastA1 k v q m a) (fun r l => E r l
      + ∑ k' : Fin 1280, ((p2 (∑ d : Fin 128, Q r d * K k' ⟨128 + d, by omega⟩) : ℝ) : EReal) * v (ix3 0 k' ⟨128 + l, by omega⟩)) := by
  obtain ⟨μ, hμ, hm, ha⟩ := h
  choose x hx using fun r : Fin 2048 => max_fold_real (n := 1279) (μ r) (hμ r) fun k' => ∑ d : Fin 128, Q r d * K k' ⟨128 + d, by omega⟩
  refine ⟨x, fun r l => ?_⟩
  rw [lastA1_apply q Q hq k v K hk m a μ hm]
  dsimp only
  rw [hx r, step _ _ _ _ _ _ (ha r l (x r))]

end Steps

end Cert.KernelIdeal.Attn

end
-- ==== Proof.AttnBlock.lean ====
/- What one grid point of the attention kernel stores, at an element.

   After the four chunks an accumulator lane is worth the sum over all 4352 keys; the lanes from 64 on, where the values
   are one, hold the sum of the weights. The output formula divides the first by the second and puts the two heads side by
   side: lane `64 h + j` of the block is head `h`, value lane `j`. -/
module

public import proofs.«01_k».proof.Proof.AttnStep

@[expose] public section

set_option maxRecDepth 16384

noncomputable section

namespace Cert.KernelIdeal.Attn

open Cert.KernelIdeal Cert.KernelIdeal.Gen Idealize.ShloMosaic Idealize.ShloMosaic.TcCoe Idealize.SL.Sem Softmax

/-- A sum over the 4352 keys, chunk by chunk. -/
theorem sum_chunks (f : Fin 4352 → EReal) :
    0 + (∑ k : Fin 1024, f ⟨k, by omega⟩) + (∑ k : Fin 1024, f ⟨1024 + k, by omega⟩) + (∑ k : Fin 1024, f ⟨2048 + k, by omega⟩)
      + (∑ k : Fin 1280, f ⟨3072 + k, by omega⟩) = ∑ k, f k := by
  rw [zero_add, Fin.sum_univ_two_halves 3072 1280 rfl f, Fin.sum_univ_two_halves 2048 1024 rfl, Fin.sum_univ_two_halves 1024 1024 rfl]

/-! ## The slots and chunks at an element -/

theorem q0_apply (x : Vec Ideal S1x2048x256 .bf16) (r : Fin 2048) (d : Fin 128) : q0 x (ix3 0 r d) = x (ix3 0 r ⟨d, by omega⟩) := by
  unfold q0; pointwise
theorem q1_apply (x : Vec Ideal S1x2048x256 .bf16) (r : Fin 2048) (d : Fin 128) : q1 x (ix3 0 r d) = x (ix3 0 r ⟨128 + d, by omega⟩) := by
  unfold q1; pointwise
theorem c0_apply (x : Vec Ideal S1x4352x256 .bf16) (r : Fin 1024) (d : Fin 256) : c0 x (ix3 0 r d) = x (ix3 0 ⟨r, by omega⟩ d) := by
  unfold c0; pointwise
theorem c1_apply (x : Vec Ideal S1x4352x256 .bf16) (r : Fin 1024) (d : Fin 256) : c1 x (ix3 0 r d) = x (ix3 0 ⟨1024 + r, by omega⟩ d) := by
  unfold c1; pointwise
theorem c2_apply (x : Vec Ideal S1x4352x256 .bf16) (r : Fin 1024) (d : Fin 256) : c2 x (ix3 0 r d) = x (ix3 0 ⟨2048 + r, by omega⟩ d) := by
  unfold c2; pointwise
theorem c3_apply (x : Vec Ideal S1x4352x256 .bf16) (r : Fin 1280) (d : Fin 256) : c3 x (ix3 0 r d) = x (ix3 0 ⟨3072 + r, by omega⟩ d) := by
  unfold c3; pointwise

theorem lane_lt : ∀ l : Fin 128, IntOp.cmpi CmpIPredicate.slt (BitVec.ofNat 32 l.val) 64#32 = if l.val < 64 then 1#1 else 0#1 := by decide +kernel

/-- The output formula at a lane. -/
theorem pay56_apply (a b : Vec Ideal S1x2048x128 .f32) (r : Fin 2048) (l : Fin 128) :
   k0_pay56 a b (ix3 0 r l) = if l.val < 64 then Ideal.div (a (ix3 0 r l)) (a (ix3 0 r ⟨(↑l + 128 - 64) % 128, by omega⟩))
     else (Ideal.div (b (ix3 0 r ⟨(↑l + 128 - 64) % 128, by omega⟩)) (b (ix3 0 r l))) := by
  unfold_payloads
  pointwise
  rw [lane_lt]
  split
  · rw [ValueIdx.select_one]
  · rw [ValueIdx.select_zero]

section Block

variable (x0 : Vec Ideal S1x2048x256 .bf16) (x1 x2 : Vec Ideal S1x4352x256 .bf16)
  (Q : Fin 2048 → Fin 256 → ℝ) (hq : ∀ r d, x0 (ix3 0 r d) = (Q r d : EReal))
  (K : Fin 4352 → Fin 256 → ℝ) (hk : ∀ k d, x1 (ix3 0 k d) = (K k d : EReal))

/-- A row's score against a key, over the lanes of head `h`'s slot. -/
def score (Q : Fin 2048 → Fin 256 → ℝ) (K : Fin 4352 → Fin 256 → ℝ) (h : Fin 2) (r : Fin 2048) (k : Fin 4352) : ℝ :=
  ∑ d : Fin 128, Q r ⟨128 * h.val + d, by omega⟩ * K k ⟨128 * h.val + d, by omega⟩

include hq hk

theorem acc0_ended : Ended (acc0 x0 x1 x2) (fun r l => ∑ k : Fin 4352, ((p2 (score Q K 0 r k) : ℝ) : EReal)
    * x2 (ix3 0 k ⟨l, by omega⟩)) := by
  have hq0 : ∀ r d, q0 x0 (ix3 0 r d) = ((Q r ⟨d, by omega⟩ : ℝ) : EReal) := fun r d => (q0_apply x0 r d).trans (hq _ _)
  have w1 := worth_step0 (q0 x0) _ hq0 (c0 x1) (c0 x2) (fun r d => K ⟨r, by omega⟩ d) (fun r d => (c0_apply x1 r d).trans (hk _ _)) _ _ _ worth_init0
  have w2 := worth_step0 (q0 x0) _ hq0 (c1 x1) (c1 x2) (fun r d => K ⟨1024 + r, by omega⟩ d) (fun r d => (c1_apply x1 r d).trans (hk _ _)) _ _ _ w1
  have w3 := worth_step0 (q0 x0) _ hq0 (c2 x1) (c2 x2) (fun r d => K ⟨2048 + r, by omega⟩ d) (fun r d => (c2_apply x1 r d).trans (hk _ _)) _ _ _ w2
  have w4 := ended_last0 (q0 x0) _ hq0 (c3 x1) (c3 x2) (fun r d => K ⟨3072 + r, by omega⟩ d) (fun r d => (c3_apply x1 r d).trans (hk _ _)) _ _ _ w3
  unfold acc0
  refine Eq.subst (motive := fun E => Ended _ E) (funext fun r => funext fun l => ?_) w4
  rw [← sum_chunks]
  simp only [c0_apply, c1_apply, c2_apply, c3_apply, score, Fin.val_zero, Nat.mul_zero, Nat.zero_add]

theorem acc1_ended : Ended (acc1 x0 x1 x2) (fun r l => ∑ k : Fin 4352, ((p2 (score Q K 1 r k) : ℝ) : EReal)
    * x2 (ix3 0 k ⟨128 + l, by omega⟩)) := by
  have hq0 : ∀ r d, q1 x0 (ix3 0 r d) = ((Q r ⟨128 + d, by omega⟩ : ℝ) : EReal) := fun r d => (q1_apply x0 r d).trans (hq _ _)
  have w1 := worth_step1 (q1 x0) _ hq0 (c0 x1) (c0 x2) (fun r d => K ⟨r, by omega⟩ d) (fun r d => (c0_apply x1 r d).trans (hk _ _)) _ _ _ worth_init1
  have w2 := worth_step1 (q1 x0) _ hq0 (c1 x1) (c1 x2) (fun r d => K ⟨1024 + r, by omega⟩ d) (fun r d => (c1_apply x1 r d).trans (hk _ _)) _ _ _ w1
  have w3 := worth_step1 (q1 x0) _ hq0 (c2 x1) (c2 x2) (fun r d => K ⟨2048 + r, by omega⟩ d) (fun r d => (c2_apply x1 r d).trans (hk _ _)) _ _ _ w2
  have w4 := ended_last1 (q1 x0) _ hq0 (c3 x1) (c3 x2) (fun r d => K ⟨3072 + r, by omega⟩ d) (fun r d => (c3_apply x1 r d).trans (hk _ _)) _ _ _ w3
  unfold acc1
  refine Eq.subst (motive := fun E => Ended _ E) (funext fun r => funext fun l => ?_) w4
  rw [← sum_chunks]
  simp only [c0_apply, c1_apply, c2_apply, c3_apply, score, Fin.val_one, Nat.mul_one]

/-- The softmax-weighted values, with real scores `s`. -/
def weighted (s : Fin 4352 → ℝ) (v : Fin 4352 → EReal) : EReal :=
  (∑ k, ((p2 (s k) : ℝ) : EReal) * v k) * (((∑ k, p2 (s k))⁻¹ : ℝ) : EReal)

omit hq hk in
theorem div_ended (s : Fin 4352 → ℝ) (v w : Fin 4352 → EReal) (hw : ∀ k, w k = 1) (x : ℝ) :
    Ideal.div (((p2 (-x) : ℝ) : EReal) * ∑ k, ((p2 (s k) : ℝ) : EReal) * v k) (((p2 (-x) : ℝ) : EReal) * ∑ k, ((p2 (s k) : ℝ) : EReal) * w k)
      = weighted s v := by
  have hL : (0 : ℝ) < ∑ k, p2 (s k) := Finset.sum_pos (fun k _ => p2_pos _) ⟨0, Finset.mem_univ _⟩
  have e : ∑ k, ((p2 (s k) : ℝ) : EReal) * w k = ((∑ k, p2 (s k) : ℝ) : EReal) := by
    rw [coe_sum]; exact Finset.sum_congr rfl fun k _ => by rw [hw, mul_one]
  rw [e, div_cancel (p2_pos _) hL]
  rfl

/-- The block stored, at row `r` and lane `l`. -/
theorem block_apply (hv : ∀ (k : Fin 4352) (l : Fin 256), 64 ≤ l.val % 128 → x2 (ix3 0 k l) = 1) (r : Fin 2048) (l : Fin 128) :
    k0_pay56 (acc0 x0 x1 x2) (acc1 x0 x1 x2) (ix3 0 r l)
      = weighted (score Q K ⟨l.val / 64, by omega⟩ r) (fun k => x2 (ix3 0 k ⟨128 * (l.val / 64) + l.val % 64, by omega⟩)) := by
  obtain ⟨y0, h0⟩ := acc0_ended x0 x1 x2 Q hq K hk
  obtain ⟨y1, h1⟩ := acc1_ended x0 x1 x2 Q hq K hk
  beta_reduce at h0 h1
  rw [pay56_apply]
  by_cases hl : l.val < 64
  · rw [if_pos hl, h0, h0]
    rw [div_ended (score Q K 0 r) (fun k => x2 (ix3 0 k ⟨l.val, by omega⟩))
      (fun k => x2 (ix3 0 k ⟨(l.val + 128 - 64) % 128, by omega⟩)) (fun k => hv k _ ?_) (y0 r)]
    · have e0 : (⟨l.val / 64, by omega⟩ : Fin 2) = 0 := Fin.ext (by show l.val / 64 = 0; omega)
      have e1 : 128 * (l.val / 64) + l.val % 64 = l.val := by omega
      simp only [e0, e1]
    · show 64 ≤ ((l.val + 128 - 64) % 128) % 128
      omega
  · rw [if_neg hl, h1, h1]
    rw [div_ended (score Q K 1 r) (fun k => x2 (ix3 0 k ⟨128 + (l.val + 128 - 64) % 128, by omega⟩))
      (fun k => x2 (ix3 0 k ⟨128 + l.val, by omega⟩)) (fun k => hv k _ ?_) (y1 r)]
    · have e0 : (⟨l.val / 64, by omega⟩ : Fin 2) = 1 := Fin.ext (by show l.val / 64 = 1; omega)
      have e1 : 128 * (l.val / 64) + l.val % 64 = 128 + (l.val + 128 - 64) % 128 := by omega
      simp only [e0, e1]
    · show 64 ≤ (128 + l.val) % 128
      omega

end Block

end Cert.KernelIdeal.Attn

end
-- ==== Proof.AttnHost.lean ====
/- The packed arrays the attention call reads, at an element.

   The host code before the call gives each head a slot of 128 lanes: 64 lanes of the first part of a query or key, 32
   lanes of its rotary part, 32 zeros; a value's slot is its 64 lanes and 64 ones. Queries are divided by
   `√96 · log 2`, and the context's rows come after the 4096 latent rows. -/
module

public import proofs.«01_k».proof.Proof.Softmax
public import proofs.«01_k».proof.Proof.Gen.KernelIdeal.Value
public import Idealize.ShloMosaic.Lib.Tactic.CleanTypes
public import Idealize.ShloMosaic.Lib.StableHlo.ReadAt
public import Idealize.ShloMosaic.Lib.Pointwise

@[expose] public section

set_option maxRecDepth 16384

noncomputable section

namespace Cert.KernelIdeal.Attn

open Cert.KernelIdeal Cert.KernelIdeal.Gen Idealize.ShloMosaic Idealize.ShloMosaic.TcCoe Idealize.SL.Sem Softmax

theorem ofBits_96 : Ideal.ofBits FTy.f32 0x42C00000#32 = ((96 : ℝ) : EReal) := by
  simp [Ideal.ofBits, Ideal.ieee]; rw [← EReal.coe_mul]; norm_num
theorem ofBits_2 : Ideal.ofBits FTy.f32 0x40000000#32 = ((2 : ℝ) : EReal) := by
  simp [Ideal.ofBits, Ideal.ieee]; rw [← EReal.coe_mul]; norm_num

/-- Every element of an array is a real number. -/
def IsReal {S : Shape} (x : S.Idx → EReal) : Prop := ∀ i, x i = (((x i).toReal : ℝ) : EReal)

variable (m : (ℓ : Loc nD τ sig) → Buf (Elt Ideal) ℓ) (c : Dev nD)

/-! ## The arguments -/

/-- The latent queries, first part. -/
abbrev qn : Vec Ideal S8x4096x8x64 .f32 := m ((c : Thread nD τ).loc main_arg0)
/-- The latent queries, rotary part. -/
abbrev qr : Vec Ideal S8x4096x8x32 .f32 := m ((c : Thread nD τ).loc main_arg1)
/-- The latent keys, first part. -/
abbrev kn : Vec Ideal S8x4096x8x64 .f32 := m ((c : Thread nD τ).loc main_arg4)
/-- The latent keys, rotary part, shared by the heads. -/
abbrev kr : Vec Ideal S8x4096x32 .f32 := m ((c : Thread nD τ).loc main_arg5)
/-- The latent values. -/
abbrev vl : Vec Ideal S8x4096x8x64 .f32 := m ((c : Thread nD τ).loc main_arg6)
/-- The context's keys, first part. -/
abbrev knc : Vec Ideal S8x256x8x64 .f32 := m ((c : Thread nD τ).loc main_arg7)
/-- The context's keys, rotary part. -/
abbrev krc : Vec Ideal S8x256x32 .f32 := m ((c : Thread nD τ).loc main_arg8)
/-- The context's values. -/
abbrev vc : Vec Ideal S8x256x8x64 .f32 := m ((c : Thread nD τ).loc main_arg9)

/-- The number the queries are divided by. -/
def scale : ℝ := Real.sqrt 96 * Real.log 2

theorem scale_ne : scale ≠ 0 :=
  mul_ne_zero (Real.sqrt_pos.2 (by norm_num)).ne' (Real.log_pos (by norm_num)).ne'

theorem scale_eq : Ideal.sqrt (Ideal.ofBits FTy.f32 0x42C00000#32) * Ideal.log (Ideal.ofBits FTy.f32 0x40000000#32) = (scale : EReal) := by
  rw [ofBits_96, ofBits_2, Ideal.sqrt_coe, Ideal.log_coe, if_neg (by norm_num), if_neg (by norm_num), ← EReal.coe_mul]
  rfl

/-! ## The packed queries -/

/-- The packed query at lane `l` of the 1024, before the division. -/
def qPack (b : Fin 8) (t : Fin 4096) (l : Fin 1024) : EReal :=
  if h : l.val % 128 < 64 then qn m c (ix4 b t ⟨l.val / 128, by omega⟩ ⟨l.val % 128, h⟩)
  else if h2 : l.val % 128 - 64 < 32 then qr m c (ix4 b t ⟨l.val / 128, by omega⟩ ⟨l.val % 128 - 64, h2⟩)
  else 0

/-- The packed key at lane `l` of the 1024. -/
def kPack (b : Fin 8) (t : Fin 4352) (l : Fin 1024) : EReal :=
  if h : l.val % 128 < 64 then
    (if ht : t.val < 4096 then kn m c (ix4 b ⟨t, ht⟩ ⟨l.val / 128, by omega⟩ ⟨l.val % 128, h⟩)
      else knc m c (ix4 b ⟨t.val - 4096, by omega⟩ ⟨l.val / 128, by omega⟩ ⟨l.val % 128, h⟩))
  else if h2 : l.val % 128 - 64 < 32 then
    (if ht : t.val < 4096 then kr m c (ix3 b ⟨t, ht⟩ ⟨l.val % 128 - 64, h2⟩)
      else krc m c (ix3 b ⟨t.val - 4096, by omega⟩ ⟨l.val % 128 - 64, h2⟩))
  else 0

/-- The value at key `t`, head `h`, lane `d`: the latent's or the context's. -/
def vAll (b : Fin 8) (t : Fin 4352) (h : Fin 8) (d : Fin 64) : EReal :=
  if ht : t.val < 4096 then vl m c (ix4 b ⟨t, ht⟩ h d) else vc m c (ix4 b ⟨t.val - 4096, by omega⟩ h d)

theorem q_apply (b : Fin 8) (t : Fin 4096) (l : Fin 1024) :
    (V m c main_v12 : Vec Ideal S8x4352x1024 .bf16) (ix3 b ⟨t, by omega⟩ l) = Ideal.div (qPack m c b t l) scale := by
  rw [← scale_eq]
  unfold_abbrev_sides
  unfold qPack
  after_reads_at
  after_reads_at
  congr 1
  by_cases h : l.val % 128 < 64
  · rw [dif_pos h, dif_pos h]
    after_reads_at
  · rw [dif_neg h, dif_neg h]
    by_cases h2 : l.val % 128 - 64 < 32
    · rw [dif_pos h2, dif_pos h2]
      after_reads_at
    · rw [dif_neg h2, dif_neg h2]
      after_reads_at

theorem k_apply (b : Fin 8) (t : Fin 4352) (l : Fin 1024) :
    (V m c main_v24 : Vec Ideal S8x4352x1024 .bf16) (ix3 b t l) = kPack m c b t l := by
  unfold_abbrev_sides
  unfold kPack
  after_reads_at
  by_cases ht : t.val < 4096 <;> by_cases h : l.val % 128 < 64 <;> by_cases h2 : l.val % 128 - 64 < 32
  all_goals
    simp only [ht, h, h2, dite_true, dite_false]
    after_reads_at
    simp only [ht, h, h2, dite_true, dite_false]
    try after_reads_at

theorem v_apply (b : Fin 8) (t : Fin 4352) (l : Fin 1024) :
    (V m c main_v32 : Vec Ideal S8x4352x1024 .bf16) (ix3 b t l)
      = if h : l.val % 128 < 64 then vAll m c b t ⟨l.val / 128, by omega⟩ ⟨l.val % 128, h⟩ else 1 := by
  unfold_abbrev_sides
  unfold vAll
  after_reads_at
  by_cases ht : t.val < 4096 <;> by_cases h : l.val % 128 < 64
  all_goals
    simp only [ht, h, dite_true, dite_false]
    after_reads_at
    simp only [ht, h, dite_true, dite_false]
    try after_reads_at

end Cert.KernelIdeal.Attn

end
-- ==== Proof.AttnArray.lean ====
/- The attention call's result array, at an element.

   Grid point `t` is batch `t / 8`, head pair `t / 2 % 4` and half `t % 2` of the query rows. Its query, key and value
   blocks are read off the packed arrays, and element `(b, s, l)` of the result is stored by exactly one point. -/
module

public import proofs.«01_k».proof.Proof.AttnBlock
public import proofs.«01_k».proof.Proof.AttnHost

@[expose] public section

set_option maxRecDepth 16384

noncomputable section

namespace Cert.KernelIdeal.Attn

open Cert.KernelIdeal Cert.KernelIdeal.Gen Idealize.ShloMosaic Idealize.ShloMosaic.TcCoe Idealize.SL.Sem Softmax

theorem idx0 : ∀ t : Fin cfg0.N, win0_0.index t 0 = t.val / 8 ∧ win0_0.index t 1 = t.val % 2 ∧ win0_0.index t 2 = t.val / 2 % 4 :=
  (by decide +kernel : ∀ t : Fin grid0.N, win0_0.index t 0 = t.val / 8 ∧ win0_0.index t 1 = t.val % 2 ∧ win0_0.index t 2 = t.val / 2 % 4)
theorem idx1 : ∀ t : Fin cfg0.N, win0_1.index t 0 = t.val / 8 ∧ win0_1.index t 1 = 0 ∧ win0_1.index t 2 = t.val / 2 % 4 :=
  (by decide +kernel : ∀ t : Fin grid0.N, win0_1.index t 0 = t.val / 8 ∧ win0_1.index t 1 = 0 ∧ win0_1.index t 2 = t.val / 2 % 4)
theorem idx2 : ∀ t : Fin cfg0.N, win0_2.index t 0 = t.val / 8 ∧ win0_2.index t 1 = 0 ∧ win0_2.index t 2 = t.val / 2 % 4 :=
  (by decide +kernel : ∀ t : Fin grid0.N, win0_2.index t 0 = t.val / 8 ∧ win0_2.index t 1 = 0 ∧ win0_2.index t 2 = t.val / 2 % 4)
theorem idx3 : ∀ t : Fin cfg0.N, win0_3.index t 0 = t.val / 8 ∧ win0_3.index t 1 = t.val % 2 ∧ win0_3.index t 2 = t.val / 2 % 4 :=
  (by decide +kernel : ∀ t : Fin grid0.N, win0_3.index t 0 = t.val / 8 ∧ win0_3.index t 1 = t.val % 2 ∧ win0_3.index t 2 = t.val / 2 % 4)

theorem lt_N (t : Fin cfg0.N) : t.val < 64 := lt_of_lt_of_eq t.isLt (by decide +kernel : grid0.N = 64)

variable (m : (ℓ : Loc nD τ sig) → Buf (Elt Ideal) ℓ) (c : Dev nD)

/-! ## The blocks a point reads -/

theorem blk1 (t : Fin cfg0.N) (k : Fin 4352) (d : Fin 256) :
    (iblk m c 1 t : Vec Ideal S1x4352x256 .bf16) (ix3 0 k d)
      = (V m c main_v24 : Vec Ideal S8x4352x1024 .bf16) (ix3 ⟨t.val / 8, by have := lt_N t; omega⟩ k ⟨256 * (t.val / 2 % 4) + d.val, by omega⟩) := by
  obtain ⟨e0, e1, e2⟩ := idx1 t
  unfold iblk
  rw [View.read_apply]
  show V m c main_v24 _ = V m c main_v24 _
  congr 1
  funext a
  apply Fin.ext
  match a with
  | ⟨0, _⟩ => show win0_1.index t 0 * 1 + 1 * 0 = t.val / 8; rw [e0]; omega
  | ⟨1, _⟩ => show win0_1.index t 1 * 4352 + 1 * k.val = k.val; rw [e1]; omega
  | ⟨2, _⟩ => show win0_1.index t 2 * 256 + 1 * d.val = 256 * (t.val / 2 % 4) + d.val; rw [e2]; omega

theorem blk2 (t : Fin cfg0.N) (k : Fin 4352) (d : Fin 256) :
    (iblk m c 2 t : Vec Ideal S1x4352x256 .bf16) (ix3 0 k d)
      = (V m c main_v32 : Vec Ideal S8x4352x1024 .bf16) (ix3 ⟨t.val / 8, by have := lt_N t; omega⟩ k ⟨256 * (t.val / 2 % 4) + d.val, by omega⟩) := by
  obtain ⟨e0, e1, e2⟩ := idx2 t
  unfold iblk
  rw [View.read_apply]
  show V m c main_v32 _ = V m c main_v32 _
  congr 1
  funext a
  apply Fin.ext
  match a with
  | ⟨0, _⟩ => show win0_2.index t 0 * 1 + 1 * 0 = t.val / 8; rw [e0]; omega
  | ⟨1, _⟩ => show win0_2.index t 1 * 4352 + 1 * k.val = k.val; rw [e1]; omega
  | ⟨2, _⟩ => show win0_2.index t 2 * 256 + 1 * d.val = 256 * (t.val / 2 % 4) + d.val; rw [e2]; omega

theorem blk0 (t : Fin cfg0.N) (r : Fin 2048) (d : Fin 256) :
    (X0_0 m c t : Vec Ideal S1x2048x256 .bf16) (ix3 0 r d)
      = (V m c main_v12 : Vec Ideal S8x4352x1024 .bf16) (ix3 ⟨t.val / 8, by have := lt_N t; omega⟩ ⟨2048 * (t.val % 2) + r.val, by omega⟩
          ⟨256 * (t.val / 2 % 4) + d.val, by omega⟩) := by
  obtain ⟨e0, e1, e2⟩ := idx0 t
  unfold X0_0 Pipeline.Window.fill
  rw [dif_pos (moved0_0 t (ix3 0 r d))]
  unfold iblk
  rw [View.read_apply]
  show V m c main_v12 _ = V m c main_v12 _
  congr 1
  funext a
  apply Fin.ext
  match a with
  | ⟨0, _⟩ => show win0_0.index t 0 * 1 + 1 * 0 = t.val / 8; rw [e0]; omega
  | ⟨1, _⟩ => show win0_0.index t 1 * 2048 + 1 * r.val = 2048 * (t.val % 2) + r.val; rw [e1]; omega
  | ⟨2, _⟩ => show win0_0.index t 2 * 256 + 1 * d.val = 256 * (t.val / 2 % 4) + d.val; rw [e2]; omega

/-! ## The result array -/

/-- The point that stores element `(b, s, l)`. -/
def pt (b : Fin 8) (s : Fin 4096) (l : Fin 512) : Fin cfg0.N :=
  ⟨8 * b.val + 2 * (l.val / 128) + s.val / 2048, by have e : cfg0.N = 64 := by decide +kernel
                                                    rw [e]; omega⟩

theorem arr_apply (b : Fin 8) (s : Fin 4096) (l : Fin 512) :
    ((dats m 0 c).arrAt 3 cfg0.N : Vec Ideal S8x4096x512 .bf16) (ix3 b s l)
      = k0_pay56 (acc0 (X0_0 m c (pt b s l)) (iblk m c 1 (pt b s l)) (iblk m c 2 (pt b s l)))
          (acc1 (X0_0 m c (pt b s l)) (iblk m c 1 (pt b s l)) (iblk m c 2 (pt b s l)))
          (ix3 0 ⟨s.val % 2048, by omega⟩ ⟨l.val % 128, by omega⟩) := by
  have h := congrFun (Value.blocks3 m c (pt b s l) (flush0_3 _)) (ix3 0 ⟨s.val % 2048, by omega⟩ ⟨l.val % 128, by omega⟩)
  rw [Value.flushed3_A, out_eq, View.read_apply] at h
  refine Eq.trans ?_ h
  obtain ⟨e0, e1, e2⟩ := idx3 (pt b s l)
  congr 1
  funext a
  apply Fin.ext
  match a with
  | ⟨0, _⟩ => show b.val = win0_3.index (pt b s l) 0 * 1 + 1 * 0; rw [e0]; show _ = (8 * b.val + 2 * (l.val / 128) + s.val / 2048) / 8 * 1 + 1 * 0; omega
  | ⟨1, _⟩ => show s.val = win0_3.index (pt b s l) 1 * 2048 + 1 * (s.val % 2048); rw [e1]; show _ = (8 * b.val + 2 * (l.val / 128) + s.val / 2048) % 2 * 2048 + 1 * (s.val % 2048); omega
  | ⟨2, _⟩ => show l.val = win0_3.index (pt b s l) 2 * 128 + 1 * (l.val % 128); rw [e2]; show _ = (8 * b.val + 2 * (l.val / 128) + s.val / 2048) / 2 % 4 * 128 + 1 * (l.val % 128); omega

end Cert.KernelIdeal.Attn

end
-- ==== Proof.AttnKernel.lean ====
/- The attention call's result, as a softmax over all 4352 keys.

   With real queries and keys, element `(b, s, 64 h + j)` of the result is the softmax-weighted sum of the values of head
   `h` and lane `j`, with scores `(qn · kn + qr · kr) / √96`. The keys are numbered as the kernel packs them: the 4096
   latent ones first, then the 256 of the context. -/
module

public import proofs.«01_k».proof.Proof.AttnArray

@[expose] public section

set_option maxRecDepth 16384

noncomputable section

namespace Softmax

/-- The softmax-weighted sum of `v` with scores `s`. -/
def wsum {n : ℕ} (s : Fin n → ℝ) (v : Fin n → EReal) : EReal :=
  (∑ k, ((Real.exp (s k) : ℝ) : EReal) * v k) * (((∑ k, Real.exp (s k))⁻¹ : ℝ) : EReal)

/-- It does not depend on the order of the keys. -/
theorem wsum_perm {n : ℕ} (e : Fin n ≃ Fin n) (s : Fin n → ℝ) (v : Fin n → EReal) :
    wsum (fun k => s (e k)) (fun k => v (e k)) = wsum s v := by
  unfold wsum
  rw [Equiv.sum_comp e fun k => ((Real.exp (s k) : ℝ) : EReal) * v k, Equiv.sum_comp e fun k => Real.exp (s k)]

end Softmax

namespace Cert.KernelIdeal.Attn

open Cert.KernelIdeal Cert.KernelIdeal.Gen Idealize.ShloMosaic Idealize.ShloMosaic.TcCoe Idealize.SL.Sem Softmax

theorem weighted_eq (σ : Fin 4352 → ℝ) (s : Fin 4352 → ℝ) (v : Fin 4352 → EReal) (h : ∀ k, s k = σ k / Real.log 2) :
    weighted s v = wsum σ v := by
  unfold weighted wsum
  simp only [h, p2_div_log]

variable (m : (ℓ : Loc nD τ sig) → Buf (Elt Ideal) ℓ) (c : Dev nD)

/-- The first part of key `t` at head `h`, lane `d`: the latent's or the context's. -/
def knAll (b : Fin 8) (t : Fin 4352) (h : Fin 8) (d : Fin 64) : EReal :=
  if ht : t.val < 4096 then kn m c (ix4 b ⟨t, ht⟩ h d) else knc m c (ix4 b ⟨t.val - 4096, by omega⟩ h d)
/-- The rotary part of key `t` at lane `d`. -/
def krAll (b : Fin 8) (t : Fin 4352) (d : Fin 32) : EReal :=
  if ht : t.val < 4096 then kr m c (ix3 b ⟨t, ht⟩ d) else krc m c (ix3 b ⟨t.val - 4096, by omega⟩ d)

/-- The scaled score of query `s` against key `t`. -/
def σ (b : Fin 8) (s : Fin 4096) (h : Fin 8) (t : Fin 4352) : ℝ :=
  ((∑ d : Fin 64, (qn m c (ix4 b s h d)).toReal * (knAll m c b t h d).toReal)
    + ∑ d : Fin 32, (qr m c (ix4 b s h d)).toReal * (krAll m c b t d).toReal) / Real.sqrt 96

/-! ## The packed arrays, slot by slot -/

section Slots
variable (b : Fin 8) (h : Fin 8)

theorem qPack_nope (s : Fin 4096) (d : Fin 64) (l : Fin 1024) (hl : l.val = 128 * h.val + d.val) :
    qPack m c b s l = qn m c (ix4 b s h d) := by
  unfold qPack
  have h1 : l.val % 128 = d.val := by omega
  have h2 : l.val / 128 = h.val := by omega
  rw [dif_pos (by omega)]
  simp only [h1, h2]
theorem qPack_rope (s : Fin 4096) (d : Fin 32) (l : Fin 1024) (hl : l.val = 128 * h.val + (64 + d.val)) :
    qPack m c b s l = qr m c (ix4 b s h d) := by
  unfold qPack
  have h1 : l.val % 128 - 64 = d.val := by omega
  have h2 : l.val / 128 = h.val := by omega
  rw [dif_neg (by omega), dif_pos (by omega)]
  simp only [h1, h2]
theorem qPack_pad (s : Fin 4096) (d : Fin 32) (l : Fin 1024) (hl : l.val = 128 * h.val + (96 + d.val)) :
    qPack m c b s l = 0 := by
  unfold qPack
  rw [dif_neg (by omega), dif_neg (by omega)]
theorem kPack_nope (t : Fin 4352) (d : Fin 64) (l : Fin 1024) (hl : l.val = 128 * h.val + d.val) :
    kPack m c b t l = knAll m c b t h d := by
  unfold kPack knAll
  have h1 : l.val % 128 = d.val := by omega
  have h2 : l.val / 128 = h.val := by omega
  rw [dif_pos (by omega)]
  simp only [h1, h2]
theorem kPack_rope (t : Fin 4352) (d : Fin 32) (l : Fin 1024) (hl : l.val = 128 * h.val + (64 + d.val)) :
    kPack m c b t l = krAll m c b t d := by
  unfold kPack krAll
  have h1 : l.val % 128 - 64 = d.val := by omega
  rw [dif_neg (by omega), dif_pos (by omega)]
  simp only [h1]
theorem kPack_pad (t : Fin 4352) (d : Fin 32) (l : Fin 1024) (hl : l.val = 128 * h.val + (96 + d.val)) :
    kPack m c b t l = 0 := by
  unfold kPack
  rw [dif_neg (by omega), dif_neg (by omega)]

end Slots

/-- A slot's 128 products are the two parts' products. -/
theorem slot_sum (b : Fin 8) (s : Fin 4096) (h : Fin 8) (t : Fin 4352) :
    (∑ d : Fin 128, (qPack m c b s ⟨128 * h + d, by omega⟩).toReal * (1 / scale) * (kPack m c b t ⟨128 * h + d, by omega⟩).toReal)
      = σ m c b s h t / Real.log 2 := by
  have e1 : ∀ d : Fin 64, (qPack m c b s ⟨128 * h + d, by omega⟩).toReal * (1 / scale) * (kPack m c b t ⟨128 * h + d, by omega⟩).toReal
      = (qn m c (ix4 b s h d)).toReal * (knAll m c b t h d).toReal * (1 / scale) := fun d => by
    rw [qPack_nope m c b h s d _ rfl, kPack_nope m c b h t d _ rfl]; ring
  have e2 : ∀ d : Fin 32, (qPack m c b s ⟨128 * h + (64 + d), by omega⟩).toReal * (1 / scale) * (kPack m c b t ⟨128 * h + (64 + d), by omega⟩).toReal
      = (qr m c (ix4 b s h d)).toReal * (krAll m c b t d).toReal * (1 / scale) := fun d => by
    rw [qPack_rope m c b h s d _ rfl, kPack_rope m c b h t d _ rfl]; ring
  have e3 : ∀ d : Fin 32, (qPack m c b s ⟨128 * h + (96 + d), by omega⟩).toReal * (1 / scale) * (kPack m c b t ⟨128 * h + (96 + d), by omega⟩).toReal
      = 0 := fun d => by
    rw [qPack_pad m c b h s d _ rfl, kPack_pad m c b h t d _ rfl]; simp
  rw [Fin.sum_univ_two_halves 96 32 rfl, Fin.sum_univ_two_halves 64 32 rfl]
  rw [Finset.sum_congr rfl fun d _ => e1 d, Finset.sum_congr rfl fun d _ => e2 d, Finset.sum_congr rfl fun d _ => e3 d]
  rw [Finset.sum_const_zero, add_zero, ← Finset.sum_mul, ← Finset.sum_mul, ← add_mul]
  unfold σ scale
  rw [div_div, mul_one_div]

/-! ## The result -/

variable (hqn : IsReal (qn m c)) (hqr : IsReal (qr m c)) (hkn : IsReal (kn m c)) (hkr : IsReal (kr m c))
  (hknc : IsReal (knc m c)) (hkrc : IsReal (krc m c))

include hqn hqr in
theorem qPack_real (b : Fin 8) (s : Fin 4096) (l : Fin 1024) : qPack m c b s l = (((qPack m c b s l).toReal : ℝ) : EReal) := by
  unfold qPack
  split
  · exact hqn _
  · split
    · exact hqr _
    · simp

include hkn hkr hknc hkrc in
theorem kPack_real (b : Fin 8) (t : Fin 4352) (l : Fin 1024) : kPack m c b t l = (((kPack m c b t l).toReal : ℝ) : EReal) := by
  unfold kPack
  split
  · split
    · exact hkn _
    · exact hknc _
  · split
    · split
      · exact hkr _
      · exact hkrc _
    · simp

include hqn hqr hkn hkr hknc hkrc in
theorem kernel_apply (b : Fin 8) (s : Fin 4096) (l : Fin 512) :
    ((dats m 0 c).arrAt 3 cfg0.N : Vec Ideal S8x4096x512 .bf16) (ix3 b s l)
      = wsum (σ m c b s ⟨l.val / 64, by omega⟩) (fun t => vAll m c b t ⟨l.val / 64, by omega⟩ ⟨l.val % 64, by omega⟩) := by
  have hp : (pt b s l).val = 8 * b.val + 2 * (l.val / 128) + s.val / 2048 := rfl
  have hb : (⟨(pt b s l).val / 8, by have := lt_N (pt b s l); omega⟩ : Fin 8) = b := Fin.ext (by show (pt b s l).val / 8 = b.val; omega)
  rw [arr_apply]
  rw [block_apply (X0_0 m c (pt b s l)) (iblk m c 1 (pt b s l)) (iblk m c 2 (pt b s l))
    (fun r d => (qPack m c b ⟨2048 * ((pt b s l).val % 2) + r.val, by omega⟩ ⟨256 * ((pt b s l).val / 2 % 4) + d.val, by omega⟩).toReal * (1 / scale))
    (fun r d => by rw [blk0, q_apply m c _ ⟨2048 * ((pt b s l).val % 2) + r.val, by omega⟩, hb, qPack_real m c hqn hqr, Ideal.div_coe scale_ne, ← EReal.coe_mul]
                   simp only [EReal.toReal_coe])
    (fun k d => (kPack m c b k ⟨256 * ((pt b s l).val / 2 % 4) + d.val, by omega⟩).toReal)
    (fun k d => by rw [blk1, k_apply, hb]; exact kPack_real m c hkn hkr hknc hkrc _ _ _)
    (fun k d hd => by rw [blk2, v_apply]; exact dif_neg (by show ¬(256 * ((pt b s l).val / 2 % 4) + d.val) % 128 < 64; omega))]
  have hv : ∀ k : Fin 4352, (iblk m c 2 (pt b s l) : Vec Ideal S1x4352x256 .bf16) (ix3 0 k ⟨128 * (l.val % 128 / 64) + l.val % 128 % 64, by omega⟩)
      = vAll m c b k ⟨l.val / 64, by omega⟩ ⟨l.val % 64, by omega⟩ := fun k => by
    rw [blk2, v_apply, hb, dif_pos (by show (256 * ((pt b s l).val / 2 % 4) + (128 * (l.val % 128 / 64) + l.val % 128 % 64)) % 128 < 64; omega)]
    have e1 : (256 * ((pt b s l).val / 2 % 4) + (128 * (l.val % 128 / 64) + l.val % 128 % 64)) / 128 = l.val / 64 := by omega
    have e2 : (256 * ((pt b s l).val / 2 % 4) + (128 * (l.val % 128 / 64) + l.val % 128 % 64)) % 128 = l.val % 64 := by omega
    simp only [e1, e2]
  refine (congrArg (weighted _) (funext hv)).trans (weighted_eq _ _ _ fun t => ?_)
  rw [← slot_sum]
  unfold score
  refine Finset.sum_congr rfl fun d _ => ?_
  have e1 : 2048 * ((pt b s l).val % 2) + s.val % 2048 = s.val := by omega
  have e2 : 256 * ((pt b s l).val / 2 % 4) + (128 * (l.val % 128 / 64) + d.val) = 128 * (l.val / 64) + d.val := by omega
  simp only [e1, e2]

end Cert.KernelIdeal.Attn

end
-- ==== Proof.AttnRef.lean ====
/- What the reference computes.

   Its result at `(b, q, 64 h + j)` is the softmax-weighted sum of the values of head `h` and lane `j` over all keys,
   the context's 256 first, then the 4096 latent ones. -/
module

public import proofs.«01_k».proof.Proof.Gen.ReferenceIdeal.Read
public import proofs.«01_k».proof.Proof.AttnKernel
public import Idealize.ShloMosaic.Lib.Pointwise

@[expose] public section

set_option maxRecDepth 16384

noncomputable section

namespace Cert.ReferenceIdeal.Attn

open Cert.ReferenceIdeal Cert.ReferenceIdeal.Gen Cert.ReferenceIdeal.Read Idealize.ShloMosaic Idealize.ShloMosaic.TcCoe
open Idealize.SL.Sem Softmax
open Cert.KernelIdeal.Attn (ofBits_96 ofBits_negInf IsReal dot_real)

variable (x0 : Vec Ideal S8x4096x8x64 .f32) (x1 : Vec Ideal S8x4096x8x32 .f32) (x4 : Vec Ideal S8x4096x8x64 .f32)
  (x5 : Vec Ideal S8x4096x32 .f32) (x6 : Vec Ideal S8x4096x8x64 .f32) (x7 : Vec Ideal S8x256x8x64 .f32)
  (x8 : Vec Ideal S8x256x32 .f32) (x9 : Vec Ideal S8x256x8x64 .f32)

/-! ## The joined keys and values -/

/-- Row `k` of the context's and the latent's rows together, at head `h` and lane `d`. -/
def joined (lat : Vec Ideal S8x4096x8x64 .f32) (ctx : Vec Ideal S8x256x8x64 .f32) (b : Fin 8) (k : Fin 4352) (h : Fin 8) (d : Fin 64) : EReal :=
  if hk : k.val < 256 then ctx (ix4 b ⟨k, hk⟩ h d) else lat (ix4 b ⟨k.val - 256, by omega⟩ h d)
/-- The same for the rotary part, which the heads share. -/
def joinedR (lat : Vec Ideal S8x4096x32 .f32) (ctx : Vec Ideal S8x256x32 .f32) (b : Fin 8) (k : Fin 4352) (d : Fin 32) : EReal :=
  if hk : k.val < 256 then ctx (ix3 b ⟨k, hk⟩ d) else lat (ix3 b ⟨k.val - 256, by omega⟩ d)

theorem kn_apply (b : Fin 8) (k : Fin 4352) (h : Fin 8) (d : Fin 64) : val_main_v0 x4 x7 (ix4 b k h d) = joined x4 x7 b k h d := by
  unfold val_main_v0 joined
  pointwise
theorem kr_apply (b : Fin 8) (k : Fin 4352) (d : Fin 32) : val_main_v1 x5 x8 (ix3 b k d) = joinedR x5 x8 b k d := by
  unfold val_main_v1 joinedR
  pointwise
theorem v_apply (b : Fin 8) (k : Fin 4352) (h : Fin 8) (d : Fin 64) : val_main_v2 x6 x9 (ix4 b k h d) = joined x6 x9 b k h d := by
  unfold val_main_v2 joined
  pointwise

/-! ## The scores -/

theorem s_apply (b h : Fin 8) (q : Fin 4096) (k : Fin 4352) :
    val_main_v9 x0 x1 x4 x5 x7 x8 (ix4 b h q k)
      = Ideal.div ((∑ d : Fin 64, x0 (ix4 b q h d) * val_main_v0 x4 x7 (ix4 b k h d))
          + ∑ d : Fin 32, val_main_v1 x5 x8 (ix3 b k d) * x1 (ix4 b q h d)) (Ideal.sqrt (Ideal.ofBits FTy.f32 0x42C00000#32)) := by
  unfold val_main_v9 val_main_v8 val_main_v7 val_main_cst val_main_v6 val_main_v5 val_main_v4 val_main_v3
  pointwise

theorem sqrt_96 : Ideal.sqrt ((96 : ℝ) : EReal) = ((Real.sqrt 96 : ℝ) : EReal) := by
  rw [Ideal.sqrt_coe, if_neg (by norm_num)]

/-- The scaled score of query `q` against key `k`. -/
def score (b h : Fin 8) (q : Fin 4096) (k : Fin 4352) : ℝ :=
  ((∑ d : Fin 64, (x0 (ix4 b q h d)).toReal * (joined x4 x7 b k h d).toReal)
    + ∑ d : Fin 32, (x1 (ix4 b q h d)).toReal * (joinedR x5 x8 b k d).toReal) / Real.sqrt 96

section Real
variable (h0 : IsReal x0) (h1 : IsReal x1) (h4 : IsReal x4) (h5 : IsReal x5) (h7 : IsReal x7) (h8 : IsReal x8)

include h4 h7 in
theorem joined_real (b : Fin 8) (k : Fin 4352) (h : Fin 8) (d : Fin 64) :
    joined x4 x7 b k h d = (((joined x4 x7 b k h d).toReal : ℝ) : EReal) := by
  unfold joined
  split
  · exact h7 _
  · exact h4 _
include h5 h8 in
theorem joinedR_real (b : Fin 8) (k : Fin 4352) (d : Fin 32) :
    joinedR x5 x8 b k d = (((joinedR x5 x8 b k d).toReal : ℝ) : EReal) := by
  unfold joinedR
  split
  · exact h8 _
  · exact h5 _

include h0 h1 h4 h5 h7 h8 in
theorem s_real (b h : Fin 8) (q : Fin 4096) (k : Fin 4352) :
    val_main_v9 x0 x1 x4 x5 x7 x8 (ix4 b h q k) = ((score x0 x1 x4 x5 x7 x8 b h q k : ℝ) : EReal) := by
  rw [s_apply]
  rw [dot_real (fun d => x0 (ix4 b q h d)) (fun d => val_main_v0 x4 x7 (ix4 b k h d)) _ (fun d => (joined x4 x7 b k h d).toReal) (fun d => h0 _)
    (fun d => by rw [kn_apply]; exact joined_real x4 x7 h4 h7 b k h d)]
  rw [dot_real (fun d => val_main_v1 x5 x8 (ix3 b k d)) (fun d => x1 (ix4 b q h d)) (fun d => (joinedR x5 x8 b k d).toReal) _
    (fun d => by rw [kr_apply]; exact joinedR_real x5 x8 h5 h8 b k d) (fun d => h1 _)]
  rw [ofBits_96, sqrt_96, Ideal.div_coe (Real.sqrt_pos.2 (by norm_num)).ne', ← EReal.coe_add, ← EReal.coe_mul, mul_one_div]
  unfold score
  simp only [mul_comm]

end Real

/-! ## The largest score of a row -/

theorem max_apply (y : (⟨S8x8x4096x4352, .f32⟩ : BufTy).Contents (Elt Ideal)) (b h : Fin 8) (q : Fin 4096) :
    Host.reduce FloatOps.maximumf y (constant (F := Ideal) S_ .f32 0xFF800000#32) reducesTo_S8x8x4096x4352_S8x8x4096_d3 h_S_ (ix3 b h q)
      = Finset.univ.fold max (Ideal.ofBits FTy.f32 0xFF800000#32) (fun k : Fin 4352 => y (ix4 b h q k)) := by
  pointwise

theorem max_real (y : (⟨S8x8x4096x4352, .f32⟩ : BufTy).Contents (Elt Ideal)) (b h : Fin 8) (q : Fin 4096) (s : Fin 4352 → ℝ)
    (hy : ∀ k, y (ix4 b h q k) = ((s k : ℝ) : EReal)) :
    ∃ x : ℝ, Host.reduce FloatOps.maximumf y (constant (F := Ideal) S_ .f32 0xFF800000#32) reducesTo_S8x8x4096x4352_S8x8x4096_d3 h_S_ (ix3 b h q)
      = (x : EReal) := by
  rw [max_apply, ofBits_negInf, funext hy]
  exact fold_max_real (n := 4351) s

theorem bot_max (i : S8x8x4096.Idx) (w : EReal) : FloatOps.maximumf (F := Ideal) (φ := .f32) (val_main_v11 (F := Ideal) i) w = w := by
  have e : val_main_v11 (F := Ideal) i = ⊥ := by
    rw [val_main_v11_apply, val_main_cst_1_apply]; exact ofBits_negInf
  rw [e]
  exact max_eq_right (α := EReal) bot_le

theorem m_real (b h : Fin 8) (q : Fin 4096) (s : Fin 4352 → ℝ)
    (hy : ∀ k, val_main_v9 x0 x1 x4 x5 x7 x8 (ix4 b h q k) = ((s k : ℝ) : EReal)) :
    ∃ x : ℝ, val_main_v12 x0 x1 x4 x5 x7 x8 (ix3 b h q) = (x : EReal) := by
  rw [val_main_v12_apply, bot_max]
  unfold val_main_v10 val_main_cst_0
  generalize val_main_v9 x0 x1 x4 x5 x7 x8 = y at hy ⊢
  exact max_real y b h q s hy

/-! ## The result -/

theorem o_apply (b : Fin 8) (q : Fin 4096) (l : Fin 512) :
    val_main_v24 x0 x1 x4 x5 x6 x7 x8 x9 (ix3 b q l)
      = ∑ k : Fin 4352, val_main_v2 x6 x9 (ix4 b k ⟨l.val / 64, by omega⟩ ⟨l.val % 64, by omega⟩) *
          Ideal.div (Ideal.exp (val_main_v9 x0 x1 x4 x5 x7 x8 (ix4 b ⟨l.val / 64, by omega⟩ q k) - val_main_v12 x0 x1 x4 x5 x7 x8 (ix3 b ⟨l.val / 64, by omega⟩ q)))
            (val_main_cst_2 (F := Ideal) (Shape.Idx.first Gen.h_S_)
              + ∑ j : Fin 4352, Ideal.exp (val_main_v9 x0 x1 x4 x5 x7 x8 (ix4 b ⟨l.val / 64, by omega⟩ q j) - val_main_v12 x0 x1 x4 x5 x7 x8 (ix3 b ⟨l.val / 64, by omega⟩ q))) := by
  unfold val_main_v24 val_main_v23 val_main_v22 val_main_v21 val_main_v20 val_main_v19 val_main_v18 val_main_v17 val_main_v16
    val_main_v15 val_main_v14 val_main_v13
  pointwise

theorem softmax_row (s : Fin 4352 → ℝ) (v : Fin 4352 → EReal) (x : ℝ) (y : Fin 4352 → EReal) (hy : ∀ k, y k = ((s k : ℝ) : EReal))
    (μ z : EReal) (hμ : μ = (x : EReal)) (hz : z = 0) :
    ∑ k, v k * Ideal.div (Ideal.exp (y k - μ)) (z + ∑ j, Ideal.exp (y j - μ)) = wsum s v := by
  obtain rfl : y = fun k => ((s k : ℝ) : EReal) := funext hy
  rw [hμ, hz, zero_add, wsum, ← softmax_sum (n := 4351) s v x]
  exact Finset.sum_congr rfl fun k _ => mul_comm _ _

theorem cst_zero (i : S_.Idx) : val_main_cst_2 (F := Ideal) i = 0 := by
  rw [val_main_cst_2_apply]
  exact Ideal.ofBits_zero _

theorem ref_apply (h0 : IsReal x0) (h1 : IsReal x1) (h4 : IsReal x4) (h5 : IsReal x5) (h7 : IsReal x7) (h8 : IsReal x8)
    (b : Fin 8) (q : Fin 4096) (l : Fin 512) :
    val_main_v24 x0 x1 x4 x5 x6 x7 x8 x9 (ix3 b q l)
      = wsum (score x0 x1 x4 x5 x7 x8 b ⟨l.val / 64, by omega⟩ q)
          (fun k => joined x6 x9 b k ⟨l.val / 64, by omega⟩ ⟨l.val % 64, by omega⟩) := by
  have hs := s_real x0 x1 x4 x5 x7 x8 h0 h1 h4 h5 h7 h8 b ⟨l.val / 64, by omega⟩ q
  obtain ⟨x, hx⟩ := m_real x0 x1 x4 x5 x7 x8 b ⟨l.val / 64, by omega⟩ q _ hs
  rw [o_apply]
  simp only [v_apply]
  exact softmax_row _ _ x _ hs _ _ hx (cst_zero _)

end Cert.ReferenceIdeal.Attn

end
-- ==== Proof.AttnEq.lean ====
/- The kernel's result is the reference's: the same softmax-weighted sum, the keys taken in another order. -/
module

public import proofs.«01_k».proof.Proof.AttnRef

@[expose] public section

set_option maxRecDepth 16384

noncomputable section

namespace Cert.KernelIdeal.Attn

open Cert.KernelIdeal Cert.KernelIdeal.Gen Idealize.ShloMosaic Idealize.ShloMosaic.TcCoe Idealize.SL.Sem Softmax

/-- The kernel's number of the reference's key `k`: the context's 256 rows come last in the kernel, first in the reference. -/
def order : Fin 4352 ≃ Fin 4352 where
  toFun k := if k.val < 256 then ⟨(k.val + 4096) % 4352, by omega⟩ else ⟨k.val - 256, by omega⟩
  invFun k := if k.val < 4096 then ⟨(k.val + 256) % 4352, by omega⟩ else ⟨k.val - 4096, by omega⟩
  left_inv k := by
    apply Fin.ext
    by_cases h : k.val < 256
    · have h2 : ¬ (k.val + 4096) % 4352 < 4096 := by omega
      simp only [h, h2, if_true, if_false]; omega
    · have h2 : k.val - 256 < 4096 := by omega
      simp only [h, h2, if_true, if_false]; omega
  right_inv k := by
    apply Fin.ext
    by_cases h : k.val < 4096
    · have h2 : ¬ (k.val + 256) % 4352 < 256 := by omega
      simp only [h, h2, if_true, if_false]; omega
    · have h2 : k.val - 4096 < 256 := by omega
      simp only [h, h2, if_true, if_false]; omega

theorem order_lt {k : Fin 4352} (h : k.val < 256) : (order k).val = k.val + 4096 := by
  show (if k.val < 256 then (⟨(k.val + 4096) % 4352, by omega⟩ : Fin 4352) else ⟨k.val - 256, by omega⟩).val = _
  rw [if_pos h]; show (k.val + 4096) % 4352 = _; omega
theorem order_ge {k : Fin 4352} (h : ¬ k.val < 256) : (order k).val = k.val - 256 := by
  show (if k.val < 256 then (⟨(k.val + 4096) % 4352, by omega⟩ : Fin 4352) else ⟨k.val - 256, by omega⟩).val = _
  rw [if_neg h]

variable (m : (ℓ : Loc nD τ sig) → Buf (Elt Ideal) ℓ) (c : Dev nD)

theorem kn_order (b : Fin 8) (k : Fin 4352) (h : Fin 8) (d : Fin 64) :
    Cert.ReferenceIdeal.Attn.joined (kn m c) (knc m c) b k h d = knAll m c b (order k) h d := by
  unfold Cert.ReferenceIdeal.Attn.joined knAll
  by_cases hk : k.val < 256
  · have e := order_lt hk
    rw [dif_pos hk, dif_neg (by omega)]
    simp only [e, Nat.add_sub_cancel]
  · have e := order_ge hk
    rw [dif_neg hk, dif_pos (by omega)]
    simp only [e]
theorem kr_order (b : Fin 8) (k : Fin 4352) (d : Fin 32) :
    Cert.ReferenceIdeal.Attn.joinedR (kr m c) (krc m c) b k d = krAll m c b (order k) d := by
  unfold Cert.ReferenceIdeal.Attn.joinedR krAll
  by_cases hk : k.val < 256
  · have e := order_lt hk
    rw [dif_pos hk, dif_neg (by omega)]
    simp only [e, Nat.add_sub_cancel]
  · have e := order_ge hk
    rw [dif_neg hk, dif_pos (by omega)]
    simp only [e]
theorem v_order (b : Fin 8) (k : Fin 4352) (h : Fin 8) (d : Fin 64) :
    Cert.ReferenceIdeal.Attn.joined (vl m c) (vc m c) b k h d = vAll m c b (order k) h d := by
  unfold Cert.ReferenceIdeal.Attn.joined vAll
  by_cases hk : k.val < 256
  · have e := order_lt hk
    rw [dif_pos hk, dif_neg (by omega)]
    simp only [e, Nat.add_sub_cancel]
  · have e := order_ge hk
    rw [dif_neg hk, dif_pos (by omega)]
    simp only [e]

theorem score_order (b : Fin 8) (s : Fin 4096) (h : Fin 8) (k : Fin 4352) :
    Cert.ReferenceIdeal.Attn.score (qn m c) (qr m c) (kn m c) (kr m c) (knc m c) (krc m c) b h s k = σ m c b s h (order k) := by
  unfold Cert.ReferenceIdeal.Attn.score σ
  simp only [kn_order, kr_order]

/-- The two results are one array. -/
theorem result_eq (hr : IsReal (qn m c) ∧ IsReal (qr m c) ∧ IsReal (kn m c) ∧ IsReal (kr m c) ∧ IsReal (knc m c) ∧ IsReal (krc m c)) :
    ((dats m 0 c).arrAt 3 cfg0.N : Vec Ideal S8x4096x512 .bf16)
      = Cert.ReferenceIdeal.Read.val_main_v24 (qn m c) (qr m c) (kn m c) (kr m c) (vl m c) (knc m c) (krc m c) (vc m c) := by
  obtain ⟨h0, h1, h4, h5, h7, h8⟩ := hr
  funext i
  obtain ⟨b, q, l, rfl⟩ : ∃ (b : Fin 8) (q : Fin 4096) (l : Fin 512), i = ix3 b q l := ⟨i 0, i 1, i 2, eq_ix3 i⟩
  rw [kernel_apply m c h0 h1 h4 h5 h7 h8, Cert.ReferenceIdeal.Attn.ref_apply _ _ _ _ _ _ _ _ h0 h1 h4 h5 h7 h8]
  rw [← wsum_perm order]
  exact congrArg₂ wsum (funext fun k => (score_order m c b q _ k).symm) (funext fun k => (v_order m c b k _ _).symm)

end Cert.KernelIdeal.Attn

end
-- ==== Proof.AttnFinite.lean ====
/- What the precondition says: every query and every key is a real number. -/
module

public import proofs.«01_k».proof.Defs
public import proofs.«01_k».proof.Proof.Gen.Pre_finite
public import proofs.«01_k».proof.Proof.AttnHost
public import Idealize.ShloMosaic.Lib.ReduceAll

@[expose] public section

set_option maxRecDepth 16384

noncomputable section

namespace Cert.KernelIdeal.Attn

open Cert.KernelIdeal Cert.KernelIdeal.Gen Idealize.ShloMosaic Idealize.ShloMosaic.TcCoe Idealize.SL.Sem

/-- A value whose magnitude is less than infinity is a real number. -/
theorem real_of_lt (x : EReal) (h : Ideal.cmp .olt (max x (-x)) (Ideal.ofBits .f32 0x7F800000#32) = 1#1) :
    x = ((x.toReal : ℝ) : EReal) := by
  have htop : Ideal.ofBits .f32 0x7F800000#32 = ⊤ := by simp [Ideal.ofBits, Ideal.ieee]
  rw [htop] at h
  have hlt : max x (-x) < ⊤ := by
    by_contra hn
    simp [Ideal.cmp, hn] at h
  rw [max_lt_iff] at hlt
  refine (EReal.coe_toReal hlt.1.ne ?_).symm
  rintro rfl
  simp at hlt

/-- "All of `|x| < ∞`", as it is printed. -/
theorem real_of_all {S u t w : Shape} [Subsingleton t.Idx] {axes : List (Fin S.rank)} (x : FVec Ideal S .f32) (init : w.Idx → BitVec 1)
    (h : S.ReducesTo axes t) (hw : 0 < w.numel) (d : Fin u.rank → Fin S.rank) (hb : u.BroadcastsInDim S d) (j : t.Idx)
    (e : Host.reduce IntOp.andi (cmpf .olt (Host.absf x) (broadcastInDim S d hb (constant (F := Ideal) u .f32 0x7F800000#32))) init h hw j = 1#1) :
    IsReal x := fun i =>
  real_of_lt (x i) (Host.reduce_andi_all _ _ _ _ j e i)

variable (m : (ℓ : Loc nD τ sig) → Buf (Elt Ideal) ℓ) (c : Dev nD)

theorem real_args (h : Pre_KernelIdeal_finite m) :
    IsReal (qn m c) ∧ IsReal (qr m c) ∧ IsReal (kn m c) ∧ IsReal (kr m c) ∧ IsReal (knc m c) ∧ IsReal (krc m c) := by
  have e := congrFun (h c) (fun a => a.elim0)
  unfold Cert.Pre_finite.fn Cert.Pre_finite.fn_part1 at e
  obtain ⟨e, h8⟩ := IntOp.andi_eq_one.1 e
  obtain ⟨e, h7⟩ := IntOp.andi_eq_one.1 e
  obtain ⟨e, h5⟩ := IntOp.andi_eq_one.1 e
  obtain ⟨e, h4⟩ := IntOp.andi_eq_one.1 e
  obtain ⟨h0, h1⟩ := IntOp.andi_eq_one.1 e
  haveI : Subsingleton Cert.Pre_finite.S_.Idx := ⟨fun _ _ => funext fun a => a.elim0⟩
  exact ⟨real_of_all _ _ _ _ _ _ _ h0, real_of_all _ _ _ _ _ _ _ h1, real_of_all _ _ _ _ _ _ _ h4, real_of_all _ _ _ _ _ _ _ h5,
    real_of_all _ _ _ _ _ _ _ h7, real_of_all _ _ _ _ _ _ _ h8⟩

end Cert.KernelIdeal.Attn

end
-- ==== Proof.MergeRow.lean ====
/- One token of a layer's merge and MLP, as a function of that token's rows.

   Both programs compute this function, row by row: the three branches' outputs are mixed through their gates, the mix is
   projected and added to the token, and the squared-ReLU MLP of the normalized token is added to that. In the last layer
   the result is normalized once more. -/
module

public import Idealize.ShloMosaic.Lib.Pointwise

@[expose] public section

noncomputable section

namespace Cert.MergeRow

open Idealize.ShloMosaic

/-- The width of a GLA head, as a float. -/
abbrev c128 : EReal := Ideal.ofBits FTy.f32 0x43000000#32
/-- The width of the model, as a float. -/
abbrev c1024 : EReal := Ideal.ofBits FTy.f32 0x44800000#32
/-- The number added to a mean square before its root is taken. -/
abbrev eps : EReal := Ideal.ofBits FTy.f32 0x358637BD#32

/-- A row over the root of its mean square. -/
def rms {n : Nat} (N : EReal) (x : Fin n → EReal) (l : Fin n) : EReal :=
  x l * Ideal.rsqrt (Ideal.div (∑ k, x k * x k) N + eps)

/-- The GLA branch's output: each head of 128 lanes normalized, scaled lane by lane, and gated. -/
def gla (o : Fin 512 → EReal) (on : Fin 128 → EReal) (s : Fin 512 → EReal) (l : Fin 512) : EReal :=
  rms c128 (fun k : Fin 128 => o ⟨128 * (l.val / 128) + k.val, by omega⟩) ⟨l.val % 128, by omega⟩ * on ⟨l.val % 128, by omega⟩ * s l

/-- The gated sum of the three branches' projections. -/
def mixed (g : Fin 3072 → EReal) (a b c : Fin 512 → EReal) (wa wb wc : Fin 512 → Fin 1024 → EReal) (j : Fin 1024) : EReal :=
  g ⟨j.val, by omega⟩ * (∑ k, a k * wa k j) + g ⟨1024 + j.val, by omega⟩ * (∑ k, b k * wb k j)
    + g ⟨2048 + j.val, by omega⟩ * (∑ k, c k * wc k j)

/-- A row plus the gated projection of another. -/
def step (x gate y : Fin 1024 → EReal) (w : Fin 1024 → Fin 1024 → EReal) (l : Fin 1024) : EReal :=
  x l + gate l * ∑ k, y k * w k l

/-- The MLP's input. -/
def ffIn (x g sc sh : Fin 1024 → EReal) (l : Fin 1024) : EReal := rms c1024 x l * g l * (1 + sc l) + sh l

/-- The squared-ReLU activation of hidden unit `j`. -/
def act (h : Fin 1024 → EReal) (w1 : Fin 1024 → Fin 4096 → EReal) (j : Fin 4096) : EReal :=
  max (∑ k, h k * w1 k j) 0 * max (∑ k, h k * w1 k j) 0

/-- The MLP's output. -/
def mlp (h : Fin 1024 → EReal) (w1 : Fin 1024 → Fin 4096 → EReal) (w2 : Fin 4096 → Fin 1024 → EReal) (l : Fin 1024) : EReal :=
  ∑ j, act h w1 j * w2 j l

/-- The token with the MLP's gated output added. -/
def after (x : Fin 1024 → EReal) (mod : Fin 6 → Fin 1024 → EReal) (g2 : Fin 1024 → EReal) (w1 : Fin 1024 → Fin 4096 → EReal)
    (w2 : Fin 4096 → Fin 1024 → EReal) (l : Fin 1024) : EReal :=
  x l + mod 5 l * mlp (ffIn x g2 (mod 4) (mod 3)) w1 w2 l

/-- The logistic function. -/
def logis (z : EReal) : EReal := Ideal.div 1 (1 + Ideal.exp (-z))

/-- Everything the call does to one token. -/
def token (x : Fin 1024 → EReal) (mod : Fin 6 → Fin 1024 → EReal) (a o s c : Fin 512 → EReal) (g : Fin 3072 → EReal) (on : Fin 128 → EReal)
    (wa wb wc : Fin 512 → Fin 1024 → EReal) (wo : Fin 1024 → Fin 1024 → EReal) (g2 : Fin 1024 → EReal) (w1 : Fin 1024 → Fin 4096 → EReal)
    (w2 : Fin 4096 → Fin 1024 → EReal) (fg : Fin 1024 → EReal) (l : Fin 1024) : EReal :=
  rms c1024 (after (step x (mod 2) (mixed g a (gla o on s) c wa wb wc) wo) mod g2 w1 w2) l * fg l

/-- Everything a layer does to one token before the next, the last normalization left out. -/
def layer (x : Fin 1024 → EReal) (mod : Fin 6 → Fin 1024 → EReal) (a o s c : Fin 512 → EReal) (g : Fin 3072 → EReal) (on : Fin 128 → EReal)
    (wa wb wc : Fin 512 → Fin 1024 → EReal) (wo : Fin 1024 → Fin 1024 → EReal) (g2 : Fin 1024 → EReal) (w1 : Fin 1024 → Fin 4096 → EReal)
    (w2 : Fin 4096 → Fin 1024 → EReal) : Fin 1024 → EReal :=
  after (step x (mod 2) (mixed g a (gla o on s) c wa wb wc) wo) mod g2 w1 w2

/-- The MLP's sum over the hidden units, 1024 of them at a time. -/
theorem mlp_chunks (f : Fin 4096 → EReal) :
    0 + (∑ k : Fin 1024, f ⟨k, by omega⟩) + (∑ k : Fin 1024, f ⟨1024 + k, by omega⟩) + (∑ k : Fin 1024, f ⟨2048 + k, by omega⟩)
      + (∑ k : Fin 1024, f ⟨3072 + k, by omega⟩) = ∑ k, f k := by
  rw [zero_add, Fin.sum_univ_two_halves 3072 1024 rfl f, Fin.sum_univ_two_halves 2048 1024 rfl, Fin.sum_univ_two_halves 1024 1024 rfl]

end Cert.MergeRow

end
-- ==== Proof.MergeBlock.lean ====
/- What one grid point of the merge kernel stores, at an element.

   A grid point holds 256 tokens of one batch. Row `r` of the block it stores is the token function of `MergeRow` of
   row `r` of its input blocks; the kernel's MLP goes over the hidden units 1024 at a time. -/
module

public import proofs.«01_k».proof.Proof.Gen.MergeIdeal.Frame
public import proofs.«01_k».proof.Proof.MergeRow
public import Idealize.ShloMosaic.Lib.Pointwise

@[expose] public section

set_option maxRecDepth 16384

noncomputable section

namespace Cert.MergeIdeal.Merge

open Cert.MergeIdeal Cert.MergeIdeal.Gen Idealize.ShloMosaic Idealize.ShloMosaic.TcCoe Idealize.SL.Sem MergeRow

variable (x0 x1 : Vec Ideal S1x256x1024 .f32) (x2 : Vec Ideal S1x6x1024 .f32) (x3 x4 x5 x6 x7 : Vec Ideal S1x256x512 .bf16)
  (x8 x9 : Vec Ideal S1x256x512 .f32) (x10 : Vec Ideal S1x256x3072 .bf16) (x11 : Vec Ideal S1x128 .f32)
  (x12 x13 x14 : Vec Ideal S512x1024 .bf16) (x15 : Vec Ideal S1024x1024 .bf16) (x16 : Vec Ideal S1x1024 .f32)
  (x17 : Vec Ideal S1024x4096 .bf16) (x18 : Vec Ideal S4096x1024 .bf16) (x19 : Vec Ideal S1x1024 .f32) (r : Fin 256)

/-- The block's modulation rows. -/
abbrev modB : Fin 6 → Fin 1024 → EReal := fun k l => x2 (ix3 0 k l)
/-- The GLA branch's output at row `r`. -/
abbrev glaB : Fin 512 → EReal :=
  gla (fun l => x5 (ix3 0 r l) + x6 (ix3 0 r l)) (fun l => x11 (ix2 0 l)) (fun l => x7 (ix3 0 r l))
/-- Row `r` with the mixed branches added. -/
abbrev xB : Fin 1024 → EReal :=
  step (fun l => x0 (ix3 0 r l)) (modB x2 2)
    (mixed (fun l => x10 (ix3 0 r l)) (fun l => x3 (ix3 0 r l)) (glaB x5 x6 x7 x11 r) (fun l => x8 (ix3 0 r l))
      (fun k l => x12 (ix2 k l)) (fun k l => x13 (ix2 k l)) (fun k l => x14 (ix2 k l)))
    (fun k l => x15 (ix2 k l))
/-- The MLP's input at row `r`. -/
abbrev hB (x : Fin 1024 → EReal) : Fin 1024 → EReal := ffIn x (fun l => x16 (ix2 0 l)) (modB x2 4) (modB x2 3)

theorem p15 (l : Fin 512) : k0_pay15 x0 x1 x2 x3 x4 x5 x6 x7 x8 x9 x10 x11 x12 x13 x14 x15 x16 x17 x18 x19 (ix2 r l) = glaB x5 x6 x7 x11 r l := by
  unfold k0_pay15 k0_pay6 k0_pay5 k0_pay4 k0_pay3 k0_pay2 glaB gla rms
  pointwise
  by_cases h0 : l.val < 128
  · simp only [h0, dite_true, show l.val / 128 = 0 by omega, show l.val % 128 = l.val by omega, Nat.mul_zero, Nat.zero_add, Fin.eta]
  · by_cases h1 : l.val - 128 < 128
    · simp only [h0, h1, dite_true, dite_false, show l.val / 128 = 1 by omega, show l.val % 128 = l.val - 128 by omega,
        show 128 + (l.val - 128) = l.val by omega, Nat.mul_one, Fin.eta]
    · by_cases h2 : l.val - 128 - 128 < 128
      · simp only [h0, h1, h2, dite_true, dite_false, show l.val / 128 = 2 by omega, show l.val % 128 = l.val - 128 - 128 by omega,
          show 256 + (l.val - 128 - 128) = l.val by omega, Nat.reduceMul, Fin.eta]
      · simp only [h0, h1, h2, dite_false, show l.val / 128 = 3 by omega, show l.val % 128 = l.val - 128 - 128 - 128 by omega,
          show 384 + (l.val - 128 - 128 - 128) = l.val by omega, Nat.reduceMul, Fin.eta]

theorem p16 (l : Fin 3072) : k0_pay16 x0 x1 x2 x3 x4 x5 x6 x7 x8 x9 x10 x11 x12 x13 x14 x15 x16 x17 x18 x19 (ix2 r l) = x10 (ix3 0 r l) := by
  unfold k0_pay16 k0_pay7
  pointwise

theorem p17 (l : Fin 1024) : k0_pay17 x0 x1 x2 x3 x4 x5 x6 x7 x8 x9 x10 x11 x12 x13 x14 x15 x16 x17 x18 x19 (ix2 r l) = xB x0 x2 x3 x5 x6 x7 x8 x10 x11 x12 x13 x14 x15 r l := by
  have hg := p15 x0 x1 x2 x3 x4 x5 x6 x7 x8 x9 x10 x11 x12 x13 x14 x15 x16 x17 x18 x19 r
  have hz := p16 x0 x1 x2 x3 x4 x5 x6 x7 x8 x9 x10 x11 x12 x13 x14 x15 x16 x17 x18 x19 r
  unfold k0_pay17 k0_pay8 xB step mixed
  generalize k0_pay15 x0 x1 x2 x3 x4 x5 x6 x7 x8 x9 x10 x11 x12 x13 x14 x15 x16 x17 x18 x19 = y at hg ⊢
  generalize k0_pay16 x0 x1 x2 x3 x4 x5 x6 x7 x8 x9 x10 x11 x12 x13 x14 x15 x16 x17 x18 x19 = z at hz ⊢
  pointwise
  simp only [hg, hz]

theorem p18 : k0_pay18 x0 x1 x2 x3 x4 x5 x6 x7 x8 x9 x10 x11 x12 x13 x14 x15 x16 x17 x18 x19 (ix1 r)
    = ∑ k, xB x0 x2 x3 x5 x6 x7 x8 x10 x11 x12 x13 x14 x15 r k * xB x0 x2 x3 x5 x6 x7 x8 x10 x11 x12 x13 x14 x15 r k := by
  have hx := p17 x0 x1 x2 x3 x4 x5 x6 x7 x8 x9 x10 x11 x12 x13 x14 x15 x16 x17 x18 x19 r
  have e : k0_pay18 x0 x1 x2 x3 x4 x5 x6 x7 x8 x9 x10 x11 x12 x13 x14 x15 x16 x17 x18 x19 = multiReduction .add [1] S256 (mulf (k0_pay17 x0 x1 x2 x3 x4 x5 x6 x7 x8 x9 x10 x11 x12 x13 x14 x15 x16 x17 x18 x19) (k0_pay17 x0 x1 x2 x3 x4 x5 x6 x7 x8 x9 x10 x11 x12 x13 x14 x15 x16 x17 x18 x19)) 0x00000000#32 reduces_S256x1024_S256 (.inl rfl) rfl := rfl
  rw [e]
  generalize k0_pay17 x0 x1 x2 x3 x4 x5 x6 x7 x8 x9 x10 x11 x12 x13 x14 x15 x16 x17 x18 x19 = y at hx ⊢
  pointwise
  simp only [hx]

theorem pre_apply (v118 : Vec Ideal S256x1024 .f32) (v120 : Vec Ideal S256 .f32) (v129 : Vec Ideal S1x1024 .f32) (v131 v138 : Vec Ideal S1x1x1024 .f32)
    (l : Fin 1024) (x : Fin 1024 → EReal) (hx : ∀ k, v118 (ix2 r k) = x k) (hs : v120 (ix1 r) = ∑ k, x k * x k) :
    k0_pay10 v118 v120 v129 v131 v138 (ix2 r l)
      = ffIn x (fun l => v129 (ix2 0 l)) (fun l => v131 (ix3 0 0 l)) (fun l => v138 (ix3 0 0 l)) l := by
  unfold k0_pay10 ffIn rms
  pointwise
  rw [hx, hs, mul_assoc (x l * _)]

theorem p19 (l : Fin 1024) : k0_pay19 x0 x1 x2 x3 x4 x5 x6 x7 x8 x9 x10 x11 x12 x13 x14 x15 x16 x17 x18 x19 (ix2 r l) = hB x2 x16 (xB x0 x2 x3 x5 x6 x7 x8 x10 x11 x12 x13 x14 x15 r) l := by
  unfold k0_pay19
  rw [pre_apply r _ _ _ _ _ l _ (p17 x0 x1 x2 x3 x4 x5 x6 x7 x8 x9 x10 x11 x12 x13 x14 x15 x16 x17 x18 x19 r) (p18 x0 x1 x2 x3 x4 x5 x6 x7 x8 x9 x10 x11 x12 x13 x14 x15 x16 x17 x18 x19 r)]
  unfold hB modB ffIn
  pointwise

theorem p20 (l : Fin 1024) : k0_pay20 x0 x1 x2 x3 x4 x5 x6 x7 x8 x9 x10 x11 x12 x13 x14 x15 x16 x17 x18 x19 (ix2 r l)
    = 0 + ∑ j : Fin 1024, act (hB x2 x16 (xB x0 x2 x3 x5 x6 x7 x8 x10 x11 x12 x13 x14 x15 r)) (fun k l => x17 (ix2 k l)) ⟨j, by omega⟩
        * x18 (ix2 ⟨j, by omega⟩ l) := by
  have hh := p19 x0 x1 x2 x3 x4 x5 x6 x7 x8 x9 x10 x11 x12 x13 x14 x15 x16 x17 x18 x19 r
  unfold k0_pay19 at hh
  unfold k0_pay20 k0_pay11 act
  generalize k0_pay10 (k0_pay17 x0 x1 x2 x3 x4 x5 x6 x7 x8 x9 x10 x11 x12 x13 x14 x15 x16 x17 x18 x19) (k0_pay18 x0 x1 x2 x3 x4 x5 x6 x7 x8 x9 x10 x11 x12 x13 x14 x15 x16 x17 x18 x19) _ _ _ = y at hh ⊢
  pointwise
  simp only [hh]

theorem p21 (l : Fin 1024) : k0_pay21 x0 x1 x2 x3 x4 x5 x6 x7 x8 x9 x10 x11 x12 x13 x14 x15 x16 x17 x18 x19 (ix2 r l)
    = ∑ k, hB x2 x16 (xB x0 x2 x3 x5 x6 x7 x8 x10 x11 x12 x13 x14 x15 r) k * x17 (ix2 k ⟨1024 + l, by omega⟩) := by
  have hh := p19 x0 x1 x2 x3 x4 x5 x6 x7 x8 x9 x10 x11 x12 x13 x14 x15 x16 x17 x18 x19 r
  unfold k0_pay19 at hh
  unfold k0_pay21 k0_pay12
  generalize k0_pay10 (k0_pay17 x0 x1 x2 x3 x4 x5 x6 x7 x8 x9 x10 x11 x12 x13 x14 x15 x16 x17 x18 x19) (k0_pay18 x0 x1 x2 x3 x4 x5 x6 x7 x8 x9 x10 x11 x12 x13 x14 x15 x16 x17 x18 x19) _ _ _ = y at hh ⊢
  pointwise
  simp only [hh]

theorem p13 (l : Fin 1024) :
    k0_pay13 (k0_pay17 x0 x1 x2 x3 x4 x5 x6 x7 x8 x9 x10 x11 x12 x13 x14 x15 x16 x17 x18 x19) (k0_pay19 x0 x1 x2 x3 x4 x5 x6 x7 x8 x9 x10 x11 x12 x13 x14 x15 x16 x17 x18 x19) (k0_pay20 x0 x1 x2 x3 x4 x5 x6 x7 x8 x9 x10 x11 x12 x13 x14 x15 x16 x17 x18 x19) (k0_pay21 x0 x1 x2 x3 x4 x5 x6 x7 x8 x9 x10 x11 x12 x13 x14 x15 x16 x17 x18 x19) (Scalar.ofBits .f32 0x00000000#32) (View.ld x18 r0_13) (View.ld x17 r0_14)
        (View.ld x18 r0_15) (View.ld x17 r0_16) (View.ld x18 r0_17) (View.ld x2 r0_18) (ix2 r l)
      = after (xB x0 x2 x3 x5 x6 x7 x8 x10 x11 x12 x13 x14 x15 r) (modB x2) (fun l => x16 (ix2 0 l)) (fun k l => x17 (ix2 k l))
          (fun k l => x18 (ix2 k l)) l := by
  have h17 := p17 x0 x1 x2 x3 x4 x5 x6 x7 x8 x9 x10 x11 x12 x13 x14 x15 x16 x17 x18 x19 r
  have h19 := p19 x0 x1 x2 x3 x4 x5 x6 x7 x8 x9 x10 x11 x12 x13 x14 x15 x16 x17 x18 x19 r
  have h20 := p20 x0 x1 x2 x3 x4 x5 x6 x7 x8 x9 x10 x11 x12 x13 x14 x15 x16 x17 x18 x19 r
  have h21 := p21 x0 x1 x2 x3 x4 x5 x6 x7 x8 x9 x10 x11 x12 x13 x14 x15 x16 x17 x18 x19 r
  unfold k0_pay13 after mlp
  generalize k0_pay17 x0 x1 x2 x3 x4 x5 x6 x7 x8 x9 x10 x11 x12 x13 x14 x15 x16 x17 x18 x19 = a at h17 ⊢
  generalize k0_pay19 x0 x1 x2 x3 x4 x5 x6 x7 x8 x9 x10 x11 x12 x13 x14 x15 x16 x17 x18 x19 = b at h19 ⊢
  generalize k0_pay20 x0 x1 x2 x3 x4 x5 x6 x7 x8 x9 x10 x11 x12 x13 x14 x15 x16 x17 x18 x19 = c at h20 ⊢
  generalize k0_pay21 x0 x1 x2 x3 x4 x5 x6 x7 x8 x9 x10 x11 x12 x13 x14 x15 x16 x17 x18 x19 = d at h21 ⊢
  rw [← mlp_chunks]
  pointwise
  simp only [h17, h19, h20, h21, zero_add]
  rfl

theorem hz3 : ∀ a : Fin 3, (![0, 0, 0] : Fin 3 → Nat) a = 0 := fun a => by fin_cases a <;> rfl

/-- The block stored, at row `r` and lane `l`. -/
theorem block_apply (l : Fin 1024) :
    out0_20 x0 x1 x2 x3 x4 x5 x6 x7 x8 x9 x10 x11 x12 x13 x14 x15 x16 x17 x18 x19 (ix3 0 r l)
      = rms c1024 (after (xB x0 x2 x3 x5 x6 x7 x8 x10 x11 x12 x13 x14 x15 r) (modB x2) (fun l => x16 (ix2 0 l)) (fun k l => x17 (ix2 k l))
          (fun k l => x18 (ix2 k l))) l * x19 (ix2 0 l) := by
  have h := p13 x0 x1 x2 x3 x4 x5 x6 x7 x8 x9 x10 x11 x12 x13 x14 x15 x16 x17 x18 x19 r
  unfold out0_20
  rw [View.canon_unit_zero (funext hz3)]
  unfold k0_pay14
  generalize k0_pay13 (k0_pay17 x0 x1 x2 x3 x4 x5 x6 x7 x8 x9 x10 x11 x12 x13 x14 x15 x16 x17 x18 x19) (k0_pay19 x0 x1 x2 x3 x4 x5 x6 x7 x8 x9 x10 x11 x12 x13 x14 x15 x16 x17 x18 x19) (k0_pay20 x0 x1 x2 x3 x4 x5 x6 x7 x8 x9 x10 x11 x12 x13 x14 x15 x16 x17 x18 x19) (k0_pay21 x0 x1 x2 x3 x4 x5 x6 x7 x8 x9 x10 x11 x12 x13 x14 x15 x16 x17 x18 x19) (Scalar.ofBits .f32 0x00000000#32) (View.ld x18 r0_13) (View.ld x17 r0_14)
        (View.ld x18 r0_15) (View.ld x17 r0_16) (View.ld x18 r0_17) (View.ld x2 r0_18) = y at h ⊢
  unfold k0_pay1 rms
  pointwise
  simp only [h]

end Cert.MergeIdeal.Merge

end
-- ==== Proof.MergeHost.lean ====
/- The packed arrays the merge call reads, at an element.

   The host code before the call puts 256 rows of zeros after the 4096 latent rows, turns the backward GLA output round
   and lays the heads of both GLA outputs side by side, applies the gates' nonlinearities, and takes the last layer's
   weights. -/
module

public import proofs.«01_k».proof.Proof.MergeRow
public import proofs.«01_k».proof.Proof.Gen.MergeIdeal.Value
public import Idealize.ShloMosaic.Lib.Tactic.CleanTypes
public import Idealize.ShloMosaic.Lib.StableHlo.ReadAt
public import Idealize.ShloMosaic.Lib.Pointwise

@[expose] public section

set_option maxRecDepth 16384

noncomputable section

namespace Cert.MergeIdeal.Merge

open Cert.MergeIdeal Cert.MergeIdeal.Gen Idealize.ShloMosaic Idealize.ShloMosaic.TcCoe Idealize.SL.Sem MergeRow

variable (m : (ℓ : Loc nD τ sig) → Buf (Elt Ideal) ℓ) (c : Dev nD)

/-! ## The arguments -/

/-- The tokens. -/
abbrev a0 : Vec Ideal S8x4096x1024 .f32 := m ((c : Thread nD τ).loc main_arg0)
/-- The modulation of both layers. -/
abbrev a1 : Vec Ideal S2x8x6144 .f32 := m ((c : Thread nD τ).loc main_arg1)
/-- The attention branch's output. -/
abbrev a2 : Vec Ideal S8x4096x512 .f32 := m ((c : Thread nD τ).loc main_arg2)
/-- The forward GLA output. -/
abbrev a3 : Vec Ideal S8x4x4096x128 .f32 := m ((c : Thread nD τ).loc main_arg3)
/-- The backward GLA output, last token first. -/
abbrev a4 : Vec Ideal S8x4x4096x128 .f32 := m ((c : Thread nD τ).loc main_arg4)
/-- The GLA branch's gate, before its nonlinearity. -/
abbrev a5 : Vec Ideal S8x4096x512 .f32 := m ((c : Thread nD τ).loc main_arg5)
/-- The long-convolution branch's output. -/
abbrev a6 : Vec Ideal S8x4096x512 .f32 := m ((c : Thread nD τ).loc main_arg6)
/-- The branch gates, before their nonlinearity. -/
abbrev a7 : Vec Ideal S8x4096x3072 .f32 := m ((c : Thread nD τ).loc main_arg7)
/-- The scale of the GLA normalization. -/
abbrev a8 : Vec Ideal S2x128 .f32 := m ((c : Thread nD τ).loc main_arg8)
/-- The attention branch's projection. -/
abbrev a9 : Vec Ideal S2x512x1024 .f32 := m ((c : Thread nD τ).loc main_arg9)
/-- The GLA branch's projection. -/
abbrev a10 : Vec Ideal S2x512x1024 .f32 := m ((c : Thread nD τ).loc main_arg10)
/-- The long-convolution branch's projection. -/
abbrev a11 : Vec Ideal S2x512x1024 .f32 := m ((c : Thread nD τ).loc main_arg11)
/-- The output projection. -/
abbrev a12 : Vec Ideal S2x1024x1024 .f32 := m ((c : Thread nD τ).loc main_arg12)
/-- The scale of the normalization before the MLP. -/
abbrev a13 : Vec Ideal S2x1024 .f32 := m ((c : Thread nD τ).loc main_arg13)
/-- The MLP's first matrix. -/
abbrev a14 : Vec Ideal S2x1024x4096 .f32 := m ((c : Thread nD τ).loc main_arg14)
/-- The MLP's second matrix. -/
abbrev a15 : Vec Ideal S2x4096x1024 .f32 := m ((c : Thread nD τ).loc main_arg15)
/-- The scale of the last normalization. -/
abbrev a16 : Vec Ideal S1024 .f32 := m ((c : Thread nD τ).loc main_arg16)

/-! ## The packed arrays -/

theorem x_apply (b : Fin 8) (t : Fin 4096) (l : Fin 1024) :
    (V m c main_v1 : Vec Ideal S8x4352x1024 .f32) (ix3 b ⟨t, by omega⟩ l) = a0 m c (ix3 b t l) := by
  unfold_abbrev_sides
  after_reads_at

theorem mod_apply (b : Fin 8) (k : Fin 6) (l : Fin 1024) :
    (V m c main_v6 : Vec Ideal S16x6x1024 .f32) (ix3 ⟨b, by omega⟩ k l) = a1 m c (ix3 1 b ⟨1024 * k.val + l.val, by omega⟩) := by
  unfold_abbrev_sides
  after_reads_at
  after_reads_at
  simp only [Nat.mul_comm 1024]

theorem ymla_apply (b : Fin 8) (t : Fin 4096) (l : Fin 512) :
    (V m c main_v18 : Vec Ideal S8x4096x512 .bf16) (ix3 b t l) = a2 m c (ix3 b t l) := by
  unfold_abbrev_sides
  after_reads_at

theorem of_apply (b : Fin 8) (t : Fin 4096) (l : Fin 512) :
    (V m c main_v11 : Vec Ideal S8x4352x512 .bf16) (ix3 b ⟨t, by omega⟩ l) = a3 m c (ix4 b ⟨l.val / 128, by omega⟩ t ⟨l.val % 128, by omega⟩) := by
  unfold_abbrev_sides
  after_reads_at
  after_reads_at

theorem ob_apply (b : Fin 8) (t : Fin 4096) (l : Fin 512) :
    (V m c main_v17 : Vec Ideal S8x4352x512 .bf16) (ix3 b ⟨t, by omega⟩ l)
      = a4 m c (ix4 b ⟨l.val / 128, by omega⟩ t.rev ⟨l.val % 128, by omega⟩) := by
  unfold_abbrev_sides
  after_reads_at
  after_reads_at
  rfl

theorem gr_apply (b : Fin 8) (t : Fin 4096) (l : Fin 512) :
    (V m c main_v28 : Vec Ideal S8x4352x512 .bf16) (ix3 b ⟨t, by omega⟩ l) = a5 m c (ix3 b t l) * logis (a5 m c (ix3 b t l)) := by
  unfold_abbrev_sides
  unfold logis
  after_reads_at
  after_reads_at
  rfl

theorem yhy_apply (b : Fin 8) (t : Fin 4096) (l : Fin 512) :
    (V m c main_arg6 : Vec Ideal S8x4096x512 .f32) (ix3 b t l) = a6 m c (ix3 b t l) := by
  unfold_abbrev_sides
  after_reads_at

theorem zg_apply (b : Fin 8) (t : Fin 4096) (l : Fin 3072) :
    (V m c main_v37 : Vec Ideal S8x4352x3072 .bf16) (ix3 b ⟨t, by omega⟩ l) = logis (a7 m c (ix3 b t l)) := by
  unfold_abbrev_sides
  unfold logis
  after_reads_at
  after_reads_at

theorem on_apply (l : Fin 128) : (V m c main_v54 : Vec Ideal S1x128 .f32) (ix2 0 l) = a8 m c (ix2 1 l) := by
  unfold_abbrev_sides
  after_reads_at
theorem wm_apply (k : Fin 512) (l : Fin 1024) : (V m c main_v55 : Vec Ideal S512x1024 .bf16) (ix2 k l) = a9 m c (ix3 1 k l) := by
  unfold_abbrev_sides
  after_reads_at
theorem wgl_apply (k : Fin 512) (l : Fin 1024) : (V m c main_v56 : Vec Ideal S512x1024 .bf16) (ix2 k l) = a10 m c (ix3 1 k l) := by
  unfold_abbrev_sides
  after_reads_at
theorem wh_apply (k : Fin 512) (l : Fin 1024) : (V m c main_v57 : Vec Ideal S512x1024 .bf16) (ix2 k l) = a11 m c (ix3 1 k l) := by
  unfold_abbrev_sides
  after_reads_at
theorem wo_apply (k l : Fin 1024) : (V m c main_v58 : Vec Ideal S1024x1024 .bf16) (ix2 k l) = a12 m c (ix3 1 k l) := by
  unfold_abbrev_sides
  after_reads_at
theorem g2_apply (l : Fin 1024) : (V m c main_v59 : Vec Ideal S1x1024 .f32) (ix2 0 l) = a13 m c (ix2 1 l) := by
  unfold_abbrev_sides
  after_reads_at
theorem w1_apply (k : Fin 1024) (l : Fin 4096) : (V m c main_v60 : Vec Ideal S1024x4096 .bf16) (ix2 k l) = a14 m c (ix3 1 k l) := by
  unfold_abbrev_sides
  after_reads_at
theorem w2_apply (k : Fin 4096) (l : Fin 1024) : (V m c main_v61 : Vec Ideal S4096x1024 .bf16) (ix2 k l) = a15 m c (ix3 1 k l) := by
  unfold_abbrev_sides
  after_reads_at
theorem fg_apply (l : Fin 1024) : (V m c main_v62 : Vec Ideal S1x1024 .f32) (ix2 0 l) = a16 m c (ix1 l) := by
  unfold_abbrev_sides
  after_reads_at

end Cert.MergeIdeal.Merge

end
-- ==== Proof.MergeArray.lean ====
/- The merge call's result array, at an element.

   Grid point `t` is batch `t / 16` and token tile `t % 16`, 256 tokens to a tile. Its blocks are read off the packed
   arrays, and element `(b, s, l)` of the result is stored by exactly one point. -/
module

public import proofs.«01_k».proof.Proof.MergeBlock
public import proofs.«01_k».proof.Proof.MergeHost

@[expose] public section

set_option maxRecDepth 16384

noncomputable section

namespace Cert.MergeIdeal.Merge

open Cert.MergeIdeal Cert.MergeIdeal.Gen Idealize.ShloMosaic Idealize.ShloMosaic.TcCoe Idealize.SL.Sem MergeRow

theorem idx0 : ∀ t : Fin cfg0.N, win0_0.index t 0 = t.val / 16 ∧ win0_0.index t 1 = t.val % 16 ∧ win0_0.index t 2 = 0 :=
  (by decide +kernel : ∀ t : Fin grid0.N, win0_0.index t 0 = t.val / 16 ∧ win0_0.index t 1 = t.val % 16 ∧ win0_0.index t 2 = 0)
theorem idx3 : ∀ t : Fin cfg0.N, win0_3.index t 0 = t.val / 16 ∧ win0_3.index t 1 = t.val % 16 ∧ win0_3.index t 2 = 0 :=
  (by decide +kernel : ∀ t : Fin grid0.N, win0_3.index t 0 = t.val / 16 ∧ win0_3.index t 1 = t.val % 16 ∧ win0_3.index t 2 = 0)
theorem idx5 : ∀ t : Fin cfg0.N, win0_5.index t 0 = t.val / 16 ∧ win0_5.index t 1 = t.val % 16 ∧ win0_5.index t 2 = 0 :=
  (by decide +kernel : ∀ t : Fin grid0.N, win0_5.index t 0 = t.val / 16 ∧ win0_5.index t 1 = t.val % 16 ∧ win0_5.index t 2 = 0)
theorem idx6 : ∀ t : Fin cfg0.N, win0_6.index t 0 = t.val / 16 ∧ win0_6.index t 1 = t.val % 16 ∧ win0_6.index t 2 = 0 :=
  (by decide +kernel : ∀ t : Fin grid0.N, win0_6.index t 0 = t.val / 16 ∧ win0_6.index t 1 = t.val % 16 ∧ win0_6.index t 2 = 0)
theorem idx7 : ∀ t : Fin cfg0.N, win0_7.index t 0 = t.val / 16 ∧ win0_7.index t 1 = t.val % 16 ∧ win0_7.index t 2 = 0 :=
  (by decide +kernel : ∀ t : Fin grid0.N, win0_7.index t 0 = t.val / 16 ∧ win0_7.index t 1 = t.val % 16 ∧ win0_7.index t 2 = 0)
theorem idx8 : ∀ t : Fin cfg0.N, win0_8.index t 0 = t.val / 16 ∧ win0_8.index t 1 = t.val % 16 ∧ win0_8.index t 2 = 0 :=
  (by decide +kernel : ∀ t : Fin grid0.N, win0_8.index t 0 = t.val / 16 ∧ win0_8.index t 1 = t.val % 16 ∧ win0_8.index t 2 = 0)
theorem idx10 : ∀ t : Fin cfg0.N, win0_10.index t 0 = t.val / 16 ∧ win0_10.index t 1 = t.val % 16 ∧ win0_10.index t 2 = 0 :=
  (by decide +kernel : ∀ t : Fin grid0.N, win0_10.index t 0 = t.val / 16 ∧ win0_10.index t 1 = t.val % 16 ∧ win0_10.index t 2 = 0)
theorem idx20 : ∀ t : Fin cfg0.N, win0_20.index t 0 = t.val / 16 ∧ win0_20.index t 1 = t.val % 16 ∧ win0_20.index t 2 = 0 :=
  (by decide +kernel : ∀ t : Fin grid0.N, win0_20.index t 0 = t.val / 16 ∧ win0_20.index t 1 = t.val % 16 ∧ win0_20.index t 2 = 0)
theorem idx2 : ∀ t : Fin cfg0.N, win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0)
theorem idx11 : ∀ t : Fin cfg0.N, win0_11.index t 0 = 0 ∧ win0_11.index t 1 = 0 :=
  (by decide +kernel : ∀ t : Fin grid0.N, win0_11.index t 0 = 0 ∧ win0_11.index t 1 = 0)
theorem idx12 : ∀ t : Fin cfg0.N, win0_12.index t 0 = 0 ∧ win0_12.index t 1 = 0 :=
  (by decide +kernel : ∀ t : Fin grid0.N, win0_12.index t 0 = 0 ∧ win0_12.index t 1 = 0)
theorem idx13 : ∀ t : Fin cfg0.N, win0_13.index t 0 = 0 ∧ win0_13.index t 1 = 0 :=
  (by decide +kernel : ∀ t : Fin grid0.N, win0_13.index t 0 = 0 ∧ win0_13.index t 1 = 0)
theorem idx14 : ∀ t : Fin cfg0.N, win0_14.index t 0 = 0 ∧ win0_14.index t 1 = 0 :=
  (by decide +kernel : ∀ t : Fin grid0.N, win0_14.index t 0 = 0 ∧ win0_14.index t 1 = 0)
theorem idx15 : ∀ t : Fin cfg0.N, win0_15.index t 0 = 0 ∧ win0_15.index t 1 = 0 :=
  (by decide +kernel : ∀ t : Fin grid0.N, win0_15.index t 0 = 0 ∧ win0_15.index t 1 = 0)
theorem idx16 : ∀ t : Fin cfg0.N, win0_16.index t 0 = 0 ∧ win0_16.index t 1 = 0 :=
  (by decide +kernel : ∀ t : Fin grid0.N, win0_16.index t 0 = 0 ∧ win0_16.index t 1 = 0)
theorem idx17 : ∀ t : Fin cfg0.N, win0_17.index t 0 = 0 ∧ win0_17.index t 1 = 0 :=
  (by decide +kernel : ∀ t : Fin grid0.N, win0_17.index t 0 = 0 ∧ win0_17.index t 1 = 0)
theorem idx18 : ∀ t : Fin cfg0.N, win0_18.index t 0 = 0 ∧ win0_18.index t 1 = 0 :=
  (by decide +kernel : ∀ t : Fin grid0.N, win0_18.index t 0 = 0 ∧ win0_18.index t 1 = 0)
theorem idx19 : ∀ t : Fin cfg0.N, win0_19.index t 0 = 0 ∧ win0_19.index t 1 = 0 :=
  (by decide +kernel : ∀ t : Fin grid0.N, win0_19.index t 0 = 0 ∧ win0_19.index t 1 = 0)

theorem lt_N (t : Fin cfg0.N) : t.val < 128 := lt_of_lt_of_eq t.isLt (by decide +kernel : grid0.N = 128)

variable (m : (ℓ : Loc nD τ sig) → Buf (Elt Ideal) ℓ) (c : Dev nD)

/-! ## The blocks a point reads -/

/-- The batch of point `t`. -/
abbrev bat (t : Fin cfg0.N) : Fin 8 := ⟨t.val / 16, by have := lt_N t; omega⟩
/-- The token at row `r` of point `t`'s tile. -/
abbrev tok (t : Fin cfg0.N) (r : Fin 256) : Fin 4096 := ⟨256 * (t.val % 16) + r.val, by omega⟩

theorem blk0 (t : Fin cfg0.N) (r : Fin 256) (l : Fin 1024) :
    (iblk m c 0 t : Vec Ideal S1x256x1024 .f32) (ix3 0 r l) = a0 m c (ix3 (bat t) (tok t r) l) := by
  obtain ⟨e0, e1, e2⟩ := idx0 t
  rw [← x_apply m c (bat t) (tok t r) l]
  unfold iblk
  rw [View.read_apply]
  show V m c main_v1 _ = V m c main_v1 _
  congr 1
  funext a
  apply Fin.ext
  match a with
  | ⟨0, _⟩ => show win0_0.index t 0 * 1 + 1 * 0 = t.val / 16; rw [e0]; omega
  | ⟨1, _⟩ => show win0_0.index t 1 * 256 + 1 * r.val = 256 * (t.val % 16) + r.val; rw [e1]; omega
  | ⟨2, _⟩ => show win0_0.index t 2 * 1024 + 1 * l.val = l.val; rw [e2]; omega

theorem blk3 (t : Fin cfg0.N) (r : Fin 256) (l : Fin 512) :
    (iblk m c 3 t : Vec Ideal S1x256x512 .bf16) (ix3 0 r l) = a2 m c (ix3 (bat t) (tok t r) l) := by
  obtain ⟨e0, e1, e2⟩ := idx3 t
  rw [← ymla_apply m c (bat t) (tok t r) l]
  unfold iblk
  rw [View.read_apply]
  show V m c main_v18 _ = V m c main_v18 _
  congr 1
  funext a
  apply Fin.ext
  match a with
  | ⟨0, _⟩ => show win0_3.index t 0 * 1 + 1 * 0 = t.val / 16; rw [e0]; omega
  | ⟨1, _⟩ => show win0_3.index t 1 * 256 + 1 * r.val = 256 * (t.val % 16) + r.val; rw [e1]; omega
  | ⟨2, _⟩ => show win0_3.index t 2 * 512 + 1 * l.val = l.val; rw [e2]; omega

theorem blk5 (t : Fin cfg0.N) (r : Fin 256) (l : Fin 512) :
    (iblk m c 5 t : Vec Ideal S1x256x512 .bf16) (ix3 0 r l) = a3 m c (ix4 (bat t) ⟨l.val / 128, by omega⟩ (tok t r) ⟨l.val % 128, by omega⟩) := by
  obtain ⟨e0, e1, e2⟩ := idx5 t
  rw [← of_apply m c (bat t) (tok t r) l]
  unfold iblk
  rw [View.read_apply]
  show V m c main_v11 _ = V m c main_v11 _
  congr 1
  funext a
  apply Fin.ext
  match a with
  | ⟨0, _⟩ => show win0_5.index t 0 * 1 + 1 * 0 = t.val / 16; rw [e0]; omega
  | ⟨1, _⟩ => show win0_5.index t 1 * 256 + 1 * r.val = 256 * (t.val % 16) + r.val; rw [e1]; omega
  | ⟨2, _⟩ => show win0_5.index t 2 * 512 + 1 * l.val = l.val; rw [e2]; omega

theorem blk6 (t : Fin cfg0.N) (r : Fin 256) (l : Fin 512) :
    (iblk m c 6 t : Vec Ideal S1x256x512 .bf16) (ix3 0 r l) = a4 m c (ix4 (bat t) ⟨l.val / 128, by omega⟩ (tok t r).rev ⟨l.val % 128, by omega⟩) := by
  obtain ⟨e0, e1, e2⟩ := idx6 t
  rw [← ob_apply m c (bat t) (tok t r) l]
  unfold iblk
  rw [View.read_apply]
  show V m c main_v17 _ = V m c main_v17 _
  congr 1
  funext a
  apply Fin.ext
  match a with
  | ⟨0, _⟩ => show win0_6.index t 0 * 1 + 1 * 0 = t.val / 16; rw [e0]; omega
  | ⟨1, _⟩ => show win0_6.index t 1 * 256 + 1 * r.val = 256 * (t.val % 16) + r.val; rw [e1]; omega
  | ⟨2, _⟩ => show win0_6.index t 2 * 512 + 1 * l.val = l.val; rw [e2]; omega

theorem blk7 (t : Fin cfg0.N) (r : Fin 256) (l : Fin 512) :
    (iblk m c 7 t : Vec Ideal S1x256x512 .bf16) (ix3 0 r l) = a5 m c (ix3 (bat t) (tok t r) l) * logis (a5 m c (ix3 (bat t) (tok t r) l)) := by
  obtain ⟨e0, e1, e2⟩ := idx7 t
  rw [← gr_apply m c (bat t) (tok t r) l]
  unfold iblk
  rw [View.read_apply]
  show V m c main_v28 _ = V m c main_v28 _
  congr 1
  funext a
  apply Fin.ext
  match a with
  | ⟨0, _⟩ => show win0_7.index t 0 * 1 + 1 * 0 = t.val / 16; rw [e0]; omega
  | ⟨1, _⟩ => show win0_7.index t 1 * 256 + 1 * r.val = 256 * (t.val % 16) + r.val; rw [e1]; omega
  | ⟨2, _⟩ => show win0_7.index t 2 * 512 + 1 * l.val = l.val; rw [e2]; omega

theorem blk8 (t : Fin cfg0.N) (r : Fin 256) (l : Fin 512) :
    (iblk m c 8 t : Vec Ideal S1x256x512 .f32) (ix3 0 r l) = a6 m c (ix3 (bat t) (tok t r) l) := by
  obtain ⟨e0, e1, e2⟩ := idx8 t
  rw [← yhy_apply m c (bat t) (tok t r) l]
  unfold iblk
  rw [View.read_apply]
  show V m c main_arg6 _ = V m c main_arg6 _
  congr 1
  funext a
  apply Fin.ext
  match a with
  | ⟨0, _⟩ => show win0_8.index t 0 * 1 + 1 * 0 = t.val / 16; rw [e0]; omega
  | ⟨1, _⟩ => show win0_8.index t 1 * 256 + 1 * r.val = 256 * (t.val % 16) + r.val; rw [e1]; omega
  | ⟨2, _⟩ => show win0_8.index t 2 * 512 + 1 * l.val = l.val; rw [e2]; omega

theorem blk10 (t : Fin cfg0.N) (r : Fin 256) (l : Fin 3072) :
    (iblk m c 10 t : Vec Ideal S1x256x3072 .bf16) (ix3 0 r l) = logis (a7 m c (ix3 (bat t) (tok t r) l)) := by
  obtain ⟨e0, e1, e2⟩ := idx10 t
  rw [← zg_apply m c (bat t) (tok t r) l]
  unfold iblk
  rw [View.read_apply]
  show V m c main_v37 _ = V m c main_v37 _
  congr 1
  funext a
  apply Fin.ext
  match a with
  | ⟨0, _⟩ => show win0_10.index t 0 * 1 + 1 * 0 = t.val / 16; rw [e0]; omega
  | ⟨1, _⟩ => show win0_10.index t 1 * 256 + 1 * r.val = 256 * (t.val % 16) + r.val; rw [e1]; omega
  | ⟨2, _⟩ => show win0_10.index t 2 * 3072 + 1 * l.val = l.val; rw [e2]; omega

theorem blk2 (t : Fin cfg0.N) (k : Fin 6) (l : Fin 1024) :
    (iblk m c 2 t : Vec Ideal S1x6x1024 .f32) (ix3 0 k l) = a1 m c (ix3 1 (bat t) ⟨1024 * k.val + l.val, by omega⟩) := by
  obtain ⟨e0, e1, e2⟩ := idx2 t
  rw [← mod_apply m c (bat t) k l]
  unfold iblk
  rw [View.read_apply]
  show V m c main_v6 _ = V m c main_v6 _
  congr 1
  funext a
  apply Fin.ext
  match a with
  | ⟨0, _⟩ => show win0_2.index t 0 * 1 + 1 * 0 = t.val / 16; rw [e0]; omega
  | ⟨1, _⟩ => show win0_2.index t 1 * 6 + 1 * k.val = k.val; rw [e1]; omega
  | ⟨2, _⟩ => show win0_2.index t 2 * 1024 + 1 * l.val = l.val; rw [e2]; omega

theorem blk11 (t : Fin cfg0.N) (l : Fin 128) :
    (iblk m c 11 t : Vec Ideal S1x128 .f32) (ix2 0 l) = a8 m c (ix2 1 l) := by
  obtain ⟨e0, e1⟩ := idx11 t
  rw [← on_apply m c l]
  unfold iblk
  rw [View.read_apply]
  show V m c main_v54 _ = V m c main_v54 _
  congr 1
  funext a
  apply Fin.ext
  match a with
  | ⟨0, _⟩ => show win0_11.index t 0 * 1 + 1 * 0 = 0; rw [e0]
  | ⟨1, _⟩ => show win0_11.index t 1 * 128 + 1 * l.val = l.val; rw [e1]; omega

theorem blk12 (t : Fin cfg0.N) (k : Fin 512) (l : Fin 1024) :
    (iblk m c 12 t : Vec Ideal S512x1024 .bf16) (ix2 k l) = a9 m c (ix3 1 k l) := by
  obtain ⟨e0, e1⟩ := idx12 t
  rw [← wm_apply m c k l]
  unfold iblk
  rw [View.read_apply]
  show V m c main_v55 _ = V m c main_v55 _
  congr 1
  funext a
  apply Fin.ext
  match a with
  | ⟨0, _⟩ => show win0_12.index t 0 * 512 + 1 * k.val = k.val; rw [e0]; omega
  | ⟨1, _⟩ => show win0_12.index t 1 * 1024 + 1 * l.val = l.val; rw [e1]; omega

theorem blk13 (t : Fin cfg0.N) (k : Fin 512) (l : Fin 1024) :
    (iblk m c 13 t : Vec Ideal S512x1024 .bf16) (ix2 k l) = a10 m c (ix3 1 k l) := by
  obtain ⟨e0, e1⟩ := idx13 t
  rw [← wgl_apply m c k l]
  unfold iblk
  rw [View.read_apply]
  show V m c main_v56 _ = V m c main_v56 _
  congr 1
  funext a
  apply Fin.ext
  match a with
  | ⟨0, _⟩ => show win0_13.index t 0 * 512 + 1 * k.val = k.val; rw [e0]; omega
  | ⟨1, _⟩ => show win0_13.index t 1 * 1024 + 1 * l.val = l.val; rw [e1]; omega

theorem blk14 (t : Fin cfg0.N) (k : Fin 512) (l : Fin 1024) :
    (iblk m c 14 t : Vec Ideal S512x1024 .bf16) (ix2 k l) = a11 m c (ix3 1 k l) := by
  obtain ⟨e0, e1⟩ := idx14 t
  rw [← wh_apply m c k l]
  unfold iblk
  rw [View.read_apply]
  show V m c main_v57 _ = V m c main_v57 _
  congr 1
  funext a
  apply Fin.ext
  match a with
  | ⟨0, _⟩ => show win0_14.index t 0 * 512 + 1 * k.val = k.val; rw [e0]; omega
  | ⟨1, _⟩ => show win0_14.index t 1 * 1024 + 1 * l.val = l.val; rw [e1]; omega

theorem blk15 (t : Fin cfg0.N) (k : Fin 1024) (l : Fin 1024) :
    (iblk m c 15 t : Vec Ideal S1024x1024 .bf16) (ix2 k l) = a12 m c (ix3 1 k l) := by
  obtain ⟨e0, e1⟩ := idx15 t
  rw [← wo_apply m c k l]
  unfold iblk
  rw [View.read_apply]
  show V m c main_v58 _ = V m c main_v58 _
  congr 1
  funext a
  apply Fin.ext
  match a with
  | ⟨0, _⟩ => show win0_15.index t 0 * 1024 + 1 * k.val = k.val; rw [e0]; omega
  | ⟨1, _⟩ => show win0_15.index t 1 * 1024 + 1 * l.val = l.val; rw [e1]; omega

theorem blk16 (t : Fin cfg0.N) (l : Fin 1024) :
    (iblk m c 16 t : Vec Ideal S1x1024 .f32) (ix2 0 l) = a13 m c (ix2 1 l) := by
  obtain ⟨e0, e1⟩ := idx16 t
  rw [← g2_apply m c l]
  unfold iblk
  rw [View.read_apply]
  show V m c main_v59 _ = V m c main_v59 _
  congr 1
  funext a
  apply Fin.ext
  match a with
  | ⟨0, _⟩ => show win0_16.index t 0 * 1 + 1 * 0 = 0; rw [e0]
  | ⟨1, _⟩ => show win0_16.index t 1 * 1024 + 1 * l.val = l.val; rw [e1]; omega

theorem blk17 (t : Fin cfg0.N) (k : Fin 1024) (l : Fin 4096) :
    (iblk m c 17 t : Vec Ideal S1024x4096 .bf16) (ix2 k l) = a14 m c (ix3 1 k l) := by
  obtain ⟨e0, e1⟩ := idx17 t
  rw [← w1_apply m c k l]
  unfold iblk
  rw [View.read_apply]
  show V m c main_v60 _ = V m c main_v60 _
  congr 1
  funext a
  apply Fin.ext
  match a with
  | ⟨0, _⟩ => show win0_17.index t 0 * 1024 + 1 * k.val = k.val; rw [e0]; omega
  | ⟨1, _⟩ => show win0_17.index t 1 * 4096 + 1 * l.val = l.val; rw [e1]; omega

theorem blk18 (t : Fin cfg0.N) (k : Fin 4096) (l : Fin 1024) :
    (iblk m c 18 t : Vec Ideal S4096x1024 .bf16) (ix2 k l) = a15 m c (ix3 1 k l) := by
  obtain ⟨e0, e1⟩ := idx18 t
  rw [← w2_apply m c k l]
  unfold iblk
  rw [View.read_apply]
  show V m c main_v61 _ = V m c main_v61 _
  congr 1
  funext a
  apply Fin.ext
  match a with
  | ⟨0, _⟩ => show win0_18.index t 0 * 4096 + 1 * k.val = k.val; rw [e0]; omega
  | ⟨1, _⟩ => show win0_18.index t 1 * 1024 + 1 * l.val = l.val; rw [e1]; omega

theorem blk19 (t : Fin cfg0.N) (l : Fin 1024) :
    (iblk m c 19 t : Vec Ideal S1x1024 .f32) (ix2 0 l) = a16 m c (ix1 l) := by
  obtain ⟨e0, e1⟩ := idx19 t
  rw [← fg_apply m c l]
  unfold iblk
  rw [View.read_apply]
  show V m c main_v62 _ = V m c main_v62 _
  congr 1
  funext a
  apply Fin.ext
  match a with
  | ⟨0, _⟩ => show win0_19.index t 0 * 1 + 1 * 0 = 0; rw [e0]
  | ⟨1, _⟩ => show win0_19.index t 1 * 1024 + 1 * l.val = l.val; rw [e1]; omega

/-- The block a point stores, at row `r` and lane `l`. -/
theorem point_apply (t : Fin cfg0.N) (r : Fin 256) (l : Fin 1024) :
    out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (ix3 0 r l)
      = token (fun l => a0 m c (ix3 (bat t) (tok t r) l)) (fun k l => a1 m c (ix3 1 (bat t) ⟨1024 * k.val + l.val, by omega⟩)) (fun l => a2 m c (ix3 (bat t) (tok t r) l))
        (fun l => a3 m c (ix4 (bat t) ⟨l.val / 128, by omega⟩ (tok t r) ⟨l.val % 128, by omega⟩) + a4 m c (ix4 (bat t) ⟨l.val / 128, by omega⟩ (tok t r).rev ⟨l.val % 128, by omega⟩))
        (fun l => a5 m c (ix3 (bat t) (tok t r) l) * logis (a5 m c (ix3 (bat t) (tok t r) l))) (fun l => a6 m c (ix3 (bat t) (tok t r) l)) (fun j => logis (a7 m c (ix3 (bat t) (tok t r) j)))
        (fun l => a8 m c (ix2 1 l)) (fun k l => a9 m c (ix3 1 k l)) (fun k l => a10 m c (ix3 1 k l)) (fun k l => a11 m c (ix3 1 k l))
        (fun k l => a12 m c (ix3 1 k l)) (fun l => a13 m c (ix2 1 l)) (fun k l => a14 m c (ix3 1 k l)) (fun k l => a15 m c (ix3 1 k l))
        (fun l => a16 m c (ix1 l)) l := by
  refine (block_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) r l).trans ?_
  have h0 := funext (blk0 m c t r)
  have h2 : modB (iblk m c 2 t) = _ := funext fun k => funext (blk2 m c t k)
  have h3 := funext (blk3 m c t r)
  have h5 := blk5 m c t r
  have h6 := blk6 m c t r
  have h7 := funext (blk7 m c t r)
  have h8 := funext (blk8 m c t r)
  have h10 := funext (blk10 m c t r)
  have h11 := funext (blk11 m c t)
  have h12 := funext fun k => funext (blk12 m c t k)
  have h13 := funext fun k => funext (blk13 m c t k)
  have h14 := funext fun k => funext (blk14 m c t k)
  have h15 := funext fun k => funext (blk15 m c t k)
  have h16 := funext (blk16 m c t)
  have h17 := funext fun k => funext (blk17 m c t k)
  have h18 := funext fun k => funext (blk18 m c t k)
  have h19 := blk19 m c t l
  unfold token xB glaB
  simp only [h0, h2, h3, h5, h6, h7, h8, h10, h11, h12, h13, h14, h15, h16, h17, h18, h19]

/-! ## The result array -/

/-- The point that stores the element of batch `b` and token `s`. -/
def pt (b : Fin 8) (s : Fin 4096) : Fin cfg0.N :=
  ⟨16 * b.val + s.val / 256, by have e : cfg0.N = 128 := by decide +kernel
                                rw [e]; omega⟩

theorem arr_point (b : Fin 8) (s : Fin 4096) (l : Fin 1024) :
    ((dats m 0 c).arrAt 20 cfg0.N : Vec Ideal S8x4096x1024 .f32) (ix3 b s l)
      = out0_20 (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) (iblk m c 16 (pt b s)) (iblk m c 17 (pt b s)) (iblk m c 18 (pt b s)) (iblk m c 19 (pt b s)) (ix3 0 ⟨s.val % 256, by omega⟩ l) := by
  have h := congrFun (Value.blocks20 m c (pt b s) (flush0_20 _)) (ix3 0 ⟨s.val % 256, by omega⟩ l)
  rw [Value.flushed20, View.read_apply] at h
  generalize out0_20 (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) (iblk m c 16 (pt b s)) (iblk m c 17 (pt b s)) (iblk m c 18 (pt b s)) (iblk m c 19 (pt b s)) = y at h ⊢
  refine Eq.trans ?_ h
  obtain ⟨e0, e1, e2⟩ := idx20 (pt b s)
  congr 1
  funext a
  apply Fin.ext
  match a with
  | ⟨0, _⟩ => show b.val = win0_20.index (pt b s) 0 * 1 + 1 * 0; rw [e0]; show _ = (16 * b.val + s.val / 256) / 16 * 1 + 1 * 0; omega
  | ⟨1, _⟩ => show s.val = win0_20.index (pt b s) 1 * 256 + 1 * (s.val % 256); rw [e1]; show _ = (16 * b.val + s.val / 256) % 16 * 256 + 1 * (s.val % 256); omega
  | ⟨2, _⟩ => show l.val = win0_20.index (pt b s) 2 * 1024 + 1 * l.val; rw [e2]; omega

/-- The result array, at an element. -/
theorem arr_apply (b : Fin 8) (s : Fin 4096) (l : Fin 1024) :
    ((dats m 0 c).arrAt 20 cfg0.N : Vec Ideal S8x4096x1024 .f32) (ix3 b s l)
      = token (fun l => a0 m c (ix3 b s l)) (fun k l => a1 m c (ix3 1 b ⟨1024 * k.val + l.val, by omega⟩)) (fun l => a2 m c (ix3 b s l))
        (fun l => a3 m c (ix4 b ⟨l.val / 128, by omega⟩ s ⟨l.val % 128, by omega⟩) + a4 m c (ix4 b ⟨l.val / 128, by omega⟩ s.rev ⟨l.val % 128, by omega⟩))
        (fun l => a5 m c (ix3 b s l) * logis (a5 m c (ix3 b s l))) (fun l => a6 m c (ix3 b s l)) (fun j => logis (a7 m c (ix3 b s j)))
        (fun l => a8 m c (ix2 1 l)) (fun k l => a9 m c (ix3 1 k l)) (fun k l => a10 m c (ix3 1 k l)) (fun k l => a11 m c (ix3 1 k l))
        (fun k l => a12 m c (ix3 1 k l)) (fun l => a13 m c (ix2 1 l)) (fun k l => a14 m c (ix3 1 k l)) (fun k l => a15 m c (ix3 1 k l))
        (fun l => a16 m c (ix1 l)) l := by
  have hb : bat (pt b s) = b := Fin.ext (show (16 * b.val + s.val / 256) / 16 = b.val by omega)
  have ht : tok (pt b s) ⟨s.val % 256, by omega⟩ = s :=
    Fin.ext (show 256 * ((16 * b.val + s.val / 256) % 16) + s.val % 256 = s.val by omega)
  have hp := point_apply m c (pt b s) ⟨s.val % 256, by omega⟩ l
  rw [hb, ht] at hp
  exact (arr_point m c b s l).trans hp

end Cert.MergeIdeal.Merge

end
-- ==== Proof.MergeRef.lean ====
/- What the reference's merge and MLP computes.

   Its result at a token is the token function of `MergeRow` of that token's rows. -/
module

public import proofs.«01_k».proof.Proof.Gen.MergeRefIdeal.Read
public import proofs.«01_k».proof.Proof.MergeRow
public import Idealize.ShloMosaic.Lib.Pointwise

@[expose] public section

set_option maxRecDepth 16384

noncomputable section

namespace Cert.MergeRefIdeal.Merge

open Cert.MergeRefIdeal Cert.MergeRefIdeal.Gen Cert.MergeRefIdeal.Read Idealize.ShloMosaic Idealize.ShloMosaic.TcCoe
open Idealize.SL.Sem MergeRow

variable (x0 : Vec Ideal S8x4096x1024 .f32) (x1 : Vec Ideal S2x8x6144 .f32) (x2 : Vec Ideal S8x4096x512 .f32)
  (x3 x4 : Vec Ideal S8x4x4096x128 .f32) (x5 x6 : Vec Ideal S8x4096x512 .f32) (x7 : Vec Ideal S8x4096x3072 .f32)
  (x8 : Vec Ideal S2x128 .f32) (x9 x10 x11 : Vec Ideal S2x512x1024 .f32) (x12 : Vec Ideal S2x1024x1024 .f32)
  (x13 : Vec Ideal S2x1024 .f32) (x14 : Vec Ideal S2x1024x4096 .f32) (x15 : Vec Ideal S2x4096x1024 .f32)
  (x16 : Vec Ideal S1024 .f32) (b : Fin 8) (t : Fin 4096)

/-- The modulation rows of batch `b`. -/
abbrev modR : Fin 6 → Fin 1024 → EReal := fun k l => x1 (ix3 1 b ⟨1024 * k.val + l.val, by omega⟩)
/-- The sum of the two GLA outputs at token `t`. -/
abbrev oR : Fin 512 → EReal := fun l =>
  x3 (ix4 b ⟨l.val / 128, by omega⟩ t ⟨l.val % 128, by omega⟩) + x4 (ix4 b ⟨l.val / 128, by omega⟩ t.rev ⟨l.val % 128, by omega⟩)
/-- The GLA branch's output at token `t`. -/
abbrev glaR : Fin 512 → EReal := gla (oR x3 x4 b t) (fun l => x8 (ix2 1 l)) (fun l => x5 (ix3 b t l) * logis (x5 (ix3 b t l)))
/-- Token `t` with the mixed branches added. -/
abbrev xR : Fin 1024 → EReal :=
  step (fun l => x0 (ix3 b t l)) (modR x1 b 2)
    (mixed (fun j => logis (x7 (ix3 b t j))) (fun l => x2 (ix3 b t l)) (glaR x3 x4 x5 x8 b t) (fun l => x6 (ix3 b t l))
      (fun k l => x9 (ix3 1 k l)) (fun k l => x10 (ix3 1 k l)) (fun k l => x11 (ix3 1 k l))) (fun k l => x12 (ix3 1 k l))

theorem o_apply (b : Fin 8) (h : Fin 4) (t : Fin 4096) (l : Fin 128) :
    val_main_v10 x3 x4 (ix4 b h t l) = x3 (ix4 b h t l) + x4 (ix4 b h t.rev l) := by
  unfold val_main_v10 val_main_v9
  pointwise
  rfl

theorem v20_apply (b : Fin 8) (h : Fin 4) (t : Fin 4096) (l : Fin 128) :
    val_main_v22 x3 x4 (ix4 b h t l) = rms c128 (fun k => x3 (ix4 b h t k) + x4 (ix4 b h t.rev k)) l := by
  have h := o_apply x3 x4
  unfold val_main_v22 val_main_v21 val_main_v20 val_main_v19 val_main_v18 val_main_cst_1 val_main_v17 val_main_v16 val_main_cst_0 val_main_v15 val_main_v14 val_main_cst val_main_v13
  generalize val_main_v10 x3 x4 = y at h ⊢
  unfold rms
  pointwise
  simp only [h]
  try rfl

theorem gla_apply (l : Fin 512) : val_main_v29 x3 x4 x5 x8 (ix3 b t l) = glaR x3 x4 x5 x8 b t l := by
  have h := v20_apply x3 x4
  unfold val_main_v29 val_main_v28 val_main_call1_v5 val_main_call1_v4 val_main_call1_cst_0 val_main_call1_v3 val_main_call1_v2 val_main_call1_cst val_main_call1_v1 val_main_call1_v0 val_main_v27 val_main_v26 val_main_v25 val_main_v24 val_main_v23 val_main_v12 val_main_v11
  generalize val_main_v22 x3 x4 = y at h ⊢
  unfold glaR gla logis
  pointwise
  simp only [h, oR, show ∀ k : Fin 128, (128 * (l.val / 128) + k.val) / 128 = l.val / 128 by intro k; omega,
    show ∀ k : Fin 128, (128 * (l.val / 128) + k.val) % 128 = k.val by intro k; omega, Fin.eta]

theorem mixed_apply (j : Fin 1024) : val_main_v52 x2 x3 x4 x5 x6 x7 x8 x9 x10 x11 (ix3 b t j)
    = mixed (fun j => logis (x7 (ix3 b t j))) (fun l => x2 (ix3 b t l)) (glaR x3 x4 x5 x8 b t) (fun l => x6 (ix3 b t l))
      (fun k l => x9 (ix3 1 k l)) (fun k l => x10 (ix3 1 k l)) (fun k l => x11 (ix3 1 k l)) j := by
  have h := gla_apply x3 x4 x5 x8
  unfold val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_cst_3 val_main_v33 val_main_v32 val_main_cst_2 val_main_v31 val_main_v30
  generalize val_main_v29 x3 x4 x5 x8 = y at h ⊢
  unfold mixed logis
  pointwise
  simp only [h]
  try rfl

theorem x_apply (l : Fin 1024) : val_main_v58 x0 x1 x2 x3 x4 x5 x6 x7 x8 x9 x10 x11 x12 (ix3 b t l) = xR x0 x1 x2 x3 x4 x5 x6 x7 x8 x9 x10 x11 x12 b t l := by
  have h := mixed_apply x2 x3 x4 x5 x6 x7 x8 x9 x10 x11
  unfold val_main_v58 val_main_v57 val_main_v56 val_main_v55 val_main_v54 val_main_v53 val_main_v5 val_main_v2 val_main_v1 val_main_v0
  generalize val_main_v52 x2 x3 x4 x5 x6 x7 x8 x9 x10 x11 = y at h ⊢
  unfold xR step
  pointwise
  simp only [h]
  try rfl

theorem ff_apply (l : Fin 1024) : val_main_v79 x0 x1 x2 x3 x4 x5 x6 x7 x8 x9 x10 x11 x12 x13 (ix3 b t l)
    = ffIn (xR x0 x1 x2 x3 x4 x5 x6 x7 x8 x9 x10 x11 x12 b t) (fun l => x13 (ix2 1 l)) (modR x1 b 4) (modR x1 b 3) l := by
  have h := x_apply x0 x1 x2 x3 x4 x5 x6 x7 x8 x9 x10 x11 x12
  unfold val_main_v79 val_main_v78 val_main_v77 val_main_v76 val_main_v75 val_main_v74 val_main_cst_7 val_main_v73 val_main_v72 val_main_v71 val_main_v70 val_main_v69 val_main_v68 val_main_v67 val_main_v66 val_main_cst_6 val_main_v65 val_main_v64 val_main_cst_5 val_main_v63 val_main_v62 val_main_cst_4 val_main_v61 val_main_v60 val_main_v59 val_main_v7 val_main_v6 val_main_v2 val_main_v1 val_main_v0
  generalize val_main_v58 x0 x1 x2 x3 x4 x5 x6 x7 x8 x9 x10 x11 x12 = y at h ⊢
  unfold ffIn rms
  pointwise
  simp only [h]
  try rfl

theorem act_apply (j : Fin 4096) : val_main_v84 x0 x1 x2 x3 x4 x5 x6 x7 x8 x9 x10 x11 x12 x13 x14 (ix3 b t j)
    = act (ffIn (xR x0 x1 x2 x3 x4 x5 x6 x7 x8 x9 x10 x11 x12 b t) (fun l => x13 (ix2 1 l)) (modR x1 b 4) (modR x1 b 3))
        (fun k l => x14 (ix3 1 k l)) j := by
  have h := ff_apply x0 x1 x2 x3 x4 x5 x6 x7 x8 x9 x10 x11 x12 x13
  unfold val_main_v84 val_main_v83 val_main_call2_v0 val_main_call2_cst val_main_v82 val_main_v81 val_main_v80
  generalize val_main_v79 x0 x1 x2 x3 x4 x5 x6 x7 x8 x9 x10 x11 x12 x13 = y at h ⊢
  unfold act
  pointwise
  simp only [h]
  try rfl

theorem mlp_apply (l : Fin 1024) : val_main_v87 x0 x1 x2 x3 x4 x5 x6 x7 x8 x9 x10 x11 x12 x13 x14 x15 (ix3 b t l)
    = mlp (ffIn (xR x0 x1 x2 x3 x4 x5 x6 x7 x8 x9 x10 x11 x12 b t) (fun l => x13 (ix2 1 l)) (modR x1 b 4) (modR x1 b 3))
        (fun k l => x14 (ix3 1 k l)) (fun k l => x15 (ix3 1 k l)) l := by
  have h := act_apply x0 x1 x2 x3 x4 x5 x6 x7 x8 x9 x10 x11 x12 x13 x14
  unfold val_main_v87 val_main_v86 val_main_v85
  generalize val_main_v84 x0 x1 x2 x3 x4 x5 x6 x7 x8 x9 x10 x11 x12 x13 x14 = y at h ⊢
  unfold mlp
  pointwise
  simp only [h]
  try rfl

theorem after_apply (l : Fin 1024) : val_main_v90 x0 x1 x2 x3 x4 x5 x6 x7 x8 x9 x10 x11 x12 x13 x14 x15 (ix3 b t l)
    = after (xR x0 x1 x2 x3 x4 x5 x6 x7 x8 x9 x10 x11 x12 b t) (modR x1 b) (fun l => x13 (ix2 1 l)) (fun k l => x14 (ix3 1 k l))
        (fun k l => x15 (ix3 1 k l)) l := by
  have h := x_apply x0 x1 x2 x3 x4 x5 x6 x7 x8 x9 x10 x11 x12
  have h' := mlp_apply x0 x1 x2 x3 x4 x5 x6 x7 x8 x9 x10 x11 x12 x13 x14 x15
  unfold val_main_v90 val_main_v89 val_main_v88 val_main_v8 val_main_v2 val_main_v1 val_main_v0
  generalize val_main_v58 x0 x1 x2 x3 x4 x5 x6 x7 x8 x9 x10 x11 x12 = y at h ⊢
  generalize val_main_v87 x0 x1 x2 x3 x4 x5 x6 x7 x8 x9 x10 x11 x12 x13 x14 x15 = y' at h' ⊢
  unfold after
  pointwise
  simp only [h, h']
  try rfl

/-- The reference's result. -/
theorem result_apply (l : Fin 1024) : val_main_v103 x0 x1 x2 x3 x4 x5 x6 x7 x8 x9 x10 x11 x12 x13 x14 x15 x16 (ix3 b t l)
    = token (fun l => x0 (ix3 b t l)) (modR x1 b) (fun l => x2 (ix3 b t l)) (oR x3 x4 b t) (fun l => x5 (ix3 b t l) * logis (x5 (ix3 b t l)))
        (fun l => x6 (ix3 b t l)) (fun j => logis (x7 (ix3 b t j))) (fun l => x8 (ix2 1 l)) (fun k l => x9 (ix3 1 k l))
        (fun k l => x10 (ix3 1 k l)) (fun k l => x11 (ix3 1 k l)) (fun k l => x12 (ix3 1 k l)) (fun l => x13 (ix2 1 l))
        (fun k l => x14 (ix3 1 k l)) (fun k l => x15 (ix3 1 k l)) (fun l => x16 (ix1 l)) l := by
  have h := after_apply x0 x1 x2 x3 x4 x5 x6 x7 x8 x9 x10 x11 x12 x13 x14 x15
  unfold val_main_v103 val_main_v102 val_main_v101 val_main_v100 val_main_v99 val_main_v98 val_main_v97 val_main_v96 val_main_cst_10 val_main_v95 val_main_v94 val_main_cst_9 val_main_v93 val_main_v92 val_main_cst_8 val_main_v91
  generalize val_main_v90 x0 x1 x2 x3 x4 x5 x6 x7 x8 x9 x10 x11 x12 x13 x14 x15 = y at h ⊢
  unfold token rms
  pointwise
  simp only [h]
  try rfl

end Cert.MergeRefIdeal.Merge

end
-- ==== Proof.MergeEq.lean ====
/- The merge call's result is its reference's: both are `MergeRow.token` of each token's rows. -/
module

public import proofs.«01_k».proof.Proof.MergeArray
public import proofs.«01_k».proof.Proof.MergeRef

@[expose] public section

set_option maxRecDepth 16384

noncomputable section

namespace Cert.MergeIdeal.Merge

open Cert.MergeIdeal Cert.MergeIdeal.Gen Idealize.ShloMosaic Idealize.ShloMosaic.TcCoe Idealize.SL.Sem

variable (m : (ℓ : Loc nD τ sig) → Buf (Elt Ideal) ℓ) (c : Dev nD)

/-- The two results are one array. -/
theorem result_eq :
    ((dats m 0 c).arrAt 20 cfg0.N : Vec Ideal S8x4096x1024 .f32)
      = Cert.MergeRefIdeal.Read.val_main_v103 (a0 m c) (a1 m c) (a2 m c) (a3 m c) (a4 m c) (a5 m c) (a6 m c) (a7 m c) (a8 m c) (a9 m c) (a10 m c) (a11 m c) (a12 m c) (a13 m c) (a14 m c) (a15 m c) (a16 m c) := by
  funext i
  obtain ⟨b, s, l, rfl⟩ : ∃ (b : Fin 8) (s : Fin 4096) (l : Fin 1024), i = ix3 b s l := ⟨i 0, i 1, i 2, eq_ix3 i⟩
  exact (arr_apply m c b s l).trans
    (Cert.MergeRefIdeal.Merge.result_apply (a0 m c) (a1 m c) (a2 m c) (a3 m c) (a4 m c) (a5 m c) (a6 m c) (a7 m c) (a8 m c) (a9 m c) (a10 m c) (a11 m c) (a12 m c) (a13 m c) (a14 m c) (a15 m c) (a16 m c) b s l).symm

end Cert.MergeIdeal.Merge

end
-- ==== Proof.FirstBlock.lean ====
/- What one grid point of the first layer's merge kernel stores, at an element.

   A grid point holds 256 tokens of one batch. The first 16 tiles are latent tokens and the last is the context: there the
   kernel reads the token, the attention branch and the long-convolution branch from the context's blocks. Row `r` of the
   block it stores is the layer function of `MergeRow` of row `r` of the blocks it reads. -/
module

public import proofs.«01_k».proof.Proof.Gen.FirstIdeal.Frame
public import proofs.«01_k».proof.Proof.MergeRow
public import Idealize.ShloMosaic.Lib.Pointwise

@[expose] public section

set_option maxRecDepth 16384

noncomputable section

namespace Cert.FirstIdeal.First

open Cert.FirstIdeal Cert.FirstIdeal.Gen Idealize.ShloMosaic Idealize.ShloMosaic.TcCoe Idealize.SL.Sem Cert.MergeRow

variable (i : grid0.Coords) (x0 x1 : Vec Ideal S1x256x1024 .f32) (x2 : Vec Ideal S1x6x1024 .f32) (x3 x4 x5 x6 x7 : Vec Ideal S1x256x512 .bf16)
  (x8 x9 : Vec Ideal S1x256x512 .f32) (x10 : Vec Ideal S1x256x3072 .bf16) (x11 : Vec Ideal S1x128 .f32)
  (x12 x13 x14 : Vec Ideal S512x1024 .bf16) (x15 : Vec Ideal S1024x1024 .bf16) (x16 : Vec Ideal S1x1024 .f32)
  (x17 : Vec Ideal S1024x4096 .bf16) (x18 : Vec Ideal S4096x1024 .bf16) (x19 : Vec Ideal S1x1024 .f32) (r : Fin 256)

/-- Whether the point's tile is one of latent tokens, as the kernel decides it. -/
abbrev lat : BitVec 1 := Scalar.cmpi .slt (BitVec.ofNat 32 (i 1).val) 16#32

/-- The kernel's choice between the latent's and the context's block. -/
theorem pick {α : Type} (a b : α) : Scalar.select (lat i) a b = if (i 1).val < 16 then a else b := by
  have h : ∀ n : Fin 17, Scalar.cmpi .slt (BitVec.ofNat 32 n.val) 16#32 = if n.val < 16 then (1 : BitVec 1) else 0 := by decide
  rw [show lat i = _ from h (i 1)]
  unfold Scalar.select
  by_cases hi : (i 1).val < 16
  · rw [if_pos hi, if_pos hi, if_pos rfl]
  · rw [if_neg hi, if_neg hi, if_neg (by decide)]

/-- The block's modulation rows. -/
abbrev modB : Fin 6 → Fin 1024 → EReal := fun k l => x2 (ix3 0 k l)
/-- The GLA branch's output at row `r`. -/
abbrev glaB : Fin 512 → EReal :=
  gla (fun l => x5 (ix3 0 r l) + x6 (ix3 0 r l)) (fun l => x11 (ix2 0 l)) (fun l => x7 (ix3 0 r l))
/-- The gated sum of the branches at row `r`. -/
abbrev mixB : Fin 1024 → EReal :=
  mixed (fun l => x10 (ix3 0 r l)) (fun l => Scalar.select (lat i) (x3 (ix3 0 r l)) (x4 (ix3 0 r l))) (glaB x5 x6 x7 x11 r)
    (fun l => Scalar.select (lat i) (x8 (ix3 0 r l)) (x9 (ix3 0 r l)))
    (fun k l => x12 (ix2 k l)) (fun k l => x13 (ix2 k l)) (fun k l => x14 (ix2 k l))
/-- Row `r` with the mixed branches added. -/
abbrev xB : Fin 1024 → EReal :=
  step (fun l => Scalar.select (lat i) (x0 (ix3 0 r l)) (x1 (ix3 0 r l))) (modB x2 2)
    (mixB i x3 x4 x5 x6 x7 x8 x9 x10 x11 x12 x13 x14 r) (fun k l => x15 (ix2 k l))
/-- The MLP's input at row `r`. -/
abbrev hB (x : Fin 1024 → EReal) : Fin 1024 → EReal := ffIn x (fun l => x16 (ix2 0 l)) (modB x2 4) (modB x2 3)

theorem p6 (l : Fin 512) :
    k0_pay6 (k0_pay2 (View.ld x5 r0_0) (View.ld x6 r0_0)) (k0_pay3 (View.ld x7 r0_0)) (k0_pay4 (View.ld x5 r0_0) (View.ld x6 r0_0) (View.ld x7 r0_0) (View.ld x11 r0_1))
      (k0_pay5 (View.ld x5 r0_0) (View.ld x6 r0_0)) (View.ld x11 r0_1) (View.ld x11 r0_1) (View.ld x11 r0_1) (ix2 r l)
      = glaB x5 x6 x7 x11 r l := by
  unfold k0_pay6 k0_pay5 k0_pay4 k0_pay3 k0_pay2 glaB gla rms
  pointwise
  by_cases h0 : l.val < 128
  · simp only [h0, dite_true, show l.val / 128 = 0 by omega, show l.val % 128 = l.val by omega, Nat.mul_zero, Nat.zero_add, Fin.eta]
  · by_cases h1 : l.val - 128 < 128
    · simp only [h0, h1, dite_true, dite_false, show l.val / 128 = 1 by omega, show l.val % 128 = l.val - 128 by omega,
        show 128 + (l.val - 128) = l.val by omega, Nat.mul_one, Fin.eta]
    · by_cases h2 : l.val - 128 - 128 < 128
      · simp only [h0, h1, h2, dite_true, dite_false, show l.val / 128 = 2 by omega, show l.val % 128 = l.val - 128 - 128 by omega,
          show 256 + (l.val - 128 - 128) = l.val by omega, Nat.reduceMul, Fin.eta]
      · simp only [h0, h1, h2, dite_false, show l.val / 128 = 3 by omega, show l.val % 128 = l.val - 128 - 128 - 128 by omega,
          show 384 + (l.val - 128 - 128 - 128) = l.val by omega, Nat.reduceMul, Fin.eta]

theorem p14 (l : Fin 1024) : k0_pay14 i x0 x1 x2 x3 x4 x5 x6 x7 x8 x9 x10 x11 x12 x13 x14 x15 x16 x17 x18 x19 (ix2 r l)
    = ∑ k, mixB i x3 x4 x5 x6 x7 x8 x9 x10 x11 x12 x13 x14 r k * x15 (ix2 k l) := by
  have hg := p6 x5 x6 x7 x11 r
  unfold k0_pay14
  generalize k0_pay6 (k0_pay2 (View.ld x5 r0_0) (View.ld x6 r0_0)) (k0_pay3 (View.ld x7 r0_0)) (k0_pay4 (View.ld x5 r0_0) (View.ld x6 r0_0) (View.ld x7 r0_0) (View.ld x11 r0_1))
      (k0_pay5 (View.ld x5 r0_0) (View.ld x6 r0_0)) (View.ld x11 r0_1) (View.ld x11 r0_1) (View.ld x11 r0_1) = y at hg ⊢
  unfold k0_pay8 k0_pay7 mixB mixed
  pointwise
  simp only [hg]

theorem p9 (l : Fin 1024) : k0_pay9 (BitVec.ofNat 32 (i 1).val) (k0_pay14 i x0 x1 x2 x3 x4 x5 x6 x7 x8 x9 x10 x11 x12 x13 x14 x15 x16 x17 x18 x19) (View.ld x0 r0_5) (View.ld x1 r0_5) (View.ld x2 r0_6) (ix2 r l) = xB i x0 x1 x2 x3 x4 x5 x6 x7 x8 x9 x10 x11 x12 x13 x14 x15 r l := by
  have h := p14 i x0 x1 x2 x3 x4 x5 x6 x7 x8 x9 x10 x11 x12 x13 x14 x15 x16 x17 x18 x19 r
  generalize k0_pay14 i x0 x1 x2 x3 x4 x5 x6 x7 x8 x9 x10 x11 x12 x13 x14 x15 x16 x17 x18 x19 = y at h ⊢
  unfold k0_pay9 xB step
  pointwise
  simp only [h]

theorem p15 (l : Fin 1024) : k0_pay15 i x0 x1 x2 x3 x4 x5 x6 x7 x8 x9 x10 x11 x12 x13 x14 x15 x16 x17 x18 x19 (ix2 r l) = hB x2 x16 (xB i x0 x1 x2 x3 x4 x5 x6 x7 x8 x9 x10 x11 x12 x13 x14 x15 r) l := by
  have hx := p9 i x0 x1 x2 x3 x4 x5 x6 x7 x8 x9 x10 x11 x12 x13 x14 x15 x16 x17 x18 x19 r
  unfold k0_pay15 k0_pay10
  generalize k0_pay9 (BitVec.ofNat 32 (i 1).val) (k0_pay14 i x0 x1 x2 x3 x4 x5 x6 x7 x8 x9 x10 x11 x12 x13 x14 x15 x16 x17 x18 x19) (View.ld x0 r0_5) (View.ld x1 r0_5) (View.ld x2 r0_6) = y at hx ⊢
  unfold hB ffIn rms
  pointwise
  simp only [hx]
  rw [mul_assoc (_ * _)]

theorem p12 (l : Fin 1024) : k0_pay12 (k0_pay15 i x0 x1 x2 x3 x4 x5 x6 x7 x8 x9 x10 x11 x12 x13 x14 x15 x16 x17 x18 x19) (k0_pay11 (F := Ideal)) (View.ld x17 r0_10) (View.ld x18 r0_11) (View.ld x17 r0_12) (View.ld x18 r0_13)
      (View.ld x17 r0_14) (View.ld x18 r0_15) (ix2 r l)
    = 0 + (∑ j : Fin 1024, act (hB x2 x16 (xB i x0 x1 x2 x3 x4 x5 x6 x7 x8 x9 x10 x11 x12 x13 x14 x15 r)) (fun k l => x17 (ix2 k l)) ⟨j, by omega⟩ * x18 (ix2 ⟨j, by omega⟩ l))
      + (∑ j : Fin 1024, act (hB x2 x16 (xB i x0 x1 x2 x3 x4 x5 x6 x7 x8 x9 x10 x11 x12 x13 x14 x15 r)) (fun k l => x17 (ix2 k l)) ⟨1024 + j, by omega⟩ * x18 (ix2 ⟨1024 + j, by omega⟩ l))
      + (∑ j : Fin 1024, act (hB x2 x16 (xB i x0 x1 x2 x3 x4 x5 x6 x7 x8 x9 x10 x11 x12 x13 x14 x15 r)) (fun k l => x17 (ix2 k l)) ⟨2048 + j, by omega⟩ * x18 (ix2 ⟨2048 + j, by omega⟩ l)) := by
  have hh := p15 i x0 x1 x2 x3 x4 x5 x6 x7 x8 x9 x10 x11 x12 x13 x14 x15 x16 x17 x18 x19 r
  generalize k0_pay15 i x0 x1 x2 x3 x4 x5 x6 x7 x8 x9 x10 x11 x12 x13 x14 x15 x16 x17 x18 x19 = y at hh ⊢
  unfold k0_pay12 k0_pay11 act
  pointwise
  simp only [hh]
  try rfl

theorem p13 (l : Fin 1024) : k0_pay13 (k0_pay15 i x0 x1 x2 x3 x4 x5 x6 x7 x8 x9 x10 x11 x12 x13 x14 x15 x16 x17 x18 x19) (View.ld x17 r0_16) (ix2 r l)
    = ∑ k, hB x2 x16 (xB i x0 x1 x2 x3 x4 x5 x6 x7 x8 x9 x10 x11 x12 x13 x14 x15 r) k * x17 (ix2 k ⟨3072 + l, by omega⟩) := by
  have hh := p15 i x0 x1 x2 x3 x4 x5 x6 x7 x8 x9 x10 x11 x12 x13 x14 x15 x16 x17 x18 x19 r
  generalize k0_pay15 i x0 x1 x2 x3 x4 x5 x6 x7 x8 x9 x10 x11 x12 x13 x14 x15 x16 x17 x18 x19 = y at hh ⊢
  unfold k0_pay13
  pointwise
  simp only [hh]

theorem hz3 : ∀ a : Fin 3, (![0, 0, 0] : Fin 3 → Nat) a = 0 := fun a => by fin_cases a <;> rfl

/-- The block stored, at row `r` and lane `l`. -/
theorem block_apply (l : Fin 1024) :
    out0_20 i x0 x1 x2 x3 x4 x5 x6 x7 x8 x9 x10 x11 x12 x13 x14 x15 x16 x17 x18 x19 (ix3 0 r l)
      = after (xB i x0 x1 x2 x3 x4 x5 x6 x7 x8 x9 x10 x11 x12 x13 x14 x15 r) (modB x2) (fun l => x16 (ix2 0 l)) (fun k l => x17 (ix2 k l)) (fun k l => x18 (ix2 k l)) l := by
  have h9 := p9 i x0 x1 x2 x3 x4 x5 x6 x7 x8 x9 x10 x11 x12 x13 x14 x15 x16 x17 x18 x19 r
  have h12 := p12 i x0 x1 x2 x3 x4 x5 x6 x7 x8 x9 x10 x11 x12 x13 x14 x15 x16 x17 x18 x19 r
  have h13 := p13 i x0 x1 x2 x3 x4 x5 x6 x7 x8 x9 x10 x11 x12 x13 x14 x15 x16 x17 x18 x19 r
  unfold out0_20
  rw [View.canon_unit_zero (funext hz3)]
  generalize k0_pay9 (BitVec.ofNat 32 (i 1).val) (k0_pay14 i x0 x1 x2 x3 x4 x5 x6 x7 x8 x9 x10 x11 x12 x13 x14 x15 x16 x17 x18 x19) (View.ld x0 r0_5) (View.ld x1 r0_5) (View.ld x2 r0_6) = a at h9 ⊢
  generalize k0_pay12 (k0_pay15 i x0 x1 x2 x3 x4 x5 x6 x7 x8 x9 x10 x11 x12 x13 x14 x15 x16 x17 x18 x19) (k0_pay11 (F := Ideal)) (View.ld x17 r0_10) (View.ld x18 r0_11) (View.ld x17 r0_12) (View.ld x18 r0_13)
      (View.ld x17 r0_14) (View.ld x18 r0_15) = b at h12 ⊢
  generalize k0_pay13 (k0_pay15 i x0 x1 x2 x3 x4 x5 x6 x7 x8 x9 x10 x11 x12 x13 x14 x15 x16 x17 x18 x19) (View.ld x17 r0_16) = d at h13 ⊢
  unfold k0_pay1 after mlp
  rw [← mlp_chunks]
  pointwise
  simp only [h9, h12, h13, zero_add]
  rfl

end Cert.FirstIdeal.First

end
-- ==== Proof.FirstHost.lean ====
/- The packed arrays the first layer's merge call reads, at an element.

   The host code before the call puts the 256 context rows after the 4096 latent rows, turns the backward GLA outputs round
   and lays the heads of the GLA outputs side by side, applies the gates' nonlinearities, puts the context's modulation
   after the batches', and takes the first layer's weights. -/
module

public import proofs.«01_k».proof.Proof.MergeRow
public import proofs.«01_k».proof.Proof.Gen.FirstIdeal.Value
public import Idealize.ShloMosaic.Lib.Tactic.CleanTypes
public import Idealize.ShloMosaic.Lib.StableHlo.ReadAt
public import Idealize.ShloMosaic.Lib.Pointwise

@[expose] public section

set_option maxRecDepth 16384

noncomputable section

namespace Cert.FirstIdeal.First

open Cert.FirstIdeal Cert.FirstIdeal.Gen Idealize.ShloMosaic Idealize.ShloMosaic.TcCoe Idealize.SL.Sem Cert.MergeRow

variable (m : (ℓ : Loc nD τ sig) → Buf (Elt Ideal) ℓ) (c : Dev nD)

/-! ## The arguments -/

/-- The latent tokens. -/
abbrev a0 : Vec Ideal S8x4096x1024 .f32 := m ((c : Thread nD τ).loc main_arg0)
/-- The context's tokens. -/
abbrev a1 : Vec Ideal S8x256x1024 .f32 := m ((c : Thread nD τ).loc main_arg1)
/-- The modulation of both layers. -/
abbrev a2 : Vec Ideal S2x8x6144 .f32 := m ((c : Thread nD τ).loc main_arg2)
/-- The context's modulation of both layers. -/
abbrev a3 : Vec Ideal S2x6144 .f32 := m ((c : Thread nD τ).loc main_arg3)
/-- The attention branch's output. -/
abbrev a4 : Vec Ideal S8x4096x512 .f32 := m ((c : Thread nD τ).loc main_arg4)
/-- The attention branch's output on the context. -/
abbrev a5 : Vec Ideal S8x256x512 .f32 := m ((c : Thread nD τ).loc main_arg5)
/-- The forward GLA output. -/
abbrev a6 : Vec Ideal S8x4x4096x128 .f32 := m ((c : Thread nD τ).loc main_arg6)
/-- The backward GLA output, last token first. -/
abbrev a7 : Vec Ideal S8x4x4096x128 .f32 := m ((c : Thread nD τ).loc main_arg7)
/-- The forward GLA output on the context. -/
abbrev a8 : Vec Ideal S8x4x256x128 .f32 := m ((c : Thread nD τ).loc main_arg8)
/-- The backward GLA output on the context, last token first. -/
abbrev a9 : Vec Ideal S8x4x256x128 .f32 := m ((c : Thread nD τ).loc main_arg9)
/-- The GLA branch's gate, before its nonlinearity. -/
abbrev a10 : Vec Ideal S8x4096x512 .f32 := m ((c : Thread nD τ).loc main_arg10)
/-- The same on the context. -/
abbrev a11 : Vec Ideal S8x256x512 .f32 := m ((c : Thread nD τ).loc main_arg11)
/-- The long-convolution branch's output. -/
abbrev a12 : Vec Ideal S8x4096x512 .f32 := m ((c : Thread nD τ).loc main_arg12)
/-- The same on the context. -/
abbrev a13 : Vec Ideal S8x256x512 .f32 := m ((c : Thread nD τ).loc main_arg13)
/-- The branch gates, before their nonlinearity. -/
abbrev a14 : Vec Ideal S8x4096x3072 .f32 := m ((c : Thread nD τ).loc main_arg14)
/-- The same on the context. -/
abbrev a15 : Vec Ideal S8x256x3072 .f32 := m ((c : Thread nD τ).loc main_arg15)
/-- The scale of the GLA normalization. -/
abbrev a16 : Vec Ideal S2x128 .f32 := m ((c : Thread nD τ).loc main_arg16)
/-- The attention branch's projection. -/
abbrev a17 : Vec Ideal S2x512x1024 .f32 := m ((c : Thread nD τ).loc main_arg17)
/-- The GLA branch's projection. -/
abbrev a18 : Vec Ideal S2x512x1024 .f32 := m ((c : Thread nD τ).loc main_arg18)
/-- The long-convolution branch's projection. -/
abbrev a19 : Vec Ideal S2x512x1024 .f32 := m ((c : Thread nD τ).loc main_arg19)
/-- The output projection. -/
abbrev a20 : Vec Ideal S2x1024x1024 .f32 := m ((c : Thread nD τ).loc main_arg20)
/-- The scale of the normalization before the MLP. -/
abbrev a21 : Vec Ideal S2x1024 .f32 := m ((c : Thread nD τ).loc main_arg21)
/-- The MLP's first matrix. -/
abbrev a22 : Vec Ideal S2x1024x4096 .f32 := m ((c : Thread nD τ).loc main_arg22)
/-- The MLP's second matrix. -/
abbrev a23 : Vec Ideal S2x4096x1024 .f32 := m ((c : Thread nD τ).loc main_arg23)

/-! ## The packed arrays -/

theorem xL_apply (b : Fin 8) (t : Fin 4096) (l : Fin 1024) :
    (V m c main_arg0 : Vec Ideal S8x4096x1024 .f32) (ix3 b t l) = a0 m c (ix3 b t l) := by
  unfold_abbrev_sides
  after_reads_at

theorem ymlaL_apply (b : Fin 8) (t : Fin 4096) (l : Fin 512) :
    (V m c main_v24 : Vec Ideal S8x4096x512 .bf16) (ix3 b t l) = a4 m c (ix3 b t l) := by
  unfold_abbrev_sides
  after_reads_at

theorem yhyL_apply (b : Fin 8) (t : Fin 4096) (l : Fin 512) :
    (V m c main_arg12 : Vec Ideal S8x4096x512 .f32) (ix3 b t l) = a12 m c (ix3 b t l) := by
  unfold_abbrev_sides
  after_reads_at

theorem ofL_apply (b : Fin 8) (t : Fin 4096) (l : Fin 512) :
    (V m c main_v13 : Vec Ideal S8x4352x512 .bf16) (ix3 b ⟨t, by omega⟩ l) = a6 m c (ix4 b ⟨l.val / 128, by omega⟩ t ⟨l.val % 128, by omega⟩) := by
  unfold_abbrev_sides
  after_reads_at
  try after_reads_at

theorem obL_apply (b : Fin 8) (t : Fin 4096) (l : Fin 512) :
    (V m c main_v21 : Vec Ideal S8x4352x512 .bf16) (ix3 b ⟨t, by omega⟩ l) = a7 m c (ix4 b ⟨l.val / 128, by omega⟩ t.rev ⟨l.val % 128, by omega⟩) := by
  unfold_abbrev_sides
  after_reads_at
  try after_reads_at
  try rfl

theorem grL_apply (b : Fin 8) (t : Fin 4096) (l : Fin 512) :
    (V m c main_v33 : Vec Ideal S8x4352x512 .bf16) (ix3 b ⟨t, by omega⟩ l) = a10 m c (ix3 b t l) * logis (a10 m c (ix3 b t l)) := by
  unfold_abbrev_sides
  unfold logis
  after_reads_at
  try after_reads_at
  try rfl

theorem zgL_apply (b : Fin 8) (t : Fin 4096) (l : Fin 3072) :
    (V m c main_v40 : Vec Ideal S8x4352x3072 .bf16) (ix3 b ⟨t, by omega⟩ l) = logis (a14 m c (ix3 b t l)) := by
  unfold_abbrev_sides
  unfold logis
  after_reads_at
  try after_reads_at

theorem xC_apply (b : Fin 8) (t : Fin 256) (l : Fin 1024) :
    (V m c main_arg1 : Vec Ideal S8x256x1024 .f32) (ix3 b t l) = a1 m c (ix3 b t l) := by
  unfold_abbrev_sides
  after_reads_at

theorem ymlaC_apply (b : Fin 8) (t : Fin 256) (l : Fin 512) :
    (V m c main_v25 : Vec Ideal S8x256x512 .bf16) (ix3 b t l) = a5 m c (ix3 b t l) := by
  unfold_abbrev_sides
  after_reads_at

theorem yhyC_apply (b : Fin 8) (t : Fin 256) (l : Fin 512) :
    (V m c main_arg13 : Vec Ideal S8x256x512 .f32) (ix3 b t l) = a13 m c (ix3 b t l) := by
  unfold_abbrev_sides
  after_reads_at

theorem ofC_apply (b : Fin 8) (t : Fin 256) (l : Fin 512) :
    (V m c main_v13 : Vec Ideal S8x4352x512 .bf16) (ix3 b ⟨4096 + t, by omega⟩ l) = a8 m c (ix4 b ⟨l.val / 128, by omega⟩ t ⟨l.val % 128, by omega⟩) := by
  unfold_abbrev_sides
  after_reads_at
  try after_reads_at

theorem obC_apply (b : Fin 8) (t : Fin 256) (l : Fin 512) :
    (V m c main_v21 : Vec Ideal S8x4352x512 .bf16) (ix3 b ⟨4096 + t, by omega⟩ l) = a9 m c (ix4 b ⟨l.val / 128, by omega⟩ t.rev ⟨l.val % 128, by omega⟩) := by
  unfold_abbrev_sides
  after_reads_at
  try after_reads_at
  try rfl

theorem grC_apply (b : Fin 8) (t : Fin 256) (l : Fin 512) :
    (V m c main_v33 : Vec Ideal S8x4352x512 .bf16) (ix3 b ⟨4096 + t, by omega⟩ l) = a11 m c (ix3 b t l) * logis (a11 m c (ix3 b t l)) := by
  unfold_abbrev_sides
  unfold logis
  after_reads_at
  try after_reads_at
  try rfl

theorem zgC_apply (b : Fin 8) (t : Fin 256) (l : Fin 3072) :
    (V m c main_v40 : Vec Ideal S8x4352x3072 .bf16) (ix3 b ⟨4096 + t, by omega⟩ l) = logis (a15 m c (ix3 b t l)) := by
  unfold_abbrev_sides
  unfold logis
  after_reads_at
  try after_reads_at

theorem modL_apply (b : Fin 8) (k : Fin 6) (l : Fin 1024) :
    (V m c main_v7 : Vec Ideal S16x6x1024 .f32) (ix3 ⟨b, by omega⟩ k l) = a2 m c (ix3 0 b ⟨1024 * k.val + l.val, by omega⟩) := by
  unfold_abbrev_sides
  after_reads_at
  try after_reads_at
  try simp only [Nat.mul_comm 1024]

theorem modC_apply (k : Fin 6) (l : Fin 1024) :
    (V m c main_v7 : Vec Ideal S16x6x1024 .f32) (ix3 8 k l) = a3 m c (ix2 0 ⟨1024 * k.val + l.val, by omega⟩) := by
  unfold_abbrev_sides
  after_reads_at
  try after_reads_at
  try simp only [Nat.mul_comm 1024]

theorem on_apply (l : Fin 128) :
    (V m c main_v57 : Vec Ideal S1x128 .f32) (ix2 0 l) = a16 m c (ix2 0 l) := by
  unfold_abbrev_sides
  after_reads_at

theorem wm_apply (k : Fin 512) (l : Fin 1024) :
    (V m c main_v58 : Vec Ideal S512x1024 .bf16) (ix2 k l) = a17 m c (ix3 0 k l) := by
  unfold_abbrev_sides
  after_reads_at

theorem wgl_apply (k : Fin 512) (l : Fin 1024) :
    (V m c main_v59 : Vec Ideal S512x1024 .bf16) (ix2 k l) = a18 m c (ix3 0 k l) := by
  unfold_abbrev_sides
  after_reads_at

theorem wh_apply (k : Fin 512) (l : Fin 1024) :
    (V m c main_v60 : Vec Ideal S512x1024 .bf16) (ix2 k l) = a19 m c (ix3 0 k l) := by
  unfold_abbrev_sides
  after_reads_at

theorem wo_apply (k l : Fin 1024) :
    (V m c main_v61 : Vec Ideal S1024x1024 .bf16) (ix2 k l) = a20 m c (ix3 0 k l) := by
  unfold_abbrev_sides
  after_reads_at

theorem g2_apply (l : Fin 1024) :
    (V m c main_v62 : Vec Ideal S1x1024 .f32) (ix2 0 l) = a21 m c (ix2 0 l) := by
  unfold_abbrev_sides
  after_reads_at

theorem w1_apply (k : Fin 1024) (l : Fin 4096) :
    (V m c main_v63 : Vec Ideal S1024x4096 .bf16) (ix2 k l) = a22 m c (ix3 0 k l) := by
  unfold_abbrev_sides
  after_reads_at

theorem w2_apply (k : Fin 4096) (l : Fin 1024) :
    (V m c main_v64 : Vec Ideal S4096x1024 .bf16) (ix2 k l) = a23 m c (ix3 0 k l) := by
  unfold_abbrev_sides
  after_reads_at

end Cert.FirstIdeal.First

end
-- ==== Proof.FirstArray.lean ====
/- The first layer's merge call's result array, at an element.

   Grid point `t` is batch `t / 17` and token tile `t % 17`, 256 tokens to a tile; tile 16 is the context. Its blocks are
   read off the packed arrays, and element `(b, s, l)` of the result is stored by exactly one point. -/
module

public import proofs.«01_k».proof.Proof.FirstBlock
public import proofs.«01_k».proof.Proof.FirstHost

@[expose] public section

set_option maxRecDepth 16384

noncomputable section

namespace Cert.FirstIdeal.First

open Cert.FirstIdeal Cert.FirstIdeal.Gen Idealize.ShloMosaic Idealize.ShloMosaic.TcCoe Idealize.SL.Sem Cert.MergeRow

theorem coord1 : ∀ t : Fin cfg0.N, (grid0.coords t 1).val = t.val % 17 :=
  (by decide +kernel : ∀ t : Fin grid0.N, (grid0.coords t 1).val = t.val % 17)
theorem idx0 : ∀ t : Fin cfg0.N, win0_0.index t 0 = t.val / 17 ∧ win0_0.index t 1 = min (t.val % 17) 15 ∧ win0_0.index t 2 = 0 :=
  (by decide +kernel : ∀ t : Fin grid0.N, win0_0.index t 0 = t.val / 17 ∧ win0_0.index t 1 = min (t.val % 17) 15 ∧ win0_0.index t 2 = 0)
theorem idx3 : ∀ t : Fin cfg0.N, win0_3.index t 0 = t.val / 17 ∧ win0_3.index t 1 = min (t.val % 17) 15 ∧ win0_3.index t 2 = 0 :=
  (by decide +kernel : ∀ t : Fin grid0.N, win0_3.index t 0 = t.val / 17 ∧ win0_3.index t 1 = min (t.val % 17) 15 ∧ win0_3.index t 2 = 0)
theorem idx8 : ∀ t : Fin cfg0.N, win0_8.index t 0 = t.val / 17 ∧ win0_8.index t 1 = min (t.val % 17) 15 ∧ win0_8.index t 2 = 0 :=
  (by decide +kernel : ∀ t : Fin grid0.N, win0_8.index t 0 = t.val / 17 ∧ win0_8.index t 1 = min (t.val % 17) 15 ∧ win0_8.index t 2 = 0)
theorem idx1 : ∀ t : Fin cfg0.N, win0_1.index t 0 = t.val / 17 ∧ win0_1.index t 1 = 0 ∧ win0_1.index t 2 = 0 :=
  (by decide +kernel : ∀ t : Fin grid0.N, win0_1.index t 0 = t.val / 17 ∧ win0_1.index t 1 = 0 ∧ win0_1.index t 2 = 0)
theorem idx4 : ∀ t : Fin cfg0.N, win0_4.index t 0 = t.val / 17 ∧ win0_4.index t 1 = 0 ∧ win0_4.index t 2 = 0 :=
  (by decide +kernel : ∀ t : Fin grid0.N, win0_4.index t 0 = t.val / 17 ∧ win0_4.index t 1 = 0 ∧ win0_4.index t 2 = 0)
theorem idx9 : ∀ t : Fin cfg0.N, win0_9.index t 0 = t.val / 17 ∧ win0_9.index t 1 = 0 ∧ win0_9.index t 2 = 0 :=
  (by decide +kernel : ∀ t : Fin grid0.N, win0_9.index t 0 = t.val / 17 ∧ win0_9.index t 1 = 0 ∧ win0_9.index t 2 = 0)
theorem idx5 : ∀ t : Fin cfg0.N, win0_5.index t 0 = t.val / 17 ∧ win0_5.index t 1 = t.val % 17 ∧ win0_5.index t 2 = 0 :=
  (by decide +kernel : ∀ t : Fin grid0.N, win0_5.index t 0 = t.val / 17 ∧ win0_5.index t 1 = t.val % 17 ∧ win0_5.index t 2 = 0)
theorem idx6 : ∀ t : Fin cfg0.N, win0_6.index t 0 = t.val / 17 ∧ win0_6.index t 1 = t.val % 17 ∧ win0_6.index t 2 = 0 :=
  (by decide +kernel : ∀ t : Fin grid0.N, win0_6.index t 0 = t.val / 17 ∧ win0_6.index t 1 = t.val % 17 ∧ win0_6.index t 2 = 0)
theorem idx7 : ∀ t : Fin cfg0.N, win0_7.index t 0 = t.val / 17 ∧ win0_7.index t 1 = t.val % 17 ∧ win0_7.index t 2 = 0 :=
  (by decide +kernel : ∀ t : Fin grid0.N, win0_7.index t 0 = t.val / 17 ∧ win0_7.index t 1 = t.val % 17 ∧ win0_7.index t 2 = 0)
theorem idx10 : ∀ t : Fin cfg0.N, win0_10.index t 0 = t.val / 17 ∧ win0_10.index t 1 = t.val % 17 ∧ win0_10.index t 2 = 0 :=
  (by decide +kernel : ∀ t : Fin grid0.N, win0_10.index t 0 = t.val / 17 ∧ win0_10.index t 1 = t.val % 17 ∧ win0_10.index t 2 = 0)
theorem idx20 : ∀ t : Fin cfg0.N, win0_20.index t 0 = t.val / 17 ∧ win0_20.index t 1 = t.val % 17 ∧ win0_20.index t 2 = 0 :=
  (by decide +kernel : ∀ t : Fin grid0.N, win0_20.index t 0 = t.val / 17 ∧ win0_20.index t 1 = t.val % 17 ∧ win0_20.index t 2 = 0)
theorem idx2 : ∀ t : Fin cfg0.N, win0_2.index t 0 = (if t.val % 17 < 16 then t.val / 17 else 8) ∧ win0_2.index t 1 = 0 ∧ win0_2.index t 2 = 0 :=
  (by decide +kernel : ∀ t : Fin grid0.N, win0_2.index t 0 = (if t.val % 17 < 16 then t.val / 17 else 8) ∧ win0_2.index t 1 = 0 ∧ win0_2.index t 2 = 0)
theorem idx11 : ∀ t : Fin cfg0.N, win0_11.index t 0 = 0 ∧ win0_11.index t 1 = 0 :=
  (by decide +kernel : ∀ t : Fin grid0.N, win0_11.index t 0 = 0 ∧ win0_11.index t 1 = 0)
theorem idx12 : ∀ t : Fin cfg0.N, win0_12.index t 0 = 0 ∧ win0_12.index t 1 = 0 :=
  (by decide +kernel : ∀ t : Fin grid0.N, win0_12.index t 0 = 0 ∧ win0_12.index t 1 = 0)
theorem idx13 : ∀ t : Fin cfg0.N, win0_13.index t 0 = 0 ∧ win0_13.index t 1 = 0 :=
  (by decide +kernel : ∀ t : Fin grid0.N, win0_13.index t 0 = 0 ∧ win0_13.index t 1 = 0)
theorem idx14 : ∀ t : Fin cfg0.N, win0_14.index t 0 = 0 ∧ win0_14.index t 1 = 0 :=
  (by decide +kernel : ∀ t : Fin grid0.N, win0_14.index t 0 = 0 ∧ win0_14.index t 1 = 0)
theorem idx15 : ∀ t : Fin cfg0.N, win0_15.index t 0 = 0 ∧ win0_15.index t 1 = 0 :=
  (by decide +kernel : ∀ t : Fin grid0.N, win0_15.index t 0 = 0 ∧ win0_15.index t 1 = 0)
theorem idx16 : ∀ t : Fin cfg0.N, win0_16.index t 0 = 0 ∧ win0_16.index t 1 = 0 :=
  (by decide +kernel : ∀ t : Fin grid0.N, win0_16.index t 0 = 0 ∧ win0_16.index t 1 = 0)
theorem idx17 : ∀ t : Fin cfg0.N, win0_17.index t 0 = 0 ∧ win0_17.index t 1 = 0 :=
  (by decide +kernel : ∀ t : Fin grid0.N, win0_17.index t 0 = 0 ∧ win0_17.index t 1 = 0)
theorem idx18 : ∀ t : Fin cfg0.N, win0_18.index t 0 = 0 ∧ win0_18.index t 1 = 0 :=
  (by decide +kernel : ∀ t : Fin grid0.N, win0_18.index t 0 = 0 ∧ win0_18.index t 1 = 0)
theorem idx19 : ∀ t : Fin cfg0.N, win0_19.index t 0 = 0 ∧ win0_19.index t 1 = 0 :=
  (by decide +kernel : ∀ t : Fin grid0.N, win0_19.index t 0 = 0 ∧ win0_19.index t 1 = 0)

theorem lt_N (t : Fin cfg0.N) : t.val < 136 := lt_of_lt_of_eq t.isLt (by decide +kernel : grid0.N = 136)

variable (m : (ℓ : Loc nD τ sig) → Buf (Elt Ideal) ℓ) (c : Dev nD)

/-! ## The blocks a point reads -/

/-- The batch of point `t`. -/
abbrev bat (t : Fin cfg0.N) : Fin 8 := ⟨t.val / 17, by have := lt_N t; omega⟩
/-- The latent token at row `r` of point `t`'s tile. -/
abbrev tok (t : Fin cfg0.N) (h : t.val % 17 < 16) (r : Fin 256) : Fin 4096 := ⟨256 * (t.val % 17) + r.val, by omega⟩

theorem blk0L (t : Fin cfg0.N) (h : t.val % 17 < 16) (r : Fin 256) (l : Fin 1024) :
    (iblk m c 0 t : Vec Ideal S1x256x1024 .f32) (ix3 0 r l) = a0 m c (ix3 (bat t) (tok t h r) l) := by
  obtain ⟨e0, e1, e2⟩ := idx0 t
  rw [← xL_apply m c (bat t) (tok t h r) l]
  unfold iblk
  rw [View.read_apply]
  show V m c main_arg0 _ = V m c main_arg0 _
  congr 1
  funext a
  apply Fin.ext
  match a with
  | ⟨0, _⟩ => show win0_0.index t 0 * 1 + 1 * 0 = t.val / 17; rw [e0]; omega
  | ⟨1, _⟩ => show win0_0.index t 1 * 256 + 1 * r.val = 256 * (t.val % 17) + r.val; rw [e1]; omega
  | ⟨2, _⟩ => show win0_0.index t 2 * 1024 + 1 * l.val = l.val; rw [e2]; omega

theorem blk1C (t : Fin cfg0.N) (r : Fin 256) (l : Fin 1024) :
    (iblk m c 1 t : Vec Ideal S1x256x1024 .f32) (ix3 0 r l) = a1 m c (ix3 (bat t) r l) := by
  obtain ⟨e0, e1, e2⟩ := idx1 t
  rw [← xC_apply m c (bat t) r l]
  unfold iblk
  rw [View.read_apply]
  show V m c main_arg1 _ = V m c main_arg1 _
  congr 1
  funext a
  apply Fin.ext
  match a with
  | ⟨0, _⟩ => show win0_1.index t 0 * 1 + 1 * 0 = t.val / 17; rw [e0]; omega
  | ⟨1, _⟩ => show win0_1.index t 1 * 256 + 1 * r.val = r.val; rw [e1]; omega
  | ⟨2, _⟩ => show win0_1.index t 2 * 1024 + 1 * l.val = l.val; rw [e2]; omega

theorem blk3L (t : Fin cfg0.N) (h : t.val % 17 < 16) (r : Fin 256) (l : Fin 512) :
    (iblk m c 3 t : Vec Ideal S1x256x512 .bf16) (ix3 0 r l) = a4 m c (ix3 (bat t) (tok t h r) l) := by
  obtain ⟨e0, e1, e2⟩ := idx3 t
  rw [← ymlaL_apply m c (bat t) (tok t h r) l]
  unfold iblk
  rw [View.read_apply]
  show V m c main_v24 _ = V m c main_v24 _
  congr 1
  funext a
  apply Fin.ext
  match a with
  | ⟨0, _⟩ => show win0_3.index t 0 * 1 + 1 * 0 = t.val / 17; rw [e0]; omega
  | ⟨1, _⟩ => show win0_3.index t 1 * 256 + 1 * r.val = 256 * (t.val % 17) + r.val; rw [e1]; omega
  | ⟨2, _⟩ => show win0_3.index t 2 * 512 + 1 * l.val = l.val; rw [e2]; omega

theorem blk4C (t : Fin cfg0.N) (r : Fin 256) (l : Fin 512) :
    (iblk m c 4 t : Vec Ideal S1x256x512 .bf16) (ix3 0 r l) = a5 m c (ix3 (bat t) r l) := by
  obtain ⟨e0, e1, e2⟩ := idx4 t
  rw [← ymlaC_apply m c (bat t) r l]
  unfold iblk
  rw [View.read_apply]
  show V m c main_v25 _ = V m c main_v25 _
  congr 1
  funext a
  apply Fin.ext
  match a with
  | ⟨0, _⟩ => show win0_4.index t 0 * 1 + 1 * 0 = t.val / 17; rw [e0]; omega
  | ⟨1, _⟩ => show win0_4.index t 1 * 256 + 1 * r.val = r.val; rw [e1]; omega
  | ⟨2, _⟩ => show win0_4.index t 2 * 512 + 1 * l.val = l.val; rw [e2]; omega

theorem blk8L (t : Fin cfg0.N) (h : t.val % 17 < 16) (r : Fin 256) (l : Fin 512) :
    (iblk m c 8 t : Vec Ideal S1x256x512 .f32) (ix3 0 r l) = a12 m c (ix3 (bat t) (tok t h r) l) := by
  obtain ⟨e0, e1, e2⟩ := idx8 t
  rw [← yhyL_apply m c (bat t) (tok t h r) l]
  unfold iblk
  rw [View.read_apply]
  show V m c main_arg12 _ = V m c main_arg12 _
  congr 1
  funext a
  apply Fin.ext
  match a with
  | ⟨0, _⟩ => show win0_8.index t 0 * 1 + 1 * 0 = t.val / 17; rw [e0]; omega
  | ⟨1, _⟩ => show win0_8.index t 1 * 256 + 1 * r.val = 256 * (t.val % 17) + r.val; rw [e1]; omega
  | ⟨2, _⟩ => show win0_8.index t 2 * 512 + 1 * l.val = l.val; rw [e2]; omega

theorem blk9C (t : Fin cfg0.N) (r : Fin 256) (l : Fin 512) :
    (iblk m c 9 t : Vec Ideal S1x256x512 .f32) (ix3 0 r l) = a13 m c (ix3 (bat t) r l) := by
  obtain ⟨e0, e1, e2⟩ := idx9 t
  rw [← yhyC_apply m c (bat t) r l]
  unfold iblk
  rw [View.read_apply]
  show V m c main_arg13 _ = V m c main_arg13 _
  congr 1
  funext a
  apply Fin.ext
  match a with
  | ⟨0, _⟩ => show win0_9.index t 0 * 1 + 1 * 0 = t.val / 17; rw [e0]; omega
  | ⟨1, _⟩ => show win0_9.index t 1 * 256 + 1 * r.val = r.val; rw [e1]; omega
  | ⟨2, _⟩ => show win0_9.index t 2 * 512 + 1 * l.val = l.val; rw [e2]; omega

theorem blk5L (t : Fin cfg0.N) (h : t.val % 17 < 16) (r : Fin 256) (l : Fin 512) :
    (iblk m c 5 t : Vec Ideal S1x256x512 .bf16) (ix3 0 r l) = a6 m c (ix4 (bat t) ⟨l.val / 128, by omega⟩ (tok t h r) ⟨l.val % 128, by omega⟩) := by
  obtain ⟨e0, e1, e2⟩ := idx5 t
  rw [← ofL_apply m c (bat t) (tok t h r) l]
  unfold iblk
  rw [View.read_apply]
  show V m c main_v13 _ = V m c main_v13 _
  congr 1
  funext a
  apply Fin.ext
  match a with
  | ⟨0, _⟩ => show win0_5.index t 0 * 1 + 1 * 0 = t.val / 17; rw [e0]; omega
  | ⟨1, _⟩ => show win0_5.index t 1 * 256 + 1 * r.val = 256 * (t.val % 17) + r.val; rw [e1]; omega
  | ⟨2, _⟩ => show win0_5.index t 2 * 512 + 1 * l.val = l.val; rw [e2]; omega

theorem blk6L (t : Fin cfg0.N) (h : t.val % 17 < 16) (r : Fin 256) (l : Fin 512) :
    (iblk m c 6 t : Vec Ideal S1x256x512 .bf16) (ix3 0 r l) = a7 m c (ix4 (bat t) ⟨l.val / 128, by omega⟩ (tok t h r).rev ⟨l.val % 128, by omega⟩) := by
  obtain ⟨e0, e1, e2⟩ := idx6 t
  rw [← obL_apply m c (bat t) (tok t h r) l]
  unfold iblk
  rw [View.read_apply]
  show V m c main_v21 _ = V m c main_v21 _
  congr 1
  funext a
  apply Fin.ext
  match a with
  | ⟨0, _⟩ => show win0_6.index t 0 * 1 + 1 * 0 = t.val / 17; rw [e0]; omega
  | ⟨1, _⟩ => show win0_6.index t 1 * 256 + 1 * r.val = 256 * (t.val % 17) + r.val; rw [e1]; omega
  | ⟨2, _⟩ => show win0_6.index t 2 * 512 + 1 * l.val = l.val; rw [e2]; omega

theorem blk7L (t : Fin cfg0.N) (h : t.val % 17 < 16) (r : Fin 256) (l : Fin 512) :
    (iblk m c 7 t : Vec Ideal S1x256x512 .bf16) (ix3 0 r l) = a10 m c (ix3 (bat t) (tok t h r) l) * logis (a10 m c (ix3 (bat t) (tok t h r) l)) := by
  obtain ⟨e0, e1, e2⟩ := idx7 t
  rw [← grL_apply m c (bat t) (tok t h r) l]
  unfold iblk
  rw [View.read_apply]
  show V m c main_v33 _ = V m c main_v33 _
  congr 1
  funext a
  apply Fin.ext
  match a with
  | ⟨0, _⟩ => show win0_7.index t 0 * 1 + 1 * 0 = t.val / 17; rw [e0]; omega
  | ⟨1, _⟩ => show win0_7.index t 1 * 256 + 1 * r.val = 256 * (t.val % 17) + r.val; rw [e1]; omega
  | ⟨2, _⟩ => show win0_7.index t 2 * 512 + 1 * l.val = l.val; rw [e2]; omega

theorem blk10L (t : Fin cfg0.N) (h : t.val % 17 < 16) (r : Fin 256) (l : Fin 3072) :
    (iblk m c 10 t : Vec Ideal S1x256x3072 .bf16) (ix3 0 r l) = logis (a14 m c (ix3 (bat t) (tok t h r) l)) := by
  obtain ⟨e0, e1, e2⟩ := idx10 t
  rw [← zgL_apply m c (bat t) (tok t h r) l]
  unfold iblk
  rw [View.read_apply]
  show V m c main_v40 _ = V m c main_v40 _
  congr 1
  funext a
  apply Fin.ext
  match a with
  | ⟨0, _⟩ => show win0_10.index t 0 * 1 + 1 * 0 = t.val / 17; rw [e0]; omega
  | ⟨1, _⟩ => show win0_10.index t 1 * 256 + 1 * r.val = 256 * (t.val % 17) + r.val; rw [e1]; omega
  | ⟨2, _⟩ => show win0_10.index t 2 * 3072 + 1 * l.val = l.val; rw [e2]; omega

theorem blk5C (t : Fin cfg0.N) (h : t.val % 17 = 16) (r : Fin 256) (l : Fin 512) :
    (iblk m c 5 t : Vec Ideal S1x256x512 .bf16) (ix3 0 r l) = a8 m c (ix4 (bat t) ⟨l.val / 128, by omega⟩ r ⟨l.val % 128, by omega⟩) := by
  obtain ⟨e0, e1, e2⟩ := idx5 t
  rw [← ofC_apply m c (bat t) r l]
  unfold iblk
  rw [View.read_apply]
  show V m c main_v13 _ = V m c main_v13 _
  congr 1
  funext a
  apply Fin.ext
  match a with
  | ⟨0, _⟩ => show win0_5.index t 0 * 1 + 1 * 0 = t.val / 17; rw [e0]; omega
  | ⟨1, _⟩ => show win0_5.index t 1 * 256 + 1 * r.val = 4096 + r.val; rw [e1]; omega
  | ⟨2, _⟩ => show win0_5.index t 2 * 512 + 1 * l.val = l.val; rw [e2]; omega

theorem blk6C (t : Fin cfg0.N) (h : t.val % 17 = 16) (r : Fin 256) (l : Fin 512) :
    (iblk m c 6 t : Vec Ideal S1x256x512 .bf16) (ix3 0 r l) = a9 m c (ix4 (bat t) ⟨l.val / 128, by omega⟩ r.rev ⟨l.val % 128, by omega⟩) := by
  obtain ⟨e0, e1, e2⟩ := idx6 t
  rw [← obC_apply m c (bat t) r l]
  unfold iblk
  rw [View.read_apply]
  show V m c main_v21 _ = V m c main_v21 _
  congr 1
  funext a
  apply Fin.ext
  match a with
  | ⟨0, _⟩ => show win0_6.index t 0 * 1 + 1 * 0 = t.val / 17; rw [e0]; omega
  | ⟨1, _⟩ => show win0_6.index t 1 * 256 + 1 * r.val = 4096 + r.val; rw [e1]; omega
  | ⟨2, _⟩ => show win0_6.index t 2 * 512 + 1 * l.val = l.val; rw [e2]; omega

theorem blk7C (t : Fin cfg0.N) (h : t.val % 17 = 16) (r : Fin 256) (l : Fin 512) :
    (iblk m c 7 t : Vec Ideal S1x256x512 .bf16) (ix3 0 r l) = a11 m c (ix3 (bat t) r l) * logis (a11 m c (ix3 (bat t) r l)) := by
  obtain ⟨e0, e1, e2⟩ := idx7 t
  rw [← grC_apply m c (bat t) r l]
  unfold iblk
  rw [View.read_apply]
  show V m c main_v33 _ = V m c main_v33 _
  congr 1
  funext a
  apply Fin.ext
  match a with
  | ⟨0, _⟩ => show win0_7.index t 0 * 1 + 1 * 0 = t.val / 17; rw [e0]; omega
  | ⟨1, _⟩ => show win0_7.index t 1 * 256 + 1 * r.val = 4096 + r.val; rw [e1]; omega
  | ⟨2, _⟩ => show win0_7.index t 2 * 512 + 1 * l.val = l.val; rw [e2]; omega

theorem blk10C (t : Fin cfg0.N) (h : t.val % 17 = 16) (r : Fin 256) (l : Fin 3072) :
    (iblk m c 10 t : Vec Ideal S1x256x3072 .bf16) (ix3 0 r l) = logis (a15 m c (ix3 (bat t) r l)) := by
  obtain ⟨e0, e1, e2⟩ := idx10 t
  rw [← zgC_apply m c (bat t) r l]
  unfold iblk
  rw [View.read_apply]
  show V m c main_v40 _ = V m c main_v40 _
  congr 1
  funext a
  apply Fin.ext
  match a with
  | ⟨0, _⟩ => show win0_10.index t 0 * 1 + 1 * 0 = t.val / 17; rw [e0]; omega
  | ⟨1, _⟩ => show win0_10.index t 1 * 256 + 1 * r.val = 4096 + r.val; rw [e1]; omega
  | ⟨2, _⟩ => show win0_10.index t 2 * 3072 + 1 * l.val = l.val; rw [e2]; omega

theorem blk2L (t : Fin cfg0.N) (h : t.val % 17 < 16) (k : Fin 6) (l : Fin 1024) :
    (iblk m c 2 t : Vec Ideal S1x6x1024 .f32) (ix3 0 k l) = a2 m c (ix3 0 (bat t) ⟨1024 * k.val + l.val, by omega⟩) := by
  obtain ⟨e0, e1, e2⟩ := idx2 t
  rw [← modL_apply m c (bat t) k l]
  unfold iblk
  rw [View.read_apply]
  show V m c main_v7 _ = V m c main_v7 _
  congr 1
  funext a
  apply Fin.ext
  match a with
  | ⟨0, _⟩ => show win0_2.index t 0 * 1 + 1 * 0 = t.val / 17; rw [e0, if_pos h]; omega
  | ⟨1, _⟩ => show win0_2.index t 1 * 6 + 1 * k.val = k.val; rw [e1]; omega
  | ⟨2, _⟩ => show win0_2.index t 2 * 1024 + 1 * l.val = l.val; rw [e2]; omega

theorem blk2C (t : Fin cfg0.N) (h : t.val % 17 = 16) (k : Fin 6) (l : Fin 1024) :
    (iblk m c 2 t : Vec Ideal S1x6x1024 .f32) (ix3 0 k l) = a3 m c (ix2 0 ⟨1024 * k.val + l.val, by omega⟩) := by
  obtain ⟨e0, e1, e2⟩ := idx2 t
  rw [← modC_apply m c k l]
  unfold iblk
  rw [View.read_apply]
  show V m c main_v7 _ = V m c main_v7 _
  congr 1
  funext a
  apply Fin.ext
  match a with
  | ⟨0, _⟩ => show win0_2.index t 0 * 1 + 1 * 0 = 8; rw [e0, if_neg (by omega)]
  | ⟨1, _⟩ => show win0_2.index t 1 * 6 + 1 * k.val = k.val; rw [e1]; omega
  | ⟨2, _⟩ => show win0_2.index t 2 * 1024 + 1 * l.val = l.val; rw [e2]; omega

theorem blk11 (t : Fin cfg0.N) (l : Fin 128) :
    (iblk m c 11 t : Vec Ideal S1x128 .f32) (ix2 0 l) = a16 m c (ix2 0 l) := by
  obtain ⟨e0, e1⟩ := idx11 t
  rw [← on_apply m c l]
  unfold iblk
  rw [View.read_apply]
  show V m c main_v57 _ = V m c main_v57 _
  congr 1
  funext a
  apply Fin.ext
  match a with
  | ⟨0, _⟩ => show win0_11.index t 0 * 1 + 1 * 0 = 0; rw [e0]
  | ⟨1, _⟩ => show win0_11.index t 1 * 128 + 1 * l.val = l.val; rw [e1]; omega

theorem blk12 (t : Fin cfg0.N) (k : Fin 512) (l : Fin 1024) :
    (iblk m c 12 t : Vec Ideal S512x1024 .bf16) (ix2 k l) = a17 m c (ix3 0 k l) := by
  obtain ⟨e0, e1⟩ := idx12 t
  rw [← wm_apply m c k l]
  unfold iblk
  rw [View.read_apply]
  show V m c main_v58 _ = V m c main_v58 _
  congr 1
  funext a
  apply Fin.ext
  match a with
  | ⟨0, _⟩ => show win0_12.index t 0 * 512 + 1 * k.val = k.val; rw [e0]; omega
  | ⟨1, _⟩ => show win0_12.index t 1 * 1024 + 1 * l.val = l.val; rw [e1]; omega

theorem blk13 (t : Fin cfg0.N) (k : Fin 512) (l : Fin 1024) :
    (iblk m c 13 t : Vec Ideal S512x1024 .bf16) (ix2 k l) = a18 m c (ix3 0 k l) := by
  obtain ⟨e0, e1⟩ := idx13 t
  rw [← wgl_apply m c k l]
  unfold iblk
  rw [View.read_apply]
  show V m c main_v59 _ = V m c main_v59 _
  congr 1
  funext a
  apply Fin.ext
  match a with
  | ⟨0, _⟩ => show win0_13.index t 0 * 512 + 1 * k.val = k.val; rw [e0]; omega
  | ⟨1, _⟩ => show win0_13.index t 1 * 1024 + 1 * l.val = l.val; rw [e1]; omega

theorem blk14 (t : Fin cfg0.N) (k : Fin 512) (l : Fin 1024) :
    (iblk m c 14 t : Vec Ideal S512x1024 .bf16) (ix2 k l) = a19 m c (ix3 0 k l) := by
  obtain ⟨e0, e1⟩ := idx14 t
  rw [← wh_apply m c k l]
  unfold iblk
  rw [View.read_apply]
  show V m c main_v60 _ = V m c main_v60 _
  congr 1
  funext a
  apply Fin.ext
  match a with
  | ⟨0, _⟩ => show win0_14.index t 0 * 512 + 1 * k.val = k.val; rw [e0]; omega
  | ⟨1, _⟩ => show win0_14.index t 1 * 1024 + 1 * l.val = l.val; rw [e1]; omega

theorem blk15 (t : Fin cfg0.N) (k : Fin 1024) (l : Fin 1024) :
    (iblk m c 15 t : Vec Ideal S1024x1024 .bf16) (ix2 k l) = a20 m c (ix3 0 k l) := by
  obtain ⟨e0, e1⟩ := idx15 t
  rw [← wo_apply m c k l]
  unfold iblk
  rw [View.read_apply]
  show V m c main_v61 _ = V m c main_v61 _
  congr 1
  funext a
  apply Fin.ext
  match a with
  | ⟨0, _⟩ => show win0_15.index t 0 * 1024 + 1 * k.val = k.val; rw [e0]; omega
  | ⟨1, _⟩ => show win0_15.index t 1 * 1024 + 1 * l.val = l.val; rw [e1]; omega

theorem blk16 (t : Fin cfg0.N) (l : Fin 1024) :
    (iblk m c 16 t : Vec Ideal S1x1024 .f32) (ix2 0 l) = a21 m c (ix2 0 l) := by
  obtain ⟨e0, e1⟩ := idx16 t
  rw [← g2_apply m c l]
  unfold iblk
  rw [View.read_apply]
  show V m c main_v62 _ = V m c main_v62 _
  congr 1
  funext a
  apply Fin.ext
  match a with
  | ⟨0, _⟩ => show win0_16.index t 0 * 1 + 1 * 0 = 0; rw [e0]
  | ⟨1, _⟩ => show win0_16.index t 1 * 1024 + 1 * l.val = l.val; rw [e1]; omega

theorem blk17 (t : Fin cfg0.N) (k : Fin 1024) (l : Fin 4096) :
    (iblk m c 17 t : Vec Ideal S1024x4096 .bf16) (ix2 k l) = a22 m c (ix3 0 k l) := by
  obtain ⟨e0, e1⟩ := idx17 t
  rw [← w1_apply m c k l]
  unfold iblk
  rw [View.read_apply]
  show V m c main_v63 _ = V m c main_v63 _
  congr 1
  funext a
  apply Fin.ext
  match a with
  | ⟨0, _⟩ => show win0_17.index t 0 * 1024 + 1 * k.val = k.val; rw [e0]; omega
  | ⟨1, _⟩ => show win0_17.index t 1 * 4096 + 1 * l.val = l.val; rw [e1]; omega

theorem blk18 (t : Fin cfg0.N) (k : Fin 4096) (l : Fin 1024) :
    (iblk m c 18 t : Vec Ideal S4096x1024 .bf16) (ix2 k l) = a23 m c (ix3 0 k l) := by
  obtain ⟨e0, e1⟩ := idx18 t
  rw [← w2_apply m c k l]
  unfold iblk
  rw [View.read_apply]
  show V m c main_v64 _ = V m c main_v64 _
  congr 1
  funext a
  apply Fin.ext
  match a with
  | ⟨0, _⟩ => show win0_18.index t 0 * 4096 + 1 * k.val = k.val; rw [e0]; omega
  | ⟨1, _⟩ => show win0_18.index t 1 * 1024 + 1 * l.val = l.val; rw [e1]; omega

/-- The block a latent point stores, at row `r` and lane `l`. -/
theorem point_latent (t : Fin cfg0.N) (h : t.val % 17 < 16) (r : Fin 256) (l : Fin 1024) :
    out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (ix3 0 r l)
      = layer (fun l => a0 m c (ix3 (bat t) (tok t h r) l)) (fun k l => a2 m c (ix3 0 (bat t) ⟨1024 * k.val + l.val, by omega⟩)) (fun l => a4 m c (ix3 (bat t) (tok t h r) l))
        (fun l => a6 m c (ix4 (bat t) ⟨l.val / 128, by omega⟩ (tok t h r) ⟨l.val % 128, by omega⟩) + a7 m c (ix4 (bat t) ⟨l.val / 128, by omega⟩ (tok t h r).rev ⟨l.val % 128, by omega⟩))
        (fun l => a10 m c (ix3 (bat t) (tok t h r) l) * logis (a10 m c (ix3 (bat t) (tok t h r) l))) (fun l => a12 m c (ix3 (bat t) (tok t h r) l)) (fun j => logis (a14 m c (ix3 (bat t) (tok t h r) j)))
        (fun l => a16 m c (ix2 0 l)) (fun k l => a17 m c (ix3 0 k l)) (fun k l => a18 m c (ix3 0 k l)) (fun k l => a19 m c (ix3 0 k l))
        (fun k l => a20 m c (ix3 0 k l)) (fun l => a21 m c (ix2 0 l)) (fun k l => a22 m c (ix3 0 k l)) (fun k l => a23 m c (ix3 0 k l)) l := by
  refine (block_apply (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) r l).trans ?_
  have h0 := blk0L m c t h r
  have h3 := blk3L m c t h r
  have h5 := blk5L m c t h r
  have h6 := blk6L m c t h r
  have h7 := blk7L m c t h r
  have h8 := blk8L m c t h r
  have h10 := blk10L m c t h r
  have h2 : modB (iblk m c 2 t) = _ := funext fun k => funext (blk2L m c t h k)
  unfold layer xB mixB glaB
  simp only [pick, coord1, h, if_true, h2, h0, h3, h5, h6, h7, h8, h10, blk11, blk12, blk13, blk14, blk15, blk16, blk17, blk18]

/-- The block a context point stores, at row `r` and lane `l`. -/
theorem point_context (t : Fin cfg0.N) (h : t.val % 17 = 16) (r : Fin 256) (l : Fin 1024) :
    out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (ix3 0 r l)
      = layer (fun l => a1 m c (ix3 (bat t) r l)) (fun k l => a3 m c (ix2 0 ⟨1024 * k.val + l.val, by omega⟩)) (fun l => a5 m c (ix3 (bat t) r l))
        (fun l => a8 m c (ix4 (bat t) ⟨l.val / 128, by omega⟩ r ⟨l.val % 128, by omega⟩) + a9 m c (ix4 (bat t) ⟨l.val / 128, by omega⟩ r.rev ⟨l.val % 128, by omega⟩))
        (fun l => a11 m c (ix3 (bat t) r l) * logis (a11 m c (ix3 (bat t) r l))) (fun l => a13 m c (ix3 (bat t) r l)) (fun j => logis (a15 m c (ix3 (bat t) r j)))
        (fun l => a16 m c (ix2 0 l)) (fun k l => a17 m c (ix3 0 k l)) (fun k l => a18 m c (ix3 0 k l)) (fun k l => a19 m c (ix3 0 k l))
        (fun k l => a20 m c (ix3 0 k l)) (fun l => a21 m c (ix2 0 l)) (fun k l => a22 m c (ix3 0 k l)) (fun k l => a23 m c (ix3 0 k l)) l := by
  refine (block_apply (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) r l).trans ?_
  have h0 := blk1C m c t r
  have h3 := blk4C m c t r
  have h5 := blk5C m c t h r
  have h6 := blk6C m c t h r
  have h7 := blk7C m c t h r
  have h8 := blk9C m c t r
  have h10 := blk10C m c t h r
  have h2 : modB (iblk m c 2 t) = _ := funext fun k => funext (blk2C m c t h k)
  unfold layer xB mixB glaB
  simp only [pick, coord1, h, lt_irrefl, if_false, h2, h0, h3, h5, h6, h7, h8, h10, blk11, blk12, blk13, blk14, blk15, blk16, blk17, blk18]

/-! ## The result array -/

/-- The point that stores the element of batch `b` and row `s`. -/
def pt (b : Fin 8) (s : Fin 4352) : Fin cfg0.N :=
  ⟨17 * b.val + s.val / 256, by have e : cfg0.N = 136 := by decide +kernel
                                rw [e]; omega⟩

theorem arr_point (b : Fin 8) (s : Fin 4352) (l : Fin 1024) :
    ((dats m 0 c).arrAt 20 cfg0.N : Vec Ideal S8x4352x1024 .f32) (ix3 b s l)
      = out0_20 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) (iblk m c 16 (pt b s)) (iblk m c 17 (pt b s)) (iblk m c 18 (pt b s)) (iblk m c 19 (pt b s)) (ix3 0 ⟨s.val % 256, by omega⟩ l) := by
  have h := congrFun (Value.blocks20 m c (pt b s) (flush0_20 _)) (ix3 0 ⟨s.val % 256, by omega⟩ l)
  rw [Value.flushed20, View.read_apply] at h
  generalize out0_20 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) (iblk m c 16 (pt b s)) (iblk m c 17 (pt b s)) (iblk m c 18 (pt b s)) (iblk m c 19 (pt b s)) = y at h ⊢
  refine Eq.trans ?_ h
  obtain ⟨e0, e1, e2⟩ := idx20 (pt b s)
  congr 1
  funext a
  apply Fin.ext
  match a with
  | ⟨0, _⟩ => show b.val = win0_20.index (pt b s) 0 * 1 + 1 * 0; rw [e0]; show _ = (17 * b.val + s.val / 256) / 17 * 1 + 1 * 0; omega
  | ⟨1, _⟩ => show s.val = win0_20.index (pt b s) 1 * 256 + 1 * (s.val % 256); rw [e1]; show _ = (17 * b.val + s.val / 256) % 17 * 256 + 1 * (s.val % 256); omega
  | ⟨2, _⟩ => show l.val = win0_20.index (pt b s) 2 * 1024 + 1 * l.val; rw [e2]; omega

/-- The result array, at an element of a latent row. -/
theorem arr_latent (b : Fin 8) (s : Fin 4096) (l : Fin 1024) :
    ((dats m 0 c).arrAt 20 cfg0.N : Vec Ideal S8x4352x1024 .f32) (ix3 b ⟨s, by omega⟩ l)
      = layer (fun l => a0 m c (ix3 b s l)) (fun k l => a2 m c (ix3 0 b ⟨1024 * k.val + l.val, by omega⟩)) (fun l => a4 m c (ix3 b s l))
        (fun l => a6 m c (ix4 b ⟨l.val / 128, by omega⟩ s ⟨l.val % 128, by omega⟩) + a7 m c (ix4 b ⟨l.val / 128, by omega⟩ s.rev ⟨l.val % 128, by omega⟩))
        (fun l => a10 m c (ix3 b s l) * logis (a10 m c (ix3 b s l))) (fun l => a12 m c (ix3 b s l)) (fun j => logis (a14 m c (ix3 b s j)))
        (fun l => a16 m c (ix2 0 l)) (fun k l => a17 m c (ix3 0 k l)) (fun k l => a18 m c (ix3 0 k l)) (fun k l => a19 m c (ix3 0 k l))
        (fun k l => a20 m c (ix3 0 k l)) (fun l => a21 m c (ix2 0 l)) (fun k l => a22 m c (ix3 0 k l)) (fun k l => a23 m c (ix3 0 k l)) l := by
  have h : (pt b ⟨s, by omega⟩).val % 17 < 16 := show (17 * b.val + s.val / 256) % 17 < 16 by omega
  have hb : bat (pt b ⟨s, by omega⟩) = b := Fin.ext (show (17 * b.val + s.val / 256) / 17 = b.val by omega)
  have ht : tok (pt b ⟨s, by omega⟩) h ⟨s.val % 256, by omega⟩ = s :=
    Fin.ext (show 256 * ((17 * b.val + s.val / 256) % 17) + s.val % 256 = s.val by omega)
  have hp := point_latent m c (pt b ⟨s, by omega⟩) h ⟨s.val % 256, by omega⟩ l
  rw [hb, ht] at hp
  exact (arr_point m c b ⟨s, by omega⟩ l).trans hp

/-- The result array, at an element of a context row. -/
theorem arr_context (b : Fin 8) (s : Fin 256) (l : Fin 1024) :
    ((dats m 0 c).arrAt 20 cfg0.N : Vec Ideal S8x4352x1024 .f32) (ix3 b ⟨4096 + s, by omega⟩ l)
      = layer (fun l => a1 m c (ix3 b s l)) (fun k l => a3 m c (ix2 0 ⟨1024 * k.val + l.val, by omega⟩)) (fun l => a5 m c (ix3 b s l))
        (fun l => a8 m c (ix4 b ⟨l.val / 128, by omega⟩ s ⟨l.val % 128, by omega⟩) + a9 m c (ix4 b ⟨l.val / 128, by omega⟩ s.rev ⟨l.val % 128, by omega⟩))
        (fun l => a11 m c (ix3 b s l) * logis (a11 m c (ix3 b s l))) (fun l => a13 m c (ix3 b s l)) (fun j => logis (a15 m c (ix3 b s j)))
        (fun l => a16 m c (ix2 0 l)) (fun k l => a17 m c (ix3 0 k l)) (fun k l => a18 m c (ix3 0 k l)) (fun k l => a19 m c (ix3 0 k l))
        (fun k l => a20 m c (ix3 0 k l)) (fun l => a21 m c (ix2 0 l)) (fun k l => a22 m c (ix3 0 k l)) (fun k l => a23 m c (ix3 0 k l)) l := by
  have h : (pt b ⟨4096 + s, by omega⟩).val % 17 = 16 := show (17 * b.val + (4096 + s.val) / 256) % 17 = 16 by omega
  have hb : bat (pt b ⟨4096 + s, by omega⟩) = b := Fin.ext (show (17 * b.val + (4096 + s.val) / 256) / 17 = b.val by omega)
  have ht : (⟨(4096 + s.val) % 256, by omega⟩ : Fin 256) = s := Fin.ext (show (4096 + s.val) % 256 = s.val by omega)
  have hp := point_context m c (pt b ⟨4096 + s, by omega⟩) h ⟨(4096 + s.val) % 256, by omega⟩ l
  rw [hb, ht] at hp
  refine (arr_point m c b ⟨4096 + s, by omega⟩ l).trans ?_
  show out0_20 _ _ _ _ _ _ _ _ _ _ _ _ _ _ _ _ _ _ _ _ _ (ix3 0 (⟨(4096 + s.val) % 256, by omega⟩ : Fin 256) l) = _
  rw [ht]
  exact hp

end Cert.FirstIdeal.First

end
-- ==== Proof.FirstRef.lean ====
/- What the reference's first-layer merge and MLP computes.

   Its result at a latent row and at a context row is the layer function of `MergeRow` of that token's rows. -/
module

public import proofs.«01_k».proof.Proof.Gen.FirstRefIdeal.Read
public import proofs.«01_k».proof.Proof.MergeRow
public import Idealize.ShloMosaic.Lib.Pointwise

@[expose] public section

set_option maxRecDepth 16384

noncomputable section

namespace Cert.FirstRefIdeal.First

open Cert.FirstRefIdeal Cert.FirstRefIdeal.Gen Cert.FirstRefIdeal.Read Idealize.ShloMosaic Idealize.ShloMosaic.TcCoe
open Idealize.SL.Sem Cert.MergeRow

variable (x0 : Vec Ideal S8x4096x1024 .f32) (x1 : Vec Ideal S8x256x1024 .f32) (x2 : Vec Ideal S2x8x6144 .f32) (x3 : Vec Ideal S2x6144 .f32)
  (x4 : Vec Ideal S8x4096x512 .f32) (x5 : Vec Ideal S8x256x512 .f32) (x6 x7 : Vec Ideal S8x4x4096x128 .f32) (x8 x9 : Vec Ideal S8x4x256x128 .f32)
  (x10 : Vec Ideal S8x4096x512 .f32) (x11 : Vec Ideal S8x256x512 .f32) (x12 : Vec Ideal S8x4096x512 .f32) (x13 : Vec Ideal S8x256x512 .f32)
  (x14 : Vec Ideal S8x4096x3072 .f32) (x15 : Vec Ideal S8x256x3072 .f32) (x16 : Vec Ideal S2x128 .f32) (x17 x18 x19 : Vec Ideal S2x512x1024 .f32)
  (x20 : Vec Ideal S2x1024x1024 .f32) (x21 : Vec Ideal S2x1024 .f32) (x22 : Vec Ideal S2x1024x4096 .f32) (x23 : Vec Ideal S2x4096x1024 .f32) (b : Fin 8)

/-! ## The latent rows -/

/-- The modulation rows of batch `b`. -/
abbrev modL : Fin 6 → Fin 1024 → EReal := fun k l => x2 (ix3 0 b ⟨1024 * k.val + l.val, by omega⟩)
/-- The sum of the two GLA outputs at token `t`. -/
abbrev oL (t : Fin 4096) : Fin 512 → EReal := fun l =>
  x6 (ix4 b ⟨l.val / 128, by omega⟩ t ⟨l.val % 128, by omega⟩) + x7 (ix4 b ⟨l.val / 128, by omega⟩ t.rev ⟨l.val % 128, by omega⟩)
/-- The GLA branch's output at token `t`. -/
abbrev glaL (t : Fin 4096) : Fin 512 → EReal := gla (oL x6 x7 b t) (fun l => x16 (ix2 0 l)) (fun l => x10 (ix3 b t l) * logis (x10 (ix3 b t l)))
/-- Token `t` with the mixed branches added. -/
abbrev xL (t : Fin 4096) : Fin 1024 → EReal :=
  step (fun l => x0 (ix3 b t l)) (modL x2 b 2)
    (mixed (fun j => logis (x14 (ix3 b t j))) (fun l => x4 (ix3 b t l)) (glaL x6 x7 x10 x16 b t) (fun l => x12 (ix3 b t l))
      (fun k l => x17 (ix3 0 k l)) (fun k l => x18 (ix3 0 k l)) (fun k l => x19 (ix3 0 k l))) (fun k l => x20 (ix3 0 k l))

theorem oL_apply (b : Fin 8) (h : Fin 4) (t : Fin 4096) (l : Fin 128) :
    val_main_v4 x6 x7 (ix4 b h t l) = x6 (ix4 b h t l) + x7 (ix4 b h t.rev l) := by
  unfold val_main_v4 val_main_v3
  pointwise
  rfl

theorem rmsL_apply (b : Fin 8) (h : Fin 4) (t : Fin 4096) (l : Fin 128) :
    val_main_v22 x6 x7 (ix4 b h t l) = rms c128 (fun k => x6 (ix4 b h t k) + x7 (ix4 b h t.rev k)) l := by
  have h := oL_apply x6 x7
  unfold val_main_v22 val_main_v21 val_main_v20 val_main_v19 val_main_v18 val_main_cst_1 val_main_v17 val_main_v16 val_main_cst_0 val_main_v15 val_main_v14 val_main_cst val_main_v13
  generalize val_main_v4 x6 x7 = y at h ⊢
  unfold rms
  pointwise
  simp only [h]
  try rfl

theorem glaL_apply (t : Fin 4096) (l : Fin 512) : val_main_v29 x6 x7 x10 x16 (ix3 b t l) = glaL x6 x7 x10 x16 b t l := by
  have h := rmsL_apply x6 x7
  unfold val_main_v29 val_main_v28 val_main_call1_v5 val_main_call1_v4 val_main_call1_cst_0 val_main_call1_v3 val_main_call1_v2 val_main_call1_cst val_main_call1_v1 val_main_call1_v0 val_main_v27 val_main_v26 val_main_v25 val_main_v24 val_main_v23 val_main_v12 val_main_v11
  generalize val_main_v22 x6 x7 = y at h ⊢
  unfold glaL gla logis
  pointwise
  simp only [h, oL, show ∀ k : Fin 128, (128 * (l.val / 128) + k.val) / 128 = l.val / 128 by intro k; omega,
    show ∀ k : Fin 128, (128 * (l.val / 128) + k.val) % 128 = k.val by intro k; omega, Fin.eta]

theorem mixedL_apply (t : Fin 4096) (j : Fin 1024) : val_main_v52 x4 x6 x7 x10 x12 x14 x16 x17 x18 x19 (ix3 b t j)
    = mixed (fun j => logis (x14 (ix3 b t j))) (fun l => x4 (ix3 b t l)) (glaL x6 x7 x10 x16 b t) (fun l => x12 (ix3 b t l))
      (fun k l => x17 (ix3 0 k l)) (fun k l => x18 (ix3 0 k l)) (fun k l => x19 (ix3 0 k l)) j := by
  have h := glaL_apply x6 x7 x10 x16
  unfold val_main_v52 val_main_v51 val_main_v50 val_main_v49 val_main_v48 val_main_v47 val_main_v46 val_main_v45 val_main_v44 val_main_v43 val_main_v42 val_main_v41 val_main_v40 val_main_v39 val_main_v38 val_main_v37 val_main_v36 val_main_v35 val_main_v34 val_main_cst_3 val_main_v33 val_main_v32 val_main_cst_2 val_main_v31 val_main_v30
  generalize val_main_v29 x6 x7 x10 x16 = y at h ⊢
  unfold mixed logis
  pointwise
  simp only [h]
  try rfl

theorem xL_apply (t : Fin 4096) (l : Fin 1024) : val_main_v58 x0 x2 x4 x6 x7 x10 x12 x14 x16 x17 x18 x19 x20 (ix3 b t l) = xL x0 x2 x4 x6 x7 x10 x12 x14 x16 x17 x18 x19 x20 b t l := by
  have h := mixedL_apply x4 x6 x7 x10 x12 x14 x16 x17 x18 x19
  unfold val_main_v58 val_main_v57 val_main_v56 val_main_v55 val_main_v54 val_main_v53 val_main_v7 val_main_v2 val_main_v1 val_main_v0
  generalize val_main_v52 x4 x6 x7 x10 x12 x14 x16 x17 x18 x19 = y at h ⊢
  unfold xL step
  pointwise
  simp only [h]
  try rfl

theorem ffL_apply (t : Fin 4096) (l : Fin 1024) : val_main_v79 x0 x2 x4 x6 x7 x10 x12 x14 x16 x17 x18 x19 x20 x21 (ix3 b t l)
    = ffIn (xL x0 x2 x4 x6 x7 x10 x12 x14 x16 x17 x18 x19 x20 b t) (fun l => x21 (ix2 0 l)) (modL x2 b 4) (modL x2 b 3) l := by
  have h := xL_apply x0 x2 x4 x6 x7 x10 x12 x14 x16 x17 x18 x19 x20
  unfold val_main_v79 val_main_v78 val_main_v77 val_main_v76 val_main_v75 val_main_v74 val_main_cst_7 val_main_v73 val_main_v72 val_main_v71 val_main_v70 val_main_v69 val_main_v68 val_main_v67 val_main_v66 val_main_cst_6 val_main_v65 val_main_v64 val_main_cst_5 val_main_v63 val_main_v62 val_main_cst_4 val_main_v61 val_main_v60 val_main_v59 val_main_v9 val_main_v8 val_main_v2 val_main_v1 val_main_v0
  generalize val_main_v58 x0 x2 x4 x6 x7 x10 x12 x14 x16 x17 x18 x19 x20 = y at h ⊢
  unfold ffIn rms
  pointwise
  simp only [h]
  try rfl

theorem actL_apply (t : Fin 4096) (j : Fin 4096) : val_main_v84 x0 x2 x4 x6 x7 x10 x12 x14 x16 x17 x18 x19 x20 x21 x22 (ix3 b t j)
    = act (ffIn (xL x0 x2 x4 x6 x7 x10 x12 x14 x16 x17 x18 x19 x20 b t) (fun l => x21 (ix2 0 l)) (modL x2 b 4) (modL x2 b 3)) (fun k l => x22 (ix3 0 k l)) j := by
  have h := ffL_apply x0 x2 x4 x6 x7 x10 x12 x14 x16 x17 x18 x19 x20 x21
  unfold val_main_v84 val_main_v83 val_main_call2_v0 val_main_call2_cst val_main_v82 val_main_v81 val_main_v80
  generalize val_main_v79 x0 x2 x4 x6 x7 x10 x12 x14 x16 x17 x18 x19 x20 x21 = y at h ⊢
  unfold act
  pointwise
  simp only [h]
  try rfl

theorem mlpL_apply (t : Fin 4096) (l : Fin 1024) : val_main_v87 x0 x2 x4 x6 x7 x10 x12 x14 x16 x17 x18 x19 x20 x21 x22 x23 (ix3 b t l)
    = mlp (ffIn (xL x0 x2 x4 x6 x7 x10 x12 x14 x16 x17 x18 x19 x20 b t) (fun l => x21 (ix2 0 l)) (modL x2 b 4) (modL x2 b 3)) (fun k l => x22 (ix3 0 k l)) (fun k l => x23 (ix3 0 k l)) l := by
  have h := actL_apply x0 x2 x4 x6 x7 x10 x12 x14 x16 x17 x18 x19 x20 x21 x22
  unfold val_main_v87 val_main_v86 val_main_v85
  generalize val_main_v84 x0 x2 x4 x6 x7 x10 x12 x14 x16 x17 x18 x19 x20 x21 x22 = y at h ⊢
  unfold mlp
  pointwise
  simp only [h]
  try rfl

theorem afterL_apply (t : Fin 4096) (l : Fin 1024) : val_main_v90 x0 x2 x4 x6 x7 x10 x12 x14 x16 x17 x18 x19 x20 x21 x22 x23 (ix3 b t l) = layer (fun l => x0 (ix3 b t l)) (modL x2 b) (fun l => x4 (ix3 b t l)) (oL x6 x7 b t) (fun l => x10 (ix3 b t l) * logis (x10 (ix3 b t l)))
      (fun l => x12 (ix3 b t l)) (fun j => logis (x14 (ix3 b t j))) (fun l => x16 (ix2 0 l)) (fun k l => x17 (ix3 0 k l))
      (fun k l => x18 (ix3 0 k l)) (fun k l => x19 (ix3 0 k l)) (fun k l => x20 (ix3 0 k l)) (fun l => x21 (ix2 0 l))
      (fun k l => x22 (ix3 0 k l)) (fun k l => x23 (ix3 0 k l)) l := by
  have h := xL_apply x0 x2 x4 x6 x7 x10 x12 x14 x16 x17 x18 x19 x20
  have h' := mlpL_apply x0 x2 x4 x6 x7 x10 x12 x14 x16 x17 x18 x19 x20 x21 x22 x23
  unfold val_main_v90 val_main_v89 val_main_v88 val_main_v10 val_main_v2 val_main_v1 val_main_v0
  generalize val_main_v58 x0 x2 x4 x6 x7 x10 x12 x14 x16 x17 x18 x19 x20 = y at h ⊢
  generalize val_main_v87 x0 x2 x4 x6 x7 x10 x12 x14 x16 x17 x18 x19 x20 x21 x22 x23 = y' at h' ⊢
  unfold layer after
  pointwise
  simp only [h, h']
  try rfl

/-! ## The context rows -/

/-- The modulation rows of the context. -/
abbrev modC : Fin 6 → Fin 1024 → EReal := fun k l => x3 (ix2 0 ⟨1024 * k.val + l.val, by omega⟩)
/-- The sum of the two GLA outputs at token `t`. -/
abbrev oC (t : Fin 256) : Fin 512 → EReal := fun l =>
  x8 (ix4 b ⟨l.val / 128, by omega⟩ t ⟨l.val % 128, by omega⟩) + x9 (ix4 b ⟨l.val / 128, by omega⟩ t.rev ⟨l.val % 128, by omega⟩)
/-- The GLA branch's output at token `t`. -/
abbrev glaC (t : Fin 256) : Fin 512 → EReal := gla (oC x8 x9 b t) (fun l => x16 (ix2 0 l)) (fun l => x11 (ix3 b t l) * logis (x11 (ix3 b t l)))
/-- Token `t` with the mixed branches added. -/
abbrev xC (t : Fin 256) : Fin 1024 → EReal :=
  step (fun l => x1 (ix3 b t l)) (modC x3 2)
    (mixed (fun j => logis (x15 (ix3 b t j))) (fun l => x5 (ix3 b t l)) (glaC x8 x9 x11 x16 b t) (fun l => x13 (ix3 b t l))
      (fun k l => x17 (ix3 0 k l)) (fun k l => x18 (ix3 0 k l)) (fun k l => x19 (ix3 0 k l))) (fun k l => x20 (ix3 0 k l))

theorem oC_apply (b : Fin 8) (h : Fin 4) (t : Fin 256) (l : Fin 128) :
    val_main_v94 x8 x9 (ix4 b h t l) = x8 (ix4 b h t l) + x9 (ix4 b h t.rev l) := by
  unfold val_main_v94 val_main_v93
  pointwise
  rfl

theorem rmsC_apply (b : Fin 8) (h : Fin 4) (t : Fin 256) (l : Fin 128) :
    val_main_v112 x8 x9 (ix4 b h t l) = rms c128 (fun k => x8 (ix4 b h t k) + x9 (ix4 b h t.rev k)) l := by
  have h := oC_apply x8 x9
  unfold val_main_v112 val_main_v111 val_main_v110 val_main_v109 val_main_v108 val_main_cst_10 val_main_v107 val_main_v106 val_main_cst_9 val_main_v105 val_main_v104 val_main_cst_8 val_main_v103
  generalize val_main_v94 x8 x9 = y at h ⊢
  unfold rms
  pointwise
  simp only [h]
  try rfl

theorem glaC_apply (t : Fin 256) (l : Fin 512) : val_main_v119 x8 x9 x11 x16 (ix3 b t l) = glaC x8 x9 x11 x16 b t l := by
  have h := rmsC_apply x8 x9
  unfold val_main_v119 val_main_v118 val_main_call4_v5 val_main_call4_v4 val_main_call4_cst_0 val_main_call4_v3 val_main_call4_v2 val_main_call4_cst val_main_call4_v1 val_main_call4_v0 val_main_v117 val_main_v116 val_main_v115 val_main_v114 val_main_v113 val_main_v102 val_main_v101
  generalize val_main_v112 x8 x9 = y at h ⊢
  unfold glaC gla logis
  pointwise
  simp only [h, oC, show ∀ k : Fin 128, (128 * (l.val / 128) + k.val) / 128 = l.val / 128 by intro k; omega,
    show ∀ k : Fin 128, (128 * (l.val / 128) + k.val) % 128 = k.val by intro k; omega, Fin.eta]

theorem mixedC_apply (t : Fin 256) (j : Fin 1024) : val_main_v142 x5 x8 x9 x11 x13 x15 x16 x17 x18 x19 (ix3 b t j)
    = mixed (fun j => logis (x15 (ix3 b t j))) (fun l => x5 (ix3 b t l)) (glaC x8 x9 x11 x16 b t) (fun l => x13 (ix3 b t l))
      (fun k l => x17 (ix3 0 k l)) (fun k l => x18 (ix3 0 k l)) (fun k l => x19 (ix3 0 k l)) j := by
  have h := glaC_apply x8 x9 x11 x16
  unfold val_main_v142 val_main_v141 val_main_v140 val_main_v139 val_main_v138 val_main_v137 val_main_v136 val_main_v135 val_main_v134 val_main_v133 val_main_v132 val_main_v131 val_main_v130 val_main_v129 val_main_v128 val_main_v127 val_main_v126 val_main_v125 val_main_v124 val_main_cst_12 val_main_v123 val_main_v122 val_main_cst_11 val_main_v121 val_main_v120
  generalize val_main_v119 x8 x9 x11 x16 = y at h ⊢
  unfold mixed logis
  pointwise
  simp only [h]
  try rfl

theorem xC_apply (t : Fin 256) (l : Fin 1024) : val_main_v149 x1 x3 x5 x8 x9 x11 x13 x15 x16 x17 x18 x19 x20 (ix3 b t l) = xC x1 x3 x5 x8 x9 x11 x13 x15 x16 x17 x18 x19 x20 b t l := by
  have h := mixedC_apply x5 x8 x9 x11 x13 x15 x16 x17 x18 x19
  unfold val_main_v149 val_main_v148 val_main_v147 val_main_v146 val_main_v145 val_main_v144 val_main_v143 val_main_v97 val_main_v92 val_main_v91
  generalize val_main_v142 x5 x8 x9 x11 x13 x15 x16 x17 x18 x19 = y at h ⊢
  unfold xC step
  pointwise
  simp only [h]
  try rfl

theorem ffC_apply (t : Fin 256) (l : Fin 1024) : val_main_v172 x1 x3 x5 x8 x9 x11 x13 x15 x16 x17 x18 x19 x20 x21 (ix3 b t l)
    = ffIn (xC x1 x3 x5 x8 x9 x11 x13 x15 x16 x17 x18 x19 x20 b t) (fun l => x21 (ix2 0 l)) (modC x3 4) (modC x3 3) l := by
  have h := xC_apply x1 x3 x5 x8 x9 x11 x13 x15 x16 x17 x18 x19 x20
  unfold val_main_v172 val_main_v171 val_main_v170 val_main_v169 val_main_v168 val_main_v167 val_main_v166 val_main_v165 val_main_cst_16 val_main_v164 val_main_v163 val_main_v162 val_main_v161 val_main_v160 val_main_v159 val_main_v158 val_main_v157 val_main_cst_15 val_main_v156 val_main_v155 val_main_cst_14 val_main_v154 val_main_v153 val_main_cst_13 val_main_v152 val_main_v151 val_main_v150 val_main_v99 val_main_v98 val_main_v92 val_main_v91
  generalize val_main_v149 x1 x3 x5 x8 x9 x11 x13 x15 x16 x17 x18 x19 x20 = y at h ⊢
  unfold ffIn rms
  pointwise
  simp only [h]
  try rfl

theorem actC_apply (t : Fin 256) (j : Fin 4096) : val_main_v177 x1 x3 x5 x8 x9 x11 x13 x15 x16 x17 x18 x19 x20 x21 x22 (ix3 b t j)
    = act (ffIn (xC x1 x3 x5 x8 x9 x11 x13 x15 x16 x17 x18 x19 x20 b t) (fun l => x21 (ix2 0 l)) (modC x3 4) (modC x3 3)) (fun k l => x22 (ix3 0 k l)) j := by
  have h := ffC_apply x1 x3 x5 x8 x9 x11 x13 x15 x16 x17 x18 x19 x20 x21
  unfold val_main_v177 val_main_v176 val_main_call5_v0 val_main_call5_cst val_main_v175 val_main_v174 val_main_v173
  generalize val_main_v172 x1 x3 x5 x8 x9 x11 x13 x15 x16 x17 x18 x19 x20 x21 = y at h ⊢
  unfold act
  pointwise
  simp only [h]
  try rfl

theorem mlpC_apply (t : Fin 256) (l : Fin 1024) : val_main_v180 x1 x3 x5 x8 x9 x11 x13 x15 x16 x17 x18 x19 x20 x21 x22 x23 (ix3 b t l)
    = mlp (ffIn (xC x1 x3 x5 x8 x9 x11 x13 x15 x16 x17 x18 x19 x20 b t) (fun l => x21 (ix2 0 l)) (modC x3 4) (modC x3 3)) (fun k l => x22 (ix3 0 k l)) (fun k l => x23 (ix3 0 k l)) l := by
  have h := actC_apply x1 x3 x5 x8 x9 x11 x13 x15 x16 x17 x18 x19 x20 x21 x22
  unfold val_main_v180 val_main_v179 val_main_v178
  generalize val_main_v177 x1 x3 x5 x8 x9 x11 x13 x15 x16 x17 x18 x19 x20 x21 x22 = y at h ⊢
  unfold mlp
  pointwise
  simp only [h]
  try rfl

theorem afterC_apply (t : Fin 256) (l : Fin 1024) : val_main_v184 x1 x3 x5 x8 x9 x11 x13 x15 x16 x17 x18 x19 x20 x21 x22 x23 (ix3 b t l) = layer (fun l => x1 (ix3 b t l)) (modC x3) (fun l => x5 (ix3 b t l)) (oC x8 x9 b t) (fun l => x11 (ix3 b t l) * logis (x11 (ix3 b t l)))
      (fun l => x13 (ix3 b t l)) (fun j => logis (x15 (ix3 b t j))) (fun l => x16 (ix2 0 l)) (fun k l => x17 (ix3 0 k l))
      (fun k l => x18 (ix3 0 k l)) (fun k l => x19 (ix3 0 k l)) (fun k l => x20 (ix3 0 k l)) (fun l => x21 (ix2 0 l))
      (fun k l => x22 (ix3 0 k l)) (fun k l => x23 (ix3 0 k l)) l := by
  have h := xC_apply x1 x3 x5 x8 x9 x11 x13 x15 x16 x17 x18 x19 x20
  have h' := mlpC_apply x1 x3 x5 x8 x9 x11 x13 x15 x16 x17 x18 x19 x20 x21 x22 x23
  unfold val_main_v184 val_main_v183 val_main_v182 val_main_v181 val_main_v100 val_main_v92 val_main_v91
  generalize val_main_v149 x1 x3 x5 x8 x9 x11 x13 x15 x16 x17 x18 x19 x20 = y at h ⊢
  generalize val_main_v180 x1 x3 x5 x8 x9 x11 x13 x15 x16 x17 x18 x19 x20 x21 x22 x23 = y' at h' ⊢
  unfold layer after
  pointwise
  simp only [h, h']
  try rfl

/-! ## The result -/

/-- The reference's result at a latent row. -/
theorem resultL_apply (t : Fin 4096) (l : Fin 1024) : val_main_v185 x0 x1 x2 x3 x4 x5 x6 x7 x8 x9 x10 x11 x12 x13 x14 x15 x16 x17 x18 x19 x20 x21 x22 x23 (ix3 b ⟨t, by omega⟩ l) = layer (fun l => x0 (ix3 b t l)) (modL x2 b) (fun l => x4 (ix3 b t l)) (oL x6 x7 b t) (fun l => x10 (ix3 b t l) * logis (x10 (ix3 b t l)))
      (fun l => x12 (ix3 b t l)) (fun j => logis (x14 (ix3 b t j))) (fun l => x16 (ix2 0 l)) (fun k l => x17 (ix3 0 k l))
      (fun k l => x18 (ix3 0 k l)) (fun k l => x19 (ix3 0 k l)) (fun k l => x20 (ix3 0 k l)) (fun l => x21 (ix2 0 l))
      (fun k l => x22 (ix3 0 k l)) (fun k l => x23 (ix3 0 k l)) l := by
  have h := afterL_apply x0 x2 x4 x6 x7 x10 x12 x14 x16 x17 x18 x19 x20 x21 x22 x23 b t l
  unfold val_main_v185
  generalize val_main_v90 x0 x2 x4 x6 x7 x10 x12 x14 x16 x17 x18 x19 x20 x21 x22 x23 = y at h ⊢
  generalize val_main_v184 x1 x3 x5 x8 x9 x11 x13 x15 x16 x17 x18 x19 x20 x21 x22 x23 = y'
  pointwise
  exact h

/-- The reference's result at a context row. -/
theorem resultC_apply (t : Fin 256) (l : Fin 1024) : val_main_v185 x0 x1 x2 x3 x4 x5 x6 x7 x8 x9 x10 x11 x12 x13 x14 x15 x16 x17 x18 x19 x20 x21 x22 x23 (ix3 b ⟨4096 + t, by omega⟩ l) = layer (fun l => x1 (ix3 b t l)) (modC x3) (fun l => x5 (ix3 b t l)) (oC x8 x9 b t) (fun l => x11 (ix3 b t l) * logis (x11 (ix3 b t l)))
      (fun l => x13 (ix3 b t l)) (fun j => logis (x15 (ix3 b t j))) (fun l => x16 (ix2 0 l)) (fun k l => x17 (ix3 0 k l))
      (fun k l => x18 (ix3 0 k l)) (fun k l => x19 (ix3 0 k l)) (fun k l => x20 (ix3 0 k l)) (fun l => x21 (ix2 0 l))
      (fun k l => x22 (ix3 0 k l)) (fun k l => x23 (ix3 0 k l)) l := by
  have h := afterC_apply x1 x3 x5 x8 x9 x11 x13 x15 x16 x17 x18 x19 x20 x21 x22 x23 b t l
  unfold val_main_v185
  generalize val_main_v184 x1 x3 x5 x8 x9 x11 x13 x15 x16 x17 x18 x19 x20 x21 x22 x23 = y at h ⊢
  generalize val_main_v90 x0 x2 x4 x6 x7 x10 x12 x14 x16 x17 x18 x19 x20 x21 x22 x23 = y'
  pointwise
  exact h

end Cert.FirstRefIdeal.First

end
-- ==== Proof.FirstEq.lean ====
/- The first layer's merge call's result is its reference's: both are `MergeRow.layer` of each token's rows. -/
module

public import proofs.«01_k».proof.Proof.FirstArray
public import proofs.«01_k».proof.Proof.FirstRef

@[expose] public section

set_option maxRecDepth 16384

noncomputable section

namespace Cert.FirstIdeal.First

open Cert.FirstIdeal Cert.FirstIdeal.Gen Idealize.ShloMosaic Idealize.ShloMosaic.TcCoe Idealize.SL.Sem

variable (m : (ℓ : Loc nD τ sig) → Buf (Elt Ideal) ℓ) (c : Dev nD)

/-- The two results are one array, at the latent rows and at the context's. -/
theorem result_eq :
    ((dats m 0 c).arrAt 20 cfg0.N : Vec Ideal S8x4352x1024 .f32) = Cert.FirstRefIdeal.Read.val_main_v185 (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) := by
  funext i
  obtain ⟨b, s, l, rfl⟩ : ∃ (b : Fin 8) (s : Fin 4352) (l : Fin 1024), i = ix3 b s l := ⟨i 0, i 1, i 2, eq_ix3 i⟩
  by_cases h : s.val < 4096
  · exact (arr_latent m c b ⟨s.val, h⟩ l).trans (Cert.FirstRefIdeal.First.resultL_apply (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) b ⟨s.val, h⟩ l).symm
  · obtain ⟨t, rfl⟩ : ∃ t : Fin 256, s = ⟨4096 + t, Nat.add_lt_add_left t.isLt 4096⟩ := ⟨⟨s.val - 4096, by omega⟩, Fin.ext (show s.val = 4096 + (s.val - 4096) by omega)⟩
    exact (arr_context m c b t l).trans (Cert.FirstRefIdeal.First.resultC_apply (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c) (a19 m c) (a20 m c) (a21 m c) (a22 m c) (a23 m c) b t l).symm

end Cert.FirstIdeal.First

end
-- ==== Proof.InprojRow.lean ====
/- One token of a layer's input projection, as a function of that token's row.

   Both programs compute these functions, row by row: the modulated, normalized token times the input projection's columns,
   the GLA queries scaled, the GLA branch's gate and the branch gates taken through their nonlinearities, and the low-rank
   decays multiplied out, biased and turned into log gates. -/
module

public import proofs.«01_k».proof.Proof.MergeRow

@[expose] public section

noncomputable section

namespace Cert.InprojRow

open Idealize.ShloMosaic Cert.MergeRow

/-- The GLA queries' scale, one over the root of the head's width. -/
abbrev c8 : EReal := Ideal.ofBits FTy.f32 0x3E000000#32
/-- The log gates' scale. -/
abbrev c16 : EReal := Ideal.ofBits FTy.f32 0x3D800000#32

/-- Column `j` of the input projection. -/
def zed (h : Fin 1024 → EReal) (w : Fin 1024 → Fin 6592 → EReal) (j : Fin 6592) : EReal := ∑ k, h k * w k j

/-- A number times its logistic. -/
def silu (z : EReal) : EReal := z * logis z

/-- The log gate of a decay: its log logistic over 16. -/
def logGate (x : EReal) : EReal := (min x 0 - Ideal.log (1 + Ideal.exp (0 - max x (-x)))) * c16

/-- A product with weights that are a column of the input projection. -/
theorem dot_eq (h w : Fin 1024 → EReal) (W : Fin 1024 → Fin 6592 → EReal) (j : Fin 6592) (e : ∀ k, w k = W k j) : ∑ k, h k * w k = zed h W j :=
  Finset.sum_congr rfl fun k _ => congrArg (h k * ·) (e k)

/-- A sum over a decay's 128 packed rows is the sum over the 16 rows that hold weights: the rest are zeros. -/
theorem decay_sum (e : Fin 16 → Fin 128) (he : Function.Injective e) (y w : Fin 128 → EReal) (hw : ∀ p, (∀ j, e j ≠ p) → w p = 0) :
    ∑ p, y p * w p = ∑ j, y (e j) * w (e j) := by
  refine (Fintype.sum_of_injective e he _ _ (fun p hp => ?_) (fun j => rfl)).symm
  rw [hw p fun j hj => hp ⟨j, hj⟩, mul_zero]

theorem c16_eq : c16 = ((16 : ℝ)⁻¹ : ℝ) := by
  simp [c16, Ideal.ofBits, Ideal.ieee]; rw [← EReal.coe_mul]; norm_num
theorem ofBits_16 : Ideal.ofBits FTy.f32 0x41800000#32 = ((16 : ℝ) : EReal) := by
  simp [Ideal.ofBits, Ideal.ieee]; rw [← EReal.coe_mul]; norm_num

/-- Dividing by 16 is multiplying by its inverse. -/
theorem div_16 (x : EReal) : Ideal.div x (Ideal.ofBits FTy.f32 0x41800000#32) = x * c16 := by
  rw [ofBits_16, c16_eq]
  unfold Ideal.div
  rw [if_neg (by norm_num), EReal.coe_inv]

/-- The log of one more than an exponential of something not positive is a real number. -/
theorem log_real (y : EReal) (hy : y ≤ 0) : ∃ s : ℝ, Ideal.log (1 + Ideal.exp y) = s := by
  induction y using EReal.rec with
  | bot =>
    refine ⟨0, ?_⟩
    show Ideal.log (1 + 0) = _
    rw [add_zero, ← EReal.coe_one, Ideal.log_coe, if_neg (by norm_num), Real.log_one]
  | coe y =>
    refine ⟨Real.log (1 + Real.exp y), ?_⟩
    show Ideal.log (1 + ((Real.exp y : ℝ) : EReal)) = _
    rw [← EReal.coe_one, ← EReal.coe_add, Ideal.log_coe, if_neg (by have := Real.exp_pos y; linarith)]
  | top => simp at hy

/-- The log gate as the log logistic function of JAX computes it. -/
theorem logGate_ref (x : EReal) :
    Ideal.div (-(max (-x) 0 + Ideal.log (1 + Ideal.exp (-max (-x) (- -x))))) (Ideal.ofBits FTy.f32 0x41800000#32) = logGate x := by
  have hm : -max (-x) (- -x) ≤ 0 := by
    rw [neg_neg, max_comm]
    rcases le_total 0 x with h | h
    · exact EReal.neg_le_zero.2 (le_max_of_le_left h)
    · exact EReal.neg_le_zero.2 (le_max_of_le_right (EReal.neg_nonneg.2 h))
  obtain ⟨s, hs⟩ := log_real _ hm
  have hn : -max (-x) 0 = min x 0 := by
    rcases le_total 0 x with h | h
    · rw [max_eq_right (EReal.neg_le_zero.2 h), min_eq_right h, neg_zero]
    · rw [max_eq_left (EReal.neg_nonneg.2 h), min_eq_left h, neg_neg]
  rw [div_16]
  unfold logGate
  rw [zero_sub, max_comm x (-x)]
  rw [neg_neg] at hs ⊢
  rw [hs, EReal.neg_add (.inr (EReal.coe_ne_top s)) (.inr (EReal.coe_ne_bot s)), hn]

end Cert.InprojRow

end
-- ==== Proof.InprojBlock.lean ====
/- What one grid point of the first layer's input projection kernel stores, at an element.

   A grid point holds 256 tokens of one batch. The first 16 tiles are latent tokens and the last is the context: there the
   kernel reads the token from the context's block. Row `r` of each block it stores is the function of `InprojRow` of row
   `r` of the blocks it reads. -/
module

public import proofs.«01_k».proof.Proof.Gen.InprojIdeal.Frame
public import proofs.«01_k».proof.Proof.InprojRow
public import Idealize.ShloMosaic.Lib.Pointwise

@[expose] public section

set_option maxRecDepth 16384

noncomputable section

namespace Cert.InprojIdeal.Inproj

open Cert.InprojIdeal Cert.InprojIdeal.Gen Idealize.ShloMosaic Idealize.ShloMosaic.TcCoe Idealize.SL.Sem Cert.MergeRow Cert.InprojRow

variable (i : grid0.Coords) (x0 x1 : Vec Ideal S1x256x1024 .f32) (x2 : Vec Ideal S1x6x1024 .f32) (x3 : Vec Ideal S1x1024 .f32)
  (x4 : Vec Ideal S1024x768 .bf16) (x5 x6 : Vec Ideal S1024x1536 .bf16) (x7 : Vec Ideal S1024x3072 .bf16) (x8 : Vec Ideal S1x256 .f32)
  (x9 : Vec Ideal S1x128 .f32) (x10 : Vec Ideal S256x2048 .bf16) (x11 : Vec Ideal S128x2048 .bf16) (x12 : Vec Ideal S128x512 .bf16)
  (x13 : Vec Ideal S1x512 .f32) (x14 x15 : Vec Ideal S256x128 .f32) (r : Fin 256)

/-- Whether the point's tile is one of latent tokens, as the kernel decides it. -/
abbrev lat : BitVec 1 := Scalar.cmpi .slt (BitVec.ofNat 32 (i 1).val) 16#32

/-- The kernel's choice between the latent's and the context's block. -/
theorem pick {α : Type} (a b : α) : Scalar.select (lat i) a b = if (i 1).val < 16 then a else b := by
  have h : ∀ n : Fin 17, Scalar.cmpi .slt (BitVec.ofNat 32 n.val) 16#32 = if n.val < 16 then (1 : BitVec 1) else 0 := by decide
  rw [show lat i = _ from h (i 1)]
  unfold Scalar.select
  by_cases hi : (i 1).val < 16
  · rw [if_pos hi, if_pos hi, if_pos rfl]
  · rw [if_neg hi, if_neg hi, if_neg (by decide)]

/-- The normalized token at row `r`. -/
abbrev hB : Fin 1024 → EReal :=
  ffIn (fun l => Scalar.select (lat i) (x0 (ix3 0 r l)) (x1 (ix3 0 r l))) (fun l => x3 (ix2 0 l)) (fun l => x2 (ix3 0 1 l)) (fun l => x2 (ix3 0 0 l))

theorem p47 (l : Fin 1024) : k0_pay47 i x0 x1 x2 x3 x4 x5 x6 x7 x8 x9 x10 x11 x12 x13 x14 x15 (ix2 r l) = hB i x0 x1 x2 x3 r l := by
  unfold k0_pay47 k0_pay2 hB ffIn rms
  pointwise
  rw [mul_assoc (_ * _)]

theorem p48 (l : Fin 768) : k0_pay48 i x0 x1 x2 x3 x4 x5 x6 x7 x8 x9 x10 x11 x12 x13 x14 x15 (ix2 r l) = ∑ k, hB i x0 x1 x2 x3 r k * x4 (ix2 k l) := by
  have h := p47 i x0 x1 x2 x3 x4 x5 x6 x7 x8 x9 x10 x11 x12 x13 x14 x15 r
  unfold k0_pay48 k0_pay3
  unfold k0_pay47 at h
  generalize k0_pay2 i (View.ld x0 r0_0) (View.ld x1 r0_0) (View.ld x2 r0_1) (View.ld x2 r0_2) (View.ld x3 r0_3) = y at h ⊢
  pointwise
  simp only [h]

theorem hz3 : ∀ a : Fin 3, (![0, 0, 0] : Fin 3 → Nat) a = 0 := fun a => by fin_cases a <;> rfl

theorem block19 (l : Fin 256) : out0_19 i x0 x1 x2 x3 x4 x5 x6 x7 x8 x9 x10 x11 x12 x13 x14 x15 (ix3 0 r l) = (∑ k, hB i x0 x1 x2 x3 r k * x5 (ix2 k ⟨l.val, by omega⟩)) * c8 := by
  have h := p47 i x0 x1 x2 x3 x4 x5 x6 x7 x8 x9 x10 x11 x12 x13 x14 x15 r
  unfold out0_19
  rw [View.canon_unit_zero (funext hz3)]
  generalize k0_pay47 i x0 x1 x2 x3 x4 x5 x6 x7 x8 x9 x10 x11 x12 x13 x14 x15 = y at h ⊢
  unfold k0_pay40 k0_pay39
  pointwise
  simp only [h]

theorem block20 (l : Fin 256) : out0_20 i x0 x1 x2 x3 x4 x5 x6 x7 x8 x9 x10 x11 x12 x13 x14 x15 (ix3 0 r l) = ∑ k, hB i x0 x1 x2 x3 r k * x5 (ix2 k ⟨256 + l.val, by omega⟩) := by
  have h := p47 i x0 x1 x2 x3 x4 x5 x6 x7 x8 x9 x10 x11 x12 x13 x14 x15 r
  unfold out0_20
  rw [View.canon_unit_zero (funext hz3)]
  generalize k0_pay47 i x0 x1 x2 x3 x4 x5 x6 x7 x8 x9 x10 x11 x12 x13 x14 x15 = y at h ⊢
  unfold k0_pay42 k0_pay41 k0_pay39
  pointwise
  simp only [h]

theorem block21 (l : Fin 512) : out0_21 i x0 x1 x2 x3 x4 x5 x6 x7 x8 x9 x10 x11 x12 x13 x14 x15 (ix3 0 r l) = ∑ k, hB i x0 x1 x2 x3 r k * x5 (ix2 k ⟨512 + l.val, by omega⟩) := by
  have h := p47 i x0 x1 x2 x3 x4 x5 x6 x7 x8 x9 x10 x11 x12 x13 x14 x15 r
  unfold out0_21
  rw [View.canon_unit_zero (funext hz3)]
  unfold k0_pay54
  generalize k0_pay47 i x0 x1 x2 x3 x4 x5 x6 x7 x8 x9 x10 x11 x12 x13 x14 x15 = y at h ⊢
  unfold k0_pay43 k0_pay39
  pointwise
  simp only [h]

theorem block22 (l : Fin 512) : out0_22 i x0 x1 x2 x3 x4 x5 x6 x7 x8 x9 x10 x11 x12 x13 x14 x15 (ix3 0 r l)
    = silu (∑ k, hB i x0 x1 x2 x3 r k * x5 (ix2 k ⟨1024 + l.val, by omega⟩)) := by
  have h := p47 i x0 x1 x2 x3 x4 x5 x6 x7 x8 x9 x10 x11 x12 x13 x14 x15 r
  unfold out0_22
  rw [View.canon_unit_zero (funext hz3)]
  unfold k0_pay54
  generalize k0_pay47 i x0 x1 x2 x3 x4 x5 x6 x7 x8 x9 x10 x11 x12 x13 x14 x15 = y at h ⊢
  unfold k0_pay44 k0_pay39 silu logis
  pointwise
  simp only [h, zero_sub]

theorem block23 (l : Fin 512) : out0_23 i x0 x1 x2 x3 x4 x5 x6 x7 x8 x9 x10 x11 x12 x13 x14 x15 (ix3 0 r l)
    = logGate ((∑ j : Fin 128, (∑ k, hB i x0 x1 x2 x3 r k * x4 (ix2 k ⟨640 + j.val, by omega⟩)) * x12 (ix2 j l)) + x13 (ix2 0 l)) := by
  have h := p48 i x0 x1 x2 x3 x4 x5 x6 x7 x8 x9 x10 x11 x12 x13 x14 x15 r
  unfold out0_23
  rw [View.canon_unit_zero (funext hz3)]
  generalize k0_pay48 i x0 x1 x2 x3 x4 x5 x6 x7 x8 x9 x10 x11 x12 x13 x14 x15 = y at h ⊢
  unfold k0_pay38 logGate
  pointwise
  simp only [h]
  rfl

theorem block24 (l : Fin 1536) : out0_24 i x0 x1 x2 x3 x4 x5 x6 x7 x8 x9 x10 x11 x12 x13 x14 x15 (ix3 0 r l) = ∑ k, hB i x0 x1 x2 x3 r k * x6 (ix2 k l) := by
  have h := p47 i x0 x1 x2 x3 x4 x5 x6 x7 x8 x9 x10 x11 x12 x13 x14 x15 r
  unfold out0_24
  rw [View.canon_unit_zero (funext hz3)]
  generalize k0_pay47 i x0 x1 x2 x3 x4 x5 x6 x7 x8 x9 x10 x11 x12 x13 x14 x15 = y at h ⊢
  unfold k0_pay45
  pointwise
  simp only [h]

theorem block25 (l : Fin 3072) : out0_25 i x0 x1 x2 x3 x4 x5 x6 x7 x8 x9 x10 x11 x12 x13 x14 x15 (ix3 0 r l) = logis (∑ k, hB i x0 x1 x2 x3 r k * x7 (ix2 k l)) := by
  have h := p47 i x0 x1 x2 x3 x4 x5 x6 x7 x8 x9 x10 x11 x12 x13 x14 x15 r
  unfold out0_25
  rw [View.canon_unit_zero (funext hz3)]
  generalize k0_pay47 i x0 x1 x2 x3 x4 x5 x6 x7 x8 x9 x10 x11 x12 x13 x14 x15 = y at h ⊢
  unfold k0_pay1 k0_pay46 logis
  pointwise
  simp only [h, zero_sub]

end Cert.InprojIdeal.Inproj

end
-- ==== Proof.InprojHost.lean ====
/- The packed arrays the first layer's input projection call reads, at an element.

   The host code before the call puts the context's modulation after the batches', takes the first layer's weights, lays the
   input projection's columns out in the groups the kernel multiplies at once, puts the two directions' low-rank decay
   matrices on a block diagonal, and their biases side by side. -/
module

public import proofs.«01_k».proof.Proof.InprojRow
public import proofs.«01_k».proof.Proof.Gen.InprojIdeal.Value
public import Idealize.ShloMosaic.Lib.Tactic.CleanTypes
public import Idealize.ShloMosaic.Lib.StableHlo.ReadAt
public import Idealize.ShloMosaic.Lib.Routing.OpsSet
public import Idealize.ShloMosaic.Lib.Routing.OpsOne
public import Idealize.ShloMosaic.Lib.Pointwise

@[expose] public section

set_option maxRecDepth 16384

noncomputable section

namespace Cert.InprojIdeal.Inproj

open Cert.InprojIdeal Cert.InprojIdeal.Gen Idealize.ShloMosaic Idealize.ShloMosaic.Routing Idealize.ShloMosaic.TcCoe Idealize.SL.Sem Cert.MergeRow Cert.InprojRow

/-! ## Writing a block into a matrix -/

/-- Entry `(p, q)` of a `P × Q` block written at the row and column two index words name lands that far below and to the
    right of them. -/
theorem lands_block {R C P Q : Nat} (d : ScatterDims (shape2 R C) (shape1 2) (shape2 P Q)) (hu : d.updateWindowDims = [0, 1])
    (hi : d.insertedWindowDims = []) (hs : d.scatterDimsToOperandDims = [0, 1]) (hd : d.indexVectorDim = 0) (idx : IVec (shape1 2) 32)
    (p : Fin P) (q : Fin Q) (r : Fin R) (c : Fin C) :
    d.resultIdx? (ix2 p q) idx = some (ix2 r c)
      ↔ (idx (ix1 (0 : Fin 2))).toInt + (p.val : Int) = r.val ∧ (idx (ix1 (1 : Fin 2))).toInt + (q.val : Int) = c.val := by
  have w : d.window (ix2 p q) 0 = p.val ∧ d.window (ix2 p q) 1 = q.val := by
    cases d
    dsimp only at hu hi
    subst hu hi
    exact ⟨rfl, rfl⟩
  have e := resultIdx?_ix2 d (ix2 p q) idx r c
  rw [start_pair d hs hd, start_pair d hs hd, w.1, w.2] at e
  exact e

/-- A block written into a matrix at a constant place, read at `(r, c)`. -/
theorem block_set {α : Type} {R C P Q : Nat} (d : ScatterDims (shape2 R C) (shape1 2) (shape2 P Q)) (hu : d.updateWindowDims = [0, 1])
    (hi : d.insertedWindowDims = []) (hs : d.scatterDimsToOperandDims = [0, 1]) (hd : d.indexVectorDim = 0) (x : (shape2 R C).Idx → α)
    (idx : IVec (shape1 2) 32) (u : (shape2 P Q).Idx → α) (r0 c0 : Nat) (h0 : (idx (ix1 (0 : Fin 2))).toInt = r0)
    (h1 : (idx (ix1 (1 : Fin 2))).toInt = c0) (r : Fin R) (c : Fin C) :
    Host.scatter d (fun _ b => b) x idx u (ix2 r c)
      = if h : (r0 ≤ r.val ∧ r.val < r0 + P) ∧ c0 ≤ c.val ∧ c.val < c0 + Q
        then u (ix2 ⟨r.val - r0, by omega⟩ ⟨c.val - c0, by omega⟩) else x (ix2 r c) := by
  by_cases h : (r0 ≤ r.val ∧ r.val < r0 + P) ∧ c0 ≤ c.val ∧ c.val < c0 + Q
  · rw [dif_pos h]
    refine scatter_set_hit d x idx u _ _ (fun k hk => ?_) (ix2 ⟨r.val - r0, by omega⟩ ⟨c.val - c0, by omega⟩)
      ((lands_block d hu hi hs hd idx _ _ r c).2 ⟨by rw [h0]; show _ + ((r.val - r0 : Nat) : Int) = _; omega, by rw [h1]; show _ + ((c.val - c0 : Nat) : Int) = _; omega⟩)
    obtain ⟨p, q, rfl⟩ : ∃ (p : Fin P) (q : Fin Q), k = ix2 p q := ⟨k 0, k 1, eq_ix2 k⟩
    have e := (lands_block d hu hi hs hd idx p q r c).1 hk
    rw [h0, h1] at e
    congr 2
    · exact Fin.ext (by show p.val = r.val - r0; omega)
    · exact Fin.ext (by show q.val = c.val - c0; omega)
  · rw [dif_neg h]
    refine scatter_set_miss d x idx u _ fun k hk => h ?_
    obtain ⟨p, q, rfl⟩ : ∃ (p : Fin P) (q : Fin Q), k = ix2 p q := ⟨k 0, k 1, eq_ix2 k⟩
    have e := (lands_block d hu hi hs hd idx p q r c).1 hk
    rw [h0, h1] at e
    omega

variable (m : (ℓ : Loc nD τ sig) → Buf (Elt Ideal) ℓ) (c : Dev nD)

/-! ## The arguments -/

/-- The latent tokens. -/
abbrev a0 : Vec Ideal S8x4096x1024 .f32 := m ((c : Thread nD τ).loc main_arg0)
/-- The context's tokens. -/
abbrev a1 : Vec Ideal S8x256x1024 .f32 := m ((c : Thread nD τ).loc main_arg1)
/-- The modulation of both layers. -/
abbrev a2 : Vec Ideal S2x8x6144 .f32 := m ((c : Thread nD τ).loc main_arg2)
/-- The context's modulation of both layers. -/
abbrev a3 : Vec Ideal S2x6144 .f32 := m ((c : Thread nD τ).loc main_arg3)
/-- The scale of the normalization before the input projection. -/
abbrev a4 : Vec Ideal S2x1024 .f32 := m ((c : Thread nD τ).loc main_arg4)
/-- The input projection. -/
abbrev a5 : Vec Ideal S2x1024x6592 .f32 := m ((c : Thread nD τ).loc main_arg5)
/-- The decays' second matrices, one for each direction. -/
abbrev a10 : Vec Ideal S2x2x16x256 .f32 := m ((c : Thread nD τ).loc main_arg10)
/-- The decays' biases. -/
abbrev a11 : Vec Ideal S2x2x256 .f32 := m ((c : Thread nD τ).loc main_arg11)

/-! ## The packed arrays -/

theorem xL_apply (b : Fin 8) (t : Fin 4096) (l : Fin 1024) :
    (V m c main_arg0 : Vec Ideal S8x4096x1024 .f32) (ix3 b t l) = a0 m c (ix3 b t l) := by
  unfold_abbrev_sides
  after_reads_at

theorem xC_apply (b : Fin 8) (t : Fin 256) (l : Fin 1024) :
    (V m c main_arg1 : Vec Ideal S8x256x1024 .f32) (ix3 b t l) = a1 m c (ix3 b t l) := by
  unfold_abbrev_sides
  after_reads_at

theorem modL_apply (b : Fin 8) (k : Fin 6) (l : Fin 1024) :
    (V m c main_v7 : Vec Ideal S16x6x1024 .f32) (ix3 ⟨b, by omega⟩ k l) = a2 m c (ix3 0 b ⟨1024 * k.val + l.val, by omega⟩) := by
  unfold_abbrev_sides
  after_reads_at
  try after_reads_at
  try simp only [Nat.mul_comm 1024]

theorem modC_apply (k : Fin 6) (l : Fin 1024) :
    (V m c main_v7 : Vec Ideal S16x6x1024 .f32) (ix3 8 k l) = a3 m c (ix2 0 ⟨1024 * k.val + l.val, by omega⟩) := by
  unfold_abbrev_sides
  after_reads_at
  try after_reads_at
  try simp only [Nat.mul_comm 1024]

theorem g1_apply (l : Fin 1024) :
    (V m c main_v260 : Vec Ideal S1x1024 .f32) (ix2 0 l) = a4 m c (ix2 0 l) := by
  unfold_abbrev_sides
  after_reads_at

theorem wgq_apply (k : Fin 1024) (l : Fin 256) :
    (V m c main_v54 : Vec Ideal S1024x1536 .bf16) (ix2 k ⟨l.val, by omega⟩) = a5 m c (ix3 0 k ⟨416 + l.val, by omega⟩) := by
  unfold_abbrev_sides
  after_reads_at
  try after_reads_at
  try rfl

theorem wgk_apply (k : Fin 1024) (l : Fin 256) :
    (V m c main_v54 : Vec Ideal S1024x1536 .bf16) (ix2 k ⟨256 + l.val, by omega⟩) = a5 m c (ix3 0 k ⟨672 + l.val, by omega⟩) := by
  unfold_abbrev_sides
  after_reads_at
  try after_reads_at
  try rfl

theorem wgv_apply (k : Fin 1024) (l : Fin 512) :
    (V m c main_v54 : Vec Ideal S1024x1536 .bf16) (ix2 k ⟨512 + l.val, by omega⟩) = a5 m c (ix3 0 k ⟨928 + l.val, by omega⟩) := by
  unfold_abbrev_sides
  after_reads_at
  rw [dif_neg (by omega), dif_neg (by omega), dif_pos (by omega)]
  after_reads_at
  try simp only [show 512 + l.val - 256 - 256 = l.val by omega]

theorem wgr_apply (k : Fin 1024) (l : Fin 512) :
    (V m c main_v54 : Vec Ideal S1024x1536 .bf16) (ix2 k ⟨1024 + l.val, by omega⟩) = a5 m c (ix3 0 k ⟨1440 + l.val, by omega⟩) := by
  unfold_abbrev_sides
  after_reads_at
  rw [dif_neg (by omega), dif_neg (by omega), dif_neg (by omega)]
  after_reads_at
  try simp only [show 1024 + l.val - 256 - 256 - 512 = l.val by omega]

theorem wh_apply (k : Fin 1024) (l : Fin 1536) :
    (V m c main_v28 : Vec Ideal S1024x1536 .bf16) (ix2 k l) = a5 m c (ix3 0 k ⟨1984 + l.val, by omega⟩) := by
  unfold_abbrev_sides
  after_reads_at
  try after_reads_at
  try rfl

theorem wz_apply (k : Fin 1024) (l : Fin 3072) :
    (V m c main_v29 : Vec Ideal S1024x3072 .bf16) (ix2 k l) = a5 m c (ix3 0 k ⟨3520 + l.val, by omega⟩) := by
  unfold_abbrev_sides
  after_reads_at
  try after_reads_at
  try rfl

theorem waF_apply (k : Fin 1024) (j : Fin 16) :
    (V m c main_v250 : Vec Ideal S1024x768 .bf16) (ix2 k ⟨640 + j.val, by omega⟩) = a5 m c (ix3 0 k ⟨1952 + j.val, by omega⟩) := by
  unfold_abbrev_sides
  after_reads_at
  rw [dif_neg (by omega), dif_neg (by omega), dif_neg (by omega), dif_neg (by omega)]
  after_reads_at
  rw [dif_pos (by omega)]
  try after_reads_at
  simp only [show 640 + j.val - 256 - 128 - 128 - 128 = j.val by omega]

theorem waB_apply (k : Fin 1024) (j : Fin 16) :
    (V m c main_v250 : Vec Ideal S1024x768 .bf16) (ix2 k ⟨656 + j.val, by omega⟩) = a5 m c (ix3 0 k ⟨1968 + j.val, by omega⟩) := by
  unfold_abbrev_sides
  after_reads_at
  rw [dif_neg (by omega), dif_neg (by omega), dif_neg (by omega), dif_neg (by omega)]
  after_reads_at
  rw [dif_neg (by omega), dif_pos (by omega)]
  try after_reads_at
  simp only [show 656 + j.val - 256 - 128 - 128 - 128 - 16 = j.val by omega]

theorem baF_apply (l : Fin 256) :
    (V m c main_v249 : Vec Ideal S1x512 .f32) (ix2 0 ⟨l.val, by omega⟩) = a11 m c (ix3 0 0 l) := by
  unfold_abbrev_sides
  after_reads_at
  try after_reads_at
  try rfl

theorem baB_apply (l : Fin 256) :
    (V m c main_v249 : Vec Ideal S1x512 .f32) (ix2 0 ⟨256 + l.val, by omega⟩) = a11 m c (ix3 0 1 l) := by
  unfold_abbrev_sides
  after_reads_at
  try after_reads_at
  try rfl

theorem w2F_apply (p : Fin 16) (l : Fin 256) :
    (V m c main_v253 : Vec Ideal S128x512 .bf16) (ix2 ⟨p.val, by omega⟩ ⟨l.val, by omega⟩) = a10 m c (ix4 0 0 p l) := by
  unfold_abbrev_sides
  after_reads_at
  refine (block_set _ rfl rfl rfl rfl _ _ _ 16 256 ?_ ?_ _ _).trans ?_
  · pointwise
    after_reads_at
    rfl
  · pointwise
    after_reads_at
    rfl
  rw [dif_neg (by simp only; omega)]
  refine (block_set _ rfl rfl rfl rfl _ _ _ 0 0 ?_ ?_ _ _).trans ?_
  · pointwise
    after_reads_at
    rfl
  · pointwise
    after_reads_at
    rfl
  rw [dif_pos (by simp only; omega)]
  rfl

theorem w2B_apply (p : Fin 16) (l : Fin 256) :
    (V m c main_v253 : Vec Ideal S128x512 .bf16) (ix2 ⟨16 + p.val, by omega⟩ ⟨256 + l.val, by omega⟩) = a10 m c (ix4 0 1 p l) := by
  unfold_abbrev_sides
  after_reads_at
  refine (block_set _ rfl rfl rfl rfl _ _ _ 16 256 ?_ ?_ _ _).trans ?_
  · pointwise
    after_reads_at
    rfl
  · pointwise
    after_reads_at
    rfl
  rw [dif_pos (by simp only; omega)]
  simp only [Nat.add_sub_cancel_left, Fin.eta]
  rfl

theorem w2Z_apply (p : Fin 128) (l : Fin 512) (h0 : p.val < 16 → 256 ≤ l.val) (h1 : 16 ≤ p.val → p.val < 32 → l.val < 256) :
    (V m c main_v253 : Vec Ideal S128x512 .bf16) (ix2 p l) = (0 : EReal) := by
  unfold_abbrev_sides
  after_reads_at
  refine (block_set _ rfl rfl rfl rfl _ _ _ 16 256 ?_ ?_ _ _).trans ?_
  · pointwise
    after_reads_at
    rfl
  · pointwise
    after_reads_at
    rfl
  rw [dif_neg (by omega)]
  refine (block_set _ rfl rfl rfl rfl _ _ _ 0 0 ?_ ?_ _ _).trans ?_
  · pointwise
    after_reads_at
    rfl
  · pointwise
    after_reads_at
    rfl
  rw [dif_neg (by omega)]
  pointwise
  try rfl

end Cert.InprojIdeal.Inproj

end
-- ==== Proof.InprojArray.lean ====
/- The first layer's input projection call's result arrays, at an element.

   Grid point `t` is batch `t / 17` and token tile `t % 17`, 256 tokens to a tile; tile 16 is the context. Its blocks are
   read off the packed arrays, and element `(b, s, l)` of a result is stored by exactly one point. -/
module

public import proofs.«01_k».proof.Proof.Gen.InprojIdeal.Value
public import proofs.«01_k».proof.Proof.InprojBlock
public import proofs.«01_k».proof.Proof.InprojHost

@[expose] public section

set_option maxRecDepth 16384

noncomputable section

namespace Cert.InprojIdeal.Inproj

open Cert.InprojIdeal Cert.InprojIdeal.Gen Idealize.ShloMosaic Idealize.ShloMosaic.TcCoe Idealize.SL.Sem Cert.MergeRow Cert.InprojRow

theorem coord1 : ∀ t : Fin cfg0.N, (grid0.coords t 1).val = t.val % 17 :=
  (by decide +kernel : ∀ t : Fin grid0.N, (grid0.coords t 1).val = t.val % 17)
theorem idx0 : ∀ t : Fin cfg0.N, win0_0.index t 0 = t.val / 17 ∧ win0_0.index t 1 = min (t.val % 17) 15 ∧ win0_0.index t 2 = 0 :=
  (by decide +kernel : ∀ t : Fin grid0.N, win0_0.index t 0 = t.val / 17 ∧ win0_0.index t 1 = min (t.val % 17) 15 ∧ win0_0.index t 2 = 0)
theorem idx1 : ∀ t : Fin cfg0.N, win0_1.index t 0 = t.val / 17 ∧ win0_1.index t 1 = 0 ∧ win0_1.index t 2 = 0 :=
  (by decide +kernel : ∀ t : Fin grid0.N, win0_1.index t 0 = t.val / 17 ∧ win0_1.index t 1 = 0 ∧ win0_1.index t 2 = 0)
theorem idx2 : ∀ t : Fin cfg0.N, win0_2.index t 0 = (if t.val % 17 < 16 then t.val / 17 else 8) ∧ win0_2.index t 1 = 0 ∧ win0_2.index t 2 = 0 :=
  (by decide +kernel : ∀ t : Fin grid0.N, win0_2.index t 0 = (if t.val % 17 < 16 then t.val / 17 else 8) ∧ win0_2.index t 1 = 0 ∧ win0_2.index t 2 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem idx12 : ∀ t : Fin cfg0.N, win0_12.index t 0 = 0 ∧ win0_12.index t 1 = 0 :=
  (by decide +kernel : ∀ t : Fin grid0.N, win0_12.index t 0 = 0 ∧ win0_12.index t 1 = 0)
theorem idx13 : ∀ t : Fin cfg0.N, win0_13.index t 0 = 0 ∧ win0_13.index t 1 = 0 :=
  (by decide +kernel : ∀ t : Fin grid0.N, win0_13.index t 0 = 0 ∧ win0_13.index t 1 = 0)
theorem idx19 : ∀ t : Fin cfg0.N, win0_19.index t 0 = t.val / 17 ∧ win0_19.index t 1 = t.val % 17 ∧ win0_19.index t 2 = 0 :=
  (by decide +kernel : ∀ t : Fin grid0.N, win0_19.index t 0 = t.val / 17 ∧ win0_19.index t 1 = t.val % 17 ∧ win0_19.index t 2 = 0)
theorem idx20 : ∀ t : Fin cfg0.N, win0_20.index t 0 = t.val / 17 ∧ win0_20.index t 1 = t.val % 17 ∧ win0_20.index t 2 = 0 :=
  (by decide +kernel : ∀ t : Fin grid0.N, win0_20.index t 0 = t.val / 17 ∧ win0_20.index t 1 = t.val % 17 ∧ win0_20.index t 2 = 0)
theorem idx21 : ∀ t : Fin cfg0.N, win0_21.index t 0 = t.val / 17 ∧ win0_21.index t 1 = t.val % 17 ∧ win0_21.index t 2 = 0 :=
  (by decide +kernel : ∀ t : Fin grid0.N, win0_21.index t 0 = t.val / 17 ∧ win0_21.index t 1 = t.val % 17 ∧ win0_21.index t 2 = 0)
theorem idx22 : ∀ t : Fin cfg0.N, win0_22.index t 0 = t.val / 17 ∧ win0_22.index t 1 = t.val % 17 ∧ win0_22.index t 2 = 0 :=
  (by decide +kernel : ∀ t : Fin grid0.N, win0_22.index t 0 = t.val / 17 ∧ win0_22.index t 1 = t.val % 17 ∧ win0_22.index t 2 = 0)
theorem idx23 : ∀ t : Fin cfg0.N, win0_23.index t 0 = t.val / 17 ∧ win0_23.index t 1 = t.val % 17 ∧ win0_23.index t 2 = 0 :=
  (by decide +kernel : ∀ t : Fin grid0.N, win0_23.index t 0 = t.val / 17 ∧ win0_23.index t 1 = t.val % 17 ∧ win0_23.index t 2 = 0)
theorem idx24 : ∀ t : Fin cfg0.N, win0_24.index t 0 = t.val / 17 ∧ win0_24.index t 1 = t.val % 17 ∧ win0_24.index t 2 = 0 :=
  (by decide +kernel : ∀ t : Fin grid0.N, win0_24.index t 0 = t.val / 17 ∧ win0_24.index t 1 = t.val % 17 ∧ win0_24.index t 2 = 0)
theorem idx25 : ∀ t : Fin cfg0.N, win0_25.index t 0 = t.val / 17 ∧ win0_25.index t 1 = t.val % 17 ∧ win0_25.index t 2 = 0 :=
  (by decide +kernel : ∀ t : Fin grid0.N, win0_25.index t 0 = t.val / 17 ∧ win0_25.index t 1 = t.val % 17 ∧ win0_25.index t 2 = 0)

theorem lt_N (t : Fin cfg0.N) : t.val < 136 := lt_of_lt_of_eq t.isLt (by decide +kernel : grid0.N = 136)

variable (m : (ℓ : Loc nD τ sig) → Buf (Elt Ideal) ℓ) (c : Dev nD)

/-! ## The blocks a point reads -/

/-- The batch of point `t`. -/
abbrev bat (t : Fin cfg0.N) : Fin 8 := ⟨t.val / 17, by have := lt_N t; omega⟩
/-- The latent token at row `r` of point `t`'s tile. -/
abbrev tok (t : Fin cfg0.N) (h : t.val % 17 < 16) (r : Fin 256) : Fin 4096 := ⟨256 * (t.val % 17) + r.val, by omega⟩

/-- The latent's modulation rows of batch `b`. -/
abbrev modL (b : Fin 8) : Fin 6 → Fin 1024 → EReal := fun k l => a2 m c (ix3 0 b ⟨1024 * k.val + l.val, by omega⟩)
/-- The context's modulation rows. -/
abbrev modC : Fin 6 → Fin 1024 → EReal := fun k l => a3 m c (ix2 0 ⟨1024 * k.val + l.val, by omega⟩)

theorem blk0L (t : Fin cfg0.N) (h : t.val % 17 < 16) (r : Fin 256) (l : Fin 1024) :
    (iblk m c 0 t : Vec Ideal S1x256x1024 .f32) (ix3 0 r l) = a0 m c (ix3 (bat t) (tok t h r) l) := by
  obtain ⟨e0, e1, e2⟩ := idx0 t
  rw [← xL_apply m c (bat t) (tok t h r) l]
  unfold iblk
  rw [View.read_apply]
  show V m c main_arg0 _ = V m c main_arg0 _
  congr 1
  funext a
  apply Fin.ext
  match a with
  | ⟨0, _⟩ => show win0_0.index t 0 * 1 + 1 * 0 = t.val / 17; rw [e0]; omega
  | ⟨1, _⟩ => show win0_0.index t 1 * 256 + 1 * r.val = 256 * (t.val % 17) + r.val; rw [e1]; omega
  | ⟨2, _⟩ => show win0_0.index t 2 * 1024 + 1 * l.val = l.val; rw [e2]; omega

theorem blk1C (t : Fin cfg0.N) (r : Fin 256) (l : Fin 1024) :
    (iblk m c 1 t : Vec Ideal S1x256x1024 .f32) (ix3 0 r l) = a1 m c (ix3 (bat t) r l) := by
  obtain ⟨e0, e1, e2⟩ := idx1 t
  rw [← xC_apply m c (bat t) r l]
  unfold iblk
  rw [View.read_apply]
  show V m c main_arg1 _ = V m c main_arg1 _
  congr 1
  funext a
  apply Fin.ext
  match a with
  | ⟨0, _⟩ => show win0_1.index t 0 * 1 + 1 * 0 = t.val / 17; rw [e0]; omega
  | ⟨1, _⟩ => show win0_1.index t 1 * 256 + 1 * r.val = r.val; rw [e1]; omega
  | ⟨2, _⟩ => show win0_1.index t 2 * 1024 + 1 * l.val = l.val; rw [e2]; omega

theorem blk2L (t : Fin cfg0.N) (h : t.val % 17 < 16) (k : Fin 6) (l : Fin 1024) :
    (iblk m c 2 t : Vec Ideal S1x6x1024 .f32) (ix3 0 k l) = modL m c (bat t) k l := by
  obtain ⟨e0, e1, e2⟩ := idx2 t
  refine Eq.trans ?_ (modL_apply m c (bat t) k l)
  unfold iblk
  rw [View.read_apply]
  show V m c main_v7 _ = V m c main_v7 _
  congr 1
  funext a
  apply Fin.ext
  match a with
  | ⟨0, _⟩ => show win0_2.index t 0 * 1 + 1 * 0 = t.val / 17; rw [e0, if_pos h]; omega
  | ⟨1, _⟩ => show win0_2.index t 1 * 6 + 1 * k.val = k.val; rw [e1]; omega
  | ⟨2, _⟩ => show win0_2.index t 2 * 1024 + 1 * l.val = l.val; rw [e2]; omega

theorem blk2C (t : Fin cfg0.N) (h : t.val % 17 = 16) (k : Fin 6) (l : Fin 1024) :
    (iblk m c 2 t : Vec Ideal S1x6x1024 .f32) (ix3 0 k l) = modC m c k l := by
  obtain ⟨e0, e1, e2⟩ := idx2 t
  refine Eq.trans ?_ (modC_apply m c k l)
  unfold iblk
  rw [View.read_apply]
  show V m c main_v7 _ = V m c main_v7 _
  congr 1
  funext a
  apply Fin.ext
  match a with
  | ⟨0, _⟩ => show win0_2.index t 0 * 1 + 1 * 0 = 8; rw [e0, if_neg (by omega)]
  | ⟨1, _⟩ => show win0_2.index t 1 * 6 + 1 * k.val = k.val; rw [e1]; omega
  | ⟨2, _⟩ => show win0_2.index t 2 * 1024 + 1 * l.val = l.val; rw [e2]; omega

theorem blk3 (t : Fin cfg0.N) (l : Fin 1024) :
    (iblk m c 3 t : Vec Ideal S1x1024 .f32) (ix2 0 l) = a4 m c (ix2 0 l) := by
  obtain ⟨e0, e1⟩ := idx3 t
  rw [← g1_apply m c l]
  unfold iblk
  rw [View.read_apply]
  show V m c main_v260 _ = V m c main_v260 _
  congr 1
  funext a
  apply Fin.ext
  match a with
  | ⟨0, _⟩ => show win0_3.index t 0 * 1 + 1 * 0 = 0; rw [e0]
  | ⟨1, _⟩ => show win0_3.index t 1 * 1024 + 1 * l.val = l.val; rw [e1]; omega

theorem blk4 (t : Fin cfg0.N) (k : Fin 1024) (l : Fin 768) :
    (iblk m c 4 t : Vec Ideal S1024x768 .bf16) (ix2 k l) = (V m c main_v250 : Vec Ideal S1024x768 .bf16) (ix2 k l) := by
  obtain ⟨e0, e1⟩ := idx4 t
  unfold iblk
  rw [View.read_apply]
  show V m c main_v250 _ = V m c main_v250 _
  congr 1
  funext a
  apply Fin.ext
  match a with
  | ⟨0, _⟩ => show win0_4.index t 0 * 1024 + 1 * k.val = k.val; rw [e0]; omega
  | ⟨1, _⟩ => show win0_4.index t 1 * 768 + 1 * l.val = l.val; rw [e1]; omega

theorem blk5 (t : Fin cfg0.N) (k : Fin 1024) (l : Fin 1536) :
    (iblk m c 5 t : Vec Ideal S1024x1536 .bf16) (ix2 k l) = (V m c main_v54 : Vec Ideal S1024x1536 .bf16) (ix2 k l) := by
  obtain ⟨e0, e1⟩ := idx5 t
  unfold iblk
  rw [View.read_apply]
  show V m c main_v54 _ = V m c main_v54 _
  congr 1
  funext a
  apply Fin.ext
  match a with
  | ⟨0, _⟩ => show win0_5.index t 0 * 1024 + 1 * k.val = k.val; rw [e0]; omega
  | ⟨1, _⟩ => show win0_5.index t 1 * 1536 + 1 * l.val = l.val; rw [e1]; omega

theorem blk6 (t : Fin cfg0.N) (k : Fin 1024) (l : Fin 1536) :
    (iblk m c 6 t : Vec Ideal S1024x1536 .bf16) (ix2 k l) = (V m c main_v28 : Vec Ideal S1024x1536 .bf16) (ix2 k l) := by
  obtain ⟨e0, e1⟩ := idx6 t
  unfold iblk
  rw [View.read_apply]
  show V m c main_v28 _ = V m c main_v28 _
  congr 1
  funext a
  apply Fin.ext
  match a with
  | ⟨0, _⟩ => show win0_6.index t 0 * 1024 + 1 * k.val = k.val; rw [e0]; omega
  | ⟨1, _⟩ => show win0_6.index t 1 * 1536 + 1 * l.val = l.val; rw [e1]; omega

theorem blk7 (t : Fin cfg0.N) (k : Fin 1024) (l : Fin 3072) :
    (iblk m c 7 t : Vec Ideal S1024x3072 .bf16) (ix2 k l) = (V m c main_v29 : Vec Ideal S1024x3072 .bf16) (ix2 k l) := by
  obtain ⟨e0, e1⟩ := idx7 t
  unfold iblk
  rw [View.read_apply]
  show V m c main_v29 _ = V m c main_v29 _
  congr 1
  funext a
  apply Fin.ext
  match a with
  | ⟨0, _⟩ => show win0_7.index t 0 * 1024 + 1 * k.val = k.val; rw [e0]; omega
  | ⟨1, _⟩ => show win0_7.index t 1 * 3072 + 1 * l.val = l.val; rw [e1]; omega

theorem blk12 (t : Fin cfg0.N) (k : Fin 128) (l : Fin 512) :
    (iblk m c 12 t : Vec Ideal S128x512 .bf16) (ix2 k l) = (V m c main_v253 : Vec Ideal S128x512 .bf16) (ix2 k l) := by
  obtain ⟨e0, e1⟩ := idx12 t
  unfold iblk
  rw [View.read_apply]
  show V m c main_v253 _ = V m c main_v253 _
  congr 1
  funext a
  apply Fin.ext
  match a with
  | ⟨0, _⟩ => show win0_12.index t 0 * 128 + 1 * k.val = k.val; rw [e0]; omega
  | ⟨1, _⟩ => show win0_12.index t 1 * 512 + 1 * l.val = l.val; rw [e1]; omega

theorem blk13 (t : Fin cfg0.N) (l : Fin 512) :
    (iblk m c 13 t : Vec Ideal S1x512 .f32) (ix2 0 l) = (V m c main_v249 : Vec Ideal S1x512 .f32) (ix2 0 l) := by
  obtain ⟨e0, e1⟩ := idx13 t
  unfold iblk
  rw [View.read_apply]
  show V m c main_v249 _ = V m c main_v249 _
  congr 1
  funext a
  apply Fin.ext
  match a with
  | ⟨0, _⟩ => show win0_13.index t 0 * 1 + 1 * 0 = 0; rw [e0]
  | ⟨1, _⟩ => show win0_13.index t 1 * 512 + 1 * l.val = l.val; rw [e1]; omega

/-- The token a latent point normalizes at row `r`. -/
theorem row_latent (t : Fin cfg0.N) (h : t.val % 17 < 16) (r : Fin 256) :
    hB (grid0.coords t) (iblk m c 0 t) (iblk m c 1 t) (iblk m c 2 t) (iblk m c 3 t) r = ffIn (fun l => a0 m c (ix3 (bat t) (tok t h r) l)) (fun l => a4 m c (ix2 0 l)) (modL m c (bat t) 1) (modL m c (bat t) 0) := by
  have h0 := blk0L m c t h r
  have h2 := blk2L m c t h
  unfold hB
  simp only [pick, coord1, h, if_true, h0, h2, blk3]

/-- The token a context point normalizes at row `r`. -/
theorem row_context (t : Fin cfg0.N) (h : t.val % 17 = 16) (r : Fin 256) :
    hB (grid0.coords t) (iblk m c 0 t) (iblk m c 1 t) (iblk m c 2 t) (iblk m c 3 t) r = ffIn (fun l => a1 m c (ix3 (bat t) r l)) (fun l => a4 m c (ix2 0 l)) (modC m c 1) (modC m c 0) := by
  have h0 := blk1C m c t r
  have h2 := blk2C m c t h
  unfold hB
  simp only [pick, coord1, h, lt_irrefl, if_false, h0, h2, blk3]

/-! ## The result arrays -/

/-- The point that stores the elements of batch `b` and row `s`. -/
def pt (b : Fin 8) (s : Fin 4352) : Fin cfg0.N :=
  ⟨17 * b.val + s.val / 256, by have e : cfg0.N = 136 := by decide +kernel
                                rw [e]; omega⟩

/-- The input projection of row `s` of batch `b`, as the point that holds it computes it. -/
def zK (b : Fin 8) (s : Fin 4352) : Fin 6592 → EReal :=
  zed (hB (grid0.coords (pt b s)) (iblk m c 0 (pt b s)) (iblk m c 1 (pt b s)) (iblk m c 2 (pt b s)) (iblk m c 3 (pt b s)) ⟨s.val % 256, by omega⟩) (fun k j => a5 m c (ix3 0 k j))

/-- The input projection of a latent row. -/
theorem zK_latent (b : Fin 8) (s : Fin 4096) :
    zK m c b ⟨s, by omega⟩ = zed (ffIn (fun l => a0 m c (ix3 b s l)) (fun l => a4 m c (ix2 0 l)) (modL m c b 1) (modL m c b 0)) (fun k j => a5 m c (ix3 0 k j)) := by
  have h : (pt b ⟨s, by omega⟩).val % 17 < 16 := show (17 * b.val + s.val / 256) % 17 < 16 by omega
  have hb : bat (pt b ⟨s, by omega⟩) = b := Fin.ext (show (17 * b.val + s.val / 256) / 17 = b.val by omega)
  have ht : tok (pt b ⟨s, by omega⟩) h ⟨s.val % 256, by omega⟩ = s :=
    Fin.ext (show 256 * ((17 * b.val + s.val / 256) % 17) + s.val % 256 = s.val by omega)
  have hp := row_latent m c (pt b ⟨s, by omega⟩) h ⟨s.val % 256, by omega⟩
  rw [hb, ht] at hp
  exact congrArg (fun h => zed h (fun k j => a5 m c (ix3 0 k j))) hp

/-- The input projection of a context row. -/
theorem zK_context (b : Fin 8) (s : Fin 256) :
    zK m c b ⟨4096 + s, Nat.add_lt_add_left s.isLt 4096⟩ = zed (ffIn (fun l => a1 m c (ix3 b s l)) (fun l => a4 m c (ix2 0 l)) (modC m c 1) (modC m c 0)) (fun k j => a5 m c (ix3 0 k j)) := by
  have h : (pt b ⟨4096 + s, Nat.add_lt_add_left s.isLt 4096⟩).val % 17 = 16 := show (17 * b.val + (4096 + s.val) / 256) % 17 = 16 by omega
  have hb : bat (pt b ⟨4096 + s, Nat.add_lt_add_left s.isLt 4096⟩) = b := Fin.ext (show (17 * b.val + (4096 + s.val) / 256) / 17 = b.val by omega)
  have ht : (⟨(4096 + s.val) % 256, by omega⟩ : Fin 256) = s := Fin.ext (show (4096 + s.val) % 256 = s.val by omega)
  have hp := row_context m c (pt b ⟨4096 + s, Nat.add_lt_add_left s.isLt 4096⟩) h ⟨(4096 + s.val) % 256, by omega⟩
  rw [hb, ht] at hp
  refine Eq.trans ?_ (congrArg (fun h => zed h (fun k j => a5 m c (ix3 0 k j))) hp)
  unfold zK
  congr 2

theorem arr_point19 (b : Fin 8) (s : Fin 4352) (l : Fin 256) :
    ((dats m 0 c).arrAt 19 cfg0.N : Vec Ideal S8x4352x256 .bf16) (ix3 b s l)
      = out0_19 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) (ix3 0 ⟨s.val % 256, by omega⟩ l) := by
  have h := congrFun (Value.blocks19 m c (pt b s) (flush0_19 _)) (ix3 0 ⟨s.val % 256, by omega⟩ l)
  rw [Value.flushed19, View.read_apply] at h
  generalize out0_19 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) = y at h ⊢
  refine Eq.trans ?_ h
  obtain ⟨e0, e1, e2⟩ := idx19 (pt b s)
  congr 1
  funext a
  apply Fin.ext
  match a with
  | ⟨0, _⟩ => show b.val = win0_19.index (pt b s) 0 * 1 + 1 * 0; rw [e0]; show _ = (17 * b.val + s.val / 256) / 17 * 1 + 1 * 0; omega
  | ⟨1, _⟩ => show s.val = win0_19.index (pt b s) 1 * 256 + 1 * (s.val % 256); rw [e1]; show _ = (17 * b.val + s.val / 256) % 17 * 256 + 1 * (s.val % 256); omega
  | ⟨2, _⟩ => show l.val = win0_19.index (pt b s) 2 * 256 + 1 * l.val; rw [e2]; omega

theorem arr_point20 (b : Fin 8) (s : Fin 4352) (l : Fin 256) :
    ((dats m 0 c).arrAt 20 cfg0.N : Vec Ideal S8x4352x256 .bf16) (ix3 b s l)
      = out0_20 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) (ix3 0 ⟨s.val % 256, by omega⟩ l) := by
  have h := congrFun (Value.blocks20 m c (pt b s) (flush0_20 _)) (ix3 0 ⟨s.val % 256, by omega⟩ l)
  rw [Value.flushed20, View.read_apply] at h
  generalize out0_20 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) = y at h ⊢
  refine Eq.trans ?_ h
  obtain ⟨e0, e1, e2⟩ := idx20 (pt b s)
  congr 1
  funext a
  apply Fin.ext
  match a with
  | ⟨0, _⟩ => show b.val = win0_20.index (pt b s) 0 * 1 + 1 * 0; rw [e0]; show _ = (17 * b.val + s.val / 256) / 17 * 1 + 1 * 0; omega
  | ⟨1, _⟩ => show s.val = win0_20.index (pt b s) 1 * 256 + 1 * (s.val % 256); rw [e1]; show _ = (17 * b.val + s.val / 256) % 17 * 256 + 1 * (s.val % 256); omega
  | ⟨2, _⟩ => show l.val = win0_20.index (pt b s) 2 * 256 + 1 * l.val; rw [e2]; omega

theorem arr_point21 (b : Fin 8) (s : Fin 4352) (l : Fin 512) :
    ((dats m 0 c).arrAt 21 cfg0.N : Vec Ideal S8x4352x512 .bf16) (ix3 b s l)
      = out0_21 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) (ix3 0 ⟨s.val % 256, by omega⟩ l) := by
  have h := congrFun (Value.blocks21 m c (pt b s) (flush0_21 _)) (ix3 0 ⟨s.val % 256, by omega⟩ l)
  rw [Value.flushed21, View.read_apply] at h
  generalize out0_21 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) = y at h ⊢
  refine Eq.trans ?_ h
  obtain ⟨e0, e1, e2⟩ := idx21 (pt b s)
  congr 1
  funext a
  apply Fin.ext
  match a with
  | ⟨0, _⟩ => show b.val = win0_21.index (pt b s) 0 * 1 + 1 * 0; rw [e0]; show _ = (17 * b.val + s.val / 256) / 17 * 1 + 1 * 0; omega
  | ⟨1, _⟩ => show s.val = win0_21.index (pt b s) 1 * 256 + 1 * (s.val % 256); rw [e1]; show _ = (17 * b.val + s.val / 256) % 17 * 256 + 1 * (s.val % 256); omega
  | ⟨2, _⟩ => show l.val = win0_21.index (pt b s) 2 * 512 + 1 * l.val; rw [e2]; omega

theorem arr_point22 (b : Fin 8) (s : Fin 4352) (l : Fin 512) :
    ((dats m 0 c).arrAt 22 cfg0.N : Vec Ideal S8x4352x512 .bf16) (ix3 b s l)
      = out0_22 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) (ix3 0 ⟨s.val % 256, by omega⟩ l) := by
  have h := congrFun (Value.blocks22 m c (pt b s) (flush0_22 _)) (ix3 0 ⟨s.val % 256, by omega⟩ l)
  rw [Value.flushed22, View.read_apply] at h
  generalize out0_22 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) = y at h ⊢
  refine Eq.trans ?_ h
  obtain ⟨e0, e1, e2⟩ := idx22 (pt b s)
  congr 1
  funext a
  apply Fin.ext
  match a with
  | ⟨0, _⟩ => show b.val = win0_22.index (pt b s) 0 * 1 + 1 * 0; rw [e0]; show _ = (17 * b.val + s.val / 256) / 17 * 1 + 1 * 0; omega
  | ⟨1, _⟩ => show s.val = win0_22.index (pt b s) 1 * 256 + 1 * (s.val % 256); rw [e1]; show _ = (17 * b.val + s.val / 256) % 17 * 256 + 1 * (s.val % 256); omega
  | ⟨2, _⟩ => show l.val = win0_22.index (pt b s) 2 * 512 + 1 * l.val; rw [e2]; omega

theorem arr_point23 (b : Fin 8) (s : Fin 4352) (l : Fin 512) :
    ((dats m 0 c).arrAt 23 cfg0.N : Vec Ideal S8x4352x512 .f32) (ix3 b s l)
      = out0_23 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) (ix3 0 ⟨s.val % 256, by omega⟩ l) := by
  have h := congrFun (Value.blocks23 m c (pt b s) (flush0_23 _)) (ix3 0 ⟨s.val % 256, by omega⟩ l)
  rw [Value.flushed23, View.read_apply] at h
  generalize out0_23 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) = y at h ⊢
  refine Eq.trans ?_ h
  obtain ⟨e0, e1, e2⟩ := idx23 (pt b s)
  congr 1
  funext a
  apply Fin.ext
  match a with
  | ⟨0, _⟩ => show b.val = win0_23.index (pt b s) 0 * 1 + 1 * 0; rw [e0]; show _ = (17 * b.val + s.val / 256) / 17 * 1 + 1 * 0; omega
  | ⟨1, _⟩ => show s.val = win0_23.index (pt b s) 1 * 256 + 1 * (s.val % 256); rw [e1]; show _ = (17 * b.val + s.val / 256) % 17 * 256 + 1 * (s.val % 256); omega
  | ⟨2, _⟩ => show l.val = win0_23.index (pt b s) 2 * 512 + 1 * l.val; rw [e2]; omega

theorem arr_point24 (b : Fin 8) (s : Fin 4352) (l : Fin 1536) :
    ((dats m 0 c).arrAt 24 cfg0.N : Vec Ideal S8x4352x1536 .f32) (ix3 b s l)
      = out0_24 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) (ix3 0 ⟨s.val % 256, by omega⟩ l) := by
  have h := congrFun (Value.blocks24 m c (pt b s) (flush0_24 _)) (ix3 0 ⟨s.val % 256, by omega⟩ l)
  rw [Value.flushed24, View.read_apply] at h
  generalize out0_24 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) = y at h ⊢
  refine Eq.trans ?_ h
  obtain ⟨e0, e1, e2⟩ := idx24 (pt b s)
  congr 1
  funext a
  apply Fin.ext
  match a with
  | ⟨0, _⟩ => show b.val = win0_24.index (pt b s) 0 * 1 + 1 * 0; rw [e0]; show _ = (17 * b.val + s.val / 256) / 17 * 1 + 1 * 0; omega
  | ⟨1, _⟩ => show s.val = win0_24.index (pt b s) 1 * 256 + 1 * (s.val % 256); rw [e1]; show _ = (17 * b.val + s.val / 256) % 17 * 256 + 1 * (s.val % 256); omega
  | ⟨2, _⟩ => show l.val = win0_24.index (pt b s) 2 * 1536 + 1 * l.val; rw [e2]; omega

theorem arr_point25 (b : Fin 8) (s : Fin 4352) (l : Fin 3072) :
    ((dats m 0 c).arrAt 25 cfg0.N : Vec Ideal S8x4352x3072 .bf16) (ix3 b s l)
      = out0_25 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) (ix3 0 ⟨s.val % 256, by omega⟩ l) := by
  have h := congrFun (Value.blocks25 m c (pt b s) (flush0_25 _)) (ix3 0 ⟨s.val % 256, by omega⟩ l)
  rw [Value.flushed25, View.read_apply] at h
  generalize out0_25 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) = y at h ⊢
  refine Eq.trans ?_ h
  obtain ⟨e0, e1, e2⟩ := idx25 (pt b s)
  congr 1
  funext a
  apply Fin.ext
  match a with
  | ⟨0, _⟩ => show b.val = win0_25.index (pt b s) 0 * 1 + 1 * 0; rw [e0]; show _ = (17 * b.val + s.val / 256) / 17 * 1 + 1 * 0; omega
  | ⟨1, _⟩ => show s.val = win0_25.index (pt b s) 1 * 256 + 1 * (s.val % 256); rw [e1]; show _ = (17 * b.val + s.val / 256) % 17 * 256 + 1 * (s.val % 256); omega
  | ⟨2, _⟩ => show l.val = win0_25.index (pt b s) 2 * 3072 + 1 * l.val; rw [e2]; omega

theorem arr19 (b : Fin 8) (s : Fin 4352) (l : Fin 256) :
    ((dats m 0 c).arrAt 19 cfg0.N : Vec Ideal S8x4352x256 .bf16) (ix3 b s l) = zK m c b s ⟨416 + l.val, by omega⟩ * c8 := by
  have e : ∀ k : Fin 1024, (iblk m c 5 (pt b s) : Vec Ideal S1024x1536 .bf16) (ix2 k ⟨l.val, by omega⟩) = a5 m c (ix3 0 k ⟨416 + l.val, by omega⟩) :=
    fun k => (blk5 m c (pt b s) k ⟨l.val, by omega⟩).trans (wgq_apply m c k l)
  refine (arr_point19 m c b s l).trans ((block19 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) ⟨s.val % 256, by omega⟩ l).trans ?_)
  unfold zK
  generalize hB (grid0.coords (pt b s)) (iblk m c 0 (pt b s)) (iblk m c 1 (pt b s)) (iblk m c 2 (pt b s)) (iblk m c 3 (pt b s)) ⟨s.val % 256, by omega⟩ = h
  exact congrArg (· * c8) (dot_eq h _ (fun k j => a5 m c (ix3 0 k j)) ⟨416 + l.val, by omega⟩ e)

theorem arr20 (b : Fin 8) (s : Fin 4352) (l : Fin 256) :
    ((dats m 0 c).arrAt 20 cfg0.N : Vec Ideal S8x4352x256 .bf16) (ix3 b s l) = zK m c b s ⟨672 + l.val, by omega⟩ := by
  have e : ∀ k : Fin 1024, (iblk m c 5 (pt b s) : Vec Ideal S1024x1536 .bf16) (ix2 k ⟨256 + l.val, by omega⟩) = a5 m c (ix3 0 k ⟨672 + l.val, by omega⟩) :=
    fun k => (blk5 m c (pt b s) k ⟨256 + l.val, by omega⟩).trans (wgk_apply m c k l)
  refine (arr_point20 m c b s l).trans ((block20 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) ⟨s.val % 256, by omega⟩ l).trans ?_)
  unfold zK
  generalize hB (grid0.coords (pt b s)) (iblk m c 0 (pt b s)) (iblk m c 1 (pt b s)) (iblk m c 2 (pt b s)) (iblk m c 3 (pt b s)) ⟨s.val % 256, by omega⟩ = h
  exact (dot_eq h _ (fun k j => a5 m c (ix3 0 k j)) ⟨672 + l.val, by omega⟩ e)

theorem arr21 (b : Fin 8) (s : Fin 4352) (l : Fin 512) :
    ((dats m 0 c).arrAt 21 cfg0.N : Vec Ideal S8x4352x512 .bf16) (ix3 b s l) = zK m c b s ⟨928 + l.val, by omega⟩ := by
  have e : ∀ k : Fin 1024, (iblk m c 5 (pt b s) : Vec Ideal S1024x1536 .bf16) (ix2 k ⟨512 + l.val, by omega⟩) = a5 m c (ix3 0 k ⟨928 + l.val, by omega⟩) :=
    fun k => (blk5 m c (pt b s) k ⟨512 + l.val, by omega⟩).trans (wgv_apply m c k l)
  refine (arr_point21 m c b s l).trans ((block21 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) ⟨s.val % 256, by omega⟩ l).trans ?_)
  unfold zK
  generalize hB (grid0.coords (pt b s)) (iblk m c 0 (pt b s)) (iblk m c 1 (pt b s)) (iblk m c 2 (pt b s)) (iblk m c 3 (pt b s)) ⟨s.val % 256, by omega⟩ = h
  exact (dot_eq h _ (fun k j => a5 m c (ix3 0 k j)) ⟨928 + l.val, by omega⟩ e)

theorem arr22 (b : Fin 8) (s : Fin 4352) (l : Fin 512) :
    ((dats m 0 c).arrAt 22 cfg0.N : Vec Ideal S8x4352x512 .bf16) (ix3 b s l) = silu (zK m c b s ⟨1440 + l.val, by omega⟩) := by
  have e : ∀ k : Fin 1024, (iblk m c 5 (pt b s) : Vec Ideal S1024x1536 .bf16) (ix2 k ⟨1024 + l.val, by omega⟩) = a5 m c (ix3 0 k ⟨1440 + l.val, by omega⟩) :=
    fun k => (blk5 m c (pt b s) k ⟨1024 + l.val, by omega⟩).trans (wgr_apply m c k l)
  refine (arr_point22 m c b s l).trans ((block22 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) ⟨s.val % 256, by omega⟩ l).trans ?_)
  unfold zK
  generalize hB (grid0.coords (pt b s)) (iblk m c 0 (pt b s)) (iblk m c 1 (pt b s)) (iblk m c 2 (pt b s)) (iblk m c 3 (pt b s)) ⟨s.val % 256, by omega⟩ = h
  exact congrArg silu (dot_eq h _ (fun k j => a5 m c (ix3 0 k j)) ⟨1440 + l.val, by omega⟩ e)

theorem arr24 (b : Fin 8) (s : Fin 4352) (l : Fin 1536) :
    ((dats m 0 c).arrAt 24 cfg0.N : Vec Ideal S8x4352x1536 .f32) (ix3 b s l) = zK m c b s ⟨1984 + l.val, by omega⟩ := by
  have e : ∀ k : Fin 1024, (iblk m c 6 (pt b s) : Vec Ideal S1024x1536 .bf16) (ix2 k l) = a5 m c (ix3 0 k ⟨1984 + l.val, by omega⟩) :=
    fun k => (blk6 m c (pt b s) k l).trans (wh_apply m c k l)
  refine (arr_point24 m c b s l).trans ((block24 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) ⟨s.val % 256, by omega⟩ l).trans ?_)
  unfold zK
  generalize hB (grid0.coords (pt b s)) (iblk m c 0 (pt b s)) (iblk m c 1 (pt b s)) (iblk m c 2 (pt b s)) (iblk m c 3 (pt b s)) ⟨s.val % 256, by omega⟩ = h
  exact (dot_eq h _ (fun k j => a5 m c (ix3 0 k j)) ⟨1984 + l.val, by omega⟩ e)

theorem arr25 (b : Fin 8) (s : Fin 4352) (l : Fin 3072) :
    ((dats m 0 c).arrAt 25 cfg0.N : Vec Ideal S8x4352x3072 .bf16) (ix3 b s l) = logis (zK m c b s ⟨3520 + l.val, by omega⟩) := by
  have e : ∀ k : Fin 1024, (iblk m c 7 (pt b s) : Vec Ideal S1024x3072 .bf16) (ix2 k l) = a5 m c (ix3 0 k ⟨3520 + l.val, by omega⟩) :=
    fun k => (blk7 m c (pt b s) k l).trans (wz_apply m c k l)
  refine (arr_point25 m c b s l).trans ((block25 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) ⟨s.val % 256, by omega⟩ l).trans ?_)
  unfold zK
  generalize hB (grid0.coords (pt b s)) (iblk m c 0 (pt b s)) (iblk m c 1 (pt b s)) (iblk m c 2 (pt b s)) (iblk m c 3 (pt b s)) ⟨s.val % 256, by omega⟩ = h
  exact congrArg logis (dot_eq h _ (fun k j => a5 m c (ix3 0 k j)) ⟨3520 + l.val, by omega⟩ e)

theorem arr23F (b : Fin 8) (s : Fin 4352) (l : Fin 256) :
    ((dats m 0 c).arrAt 23 cfg0.N : Vec Ideal S8x4352x512 .f32) (ix3 b s ⟨l.val, by omega⟩)
      = logGate ((∑ j : Fin 16, zK m c b s ⟨1952 + j.val, by omega⟩ * a10 m c (ix4 0 0 j l)) + a11 m c (ix3 0 0 l)) := by
  refine (arr_point23 m c b s ⟨l.val, by omega⟩).trans ((block23 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) ⟨s.val % 256, by omega⟩ ⟨l.val, by omega⟩).trans ?_)
  have hw : ∀ p : Fin 128, (∀ j : Fin 16, (⟨j.val, by omega⟩ : Fin 128) ≠ p) →
      (iblk m c 12 (pt b s) : Vec Ideal S128x512 .bf16) (ix2 p ⟨l.val, by omega⟩) = (0 : EReal) := fun p hp =>
    (blk12 m c (pt b s) p ⟨l.val, by omega⟩).trans (w2Z_apply m c p ⟨l.val, by omega⟩ (fun hp0 => absurd rfl (hp ⟨p.val, hp0⟩)) (fun _ _ => l.isLt))
  have ew : ∀ j : Fin 16, (iblk m c 12 (pt b s) : Vec Ideal S128x512 .bf16) (ix2 ⟨j.val, by omega⟩ ⟨l.val, by omega⟩) = a10 m c (ix4 0 0 j l) := fun j =>
    (blk12 m c (pt b s) ⟨j.val, by omega⟩ ⟨l.val, by omega⟩).trans (w2F_apply m c j l)
  have eb : (iblk m c 13 (pt b s) : Vec Ideal S1x512 .f32) (ix2 0 ⟨l.val, by omega⟩) = a11 m c (ix3 0 0 l) :=
    (blk13 m c (pt b s) ⟨l.val, by omega⟩).trans (baF_apply m c l)
  have ez : ∀ (j : Fin 16) (k : Fin 1024), (iblk m c 4 (pt b s) : Vec Ideal S1024x768 .bf16) (ix2 k ⟨640 + (j.val), by omega⟩)
      = a5 m c (ix3 0 k ⟨1952 + j.val, by omega⟩) := fun j k => by
    have e : (⟨640 + (j.val), by omega⟩ : Fin 768) = ⟨640 + j.val, by omega⟩ := rfl
    rw [e]
    exact (blk4 m c (pt b s) k ⟨640 + j.val, by omega⟩).trans (waF_apply m c k j)
  unfold zK
  generalize hB (grid0.coords (pt b s)) (iblk m c 0 (pt b s)) (iblk m c 1 (pt b s)) (iblk m c 2 (pt b s)) (iblk m c 3 (pt b s)) ⟨s.val % 256, by omega⟩ = h
  generalize (iblk m c 12 (pt b s) : Vec Ideal S128x512 .bf16) = y12 at hw ew ⊢
  generalize (iblk m c 13 (pt b s) : Vec Ideal S1x512 .f32) = y13 at eb ⊢
  generalize (iblk m c 4 (pt b s) : Vec Ideal S1024x768 .bf16) = y4 at ez ⊢
  refine congrArg logGate (congrArg₂ (· + ·) ?_ eb)
  refine (decay_sum (fun j : Fin 16 => ⟨j.val, by omega⟩) (fun i j h => Fin.ext (Fin.mk.inj h)) (fun p => ∑ k, h k * y4 (ix2 k ⟨640 + p.val, by omega⟩)) (fun p => y12 (ix2 p ⟨l.val, by omega⟩)) hw).trans
    (Finset.sum_congr rfl fun j _ => congrArg₂ (· * ·) ?_ (ew j))
  exact dot_eq h _ (fun k j => a5 m c (ix3 0 k j)) ⟨1952 + j.val, by omega⟩ (ez j)

theorem arr23B (b : Fin 8) (s : Fin 4352) (l : Fin 256) :
    ((dats m 0 c).arrAt 23 cfg0.N : Vec Ideal S8x4352x512 .f32) (ix3 b s ⟨256 + l.val, by omega⟩)
      = logGate ((∑ j : Fin 16, zK m c b s ⟨1968 + j.val, by omega⟩ * a10 m c (ix4 0 1 j l)) + a11 m c (ix3 0 1 l)) := by
  refine (arr_point23 m c b s ⟨256 + l.val, by omega⟩).trans ((block23 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) ⟨s.val % 256, by omega⟩ ⟨256 + l.val, by omega⟩).trans ?_)
  have hw : ∀ p : Fin 128, (∀ j : Fin 16, (⟨16 + j.val, by omega⟩ : Fin 128) ≠ p) →
      (iblk m c 12 (pt b s) : Vec Ideal S128x512 .bf16) (ix2 p ⟨256 + l.val, by omega⟩) = (0 : EReal) := fun p hp =>
    (blk12 m c (pt b s) p ⟨256 + l.val, by omega⟩).trans (w2Z_apply m c p ⟨256 + l.val, by omega⟩ (fun _ => Nat.le_add_right 256 l.val) (fun h1 h2 => absurd (Fin.ext (show 16 + (p.val - 16) = p.val by omega)) (hp ⟨p.val - 16, by omega⟩)))
  have ew : ∀ j : Fin 16, (iblk m c 12 (pt b s) : Vec Ideal S128x512 .bf16) (ix2 ⟨16 + j.val, by omega⟩ ⟨256 + l.val, by omega⟩) = a10 m c (ix4 0 1 j l) := fun j =>
    (blk12 m c (pt b s) ⟨16 + j.val, by omega⟩ ⟨256 + l.val, by omega⟩).trans (w2B_apply m c j l)
  have eb : (iblk m c 13 (pt b s) : Vec Ideal S1x512 .f32) (ix2 0 ⟨256 + l.val, by omega⟩) = a11 m c (ix3 0 1 l) :=
    (blk13 m c (pt b s) ⟨256 + l.val, by omega⟩).trans (baB_apply m c l)
  have ez : ∀ (j : Fin 16) (k : Fin 1024), (iblk m c 4 (pt b s) : Vec Ideal S1024x768 .bf16) (ix2 k ⟨640 + (16 + j.val), by omega⟩)
      = a5 m c (ix3 0 k ⟨1968 + j.val, by omega⟩) := fun j k => by
    have e : (⟨640 + (16 + j.val), by omega⟩ : Fin 768) = ⟨656 + j.val, by omega⟩ := Fin.ext (show 640 + (16 + j.val) = 656 + j.val by omega)
    rw [e]
    exact (blk4 m c (pt b s) k ⟨656 + j.val, by omega⟩).trans (waB_apply m c k j)
  unfold zK
  generalize hB (grid0.coords (pt b s)) (iblk m c 0 (pt b s)) (iblk m c 1 (pt b s)) (iblk m c 2 (pt b s)) (iblk m c 3 (pt b s)) ⟨s.val % 256, by omega⟩ = h
  generalize (iblk m c 12 (pt b s) : Vec Ideal S128x512 .bf16) = y12 at hw ew ⊢
  generalize (iblk m c 13 (pt b s) : Vec Ideal S1x512 .f32) = y13 at eb ⊢
  generalize (iblk m c 4 (pt b s) : Vec Ideal S1024x768 .bf16) = y4 at ez ⊢
  refine congrArg logGate (congrArg₂ (· + ·) ?_ eb)
  refine (decay_sum (fun j : Fin 16 => ⟨16 + j.val, by omega⟩) (fun i j h => Fin.ext (Nat.add_left_cancel (Fin.mk.inj h))) (fun p => ∑ k, h k * y4 (ix2 k ⟨640 + p.val, by omega⟩)) (fun p => y12 (ix2 p ⟨256 + l.val, by omega⟩)) hw).trans
    (Finset.sum_congr rfl fun j _ => congrArg₂ (· * ·) ?_ (ew j))
  exact dot_eq h _ (fun k j => a5 m c (ix3 0 k j)) ⟨1968 + j.val, by omega⟩ (ez j)

end Cert.InprojIdeal.Inproj

end
-- ==== Proof.InprojRef.lean ====
/- What the reference's first-layer input projection computes.

   Its results at a latent row and at a context row are the functions of `InprojRow` of that token's row. -/
module

public import proofs.«01_k».proof.Proof.Gen.InprojRefIdeal.Read
public import proofs.«01_k».proof.Proof.InprojRow
public import Idealize.ShloMosaic.Lib.Pointwise

@[expose] public section

set_option maxRecDepth 16384

noncomputable section

namespace Cert.InprojRefIdeal.Inproj

open Cert.InprojRefIdeal Cert.InprojRefIdeal.Gen Cert.InprojRefIdeal.Read Idealize.ShloMosaic Idealize.ShloMosaic.TcCoe
open Idealize.SL.Sem Cert.MergeRow Cert.InprojRow

variable (x0 : Vec Ideal S8x4096x1024 .f32) (x1 : Vec Ideal S8x256x1024 .f32) (x2 : Vec Ideal S2x8x6144 .f32) (x3 : Vec Ideal S2x6144 .f32)
  (x4 : Vec Ideal S2x1024 .f32) (x5 : Vec Ideal S2x1024x6592 .f32) (x10 : Vec Ideal S2x2x16x256 .f32) (x11 : Vec Ideal S2x2x256 .f32) (b : Fin 8)

/-! ## The latent rows -/

/-- The modulation rows of batch `b`. -/
abbrev modL : Fin 6 → Fin 1024 → EReal := fun k l => x2 (ix3 0 b ⟨1024 * k.val + l.val, by omega⟩)
/-- The normalized token `t`. -/
abbrev hL (t : Fin 4096) : Fin 1024 → EReal := ffIn (fun l => x0 (ix3 b t l)) (fun l => x4 (ix2 0 l)) (modL x2 b 1) (modL x2 b 0)
/-- The input projection of token `t`. -/
abbrev zL (t : Fin 4096) : Fin 6592 → EReal := zed (hL x0 x2 x4 b t) (fun k j => x5 (ix3 0 k j))

theorem hL_apply (t : Fin 4096) (l : Fin 1024) : val_main_v29 x0 x2 x4 (ix3 b t l) = hL x0 x2 x4 b t l := by
  unfold val_main_v29 val_main_v28 val_main_v27 val_main_v26 val_main_v25 val_main_v24 val_main_cst_2 val_main_v23 val_main_v22 val_main_v21 val_main_v20 val_main_v19 val_main_v18 val_main_v17 val_main_v16 val_main_cst_1 val_main_v15 val_main_v14 val_main_cst_0 val_main_v13 val_main_v12 val_main_cst val_main_v11 val_main_v10 val_main_v9 val_main_v4 val_main_v3 val_main_v2 val_main_v1 val_main_v0
  unfold hL ffIn rms
  pointwise
  simp only [modL, show (1 : Fin 6).val = 1 from rfl, show (0 : Fin 6).val = 0 from rfl, Nat.mul_one, Nat.mul_zero, Nat.zero_add]

theorem zL_apply (t : Fin 4096) (j : Fin 6592) : val_main_v32 x0 x2 x4 x5 (ix3 b t j) = zL x0 x2 x4 x5 b t j := by
  have h := hL_apply x0 x2 x4
  unfold val_main_v32 val_main_v31 val_main_v30
  generalize val_main_v29 x0 x2 x4 = y at h ⊢
  unfold zL zed
  pointwise
  simp only [h]
  try rfl

theorem gqL_apply (t : Fin 4096) (l : Fin 256) : val_main_v69 x0 x2 x4 x5 (ix3 b t l) = zL x0 x2 x4 x5 b t ⟨416 + l.val, by omega⟩ * c8 := by
  have h := zL_apply x0 x2 x4 x5
  unfold val_main_v69 val_main_v68 val_main_v67 val_main_cst_5 val_main_v36
  generalize val_main_v32 x0 x2 x4 x5 = y at h ⊢
  pointwise
  simp only [h]
  try rfl

theorem gkL_apply (t : Fin 4096) (l : Fin 256) : val_main_v70 x0 x2 x4 x5 (ix3 b t l) = zL x0 x2 x4 x5 b t ⟨672 + l.val, by omega⟩ := by
  have h := zL_apply x0 x2 x4 x5
  unfold val_main_v70 val_main_v37
  generalize val_main_v32 x0 x2 x4 x5 = y at h ⊢
  pointwise
  simp only [h]
  try rfl

theorem gvL_apply (t : Fin 4096) (l : Fin 512) : val_main_v71 x0 x2 x4 x5 (ix3 b t l) = zL x0 x2 x4 x5 b t ⟨928 + l.val, by omega⟩ := by
  have h := zL_apply x0 x2 x4 x5
  unfold val_main_v71 val_main_v38
  generalize val_main_v32 x0 x2 x4 x5 = y at h ⊢
  pointwise
  simp only [h]
  try rfl

theorem grL_apply (t : Fin 4096) (l : Fin 512) : val_main_v73 x0 x2 x4 x5 (ix3 b t l) = silu (zL x0 x2 x4 x5 b t ⟨1440 + l.val, by omega⟩) := by
  have h := zL_apply x0 x2 x4 x5
  unfold val_main_v73 val_main_v72 val_main_call2_v5 val_main_call2_v4 val_main_call2_cst_0 val_main_call2_v3 val_main_call2_v2 val_main_call2_cst val_main_call2_v1 val_main_call2_v0 val_main_v39
  generalize val_main_v32 x0 x2 x4 x5 = y at h ⊢
  unfold silu logis
  pointwise
  simp only [h]
  try rfl

theorem hyL_apply (t : Fin 4096) (l : Fin 1536) : val_main_v42 x0 x2 x4 x5 (ix3 b t l) = zL x0 x2 x4 x5 b t ⟨1984 + l.val, by omega⟩ := by
  have h := zL_apply x0 x2 x4 x5
  unfold val_main_v42
  generalize val_main_v32 x0 x2 x4 x5 = y at h ⊢
  pointwise
  simp only [h]
  try rfl

theorem zgL_apply (t : Fin 4096) (l : Fin 3072) : val_main_v80 x0 x2 x4 x5 (ix3 b t l) = logis (zL x0 x2 x4 x5 b t ⟨3520 + l.val, by omega⟩) := by
  have h := zL_apply x0 x2 x4 x5
  unfold val_main_v80 val_main_v79 val_main_v78 val_main_cst_7 val_main_v77 val_main_v76 val_main_cst_6 val_main_v75 val_main_v74 val_main_v43
  generalize val_main_v32 x0 x2 x4 x5 = y at h ⊢
  unfold logis
  pointwise
  simp only [h]
  try rfl

theorem dFL_apply (t : Fin 4096) (l : Fin 256) : val_main_v51 x0 x2 x4 x5 x10 x11 (ix3 b t l)
    = (∑ j : Fin 16, zL x0 x2 x4 x5 b t ⟨1952 + j.val, by omega⟩ * x10 (ix4 0 0 j l)) + x11 (ix3 0 0 l) := by
  have h := zL_apply x0 x2 x4 x5
  unfold val_main_v51 val_main_v50 val_main_v49 val_main_v48 val_main_v47 val_main_v46 val_main_v45 val_main_v44 val_main_v40
  generalize val_main_v32 x0 x2 x4 x5 = y at h ⊢
  pointwise
  simp only [h]
  try rfl

theorem gFL_apply (t : Fin 4096) (l : Fin 256) : val_main_v54 x0 x2 x4 x5 x10 x11 (ix3 b t l)
    = logGate ((∑ j : Fin 16, zL x0 x2 x4 x5 b t ⟨1952 + j.val, by omega⟩ * x10 (ix4 0 0 j l)) + x11 (ix3 0 0 l)) := by
  rw [← logGate_ref, ← dFL_apply]
  unfold val_main_v54 val_main_v53 val_main_cst_3 val_main_v52 val_main_call0_v1 val_main_call0_call0_v11 val_main_call0_call0_v10 val_main_call0_call0_v9 val_main_call0_call0_v8 val_main_call0_call0_v7 val_main_call0_call0_v6 val_main_call0_call0_v5 val_main_call0_call0_v4 val_main_call0_call0_v3 val_main_call0_call0_v2 val_main_call0_call0_v1 val_main_call0_call0_v0 val_main_call0_call0_cst val_main_call0_v0
  generalize val_main_v51 x0 x2 x4 x5 x10 x11 = y
  pointwise
  rw [if_neg (not_not_intro rfl)]
  rfl

theorem dBL_apply (t : Fin 4096) (l : Fin 256) : val_main_v62 x0 x2 x4 x5 x10 x11 (ix3 b t l)
    = (∑ j : Fin 16, zL x0 x2 x4 x5 b t ⟨1968 + j.val, by omega⟩ * x10 (ix4 0 1 j l)) + x11 (ix3 0 1 l) := by
  have h := zL_apply x0 x2 x4 x5
  unfold val_main_v62 val_main_v61 val_main_v60 val_main_v59 val_main_v58 val_main_v57 val_main_v56 val_main_v55 val_main_v41
  generalize val_main_v32 x0 x2 x4 x5 = y at h ⊢
  pointwise
  simp only [h]
  try rfl

theorem gBL_apply (t : Fin 4096) (l : Fin 256) : val_main_v65 x0 x2 x4 x5 x10 x11 (ix3 b t l)
    = logGate ((∑ j : Fin 16, zL x0 x2 x4 x5 b t ⟨1968 + j.val, by omega⟩ * x10 (ix4 0 1 j l)) + x11 (ix3 0 1 l)) := by
  rw [← logGate_ref, ← dBL_apply]
  unfold val_main_v65 val_main_v64 val_main_cst_4 val_main_v63 val_main_call1_v1 val_main_call1_call0_v11 val_main_call1_call0_v10 val_main_call1_call0_v9 val_main_call1_call0_v8 val_main_call1_call0_v7 val_main_call1_call0_v6 val_main_call1_call0_v5 val_main_call1_call0_v4 val_main_call1_call0_v3 val_main_call1_call0_v2 val_main_call1_call0_v1 val_main_call1_call0_v0 val_main_call1_call0_cst val_main_call1_v0
  generalize val_main_v62 x0 x2 x4 x5 x10 x11 = y
  pointwise
  rw [if_neg (not_not_intro rfl)]
  rfl

/-! ## The context rows -/

/-- The modulation rows of the context. -/
abbrev modC : Fin 6 → Fin 1024 → EReal := fun k l => x3 (ix2 0 ⟨1024 * k.val + l.val, by omega⟩)
/-- The normalized token `t`. -/
abbrev hC (t : Fin 256) : Fin 1024 → EReal := ffIn (fun l => x1 (ix3 b t l)) (fun l => x4 (ix2 0 l)) (modC x3 1) (modC x3 0)
/-- The input projection of token `t`. -/
abbrev zC (t : Fin 256) : Fin 6592 → EReal := zed (hC x1 x3 x4 b t) (fun k j => x5 (ix3 0 k j))

theorem hC_apply (t : Fin 256) (l : Fin 1024) : val_main_v111 x1 x3 x4 (ix3 b t l) = hC x1 x3 x4 b t l := by
  unfold val_main_v111 val_main_v110 val_main_v109 val_main_v108 val_main_v107 val_main_v106 val_main_v105 val_main_v104 val_main_cst_11 val_main_v103 val_main_v102 val_main_v101 val_main_v100 val_main_v99 val_main_v98 val_main_v97 val_main_v96 val_main_cst_10 val_main_v95 val_main_v94 val_main_cst_9 val_main_v93 val_main_v92 val_main_cst_8 val_main_v91 val_main_v90 val_main_v89 val_main_v84 val_main_v83 val_main_v82 val_main_v81
  unfold hC ffIn rms
  pointwise
  simp only [modC, show (1 : Fin 6).val = 1 from rfl, show (0 : Fin 6).val = 0 from rfl, Nat.mul_one, Nat.mul_zero, Nat.zero_add]

theorem zC_apply (t : Fin 256) (j : Fin 6592) : val_main_v114 x1 x3 x4 x5 (ix3 b t j) = zC x1 x3 x4 x5 b t j := by
  have h := hC_apply x1 x3 x4
  unfold val_main_v114 val_main_v113 val_main_v112
  generalize val_main_v111 x1 x3 x4 = y at h ⊢
  unfold zC zed
  pointwise
  simp only [h]
  try rfl

theorem gqC_apply (t : Fin 256) (l : Fin 256) : val_main_v151 x1 x3 x4 x5 (ix3 b t l) = zC x1 x3 x4 x5 b t ⟨416 + l.val, by omega⟩ * c8 := by
  have h := zC_apply x1 x3 x4 x5
  unfold val_main_v151 val_main_v150 val_main_v149 val_main_cst_14 val_main_v118
  generalize val_main_v114 x1 x3 x4 x5 = y at h ⊢
  pointwise
  simp only [h]
  try rfl

theorem gkC_apply (t : Fin 256) (l : Fin 256) : val_main_v152 x1 x3 x4 x5 (ix3 b t l) = zC x1 x3 x4 x5 b t ⟨672 + l.val, by omega⟩ := by
  have h := zC_apply x1 x3 x4 x5
  unfold val_main_v152 val_main_v119
  generalize val_main_v114 x1 x3 x4 x5 = y at h ⊢
  pointwise
  simp only [h]
  try rfl

theorem gvC_apply (t : Fin 256) (l : Fin 512) : val_main_v153 x1 x3 x4 x5 (ix3 b t l) = zC x1 x3 x4 x5 b t ⟨928 + l.val, by omega⟩ := by
  have h := zC_apply x1 x3 x4 x5
  unfold val_main_v153 val_main_v120
  generalize val_main_v114 x1 x3 x4 x5 = y at h ⊢
  pointwise
  simp only [h]
  try rfl

theorem grC_apply (t : Fin 256) (l : Fin 512) : val_main_v155 x1 x3 x4 x5 (ix3 b t l) = silu (zC x1 x3 x4 x5 b t ⟨1440 + l.val, by omega⟩) := by
  have h := zC_apply x1 x3 x4 x5
  unfold val_main_v155 val_main_v154 val_main_call5_v5 val_main_call5_v4 val_main_call5_cst_0 val_main_call5_v3 val_main_call5_v2 val_main_call5_cst val_main_call5_v1 val_main_call5_v0 val_main_v121
  generalize val_main_v114 x1 x3 x4 x5 = y at h ⊢
  unfold silu logis
  pointwise
  simp only [h]
  try rfl

theorem hyC_apply (t : Fin 256) (l : Fin 1536) : val_main_v124 x1 x3 x4 x5 (ix3 b t l) = zC x1 x3 x4 x5 b t ⟨1984 + l.val, by omega⟩ := by
  have h := zC_apply x1 x3 x4 x5
  unfold val_main_v124
  generalize val_main_v114 x1 x3 x4 x5 = y at h ⊢
  pointwise
  simp only [h]
  try rfl

theorem zgC_apply (t : Fin 256) (l : Fin 3072) : val_main_v162 x1 x3 x4 x5 (ix3 b t l) = logis (zC x1 x3 x4 x5 b t ⟨3520 + l.val, by omega⟩) := by
  have h := zC_apply x1 x3 x4 x5
  unfold val_main_v162 val_main_v161 val_main_v160 val_main_cst_16 val_main_v159 val_main_v158 val_main_cst_15 val_main_v157 val_main_v156 val_main_v125
  generalize val_main_v114 x1 x3 x4 x5 = y at h ⊢
  unfold logis
  pointwise
  simp only [h]
  try rfl

theorem dFC_apply (t : Fin 256) (l : Fin 256) : val_main_v133 x1 x3 x4 x5 x10 x11 (ix3 b t l)
    = (∑ j : Fin 16, zC x1 x3 x4 x5 b t ⟨1952 + j.val, by omega⟩ * x10 (ix4 0 0 j l)) + x11 (ix3 0 0 l) := by
  have h := zC_apply x1 x3 x4 x5
  unfold val_main_v133 val_main_v132 val_main_v131 val_main_v130 val_main_v129 val_main_v128 val_main_v127 val_main_v126 val_main_v122
  generalize val_main_v114 x1 x3 x4 x5 = y at h ⊢
  pointwise
  simp only [h]
  try rfl

theorem gFC_apply (t : Fin 256) (l : Fin 256) : val_main_v136 x1 x3 x4 x5 x10 x11 (ix3 b t l)
    = logGate ((∑ j : Fin 16, zC x1 x3 x4 x5 b t ⟨1952 + j.val, by omega⟩ * x10 (ix4 0 0 j l)) + x11 (ix3 0 0 l)) := by
  rw [← logGate_ref, ← dFC_apply]
  unfold val_main_v136 val_main_v135 val_main_cst_12 val_main_v134 val_main_call3_v1 val_main_call3_call0_v11 val_main_call3_call0_v10 val_main_call3_call0_v9 val_main_call3_call0_v8 val_main_call3_call0_v7 val_main_call3_call0_v6 val_main_call3_call0_v5 val_main_call3_call0_v4 val_main_call3_call0_v3 val_main_call3_call0_v2 val_main_call3_call0_v1 val_main_call3_call0_v0 val_main_call3_call0_cst val_main_call3_v0
  generalize val_main_v133 x1 x3 x4 x5 x10 x11 = y
  pointwise
  rw [if_neg (not_not_intro rfl)]
  rfl

theorem dBC_apply (t : Fin 256) (l : Fin 256) : val_main_v144 x1 x3 x4 x5 x10 x11 (ix3 b t l)
    = (∑ j : Fin 16, zC x1 x3 x4 x5 b t ⟨1968 + j.val, by omega⟩ * x10 (ix4 0 1 j l)) + x11 (ix3 0 1 l) := by
  have h := zC_apply x1 x3 x4 x5
  unfold val_main_v144 val_main_v143 val_main_v142 val_main_v141 val_main_v140 val_main_v139 val_main_v138 val_main_v137 val_main_v123
  generalize val_main_v114 x1 x3 x4 x5 = y at h ⊢
  pointwise
  simp only [h]
  try rfl

theorem gBC_apply (t : Fin 256) (l : Fin 256) : val_main_v147 x1 x3 x4 x5 x10 x11 (ix3 b t l)
    = logGate ((∑ j : Fin 16, zC x1 x3 x4 x5 b t ⟨1968 + j.val, by omega⟩ * x10 (ix4 0 1 j l)) + x11 (ix3 0 1 l)) := by
  rw [← logGate_ref, ← dBC_apply]
  unfold val_main_v147 val_main_v146 val_main_cst_13 val_main_v145 val_main_call4_v1 val_main_call4_call0_v11 val_main_call4_call0_v10 val_main_call4_call0_v9 val_main_call4_call0_v8 val_main_call4_call0_v7 val_main_call4_call0_v6 val_main_call4_call0_v5 val_main_call4_call0_v4 val_main_call4_call0_v3 val_main_call4_call0_v2 val_main_call4_call0_v1 val_main_call4_call0_v0 val_main_call4_call0_cst val_main_call4_v0
  generalize val_main_v144 x1 x3 x4 x5 x10 x11 = y
  pointwise
  rw [if_neg (not_not_intro rfl)]
  rfl

/-! ## The results -/

theorem res163L_apply (t : Fin 4096) (l : Fin 256) : val_main_v163 x0 x1 x2 x3 x4 x5 (ix3 b ⟨t, by omega⟩ l) = (zL x0 x2 x4 x5 b t) ⟨416 + l.val, by omega⟩ * c8 := by
  have h := gqL_apply x0 x2 x4 x5 b t l
  unfold val_main_v163
  generalize val_main_v69 x0 x2 x4 x5 = y at h ⊢
  generalize val_main_v151 x1 x3 x4 x5 = y'
  pointwise
  exact h

theorem res163C_apply (t : Fin 256) (l : Fin 256) : val_main_v163 x0 x1 x2 x3 x4 x5 (ix3 b ⟨4096 + t, by omega⟩ l) = (zC x1 x3 x4 x5 b t) ⟨416 + l.val, by omega⟩ * c8 := by
  have h := gqC_apply x1 x3 x4 x5 b t l
  unfold val_main_v163
  generalize val_main_v151 x1 x3 x4 x5 = y at h ⊢
  generalize val_main_v69 x0 x2 x4 x5 = y'
  pointwise
  exact h

theorem res164L_apply (t : Fin 4096) (l : Fin 256) : val_main_v164 x0 x1 x2 x3 x4 x5 (ix3 b ⟨t, by omega⟩ l) = (zL x0 x2 x4 x5 b t) ⟨672 + l.val, by omega⟩ := by
  have h := gkL_apply x0 x2 x4 x5 b t l
  unfold val_main_v164
  generalize val_main_v70 x0 x2 x4 x5 = y at h ⊢
  generalize val_main_v152 x1 x3 x4 x5 = y'
  pointwise
  exact h

theorem res164C_apply (t : Fin 256) (l : Fin 256) : val_main_v164 x0 x1 x2 x3 x4 x5 (ix3 b ⟨4096 + t, by omega⟩ l) = (zC x1 x3 x4 x5 b t) ⟨672 + l.val, by omega⟩ := by
  have h := gkC_apply x1 x3 x4 x5 b t l
  unfold val_main_v164
  generalize val_main_v152 x1 x3 x4 x5 = y at h ⊢
  generalize val_main_v70 x0 x2 x4 x5 = y'
  pointwise
  exact h

theorem res165L_apply (t : Fin 4096) (l : Fin 512) : val_main_v165 x0 x1 x2 x3 x4 x5 (ix3 b ⟨t, by omega⟩ l) = (zL x0 x2 x4 x5 b t) ⟨928 + l.val, by omega⟩ := by
  have h := gvL_apply x0 x2 x4 x5 b t l
  unfold val_main_v165
  generalize val_main_v71 x0 x2 x4 x5 = y at h ⊢
  generalize val_main_v153 x1 x3 x4 x5 = y'
  pointwise
  exact h

theorem res165C_apply (t : Fin 256) (l : Fin 512) : val_main_v165 x0 x1 x2 x3 x4 x5 (ix3 b ⟨4096 + t, by omega⟩ l) = (zC x1 x3 x4 x5 b t) ⟨928 + l.val, by omega⟩ := by
  have h := gvC_apply x1 x3 x4 x5 b t l
  unfold val_main_v165
  generalize val_main_v153 x1 x3 x4 x5 = y at h ⊢
  generalize val_main_v71 x0 x2 x4 x5 = y'
  pointwise
  exact h

theorem res166L_apply (t : Fin 4096) (l : Fin 512) : val_main_v166 x0 x1 x2 x3 x4 x5 (ix3 b ⟨t, by omega⟩ l) = silu ((zL x0 x2 x4 x5 b t) ⟨1440 + l.val, by omega⟩) := by
  have h := grL_apply x0 x2 x4 x5 b t l
  unfold val_main_v166
  generalize val_main_v73 x0 x2 x4 x5 = y at h ⊢
  generalize val_main_v155 x1 x3 x4 x5 = y'
  pointwise
  exact h

theorem res166C_apply (t : Fin 256) (l : Fin 512) : val_main_v166 x0 x1 x2 x3 x4 x5 (ix3 b ⟨4096 + t, by omega⟩ l) = silu ((zC x1 x3 x4 x5 b t) ⟨1440 + l.val, by omega⟩) := by
  have h := grC_apply x1 x3 x4 x5 b t l
  unfold val_main_v166
  generalize val_main_v155 x1 x3 x4 x5 = y at h ⊢
  generalize val_main_v73 x0 x2 x4 x5 = y'
  pointwise
  exact h

theorem res168L_apply (t : Fin 4096) (l : Fin 1536) : val_main_v168 x0 x1 x2 x3 x4 x5 (ix3 b ⟨t, by omega⟩ l) = (zL x0 x2 x4 x5 b t) ⟨1984 + l.val, by omega⟩ := by
  have h := hyL_apply x0 x2 x4 x5 b t l
  unfold val_main_v168
  generalize val_main_v42 x0 x2 x4 x5 = y at h ⊢
  generalize val_main_v124 x1 x3 x4 x5 = y'
  pointwise
  exact h

theorem res168C_apply (t : Fin 256) (l : Fin 1536) : val_main_v168 x0 x1 x2 x3 x4 x5 (ix3 b ⟨4096 + t, by omega⟩ l) = (zC x1 x3 x4 x5 b t) ⟨1984 + l.val, by omega⟩ := by
  have h := hyC_apply x1 x3 x4 x5 b t l
  unfold val_main_v168
  generalize val_main_v124 x1 x3 x4 x5 = y at h ⊢
  generalize val_main_v42 x0 x2 x4 x5 = y'
  pointwise
  exact h

theorem res169L_apply (t : Fin 4096) (l : Fin 3072) : val_main_v169 x0 x1 x2 x3 x4 x5 (ix3 b ⟨t, by omega⟩ l) = logis ((zL x0 x2 x4 x5 b t) ⟨3520 + l.val, by omega⟩) := by
  have h := zgL_apply x0 x2 x4 x5 b t l
  unfold val_main_v169
  generalize val_main_v80 x0 x2 x4 x5 = y at h ⊢
  generalize val_main_v162 x1 x3 x4 x5 = y'
  pointwise
  exact h

theorem res169C_apply (t : Fin 256) (l : Fin 3072) : val_main_v169 x0 x1 x2 x3 x4 x5 (ix3 b ⟨4096 + t, by omega⟩ l) = logis ((zC x1 x3 x4 x5 b t) ⟨3520 + l.val, by omega⟩) := by
  have h := zgC_apply x1 x3 x4 x5 b t l
  unfold val_main_v169
  generalize val_main_v162 x1 x3 x4 x5 = y at h ⊢
  generalize val_main_v80 x0 x2 x4 x5 = y'
  pointwise
  exact h

theorem halfFL_apply (t : Fin 4096) (l : Fin 256) : val_main_v66 x0 x2 x4 x5 x10 x11 (ix3 b t ⟨l.val, by omega⟩)
    = logGate ((∑ j : Fin 16, (zL x0 x2 x4 x5 b t) ⟨1952 + j.val, by omega⟩ * x10 (ix4 0 0 j l)) + x11 (ix3 0 0 l)) := by
  have h := gFL_apply x0 x2 x4 x5 x10 x11 b t l
  unfold val_main_v66
  generalize val_main_v54 x0 x2 x4 x5 x10 x11 = y at h ⊢
  generalize val_main_v65 x0 x2 x4 x5 x10 x11 = y'
  pointwise
  exact h

theorem res167FL_apply (t : Fin 4096) (l : Fin 256) : val_main_v167 x0 x1 x2 x3 x4 x5 x10 x11 (ix3 b ⟨t, by omega⟩ ⟨l.val, by omega⟩)
    = logGate ((∑ j : Fin 16, (zL x0 x2 x4 x5 b t) ⟨1952 + j.val, by omega⟩ * x10 (ix4 0 0 j l)) + x11 (ix3 0 0 l)) := by
  have h := halfFL_apply x0 x2 x4 x5 x10 x11 b t l
  unfold val_main_v167
  generalize val_main_v66 x0 x2 x4 x5 x10 x11 = y at h ⊢
  generalize val_main_v148 x1 x3 x4 x5 x10 x11 = y'
  pointwise
  exact h

theorem halfBL_apply (t : Fin 4096) (l : Fin 256) : val_main_v66 x0 x2 x4 x5 x10 x11 (ix3 b t ⟨256 + l.val, by omega⟩)
    = logGate ((∑ j : Fin 16, (zL x0 x2 x4 x5 b t) ⟨1968 + j.val, by omega⟩ * x10 (ix4 0 1 j l)) + x11 (ix3 0 1 l)) := by
  have h := gBL_apply x0 x2 x4 x5 x10 x11 b t l
  unfold val_main_v66
  generalize val_main_v65 x0 x2 x4 x5 x10 x11 = y at h ⊢
  generalize val_main_v54 x0 x2 x4 x5 x10 x11 = y'
  pointwise
  exact h

theorem res167BL_apply (t : Fin 4096) (l : Fin 256) : val_main_v167 x0 x1 x2 x3 x4 x5 x10 x11 (ix3 b ⟨t, by omega⟩ ⟨256 + l.val, by omega⟩)
    = logGate ((∑ j : Fin 16, (zL x0 x2 x4 x5 b t) ⟨1968 + j.val, by omega⟩ * x10 (ix4 0 1 j l)) + x11 (ix3 0 1 l)) := by
  have h := halfBL_apply x0 x2 x4 x5 x10 x11 b t l
  unfold val_main_v167
  generalize val_main_v66 x0 x2 x4 x5 x10 x11 = y at h ⊢
  generalize val_main_v148 x1 x3 x4 x5 x10 x11 = y'
  pointwise
  exact h

theorem halfFC_apply (t : Fin 256) (l : Fin 256) : val_main_v148 x1 x3 x4 x5 x10 x11 (ix3 b t ⟨l.val, by omega⟩)
    = logGate ((∑ j : Fin 16, (zC x1 x3 x4 x5 b t) ⟨1952 + j.val, by omega⟩ * x10 (ix4 0 0 j l)) + x11 (ix3 0 0 l)) := by
  have h := gFC_apply x1 x3 x4 x5 x10 x11 b t l
  unfold val_main_v148
  generalize val_main_v136 x1 x3 x4 x5 x10 x11 = y at h ⊢
  generalize val_main_v147 x1 x3 x4 x5 x10 x11 = y'
  pointwise
  exact h

theorem res167FC_apply (t : Fin 256) (l : Fin 256) : val_main_v167 x0 x1 x2 x3 x4 x5 x10 x11 (ix3 b ⟨4096 + t, by omega⟩ ⟨l.val, by omega⟩)
    = logGate ((∑ j : Fin 16, (zC x1 x3 x4 x5 b t) ⟨1952 + j.val, by omega⟩ * x10 (ix4 0 0 j l)) + x11 (ix3 0 0 l)) := by
  have h := halfFC_apply x1 x3 x4 x5 x10 x11 b t l
  unfold val_main_v167
  generalize val_main_v148 x1 x3 x4 x5 x10 x11 = y at h ⊢
  generalize val_main_v66 x0 x2 x4 x5 x10 x11 = y'
  pointwise
  exact h

theorem halfBC_apply (t : Fin 256) (l : Fin 256) : val_main_v148 x1 x3 x4 x5 x10 x11 (ix3 b t ⟨256 + l.val, by omega⟩)
    = logGate ((∑ j : Fin 16, (zC x1 x3 x4 x5 b t) ⟨1968 + j.val, by omega⟩ * x10 (ix4 0 1 j l)) + x11 (ix3 0 1 l)) := by
  have h := gBC_apply x1 x3 x4 x5 x10 x11 b t l
  unfold val_main_v148
  generalize val_main_v147 x1 x3 x4 x5 x10 x11 = y at h ⊢
  generalize val_main_v136 x1 x3 x4 x5 x10 x11 = y'
  pointwise
  exact h

theorem res167BC_apply (t : Fin 256) (l : Fin 256) : val_main_v167 x0 x1 x2 x3 x4 x5 x10 x11 (ix3 b ⟨4096 + t, by omega⟩ ⟨256 + l.val, by omega⟩)
    = logGate ((∑ j : Fin 16, (zC x1 x3 x4 x5 b t) ⟨1968 + j.val, by omega⟩ * x10 (ix4 0 1 j l)) + x11 (ix3 0 1 l)) := by
  have h := halfBC_apply x1 x3 x4 x5 x10 x11 b t l
  unfold val_main_v167
  generalize val_main_v148 x1 x3 x4 x5 x10 x11 = y at h ⊢
  generalize val_main_v66 x0 x2 x4 x5 x10 x11 = y'
  pointwise
  exact h

end Cert.InprojRefIdeal.Inproj

end
-- ==== Proof.InprojEq.lean ====
/- The first layer's input projection call's results are its reference's: both are `InprojRow`'s functions of each token's row. -/
module

public import proofs.«01_k».proof.Proof.InprojArray
public import proofs.«01_k».proof.Proof.InprojRef

@[expose] public section

set_option maxRecDepth 16384

noncomputable section

namespace Cert.InprojIdeal.Inproj

open Cert.InprojIdeal Cert.InprojIdeal.Gen Idealize.ShloMosaic Idealize.ShloMosaic.TcCoe Idealize.SL.Sem

variable (m : (ℓ : Loc nD τ sig) → Buf (Elt Ideal) ℓ) (c : Dev nD)

/-- A row is a latent row or a context row. -/
theorem row_cases (s : Fin 4352) : (∃ t : Fin 4096, s = ⟨t, by omega⟩) ∨ ∃ t : Fin 256, s = ⟨4096 + t, Nat.add_lt_add_left t.isLt 4096⟩ := by
  by_cases h : s.val < 4096
  · exact .inl ⟨⟨s.val, h⟩, rfl⟩
  · exact .inr ⟨⟨s.val - 4096, by omega⟩, Fin.ext (show s.val = 4096 + (s.val - 4096) by omega)⟩

/-- A lane of a log gate is one of the forward or of the backward lanes. -/
theorem lane_cases (l : Fin 512) : (∃ k : Fin 256, l = ⟨k.val, by omega⟩) ∨ ∃ k : Fin 256, l = ⟨256 + k.val, by omega⟩ := by
  by_cases h : l.val < 256
  · exact .inl ⟨⟨l.val, h⟩, rfl⟩
  · exact .inr ⟨⟨l.val - 256, by omega⟩, Fin.ext (show l.val = 256 + (l.val - 256) by omega)⟩

theorem result19_eq : ((dats m 0 c).arrAt 19 cfg0.N : Vec Ideal S8x4352x256 .bf16)
    = Cert.InprojRefIdeal.Read.val_main_v163 (a0 m c) (a1 m c) (a2 m c) (a3 m c) (a4 m c) (a5 m c) := by
  funext i
  obtain ⟨b, s, l, rfl⟩ : ∃ (b : Fin 8) (s : Fin 4352) (l : Fin 256), i = ix3 b s l := ⟨i 0, i 1, i 2, eq_ix3 i⟩
  rcases row_cases s with ⟨t, rfl⟩ | ⟨t, rfl⟩
  · have h := arr19 m c b ⟨t, by omega⟩ l
    rw [zK_latent] at h
    exact h.trans (Cert.InprojRefIdeal.Inproj.res163L_apply (a0 m c) (a1 m c) (a2 m c) (a3 m c) (a4 m c) (a5 m c) b t l).symm
  · have h := arr19 m c b ⟨4096 + t, Nat.add_lt_add_left t.isLt 4096⟩ l
    rw [zK_context] at h
    exact h.trans (Cert.InprojRefIdeal.Inproj.res163C_apply (a0 m c) (a1 m c) (a2 m c) (a3 m c) (a4 m c) (a5 m c) b t l).symm

theorem result20_eq : ((dats m 0 c).arrAt 20 cfg0.N : Vec Ideal S8x4352x256 .bf16)
    = Cert.InprojRefIdeal.Read.val_main_v164 (a0 m c) (a1 m c) (a2 m c) (a3 m c) (a4 m c) (a5 m c) := by
  funext i
  obtain ⟨b, s, l, rfl⟩ : ∃ (b : Fin 8) (s : Fin 4352) (l : Fin 256), i = ix3 b s l := ⟨i 0, i 1, i 2, eq_ix3 i⟩
  rcases row_cases s with ⟨t, rfl⟩ | ⟨t, rfl⟩
  · have h := arr20 m c b ⟨t, by omega⟩ l
    rw [zK_latent] at h
    exact h.trans (Cert.InprojRefIdeal.Inproj.res164L_apply (a0 m c) (a1 m c) (a2 m c) (a3 m c) (a4 m c) (a5 m c) b t l).symm
  · have h := arr20 m c b ⟨4096 + t, Nat.add_lt_add_left t.isLt 4096⟩ l
    rw [zK_context] at h
    exact h.trans (Cert.InprojRefIdeal.Inproj.res164C_apply (a0 m c) (a1 m c) (a2 m c) (a3 m c) (a4 m c) (a5 m c) b t l).symm

theorem result21_eq : ((dats m 0 c).arrAt 21 cfg0.N : Vec Ideal S8x4352x512 .bf16)
    = Cert.InprojRefIdeal.Read.val_main_v165 (a0 m c) (a1 m c) (a2 m c) (a3 m c) (a4 m c) (a5 m c) := by
  funext i
  obtain ⟨b, s, l, rfl⟩ : ∃ (b : Fin 8) (s : Fin 4352) (l : Fin 512), i = ix3 b s l := ⟨i 0, i 1, i 2, eq_ix3 i⟩
  rcases row_cases s with ⟨t, rfl⟩ | ⟨t, rfl⟩
  · have h := arr21 m c b ⟨t, by omega⟩ l
    rw [zK_latent] at h
    exact h.trans (Cert.InprojRefIdeal.Inproj.res165L_apply (a0 m c) (a1 m c) (a2 m c) (a3 m c) (a4 m c) (a5 m c) b t l).symm
  · have h := arr21 m c b ⟨4096 + t, Nat.add_lt_add_left t.isLt 4096⟩ l
    rw [zK_context] at h
    exact h.trans (Cert.InprojRefIdeal.Inproj.res165C_apply (a0 m c) (a1 m c) (a2 m c) (a3 m c) (a4 m c) (a5 m c) b t l).symm

theorem result22_eq : ((dats m 0 c).arrAt 22 cfg0.N : Vec Ideal S8x4352x512 .bf16)
    = Cert.InprojRefIdeal.Read.val_main_v166 (a0 m c) (a1 m c) (a2 m c) (a3 m c) (a4 m c) (a5 m c) := by
  funext i
  obtain ⟨b, s, l, rfl⟩ : ∃ (b : Fin 8) (s : Fin 4352) (l : Fin 512), i = ix3 b s l := ⟨i 0, i 1, i 2, eq_ix3 i⟩
  rcases row_cases s with ⟨t, rfl⟩ | ⟨t, rfl⟩
  · have h := arr22 m c b ⟨t, by omega⟩ l
    rw [zK_latent] at h
    exact h.trans (Cert.InprojRefIdeal.Inproj.res166L_apply (a0 m c) (a1 m c) (a2 m c) (a3 m c) (a4 m c) (a5 m c) b t l).symm
  · have h := arr22 m c b ⟨4096 + t, Nat.add_lt_add_left t.isLt 4096⟩ l
    rw [zK_context] at h
    exact h.trans (Cert.InprojRefIdeal.Inproj.res166C_apply (a0 m c) (a1 m c) (a2 m c) (a3 m c) (a4 m c) (a5 m c) b t l).symm

theorem result24_eq : ((dats m 0 c).arrAt 24 cfg0.N : Vec Ideal S8x4352x1536 .f32)
    = Cert.InprojRefIdeal.Read.val_main_v168 (a0 m c) (a1 m c) (a2 m c) (a3 m c) (a4 m c) (a5 m c) := by
  funext i
  obtain ⟨b, s, l, rfl⟩ : ∃ (b : Fin 8) (s : Fin 4352) (l : Fin 1536), i = ix3 b s l := ⟨i 0, i 1, i 2, eq_ix3 i⟩
  rcases row_cases s with ⟨t, rfl⟩ | ⟨t, rfl⟩
  · have h := arr24 m c b ⟨t, by omega⟩ l
    rw [zK_latent] at h
    exact h.trans (Cert.InprojRefIdeal.Inproj.res168L_apply (a0 m c) (a1 m c) (a2 m c) (a3 m c) (a4 m c) (a5 m c) b t l).symm
  · have h := arr24 m c b ⟨4096 + t, Nat.add_lt_add_left t.isLt 4096⟩ l
    rw [zK_context] at h
    exact h.trans (Cert.InprojRefIdeal.Inproj.res168C_apply (a0 m c) (a1 m c) (a2 m c) (a3 m c) (a4 m c) (a5 m c) b t l).symm

theorem result25_eq : ((dats m 0 c).arrAt 25 cfg0.N : Vec Ideal S8x4352x3072 .bf16)
    = Cert.InprojRefIdeal.Read.val_main_v169 (a0 m c) (a1 m c) (a2 m c) (a3 m c) (a4 m c) (a5 m c) := by
  funext i
  obtain ⟨b, s, l, rfl⟩ : ∃ (b : Fin 8) (s : Fin 4352) (l : Fin 3072), i = ix3 b s l := ⟨i 0, i 1, i 2, eq_ix3 i⟩
  rcases row_cases s with ⟨t, rfl⟩ | ⟨t, rfl⟩
  · have h := arr25 m c b ⟨t, by omega⟩ l
    rw [zK_latent] at h
    exact h.trans (Cert.InprojRefIdeal.Inproj.res169L_apply (a0 m c) (a1 m c) (a2 m c) (a3 m c) (a4 m c) (a5 m c) b t l).symm
  · have h := arr25 m c b ⟨4096 + t, Nat.add_lt_add_left t.isLt 4096⟩ l
    rw [zK_context] at h
    exact h.trans (Cert.InprojRefIdeal.Inproj.res169C_apply (a0 m c) (a1 m c) (a2 m c) (a3 m c) (a4 m c) (a5 m c) b t l).symm

theorem result23_eq : ((dats m 0 c).arrAt 23 cfg0.N : Vec Ideal S8x4352x512 .f32)
    = Cert.InprojRefIdeal.Read.val_main_v167 (a0 m c) (a1 m c) (a2 m c) (a3 m c) (a4 m c) (a5 m c) (a10 m c) (a11 m c) := by
  funext i
  obtain ⟨b, s, l, rfl⟩ : ∃ (b : Fin 8) (s : Fin 4352) (l : Fin 512), i = ix3 b s l := ⟨i 0, i 1, i 2, eq_ix3 i⟩
  rcases row_cases s with ⟨t, rfl⟩ | ⟨t, rfl⟩ <;> rcases lane_cases l with ⟨k, rfl⟩ | ⟨k, rfl⟩
  · have h := arr23F m c b ⟨t, by omega⟩ k
    rw [zK_latent] at h
    exact h.trans (Cert.InprojRefIdeal.Inproj.res167FL_apply (a0 m c) (a1 m c) (a2 m c) (a3 m c) (a4 m c) (a5 m c) (a10 m c) (a11 m c) b t k).symm
  · have h := arr23B m c b ⟨t, by omega⟩ k
    rw [zK_latent] at h
    exact h.trans (Cert.InprojRefIdeal.Inproj.res167BL_apply (a0 m c) (a1 m c) (a2 m c) (a3 m c) (a4 m c) (a5 m c) (a10 m c) (a11 m c) b t k).symm
  · have h := arr23F m c b ⟨4096 + t, Nat.add_lt_add_left t.isLt 4096⟩ k
    rw [zK_context] at h
    exact h.trans (Cert.InprojRefIdeal.Inproj.res167FC_apply (a0 m c) (a1 m c) (a2 m c) (a3 m c) (a4 m c) (a5 m c) (a10 m c) (a11 m c) b t k).symm
  · have h := arr23B m c b ⟨4096 + t, Nat.add_lt_add_left t.isLt 4096⟩ k
    rw [zK_context] at h
    exact h.trans (Cert.InprojRefIdeal.Inproj.res167BC_apply (a0 m c) (a1 m c) (a2 m c) (a3 m c) (a4 m c) (a5 m c) (a10 m c) (a11 m c) b t k).symm

end Cert.InprojIdeal.Inproj

end
-- ==== Proof.InprojLastBlock.lean ====
/- What one grid point of the last layer's input projection kernel stores, at an element.

   The kernel's body is the one of the first layer's call. A grid point holds 256 tokens of one batch. The first 16 tiles are latent tokens and the last is the context: there the
   kernel reads the token from the context's block. Row `r` of each block it stores is the function of `InprojRow` of row
   `r` of the blocks it reads. -/
module

public import proofs.«01_k».proof.Proof.Gen.InprojLastIdeal.Frame
public import proofs.«01_k».proof.Proof.InprojBlock
public import Idealize.ShloMosaic.Lib.Pointwise

@[expose] public section

set_option maxRecDepth 16384

noncomputable section

namespace Cert.InprojLastIdeal.InprojLast

open Cert.InprojLastIdeal Cert.InprojLastIdeal.Gen Idealize.ShloMosaic Idealize.ShloMosaic.TcCoe Idealize.SL.Sem Cert.MergeRow Cert.InprojRow

variable (i : grid0.Coords) (x0 x1 : Vec Ideal S1x256x1024 .f32) (x2 : Vec Ideal S1x6x1024 .f32) (x3 : Vec Ideal S1x1024 .f32)
  (x4 : Vec Ideal S1024x768 .bf16) (x5 x6 : Vec Ideal S1024x1536 .bf16) (x7 : Vec Ideal S1024x3072 .bf16) (x8 : Vec Ideal S1x256 .f32)
  (x9 : Vec Ideal S1x128 .f32) (x10 : Vec Ideal S256x2048 .bf16) (x11 : Vec Ideal S128x2048 .bf16) (x12 : Vec Ideal S128x512 .bf16)
  (x13 : Vec Ideal S1x512 .f32) (x14 x15 : Vec Ideal S256x128 .f32) (r : Fin 256)

/-- Whether the point's tile is one of latent tokens, as the kernel decides it. -/
abbrev lat : BitVec 1 := Scalar.cmpi .slt (BitVec.ofNat 32 (i 1).val) 16#32

/-- The kernel's choice between the latent's and the context's block. -/
theorem pick {α : Type} (a b : α) : Scalar.select (lat i) a b = if (i 1).val < 16 then a else b :=
  Cert.InprojIdeal.Inproj.pick i a b

/-- The normalized token at row `r`. -/
abbrev hB : Fin 1024 → EReal :=
  ffIn (fun l => Scalar.select (lat i) (x0 (ix3 0 r l)) (x1 (ix3 0 r l))) (fun l => x3 (ix2 0 l)) (fun l => x2 (ix3 0 1 l)) (fun l => x2 (ix3 0 0 l))

theorem block19 (l : Fin 256) : out0_19 i x0 x1 x2 x3 x4 x5 x6 x7 x8 x9 x10 x11 x12 x13 x14 x15 (ix3 0 r l) = (∑ k, hB i x0 x1 x2 x3 r k * x5 (ix2 k ⟨l.val, by omega⟩)) * c8 :=
  Cert.InprojIdeal.Inproj.block19 i x0 x1 x2 x3 x4 x5 x6 x7 x8 x9 x10 x11 x12 x13 x14 x15 r l

theorem block20 (l : Fin 256) : out0_20 i x0 x1 x2 x3 x4 x5 x6 x7 x8 x9 x10 x11 x12 x13 x14 x15 (ix3 0 r l) = ∑ k, hB i x0 x1 x2 x3 r k * x5 (ix2 k ⟨256 + l.val, by omega⟩) :=
  Cert.InprojIdeal.Inproj.block20 i x0 x1 x2 x3 x4 x5 x6 x7 x8 x9 x10 x11 x12 x13 x14 x15 r l

theorem block21 (l : Fin 512) : out0_21 i x0 x1 x2 x3 x4 x5 x6 x7 x8 x9 x10 x11 x12 x13 x14 x15 (ix3 0 r l) = ∑ k, hB i x0 x1 x2 x3 r k * x5 (ix2 k ⟨512 + l.val, by omega⟩) :=
  Cert.InprojIdeal.Inproj.block21 i x0 x1 x2 x3 x4 x5 x6 x7 x8 x9 x10 x11 x12 x13 x14 x15 r l

theorem block22 (l : Fin 512) : out0_22 i x0 x1 x2 x3 x4 x5 x6 x7 x8 x9 x10 x11 x12 x13 x14 x15 (ix3 0 r l)
    = silu (∑ k, hB i x0 x1 x2 x3 r k * x5 (ix2 k ⟨1024 + l.val, by omega⟩)) :=
  Cert.InprojIdeal.Inproj.block22 i x0 x1 x2 x3 x4 x5 x6 x7 x8 x9 x10 x11 x12 x13 x14 x15 r l

theorem block23 (l : Fin 512) : out0_23 i x0 x1 x2 x3 x4 x5 x6 x7 x8 x9 x10 x11 x12 x13 x14 x15 (ix3 0 r l)
    = logGate ((∑ j : Fin 128, (∑ k, hB i x0 x1 x2 x3 r k * x4 (ix2 k ⟨640 + j.val, by omega⟩)) * x12 (ix2 j l)) + x13 (ix2 0 l)) :=
  Cert.InprojIdeal.Inproj.block23 i x0 x1 x2 x3 x4 x5 x6 x7 x8 x9 x10 x11 x12 x13 x14 x15 r l

theorem block24 (l : Fin 1536) : out0_24 i x0 x1 x2 x3 x4 x5 x6 x7 x8 x9 x10 x11 x12 x13 x14 x15 (ix3 0 r l) = ∑ k, hB i x0 x1 x2 x3 r k * x6 (ix2 k l) :=
  Cert.InprojIdeal.Inproj.block24 i x0 x1 x2 x3 x4 x5 x6 x7 x8 x9 x10 x11 x12 x13 x14 x15 r l

theorem block25 (l : Fin 3072) : out0_25 i x0 x1 x2 x3 x4 x5 x6 x7 x8 x9 x10 x11 x12 x13 x14 x15 (ix3 0 r l) = logis (∑ k, hB i x0 x1 x2 x3 r k * x7 (ix2 k l)) :=
  Cert.InprojIdeal.Inproj.block25 i x0 x1 x2 x3 x4 x5 x6 x7 x8 x9 x10 x11 x12 x13 x14 x15 r l

end Cert.InprojLastIdeal.InprojLast

end
-- ==== Proof.InprojLastHost.lean ====
/- The packed arrays the last layer's input projection call reads, at an element.

   The host code before the call joins the latent and the context rows, puts the context's modulation after the batches', takes the last layer's weights, lays the
   input projection's columns out in the groups the kernel multiplies at once, puts the two directions' low-rank decay
   matrices on a block diagonal, and their biases side by side. -/
module

public import proofs.«01_k».proof.Proof.InprojHost
public import proofs.«01_k».proof.Proof.Gen.InprojLastIdeal.Value
public import Idealize.ShloMosaic.Lib.Tactic.CleanTypes
public import Idealize.ShloMosaic.Lib.StableHlo.ReadAt
public import Idealize.ShloMosaic.Lib.Routing.OpsSet
public import Idealize.ShloMosaic.Lib.Routing.OpsOne
public import Idealize.ShloMosaic.Lib.Pointwise

@[expose] public section

set_option maxRecDepth 16384

noncomputable section

namespace Cert.InprojLastIdeal.InprojLast

open Cert.InprojLastIdeal Cert.InprojLastIdeal.Gen Idealize.ShloMosaic Idealize.ShloMosaic.Routing Idealize.ShloMosaic.TcCoe Idealize.SL.Sem Cert.MergeRow Cert.InprojRow

variable (m : (ℓ : Loc nD τ sig) → Buf (Elt Ideal) ℓ) (c : Dev nD)

/-! ## The arguments -/

/-- The latent tokens. -/
abbrev a0 : Vec Ideal S8x4096x1024 .f32 := m ((c : Thread nD τ).loc main_arg0)
/-- The context's tokens. -/
abbrev a1 : Vec Ideal S8x256x1024 .f32 := m ((c : Thread nD τ).loc main_arg1)
/-- The modulation of both layers. -/
abbrev a2 : Vec Ideal S2x8x6144 .f32 := m ((c : Thread nD τ).loc main_arg2)
/-- The context's modulation of both layers. -/
abbrev a3 : Vec Ideal S2x6144 .f32 := m ((c : Thread nD τ).loc main_arg3)
/-- The scale of the normalization before the input projection. -/
abbrev a4 : Vec Ideal S2x1024 .f32 := m ((c : Thread nD τ).loc main_arg4)
/-- The input projection. -/
abbrev a5 : Vec Ideal S2x1024x6592 .f32 := m ((c : Thread nD τ).loc main_arg5)
/-- The decays' second matrices, one for each direction. -/
abbrev a10 : Vec Ideal S2x2x16x256 .f32 := m ((c : Thread nD τ).loc main_arg10)
/-- The decays' biases. -/
abbrev a11 : Vec Ideal S2x2x256 .f32 := m ((c : Thread nD τ).loc main_arg11)

/-! ## The packed arrays -/

theorem xL_apply (b : Fin 8) (t : Fin 4096) (l : Fin 1024) :
    (V m c main_v254 : Vec Ideal S8x4352x1024 .f32) (ix3 b ⟨t, by omega⟩ l) = a0 m c (ix3 b t l) := by
  unfold_abbrev_sides
  after_reads_at
  try after_reads_at
  try rfl

theorem xC_apply (b : Fin 8) (t : Fin 256) (l : Fin 1024) :
    (V m c main_v254 : Vec Ideal S8x4352x1024 .f32) (ix3 b ⟨4096 + t, Nat.add_lt_add_left t.isLt 4096⟩ l) = a1 m c (ix3 b t l) := by
  unfold_abbrev_sides
  after_reads_at
  try after_reads_at
  try rfl

theorem modL_apply (b : Fin 8) (k : Fin 6) (l : Fin 1024) :
    (V m c main_v7 : Vec Ideal S16x6x1024 .f32) (ix3 ⟨b, by omega⟩ k l) = a2 m c (ix3 1 b ⟨1024 * k.val + l.val, by omega⟩) := by
  unfold_abbrev_sides
  after_reads_at
  try after_reads_at
  try simp only [Nat.mul_comm 1024]

theorem modC_apply (k : Fin 6) (l : Fin 1024) :
    (V m c main_v7 : Vec Ideal S16x6x1024 .f32) (ix3 8 k l) = a3 m c (ix2 1 ⟨1024 * k.val + l.val, by omega⟩) := by
  unfold_abbrev_sides
  after_reads_at
  try after_reads_at
  try simp only [Nat.mul_comm 1024]

theorem g1_apply (l : Fin 1024) :
    (V m c main_v261 : Vec Ideal S1x1024 .f32) (ix2 0 l) = a4 m c (ix2 1 l) := by
  unfold_abbrev_sides
  after_reads_at

theorem wgq_apply (k : Fin 1024) (l : Fin 256) :
    (V m c main_v54 : Vec Ideal S1024x1536 .bf16) (ix2 k ⟨l.val, by omega⟩) = a5 m c (ix3 1 k ⟨416 + l.val, by omega⟩) := by
  unfold_abbrev_sides
  after_reads_at
  try after_reads_at
  try rfl

theorem wgk_apply (k : Fin 1024) (l : Fin 256) :
    (V m c main_v54 : Vec Ideal S1024x1536 .bf16) (ix2 k ⟨256 + l.val, by omega⟩) = a5 m c (ix3 1 k ⟨672 + l.val, by omega⟩) := by
  unfold_abbrev_sides
  after_reads_at
  try after_reads_at
  try rfl

theorem wgv_apply (k : Fin 1024) (l : Fin 512) :
    (V m c main_v54 : Vec Ideal S1024x1536 .bf16) (ix2 k ⟨512 + l.val, by omega⟩) = a5 m c (ix3 1 k ⟨928 + l.val, by omega⟩) := by
  unfold_abbrev_sides
  after_reads_at
  rw [dif_neg (by omega), dif_neg (by omega), dif_pos (by omega)]
  after_reads_at
  try simp only [show 512 + l.val - 256 - 256 = l.val by omega]

theorem wgr_apply (k : Fin 1024) (l : Fin 512) :
    (V m c main_v54 : Vec Ideal S1024x1536 .bf16) (ix2 k ⟨1024 + l.val, by omega⟩) = a5 m c (ix3 1 k ⟨1440 + l.val, by omega⟩) := by
  unfold_abbrev_sides
  after_reads_at
  rw [dif_neg (by omega), dif_neg (by omega), dif_neg (by omega)]
  after_reads_at
  try simp only [show 1024 + l.val - 256 - 256 - 512 = l.val by omega]

theorem wh_apply (k : Fin 1024) (l : Fin 1536) :
    (V m c main_v28 : Vec Ideal S1024x1536 .bf16) (ix2 k l) = a5 m c (ix3 1 k ⟨1984 + l.val, by omega⟩) := by
  unfold_abbrev_sides
  after_reads_at
  try after_reads_at
  try rfl

theorem wz_apply (k : Fin 1024) (l : Fin 3072) :
    (V m c main_v29 : Vec Ideal S1024x3072 .bf16) (ix2 k l) = a5 m c (ix3 1 k ⟨3520 + l.val, by omega⟩) := by
  unfold_abbrev_sides
  after_reads_at
  try after_reads_at
  try rfl

theorem waF_apply (k : Fin 1024) (j : Fin 16) :
    (V m c main_v250 : Vec Ideal S1024x768 .bf16) (ix2 k ⟨640 + j.val, by omega⟩) = a5 m c (ix3 1 k ⟨1952 + j.val, by omega⟩) := by
  unfold_abbrev_sides
  after_reads_at
  rw [dif_neg (by omega), dif_neg (by omega), dif_neg (by omega), dif_neg (by omega)]
  after_reads_at
  rw [dif_pos (by omega)]
  try after_reads_at
  simp only [show 640 + j.val - 256 - 128 - 128 - 128 = j.val by omega]

theorem waB_apply (k : Fin 1024) (j : Fin 16) :
    (V m c main_v250 : Vec Ideal S1024x768 .bf16) (ix2 k ⟨656 + j.val, by omega⟩) = a5 m c (ix3 1 k ⟨1968 + j.val, by omega⟩) := by
  unfold_abbrev_sides
  after_reads_at
  rw [dif_neg (by omega), dif_neg (by omega), dif_neg (by omega), dif_neg (by omega)]
  after_reads_at
  rw [dif_neg (by omega), dif_pos (by omega)]
  try after_reads_at
  simp only [show 656 + j.val - 256 - 128 - 128 - 128 - 16 = j.val by omega]

theorem baF_apply (l : Fin 256) :
    (V m c main_v249 : Vec Ideal S1x512 .f32) (ix2 0 ⟨l.val, by omega⟩) = a11 m c (ix3 1 0 l) := by
  unfold_abbrev_sides
  after_reads_at
  try after_reads_at
  try rfl

theorem baB_apply (l : Fin 256) :
    (V m c main_v249 : Vec Ideal S1x512 .f32) (ix2 0 ⟨256 + l.val, by omega⟩) = a11 m c (ix3 1 1 l) := by
  unfold_abbrev_sides
  after_reads_at
  try after_reads_at
  try rfl

theorem w2F_apply (p : Fin 16) (l : Fin 256) :
    (V m c main_v253 : Vec Ideal S128x512 .bf16) (ix2 ⟨p.val, by omega⟩ ⟨l.val, by omega⟩) = a10 m c (ix4 1 0 p l) := by
  unfold_abbrev_sides
  after_reads_at
  refine (Cert.InprojIdeal.Inproj.block_set _ rfl rfl rfl rfl _ _ _ 16 256 ?_ ?_ _ _).trans ?_
  · pointwise
    after_reads_at
    rfl
  · pointwise
    after_reads_at
    rfl
  rw [dif_neg (by simp only; omega)]
  refine (Cert.InprojIdeal.Inproj.block_set _ rfl rfl rfl rfl _ _ _ 0 0 ?_ ?_ _ _).trans ?_
  · pointwise
    after_reads_at
    rfl
  · pointwise
    after_reads_at
    rfl
  rw [dif_pos (by simp only; omega)]
  rfl

theorem w2B_apply (p : Fin 16) (l : Fin 256) :
    (V m c main_v253 : Vec Ideal S128x512 .bf16) (ix2 ⟨16 + p.val, by omega⟩ ⟨256 + l.val, by omega⟩) = a10 m c (ix4 1 1 p l) := by
  unfold_abbrev_sides
  after_reads_at
  refine (Cert.InprojIdeal.Inproj.block_set _ rfl rfl rfl rfl _ _ _ 16 256 ?_ ?_ _ _).trans ?_
  · pointwise
    after_reads_at
    rfl
  · pointwise
    after_reads_at
    rfl
  rw [dif_pos (by simp only; omega)]
  simp only [Nat.add_sub_cancel_left, Fin.eta]
  rfl

theorem w2Z_apply (p : Fin 128) (l : Fin 512) (h0 : p.val < 16 → 256 ≤ l.val) (h1 : 16 ≤ p.val → p.val < 32 → l.val < 256) :
    (V m c main_v253 : Vec Ideal S128x512 .bf16) (ix2 p l) = (0 : EReal) := by
  unfold_abbrev_sides
  after_reads_at
  refine (Cert.InprojIdeal.Inproj.block_set _ rfl rfl rfl rfl _ _ _ 16 256 ?_ ?_ _ _).trans ?_
  · pointwise
    after_reads_at
    rfl
  · pointwise
    after_reads_at
    rfl
  rw [dif_neg (by omega)]
  refine (Cert.InprojIdeal.Inproj.block_set _ rfl rfl rfl rfl _ _ _ 0 0 ?_ ?_ _ _).trans ?_
  · pointwise
    after_reads_at
    rfl
  · pointwise
    after_reads_at
    rfl
  rw [dif_neg (by omega)]
  pointwise
  try rfl

end Cert.InprojLastIdeal.InprojLast

end
-- ==== Proof.InprojLastArray.lean ====
/- The last layer's input projection call's result arrays, at an element.

   Grid point `t` is batch `t / 17` and token tile `t % 17`, 256 tokens to a tile; tile 16 is the context. Its blocks are
   read off the packed arrays, and element `(b, s, l)` of a result is stored by exactly one point. -/
module

public import proofs.«01_k».proof.Proof.Gen.InprojLastIdeal.Value
public import proofs.«01_k».proof.Proof.InprojLastBlock
public import proofs.«01_k».proof.Proof.InprojLastHost

@[expose] public section

set_option maxRecDepth 16384

noncomputable section

namespace Cert.InprojLastIdeal.InprojLast

open Cert.InprojLastIdeal Cert.InprojLastIdeal.Gen Idealize.ShloMosaic Idealize.ShloMosaic.TcCoe Idealize.SL.Sem Cert.MergeRow Cert.InprojRow

theorem coord1 : ∀ t : Fin cfg0.N, (grid0.coords t 1).val = t.val % 17 :=
  (by decide +kernel : ∀ t : Fin grid0.N, (grid0.coords t 1).val = t.val % 17)
theorem idx0 : ∀ t : Fin cfg0.N, win0_0.index t 0 = t.val / 17 ∧ win0_0.index t 1 = min (t.val % 17) 15 ∧ win0_0.index t 2 = 0 :=
  (by decide +kernel : ∀ t : Fin grid0.N, win0_0.index t 0 = t.val / 17 ∧ win0_0.index t 1 = min (t.val % 17) 15 ∧ win0_0.index t 2 = 0)
theorem idx1 : ∀ t : Fin cfg0.N, win0_1.index t 0 = t.val / 17 ∧ win0_1.index t 1 = 16 ∧ win0_1.index t 2 = 0 :=
  (by decide +kernel : ∀ t : Fin grid0.N, win0_1.index t 0 = t.val / 17 ∧ win0_1.index t 1 = 16 ∧ win0_1.index t 2 = 0)
theorem idx2 : ∀ t : Fin cfg0.N, win0_2.index t 0 = (if t.val % 17 < 16 then t.val / 17 else 8) ∧ win0_2.index t 1 = 0 ∧ win0_2.index t 2 = 0 :=
  (by decide +kernel : ∀ t : Fin grid0.N, win0_2.index t 0 = (if t.val % 17 < 16 then t.val / 17 else 8) ∧ win0_2.index t 1 = 0 ∧ win0_2.index t 2 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem idx12 : ∀ t : Fin cfg0.N, win0_12.index t 0 = 0 ∧ win0_12.index t 1 = 0 :=
  (by decide +kernel : ∀ t : Fin grid0.N, win0_12.index t 0 = 0 ∧ win0_12.index t 1 = 0)
theorem idx13 : ∀ t : Fin cfg0.N, win0_13.index t 0 = 0 ∧ win0_13.index t 1 = 0 :=
  (by decide +kernel : ∀ t : Fin grid0.N, win0_13.index t 0 = 0 ∧ win0_13.index t 1 = 0)
theorem idx19 : ∀ t : Fin cfg0.N, win0_19.index t 0 = t.val / 17 ∧ win0_19.index t 1 = t.val % 17 ∧ win0_19.index t 2 = 0 :=
  (by decide +kernel : ∀ t : Fin grid0.N, win0_19.index t 0 = t.val / 17 ∧ win0_19.index t 1 = t.val % 17 ∧ win0_19.index t 2 = 0)
theorem idx20 : ∀ t : Fin cfg0.N, win0_20.index t 0 = t.val / 17 ∧ win0_20.index t 1 = t.val % 17 ∧ win0_20.index t 2 = 0 :=
  (by decide +kernel : ∀ t : Fin grid0.N, win0_20.index t 0 = t.val / 17 ∧ win0_20.index t 1 = t.val % 17 ∧ win0_20.index t 2 = 0)
theorem idx21 : ∀ t : Fin cfg0.N, win0_21.index t 0 = t.val / 17 ∧ win0_21.index t 1 = t.val % 17 ∧ win0_21.index t 2 = 0 :=
  (by decide +kernel : ∀ t : Fin grid0.N, win0_21.index t 0 = t.val / 17 ∧ win0_21.index t 1 = t.val % 17 ∧ win0_21.index t 2 = 0)
theorem idx22 : ∀ t : Fin cfg0.N, win0_22.index t 0 = t.val / 17 ∧ win0_22.index t 1 = t.val % 17 ∧ win0_22.index t 2 = 0 :=
  (by decide +kernel : ∀ t : Fin grid0.N, win0_22.index t 0 = t.val / 17 ∧ win0_22.index t 1 = t.val % 17 ∧ win0_22.index t 2 = 0)
theorem idx23 : ∀ t : Fin cfg0.N, win0_23.index t 0 = t.val / 17 ∧ win0_23.index t 1 = t.val % 17 ∧ win0_23.index t 2 = 0 :=
  (by decide +kernel : ∀ t : Fin grid0.N, win0_23.index t 0 = t.val / 17 ∧ win0_23.index t 1 = t.val % 17 ∧ win0_23.index t 2 = 0)
theorem idx24 : ∀ t : Fin cfg0.N, win0_24.index t 0 = t.val / 17 ∧ win0_24.index t 1 = t.val % 17 ∧ win0_24.index t 2 = 0 :=
  (by decide +kernel : ∀ t : Fin grid0.N, win0_24.index t 0 = t.val / 17 ∧ win0_24.index t 1 = t.val % 17 ∧ win0_24.index t 2 = 0)
theorem idx25 : ∀ t : Fin cfg0.N, win0_25.index t 0 = t.val / 17 ∧ win0_25.index t 1 = t.val % 17 ∧ win0_25.index t 2 = 0 :=
  (by decide +kernel : ∀ t : Fin grid0.N, win0_25.index t 0 = t.val / 17 ∧ win0_25.index t 1 = t.val % 17 ∧ win0_25.index t 2 = 0)

theorem lt_N (t : Fin cfg0.N) : t.val < 136 := lt_of_lt_of_eq t.isLt (by decide +kernel : grid0.N = 136)

variable (m : (ℓ : Loc nD τ sig) → Buf (Elt Ideal) ℓ) (c : Dev nD)

/-! ## The blocks a point reads -/

/-- The batch of point `t`. -/
abbrev bat (t : Fin cfg0.N) : Fin 8 := ⟨t.val / 17, by have := lt_N t; omega⟩
/-- The latent token at row `r` of point `t`'s tile. -/
abbrev tok (t : Fin cfg0.N) (h : t.val % 17 < 16) (r : Fin 256) : Fin 4096 := ⟨256 * (t.val % 17) + r.val, by omega⟩

/-- The latent's modulation rows of batch `b`. -/
abbrev modL (b : Fin 8) : Fin 6 → Fin 1024 → EReal := fun k l => a2 m c (ix3 1 b ⟨1024 * k.val + l.val, by omega⟩)
/-- The context's modulation rows. -/
abbrev modC : Fin 6 → Fin 1024 → EReal := fun k l => a3 m c (ix2 1 ⟨1024 * k.val + l.val, by omega⟩)

theorem blk0L (t : Fin cfg0.N) (h : t.val % 17 < 16) (r : Fin 256) (l : Fin 1024) :
    (iblk m c 0 t : Vec Ideal S1x256x1024 .f32) (ix3 0 r l) = a0 m c (ix3 (bat t) (tok t h r) l) := by
  obtain ⟨e0, e1, e2⟩ := idx0 t
  rw [← xL_apply m c (bat t) (tok t h r) l]
  unfold iblk
  rw [View.read_apply]
  show V m c main_v254 _ = V m c main_v254 _
  congr 1
  funext a
  apply Fin.ext
  match a with
  | ⟨0, _⟩ => show win0_0.index t 0 * 1 + 1 * 0 = t.val / 17; rw [e0]; omega
  | ⟨1, _⟩ => show win0_0.index t 1 * 256 + 1 * r.val = 256 * (t.val % 17) + r.val; rw [e1]; omega
  | ⟨2, _⟩ => show win0_0.index t 2 * 1024 + 1 * l.val = l.val; rw [e2]; omega

theorem blk1C (t : Fin cfg0.N) (r : Fin 256) (l : Fin 1024) :
    (iblk m c 1 t : Vec Ideal S1x256x1024 .f32) (ix3 0 r l) = a1 m c (ix3 (bat t) r l) := by
  obtain ⟨e0, e1, e2⟩ := idx1 t
  rw [← xC_apply m c (bat t) r l]
  unfold iblk
  rw [View.read_apply]
  show V m c main_v254 _ = V m c main_v254 _
  congr 1
  funext a
  apply Fin.ext
  match a with
  | ⟨0, _⟩ => show win0_1.index t 0 * 1 + 1 * 0 = t.val / 17; rw [e0]; omega
  | ⟨1, _⟩ => show win0_1.index t 1 * 256 + 1 * r.val = 4096 + r.val; rw [e1]; omega
  | ⟨2, _⟩ => show win0_1.index t 2 * 1024 + 1 * l.val = l.val; rw [e2]; omega

theorem blk2L (t : Fin cfg0.N) (h : t.val % 17 < 16) (k : Fin 6) (l : Fin 1024) :
    (iblk m c 2 t : Vec Ideal S1x6x1024 .f32) (ix3 0 k l) = modL m c (bat t) k l := by
  obtain ⟨e0, e1, e2⟩ := idx2 t
  refine Eq.trans ?_ (modL_apply m c (bat t) k l)
  unfold iblk
  rw [View.read_apply]
  show V m c main_v7 _ = V m c main_v7 _
  congr 1
  funext a
  apply Fin.ext
  match a with
  | ⟨0, _⟩ => show win0_2.index t 0 * 1 + 1 * 0 = t.val / 17; rw [e0, if_pos h]; omega
  | ⟨1, _⟩ => show win0_2.index t 1 * 6 + 1 * k.val = k.val; rw [e1]; omega
  | ⟨2, _⟩ => show win0_2.index t 2 * 1024 + 1 * l.val = l.val; rw [e2]; omega

theorem blk2C (t : Fin cfg0.N) (h : t.val % 17 = 16) (k : Fin 6) (l : Fin 1024) :
    (iblk m c 2 t : Vec Ideal S1x6x1024 .f32) (ix3 0 k l) = modC m c k l := by
  obtain ⟨e0, e1, e2⟩ := idx2 t
  refine Eq.trans ?_ (modC_apply m c k l)
  unfold iblk
  rw [View.read_apply]
  show V m c main_v7 _ = V m c main_v7 _
  congr 1
  funext a
  apply Fin.ext
  match a with
  | ⟨0, _⟩ => show win0_2.index t 0 * 1 + 1 * 0 = 8; rw [e0, if_neg (by omega)]
  | ⟨1, _⟩ => show win0_2.index t 1 * 6 + 1 * k.val = k.val; rw [e1]; omega
  | ⟨2, _⟩ => show win0_2.index t 2 * 1024 + 1 * l.val = l.val; rw [e2]; omega

theorem blk3 (t : Fin cfg0.N) (l : Fin 1024) :
    (iblk m c 3 t : Vec Ideal S1x1024 .f32) (ix2 0 l) = a4 m c (ix2 1 l) := by
  obtain ⟨e0, e1⟩ := idx3 t
  rw [← g1_apply m c l]
  unfold iblk
  rw [View.read_apply]
  show V m c main_v261 _ = V m c main_v261 _
  congr 1
  funext a
  apply Fin.ext
  match a with
  | ⟨0, _⟩ => show win0_3.index t 0 * 1 + 1 * 0 = 0; rw [e0]
  | ⟨1, _⟩ => show win0_3.index t 1 * 1024 + 1 * l.val = l.val; rw [e1]; omega

theorem blk4 (t : Fin cfg0.N) (k : Fin 1024) (l : Fin 768) :
    (iblk m c 4 t : Vec Ideal S1024x768 .bf16) (ix2 k l) = (V m c main_v250 : Vec Ideal S1024x768 .bf16) (ix2 k l) := by
  obtain ⟨e0, e1⟩ := idx4 t
  unfold iblk
  rw [View.read_apply]
  show V m c main_v250 _ = V m c main_v250 _
  congr 1
  funext a
  apply Fin.ext
  match a with
  | ⟨0, _⟩ => show win0_4.index t 0 * 1024 + 1 * k.val = k.val; rw [e0]; omega
  | ⟨1, _⟩ => show win0_4.index t 1 * 768 + 1 * l.val = l.val; rw [e1]; omega

theorem blk5 (t : Fin cfg0.N) (k : Fin 1024) (l : Fin 1536) :
    (iblk m c 5 t : Vec Ideal S1024x1536 .bf16) (ix2 k l) = (V m c main_v54 : Vec Ideal S1024x1536 .bf16) (ix2 k l) := by
  obtain ⟨e0, e1⟩ := idx5 t
  unfold iblk
  rw [View.read_apply]
  show V m c main_v54 _ = V m c main_v54 _
  congr 1
  funext a
  apply Fin.ext
  match a with
  | ⟨0, _⟩ => show win0_5.index t 0 * 1024 + 1 * k.val = k.val; rw [e0]; omega
  | ⟨1, _⟩ => show win0_5.index t 1 * 1536 + 1 * l.val = l.val; rw [e1]; omega

theorem blk6 (t : Fin cfg0.N) (k : Fin 1024) (l : Fin 1536) :
    (iblk m c 6 t : Vec Ideal S1024x1536 .bf16) (ix2 k l) = (V m c main_v28 : Vec Ideal S1024x1536 .bf16) (ix2 k l) := by
  obtain ⟨e0, e1⟩ := idx6 t
  unfold iblk
  rw [View.read_apply]
  show V m c main_v28 _ = V m c main_v28 _
  congr 1
  funext a
  apply Fin.ext
  match a with
  | ⟨0, _⟩ => show win0_6.index t 0 * 1024 + 1 * k.val = k.val; rw [e0]; omega
  | ⟨1, _⟩ => show win0_6.index t 1 * 1536 + 1 * l.val = l.val; rw [e1]; omega

theorem blk7 (t : Fin cfg0.N) (k : Fin 1024) (l : Fin 3072) :
    (iblk m c 7 t : Vec Ideal S1024x3072 .bf16) (ix2 k l) = (V m c main_v29 : Vec Ideal S1024x3072 .bf16) (ix2 k l) := by
  obtain ⟨e0, e1⟩ := idx7 t
  unfold iblk
  rw [View.read_apply]
  show V m c main_v29 _ = V m c main_v29 _
  congr 1
  funext a
  apply Fin.ext
  match a with
  | ⟨0, _⟩ => show win0_7.index t 0 * 1024 + 1 * k.val = k.val; rw [e0]; omega
  | ⟨1, _⟩ => show win0_7.index t 1 * 3072 + 1 * l.val = l.val; rw [e1]; omega

theorem blk12 (t : Fin cfg0.N) (k : Fin 128) (l : Fin 512) :
    (iblk m c 12 t : Vec Ideal S128x512 .bf16) (ix2 k l) = (V m c main_v253 : Vec Ideal S128x512 .bf16) (ix2 k l) := by
  obtain ⟨e0, e1⟩ := idx12 t
  unfold iblk
  rw [View.read_apply]
  show V m c main_v253 _ = V m c main_v253 _
  congr 1
  funext a
  apply Fin.ext
  match a with
  | ⟨0, _⟩ => show win0_12.index t 0 * 128 + 1 * k.val = k.val; rw [e0]; omega
  | ⟨1, _⟩ => show win0_12.index t 1 * 512 + 1 * l.val = l.val; rw [e1]; omega

theorem blk13 (t : Fin cfg0.N) (l : Fin 512) :
    (iblk m c 13 t : Vec Ideal S1x512 .f32) (ix2 0 l) = (V m c main_v249 : Vec Ideal S1x512 .f32) (ix2 0 l) := by
  obtain ⟨e0, e1⟩ := idx13 t
  unfold iblk
  rw [View.read_apply]
  show V m c main_v249 _ = V m c main_v249 _
  congr 1
  funext a
  apply Fin.ext
  match a with
  | ⟨0, _⟩ => show win0_13.index t 0 * 1 + 1 * 0 = 0; rw [e0]
  | ⟨1, _⟩ => show win0_13.index t 1 * 512 + 1 * l.val = l.val; rw [e1]; omega

/-- The token a latent point normalizes at row `r`. -/
theorem row_latent (t : Fin cfg0.N) (h : t.val % 17 < 16) (r : Fin 256) :
    hB (grid0.coords t) (iblk m c 0 t) (iblk m c 1 t) (iblk m c 2 t) (iblk m c 3 t) r = ffIn (fun l => a0 m c (ix3 (bat t) (tok t h r) l)) (fun l => a4 m c (ix2 1 l)) (modL m c (bat t) 1) (modL m c (bat t) 0) := by
  have h0 := blk0L m c t h r
  have h2 := blk2L m c t h
  unfold hB
  simp only [pick, coord1, h, if_true, h0, h2, blk3]

/-- The token a context point normalizes at row `r`. -/
theorem row_context (t : Fin cfg0.N) (h : t.val % 17 = 16) (r : Fin 256) :
    hB (grid0.coords t) (iblk m c 0 t) (iblk m c 1 t) (iblk m c 2 t) (iblk m c 3 t) r = ffIn (fun l => a1 m c (ix3 (bat t) r l)) (fun l => a4 m c (ix2 1 l)) (modC m c 1) (modC m c 0) := by
  have h0 := blk1C m c t r
  have h2 := blk2C m c t h
  unfold hB
  simp only [pick, coord1, h, lt_irrefl, if_false, h0, h2, blk3]

/-! ## The result arrays -/

/-- The point that stores the elements of batch `b` and row `s`. -/
def pt (b : Fin 8) (s : Fin 4352) : Fin cfg0.N :=
  ⟨17 * b.val + s.val / 256, by have e : cfg0.N = 136 := by decide +kernel
                                rw [e]; omega⟩

/-- The input projection of row `s` of batch `b`, as the point that holds it computes it. -/
def zK (b : Fin 8) (s : Fin 4352) : Fin 6592 → EReal :=
  zed (hB (grid0.coords (pt b s)) (iblk m c 0 (pt b s)) (iblk m c 1 (pt b s)) (iblk m c 2 (pt b s)) (iblk m c 3 (pt b s)) ⟨s.val % 256, by omega⟩) (fun k j => a5 m c (ix3 1 k j))

/-- The input projection of a latent row. -/
theorem zK_latent (b : Fin 8) (s : Fin 4096) :
    zK m c b ⟨s, by omega⟩ = zed (ffIn (fun l => a0 m c (ix3 b s l)) (fun l => a4 m c (ix2 1 l)) (modL m c b 1) (modL m c b 0)) (fun k j => a5 m c (ix3 1 k j)) := by
  have h : (pt b ⟨s, by omega⟩).val % 17 < 16 := show (17 * b.val + s.val / 256) % 17 < 16 by omega
  have hb : bat (pt b ⟨s, by omega⟩) = b := Fin.ext (show (17 * b.val + s.val / 256) / 17 = b.val by omega)
  have ht : tok (pt b ⟨s, by omega⟩) h ⟨s.val % 256, by omega⟩ = s :=
    Fin.ext (show 256 * ((17 * b.val + s.val / 256) % 17) + s.val % 256 = s.val by omega)
  have hp := row_latent m c (pt b ⟨s, by omega⟩) h ⟨s.val % 256, by omega⟩
  rw [hb, ht] at hp
  exact congrArg (fun h => zed h (fun k j => a5 m c (ix3 1 k j))) hp

/-- The input projection of a context row. -/
theorem zK_context (b : Fin 8) (s : Fin 256) :
    zK m c b ⟨4096 + s, Nat.add_lt_add_left s.isLt 4096⟩ = zed (ffIn (fun l => a1 m c (ix3 b s l)) (fun l => a4 m c (ix2 1 l)) (modC m c 1) (modC m c 0)) (fun k j => a5 m c (ix3 1 k j)) := by
  have h : (pt b ⟨4096 + s, Nat.add_lt_add_left s.isLt 4096⟩).val % 17 = 16 := show (17 * b.val + (4096 + s.val) / 256) % 17 = 16 by omega
  have hb : bat (pt b ⟨4096 + s, Nat.add_lt_add_left s.isLt 4096⟩) = b := Fin.ext (show (17 * b.val + (4096 + s.val) / 256) / 17 = b.val by omega)
  have ht : (⟨(4096 + s.val) % 256, by omega⟩ : Fin 256) = s := Fin.ext (show (4096 + s.val) % 256 = s.val by omega)
  have hp := row_context m c (pt b ⟨4096 + s, Nat.add_lt_add_left s.isLt 4096⟩) h ⟨(4096 + s.val) % 256, by omega⟩
  rw [hb, ht] at hp
  refine Eq.trans ?_ (congrArg (fun h => zed h (fun k j => a5 m c (ix3 1 k j))) hp)
  unfold zK
  congr 2

theorem arr_point19 (b : Fin 8) (s : Fin 4352) (l : Fin 256) :
    ((dats m 0 c).arrAt 19 cfg0.N : Vec Ideal S8x4352x256 .bf16) (ix3 b s l)
      = out0_19 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) (ix3 0 ⟨s.val % 256, by omega⟩ l) := by
  have h := congrFun (Value.blocks19 m c (pt b s) (flush0_19 _)) (ix3 0 ⟨s.val % 256, by omega⟩ l)
  rw [Value.flushed19, View.read_apply] at h
  generalize out0_19 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) = y at h ⊢
  refine Eq.trans ?_ h
  obtain ⟨e0, e1, e2⟩ := idx19 (pt b s)
  congr 1
  funext a
  apply Fin.ext
  match a with
  | ⟨0, _⟩ => show b.val = win0_19.index (pt b s) 0 * 1 + 1 * 0; rw [e0]; show _ = (17 * b.val + s.val / 256) / 17 * 1 + 1 * 0; omega
  | ⟨1, _⟩ => show s.val = win0_19.index (pt b s) 1 * 256 + 1 * (s.val % 256); rw [e1]; show _ = (17 * b.val + s.val / 256) % 17 * 256 + 1 * (s.val % 256); omega
  | ⟨2, _⟩ => show l.val = win0_19.index (pt b s) 2 * 256 + 1 * l.val; rw [e2]; omega

theorem arr_point20 (b : Fin 8) (s : Fin 4352) (l : Fin 256) :
    ((dats m 0 c).arrAt 20 cfg0.N : Vec Ideal S8x4352x256 .bf16) (ix3 b s l)
      = out0_20 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) (ix3 0 ⟨s.val % 256, by omega⟩ l) := by
  have h := congrFun (Value.blocks20 m c (pt b s) (flush0_20 _)) (ix3 0 ⟨s.val % 256, by omega⟩ l)
  rw [Value.flushed20, View.read_apply] at h
  generalize out0_20 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) = y at h ⊢
  refine Eq.trans ?_ h
  obtain ⟨e0, e1, e2⟩ := idx20 (pt b s)
  congr 1
  funext a
  apply Fin.ext
  match a with
  | ⟨0, _⟩ => show b.val = win0_20.index (pt b s) 0 * 1 + 1 * 0; rw [e0]; show _ = (17 * b.val + s.val / 256) / 17 * 1 + 1 * 0; omega
  | ⟨1, _⟩ => show s.val = win0_20.index (pt b s) 1 * 256 + 1 * (s.val % 256); rw [e1]; show _ = (17 * b.val + s.val / 256) % 17 * 256 + 1 * (s.val % 256); omega
  | ⟨2, _⟩ => show l.val = win0_20.index (pt b s) 2 * 256 + 1 * l.val; rw [e2]; omega

theorem arr_point21 (b : Fin 8) (s : Fin 4352) (l : Fin 512) :
    ((dats m 0 c).arrAt 21 cfg0.N : Vec Ideal S8x4352x512 .bf16) (ix3 b s l)
      = out0_21 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) (ix3 0 ⟨s.val % 256, by omega⟩ l) := by
  have h := congrFun (Value.blocks21 m c (pt b s) (flush0_21 _)) (ix3 0 ⟨s.val % 256, by omega⟩ l)
  rw [Value.flushed21, View.read_apply] at h
  generalize out0_21 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) = y at h ⊢
  refine Eq.trans ?_ h
  obtain ⟨e0, e1, e2⟩ := idx21 (pt b s)
  congr 1
  funext a
  apply Fin.ext
  match a with
  | ⟨0, _⟩ => show b.val = win0_21.index (pt b s) 0 * 1 + 1 * 0; rw [e0]; show _ = (17 * b.val + s.val / 256) / 17 * 1 + 1 * 0; omega
  | ⟨1, _⟩ => show s.val = win0_21.index (pt b s) 1 * 256 + 1 * (s.val % 256); rw [e1]; show _ = (17 * b.val + s.val / 256) % 17 * 256 + 1 * (s.val % 256); omega
  | ⟨2, _⟩ => show l.val = win0_21.index (pt b s) 2 * 512 + 1 * l.val; rw [e2]; omega

theorem arr_point22 (b : Fin 8) (s : Fin 4352) (l : Fin 512) :
    ((dats m 0 c).arrAt 22 cfg0.N : Vec Ideal S8x4352x512 .bf16) (ix3 b s l)
      = out0_22 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) (ix3 0 ⟨s.val % 256, by omega⟩ l) := by
  have h := congrFun (Value.blocks22 m c (pt b s) (flush0_22 _)) (ix3 0 ⟨s.val % 256, by omega⟩ l)
  rw [Value.flushed22, View.read_apply] at h
  generalize out0_22 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) = y at h ⊢
  refine Eq.trans ?_ h
  obtain ⟨e0, e1, e2⟩ := idx22 (pt b s)
  congr 1
  funext a
  apply Fin.ext
  match a with
  | ⟨0, _⟩ => show b.val = win0_22.index (pt b s) 0 * 1 + 1 * 0; rw [e0]; show _ = (17 * b.val + s.val / 256) / 17 * 1 + 1 * 0; omega
  | ⟨1, _⟩ => show s.val = win0_22.index (pt b s) 1 * 256 + 1 * (s.val % 256); rw [e1]; show _ = (17 * b.val + s.val / 256) % 17 * 256 + 1 * (s.val % 256); omega
  | ⟨2, _⟩ => show l.val = win0_22.index (pt b s) 2 * 512 + 1 * l.val; rw [e2]; omega

theorem arr_point23 (b : Fin 8) (s : Fin 4352) (l : Fin 512) :
    ((dats m 0 c).arrAt 23 cfg0.N : Vec Ideal S8x4352x512 .f32) (ix3 b s l)
      = out0_23 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) (ix3 0 ⟨s.val % 256, by omega⟩ l) := by
  have h := congrFun (Value.blocks23 m c (pt b s) (flush0_23 _)) (ix3 0 ⟨s.val % 256, by omega⟩ l)
  rw [Value.flushed23, View.read_apply] at h
  generalize out0_23 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) = y at h ⊢
  refine Eq.trans ?_ h
  obtain ⟨e0, e1, e2⟩ := idx23 (pt b s)
  congr 1
  funext a
  apply Fin.ext
  match a with
  | ⟨0, _⟩ => show b.val = win0_23.index (pt b s) 0 * 1 + 1 * 0; rw [e0]; show _ = (17 * b.val + s.val / 256) / 17 * 1 + 1 * 0; omega
  | ⟨1, _⟩ => show s.val = win0_23.index (pt b s) 1 * 256 + 1 * (s.val % 256); rw [e1]; show _ = (17 * b.val + s.val / 256) % 17 * 256 + 1 * (s.val % 256); omega
  | ⟨2, _⟩ => show l.val = win0_23.index (pt b s) 2 * 512 + 1 * l.val; rw [e2]; omega

theorem arr_point24 (b : Fin 8) (s : Fin 4352) (l : Fin 1536) :
    ((dats m 0 c).arrAt 24 cfg0.N : Vec Ideal S8x4352x1536 .f32) (ix3 b s l)
      = out0_24 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) (ix3 0 ⟨s.val % 256, by omega⟩ l) := by
  have h := congrFun (Value.blocks24 m c (pt b s) (flush0_24 _)) (ix3 0 ⟨s.val % 256, by omega⟩ l)
  rw [Value.flushed24, View.read_apply] at h
  generalize out0_24 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) = y at h ⊢
  refine Eq.trans ?_ h
  obtain ⟨e0, e1, e2⟩ := idx24 (pt b s)
  congr 1
  funext a
  apply Fin.ext
  match a with
  | ⟨0, _⟩ => show b.val = win0_24.index (pt b s) 0 * 1 + 1 * 0; rw [e0]; show _ = (17 * b.val + s.val / 256) / 17 * 1 + 1 * 0; omega
  | ⟨1, _⟩ => show s.val = win0_24.index (pt b s) 1 * 256 + 1 * (s.val % 256); rw [e1]; show _ = (17 * b.val + s.val / 256) % 17 * 256 + 1 * (s.val % 256); omega
  | ⟨2, _⟩ => show l.val = win0_24.index (pt b s) 2 * 1536 + 1 * l.val; rw [e2]; omega

theorem arr_point25 (b : Fin 8) (s : Fin 4352) (l : Fin 3072) :
    ((dats m 0 c).arrAt 25 cfg0.N : Vec Ideal S8x4352x3072 .bf16) (ix3 b s l)
      = out0_25 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) (ix3 0 ⟨s.val % 256, by omega⟩ l) := by
  have h := congrFun (Value.blocks25 m c (pt b s) (flush0_25 _)) (ix3 0 ⟨s.val % 256, by omega⟩ l)
  rw [Value.flushed25, View.read_apply] at h
  generalize out0_25 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) = y at h ⊢
  refine Eq.trans ?_ h
  obtain ⟨e0, e1, e2⟩ := idx25 (pt b s)
  congr 1
  funext a
  apply Fin.ext
  match a with
  | ⟨0, _⟩ => show b.val = win0_25.index (pt b s) 0 * 1 + 1 * 0; rw [e0]; show _ = (17 * b.val + s.val / 256) / 17 * 1 + 1 * 0; omega
  | ⟨1, _⟩ => show s.val = win0_25.index (pt b s) 1 * 256 + 1 * (s.val % 256); rw [e1]; show _ = (17 * b.val + s.val / 256) % 17 * 256 + 1 * (s.val % 256); omega
  | ⟨2, _⟩ => show l.val = win0_25.index (pt b s) 2 * 3072 + 1 * l.val; rw [e2]; omega

theorem arr19 (b : Fin 8) (s : Fin 4352) (l : Fin 256) :
    ((dats m 0 c).arrAt 19 cfg0.N : Vec Ideal S8x4352x256 .bf16) (ix3 b s l) = zK m c b s ⟨416 + l.val, by omega⟩ * c8 := by
  have e : ∀ k : Fin 1024, (iblk m c 5 (pt b s) : Vec Ideal S1024x1536 .bf16) (ix2 k ⟨l.val, by omega⟩) = a5 m c (ix3 1 k ⟨416 + l.val, by omega⟩) :=
    fun k => (blk5 m c (pt b s) k ⟨l.val, by omega⟩).trans (wgq_apply m c k l)
  refine (arr_point19 m c b s l).trans ((block19 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) ⟨s.val % 256, by omega⟩ l).trans ?_)
  unfold zK
  generalize hB (grid0.coords (pt b s)) (iblk m c 0 (pt b s)) (iblk m c 1 (pt b s)) (iblk m c 2 (pt b s)) (iblk m c 3 (pt b s)) ⟨s.val % 256, by omega⟩ = h
  exact congrArg (· * c8) (dot_eq h _ (fun k j => a5 m c (ix3 1 k j)) ⟨416 + l.val, by omega⟩ e)

theorem arr20 (b : Fin 8) (s : Fin 4352) (l : Fin 256) :
    ((dats m 0 c).arrAt 20 cfg0.N : Vec Ideal S8x4352x256 .bf16) (ix3 b s l) = zK m c b s ⟨672 + l.val, by omega⟩ := by
  have e : ∀ k : Fin 1024, (iblk m c 5 (pt b s) : Vec Ideal S1024x1536 .bf16) (ix2 k ⟨256 + l.val, by omega⟩) = a5 m c (ix3 1 k ⟨672 + l.val, by omega⟩) :=
    fun k => (blk5 m c (pt b s) k ⟨256 + l.val, by omega⟩).trans (wgk_apply m c k l)
  refine (arr_point20 m c b s l).trans ((block20 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) ⟨s.val % 256, by omega⟩ l).trans ?_)
  unfold zK
  generalize hB (grid0.coords (pt b s)) (iblk m c 0 (pt b s)) (iblk m c 1 (pt b s)) (iblk m c 2 (pt b s)) (iblk m c 3 (pt b s)) ⟨s.val % 256, by omega⟩ = h
  exact (dot_eq h _ (fun k j => a5 m c (ix3 1 k j)) ⟨672 + l.val, by omega⟩ e)

theorem arr21 (b : Fin 8) (s : Fin 4352) (l : Fin 512) :
    ((dats m 0 c).arrAt 21 cfg0.N : Vec Ideal S8x4352x512 .bf16) (ix3 b s l) = zK m c b s ⟨928 + l.val, by omega⟩ := by
  have e : ∀ k : Fin 1024, (iblk m c 5 (pt b s) : Vec Ideal S1024x1536 .bf16) (ix2 k ⟨512 + l.val, by omega⟩) = a5 m c (ix3 1 k ⟨928 + l.val, by omega⟩) :=
    fun k => (blk5 m c (pt b s) k ⟨512 + l.val, by omega⟩).trans (wgv_apply m c k l)
  refine (arr_point21 m c b s l).trans ((block21 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) ⟨s.val % 256, by omega⟩ l).trans ?_)
  unfold zK
  generalize hB (grid0.coords (pt b s)) (iblk m c 0 (pt b s)) (iblk m c 1 (pt b s)) (iblk m c 2 (pt b s)) (iblk m c 3 (pt b s)) ⟨s.val % 256, by omega⟩ = h
  exact (dot_eq h _ (fun k j => a5 m c (ix3 1 k j)) ⟨928 + l.val, by omega⟩ e)

theorem arr22 (b : Fin 8) (s : Fin 4352) (l : Fin 512) :
    ((dats m 0 c).arrAt 22 cfg0.N : Vec Ideal S8x4352x512 .bf16) (ix3 b s l) = silu (zK m c b s ⟨1440 + l.val, by omega⟩) := by
  have e : ∀ k : Fin 1024, (iblk m c 5 (pt b s) : Vec Ideal S1024x1536 .bf16) (ix2 k ⟨1024 + l.val, by omega⟩) = a5 m c (ix3 1 k ⟨1440 + l.val, by omega⟩) :=
    fun k => (blk5 m c (pt b s) k ⟨1024 + l.val, by omega⟩).trans (wgr_apply m c k l)
  refine (arr_point22 m c b s l).trans ((block22 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) ⟨s.val % 256, by omega⟩ l).trans ?_)
  unfold zK
  generalize hB (grid0.coords (pt b s)) (iblk m c 0 (pt b s)) (iblk m c 1 (pt b s)) (iblk m c 2 (pt b s)) (iblk m c 3 (pt b s)) ⟨s.val % 256, by omega⟩ = h
  exact congrArg silu (dot_eq h _ (fun k j => a5 m c (ix3 1 k j)) ⟨1440 + l.val, by omega⟩ e)

theorem arr24 (b : Fin 8) (s : Fin 4352) (l : Fin 1536) :
    ((dats m 0 c).arrAt 24 cfg0.N : Vec Ideal S8x4352x1536 .f32) (ix3 b s l) = zK m c b s ⟨1984 + l.val, by omega⟩ := by
  have e : ∀ k : Fin 1024, (iblk m c 6 (pt b s) : Vec Ideal S1024x1536 .bf16) (ix2 k l) = a5 m c (ix3 1 k ⟨1984 + l.val, by omega⟩) :=
    fun k => (blk6 m c (pt b s) k l).trans (wh_apply m c k l)
  refine (arr_point24 m c b s l).trans ((block24 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) ⟨s.val % 256, by omega⟩ l).trans ?_)
  unfold zK
  generalize hB (grid0.coords (pt b s)) (iblk m c 0 (pt b s)) (iblk m c 1 (pt b s)) (iblk m c 2 (pt b s)) (iblk m c 3 (pt b s)) ⟨s.val % 256, by omega⟩ = h
  exact (dot_eq h _ (fun k j => a5 m c (ix3 1 k j)) ⟨1984 + l.val, by omega⟩ e)

theorem arr25 (b : Fin 8) (s : Fin 4352) (l : Fin 3072) :
    ((dats m 0 c).arrAt 25 cfg0.N : Vec Ideal S8x4352x3072 .bf16) (ix3 b s l) = logis (zK m c b s ⟨3520 + l.val, by omega⟩) := by
  have e : ∀ k : Fin 1024, (iblk m c 7 (pt b s) : Vec Ideal S1024x3072 .bf16) (ix2 k l) = a5 m c (ix3 1 k ⟨3520 + l.val, by omega⟩) :=
    fun k => (blk7 m c (pt b s) k l).trans (wz_apply m c k l)
  refine (arr_point25 m c b s l).trans ((block25 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) ⟨s.val % 256, by omega⟩ l).trans ?_)
  unfold zK
  generalize hB (grid0.coords (pt b s)) (iblk m c 0 (pt b s)) (iblk m c 1 (pt b s)) (iblk m c 2 (pt b s)) (iblk m c 3 (pt b s)) ⟨s.val % 256, by omega⟩ = h
  exact congrArg logis (dot_eq h _ (fun k j => a5 m c (ix3 1 k j)) ⟨3520 + l.val, by omega⟩ e)

theorem arr23F (b : Fin 8) (s : Fin 4352) (l : Fin 256) :
    ((dats m 0 c).arrAt 23 cfg0.N : Vec Ideal S8x4352x512 .f32) (ix3 b s ⟨l.val, by omega⟩)
      = logGate ((∑ j : Fin 16, zK m c b s ⟨1952 + j.val, by omega⟩ * a10 m c (ix4 1 0 j l)) + a11 m c (ix3 1 0 l)) := by
  refine (arr_point23 m c b s ⟨l.val, by omega⟩).trans ((block23 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) ⟨s.val % 256, by omega⟩ ⟨l.val, by omega⟩).trans ?_)
  have hw : ∀ p : Fin 128, (∀ j : Fin 16, (⟨j.val, by omega⟩ : Fin 128) ≠ p) →
      (iblk m c 12 (pt b s) : Vec Ideal S128x512 .bf16) (ix2 p ⟨l.val, by omega⟩) = (0 : EReal) := fun p hp =>
    (blk12 m c (pt b s) p ⟨l.val, by omega⟩).trans (w2Z_apply m c p ⟨l.val, by omega⟩ (fun hp0 => absurd rfl (hp ⟨p.val, hp0⟩)) (fun _ _ => l.isLt))
  have ew : ∀ j : Fin 16, (iblk m c 12 (pt b s) : Vec Ideal S128x512 .bf16) (ix2 ⟨j.val, by omega⟩ ⟨l.val, by omega⟩) = a10 m c (ix4 1 0 j l) := fun j =>
    (blk12 m c (pt b s) ⟨j.val, by omega⟩ ⟨l.val, by omega⟩).trans (w2F_apply m c j l)
  have eb : (iblk m c 13 (pt b s) : Vec Ideal S1x512 .f32) (ix2 0 ⟨l.val, by omega⟩) = a11 m c (ix3 1 0 l) :=
    (blk13 m c (pt b s) ⟨l.val, by omega⟩).trans (baF_apply m c l)
  have ez : ∀ (j : Fin 16) (k : Fin 1024), (iblk m c 4 (pt b s) : Vec Ideal S1024x768 .bf16) (ix2 k ⟨640 + (j.val), by omega⟩)
      = a5 m c (ix3 1 k ⟨1952 + j.val, by omega⟩) := fun j k => by
    have e : (⟨640 + (j.val), by omega⟩ : Fin 768) = ⟨640 + j.val, by omega⟩ := rfl
    rw [e]
    exact (blk4 m c (pt b s) k ⟨640 + j.val, by omega⟩).trans (waF_apply m c k j)
  unfold zK
  generalize hB (grid0.coords (pt b s)) (iblk m c 0 (pt b s)) (iblk m c 1 (pt b s)) (iblk m c 2 (pt b s)) (iblk m c 3 (pt b s)) ⟨s.val % 256, by omega⟩ = h
  generalize (iblk m c 12 (pt b s) : Vec Ideal S128x512 .bf16) = y12 at hw ew ⊢
  generalize (iblk m c 13 (pt b s) : Vec Ideal S1x512 .f32) = y13 at eb ⊢
  generalize (iblk m c 4 (pt b s) : Vec Ideal S1024x768 .bf16) = y4 at ez ⊢
  refine congrArg logGate (congrArg₂ (· + ·) ?_ eb)
  refine (decay_sum (fun j : Fin 16 => ⟨j.val, by omega⟩) (fun i j h => Fin.ext (Fin.mk.inj h)) (fun p => ∑ k, h k * y4 (ix2 k ⟨640 + p.val, by omega⟩)) (fun p => y12 (ix2 p ⟨l.val, by omega⟩)) hw).trans
    (Finset.sum_congr rfl fun j _ => congrArg₂ (· * ·) ?_ (ew j))
  exact dot_eq h _ (fun k j => a5 m c (ix3 1 k j)) ⟨1952 + j.val, by omega⟩ (ez j)

theorem arr23B (b : Fin 8) (s : Fin 4352) (l : Fin 256) :
    ((dats m 0 c).arrAt 23 cfg0.N : Vec Ideal S8x4352x512 .f32) (ix3 b s ⟨256 + l.val, by omega⟩)
      = logGate ((∑ j : Fin 16, zK m c b s ⟨1968 + j.val, by omega⟩ * a10 m c (ix4 1 1 j l)) + a11 m c (ix3 1 1 l)) := by
  refine (arr_point23 m c b s ⟨256 + l.val, by omega⟩).trans ((block23 (grid0.coords (pt b s)) (iblk m c 0 (pt b s)) (iblk m c 1 (pt b s)) (iblk m c 2 (pt b s)) (iblk m c 3 (pt b s)) (iblk m c 4 (pt b s)) (iblk m c 5 (pt b s)) (iblk m c 6 (pt b s)) (iblk m c 7 (pt b s)) (iblk m c 8 (pt b s)) (iblk m c 9 (pt b s)) (iblk m c 10 (pt b s)) (iblk m c 11 (pt b s)) (iblk m c 12 (pt b s)) (iblk m c 13 (pt b s)) (iblk m c 14 (pt b s)) (iblk m c 15 (pt b s)) ⟨s.val % 256, by omega⟩ ⟨256 + l.val, by omega⟩).trans ?_)
  have hw : ∀ p : Fin 128, (∀ j : Fin 16, (⟨16 + j.val, by omega⟩ : Fin 128) ≠ p) →
      (iblk m c 12 (pt b s) : Vec Ideal S128x512 .bf16) (ix2 p ⟨256 + l.val, by omega⟩) = (0 : EReal) := fun p hp =>
    (blk12 m c (pt b s) p ⟨256 + l.val, by omega⟩).trans (w2Z_apply m c p ⟨256 + l.val, by omega⟩ (fun _ => Nat.le_add_right 256 l.val) (fun h1 h2 => absurd (Fin.ext (show 16 + (p.val - 16) = p.val by omega)) (hp ⟨p.val - 16, by omega⟩)))
  have ew : ∀ j : Fin 16, (iblk m c 12 (pt b s) : Vec Ideal S128x512 .bf16) (ix2 ⟨16 + j.val, by omega⟩ ⟨256 + l.val, by omega⟩) = a10 m c (ix4 1 1 j l) := fun j =>
    (blk12 m c (pt b s) ⟨16 + j.val, by omega⟩ ⟨256 + l.val, by omega⟩).trans (w2B_apply m c j l)
  have eb : (iblk m c 13 (pt b s) : Vec Ideal S1x512 .f32) (ix2 0 ⟨256 + l.val, by omega⟩) = a11 m c (ix3 1 1 l) :=
    (blk13 m c (pt b s) ⟨256 + l.val, by omega⟩).trans (baB_apply m c l)
  have ez : ∀ (j : Fin 16) (k : Fin 1024), (iblk m c 4 (pt b s) : Vec Ideal S1024x768 .bf16) (ix2 k ⟨640 + (16 + j.val), by omega⟩)
      = a5 m c (ix3 1 k ⟨1968 + j.val, by omega⟩) := fun j k => by
    have e : (⟨640 + (16 + j.val), by omega⟩ : Fin 768) = ⟨656 + j.val, by omega⟩ := Fin.ext (show 640 + (16 + j.val) = 656 + j.val by omega)
    rw [e]
    exact (blk4 m c (pt b s) k ⟨656 + j.val, by omega⟩).trans (waB_apply m c k j)
  unfold zK
  generalize hB (grid0.coords (pt b s)) (iblk m c 0 (pt b s)) (iblk m c 1 (pt b s)) (iblk m c 2 (pt b s)) (iblk m c 3 (pt b s)) ⟨s.val % 256, by omega⟩ = h
  generalize (iblk m c 12 (pt b s) : Vec Ideal S128x512 .bf16) = y12 at hw ew ⊢
  generalize (iblk m c 13 (pt b s) : Vec Ideal S1x512 .f32) = y13 at eb ⊢
  generalize (iblk m c 4 (pt b s) : Vec Ideal S1024x768 .bf16) = y4 at ez ⊢
  refine congrArg logGate (congrArg₂ (· + ·) ?_ eb)
  refine (decay_sum (fun j : Fin 16 => ⟨16 + j.val, by omega⟩) (fun i j h => Fin.ext (Nat.add_left_cancel (Fin.mk.inj h))) (fun p => ∑ k, h k * y4 (ix2 k ⟨640 + p.val, by omega⟩)) (fun p => y12 (ix2 p ⟨256 + l.val, by omega⟩)) hw).trans
    (Finset.sum_congr rfl fun j _ => congrArg₂ (· * ·) ?_ (ew j))
  exact dot_eq h _ (fun k j => a5 m c (ix3 1 k j)) ⟨1968 + j.val, by omega⟩ (ez j)

end Cert.InprojLastIdeal.InprojLast

end
-- ==== Proof.InprojLastRef.lean ====
/- What the reference's first-layer input projection computes.

   Its results at a latent row and at a context row are the functions of `InprojRow` of that token's row. -/
module

public import proofs.«01_k».proof.Proof.Gen.InprojLastRefIdeal.Read
public import proofs.«01_k».proof.Proof.InprojRow
public import Idealize.ShloMosaic.Lib.Pointwise

@[expose] public section

set_option maxRecDepth 16384

noncomputable section

namespace Cert.InprojLastRefIdeal.InprojLast

open Cert.InprojLastRefIdeal Cert.InprojLastRefIdeal.Gen Cert.InprojLastRefIdeal.Read Idealize.ShloMosaic Idealize.ShloMosaic.TcCoe
open Idealize.SL.Sem Cert.MergeRow Cert.InprojRow

variable (x0 : Vec Ideal S8x4096x1024 .f32) (x1 : Vec Ideal S8x256x1024 .f32) (x2 : Vec Ideal S2x8x6144 .f32) (x3 : Vec Ideal S2x6144 .f32)
  (x4 : Vec Ideal S2x1024 .f32) (x5 : Vec Ideal S2x1024x6592 .f32) (x10 : Vec Ideal S2x2x16x256 .f32) (x11 : Vec Ideal S2x2x256 .f32) (b : Fin 8)

/-! ## The latent rows -/

/-- The modulation rows of batch `b`. -/
abbrev modL : Fin 6 → Fin 1024 → EReal := fun k l => x2 (ix3 1 b ⟨1024 * k.val + l.val, by omega⟩)
/-- The normalized token `t`. -/
abbrev hL (t : Fin 4096) : Fin 1024 → EReal := ffIn (fun l => x0 (ix3 b t l)) (fun l => x4 (ix2 1 l)) (modL x2 b 1) (modL x2 b 0)
/-- The input projection of token `t`. -/
abbrev zL (t : Fin 4096) : Fin 6592 → EReal := zed (hL x0 x2 x4 b t) (fun k j => x5 (ix3 1 k j))

theorem hL_apply (t : Fin 4096) (l : Fin 1024) : val_main_v29 x0 x2 x4 (ix3 b t l) = hL x0 x2 x4 b t l := by
  unfold val_main_v29 val_main_v28 val_main_v27 val_main_v26 val_main_v25 val_main_v24 val_main_cst_2 val_main_v23 val_main_v22 val_main_v21 val_main_v20 val_main_v19 val_main_v18 val_main_v17 val_main_v16 val_main_cst_1 val_main_v15 val_main_v14 val_main_cst_0 val_main_v13 val_main_v12 val_main_cst val_main_v11 val_main_v10 val_main_v9 val_main_v4 val_main_v3 val_main_v2 val_main_v1 val_main_v0
  unfold hL ffIn rms
  pointwise
  simp only [modL, show (1 : Fin 6).val = 1 from rfl, show (0 : Fin 6).val = 0 from rfl, Nat.mul_one, Nat.mul_zero, Nat.zero_add]

theorem zL_apply (t : Fin 4096) (j : Fin 6592) : val_main_v32 x0 x2 x4 x5 (ix3 b t j) = zL x0 x2 x4 x5 b t j := by
  have h := hL_apply x0 x2 x4
  unfold val_main_v32 val_main_v31 val_main_v30
  generalize val_main_v29 x0 x2 x4 = y at h ⊢
  unfold zL zed
  pointwise
  simp only [h]
  try rfl

theorem gqL_apply (t : Fin 4096) (l : Fin 256) : val_main_v69 x0 x2 x4 x5 (ix3 b t l) = zL x0 x2 x4 x5 b t ⟨416 + l.val, by omega⟩ * c8 := by
  have h := zL_apply x0 x2 x4 x5
  unfold val_main_v69 val_main_v68 val_main_v67 val_main_cst_5 val_main_v36
  generalize val_main_v32 x0 x2 x4 x5 = y at h ⊢
  pointwise
  simp only [h]
  try rfl

theorem gkL_apply (t : Fin 4096) (l : Fin 256) : val_main_v70 x0 x2 x4 x5 (ix3 b t l) = zL x0 x2 x4 x5 b t ⟨672 + l.val, by omega⟩ := by
  have h := zL_apply x0 x2 x4 x5
  unfold val_main_v70 val_main_v37
  generalize val_main_v32 x0 x2 x4 x5 = y at h ⊢
  pointwise
  simp only [h]
  try rfl

theorem gvL_apply (t : Fin 4096) (l : Fin 512) : val_main_v71 x0 x2 x4 x5 (ix3 b t l) = zL x0 x2 x4 x5 b t ⟨928 + l.val, by omega⟩ := by
  have h := zL_apply x0 x2 x4 x5
  unfold val_main_v71 val_main_v38
  generalize val_main_v32 x0 x2 x4 x5 = y at h ⊢
  pointwise
  simp only [h]
  try rfl

theorem grL_apply (t : Fin 4096) (l : Fin 512) : val_main_v73 x0 x2 x4 x5 (ix3 b t l) = silu (zL x0 x2 x4 x5 b t ⟨1440 + l.val, by omega⟩) := by
  have h := zL_apply x0 x2 x4 x5
  unfold val_main_v73 val_main_v72 val_main_call2_v5 val_main_call2_v4 val_main_call2_cst_0 val_main_call2_v3 val_main_call2_v2 val_main_call2_cst val_main_call2_v1 val_main_call2_v0 val_main_v39
  generalize val_main_v32 x0 x2 x4 x5 = y at h ⊢
  unfold silu logis
  pointwise
  simp only [h]
  try rfl

theorem hyL_apply (t : Fin 4096) (l : Fin 1536) : val_main_v42 x0 x2 x4 x5 (ix3 b t l) = zL x0 x2 x4 x5 b t ⟨1984 + l.val, by omega⟩ := by
  have h := zL_apply x0 x2 x4 x5
  unfold val_main_v42
  generalize val_main_v32 x0 x2 x4 x5 = y at h ⊢
  pointwise
  simp only [h]
  try rfl

theorem zgL_apply (t : Fin 4096) (l : Fin 3072) : val_main_v80 x0 x2 x4 x5 (ix3 b t l) = logis (zL x0 x2 x4 x5 b t ⟨3520 + l.val, by omega⟩) := by
  have h := zL_apply x0 x2 x4 x5
  unfold val_main_v80 val_main_v79 val_main_v78 val_main_cst_7 val_main_v77 val_main_v76 val_main_cst_6 val_main_v75 val_main_v74 val_main_v43
  generalize val_main_v32 x0 x2 x4 x5 = y at h ⊢
  unfold logis
  pointwise
  simp only [h]
  try rfl

theorem dFL_apply (t : Fin 4096) (l : Fin 256) : val_main_v51 x0 x2 x4 x5 x10 x11 (ix3 b t l)
    = (∑ j : Fin 16, zL x0 x2 x4 x5 b t ⟨1952 + j.val, by omega⟩ * x10 (ix4 1 0 j l)) + x11 (ix3 1 0 l) := by
  have h := zL_apply x0 x2 x4 x5
  unfold val_main_v51 val_main_v50 val_main_v49 val_main_v48 val_main_v47 val_main_v46 val_main_v45 val_main_v44 val_main_v40
  generalize val_main_v32 x0 x2 x4 x5 = y at h ⊢
  pointwise
  simp only [h]
  try rfl

theorem gFL_apply (t : Fin 4096) (l : Fin 256) : val_main_v54 x0 x2 x4 x5 x10 x11 (ix3 b t l)
    = logGate ((∑ j : Fin 16, zL x0 x2 x4 x5 b t ⟨1952 + j.val, by omega⟩ * x10 (ix4 1 0 j l)) + x11 (ix3 1 0 l)) := by
  rw [← logGate_ref, ← dFL_apply]
  unfold val_main_v54 val_main_v53 val_main_cst_3 val_main_v52 val_main_call0_v1 val_main_call0_call0_v11 val_main_call0_call0_v10 val_main_call0_call0_v9 val_main_call0_call0_v8 val_main_call0_call0_v7 val_main_call0_call0_v6 val_main_call0_call0_v5 val_main_call0_call0_v4 val_main_call0_call0_v3 val_main_call0_call0_v2 val_main_call0_call0_v1 val_main_call0_call0_v0 val_main_call0_call0_cst val_main_call0_v0
  generalize val_main_v51 x0 x2 x4 x5 x10 x11 = y
  pointwise
  rw [if_neg (not_not_intro rfl)]
  rfl

theorem dBL_apply (t : Fin 4096) (l : Fin 256) : val_main_v62 x0 x2 x4 x5 x10 x11 (ix3 b t l)
    = (∑ j : Fin 16, zL x0 x2 x4 x5 b t ⟨1968 + j.val, by omega⟩ * x10 (ix4 1 1 j l)) + x11 (ix3 1 1 l) := by
  have h := zL_apply x0 x2 x4 x5
  unfold val_main_v62 val_main_v61 val_main_v60 val_main_v59 val_main_v58 val_main_v57 val_main_v56 val_main_v55 val_main_v41
  generalize val_main_v32 x0 x2 x4 x5 = y at h ⊢
  pointwise
  simp only [h]
  try rfl

theorem gBL_apply (t : Fin 4096) (l : Fin 256) : val_main_v65 x0 x2 x4 x5 x10 x11 (ix3 b t l)
    = logGate ((∑ j : Fin 16, zL x0 x2 x4 x5 b t ⟨1968 + j.val, by omega⟩ * x10 (ix4 1 1 j l)) + x11 (ix3 1 1 l)) := by
  rw [← logGate_ref, ← dBL_apply]
  unfold val_main_v65 val_main_v64 val_main_cst_4 val_main_v63 val_main_call1_v1 val_main_call1_call0_v11 val_main_call1_call0_v10 val_main_call1_call0_v9 val_main_call1_call0_v8 val_main_call1_call0_v7 val_main_call1_call0_v6 val_main_call1_call0_v5 val_main_call1_call0_v4 val_main_call1_call0_v3 val_main_call1_call0_v2 val_main_call1_call0_v1 val_main_call1_call0_v0 val_main_call1_call0_cst val_main_call1_v0
  generalize val_main_v62 x0 x2 x4 x5 x10 x11 = y
  pointwise
  rw [if_neg (not_not_intro rfl)]
  rfl

/-! ## The context rows -/

/-- The modulation rows of the context. -/
abbrev modC : Fin 6 → Fin 1024 → EReal := fun k l => x3 (ix2 1 ⟨1024 * k.val + l.val, by omega⟩)
/-- The normalized token `t`. -/
abbrev hC (t : Fin 256) : Fin 1024 → EReal := ffIn (fun l => x1 (ix3 b t l)) (fun l => x4 (ix2 1 l)) (modC x3 1) (modC x3 0)
/-- The input projection of token `t`. -/
abbrev zC (t : Fin 256) : Fin 6592 → EReal := zed (hC x1 x3 x4 b t) (fun k j => x5 (ix3 1 k j))

theorem hC_apply (t : Fin 256) (l : Fin 1024) : val_main_v111 x1 x3 x4 (ix3 b t l) = hC x1 x3 x4 b t l := by
  unfold val_main_v111 val_main_v110 val_main_v109 val_main_v108 val_main_v107 val_main_v106 val_main_v105 val_main_v104 val_main_cst_11 val_main_v103 val_main_v102 val_main_v101 val_main_v100 val_main_v99 val_main_v98 val_main_v97 val_main_v96 val_main_cst_10 val_main_v95 val_main_v94 val_main_cst_9 val_main_v93 val_main_v92 val_main_cst_8 val_main_v91 val_main_v90 val_main_v89 val_main_v84 val_main_v83 val_main_v82 val_main_v81
  unfold hC ffIn rms
  pointwise
  simp only [modC, show (1 : Fin 6).val = 1 from rfl, show (0 : Fin 6).val = 0 from rfl, Nat.mul_one, Nat.mul_zero, Nat.zero_add]

theorem zC_apply (t : Fin 256) (j : Fin 6592) : val_main_v114 x1 x3 x4 x5 (ix3 b t j) = zC x1 x3 x4 x5 b t j := by
  have h := hC_apply x1 x3 x4
  unfold val_main_v114 val_main_v113 val_main_v112
  generalize val_main_v111 x1 x3 x4 = y at h ⊢
  unfold zC zed
  pointwise
  simp only [h]
  try rfl

theorem gqC_apply (t : Fin 256) (l : Fin 256) : val_main_v151 x1 x3 x4 x5 (ix3 b t l) = zC x1 x3 x4 x5 b t ⟨416 + l.val, by omega⟩ * c8 := by
  have h := zC_apply x1 x3 x4 x5
  unfold val_main_v151 val_main_v150 val_main_v149 val_main_cst_14 val_main_v118
  generalize val_main_v114 x1 x3 x4 x5 = y at h ⊢
  pointwise
  simp only [h]
  try rfl

theorem gkC_apply (t : Fin 256) (l : Fin 256) : val_main_v152 x1 x3 x4 x5 (ix3 b t l) = zC x1 x3 x4 x5 b t ⟨672 + l.val, by omega⟩ := by
  have h := zC_apply x1 x3 x4 x5
  unfold val_main_v152 val_main_v119
  generalize val_main_v114 x1 x3 x4 x5 = y at h ⊢
  pointwise
  simp only [h]
  try rfl

theorem gvC_apply (t : Fin 256) (l : Fin 512) : val_main_v153 x1 x3 x4 x5 (ix3 b t l) = zC x1 x3 x4 x5 b t ⟨928 + l.val, by omega⟩ := by
  have h := zC_apply x1 x3 x4 x5
  unfold val_main_v153 val_main_v120
  generalize val_main_v114 x1 x3 x4 x5 = y at h ⊢
  pointwise
  simp only [h]
  try rfl

theorem grC_apply (t : Fin 256) (l : Fin 512) : val_main_v155 x1 x3 x4 x5 (ix3 b t l) = silu (zC x1 x3 x4 x5 b t ⟨1440 + l.val, by omega⟩) := by
  have h := zC_apply x1 x3 x4 x5
  unfold val_main_v155 val_main_v154 val_main_call5_v5 val_main_call5_v4 val_main_call5_cst_0 val_main_call5_v3 val_main_call5_v2 val_main_call5_cst val_main_call5_v1 val_main_call5_v0 val_main_v121
  generalize val_main_v114 x1 x3 x4 x5 = y at h ⊢
  unfold silu logis
  pointwise
  simp only [h]
  try rfl

theorem hyC_apply (t : Fin 256) (l : Fin 1536) : val_main_v124 x1 x3 x4 x5 (ix3 b t l) = zC x1 x3 x4 x5 b t ⟨1984 + l.val, by omega⟩ := by
  have h := zC_apply x1 x3 x4 x5
  unfold val_main_v124
  generalize val_main_v114 x1 x3 x4 x5 = y at h ⊢
  pointwise
  simp only [h]
  try rfl

theorem zgC_apply (t : Fin 256) (l : Fin 3072) : val_main_v162 x1 x3 x4 x5 (ix3 b t l) = logis (zC x1 x3 x4 x5 b t ⟨3520 + l.val, by omega⟩) := by
  have h := zC_apply x1 x3 x4 x5
  unfold val_main_v162 val_main_v161 val_main_v160 val_main_cst_16 val_main_v159 val_main_v158 val_main_cst_15 val_main_v157 val_main_v156 val_main_v125
  generalize val_main_v114 x1 x3 x4 x5 = y at h ⊢
  unfold logis
  pointwise
  simp only [h]
  try rfl

theorem dFC_apply (t : Fin 256) (l : Fin 256) : val_main_v133 x1 x3 x4 x5 x10 x11 (ix3 b t l)
    = (∑ j : Fin 16, zC x1 x3 x4 x5 b t ⟨1952 + j.val, by omega⟩ * x10 (ix4 1 0 j l)) + x11 (ix3 1 0 l) := by
  have h := zC_apply x1 x3 x4 x5
  unfold val_main_v133 val_main_v132 val_main_v131 val_main_v130 val_main_v129 val_main_v128 val_main_v127 val_main_v126 val_main_v122
  generalize val_main_v114 x1 x3 x4 x5 = y at h ⊢
  pointwise
  simp only [h]
  try rfl

theorem gFC_apply (t : Fin 256) (l : Fin 256) : val_main_v136 x1 x3 x4 x5 x10 x11 (ix3 b t l)
    = logGate ((∑ j : Fin 16, zC x1 x3 x4 x5 b t ⟨1952 + j.val, by omega⟩ * x10 (ix4 1 0 j l)) + x11 (ix3 1 0 l)) := by
  rw [← logGate_ref, ← dFC_apply]
  unfold val_main_v136 val_main_v135 val_main_cst_12 val_main_v134 val_main_call3_v1 val_main_call3_call0_v11 val_main_call3_call0_v10 val_main_call3_call0_v9 val_main_call3_call0_v8 val_main_call3_call0_v7 val_main_call3_call0_v6 val_main_call3_call0_v5 val_main_call3_call0_v4 val_main_call3_call0_v3 val_main_call3_call0_v2 val_main_call3_call0_v1 val_main_call3_call0_v0 val_main_call3_call0_cst val_main_call3_v0
  generalize val_main_v133 x1 x3 x4 x5 x10 x11 = y
  pointwise
  rw [if_neg (not_not_intro rfl)]
  rfl

theorem dBC_apply (t : Fin 256) (l : Fin 256) : val_main_v144 x1 x3 x4 x5 x10 x11 (ix3 b t l)
    = (∑ j : Fin 16, zC x1 x3 x4 x5 b t ⟨1968 + j.val, by omega⟩ * x10 (ix4 1 1 j l)) + x11 (ix3 1 1 l) := by
  have h := zC_apply x1 x3 x4 x5
  unfold val_main_v144 val_main_v143 val_main_v142 val_main_v141 val_main_v140 val_main_v139 val_main_v138 val_main_v137 val_main_v123
  generalize val_main_v114 x1 x3 x4 x5 = y at h ⊢
  pointwise
  simp only [h]
  try rfl

theorem gBC_apply (t : Fin 256) (l : Fin 256) : val_main_v147 x1 x3 x4 x5 x10 x11 (ix3 b t l)
    = logGate ((∑ j : Fin 16, zC x1 x3 x4 x5 b t ⟨1968 + j.val, by omega⟩ * x10 (ix4 1 1 j l)) + x11 (ix3 1 1 l)) := by
  rw [← logGate_ref, ← dBC_apply]
  unfold val_main_v147 val_main_v146 val_main_cst_13 val_main_v145 val_main_call4_v1 val_main_call4_call0_v11 val_main_call4_call0_v10 val_main_call4_call0_v9 val_main_call4_call0_v8 val_main_call4_call0_v7 val_main_call4_call0_v6 val_main_call4_call0_v5 val_main_call4_call0_v4 val_main_call4_call0_v3 val_main_call4_call0_v2 val_main_call4_call0_v1 val_main_call4_call0_v0 val_main_call4_call0_cst val_main_call4_v0
  generalize val_main_v144 x1 x3 x4 x5 x10 x11 = y
  pointwise
  rw [if_neg (not_not_intro rfl)]
  rfl

/-! ## The results -/

theorem res163L_apply (t : Fin 4096) (l : Fin 256) : val_main_v163 x0 x1 x2 x3 x4 x5 (ix3 b ⟨t, by omega⟩ l) = (zL x0 x2 x4 x5 b t) ⟨416 + l.val, by omega⟩ * c8 := by
  have h := gqL_apply x0 x2 x4 x5 b t l
  unfold val_main_v163
  generalize val_main_v69 x0 x2 x4 x5 = y at h ⊢
  generalize val_main_v151 x1 x3 x4 x5 = y'
  pointwise
  exact h

theorem res163C_apply (t : Fin 256) (l : Fin 256) : val_main_v163 x0 x1 x2 x3 x4 x5 (ix3 b ⟨4096 + t, by omega⟩ l) = (zC x1 x3 x4 x5 b t) ⟨416 + l.val, by omega⟩ * c8 := by
  have h := gqC_apply x1 x3 x4 x5 b t l
  unfold val_main_v163
  generalize val_main_v151 x1 x3 x4 x5 = y at h ⊢
  generalize val_main_v69 x0 x2 x4 x5 = y'
  pointwise
  exact h

theorem res164L_apply (t : Fin 4096) (l : Fin 256) : val_main_v164 x0 x1 x2 x3 x4 x5 (ix3 b ⟨t, by omega⟩ l) = (zL x0 x2 x4 x5 b t) ⟨672 + l.val, by omega⟩ := by
  have h := gkL_apply x0 x2 x4 x5 b t l
  unfold val_main_v164
  generalize val_main_v70 x0 x2 x4 x5 = y at h ⊢
  generalize val_main_v152 x1 x3 x4 x5 = y'
  pointwise
  exact h

theorem res164C_apply (t : Fin 256) (l : Fin 256) : val_main_v164 x0 x1 x2 x3 x4 x5 (ix3 b ⟨4096 + t, by omega⟩ l) = (zC x1 x3 x4 x5 b t) ⟨672 + l.val, by omega⟩ := by
  have h := gkC_apply x1 x3 x4 x5 b t l
  unfold val_main_v164
  generalize val_main_v152 x1 x3 x4 x5 = y at h ⊢
  generalize val_main_v70 x0 x2 x4 x5 = y'
  pointwise
  exact h

theorem res165L_apply (t : Fin 4096) (l : Fin 512) : val_main_v165 x0 x1 x2 x3 x4 x5 (ix3 b ⟨t, by omega⟩ l) = (zL x0 x2 x4 x5 b t) ⟨928 + l.val, by omega⟩ := by
  have h := gvL_apply x0 x2 x4 x5 b t l
  unfold val_main_v165
  generalize val_main_v71 x0 x2 x4 x5 = y at h ⊢
  generalize val_main_v153 x1 x3 x4 x5 = y'
  pointwise
  exact h

theorem res165C_apply (t : Fin 256) (l : Fin 512) : val_main_v165 x0 x1 x2 x3 x4 x5 (ix3 b ⟨4096 + t, by omega⟩ l) = (zC x1 x3 x4 x5 b t) ⟨928 + l.val, by omega⟩ := by
  have h := gvC_apply x1 x3 x4 x5 b t l
  unfold val_main_v165
  generalize val_main_v153 x1 x3 x4 x5 = y at h ⊢
  generalize val_main_v71 x0 x2 x4 x5 = y'
  pointwise
  exact h

theorem res166L_apply (t : Fin 4096) (l : Fin 512) : val_main_v166 x0 x1 x2 x3 x4 x5 (ix3 b ⟨t, by omega⟩ l) = silu ((zL x0 x2 x4 x5 b t) ⟨1440 + l.val, by omega⟩) := by
  have h := grL_apply x0 x2 x4 x5 b t l
  unfold val_main_v166
  generalize val_main_v73 x0 x2 x4 x5 = y at h ⊢
  generalize val_main_v155 x1 x3 x4 x5 = y'
  pointwise
  exact h

theorem res166C_apply (t : Fin 256) (l : Fin 512) : val_main_v166 x0 x1 x2 x3 x4 x5 (ix3 b ⟨4096 + t, by omega⟩ l) = silu ((zC x1 x3 x4 x5 b t) ⟨1440 + l.val, by omega⟩) := by
  have h := grC_apply x1 x3 x4 x5 b t l
  unfold val_main_v166
  generalize val_main_v155 x1 x3 x4 x5 = y at h ⊢
  generalize val_main_v73 x0 x2 x4 x5 = y'
  pointwise
  exact h

theorem res168L_apply (t : Fin 4096) (l : Fin 1536) : val_main_v168 x0 x1 x2 x3 x4 x5 (ix3 b ⟨t, by omega⟩ l) = (zL x0 x2 x4 x5 b t) ⟨1984 + l.val, by omega⟩ := by
  have h := hyL_apply x0 x2 x4 x5 b t l
  unfold val_main_v168
  generalize val_main_v42 x0 x2 x4 x5 = y at h ⊢
  generalize val_main_v124 x1 x3 x4 x5 = y'
  pointwise
  exact h

theorem res168C_apply (t : Fin 256) (l : Fin 1536) : val_main_v168 x0 x1 x2 x3 x4 x5 (ix3 b ⟨4096 + t, by omega⟩ l) = (zC x1 x3 x4 x5 b t) ⟨1984 + l.val, by omega⟩ := by
  have h := hyC_apply x1 x3 x4 x5 b t l
  unfold val_main_v168
  generalize val_main_v124 x1 x3 x4 x5 = y at h ⊢
  generalize val_main_v42 x0 x2 x4 x5 = y'
  pointwise
  exact h

theorem res169L_apply (t : Fin 4096) (l : Fin 3072) : val_main_v169 x0 x1 x2 x3 x4 x5 (ix3 b ⟨t, by omega⟩ l) = logis ((zL x0 x2 x4 x5 b t) ⟨3520 + l.val, by omega⟩) := by
  have h := zgL_apply x0 x2 x4 x5 b t l
  unfold val_main_v169
  generalize val_main_v80 x0 x2 x4 x5 = y at h ⊢
  generalize val_main_v162 x1 x3 x4 x5 = y'
  pointwise
  exact h

theorem res169C_apply (t : Fin 256) (l : Fin 3072) : val_main_v169 x0 x1 x2 x3 x4 x5 (ix3 b ⟨4096 + t, by omega⟩ l) = logis ((zC x1 x3 x4 x5 b t) ⟨3520 + l.val, by omega⟩) := by
  have h := zgC_apply x1 x3 x4 x5 b t l
  unfold val_main_v169
  generalize val_main_v162 x1 x3 x4 x5 = y at h ⊢
  generalize val_main_v80 x0 x2 x4 x5 = y'
  pointwise
  exact h

theorem halfFL_apply (t : Fin 4096) (l : Fin 256) : val_main_v66 x0 x2 x4 x5 x10 x11 (ix3 b t ⟨l.val, by omega⟩)
    = logGate ((∑ j : Fin 16, (zL x0 x2 x4 x5 b t) ⟨1952 + j.val, by omega⟩ * x10 (ix4 1 0 j l)) + x11 (ix3 1 0 l)) := by
  have h := gFL_apply x0 x2 x4 x5 x10 x11 b t l
  unfold val_main_v66
  generalize val_main_v54 x0 x2 x4 x5 x10 x11 = y at h ⊢
  generalize val_main_v65 x0 x2 x4 x5 x10 x11 = y'
  pointwise
  exact h

theorem res167FL_apply (t : Fin 4096) (l : Fin 256) : val_main_v167 x0 x1 x2 x3 x4 x5 x10 x11 (ix3 b ⟨t, by omega⟩ ⟨l.val, by omega⟩)
    = logGate ((∑ j : Fin 16, (zL x0 x2 x4 x5 b t) ⟨1952 + j.val, by omega⟩ * x10 (ix4 1 0 j l)) + x11 (ix3 1 0 l)) := by
  have h := halfFL_apply x0 x2 x4 x5 x10 x11 b t l
  unfold val_main_v167
  generalize val_main_v66 x0 x2 x4 x5 x10 x11 = y at h ⊢
  generalize val_main_v148 x1 x3 x4 x5 x10 x11 = y'
  pointwise
  exact h

theorem halfBL_apply (t : Fin 4096) (l : Fin 256) : val_main_v66 x0 x2 x4 x5 x10 x11 (ix3 b t ⟨256 + l.val, by omega⟩)
    = logGate ((∑ j : Fin 16, (zL x0 x2 x4 x5 b t) ⟨1968 + j.val, by omega⟩ * x10 (ix4 1 1 j l)) + x11 (ix3 1 1 l)) := by
  have h := gBL_apply x0 x2 x4 x5 x10 x11 b t l
  unfold val_main_v66
  generalize val_main_v65 x0 x2 x4 x5 x10 x11 = y at h ⊢
  generalize val_main_v54 x0 x2 x4 x5 x10 x11 = y'
  pointwise
  exact h

theorem res167BL_apply (t : Fin 4096) (l : Fin 256) : val_main_v167 x0 x1 x2 x3 x4 x5 x10 x11 (ix3 b ⟨t, by omega⟩ ⟨256 + l.val, by omega⟩)
    = logGate ((∑ j : Fin 16, (zL x0 x2 x4 x5 b t) ⟨1968 + j.val, by omega⟩ * x10 (ix4 1 1 j l)) + x11 (ix3 1 1 l)) := by
  have h := halfBL_apply x0 x2 x4 x5 x10 x11 b t l
  unfold val_main_v167
  generalize val_main_v66 x0 x2 x4 x5 x10 x11 = y at h ⊢
  generalize val_main_v148 x1 x3 x4 x5 x10 x11 = y'
  pointwise
  exact h

theorem halfFC_apply (t : Fin 256) (l : Fin 256) : val_main_v148 x1 x3 x4 x5 x10 x11 (ix3 b t ⟨l.val, by omega⟩)
    = logGate ((∑ j : Fin 16, (zC x1 x3 x4 x5 b t) ⟨1952 + j.val, by omega⟩ * x10 (ix4 1 0 j l)) + x11 (ix3 1 0 l)) := by
  have h := gFC_apply x1 x3 x4 x5 x10 x11 b t l
  unfold val_main_v148
  generalize val_main_v136 x1 x3 x4 x5 x10 x11 = y at h ⊢
  generalize val_main_v147 x1 x3 x4 x5 x10 x11 = y'
  pointwise
  exact h

theorem res167FC_apply (t : Fin 256) (l : Fin 256) : val_main_v167 x0 x1 x2 x3 x4 x5 x10 x11 (ix3 b ⟨4096 + t, by omega⟩ ⟨l.val, by omega⟩)
    = logGate ((∑ j : Fin 16, (zC x1 x3 x4 x5 b t) ⟨1952 + j.val, by omega⟩ * x10 (ix4 1 0 j l)) + x11 (ix3 1 0 l)) := by
  have h := halfFC_apply x1 x3 x4 x5 x10 x11 b t l
  unfold val_main_v167
  generalize val_main_v148 x1 x3 x4 x5 x10 x11 = y at h ⊢
  generalize val_main_v66 x0 x2 x4 x5 x10 x11 = y'
  pointwise
  exact h

theorem halfBC_apply (t : Fin 256) (l : Fin 256) : val_main_v148 x1 x3 x4 x5 x10 x11 (ix3 b t ⟨256 + l.val, by omega⟩)
    = logGate ((∑ j : Fin 16, (zC x1 x3 x4 x5 b t) ⟨1968 + j.val, by omega⟩ * x10 (ix4 1 1 j l)) + x11 (ix3 1 1 l)) := by
  have h := gBC_apply x1 x3 x4 x5 x10 x11 b t l
  unfold val_main_v148
  generalize val_main_v147 x1 x3 x4 x5 x10 x11 = y at h ⊢
  generalize val_main_v136 x1 x3 x4 x5 x10 x11 = y'
  pointwise
  exact h

theorem res167BC_apply (t : Fin 256) (l : Fin 256) : val_main_v167 x0 x1 x2 x3 x4 x5 x10 x11 (ix3 b ⟨4096 + t, by omega⟩ ⟨256 + l.val, by omega⟩)
    = logGate ((∑ j : Fin 16, (zC x1 x3 x4 x5 b t) ⟨1968 + j.val, by omega⟩ * x10 (ix4 1 1 j l)) + x11 (ix3 1 1 l)) := by
  have h := halfBC_apply x1 x3 x4 x5 x10 x11 b t l
  unfold val_main_v167
  generalize val_main_v148 x1 x3 x4 x5 x10 x11 = y at h ⊢
  generalize val_main_v66 x0 x2 x4 x5 x10 x11 = y'
  pointwise
  exact h

end Cert.InprojLastRefIdeal.InprojLast

end
-- ==== Proof.InprojLastEq.lean ====
/- The last layer's input projection call's results are its reference's: both are `InprojRow`'s functions of each token's row. -/
module

public import proofs.«01_k».proof.Proof.InprojEq
public import proofs.«01_k».proof.Proof.InprojLastArray
public import proofs.«01_k».proof.Proof.InprojLastRef

@[expose] public section

set_option maxRecDepth 16384

noncomputable section

namespace Cert.InprojLastIdeal.InprojLast

open Cert.InprojLastIdeal Cert.InprojLastIdeal.Gen Idealize.ShloMosaic Idealize.ShloMosaic.TcCoe Idealize.SL.Sem

variable (m : (ℓ : Loc nD τ sig) → Buf (Elt Ideal) ℓ) (c : Dev nD)

theorem result19_eq : ((dats m 0 c).arrAt 19 cfg0.N : Vec Ideal S8x4352x256 .bf16)
    = Cert.InprojLastRefIdeal.Read.val_main_v163 (a0 m c) (a1 m c) (a2 m c) (a3 m c) (a4 m c) (a5 m c) := by
  funext i
  obtain ⟨b, s, l, rfl⟩ : ∃ (b : Fin 8) (s : Fin 4352) (l : Fin 256), i = ix3 b s l := ⟨i 0, i 1, i 2, eq_ix3 i⟩
  rcases Cert.InprojIdeal.Inproj.row_cases s with ⟨t, rfl⟩ | ⟨t, rfl⟩
  · have h := arr19 m c b ⟨t, by omega⟩ l
    rw [zK_latent] at h
    exact h.trans (Cert.InprojLastRefIdeal.InprojLast.res163L_apply (a0 m c) (a1 m c) (a2 m c) (a3 m c) (a4 m c) (a5 m c) b t l).symm
  · have h := arr19 m c b ⟨4096 + t, Nat.add_lt_add_left t.isLt 4096⟩ l
    rw [zK_context] at h
    exact h.trans (Cert.InprojLastRefIdeal.InprojLast.res163C_apply (a0 m c) (a1 m c) (a2 m c) (a3 m c) (a4 m c) (a5 m c) b t l).symm

theorem result20_eq : ((dats m 0 c).arrAt 20 cfg0.N : Vec Ideal S8x4352x256 .bf16)
    = Cert.InprojLastRefIdeal.Read.val_main_v164 (a0 m c) (a1 m c) (a2 m c) (a3 m c) (a4 m c) (a5 m c) := by
  funext i
  obtain ⟨b, s, l, rfl⟩ : ∃ (b : Fin 8) (s : Fin 4352) (l : Fin 256), i = ix3 b s l := ⟨i 0, i 1, i 2, eq_ix3 i⟩
  rcases Cert.InprojIdeal.Inproj.row_cases s with ⟨t, rfl⟩ | ⟨t, rfl⟩
  · have h := arr20 m c b ⟨t, by omega⟩ l
    rw [zK_latent] at h
    exact h.trans (Cert.InprojLastRefIdeal.InprojLast.res164L_apply (a0 m c) (a1 m c) (a2 m c) (a3 m c) (a4 m c) (a5 m c) b t l).symm
  · have h := arr20 m c b ⟨4096 + t, Nat.add_lt_add_left t.isLt 4096⟩ l
    rw [zK_context] at h
    exact h.trans (Cert.InprojLastRefIdeal.InprojLast.res164C_apply (a0 m c) (a1 m c) (a2 m c) (a3 m c) (a4 m c) (a5 m c) b t l).symm

theorem result21_eq : ((dats m 0 c).arrAt 21 cfg0.N : Vec Ideal S8x4352x512 .bf16)
    = Cert.InprojLastRefIdeal.Read.val_main_v165 (a0 m c) (a1 m c) (a2 m c) (a3 m c) (a4 m c) (a5 m c) := by
  funext i
  obtain ⟨b, s, l, rfl⟩ : ∃ (b : Fin 8) (s : Fin 4352) (l : Fin 512), i = ix3 b s l := ⟨i 0, i 1, i 2, eq_ix3 i⟩
  rcases Cert.InprojIdeal.Inproj.row_cases s with ⟨t, rfl⟩ | ⟨t, rfl⟩
  · have h := arr21 m c b ⟨t, by omega⟩ l
    rw [zK_latent] at h
    exact h.trans (Cert.InprojLastRefIdeal.InprojLast.res165L_apply (a0 m c) (a1 m c) (a2 m c) (a3 m c) (a4 m c) (a5 m c) b t l).symm
  · have h := arr21 m c b ⟨4096 + t, Nat.add_lt_add_left t.isLt 4096⟩ l
    rw [zK_context] at h
    exact h.trans (Cert.InprojLastRefIdeal.InprojLast.res165C_apply (a0 m c) (a1 m c) (a2 m c) (a3 m c) (a4 m c) (a5 m c) b t l).symm

theorem result22_eq : ((dats m 0 c).arrAt 22 cfg0.N : Vec Ideal S8x4352x512 .bf16)
    = Cert.InprojLastRefIdeal.Read.val_main_v166 (a0 m c) (a1 m c) (a2 m c) (a3 m c) (a4 m c) (a5 m c) := by
  funext i
  obtain ⟨b, s, l, rfl⟩ : ∃ (b : Fin 8) (s : Fin 4352) (l : Fin 512), i = ix3 b s l := ⟨i 0, i 1, i 2, eq_ix3 i⟩
  rcases Cert.InprojIdeal.Inproj.row_cases s with ⟨t, rfl⟩ | ⟨t, rfl⟩
  · have h := arr22 m c b ⟨t, by omega⟩ l
    rw [zK_latent] at h
    exact h.trans (Cert.InprojLastRefIdeal.InprojLast.res166L_apply (a0 m c) (a1 m c) (a2 m c) (a3 m c) (a4 m c) (a5 m c) b t l).symm
  · have h := arr22 m c b ⟨4096 + t, Nat.add_lt_add_left t.isLt 4096⟩ l
    rw [zK_context] at h
    exact h.trans (Cert.InprojLastRefIdeal.InprojLast.res166C_apply (a0 m c) (a1 m c) (a2 m c) (a3 m c) (a4 m c) (a5 m c) b t l).symm

theorem result24_eq : ((dats m 0 c).arrAt 24 cfg0.N : Vec Ideal S8x4352x1536 .f32)
    = Cert.InprojLastRefIdeal.Read.val_main_v168 (a0 m c) (a1 m c) (a2 m c) (a3 m c) (a4 m c) (a5 m c) := by
  funext i
  obtain ⟨b, s, l, rfl⟩ : ∃ (b : Fin 8) (s : Fin 4352) (l : Fin 1536), i = ix3 b s l := ⟨i 0, i 1, i 2, eq_ix3 i⟩
  rcases Cert.InprojIdeal.Inproj.row_cases s with ⟨t, rfl⟩ | ⟨t, rfl⟩
  · have h := arr24 m c b ⟨t, by omega⟩ l
    rw [zK_latent] at h
    exact h.trans (Cert.InprojLastRefIdeal.InprojLast.res168L_apply (a0 m c) (a1 m c) (a2 m c) (a3 m c) (a4 m c) (a5 m c) b t l).symm
  · have h := arr24 m c b ⟨4096 + t, Nat.add_lt_add_left t.isLt 4096⟩ l
    rw [zK_context] at h
    exact h.trans (Cert.InprojLastRefIdeal.InprojLast.res168C_apply (a0 m c) (a1 m c) (a2 m c) (a3 m c) (a4 m c) (a5 m c) b t l).symm

theorem result25_eq : ((dats m 0 c).arrAt 25 cfg0.N : Vec Ideal S8x4352x3072 .bf16)
    = Cert.InprojLastRefIdeal.Read.val_main_v169 (a0 m c) (a1 m c) (a2 m c) (a3 m c) (a4 m c) (a5 m c) := by
  funext i
  obtain ⟨b, s, l, rfl⟩ : ∃ (b : Fin 8) (s : Fin 4352) (l : Fin 3072), i = ix3 b s l := ⟨i 0, i 1, i 2, eq_ix3 i⟩
  rcases Cert.InprojIdeal.Inproj.row_cases s with ⟨t, rfl⟩ | ⟨t, rfl⟩
  · have h := arr25 m c b ⟨t, by omega⟩ l
    rw [zK_latent] at h
    exact h.trans (Cert.InprojLastRefIdeal.InprojLast.res169L_apply (a0 m c) (a1 m c) (a2 m c) (a3 m c) (a4 m c) (a5 m c) b t l).symm
  · have h := arr25 m c b ⟨4096 + t, Nat.add_lt_add_left t.isLt 4096⟩ l
    rw [zK_context] at h
    exact h.trans (Cert.InprojLastRefIdeal.InprojLast.res169C_apply (a0 m c) (a1 m c) (a2 m c) (a3 m c) (a4 m c) (a5 m c) b t l).symm

theorem result23_eq : ((dats m 0 c).arrAt 23 cfg0.N : Vec Ideal S8x4352x512 .f32)
    = Cert.InprojLastRefIdeal.Read.val_main_v167 (a0 m c) (a1 m c) (a2 m c) (a3 m c) (a4 m c) (a5 m c) (a10 m c) (a11 m c) := by
  funext i
  obtain ⟨b, s, l, rfl⟩ : ∃ (b : Fin 8) (s : Fin 4352) (l : Fin 512), i = ix3 b s l := ⟨i 0, i 1, i 2, eq_ix3 i⟩
  rcases Cert.InprojIdeal.Inproj.row_cases s with ⟨t, rfl⟩ | ⟨t, rfl⟩ <;> rcases Cert.InprojIdeal.Inproj.lane_cases l with ⟨k, rfl⟩ | ⟨k, rfl⟩
  · have h := arr23F m c b ⟨t, by omega⟩ k
    rw [zK_latent] at h
    exact h.trans (Cert.InprojLastRefIdeal.InprojLast.res167FL_apply (a0 m c) (a1 m c) (a2 m c) (a3 m c) (a4 m c) (a5 m c) (a10 m c) (a11 m c) b t k).symm
  · have h := arr23B m c b ⟨t, by omega⟩ k
    rw [zK_latent] at h
    exact h.trans (Cert.InprojLastRefIdeal.InprojLast.res167BL_apply (a0 m c) (a1 m c) (a2 m c) (a3 m c) (a4 m c) (a5 m c) (a10 m c) (a11 m c) b t k).symm
  · have h := arr23F m c b ⟨4096 + t, Nat.add_lt_add_left t.isLt 4096⟩ k
    rw [zK_context] at h
    exact h.trans (Cert.InprojLastRefIdeal.InprojLast.res167FC_apply (a0 m c) (a1 m c) (a2 m c) (a3 m c) (a4 m c) (a5 m c) (a10 m c) (a11 m c) b t k).symm
  · have h := arr23B m c b ⟨4096 + t, Nat.add_lt_add_left t.isLt 4096⟩ k
    rw [zK_context] at h
    exact h.trans (Cert.InprojLastRefIdeal.InprojLast.res167BC_apply (a0 m c) (a1 m c) (a2 m c) (a3 m c) (a4 m c) (a5 m c) (a10 m c) (a11 m c) b t k).symm

end Cert.InprojLastIdeal.InprojLast

end
-- ==== Proof.lean ====
/- The claims about the attention call, about both layers' merge and MLP calls and about the first layer's input
   projection call, put together.

   The attention kernel's and its reference's results are one array (`Cert.KernelIdeal.Attn.result_eq`) whenever every
   query and key is a real number, which is what the precondition says (`Cert.KernelIdeal.Attn.real_args`). The merge
   kernels' and their references' are one array for any arguments (`Cert.MergeIdeal.Merge.result_eq` for the last layer,
   `Cert.FirstIdeal.First.result_eq` for the first), and so are seven results of the input projection's
   (`Cert.InprojIdeal.Inproj.result19_eq` to `result25_eq`). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Read
public import proofs.«01_k».proof.Proof.Gen.ReferenceIdeal.Run
public import proofs.«01_k».proof.Proof.Gen.Pre_finite
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Read
public import proofs.«01_k».proof.Proof.Gen.MergeRefIdeal.Run
public import proofs.«01_k».proof.Proof.Gen.First
public import proofs.«01_k».proof.Proof.Gen.First.Skeleton
public import proofs.«01_k».proof.Proof.Gen.First.Launch
public import proofs.«01_k».proof.Proof.Gen.First.Points
public import proofs.«01_k».proof.Proof.Gen.First.Frame
public import proofs.«01_k».proof.Proof.Gen.FirstIdeal
public import proofs.«01_k».proof.Proof.Gen.FirstIdeal.Skeleton
public import proofs.«01_k».proof.Proof.Gen.FirstIdeal.Launch
public import proofs.«01_k».proof.Proof.Gen.FirstIdeal.Points
public import proofs.«01_k».proof.Proof.Gen.FirstIdeal.Frame
public import proofs.«01_k».proof.Proof.Gen.FirstIdeal.Value
public import proofs.«01_k».proof.Proof.Gen.FirstRefIdeal
public import proofs.«01_k».proof.Proof.Gen.FirstRefIdeal.Read
public import proofs.«01_k».proof.Proof.Gen.FirstRefIdeal.Run
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojIdeal.Value
public import proofs.«01_k».proof.Proof.Gen.InprojRefIdeal
public import proofs.«01_k».proof.Proof.Gen.InprojRefIdeal.Read
public import proofs.«01_k».proof.Proof.Gen.InprojRefIdeal.Run
public import proofs.«01_k».proof.Proof.Gen.InprojLast
public import proofs.«01_k».proof.Proof.Gen.InprojLast.Skeleton
public import proofs.«01_k».proof.Proof.Gen.InprojLast.Launch
public import proofs.«01_k».proof.Proof.Gen.InprojLast.Points
public import proofs.«01_k».proof.Proof.Gen.InprojLast.Frame
public import proofs.«01_k».proof.Proof.Gen.InprojLastIdeal
public import proofs.«01_k».proof.Proof.Gen.InprojLastIdeal.Skeleton
public import proofs.«01_k».proof.Proof.Gen.InprojLastIdeal.Launch
public import proofs.«01_k».proof.Proof.Gen.InprojLastIdeal.Points
public import proofs.«01_k».proof.Proof.Gen.InprojLastIdeal.Frame
public import proofs.«01_k».proof.Proof.Gen.InprojLastIdeal.Value
public import proofs.«01_k».proof.Proof.Gen.InprojLastRefIdeal
public import proofs.«01_k».proof.Proof.Gen.InprojLastRefIdeal.Read
public import proofs.«01_k».proof.Proof.Gen.InprojLastRefIdeal.Run
public import proofs.«01_k».proof.Proof.AttnEq
public import proofs.«01_k».proof.Proof.AttnFinite
public import proofs.«01_k».proof.Proof.MergeEq
public import proofs.«01_k».proof.Proof.FirstEq
public import proofs.«01_k».proof.Proof.InprojEq
public import proofs.«01_k».proof.Proof.InprojLastEq
public import Idealize.ShloMosaic.Lib.Quiescent
public import Idealize.ShloMosaic.Adequacy
public import Idealize.ShloMosaic.Init

@[expose] public section

noncomputable section

namespace Cert.Proof

open Idealize.ShloMosaic Idealize.SL.Sem

/-- The reference is one straight line of host operations and declares no semaphore. -/
theorem ref_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's result is the reference's. -/
theorem value : Cert.algebraic_KernelIdeal_ReferenceIdeal_pre_finite := by
  intro m g m' g' hpre hagree
  refine ⟨fun c => (Cert.KernelIdeal.Gen.dats m 0 c).arrAt 3 Cert.KernelIdeal.cfg0.N, Cert.KernelIdeal.Value.run_blocks m g, ?_⟩
  refine (θ_run Cert.ReferenceIdeal.defs _ _).mono (fun r h c => ⟨(h c).1.trans ?_, (h c).2⟩)
    (Cert.ReferenceIdeal.Value.run (F := Ideal) m' g')
  obtain ⟨h0, h1, _, _, h4, h5, h6, h7, h8, h9⟩ := hagree c
  rw [Cert.ReferenceIdeal.Read.val_main_v24_eq, h0, h1, h4, h5, h6, h7, h8, h9]
  exact (Cert.KernelIdeal.Attn.result_eq m c (Cert.KernelIdeal.Attn.real_args m c hpre)).symm

/-- The merge's reference is one straight line of host operations and declares no semaphore. -/
theorem merge_ref_frame : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

/-- The merge kernel's result is its reference's. -/
theorem merge_value : Cert.algebraic_MergeIdeal_MergeRefIdeal := by
  intro m g m' g' _ hagree
  refine ⟨fun c => (Cert.MergeIdeal.Gen.dats m 0 c).arrAt 20 Cert.MergeIdeal.cfg0.N, Cert.MergeIdeal.Value.run_blocks m g, ?_⟩
  refine (θ_run Cert.MergeRefIdeal.defs _ _).mono (fun r h c => ⟨(h c).1.trans ?_, (h c).2⟩)
    (Cert.MergeRefIdeal.Value.run (F := Ideal) m' g')
  obtain ⟨h0, h1, h2, h3, h4, h5, h6, h7, h8, h9, h10, h11, h12, h13, h14, h15, h16⟩ := hagree c
  refine (Cert.MergeRefIdeal.Read.val_main_v103_eq (F := Ideal) _).trans ?_
  simp only [StableHlo.launchContents_devRef, h0, h1, h2, h3, h4, h5, h6, h7, h8, h9, h10, h11, h12, h13, h14, h15, h16]
  exact (Cert.MergeIdeal.Merge.result_eq m c).symm

/-- The first layer's reference is one straight line of host operations and declares no semaphore. -/
theorem first_ref_frame : Cert.quiescent_FirstRefIdeal := fun m ρ _ =>
  (θ_run Cert.FirstRefIdeal.defs _ _).mono (fun r h => ⟨fun c => (h c).2, sem_eq_zero_of_no_sems (by decide) r.2⟩)
    (Cert.FirstRefIdeal.Value.run (F := Ideal) m ρ)

/-- The first layer's merge kernel's result is its reference's. -/
theorem first_value : Cert.algebraic_FirstIdeal_FirstRefIdeal := by
  intro m g m' g' _ hagree
  refine ⟨fun c => (Cert.FirstIdeal.Gen.dats m 0 c).arrAt 20 Cert.FirstIdeal.cfg0.N, Cert.FirstIdeal.Value.run_blocks m g, ?_⟩
  refine (θ_run Cert.FirstRefIdeal.defs _ _).mono (fun r h c => ⟨(h c).1.trans ?_, (h c).2⟩)
    (Cert.FirstRefIdeal.Value.run (F := Ideal) m' g')
  obtain ⟨h0, h1, h2, h3, h4, h5, h6, h7, h8, h9, h10, h11, h12, h13, h14, h15, h16, h17, h18, h19, h20, h21, h22, h23, _⟩ := hagree c
  refine (Cert.FirstRefIdeal.Read.val_main_v185_eq (F := Ideal) _).trans ?_
  simp only [StableHlo.launchContents_devRef, h0, h1, h2, h3, h4, h5, h6, h7, h8, h9, h10, h11, h12, h13, h14, h15, h16, h17, h18, h19, h20, h21, h22, h23]
  exact (Cert.FirstIdeal.First.result_eq m c).symm

/-- The input projection's reference is one straight line of host operations and declares no semaphore. -/
theorem inproj_ref_frame : Cert.quiescent_InprojRefIdeal := fun m ρ _ =>
  (θ_run Cert.InprojRefIdeal.defs _ _).mono (fun r h => ⟨fun c => (h c).2.2.2.2.2.2.2, sem_eq_zero_of_no_sems (by decide) r.2⟩)
    (Cert.InprojRefIdeal.Value.run (F := Ideal) m ρ)

set_option maxHeartbeats 4000000 in
/-- The input projection kernel's results for the GLA and Hyena branches and for the gates are its reference's. -/
theorem inproj_value : Cert.algebraic_InprojIdeal_InprojRefIdeal := by
  intro m g m' g' _ hagree
  refine ⟨fun c => (Cert.InprojIdeal.Gen.dats m 0 c).arrAt 19 Cert.InprojIdeal.cfg0.N, fun c => (Cert.InprojIdeal.Gen.dats m 0 c).arrAt 20 Cert.InprojIdeal.cfg0.N, fun c => (Cert.InprojIdeal.Gen.dats m 0 c).arrAt 21 Cert.InprojIdeal.cfg0.N, fun c => (Cert.InprojIdeal.Gen.dats m 0 c).arrAt 22 Cert.InprojIdeal.cfg0.N, fun c => (Cert.InprojIdeal.Gen.dats m 0 c).arrAt 23 Cert.InprojIdeal.cfg0.N, fun c => (Cert.InprojIdeal.Gen.dats m 0 c).arrAt 24 Cert.InprojIdeal.cfg0.N, fun c => (Cert.InprojIdeal.Gen.dats m 0 c).arrAt 25 Cert.InprojIdeal.cfg0.N,
    (θ_run Cert.InprojIdeal.defs _ _).mono (fun r h c => (h c).2.2.2) (Cert.InprojIdeal.Value.run_blocks m g), ?_⟩
  refine (θ_run Cert.InprojRefIdeal.defs _ _).mono (fun r h c => ?_) (Cert.InprojRefIdeal.Value.run (F := Ideal) m' g')
  obtain ⟨h0, h1, h2, h3, h4, h5, _, _, _, _, h10, h11, _, _⟩ := hagree c
  obtain ⟨r0, r1, r2, r3, r4, r5, r6, hk⟩ := h c
  refine ⟨r0.trans ?_, r1.trans ?_, r2.trans ?_, r3.trans ?_, r4.trans ?_, r5.trans ?_, r6.trans ?_, hk⟩
  · refine (Cert.InprojRefIdeal.Read.val_main_v163_eq (F := Ideal) _).trans ?_
    simp only [StableHlo.launchContents_devRef, h0, h1, h2, h3, h4, h5]
    exact (Cert.InprojIdeal.Inproj.result19_eq m c).symm
  · refine (Cert.InprojRefIdeal.Read.val_main_v164_eq (F := Ideal) _).trans ?_
    simp only [StableHlo.launchContents_devRef, h0, h1, h2, h3, h4, h5]
    exact (Cert.InprojIdeal.Inproj.result20_eq m c).symm
  · refine (Cert.InprojRefIdeal.Read.val_main_v165_eq (F := Ideal) _).trans ?_
    simp only [StableHlo.launchContents_devRef, h0, h1, h2, h3, h4, h5]
    exact (Cert.InprojIdeal.Inproj.result21_eq m c).symm
  · refine (Cert.InprojRefIdeal.Read.val_main_v166_eq (F := Ideal) _).trans ?_
    simp only [StableHlo.launchContents_devRef, h0, h1, h2, h3, h4, h5]
    exact (Cert.InprojIdeal.Inproj.result22_eq m c).symm
  · refine (Cert.InprojRefIdeal.Read.val_main_v167_eq (F := Ideal) _).trans ?_
    simp only [StableHlo.launchContents_devRef, h0, h1, h2, h3, h4, h5, h10, h11]
    exact (Cert.InprojIdeal.Inproj.result23_eq m c).symm
  · refine (Cert.InprojRefIdeal.Read.val_main_v168_eq (F := Ideal) _).trans ?_
    simp only [StableHlo.launchContents_devRef, h0, h1, h2, h3, h4, h5]
    exact (Cert.InprojIdeal.Inproj.result24_eq m c).symm
  · refine (Cert.InprojRefIdeal.Read.val_main_v169_eq (F := Ideal) _).trans ?_
    simp only [StableHlo.launchContents_devRef, h0, h1, h2, h3, h4, h5]
    exact (Cert.InprojIdeal.Inproj.result25_eq m c).symm

/-- The last layer's input projection's reference is one straight line of host operations and declares no semaphore. -/
theorem inproj_last_ref_frame : Cert.quiescent_InprojLastRefIdeal := fun m ρ _ =>
  (θ_run Cert.InprojLastRefIdeal.defs _ _).mono (fun r h => ⟨fun c => (h c).2.2.2.2.2.2.2, sem_eq_zero_of_no_sems (by decide) r.2⟩)
    (Cert.InprojLastRefIdeal.Value.run (F := Ideal) m ρ)

set_option maxHeartbeats 4000000 in
/-- The last layer's input projection kernel's results for the GLA and Hyena branches and for the gates are its reference's. -/
theorem inproj_last_value : Cert.algebraic_InprojLastIdeal_InprojLastRefIdeal := by
  intro m g m' g' _ hagree
  refine ⟨fun c => (Cert.InprojLastIdeal.Gen.dats m 0 c).arrAt 19 Cert.InprojLastIdeal.cfg0.N, fun c => (Cert.InprojLastIdeal.Gen.dats m 0 c).arrAt 20 Cert.InprojLastIdeal.cfg0.N, fun c => (Cert.InprojLastIdeal.Gen.dats m 0 c).arrAt 21 Cert.InprojLastIdeal.cfg0.N, fun c => (Cert.InprojLastIdeal.Gen.dats m 0 c).arrAt 22 Cert.InprojLastIdeal.cfg0.N, fun c => (Cert.InprojLastIdeal.Gen.dats m 0 c).arrAt 23 Cert.InprojLastIdeal.cfg0.N, fun c => (Cert.InprojLastIdeal.Gen.dats m 0 c).arrAt 24 Cert.InprojLastIdeal.cfg0.N, fun c => (Cert.InprojLastIdeal.Gen.dats m 0 c).arrAt 25 Cert.InprojLastIdeal.cfg0.N,
    (θ_run Cert.InprojLastIdeal.defs _ _).mono (fun r h c => (h c).2.2.2) (Cert.InprojLastIdeal.Value.run_blocks m g), ?_⟩
  refine (θ_run Cert.InprojLastRefIdeal.defs _ _).mono (fun r h c => ?_) (Cert.InprojLastRefIdeal.Value.run (F := Ideal) m' g')
  obtain ⟨h0, h1, h2, h3, h4, h5, _, _, _, _, h10, h11, _, _⟩ := hagree c
  obtain ⟨r0, r1, r2, r3, r4, r5, r6, hk⟩ := h c
  refine ⟨r0.trans ?_, r1.trans ?_, r2.trans ?_, r3.trans ?_, r4.trans ?_, r5.trans ?_, r6.trans ?_, hk⟩
  · refine (Cert.InprojLastRefIdeal.Read.val_main_v163_eq (F := Ideal) _).trans ?_
    simp only [StableHlo.launchContents_devRef, h0, h1, h2, h3, h4, h5]
    exact (Cert.InprojLastIdeal.InprojLast.result19_eq m c).symm
  · refine (Cert.InprojLastRefIdeal.Read.val_main_v164_eq (F := Ideal) _).trans ?_
    simp only [StableHlo.launchContents_devRef, h0, h1, h2, h3, h4, h5]
    exact (Cert.InprojLastIdeal.InprojLast.result20_eq m c).symm
  · refine (Cert.InprojLastRefIdeal.Read.val_main_v165_eq (F := Ideal) _).trans ?_
    simp only [StableHlo.launchContents_devRef, h0, h1, h2, h3, h4, h5]
    exact (Cert.InprojLastIdeal.InprojLast.result21_eq m c).symm
  · refine (Cert.InprojLastRefIdeal.Read.val_main_v166_eq (F := Ideal) _).trans ?_
    simp only [StableHlo.launchContents_devRef, h0, h1, h2, h3, h4, h5]
    exact (Cert.InprojLastIdeal.InprojLast.result22_eq m c).symm
  · refine (Cert.InprojLastRefIdeal.Read.val_main_v167_eq (F := Ideal) _).trans ?_
    simp only [StableHlo.launchContents_devRef, h0, h1, h2, h3, h4, h5, h10, h11]
    exact (Cert.InprojLastIdeal.InprojLast.result23_eq m c).symm
  · refine (Cert.InprojLastRefIdeal.Read.val_main_v168_eq (F := Ideal) _).trans ?_
    simp only [StableHlo.launchContents_devRef, h0, h1, h2, h3, h4, h5]
    exact (Cert.InprojLastIdeal.InprojLast.result24_eq m c).symm
  · refine (Cert.InprojLastRefIdeal.Read.val_main_v169_eq (F := Ideal) _).trans ?_
    simp only [StableHlo.launchContents_devRef, h0, h1, h2, h3, h4, h5]
    exact (Cert.InprojLastIdeal.InprojLast.result25_eq m c).symm

theorem claim : Cert.Claim :=
  ⟨Cert.Kernel.Gen.facts, Cert.KernelIdeal.Gen.facts, Cert.ReferenceIdeal.Gen.facts, Cert.Merge.Gen.facts, Cert.MergeIdeal.Gen.facts,
    Cert.MergeRefIdeal.Gen.facts, Cert.First.Gen.facts, Cert.FirstIdeal.Gen.facts, Cert.FirstRefIdeal.Gen.facts,
    Cert.Inproj.Gen.facts, Cert.InprojIdeal.Gen.facts, Cert.InprojRefIdeal.Gen.facts,
    Cert.InprojLast.Gen.facts, Cert.InprojLastIdeal.Gen.facts, Cert.InprojLastRefIdeal.Gen.facts, Cert.Pre_finite.Gen.facts,
    fun m ρ _ => Cert.Kernel.Gen.frame m ρ,
    fun m ρ _ => Cert.KernelIdeal.Gen.frame m ρ,
    fun m ρ _ => Cert.KernelIdeal.Gen.frame m ρ,
    ref_frame,
    fun m ρ _ => ref_frame m ρ trivial,
    fun m ρ _ => Cert.Merge.Gen.frame m ρ,
    fun m ρ _ => Cert.MergeIdeal.Gen.frame m ρ,
    merge_ref_frame,
    fun m ρ _ => Cert.First.Gen.frame m ρ,
    fun m ρ _ => Cert.FirstIdeal.Gen.frame m ρ,
    first_ref_frame,
    fun m ρ _ => Cert.Inproj.Gen.frame m ρ,
    fun m ρ _ => Cert.InprojIdeal.Gen.frame m ρ,
    inproj_ref_frame,
    fun m ρ _ => Cert.InprojLast.Gen.frame m ρ,
    fun m ρ _ => Cert.InprojLastIdeal.Gen.frame m ρ,
    inproj_last_ref_frame,
    trivial,
    value,
    trivial,
    merge_value,
    trivial,
    first_value,
    trivial,
    inproj_value,
    trivial,
    inproj_last_value⟩

end Cert.Proof

end
